-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_DactKernel (m : (ℓ : Loc Cert.DactKernel.nD Cert.DactKernel.τ Cert.DactKernel.sig) → Buf (Elt Bits) ℓ) : Prop :=
  True

def Pre_DactKernelIdeal (m : (ℓ : Loc Cert.DactKernelIdeal.nD Cert.DactKernelIdeal.τ Cert.DactKernelIdeal.sig) → Buf (Elt Ideal) ℓ) : Prop :=
  True

def Pre_DactKernelIdeal_finite_dact [hPre_finite_dact : Cert.Pre_finite_dact.Facts] (m : (ℓ : Loc Cert.DactKernelIdeal.nD Cert.DactKernelIdeal.τ Cert.DactKernelIdeal.sig) → Buf (Elt Ideal) ℓ) : Prop :=
  ∀ c : Dev Cert.DactKernelIdeal.nD,
    (Cert.Pre_finite_dact.fn (F := Ideal) (m ((c.tc : Thread Cert.DactKernelIdeal.nD Cert.DactKernelIdeal.τ).loc Cert.DactKernelIdeal.main_arg0)) (m ((c.tc : Thread Cert.DactKernelIdeal.nD Cert.DactKernelIdeal.τ).loc Cert.DactKernelIdeal.main_arg1)) (m ((c.tc : Thread Cert.DactKernelIdeal.nD Cert.DactKernelIdeal.τ).loc Cert.DactKernelIdeal.main_arg2)) (m ((c.tc : Thread Cert.DactKernelIdeal.nD Cert.DactKernelIdeal.τ).loc Cert.DactKernelIdeal.main_arg3))) = (fun _ => 1#1)

def Pre_DactReferenceIdeal (m : (ℓ : Loc Cert.DactReferenceIdeal.nD Cert.DactReferenceIdeal.τ Cert.DactReferenceIdeal.sig) → Buf (Elt Ideal) ℓ) : Prop :=
  True

def Pre_DactReferenceIdeal_finite_dact [hPre_finite_dact : Cert.Pre_finite_dact.Facts] (m : (ℓ : Loc Cert.DactReferenceIdeal.nD Cert.DactReferenceIdeal.τ Cert.DactReferenceIdeal.sig) → Buf (Elt Ideal) ℓ) : Prop :=
  ∀ c : Dev Cert.DactReferenceIdeal.nD,
    (Cert.Pre_finite_dact.fn (F := Ideal) (m ((c.tc : Thread Cert.DactReferenceIdeal.nD Cert.DactReferenceIdeal.τ).loc Cert.DactReferenceIdeal.main_arg0)) (m ((c.tc : Thread Cert.DactReferenceIdeal.nD Cert.DactReferenceIdeal.τ).loc Cert.DactReferenceIdeal.main_arg1)) (m ((c.tc : Thread Cert.DactReferenceIdeal.nD Cert.DactReferenceIdeal.τ).loc Cert.DactReferenceIdeal.main_arg2)) (m ((c.tc : Thread Cert.DactReferenceIdeal.nD Cert.DactReferenceIdeal.τ).loc Cert.DactReferenceIdeal.main_arg3))) = (fun _ => 1#1)

def Pre_DnKernel (m : (ℓ : Loc Cert.DnKernel.nD Cert.DnKernel.τ Cert.DnKernel.sig) → Buf (Elt Bits) ℓ) : Prop :=
  True

def Pre_DnKernelIdeal (m : (ℓ : Loc Cert.DnKernelIdeal.nD Cert.DnKernelIdeal.τ Cert.DnKernelIdeal.sig) → Buf (Elt Ideal) ℓ) : Prop :=
  True

def Pre_DnReferenceIdeal (m : (ℓ : Loc Cert.DnReferenceIdeal.nD Cert.DnReferenceIdeal.τ Cert.DnReferenceIdeal.sig) → Buf (Elt Ideal) ℓ) : Prop :=
  True

def Pre_DwiKernel (m : (ℓ : Loc Cert.DwiKernel.nD Cert.DwiKernel.τ Cert.DwiKernel.sig) → Buf (Elt Bits) ℓ) : Prop :=
  True

def Pre_DwiKernelIdeal (m : (ℓ : Loc Cert.DwiKernelIdeal.nD Cert.DwiKernelIdeal.τ Cert.DwiKernelIdeal.sig) → Buf (Elt Ideal) ℓ) : Prop :=
  True

def Pre_DwiReferenceIdeal (m : (ℓ : Loc Cert.DwiReferenceIdeal.nD Cert.DwiReferenceIdeal.τ Cert.DwiReferenceIdeal.sig) → Buf (Elt Ideal) ℓ) : Prop :=
  True

def Pre_DwoKernel (m : (ℓ : Loc Cert.DwoKernel.nD Cert.DwoKernel.τ Cert.DwoKernel.sig) → Buf (Elt Bits) ℓ) : Prop :=
  True

def Pre_DwoKernelIdeal (m : (ℓ : Loc Cert.DwoKernelIdeal.nD Cert.DwoKernelIdeal.τ Cert.DwoKernelIdeal.sig) → Buf (Elt Ideal) ℓ) : Prop :=
  True

def Pre_DwoReferenceIdeal (m : (ℓ : Loc Cert.DwoReferenceIdeal.nD Cert.DwoReferenceIdeal.τ Cert.DwoReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_PrkvKernel (m : (ℓ : Loc Cert.PrkvKernel.nD Cert.PrkvKernel.τ Cert.PrkvKernel.sig) → Buf (Elt Bits) ℓ) : Prop :=
  True

def Pre_PrkvKernelIdeal (m : (ℓ : Loc Cert.PrkvKernelIdeal.nD Cert.PrkvKernelIdeal.τ Cert.PrkvKernelIdeal.sig) → Buf (Elt Ideal) ℓ) : Prop :=
  True

def Pre_PrkvReferenceIdeal (m : (ℓ : Loc Cert.PrkvReferenceIdeal.nD Cert.PrkvReferenceIdeal.τ Cert.PrkvReferenceIdeal.sig) → Buf (Elt Ideal) ℓ) : Prop :=
  True

def Pre_DhrkvKernel (m : (ℓ : Loc Cert.DhrkvKernel.nD Cert.DhrkvKernel.τ Cert.DhrkvKernel.sig) → Buf (Elt Bits) ℓ) : Prop :=
  True

def Pre_DhrkvKernelIdeal (m : (ℓ : Loc Cert.DhrkvKernelIdeal.nD Cert.DhrkvKernelIdeal.τ Cert.DhrkvKernelIdeal.sig) → Buf (Elt Ideal) ℓ) : Prop :=
  True

def Pre_DhrkvReferenceIdeal (m : (ℓ : Loc Cert.DhrkvReferenceIdeal.nD Cert.DhrkvReferenceIdeal.τ Cert.DhrkvReferenceIdeal.sig) → Buf (Elt Ideal) ℓ) : Prop :=
  True

def Pre_DwrkvKernel (m : (ℓ : Loc Cert.DwrkvKernel.nD Cert.DwrkvKernel.τ Cert.DwrkvKernel.sig) → Buf (Elt Bits) ℓ) : Prop :=
  True

def Pre_DwrkvKernelIdeal (m : (ℓ : Loc Cert.DwrkvKernelIdeal.nD Cert.DwrkvKernelIdeal.τ Cert.DwrkvKernelIdeal.sig) → Buf (Elt Ideal) ℓ) : Prop :=
  True

def Pre_DwrkvReferenceIdeal (m : (ℓ : Loc Cert.DwrkvReferenceIdeal.nD Cert.DwrkvReferenceIdeal.τ Cert.DwrkvReferenceIdeal.sig) → Buf (Elt Ideal) ℓ) : Prop :=
  True

def Pre_PgateKernel (m : (ℓ : Loc Cert.PgateKernel.nD Cert.PgateKernel.τ Cert.PgateKernel.sig) → Buf (Elt Bits) ℓ) : Prop :=
  True

def Pre_PgateKernelIdeal (m : (ℓ : Loc Cert.PgateKernelIdeal.nD Cert.PgateKernelIdeal.τ Cert.PgateKernelIdeal.sig) → Buf (Elt Ideal) ℓ) : Prop :=
  True

def Pre_PgateReferenceIdeal (m : (ℓ : Loc Cert.PgateReferenceIdeal.nD Cert.PgateReferenceIdeal.τ Cert.PgateReferenceIdeal.sig) → Buf (Elt Ideal) ℓ) : Prop :=
  True

def Pre_DhgateKernel (m : (ℓ : Loc Cert.DhgateKernel.nD Cert.DhgateKernel.τ Cert.DhgateKernel.sig) → Buf (Elt Bits) ℓ) : Prop :=
  True

def Pre_DhgateKernelIdeal (m : (ℓ : Loc Cert.DhgateKernelIdeal.nD Cert.DhgateKernelIdeal.τ Cert.DhgateKernelIdeal.sig) → Buf (Elt Ideal) ℓ) : Prop :=
  True

def Pre_DhgateReferenceIdeal (m : (ℓ : Loc Cert.DhgateReferenceIdeal.nD Cert.DhgateReferenceIdeal.τ Cert.DhgateReferenceIdeal.sig) → Buf (Elt Ideal) ℓ) : Prop :=
  True

def Pre_DwgateKernel (m : (ℓ : Loc Cert.DwgateKernel.nD Cert.DwgateKernel.τ Cert.DwgateKernel.sig) → Buf (Elt Bits) ℓ) : Prop :=
  True

def Pre_DwgateKernelIdeal (m : (ℓ : Loc Cert.DwgateKernelIdeal.nD Cert.DwgateKernelIdeal.τ Cert.DwgateKernelIdeal.sig) → Buf (Elt Ideal) ℓ) : Prop :=
  True

def Pre_DwgateReferenceIdeal (m : (ℓ : Loc Cert.DwgateReferenceIdeal.nD Cert.DwgateReferenceIdeal.τ Cert.DwgateReferenceIdeal.sig) → Buf (Elt Ideal) ℓ) : Prop :=
  True

def Pre_PqkvKernel (m : (ℓ : Loc Cert.PqkvKernel.nD Cert.PqkvKernel.τ Cert.PqkvKernel.sig) → Buf (Elt Bits) ℓ) : Prop :=
  True

def Pre_PqkvKernelIdeal (m : (ℓ : Loc Cert.PqkvKernelIdeal.nD Cert.PqkvKernelIdeal.τ Cert.PqkvKernelIdeal.sig) → Buf (Elt Ideal) ℓ) : Prop :=
  True

def Pre_PqkvReferenceIdeal (m : (ℓ : Loc Cert.PqkvReferenceIdeal.nD Cert.PqkvReferenceIdeal.τ Cert.PqkvReferenceIdeal.sig) → Buf (Elt Ideal) ℓ) : Prop :=
  True

def Pre_DwqkvKernel (m : (ℓ : Loc Cert.DwqkvKernel.nD Cert.DwqkvKernel.τ Cert.DwqkvKernel.sig) → Buf (Elt Bits) ℓ) : Prop :=
  True

def Pre_DwqkvKernelIdeal (m : (ℓ : Loc Cert.DwqkvKernelIdeal.nD Cert.DwqkvKernelIdeal.τ Cert.DwqkvKernelIdeal.sig) → Buf (Elt Ideal) ℓ) : Prop :=
  True

def Pre_DwqkvReferenceIdeal (m : (ℓ : Loc Cert.DwqkvReferenceIdeal.nD Cert.DwqkvReferenceIdeal.τ Cert.DwqkvReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_ProjaKernel (m : (ℓ : Loc Cert.ProjaKernel.nD Cert.ProjaKernel.τ Cert.ProjaKernel.sig) → Buf (Elt Bits) ℓ) : Prop :=
  True

def Pre_ProjaKernelIdeal (m : (ℓ : Loc Cert.ProjaKernelIdeal.nD Cert.ProjaKernelIdeal.τ Cert.ProjaKernelIdeal.sig) → Buf (Elt Ideal) ℓ) : Prop :=
  True

def Pre_ProjaReferenceIdeal (m : (ℓ : Loc Cert.ProjaReferenceIdeal.nD Cert.ProjaReferenceIdeal.τ Cert.ProjaReferenceIdeal.sig) → Buf (Elt Ideal) ℓ) : Prop :=
  True

def Pre_DyaKernel (m : (ℓ : Loc Cert.DyaKernel.nD Cert.DyaKernel.τ Cert.DyaKernel.sig) → Buf (Elt Bits) ℓ) : Prop :=
  True

def Pre_DyaKernelIdeal (m : (ℓ : Loc Cert.DyaKernelIdeal.nD Cert.DyaKernelIdeal.τ Cert.DyaKernelIdeal.sig) → Buf (Elt Ideal) ℓ) : Prop :=
  True

def Pre_DyaReferenceIdeal (m : (ℓ : Loc Cert.DyaReferenceIdeal.nD Cert.DyaReferenceIdeal.τ Cert.DyaReferenceIdeal.sig) → Buf (Elt Ideal) ℓ) : Prop :=
  True

def Pre_DwprKernel (m : (ℓ : Loc Cert.DwprKernel.nD Cert.DwprKernel.τ Cert.DwprKernel.sig) → Buf (Elt Bits) ℓ) : Prop :=
  True

def Pre_DwprKernelIdeal (m : (ℓ : Loc Cert.DwprKernelIdeal.nD Cert.DwprKernelIdeal.τ Cert.DwprKernelIdeal.sig) → Buf (Elt Ideal) ℓ) : Prop :=
  True

def Pre_DwprReferenceIdeal (m : (ℓ : Loc Cert.DwprReferenceIdeal.nD Cert.DwprReferenceIdeal.τ Cert.DwprReferenceIdeal.sig) → Buf (Elt Ideal) ℓ) : Prop :=
  True

def Pre_MixoutKernel (m : (ℓ : Loc Cert.MixoutKernel.nD Cert.MixoutKernel.τ Cert.MixoutKernel.sig) → Buf (Elt Bits) ℓ) : Prop :=
  True

def Pre_MixoutKernelIdeal (m : (ℓ : Loc Cert.MixoutKernelIdeal.nD Cert.MixoutKernelIdeal.τ Cert.MixoutKernelIdeal.sig) → Buf (Elt Ideal) ℓ) : Prop :=
  True

def Pre_MixoutReferenceIdeal (m : (ℓ : Loc Cert.MixoutReferenceIdeal.nD Cert.MixoutReferenceIdeal.τ Cert.MixoutReferenceIdeal.sig) → Buf (Elt Ideal) ℓ) : Prop :=
  True

def Pre_PloraKernel (m : (ℓ : Loc Cert.PloraKernel.nD Cert.PloraKernel.τ Cert.PloraKernel.sig) → Buf (Elt Bits) ℓ) : Prop :=
  True

def Pre_PloraKernelIdeal (m : (ℓ : Loc Cert.PloraKernelIdeal.nD Cert.PloraKernelIdeal.τ Cert.PloraKernelIdeal.sig) → Buf (Elt Ideal) ℓ) : Prop :=
  True

def Pre_PloraReferenceIdeal (m : (ℓ : Loc Cert.PloraReferenceIdeal.nD Cert.PloraReferenceIdeal.τ Cert.PloraReferenceIdeal.sig) → Buf (Elt Ideal) ℓ) : Prop :=
  True

def Pre_DhloraKernel (m : (ℓ : Loc Cert.DhloraKernel.nD Cert.DhloraKernel.τ Cert.DhloraKernel.sig) → Buf (Elt Bits) ℓ) : Prop :=
  True

def Pre_DhloraKernelIdeal (m : (ℓ : Loc Cert.DhloraKernelIdeal.nD Cert.DhloraKernelIdeal.τ Cert.DhloraKernelIdeal.sig) → Buf (Elt Ideal) ℓ) : Prop :=
  True

def Pre_DhloraReferenceIdeal (m : (ℓ : Loc Cert.DhloraReferenceIdeal.nD Cert.DhloraReferenceIdeal.τ Cert.DhloraReferenceIdeal.sig) → Buf (Elt Ideal) ℓ) : Prop :=
  True

def Pre_DwloraKernel (m : (ℓ : Loc Cert.DwloraKernel.nD Cert.DwloraKernel.τ Cert.DwloraKernel.sig) → Buf (Elt Bits) ℓ) : Prop :=
  True

def Pre_DwloraKernelIdeal (m : (ℓ : Loc Cert.DwloraKernelIdeal.nD Cert.DwloraKernelIdeal.τ Cert.DwloraKernelIdeal.sig) → Buf (Elt Ideal) ℓ) : Prop :=
  True

def Pre_DwloraReferenceIdeal (m : (ℓ : Loc Cert.DwloraReferenceIdeal.nD Cert.DwloraReferenceIdeal.τ Cert.DwloraReferenceIdeal.sig) → Buf (Elt Ideal) ℓ) : Prop :=
  True

def Pre_DwpaKernel (m : (ℓ : Loc Cert.DwpaKernel.nD Cert.DwpaKernel.τ Cert.DwpaKernel.sig) → Buf (Elt Bits) ℓ) : Prop :=
  True

def Pre_DwpaKernelIdeal (m : (ℓ : Loc Cert.DwpaKernelIdeal.nD Cert.DwpaKernelIdeal.τ Cert.DwpaKernelIdeal.sig) → Buf (Elt Ideal) ℓ) : Prop :=
  True

def Pre_DwpaReferenceIdeal (m : (ℓ : Loc Cert.DwpaReferenceIdeal.nD Cert.DwpaReferenceIdeal.τ Cert.DwpaReferenceIdeal.sig) → Buf (Elt Ideal) ℓ) : Prop :=
  True

def Pre_ProjbKernel (m : (ℓ : Loc Cert.ProjbKernel.nD Cert.ProjbKernel.τ Cert.ProjbKernel.sig) → Buf (Elt Bits) ℓ) : Prop :=
  True

def Pre_ProjbKernelIdeal (m : (ℓ : Loc Cert.ProjbKernelIdeal.nD Cert.ProjbKernelIdeal.τ Cert.ProjbKernelIdeal.sig) → Buf (Elt Ideal) ℓ) : Prop :=
  True

def Pre_ProjbReferenceIdeal (m : (ℓ : Loc Cert.ProjbReferenceIdeal.nD Cert.ProjbReferenceIdeal.τ Cert.ProjbReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DactKernel [hDactKernel : Cert.DactKernel.Facts] : Prop :=
  ∀ (m : (ℓ : Loc Cert.DactKernel.nD Cert.DactKernel.τ Cert.DactKernel.sig) → Buf (Elt Bits) ℓ) (g : Dev Cert.DactKernel.nD → PrngReg), Pre_DactKernel m →
    θ_run (Cert.DactKernel.defs (F := Bits)) (onTc (τ := Cert.DactKernel.τ) (Cert.DactKernel.main (F := Bits))) ⟨m, fun _ => 0, g⟩ (fun r => (∀ c : Dev Cert.DactKernel.nD,
      r.2.mem ((c.tc : Thread Cert.DactKernel.nD Cert.DactKernel.τ).loc Cert.DactKernel.main_arg0) = m ((c.tc : Thread Cert.DactKernel.nD Cert.DactKernel.τ).loc Cert.DactKernel.main_arg0)
      ∧ r.2.mem ((c.tc : Thread Cert.DactKernel.nD Cert.DactKernel.τ).loc Cert.DactKernel.main_arg1) = m ((c.tc : Thread Cert.DactKernel.nD Cert.DactKernel.τ).loc Cert.DactKernel.main_arg1)
      ∧ r.2.mem ((c.tc : Thread Cert.DactKernel.nD Cert.DactKernel.τ).loc Cert.DactKernel.main_arg2) = m ((c.tc : Thread Cert.DactKernel.nD Cert.DactKernel.τ).loc Cert.DactKernel.main_arg2)
      ∧ r.2.mem ((c.tc : Thread Cert.DactKernel.nD Cert.DactKernel.τ).loc Cert.DactKernel.main_arg3) = m ((c.tc : Thread Cert.DactKernel.nD Cert.DactKernel.τ).loc Cert.DactKernel.main_arg3))
      ∧ r.2.sem = fun _ => 0)

def quiescent_DactKernelIdeal [hDactKernelIdeal : Cert.DactKernelIdeal.Facts] : Prop :=
  ∀ (m : (ℓ : Loc Cert.DactKernelIdeal.nD Cert.DactKernelIdeal.τ Cert.DactKernelIdeal.sig) → Buf (Elt Ideal) ℓ) (g : Dev Cert.DactKernelIdeal.nD → PrngReg), Pre_DactKernelIdeal m →
    θ_run (Cert.DactKernelIdeal.defs (F := Ideal)) (onTc (τ := Cert.DactKernelIdeal.τ) (Cert.DactKernelIdeal.main (F := Ideal))) ⟨m, fun _ => 0, g⟩ (fun r => (∀ c : Dev Cert.DactKernelIdeal.nD,
      r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
      ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1)
      ∧ r.2.mem ((c.tc : Thread Cert.DactKernelIdeal.nD Cert.DactKernelIdeal.τ).loc Cert.DactKernelIdeal.main_arg2) = m ((c.tc : Thread Cert.DactKernelIdeal.nD Cert.DactKernelIdeal.τ).loc Cert.DactKernelIdeal.main_arg2)
      ∧ r.2.mem ((c.tc : Thread Cert.DactKernelIdeal.nD Cert.DactKernelIdeal.τ).loc Cert.DactKernelIdeal.main_arg3) = m ((c.tc : Thread Cert.DactKernelIdeal.nD Cert.DactKernelIdeal.τ).loc Cert.DactKernelIdeal.main_arg3))
      ∧ r.2.sem = fun _ => 0)

def quiescent_DactKernelIdeal_pre_finite_dact [hDactKernelIdeal : Cert.DactKernelIdeal.Facts] [hPre_finite_dact : Cert.Pre_finite_dact.Facts] : Prop :=
  ∀ (m : (ℓ : Loc Cert.DactKernelIdeal.nD Cert.DactKernelIdeal.τ Cert.DactKernelIdeal.sig) → Buf (Elt Ideal) ℓ) (g : Dev Cert.DactKernelIdeal.nD → PrngReg), Pre_DactKernelIdeal_finite_dact m →
    θ_run (Cert.DactKernelIdeal.defs (F := Ideal)) (onTc (τ := Cert.DactKernelIdeal.τ) (Cert.DactKernelIdeal.main (F := Ideal))) ⟨m, fun _ => 0, g⟩ (fun r => (∀ c : Dev Cert.DactKernelIdeal.nD,
      r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
      ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1)
      ∧ r.2.mem ((c.tc : Thread Cert.DactKernelIdeal.nD Cert.DactKernelIdeal.τ).loc Cert.DactKernelIdeal.main_arg2) = m ((c.tc : Thread Cert.DactKernelIdeal.nD Cert.DactKernelIdeal.τ).loc Cert.DactKernelIdeal.main_arg2)
      ∧ r.2.mem ((c.tc : Thread Cert.DactKernelIdeal.nD Cert.DactKernelIdeal.τ).loc Cert.DactKernelIdeal.main_arg3) = m ((c.tc : Thread Cert.DactKernelIdeal.nD Cert.DactKernelIdeal.τ).loc Cert.DactKernelIdeal.main_arg3))
      ∧ r.2.sem = fun _ => 0)

def quiescent_DactReferenceIdeal [hDactReferenceIdeal : Cert.DactReferenceIdeal.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1)
      ∧ r.2.mem ((c.tc : Thread Cert.DactReferenceIdeal.nD Cert.DactReferenceIdeal.τ).loc Cert.DactReferenceIdeal.main_arg2) = m ((c.tc : Thread Cert.DactReferenceIdeal.nD Cert.DactReferenceIdeal.τ).loc Cert.DactReferenceIdeal.main_arg2)
      ∧ r.2.mem ((c.tc : Thread Cert.DactReferenceIdeal.nD Cert.DactReferenceIdeal.τ).loc Cert.DactReferenceIdeal.main_arg3) = m ((c.tc : Thread Cert.DactReferenceIdeal.nD Cert.DactReferenceIdeal.τ).loc Cert.DactReferenceIdeal.main_arg3))
      ∧ r.2.sem = fun _ => 0)

def quiescent_DactReferenceIdeal_pre_finite_dact [hDactReferenceIdeal : Cert.DactReferenceIdeal.Facts] [hPre_finite_dact : Cert.Pre_finite_dact.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal_finite_dact m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1)
      ∧ r.2.mem ((c.tc : Thread Cert.DactReferenceIdeal.nD Cert.DactReferenceIdeal.τ).loc Cert.DactReferenceIdeal.main_arg2) = m ((c.tc : Thread Cert.DactReferenceIdeal.nD Cert.DactReferenceIdeal.τ).loc Cert.DactReferenceIdeal.main_arg2)
      ∧ r.2.mem ((c.tc : Thread Cert.DactReferenceIdeal.nD Cert.DactReferenceIdeal.τ).loc Cert.DactReferenceIdeal.main_arg3) = m ((c.tc : Thread Cert.DactReferenceIdeal.nD Cert.DactReferenceIdeal.τ).loc Cert.DactReferenceIdeal.main_arg3))
      ∧ r.2.sem = fun _ => 0)

def quiescent_DnKernel [hDnKernel : Cert.DnKernel.Facts] : Prop :=
  ∀ (m : (ℓ : Loc Cert.DnKernel.nD Cert.DnKernel.τ Cert.DnKernel.sig) → Buf (Elt Bits) ℓ) (g : Dev Cert.DnKernel.nD → PrngReg), Pre_DnKernel m →
    θ_run (Cert.DnKernel.defs (F := Bits)) (onTc (τ := Cert.DnKernel.τ) (Cert.DnKernel.main (F := Bits))) ⟨m, fun _ => 0, g⟩ (fun r => (∀ c : Dev Cert.DnKernel.nD,
      r.2.mem ((c.tc : Thread Cert.DnKernel.nD Cert.DnKernel.τ).loc Cert.DnKernel.main_arg0) = m ((c.tc : Thread Cert.DnKernel.nD Cert.DnKernel.τ).loc Cert.DnKernel.main_arg0)
      ∧ r.2.mem ((c.tc : Thread Cert.DnKernel.nD Cert.DnKernel.τ).loc Cert.DnKernel.main_arg1) = m ((c.tc : Thread Cert.DnKernel.nD Cert.DnKernel.τ).loc Cert.DnKernel.main_arg1)
      ∧ r.2.mem ((c.tc : Thread Cert.DnKernel.nD Cert.DnKernel.τ).loc Cert.DnKernel.main_arg2) = m ((c.tc : Thread Cert.DnKernel.nD Cert.DnKernel.τ).loc Cert.DnKernel.main_arg2)
      ∧ r.2.mem ((c.tc : Thread Cert.DnKernel.nD Cert.DnKernel.τ).loc Cert.DnKernel.main_arg3) = m ((c.tc : Thread Cert.DnKernel.nD Cert.DnKernel.τ).loc Cert.DnKernel.main_arg3)
      ∧ r.2.mem ((c.tc : Thread Cert.DnKernel.nD Cert.DnKernel.τ).loc Cert.DnKernel.main_arg4) = m ((c.tc : Thread Cert.DnKernel.nD Cert.DnKernel.τ).loc Cert.DnKernel.main_arg4))
      ∧ r.2.sem = fun _ => 0)

def quiescent_DnKernelIdeal [hDnKernelIdeal : Cert.DnKernelIdeal.Facts] : Prop :=
  ∀ (m : (ℓ : Loc Cert.DnKernelIdeal.nD Cert.DnKernelIdeal.τ Cert.DnKernelIdeal.sig) → Buf (Elt Ideal) ℓ) (g : Dev Cert.DnKernelIdeal.nD → PrngReg), Pre_DnKernelIdeal m →
    θ_run (Cert.DnKernelIdeal.defs (F := Ideal)) (onTc (τ := Cert.DnKernelIdeal.τ) (Cert.DnKernelIdeal.main (F := Ideal))) ⟨m, fun _ => 0, g⟩ (fun r => (∀ c : Dev Cert.DnKernelIdeal.nD,
      r.2.mem ((c.tc : Thread Cert.DnKernelIdeal.nD Cert.DnKernelIdeal.τ).loc Cert.DnKernelIdeal.main_arg0) = m ((c.tc : Thread Cert.DnKernelIdeal.nD Cert.DnKernelIdeal.τ).loc Cert.DnKernelIdeal.main_arg0)
      ∧ r.2.mem ((c.tc : Thread Cert.DnKernelIdeal.nD Cert.DnKernelIdeal.τ).loc Cert.DnKernelIdeal.main_arg1) = m ((c.tc : Thread Cert.DnKernelIdeal.nD Cert.DnKernelIdeal.τ).loc Cert.DnKernelIdeal.main_arg1)
      ∧ r.2.mem ((c.tc : Thread Cert.DnKernelIdeal.nD Cert.DnKernelIdeal.τ).loc Cert.DnKernelIdeal.main_arg2) = m ((c.tc : Thread Cert.DnKernelIdeal.nD Cert.DnKernelIdeal.τ).loc Cert.DnKernelIdeal.main_arg2)
      ∧ r.2.mem ((c.tc : Thread Cert.DnKernelIdeal.nD Cert.DnKernelIdeal.τ).loc Cert.DnKernelIdeal.main_arg3) = m ((c.tc : Thread Cert.DnKernelIdeal.nD Cert.DnKernelIdeal.τ).loc Cert.DnKernelIdeal.main_arg3)
      ∧ r.2.mem ((c.tc : Thread Cert.DnKernelIdeal.nD Cert.DnKernelIdeal.τ).loc Cert.DnKernelIdeal.main_arg4) = m ((c.tc : Thread Cert.DnKernelIdeal.nD Cert.DnKernelIdeal.τ).loc Cert.DnKernelIdeal.main_arg4))
      ∧ r.2.sem = fun _ => 0)

def quiescent_DnReferenceIdeal [hDnReferenceIdeal : Cert.DnReferenceIdeal.Facts] : Prop :=
  ∀ (m : (ℓ : Loc Cert.DnReferenceIdeal.nD Cert.DnReferenceIdeal.τ Cert.DnReferenceIdeal.sig) → Buf (Elt Ideal) ℓ) (g : Dev Cert.DnReferenceIdeal.nD → PrngReg), Pre_DnReferenceIdeal m →
    θ_run (Cert.DnReferenceIdeal.defs (F := Ideal)) (onTc (τ := Cert.DnReferenceIdeal.τ) (Cert.DnReferenceIdeal.main (F := Ideal))) ⟨m, fun _ => 0, g⟩ (fun r => (∀ c : Dev Cert.DnReferenceIdeal.nD,
      r.2.mem ((c.tc : Thread Cert.DnReferenceIdeal.nD Cert.DnReferenceIdeal.τ).loc Cert.DnReferenceIdeal.main_arg0) = m ((c.tc : Thread Cert.DnReferenceIdeal.nD Cert.DnReferenceIdeal.τ).loc Cert.DnReferenceIdeal.main_arg0)
      ∧ r.2.mem ((c.tc : Thread Cert.DnReferenceIdeal.nD Cert.DnReferenceIdeal.τ).loc Cert.DnReferenceIdeal.main_arg1) = m ((c.tc : Thread Cert.DnReferenceIdeal.nD Cert.DnReferenceIdeal.τ).loc Cert.DnReferenceIdeal.main_arg1)
      ∧ r.2.mem ((c.tc : Thread Cert.DnReferenceIdeal.nD Cert.DnReferenceIdeal.τ).loc Cert.DnReferenceIdeal.main_arg2) = m ((c.tc : Thread Cert.DnReferenceIdeal.nD Cert.DnReferenceIdeal.τ).loc Cert.DnReferenceIdeal.main_arg2)
      ∧ r.2.mem ((c.tc : Thread Cert.DnReferenceIdeal.nD Cert.DnReferenceIdeal.τ).loc Cert.DnReferenceIdeal.main_arg3) = m ((c.tc : Thread Cert.DnReferenceIdeal.nD Cert.DnReferenceIdeal.τ).loc Cert.DnReferenceIdeal.main_arg3)
      ∧ r.2.mem ((c.tc : Thread Cert.DnReferenceIdeal.nD Cert.DnReferenceIdeal.τ).loc Cert.DnReferenceIdeal.main_arg4) = m ((c.tc : Thread Cert.DnReferenceIdeal.nD Cert.DnReferenceIdeal.τ).loc Cert.DnReferenceIdeal.main_arg4))
      ∧ r.2.sem = fun _ => 0)

def quiescent_DwiKernel [hDwiKernel : Cert.DwiKernel.Facts] : Prop :=
  ∀ (m : (ℓ : Loc Cert.DwiKernel.nD Cert.DwiKernel.τ Cert.DwiKernel.sig) → Buf (Elt Bits) ℓ) (g : Dev Cert.DwiKernel.nD → PrngReg), Pre_DwiKernel m →
    θ_run (Cert.DwiKernel.defs (F := Bits)) (onTc (τ := Cert.DwiKernel.τ) (Cert.DwiKernel.main (F := Bits))) ⟨m, fun _ => 0, g⟩ (fun r => (∀ c : Dev Cert.DwiKernel.nD,
      r.2.mem ((c.tc : Thread Cert.DwiKernel.nD Cert.DwiKernel.τ).loc Cert.DwiKernel.main_arg0) = m ((c.tc : Thread Cert.DwiKernel.nD Cert.DwiKernel.τ).loc Cert.DwiKernel.main_arg0)
      ∧ r.2.mem ((c.tc : Thread Cert.DwiKernel.nD Cert.DwiKernel.τ).loc Cert.DwiKernel.main_arg1) = m ((c.tc : Thread Cert.DwiKernel.nD Cert.DwiKernel.τ).loc Cert.DwiKernel.main_arg1)
      ∧ r.2.mem ((c.tc : Thread Cert.DwiKernel.nD Cert.DwiKernel.τ).loc Cert.DwiKernel.main_arg2) = m ((c.tc : Thread Cert.DwiKernel.nD Cert.DwiKernel.τ).loc Cert.DwiKernel.main_arg2))
      ∧ r.2.sem = fun _ => 0)

def quiescent_DwiKernelIdeal [hDwiKernelIdeal : Cert.DwiKernelIdeal.Facts] : Prop :=
  ∀ (m : (ℓ : Loc Cert.DwiKernelIdeal.nD Cert.DwiKernelIdeal.τ Cert.DwiKernelIdeal.sig) → Buf (Elt Ideal) ℓ) (g : Dev Cert.DwiKernelIdeal.nD → PrngReg), Pre_DwiKernelIdeal m →
    θ_run (Cert.DwiKernelIdeal.defs (F := Ideal)) (onTc (τ := Cert.DwiKernelIdeal.τ) (Cert.DwiKernelIdeal.main (F := Ideal))) ⟨m, fun _ => 0, g⟩ (fun r => (∀ c : Dev Cert.DwiKernelIdeal.nD,
      r.2.mem ((c.tc : Thread Cert.DwiKernelIdeal.nD Cert.DwiKernelIdeal.τ).loc Cert.DwiKernelIdeal.main_arg0) = m ((c.tc : Thread Cert.DwiKernelIdeal.nD Cert.DwiKernelIdeal.τ).loc Cert.DwiKernelIdeal.main_arg0)
      ∧ r.2.mem ((c.tc : Thread Cert.DwiKernelIdeal.nD Cert.DwiKernelIdeal.τ).loc Cert.DwiKernelIdeal.main_arg1) = m ((c.tc : Thread Cert.DwiKernelIdeal.nD Cert.DwiKernelIdeal.τ).loc Cert.DwiKernelIdeal.main_arg1)
      ∧ r.2.mem ((c.tc : Thread Cert.DwiKernelIdeal.nD Cert.DwiKernelIdeal.τ).loc Cert.DwiKernelIdeal.main_arg2) = m ((c.tc : Thread Cert.DwiKernelIdeal.nD Cert.DwiKernelIdeal.τ).loc Cert.DwiKernelIdeal.main_arg2))
      ∧ r.2.sem = fun _ => 0)

def quiescent_DwiReferenceIdeal [hDwiReferenceIdeal : Cert.DwiReferenceIdeal.Facts] : Prop :=
  ∀ (m : (ℓ : Loc Cert.DwiReferenceIdeal.nD Cert.DwiReferenceIdeal.τ Cert.DwiReferenceIdeal.sig) → Buf (Elt Ideal) ℓ) (g : Dev Cert.DwiReferenceIdeal.nD → PrngReg), Pre_DwiReferenceIdeal m →
    θ_run (Cert.DwiReferenceIdeal.defs (F := Ideal)) (onTc (τ := Cert.DwiReferenceIdeal.τ) (Cert.DwiReferenceIdeal.main (F := Ideal))) ⟨m, fun _ => 0, g⟩ (fun r => (∀ c : Dev Cert.DwiReferenceIdeal.nD,
      r.2.mem ((c.tc : Thread Cert.DwiReferenceIdeal.nD Cert.DwiReferenceIdeal.τ).loc Cert.DwiReferenceIdeal.main_arg0) = m ((c.tc : Thread Cert.DwiReferenceIdeal.nD Cert.DwiReferenceIdeal.τ).loc Cert.DwiReferenceIdeal.main_arg0)
      ∧ r.2.mem ((c.tc : Thread Cert.DwiReferenceIdeal.nD Cert.DwiReferenceIdeal.τ).loc Cert.DwiReferenceIdeal.main_arg1) = m ((c.tc : Thread Cert.DwiReferenceIdeal.nD Cert.DwiReferenceIdeal.τ).loc Cert.DwiReferenceIdeal.main_arg1)
      ∧ r.2.mem ((c.tc : Thread Cert.DwiReferenceIdeal.nD Cert.DwiReferenceIdeal.τ).loc Cert.DwiReferenceIdeal.main_arg2) = m ((c.tc : Thread Cert.DwiReferenceIdeal.nD Cert.DwiReferenceIdeal.τ).loc Cert.DwiReferenceIdeal.main_arg2))
      ∧ r.2.sem = fun _ => 0)

def quiescent_DwoKernel [hDwoKernel : Cert.DwoKernel.Facts] : Prop :=
  ∀ (m : (ℓ : Loc Cert.DwoKernel.nD Cert.DwoKernel.τ Cert.DwoKernel.sig) → Buf (Elt Bits) ℓ) (g : Dev Cert.DwoKernel.nD → PrngReg), Pre_DwoKernel m →
    θ_run (Cert.DwoKernel.defs (F := Bits)) (onTc (τ := Cert.DwoKernel.τ) (Cert.DwoKernel.main (F := Bits))) ⟨m, fun _ => 0, g⟩ (fun r => (∀ c : Dev Cert.DwoKernel.nD,
      r.2.mem ((c.tc : Thread Cert.DwoKernel.nD Cert.DwoKernel.τ).loc Cert.DwoKernel.main_arg0) = m ((c.tc : Thread Cert.DwoKernel.nD Cert.DwoKernel.τ).loc Cert.DwoKernel.main_arg0)
      ∧ r.2.mem ((c.tc : Thread Cert.DwoKernel.nD Cert.DwoKernel.τ).loc Cert.DwoKernel.main_arg1) = m ((c.tc : Thread Cert.DwoKernel.nD Cert.DwoKernel.τ).loc Cert.DwoKernel.main_arg1)
      ∧ r.2.mem ((c.tc : Thread Cert.DwoKernel.nD Cert.DwoKernel.τ).loc Cert.DwoKernel.main_arg2) = m ((c.tc : Thread Cert.DwoKernel.nD Cert.DwoKernel.τ).loc Cert.DwoKernel.main_arg2))
      ∧ r.2.sem = fun _ => 0)

def quiescent_DwoKernelIdeal [hDwoKernelIdeal : Cert.DwoKernelIdeal.Facts] : Prop :=
  ∀ (m : (ℓ : Loc Cert.DwoKernelIdeal.nD Cert.DwoKernelIdeal.τ Cert.DwoKernelIdeal.sig) → Buf (Elt Ideal) ℓ) (g : Dev Cert.DwoKernelIdeal.nD → PrngReg), Pre_DwoKernelIdeal m →
    θ_run (Cert.DwoKernelIdeal.defs (F := Ideal)) (onTc (τ := Cert.DwoKernelIdeal.τ) (Cert.DwoKernelIdeal.main (F := Ideal))) ⟨m, fun _ => 0, g⟩ (fun r => (∀ c : Dev Cert.DwoKernelIdeal.nD,
      r.2.mem ((c.tc : Thread Cert.DwoKernelIdeal.nD Cert.DwoKernelIdeal.τ).loc Cert.DwoKernelIdeal.main_arg0) = m ((c.tc : Thread Cert.DwoKernelIdeal.nD Cert.DwoKernelIdeal.τ).loc Cert.DwoKernelIdeal.main_arg0)
      ∧ r.2.mem ((c.tc : Thread Cert.DwoKernelIdeal.nD Cert.DwoKernelIdeal.τ).loc Cert.DwoKernelIdeal.main_arg1) = m ((c.tc : Thread Cert.DwoKernelIdeal.nD Cert.DwoKernelIdeal.τ).loc Cert.DwoKernelIdeal.main_arg1)
      ∧ r.2.mem ((c.tc : Thread Cert.DwoKernelIdeal.nD Cert.DwoKernelIdeal.τ).loc Cert.DwoKernelIdeal.main_arg2) = m ((c.tc : Thread Cert.DwoKernelIdeal.nD Cert.DwoKernelIdeal.τ).loc Cert.DwoKernelIdeal.main_arg2))
      ∧ r.2.sem = fun _ => 0)

def quiescent_DwoReferenceIdeal [hDwoReferenceIdeal : Cert.DwoReferenceIdeal.Facts] : Prop :=
  ∀ (m : (ℓ : Loc Cert.DwoReferenceIdeal.nD Cert.DwoReferenceIdeal.τ Cert.DwoReferenceIdeal.sig) → Buf (Elt Ideal) ℓ) (g : Dev Cert.DwoReferenceIdeal.nD → PrngReg), Pre_DwoReferenceIdeal m →
    θ_run (Cert.DwoReferenceIdeal.defs (F := Ideal)) (onTc (τ := Cert.DwoReferenceIdeal.τ) (Cert.DwoReferenceIdeal.main (F := Ideal))) ⟨m, fun _ => 0, g⟩ (fun r => (∀ c : Dev Cert.DwoReferenceIdeal.nD,
      r.2.mem ((c.tc : Thread Cert.DwoReferenceIdeal.nD Cert.DwoReferenceIdeal.τ).loc Cert.DwoReferenceIdeal.main_arg0) = m ((c.tc : Thread Cert.DwoReferenceIdeal.nD Cert.DwoReferenceIdeal.τ).loc Cert.DwoReferenceIdeal.main_arg0)
      ∧ r.2.mem ((c.tc : Thread Cert.DwoReferenceIdeal.nD Cert.DwoReferenceIdeal.τ).loc Cert.DwoReferenceIdeal.main_arg1) = m ((c.tc : Thread Cert.DwoReferenceIdeal.nD Cert.DwoReferenceIdeal.τ).loc Cert.DwoReferenceIdeal.main_arg1)
      ∧ r.2.mem ((c.tc : Thread Cert.DwoReferenceIdeal.nD Cert.DwoReferenceIdeal.τ).loc Cert.DwoReferenceIdeal.main_arg2) = m ((c.tc : Thread Cert.DwoReferenceIdeal.nD Cert.DwoReferenceIdeal.τ).loc Cert.DwoReferenceIdeal.main_arg2))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5))
      ∧ r.2.sem = fun _ => 0)

def quiescent_PrkvKernel [hPrkvKernel : Cert.PrkvKernel.Facts] : Prop :=
  ∀ (m : (ℓ : Loc Cert.PrkvKernel.nD Cert.PrkvKernel.τ Cert.PrkvKernel.sig) → Buf (Elt Bits) ℓ) (g : Dev Cert.PrkvKernel.nD → PrngReg), Pre_PrkvKernel m →
    θ_run (Cert.PrkvKernel.defs (F := Bits)) (onTc (τ := Cert.PrkvKernel.τ) (Cert.PrkvKernel.main (F := Bits))) ⟨m, fun _ => 0, g⟩ (fun r => (∀ c : Dev Cert.PrkvKernel.nD,
      r.2.mem ((c.tc : Thread Cert.PrkvKernel.nD Cert.PrkvKernel.τ).loc Cert.PrkvKernel.main_arg0) = m ((c.tc : Thread Cert.PrkvKernel.nD Cert.PrkvKernel.τ).loc Cert.PrkvKernel.main_arg0)
      ∧ r.2.mem ((c.tc : Thread Cert.PrkvKernel.nD Cert.PrkvKernel.τ).loc Cert.PrkvKernel.main_arg1) = m ((c.tc : Thread Cert.PrkvKernel.nD Cert.PrkvKernel.τ).loc Cert.PrkvKernel.main_arg1))
      ∧ r.2.sem = fun _ => 0)

def quiescent_PrkvKernelIdeal [hPrkvKernelIdeal : Cert.PrkvKernelIdeal.Facts] : Prop :=
  ∀ (m : (ℓ : Loc Cert.PrkvKernelIdeal.nD Cert.PrkvKernelIdeal.τ Cert.PrkvKernelIdeal.sig) → Buf (Elt Ideal) ℓ) (g : Dev Cert.PrkvKernelIdeal.nD → PrngReg), Pre_PrkvKernelIdeal m →
    θ_run (Cert.PrkvKernelIdeal.defs (F := Ideal)) (onTc (τ := Cert.PrkvKernelIdeal.τ) (Cert.PrkvKernelIdeal.main (F := Ideal))) ⟨m, fun _ => 0, g⟩ (fun r => (∀ c : Dev Cert.PrkvKernelIdeal.nD,
      r.2.mem ((c.tc : Thread Cert.PrkvKernelIdeal.nD Cert.PrkvKernelIdeal.τ).loc Cert.PrkvKernelIdeal.main_arg0) = m ((c.tc : Thread Cert.PrkvKernelIdeal.nD Cert.PrkvKernelIdeal.τ).loc Cert.PrkvKernelIdeal.main_arg0)
      ∧ r.2.mem ((c.tc : Thread Cert.PrkvKernelIdeal.nD Cert.PrkvKernelIdeal.τ).loc Cert.PrkvKernelIdeal.main_arg1) = m ((c.tc : Thread Cert.PrkvKernelIdeal.nD Cert.PrkvKernelIdeal.τ).loc Cert.PrkvKernelIdeal.main_arg1))
      ∧ r.2.sem = fun _ => 0)

def quiescent_PrkvReferenceIdeal [hPrkvReferenceIdeal : Cert.PrkvReferenceIdeal.Facts] : Prop :=
  ∀ (m : (ℓ : Loc Cert.PrkvReferenceIdeal.nD Cert.PrkvReferenceIdeal.τ Cert.PrkvReferenceIdeal.sig) → Buf (Elt Ideal) ℓ) (g : Dev Cert.PrkvReferenceIdeal.nD → PrngReg), Pre_PrkvReferenceIdeal m →
    θ_run (Cert.PrkvReferenceIdeal.defs (F := Ideal)) (onTc (τ := Cert.PrkvReferenceIdeal.τ) (Cert.PrkvReferenceIdeal.main (F := Ideal))) ⟨m, fun _ => 0, g⟩ (fun r => (∀ c : Dev Cert.PrkvReferenceIdeal.nD,
      r.2.mem ((c.tc : Thread Cert.PrkvReferenceIdeal.nD Cert.PrkvReferenceIdeal.τ).loc Cert.PrkvReferenceIdeal.main_arg0) = m ((c.tc : Thread Cert.PrkvReferenceIdeal.nD Cert.PrkvReferenceIdeal.τ).loc Cert.PrkvReferenceIdeal.main_arg0)
      ∧ r.2.mem ((c.tc : Thread Cert.PrkvReferenceIdeal.nD Cert.PrkvReferenceIdeal.τ).loc Cert.PrkvReferenceIdeal.main_arg1) = m ((c.tc : Thread Cert.PrkvReferenceIdeal.nD Cert.PrkvReferenceIdeal.τ).loc Cert.PrkvReferenceIdeal.main_arg1))
      ∧ r.2.sem = fun _ => 0)

def quiescent_DhrkvKernel [hDhrkvKernel : Cert.DhrkvKernel.Facts] : Prop :=
  ∀ (m : (ℓ : Loc Cert.DhrkvKernel.nD Cert.DhrkvKernel.τ Cert.DhrkvKernel.sig) → Buf (Elt Bits) ℓ) (g : Dev Cert.DhrkvKernel.nD → PrngReg), Pre_DhrkvKernel m →
    θ_run (Cert.DhrkvKernel.defs (F := Bits)) (onTc (τ := Cert.DhrkvKernel.τ) (Cert.DhrkvKernel.main (F := Bits))) ⟨m, fun _ => 0, g⟩ (fun r => (∀ c : Dev Cert.DhrkvKernel.nD,
      r.2.mem ((c.tc : Thread Cert.DhrkvKernel.nD Cert.DhrkvKernel.τ).loc Cert.DhrkvKernel.main_arg0) = m ((c.tc : Thread Cert.DhrkvKernel.nD Cert.DhrkvKernel.τ).loc Cert.DhrkvKernel.main_arg0)
      ∧ r.2.mem ((c.tc : Thread Cert.DhrkvKernel.nD Cert.DhrkvKernel.τ).loc Cert.DhrkvKernel.main_arg1) = m ((c.tc : Thread Cert.DhrkvKernel.nD Cert.DhrkvKernel.τ).loc Cert.DhrkvKernel.main_arg1)
      ∧ r.2.mem ((c.tc : Thread Cert.DhrkvKernel.nD Cert.DhrkvKernel.τ).loc Cert.DhrkvKernel.main_arg2) = m ((c.tc : Thread Cert.DhrkvKernel.nD Cert.DhrkvKernel.τ).loc Cert.DhrkvKernel.main_arg2))
      ∧ r.2.sem = fun _ => 0)

def quiescent_DhrkvKernelIdeal [hDhrkvKernelIdeal : Cert.DhrkvKernelIdeal.Facts] : Prop :=
  ∀ (m : (ℓ : Loc Cert.DhrkvKernelIdeal.nD Cert.DhrkvKernelIdeal.τ Cert.DhrkvKernelIdeal.sig) → Buf (Elt Ideal) ℓ) (g : Dev Cert.DhrkvKernelIdeal.nD → PrngReg), Pre_DhrkvKernelIdeal m →
    θ_run (Cert.DhrkvKernelIdeal.defs (F := Ideal)) (onTc (τ := Cert.DhrkvKernelIdeal.τ) (Cert.DhrkvKernelIdeal.main (F := Ideal))) ⟨m, fun _ => 0, g⟩ (fun r => (∀ c : Dev Cert.DhrkvKernelIdeal.nD,
      r.2.mem ((c.tc : Thread Cert.DhrkvKernelIdeal.nD Cert.DhrkvKernelIdeal.τ).loc Cert.DhrkvKernelIdeal.main_arg0) = m ((c.tc : Thread Cert.DhrkvKernelIdeal.nD Cert.DhrkvKernelIdeal.τ).loc Cert.DhrkvKernelIdeal.main_arg0)
      ∧ r.2.mem ((c.tc : Thread Cert.DhrkvKernelIdeal.nD Cert.DhrkvKernelIdeal.τ).loc Cert.DhrkvKernelIdeal.main_arg1) = m ((c.tc : Thread Cert.DhrkvKernelIdeal.nD Cert.DhrkvKernelIdeal.τ).loc Cert.DhrkvKernelIdeal.main_arg1)
      ∧ r.2.mem ((c.tc : Thread Cert.DhrkvKernelIdeal.nD Cert.DhrkvKernelIdeal.τ).loc Cert.DhrkvKernelIdeal.main_arg2) = m ((c.tc : Thread Cert.DhrkvKernelIdeal.nD Cert.DhrkvKernelIdeal.τ).loc Cert.DhrkvKernelIdeal.main_arg2))
      ∧ r.2.sem = fun _ => 0)

def quiescent_DhrkvReferenceIdeal [hDhrkvReferenceIdeal : Cert.DhrkvReferenceIdeal.Facts] : Prop :=
  ∀ (m : (ℓ : Loc Cert.DhrkvReferenceIdeal.nD Cert.DhrkvReferenceIdeal.τ Cert.DhrkvReferenceIdeal.sig) → Buf (Elt Ideal) ℓ) (g : Dev Cert.DhrkvReferenceIdeal.nD → PrngReg), Pre_DhrkvReferenceIdeal m →
    θ_run (Cert.DhrkvReferenceIdeal.defs (F := Ideal)) (onTc (τ := Cert.DhrkvReferenceIdeal.τ) (Cert.DhrkvReferenceIdeal.main (F := Ideal))) ⟨m, fun _ => 0, g⟩ (fun r => (∀ c : Dev Cert.DhrkvReferenceIdeal.nD,
      r.2.mem ((c.tc : Thread Cert.DhrkvReferenceIdeal.nD Cert.DhrkvReferenceIdeal.τ).loc Cert.DhrkvReferenceIdeal.main_arg0) = m ((c.tc : Thread Cert.DhrkvReferenceIdeal.nD Cert.DhrkvReferenceIdeal.τ).loc Cert.DhrkvReferenceIdeal.main_arg0)
      ∧ r.2.mem ((c.tc : Thread Cert.DhrkvReferenceIdeal.nD Cert.DhrkvReferenceIdeal.τ).loc Cert.DhrkvReferenceIdeal.main_arg1) = m ((c.tc : Thread Cert.DhrkvReferenceIdeal.nD Cert.DhrkvReferenceIdeal.τ).loc Cert.DhrkvReferenceIdeal.main_arg1)
      ∧ r.2.mem ((c.tc : Thread Cert.DhrkvReferenceIdeal.nD Cert.DhrkvReferenceIdeal.τ).loc Cert.DhrkvReferenceIdeal.main_arg2) = m ((c.tc : Thread Cert.DhrkvReferenceIdeal.nD Cert.DhrkvReferenceIdeal.τ).loc Cert.DhrkvReferenceIdeal.main_arg2))
      ∧ r.2.sem = fun _ => 0)

def quiescent_DwrkvKernel [hDwrkvKernel : Cert.DwrkvKernel.Facts] : Prop :=
  ∀ (m : (ℓ : Loc Cert.DwrkvKernel.nD Cert.DwrkvKernel.τ Cert.DwrkvKernel.sig) → Buf (Elt Bits) ℓ) (g : Dev Cert.DwrkvKernel.nD → PrngReg), Pre_DwrkvKernel m →
    θ_run (Cert.DwrkvKernel.defs (F := Bits)) (onTc (τ := Cert.DwrkvKernel.τ) (Cert.DwrkvKernel.main (F := Bits))) ⟨m, fun _ => 0, g⟩ (fun r => (∀ c : Dev Cert.DwrkvKernel.nD,
      r.2.mem ((c.tc : Thread Cert.DwrkvKernel.nD Cert.DwrkvKernel.τ).loc Cert.DwrkvKernel.main_arg0) = m ((c.tc : Thread Cert.DwrkvKernel.nD Cert.DwrkvKernel.τ).loc Cert.DwrkvKernel.main_arg0)
      ∧ r.2.mem ((c.tc : Thread Cert.DwrkvKernel.nD Cert.DwrkvKernel.τ).loc Cert.DwrkvKernel.main_arg1) = m ((c.tc : Thread Cert.DwrkvKernel.nD Cert.DwrkvKernel.τ).loc Cert.DwrkvKernel.main_arg1)
      ∧ r.2.mem ((c.tc : Thread Cert.DwrkvKernel.nD Cert.DwrkvKernel.τ).loc Cert.DwrkvKernel.main_arg2) = m ((c.tc : Thread Cert.DwrkvKernel.nD Cert.DwrkvKernel.τ).loc Cert.DwrkvKernel.main_arg2))
      ∧ r.2.sem = fun _ => 0)

def quiescent_DwrkvKernelIdeal [hDwrkvKernelIdeal : Cert.DwrkvKernelIdeal.Facts] : Prop :=
  ∀ (m : (ℓ : Loc Cert.DwrkvKernelIdeal.nD Cert.DwrkvKernelIdeal.τ Cert.DwrkvKernelIdeal.sig) → Buf (Elt Ideal) ℓ) (g : Dev Cert.DwrkvKernelIdeal.nD → PrngReg), Pre_DwrkvKernelIdeal m →
    θ_run (Cert.DwrkvKernelIdeal.defs (F := Ideal)) (onTc (τ := Cert.DwrkvKernelIdeal.τ) (Cert.DwrkvKernelIdeal.main (F := Ideal))) ⟨m, fun _ => 0, g⟩ (fun r => (∀ c : Dev Cert.DwrkvKernelIdeal.nD,
      r.2.mem ((c.tc : Thread Cert.DwrkvKernelIdeal.nD Cert.DwrkvKernelIdeal.τ).loc Cert.DwrkvKernelIdeal.main_arg0) = m ((c.tc : Thread Cert.DwrkvKernelIdeal.nD Cert.DwrkvKernelIdeal.τ).loc Cert.DwrkvKernelIdeal.main_arg0)
      ∧ r.2.mem ((c.tc : Thread Cert.DwrkvKernelIdeal.nD Cert.DwrkvKernelIdeal.τ).loc Cert.DwrkvKernelIdeal.main_arg1) = m ((c.tc : Thread Cert.DwrkvKernelIdeal.nD Cert.DwrkvKernelIdeal.τ).loc Cert.DwrkvKernelIdeal.main_arg1)
      ∧ r.2.mem ((c.tc : Thread Cert.DwrkvKernelIdeal.nD Cert.DwrkvKernelIdeal.τ).loc Cert.DwrkvKernelIdeal.main_arg2) = m ((c.tc : Thread Cert.DwrkvKernelIdeal.nD Cert.DwrkvKernelIdeal.τ).loc Cert.DwrkvKernelIdeal.main_arg2))
      ∧ r.2.sem = fun _ => 0)

def quiescent_DwrkvReferenceIdeal [hDwrkvReferenceIdeal : Cert.DwrkvReferenceIdeal.Facts] : Prop :=
  ∀ (m : (ℓ : Loc Cert.DwrkvReferenceIdeal.nD Cert.DwrkvReferenceIdeal.τ Cert.DwrkvReferenceIdeal.sig) → Buf (Elt Ideal) ℓ) (g : Dev Cert.DwrkvReferenceIdeal.nD → PrngReg), Pre_DwrkvReferenceIdeal m →
    θ_run (Cert.DwrkvReferenceIdeal.defs (F := Ideal)) (onTc (τ := Cert.DwrkvReferenceIdeal.τ) (Cert.DwrkvReferenceIdeal.main (F := Ideal))) ⟨m, fun _ => 0, g⟩ (fun r => (∀ c : Dev Cert.DwrkvReferenceIdeal.nD,
      r.2.mem ((c.tc : Thread Cert.DwrkvReferenceIdeal.nD Cert.DwrkvReferenceIdeal.τ).loc Cert.DwrkvReferenceIdeal.main_arg0) = m ((c.tc : Thread Cert.DwrkvReferenceIdeal.nD Cert.DwrkvReferenceIdeal.τ).loc Cert.DwrkvReferenceIdeal.main_arg0)
      ∧ r.2.mem ((c.tc : Thread Cert.DwrkvReferenceIdeal.nD Cert.DwrkvReferenceIdeal.τ).loc Cert.DwrkvReferenceIdeal.main_arg1) = m ((c.tc : Thread Cert.DwrkvReferenceIdeal.nD Cert.DwrkvReferenceIdeal.τ).loc Cert.DwrkvReferenceIdeal.main_arg1)
      ∧ r.2.mem ((c.tc : Thread Cert.DwrkvReferenceIdeal.nD Cert.DwrkvReferenceIdeal.τ).loc Cert.DwrkvReferenceIdeal.main_arg2) = m ((c.tc : Thread Cert.DwrkvReferenceIdeal.nD Cert.DwrkvReferenceIdeal.τ).loc Cert.DwrkvReferenceIdeal.main_arg2))
      ∧ r.2.sem = fun _ => 0)

def quiescent_PgateKernel [hPgateKernel : Cert.PgateKernel.Facts] : Prop :=
  ∀ (m : (ℓ : Loc Cert.PgateKernel.nD Cert.PgateKernel.τ Cert.PgateKernel.sig) → Buf (Elt Bits) ℓ) (g : Dev Cert.PgateKernel.nD → PrngReg), Pre_PgateKernel m →
    θ_run (Cert.PgateKernel.defs (F := Bits)) (onTc (τ := Cert.PgateKernel.τ) (Cert.PgateKernel.main (F := Bits))) ⟨m, fun _ => 0, g⟩ (fun r => (∀ c : Dev Cert.PgateKernel.nD,
      r.2.mem ((c.tc : Thread Cert.PgateKernel.nD Cert.PgateKernel.τ).loc Cert.PgateKernel.main_arg0) = m ((c.tc : Thread Cert.PgateKernel.nD Cert.PgateKernel.τ).loc Cert.PgateKernel.main_arg0)
      ∧ r.2.mem ((c.tc : Thread Cert.PgateKernel.nD Cert.PgateKernel.τ).loc Cert.PgateKernel.main_arg1) = m ((c.tc : Thread Cert.PgateKernel.nD Cert.PgateKernel.τ).loc Cert.PgateKernel.main_arg1))
      ∧ r.2.sem = fun _ => 0)

def quiescent_PgateKernelIdeal [hPgateKernelIdeal : Cert.PgateKernelIdeal.Facts] : Prop :=
  ∀ (m : (ℓ : Loc Cert.PgateKernelIdeal.nD Cert.PgateKernelIdeal.τ Cert.PgateKernelIdeal.sig) → Buf (Elt Ideal) ℓ) (g : Dev Cert.PgateKernelIdeal.nD → PrngReg), Pre_PgateKernelIdeal m →
    θ_run (Cert.PgateKernelIdeal.defs (F := Ideal)) (onTc (τ := Cert.PgateKernelIdeal.τ) (Cert.PgateKernelIdeal.main (F := Ideal))) ⟨m, fun _ => 0, g⟩ (fun r => (∀ c : Dev Cert.PgateKernelIdeal.nD,
      r.2.mem ((c.tc : Thread Cert.PgateKernelIdeal.nD Cert.PgateKernelIdeal.τ).loc Cert.PgateKernelIdeal.main_arg0) = m ((c.tc : Thread Cert.PgateKernelIdeal.nD Cert.PgateKernelIdeal.τ).loc Cert.PgateKernelIdeal.main_arg0)
      ∧ r.2.mem ((c.tc : Thread Cert.PgateKernelIdeal.nD Cert.PgateKernelIdeal.τ).loc Cert.PgateKernelIdeal.main_arg1) = m ((c.tc : Thread Cert.PgateKernelIdeal.nD Cert.PgateKernelIdeal.τ).loc Cert.PgateKernelIdeal.main_arg1))
      ∧ r.2.sem = fun _ => 0)

def quiescent_PgateReferenceIdeal [hPgateReferenceIdeal : Cert.PgateReferenceIdeal.Facts] : Prop :=
  ∀ (m : (ℓ : Loc Cert.PgateReferenceIdeal.nD Cert.PgateReferenceIdeal.τ Cert.PgateReferenceIdeal.sig) → Buf (Elt Ideal) ℓ) (g : Dev Cert.PgateReferenceIdeal.nD → PrngReg), Pre_PgateReferenceIdeal m →
    θ_run (Cert.PgateReferenceIdeal.defs (F := Ideal)) (onTc (τ := Cert.PgateReferenceIdeal.τ) (Cert.PgateReferenceIdeal.main (F := Ideal))) ⟨m, fun _ => 0, g⟩ (fun r => (∀ c : Dev Cert.PgateReferenceIdeal.nD,
      r.2.mem ((c.tc : Thread Cert.PgateReferenceIdeal.nD Cert.PgateReferenceIdeal.τ).loc Cert.PgateReferenceIdeal.main_arg0) = m ((c.tc : Thread Cert.PgateReferenceIdeal.nD Cert.PgateReferenceIdeal.τ).loc Cert.PgateReferenceIdeal.main_arg0)
      ∧ r.2.mem ((c.tc : Thread Cert.PgateReferenceIdeal.nD Cert.PgateReferenceIdeal.τ).loc Cert.PgateReferenceIdeal.main_arg1) = m ((c.tc : Thread Cert.PgateReferenceIdeal.nD Cert.PgateReferenceIdeal.τ).loc Cert.PgateReferenceIdeal.main_arg1))
      ∧ r.2.sem = fun _ => 0)

def quiescent_DhgateKernel [hDhgateKernel : Cert.DhgateKernel.Facts] : Prop :=
  ∀ (m : (ℓ : Loc Cert.DhgateKernel.nD Cert.DhgateKernel.τ Cert.DhgateKernel.sig) → Buf (Elt Bits) ℓ) (g : Dev Cert.DhgateKernel.nD → PrngReg), Pre_DhgateKernel m →
    θ_run (Cert.DhgateKernel.defs (F := Bits)) (onTc (τ := Cert.DhgateKernel.τ) (Cert.DhgateKernel.main (F := Bits))) ⟨m, fun _ => 0, g⟩ (fun r => (∀ c : Dev Cert.DhgateKernel.nD,
      r.2.mem ((c.tc : Thread Cert.DhgateKernel.nD Cert.DhgateKernel.τ).loc Cert.DhgateKernel.main_arg0) = m ((c.tc : Thread Cert.DhgateKernel.nD Cert.DhgateKernel.τ).loc Cert.DhgateKernel.main_arg0)
      ∧ r.2.mem ((c.tc : Thread Cert.DhgateKernel.nD Cert.DhgateKernel.τ).loc Cert.DhgateKernel.main_arg1) = m ((c.tc : Thread Cert.DhgateKernel.nD Cert.DhgateKernel.τ).loc Cert.DhgateKernel.main_arg1)
      ∧ r.2.mem ((c.tc : Thread Cert.DhgateKernel.nD Cert.DhgateKernel.τ).loc Cert.DhgateKernel.main_arg2) = m ((c.tc : Thread Cert.DhgateKernel.nD Cert.DhgateKernel.τ).loc Cert.DhgateKernel.main_arg2))
      ∧ r.2.sem = fun _ => 0)

def quiescent_DhgateKernelIdeal [hDhgateKernelIdeal : Cert.DhgateKernelIdeal.Facts] : Prop :=
  ∀ (m : (ℓ : Loc Cert.DhgateKernelIdeal.nD Cert.DhgateKernelIdeal.τ Cert.DhgateKernelIdeal.sig) → Buf (Elt Ideal) ℓ) (g : Dev Cert.DhgateKernelIdeal.nD → PrngReg), Pre_DhgateKernelIdeal m →
    θ_run (Cert.DhgateKernelIdeal.defs (F := Ideal)) (onTc (τ := Cert.DhgateKernelIdeal.τ) (Cert.DhgateKernelIdeal.main (F := Ideal))) ⟨m, fun _ => 0, g⟩ (fun r => (∀ c : Dev Cert.DhgateKernelIdeal.nD,
      r.2.mem ((c.tc : Thread Cert.DhgateKernelIdeal.nD Cert.DhgateKernelIdeal.τ).loc Cert.DhgateKernelIdeal.main_arg0) = m ((c.tc : Thread Cert.DhgateKernelIdeal.nD Cert.DhgateKernelIdeal.τ).loc Cert.DhgateKernelIdeal.main_arg0)
      ∧ r.2.mem ((c.tc : Thread Cert.DhgateKernelIdeal.nD Cert.DhgateKernelIdeal.τ).loc Cert.DhgateKernelIdeal.main_arg1) = m ((c.tc : Thread Cert.DhgateKernelIdeal.nD Cert.DhgateKernelIdeal.τ).loc Cert.DhgateKernelIdeal.main_arg1)
      ∧ r.2.mem ((c.tc : Thread Cert.DhgateKernelIdeal.nD Cert.DhgateKernelIdeal.τ).loc Cert.DhgateKernelIdeal.main_arg2) = m ((c.tc : Thread Cert.DhgateKernelIdeal.nD Cert.DhgateKernelIdeal.τ).loc Cert.DhgateKernelIdeal.main_arg2))
      ∧ r.2.sem = fun _ => 0)

def quiescent_DhgateReferenceIdeal [hDhgateReferenceIdeal : Cert.DhgateReferenceIdeal.Facts] : Prop :=
  ∀ (m : (ℓ : Loc Cert.DhgateReferenceIdeal.nD Cert.DhgateReferenceIdeal.τ Cert.DhgateReferenceIdeal.sig) → Buf (Elt Ideal) ℓ) (g : Dev Cert.DhgateReferenceIdeal.nD → PrngReg), Pre_DhgateReferenceIdeal m →
    θ_run (Cert.DhgateReferenceIdeal.defs (F := Ideal)) (onTc (τ := Cert.DhgateReferenceIdeal.τ) (Cert.DhgateReferenceIdeal.main (F := Ideal))) ⟨m, fun _ => 0, g⟩ (fun r => (∀ c : Dev Cert.DhgateReferenceIdeal.nD,
      r.2.mem ((c.tc : Thread Cert.DhgateReferenceIdeal.nD Cert.DhgateReferenceIdeal.τ).loc Cert.DhgateReferenceIdeal.main_arg0) = m ((c.tc : Thread Cert.DhgateReferenceIdeal.nD Cert.DhgateReferenceIdeal.τ).loc Cert.DhgateReferenceIdeal.main_arg0)
      ∧ r.2.mem ((c.tc : Thread Cert.DhgateReferenceIdeal.nD Cert.DhgateReferenceIdeal.τ).loc Cert.DhgateReferenceIdeal.main_arg1) = m ((c.tc : Thread Cert.DhgateReferenceIdeal.nD Cert.DhgateReferenceIdeal.τ).loc Cert.DhgateReferenceIdeal.main_arg1)
      ∧ r.2.mem ((c.tc : Thread Cert.DhgateReferenceIdeal.nD Cert.DhgateReferenceIdeal.τ).loc Cert.DhgateReferenceIdeal.main_arg2) = m ((c.tc : Thread Cert.DhgateReferenceIdeal.nD Cert.DhgateReferenceIdeal.τ).loc Cert.DhgateReferenceIdeal.main_arg2))
      ∧ r.2.sem = fun _ => 0)

def quiescent_DwgateKernel [hDwgateKernel : Cert.DwgateKernel.Facts] : Prop :=
  ∀ (m : (ℓ : Loc Cert.DwgateKernel.nD Cert.DwgateKernel.τ Cert.DwgateKernel.sig) → Buf (Elt Bits) ℓ) (g : Dev Cert.DwgateKernel.nD → PrngReg), Pre_DwgateKernel m →
    θ_run (Cert.DwgateKernel.defs (F := Bits)) (onTc (τ := Cert.DwgateKernel.τ) (Cert.DwgateKernel.main (F := Bits))) ⟨m, fun _ => 0, g⟩ (fun r => (∀ c : Dev Cert.DwgateKernel.nD,
      r.2.mem ((c.tc : Thread Cert.DwgateKernel.nD Cert.DwgateKernel.τ).loc Cert.DwgateKernel.main_arg0) = m ((c.tc : Thread Cert.DwgateKernel.nD Cert.DwgateKernel.τ).loc Cert.DwgateKernel.main_arg0)
      ∧ r.2.mem ((c.tc : Thread Cert.DwgateKernel.nD Cert.DwgateKernel.τ).loc Cert.DwgateKernel.main_arg1) = m ((c.tc : Thread Cert.DwgateKernel.nD Cert.DwgateKernel.τ).loc Cert.DwgateKernel.main_arg1)
      ∧ r.2.mem ((c.tc : Thread Cert.DwgateKernel.nD Cert.DwgateKernel.τ).loc Cert.DwgateKernel.main_arg2) = m ((c.tc : Thread Cert.DwgateKernel.nD Cert.DwgateKernel.τ).loc Cert.DwgateKernel.main_arg2))
      ∧ r.2.sem = fun _ => 0)

def quiescent_DwgateKernelIdeal [hDwgateKernelIdeal : Cert.DwgateKernelIdeal.Facts] : Prop :=
  ∀ (m : (ℓ : Loc Cert.DwgateKernelIdeal.nD Cert.DwgateKernelIdeal.τ Cert.DwgateKernelIdeal.sig) → Buf (Elt Ideal) ℓ) (g : Dev Cert.DwgateKernelIdeal.nD → PrngReg), Pre_DwgateKernelIdeal m →
    θ_run (Cert.DwgateKernelIdeal.defs (F := Ideal)) (onTc (τ := Cert.DwgateKernelIdeal.τ) (Cert.DwgateKernelIdeal.main (F := Ideal))) ⟨m, fun _ => 0, g⟩ (fun r => (∀ c : Dev Cert.DwgateKernelIdeal.nD,
      r.2.mem ((c.tc : Thread Cert.DwgateKernelIdeal.nD Cert.DwgateKernelIdeal.τ).loc Cert.DwgateKernelIdeal.main_arg0) = m ((c.tc : Thread Cert.DwgateKernelIdeal.nD Cert.DwgateKernelIdeal.τ).loc Cert.DwgateKernelIdeal.main_arg0)
      ∧ r.2.mem ((c.tc : Thread Cert.DwgateKernelIdeal.nD Cert.DwgateKernelIdeal.τ).loc Cert.DwgateKernelIdeal.main_arg1) = m ((c.tc : Thread Cert.DwgateKernelIdeal.nD Cert.DwgateKernelIdeal.τ).loc Cert.DwgateKernelIdeal.main_arg1)
      ∧ r.2.mem ((c.tc : Thread Cert.DwgateKernelIdeal.nD Cert.DwgateKernelIdeal.τ).loc Cert.DwgateKernelIdeal.main_arg2) = m ((c.tc : Thread Cert.DwgateKernelIdeal.nD Cert.DwgateKernelIdeal.τ).loc Cert.DwgateKernelIdeal.main_arg2))
      ∧ r.2.sem = fun _ => 0)

def quiescent_DwgateReferenceIdeal [hDwgateReferenceIdeal : Cert.DwgateReferenceIdeal.Facts] : Prop :=
  ∀ (m : (ℓ : Loc Cert.DwgateReferenceIdeal.nD Cert.DwgateReferenceIdeal.τ Cert.DwgateReferenceIdeal.sig) → Buf (Elt Ideal) ℓ) (g : Dev Cert.DwgateReferenceIdeal.nD → PrngReg), Pre_DwgateReferenceIdeal m →
    θ_run (Cert.DwgateReferenceIdeal.defs (F := Ideal)) (onTc (τ := Cert.DwgateReferenceIdeal.τ) (Cert.DwgateReferenceIdeal.main (F := Ideal))) ⟨m, fun _ => 0, g⟩ (fun r => (∀ c : Dev Cert.DwgateReferenceIdeal.nD,
      r.2.mem ((c.tc : Thread Cert.DwgateReferenceIdeal.nD Cert.DwgateReferenceIdeal.τ).loc Cert.DwgateReferenceIdeal.main_arg0) = m ((c.tc : Thread Cert.DwgateReferenceIdeal.nD Cert.DwgateReferenceIdeal.τ).loc Cert.DwgateReferenceIdeal.main_arg0)
      ∧ r.2.mem ((c.tc : Thread Cert.DwgateReferenceIdeal.nD Cert.DwgateReferenceIdeal.τ).loc Cert.DwgateReferenceIdeal.main_arg1) = m ((c.tc : Thread Cert.DwgateReferenceIdeal.nD Cert.DwgateReferenceIdeal.τ).loc Cert.DwgateReferenceIdeal.main_arg1)
      ∧ r.2.mem ((c.tc : Thread Cert.DwgateReferenceIdeal.nD Cert.DwgateReferenceIdeal.τ).loc Cert.DwgateReferenceIdeal.main_arg2) = m ((c.tc : Thread Cert.DwgateReferenceIdeal.nD Cert.DwgateReferenceIdeal.τ).loc Cert.DwgateReferenceIdeal.main_arg2))
      ∧ r.2.sem = fun _ => 0)

def quiescent_PqkvKernel [hPqkvKernel : Cert.PqkvKernel.Facts] : Prop :=
  ∀ (m : (ℓ : Loc Cert.PqkvKernel.nD Cert.PqkvKernel.τ Cert.PqkvKernel.sig) → Buf (Elt Bits) ℓ) (g : Dev Cert.PqkvKernel.nD → PrngReg), Pre_PqkvKernel m →
    θ_run (Cert.PqkvKernel.defs (F := Bits)) (onTc (τ := Cert.PqkvKernel.τ) (Cert.PqkvKernel.main (F := Bits))) ⟨m, fun _ => 0, g⟩ (fun r => (∀ c : Dev Cert.PqkvKernel.nD,
      r.2.mem ((c.tc : Thread Cert.PqkvKernel.nD Cert.PqkvKernel.τ).loc Cert.PqkvKernel.main_arg0) = m ((c.tc : Thread Cert.PqkvKernel.nD Cert.PqkvKernel.τ).loc Cert.PqkvKernel.main_arg0)
      ∧ r.2.mem ((c.tc : Thread Cert.PqkvKernel.nD Cert.PqkvKernel.τ).loc Cert.PqkvKernel.main_arg1) = m ((c.tc : Thread Cert.PqkvKernel.nD Cert.PqkvKernel.τ).loc Cert.PqkvKernel.main_arg1))
      ∧ r.2.sem = fun _ => 0)

def quiescent_PqkvKernelIdeal [hPqkvKernelIdeal : Cert.PqkvKernelIdeal.Facts] : Prop :=
  ∀ (m : (ℓ : Loc Cert.PqkvKernelIdeal.nD Cert.PqkvKernelIdeal.τ Cert.PqkvKernelIdeal.sig) → Buf (Elt Ideal) ℓ) (g : Dev Cert.PqkvKernelIdeal.nD → PrngReg), Pre_PqkvKernelIdeal m →
    θ_run (Cert.PqkvKernelIdeal.defs (F := Ideal)) (onTc (τ := Cert.PqkvKernelIdeal.τ) (Cert.PqkvKernelIdeal.main (F := Ideal))) ⟨m, fun _ => 0, g⟩ (fun r => (∀ c : Dev Cert.PqkvKernelIdeal.nD,
      r.2.mem ((c.tc : Thread Cert.PqkvKernelIdeal.nD Cert.PqkvKernelIdeal.τ).loc Cert.PqkvKernelIdeal.main_arg0) = m ((c.tc : Thread Cert.PqkvKernelIdeal.nD Cert.PqkvKernelIdeal.τ).loc Cert.PqkvKernelIdeal.main_arg0)
      ∧ r.2.mem ((c.tc : Thread Cert.PqkvKernelIdeal.nD Cert.PqkvKernelIdeal.τ).loc Cert.PqkvKernelIdeal.main_arg1) = m ((c.tc : Thread Cert.PqkvKernelIdeal.nD Cert.PqkvKernelIdeal.τ).loc Cert.PqkvKernelIdeal.main_arg1))
      ∧ r.2.sem = fun _ => 0)

def quiescent_PqkvReferenceIdeal [hPqkvReferenceIdeal : Cert.PqkvReferenceIdeal.Facts] : Prop :=
  ∀ (m : (ℓ : Loc Cert.PqkvReferenceIdeal.nD Cert.PqkvReferenceIdeal.τ Cert.PqkvReferenceIdeal.sig) → Buf (Elt Ideal) ℓ) (g : Dev Cert.PqkvReferenceIdeal.nD → PrngReg), Pre_PqkvReferenceIdeal m →
    θ_run (Cert.PqkvReferenceIdeal.defs (F := Ideal)) (onTc (τ := Cert.PqkvReferenceIdeal.τ) (Cert.PqkvReferenceIdeal.main (F := Ideal))) ⟨m, fun _ => 0, g⟩ (fun r => (∀ c : Dev Cert.PqkvReferenceIdeal.nD,
      r.2.mem ((c.tc : Thread Cert.PqkvReferenceIdeal.nD Cert.PqkvReferenceIdeal.τ).loc Cert.PqkvReferenceIdeal.main_arg0) = m ((c.tc : Thread Cert.PqkvReferenceIdeal.nD Cert.PqkvReferenceIdeal.τ).loc Cert.PqkvReferenceIdeal.main_arg0)
      ∧ r.2.mem ((c.tc : Thread Cert.PqkvReferenceIdeal.nD Cert.PqkvReferenceIdeal.τ).loc Cert.PqkvReferenceIdeal.main_arg1) = m ((c.tc : Thread Cert.PqkvReferenceIdeal.nD Cert.PqkvReferenceIdeal.τ).loc Cert.PqkvReferenceIdeal.main_arg1))
      ∧ r.2.sem = fun _ => 0)

def quiescent_DwqkvKernel [hDwqkvKernel : Cert.DwqkvKernel.Facts] : Prop :=
  ∀ (m : (ℓ : Loc Cert.DwqkvKernel.nD Cert.DwqkvKernel.τ Cert.DwqkvKernel.sig) → Buf (Elt Bits) ℓ) (g : Dev Cert.DwqkvKernel.nD → PrngReg), Pre_DwqkvKernel m →
    θ_run (Cert.DwqkvKernel.defs (F := Bits)) (onTc (τ := Cert.DwqkvKernel.τ) (Cert.DwqkvKernel.main (F := Bits))) ⟨m, fun _ => 0, g⟩ (fun r => (∀ c : Dev Cert.DwqkvKernel.nD,
      r.2.mem ((c.tc : Thread Cert.DwqkvKernel.nD Cert.DwqkvKernel.τ).loc Cert.DwqkvKernel.main_arg0) = m ((c.tc : Thread Cert.DwqkvKernel.nD Cert.DwqkvKernel.τ).loc Cert.DwqkvKernel.main_arg0)
      ∧ r.2.mem ((c.tc : Thread Cert.DwqkvKernel.nD Cert.DwqkvKernel.τ).loc Cert.DwqkvKernel.main_arg1) = m ((c.tc : Thread Cert.DwqkvKernel.nD Cert.DwqkvKernel.τ).loc Cert.DwqkvKernel.main_arg1)
      ∧ r.2.mem ((c.tc : Thread Cert.DwqkvKernel.nD Cert.DwqkvKernel.τ).loc Cert.DwqkvKernel.main_arg2) = m ((c.tc : Thread Cert.DwqkvKernel.nD Cert.DwqkvKernel.τ).loc Cert.DwqkvKernel.main_arg2))
      ∧ r.2.sem = fun _ => 0)

def quiescent_DwqkvKernelIdeal [hDwqkvKernelIdeal : Cert.DwqkvKernelIdeal.Facts] : Prop :=
  ∀ (m : (ℓ : Loc Cert.DwqkvKernelIdeal.nD Cert.DwqkvKernelIdeal.τ Cert.DwqkvKernelIdeal.sig) → Buf (Elt Ideal) ℓ) (g : Dev Cert.DwqkvKernelIdeal.nD → PrngReg), Pre_DwqkvKernelIdeal m →
    θ_run (Cert.DwqkvKernelIdeal.defs (F := Ideal)) (onTc (τ := Cert.DwqkvKernelIdeal.τ) (Cert.DwqkvKernelIdeal.main (F := Ideal))) ⟨m, fun _ => 0, g⟩ (fun r => (∀ c : Dev Cert.DwqkvKernelIdeal.nD,
      r.2.mem ((c.tc : Thread Cert.DwqkvKernelIdeal.nD Cert.DwqkvKernelIdeal.τ).loc Cert.DwqkvKernelIdeal.main_arg0) = m ((c.tc : Thread Cert.DwqkvKernelIdeal.nD Cert.DwqkvKernelIdeal.τ).loc Cert.DwqkvKernelIdeal.main_arg0)
      ∧ r.2.mem ((c.tc : Thread Cert.DwqkvKernelIdeal.nD Cert.DwqkvKernelIdeal.τ).loc Cert.DwqkvKernelIdeal.main_arg1) = m ((c.tc : Thread Cert.DwqkvKernelIdeal.nD Cert.DwqkvKernelIdeal.τ).loc Cert.DwqkvKernelIdeal.main_arg1)
      ∧ r.2.mem ((c.tc : Thread Cert.DwqkvKernelIdeal.nD Cert.DwqkvKernelIdeal.τ).loc Cert.DwqkvKernelIdeal.main_arg2) = m ((c.tc : Thread Cert.DwqkvKernelIdeal.nD Cert.DwqkvKernelIdeal.τ).loc Cert.DwqkvKernelIdeal.main_arg2))
      ∧ r.2.sem = fun _ => 0)

def quiescent_DwqkvReferenceIdeal [hDwqkvReferenceIdeal : Cert.DwqkvReferenceIdeal.Facts] : Prop :=
  ∀ (m : (ℓ : Loc Cert.DwqkvReferenceIdeal.nD Cert.DwqkvReferenceIdeal.τ Cert.DwqkvReferenceIdeal.sig) → Buf (Elt Ideal) ℓ) (g : Dev Cert.DwqkvReferenceIdeal.nD → PrngReg), Pre_DwqkvReferenceIdeal m →
    θ_run (Cert.DwqkvReferenceIdeal.defs (F := Ideal)) (onTc (τ := Cert.DwqkvReferenceIdeal.τ) (Cert.DwqkvReferenceIdeal.main (F := Ideal))) ⟨m, fun _ => 0, g⟩ (fun r => (∀ c : Dev Cert.DwqkvReferenceIdeal.nD,
      r.2.mem ((c.tc : Thread Cert.DwqkvReferenceIdeal.nD Cert.DwqkvReferenceIdeal.τ).loc Cert.DwqkvReferenceIdeal.main_arg0) = m ((c.tc : Thread Cert.DwqkvReferenceIdeal.nD Cert.DwqkvReferenceIdeal.τ).loc Cert.DwqkvReferenceIdeal.main_arg0)
      ∧ r.2.mem ((c.tc : Thread Cert.DwqkvReferenceIdeal.nD Cert.DwqkvReferenceIdeal.τ).loc Cert.DwqkvReferenceIdeal.main_arg1) = m ((c.tc : Thread Cert.DwqkvReferenceIdeal.nD Cert.DwqkvReferenceIdeal.τ).loc Cert.DwqkvReferenceIdeal.main_arg1)
      ∧ r.2.mem ((c.tc : Thread Cert.DwqkvReferenceIdeal.nD Cert.DwqkvReferenceIdeal.τ).loc Cert.DwqkvReferenceIdeal.main_arg2) = m ((c.tc : Thread Cert.DwqkvReferenceIdeal.nD Cert.DwqkvReferenceIdeal.τ).loc Cert.DwqkvReferenceIdeal.main_arg2))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def quiescent_ProjaKernel [hProjaKernel : Cert.ProjaKernel.Facts] : Prop :=
  ∀ (m : (ℓ : Loc Cert.ProjaKernel.nD Cert.ProjaKernel.τ Cert.ProjaKernel.sig) → Buf (Elt Bits) ℓ) (g : Dev Cert.ProjaKernel.nD → PrngReg), Pre_ProjaKernel m →
    θ_run (Cert.ProjaKernel.defs (F := Bits)) (onTc (τ := Cert.ProjaKernel.τ) (Cert.ProjaKernel.main (F := Bits))) ⟨m, fun _ => 0, g⟩ (fun r => (∀ c : Dev Cert.ProjaKernel.nD,
      r.2.mem ((c.tc : Thread Cert.ProjaKernel.nD Cert.ProjaKernel.τ).loc Cert.ProjaKernel.main_arg0) = m ((c.tc : Thread Cert.ProjaKernel.nD Cert.ProjaKernel.τ).loc Cert.ProjaKernel.main_arg0)
      ∧ r.2.mem ((c.tc : Thread Cert.ProjaKernel.nD Cert.ProjaKernel.τ).loc Cert.ProjaKernel.main_arg1) = m ((c.tc : Thread Cert.ProjaKernel.nD Cert.ProjaKernel.τ).loc Cert.ProjaKernel.main_arg1))
      ∧ r.2.sem = fun _ => 0)

def quiescent_ProjaKernelIdeal [hProjaKernelIdeal : Cert.ProjaKernelIdeal.Facts] : Prop :=
  ∀ (m : (ℓ : Loc Cert.ProjaKernelIdeal.nD Cert.ProjaKernelIdeal.τ Cert.ProjaKernelIdeal.sig) → Buf (Elt Ideal) ℓ) (g : Dev Cert.ProjaKernelIdeal.nD → PrngReg), Pre_ProjaKernelIdeal m →
    θ_run (Cert.ProjaKernelIdeal.defs (F := Ideal)) (onTc (τ := Cert.ProjaKernelIdeal.τ) (Cert.ProjaKernelIdeal.main (F := Ideal))) ⟨m, fun _ => 0, g⟩ (fun r => (∀ c : Dev Cert.ProjaKernelIdeal.nD,
      r.2.mem ((c.tc : Thread Cert.ProjaKernelIdeal.nD Cert.ProjaKernelIdeal.τ).loc Cert.ProjaKernelIdeal.main_arg0) = m ((c.tc : Thread Cert.ProjaKernelIdeal.nD Cert.ProjaKernelIdeal.τ).loc Cert.ProjaKernelIdeal.main_arg0)
      ∧ r.2.mem ((c.tc : Thread Cert.ProjaKernelIdeal.nD Cert.ProjaKernelIdeal.τ).loc Cert.ProjaKernelIdeal.main_arg1) = m ((c.tc : Thread Cert.ProjaKernelIdeal.nD Cert.ProjaKernelIdeal.τ).loc Cert.ProjaKernelIdeal.main_arg1))
      ∧ r.2.sem = fun _ => 0)

def quiescent_ProjaReferenceIdeal [hProjaReferenceIdeal : Cert.ProjaReferenceIdeal.Facts] : Prop :=
  ∀ (m : (ℓ : Loc Cert.ProjaReferenceIdeal.nD Cert.ProjaReferenceIdeal.τ Cert.ProjaReferenceIdeal.sig) → Buf (Elt Ideal) ℓ) (g : Dev Cert.ProjaReferenceIdeal.nD → PrngReg), Pre_ProjaReferenceIdeal m →
    θ_run (Cert.ProjaReferenceIdeal.defs (F := Ideal)) (onTc (τ := Cert.ProjaReferenceIdeal.τ) (Cert.ProjaReferenceIdeal.main (F := Ideal))) ⟨m, fun _ => 0, g⟩ (fun r => (∀ c : Dev Cert.ProjaReferenceIdeal.nD,
      r.2.mem ((c.tc : Thread Cert.ProjaReferenceIdeal.nD Cert.ProjaReferenceIdeal.τ).loc Cert.ProjaReferenceIdeal.main_arg0) = m ((c.tc : Thread Cert.ProjaReferenceIdeal.nD Cert.ProjaReferenceIdeal.τ).loc Cert.ProjaReferenceIdeal.main_arg0)
      ∧ r.2.mem ((c.tc : Thread Cert.ProjaReferenceIdeal.nD Cert.ProjaReferenceIdeal.τ).loc Cert.ProjaReferenceIdeal.main_arg1) = m ((c.tc : Thread Cert.ProjaReferenceIdeal.nD Cert.ProjaReferenceIdeal.τ).loc Cert.ProjaReferenceIdeal.main_arg1))
      ∧ r.2.sem = fun _ => 0)

def quiescent_DyaKernel [hDyaKernel : Cert.DyaKernel.Facts] : Prop :=
  ∀ (m : (ℓ : Loc Cert.DyaKernel.nD Cert.DyaKernel.τ Cert.DyaKernel.sig) → Buf (Elt Bits) ℓ) (g : Dev Cert.DyaKernel.nD → PrngReg), Pre_DyaKernel m →
    θ_run (Cert.DyaKernel.defs (F := Bits)) (onTc (τ := Cert.DyaKernel.τ) (Cert.DyaKernel.main (F := Bits))) ⟨m, fun _ => 0, g⟩ (fun r => (∀ c : Dev Cert.DyaKernel.nD,
      r.2.mem ((c.tc : Thread Cert.DyaKernel.nD Cert.DyaKernel.τ).loc Cert.DyaKernel.main_arg0) = m ((c.tc : Thread Cert.DyaKernel.nD Cert.DyaKernel.τ).loc Cert.DyaKernel.main_arg0)
      ∧ r.2.mem ((c.tc : Thread Cert.DyaKernel.nD Cert.DyaKernel.τ).loc Cert.DyaKernel.main_arg1) = m ((c.tc : Thread Cert.DyaKernel.nD Cert.DyaKernel.τ).loc Cert.DyaKernel.main_arg1)
      ∧ r.2.mem ((c.tc : Thread Cert.DyaKernel.nD Cert.DyaKernel.τ).loc Cert.DyaKernel.main_arg2) = m ((c.tc : Thread Cert.DyaKernel.nD Cert.DyaKernel.τ).loc Cert.DyaKernel.main_arg2))
      ∧ r.2.sem = fun _ => 0)

def quiescent_DyaKernelIdeal [hDyaKernelIdeal : Cert.DyaKernelIdeal.Facts] : Prop :=
  ∀ (m : (ℓ : Loc Cert.DyaKernelIdeal.nD Cert.DyaKernelIdeal.τ Cert.DyaKernelIdeal.sig) → Buf (Elt Ideal) ℓ) (g : Dev Cert.DyaKernelIdeal.nD → PrngReg), Pre_DyaKernelIdeal m →
    θ_run (Cert.DyaKernelIdeal.defs (F := Ideal)) (onTc (τ := Cert.DyaKernelIdeal.τ) (Cert.DyaKernelIdeal.main (F := Ideal))) ⟨m, fun _ => 0, g⟩ (fun r => (∀ c : Dev Cert.DyaKernelIdeal.nD,
      r.2.mem ((c.tc : Thread Cert.DyaKernelIdeal.nD Cert.DyaKernelIdeal.τ).loc Cert.DyaKernelIdeal.main_arg0) = m ((c.tc : Thread Cert.DyaKernelIdeal.nD Cert.DyaKernelIdeal.τ).loc Cert.DyaKernelIdeal.main_arg0)
      ∧ r.2.mem ((c.tc : Thread Cert.DyaKernelIdeal.nD Cert.DyaKernelIdeal.τ).loc Cert.DyaKernelIdeal.main_arg1) = m ((c.tc : Thread Cert.DyaKernelIdeal.nD Cert.DyaKernelIdeal.τ).loc Cert.DyaKernelIdeal.main_arg1)
      ∧ r.2.mem ((c.tc : Thread Cert.DyaKernelIdeal.nD Cert.DyaKernelIdeal.τ).loc Cert.DyaKernelIdeal.main_arg2) = m ((c.tc : Thread Cert.DyaKernelIdeal.nD Cert.DyaKernelIdeal.τ).loc Cert.DyaKernelIdeal.main_arg2))
      ∧ r.2.sem = fun _ => 0)

def quiescent_DyaReferenceIdeal [hDyaReferenceIdeal : Cert.DyaReferenceIdeal.Facts] : Prop :=
  ∀ (m : (ℓ : Loc Cert.DyaReferenceIdeal.nD Cert.DyaReferenceIdeal.τ Cert.DyaReferenceIdeal.sig) → Buf (Elt Ideal) ℓ) (g : Dev Cert.DyaReferenceIdeal.nD → PrngReg), Pre_DyaReferenceIdeal m →
    θ_run (Cert.DyaReferenceIdeal.defs (F := Ideal)) (onTc (τ := Cert.DyaReferenceIdeal.τ) (Cert.DyaReferenceIdeal.main (F := Ideal))) ⟨m, fun _ => 0, g⟩ (fun r => (∀ c : Dev Cert.DyaReferenceIdeal.nD,
      r.2.mem ((c.tc : Thread Cert.DyaReferenceIdeal.nD Cert.DyaReferenceIdeal.τ).loc Cert.DyaReferenceIdeal.main_arg0) = m ((c.tc : Thread Cert.DyaReferenceIdeal.nD Cert.DyaReferenceIdeal.τ).loc Cert.DyaReferenceIdeal.main_arg0)
      ∧ r.2.mem ((c.tc : Thread Cert.DyaReferenceIdeal.nD Cert.DyaReferenceIdeal.τ).loc Cert.DyaReferenceIdeal.main_arg1) = m ((c.tc : Thread Cert.DyaReferenceIdeal.nD Cert.DyaReferenceIdeal.τ).loc Cert.DyaReferenceIdeal.main_arg1)
      ∧ r.2.mem ((c.tc : Thread Cert.DyaReferenceIdeal.nD Cert.DyaReferenceIdeal.τ).loc Cert.DyaReferenceIdeal.main_arg2) = m ((c.tc : Thread Cert.DyaReferenceIdeal.nD Cert.DyaReferenceIdeal.τ).loc Cert.DyaReferenceIdeal.main_arg2))
      ∧ r.2.sem = fun _ => 0)

def quiescent_DwprKernel [hDwprKernel : Cert.DwprKernel.Facts] : Prop :=
  ∀ (m : (ℓ : Loc Cert.DwprKernel.nD Cert.DwprKernel.τ Cert.DwprKernel.sig) → Buf (Elt Bits) ℓ) (g : Dev Cert.DwprKernel.nD → PrngReg), Pre_DwprKernel m →
    θ_run (Cert.DwprKernel.defs (F := Bits)) (onTc (τ := Cert.DwprKernel.τ) (Cert.DwprKernel.main (F := Bits))) ⟨m, fun _ => 0, g⟩ (fun r => (∀ c : Dev Cert.DwprKernel.nD,
      r.2.mem ((c.tc : Thread Cert.DwprKernel.nD Cert.DwprKernel.τ).loc Cert.DwprKernel.main_arg0) = m ((c.tc : Thread Cert.DwprKernel.nD Cert.DwprKernel.τ).loc Cert.DwprKernel.main_arg0)
      ∧ r.2.mem ((c.tc : Thread Cert.DwprKernel.nD Cert.DwprKernel.τ).loc Cert.DwprKernel.main_arg1) = m ((c.tc : Thread Cert.DwprKernel.nD Cert.DwprKernel.τ).loc Cert.DwprKernel.main_arg1)
      ∧ r.2.mem ((c.tc : Thread Cert.DwprKernel.nD Cert.DwprKernel.τ).loc Cert.DwprKernel.main_arg2) = m ((c.tc : Thread Cert.DwprKernel.nD Cert.DwprKernel.τ).loc Cert.DwprKernel.main_arg2))
      ∧ r.2.sem = fun _ => 0)

def quiescent_DwprKernelIdeal [hDwprKernelIdeal : Cert.DwprKernelIdeal.Facts] : Prop :=
  ∀ (m : (ℓ : Loc Cert.DwprKernelIdeal.nD Cert.DwprKernelIdeal.τ Cert.DwprKernelIdeal.sig) → Buf (Elt Ideal) ℓ) (g : Dev Cert.DwprKernelIdeal.nD → PrngReg), Pre_DwprKernelIdeal m →
    θ_run (Cert.DwprKernelIdeal.defs (F := Ideal)) (onTc (τ := Cert.DwprKernelIdeal.τ) (Cert.DwprKernelIdeal.main (F := Ideal))) ⟨m, fun _ => 0, g⟩ (fun r => (∀ c : Dev Cert.DwprKernelIdeal.nD,
      r.2.mem ((c.tc : Thread Cert.DwprKernelIdeal.nD Cert.DwprKernelIdeal.τ).loc Cert.DwprKernelIdeal.main_arg0) = m ((c.tc : Thread Cert.DwprKernelIdeal.nD Cert.DwprKernelIdeal.τ).loc Cert.DwprKernelIdeal.main_arg0)
      ∧ r.2.mem ((c.tc : Thread Cert.DwprKernelIdeal.nD Cert.DwprKernelIdeal.τ).loc Cert.DwprKernelIdeal.main_arg1) = m ((c.tc : Thread Cert.DwprKernelIdeal.nD Cert.DwprKernelIdeal.τ).loc Cert.DwprKernelIdeal.main_arg1)
      ∧ r.2.mem ((c.tc : Thread Cert.DwprKernelIdeal.nD Cert.DwprKernelIdeal.τ).loc Cert.DwprKernelIdeal.main_arg2) = m ((c.tc : Thread Cert.DwprKernelIdeal.nD Cert.DwprKernelIdeal.τ).loc Cert.DwprKernelIdeal.main_arg2))
      ∧ r.2.sem = fun _ => 0)

def quiescent_DwprReferenceIdeal [hDwprReferenceIdeal : Cert.DwprReferenceIdeal.Facts] : Prop :=
  ∀ (m : (ℓ : Loc Cert.DwprReferenceIdeal.nD Cert.DwprReferenceIdeal.τ Cert.DwprReferenceIdeal.sig) → Buf (Elt Ideal) ℓ) (g : Dev Cert.DwprReferenceIdeal.nD → PrngReg), Pre_DwprReferenceIdeal m →
    θ_run (Cert.DwprReferenceIdeal.defs (F := Ideal)) (onTc (τ := Cert.DwprReferenceIdeal.τ) (Cert.DwprReferenceIdeal.main (F := Ideal))) ⟨m, fun _ => 0, g⟩ (fun r => (∀ c : Dev Cert.DwprReferenceIdeal.nD,
      r.2.mem ((c.tc : Thread Cert.DwprReferenceIdeal.nD Cert.DwprReferenceIdeal.τ).loc Cert.DwprReferenceIdeal.main_arg0) = m ((c.tc : Thread Cert.DwprReferenceIdeal.nD Cert.DwprReferenceIdeal.τ).loc Cert.DwprReferenceIdeal.main_arg0)
      ∧ r.2.mem ((c.tc : Thread Cert.DwprReferenceIdeal.nD Cert.DwprReferenceIdeal.τ).loc Cert.DwprReferenceIdeal.main_arg1) = m ((c.tc : Thread Cert.DwprReferenceIdeal.nD Cert.DwprReferenceIdeal.τ).loc Cert.DwprReferenceIdeal.main_arg1)
      ∧ r.2.mem ((c.tc : Thread Cert.DwprReferenceIdeal.nD Cert.DwprReferenceIdeal.τ).loc Cert.DwprReferenceIdeal.main_arg2) = m ((c.tc : Thread Cert.DwprReferenceIdeal.nD Cert.DwprReferenceIdeal.τ).loc Cert.DwprReferenceIdeal.main_arg2))
      ∧ r.2.sem = fun _ => 0)

def quiescent_MixoutKernel [hMixoutKernel : Cert.MixoutKernel.Facts] : Prop :=
  ∀ (m : (ℓ : Loc Cert.MixoutKernel.nD Cert.MixoutKernel.τ Cert.MixoutKernel.sig) → Buf (Elt Bits) ℓ) (g : Dev Cert.MixoutKernel.nD → PrngReg), Pre_MixoutKernel m →
    θ_run (Cert.MixoutKernel.defs (F := Bits)) (onTc (τ := Cert.MixoutKernel.τ) (Cert.MixoutKernel.main (F := Bits))) ⟨m, fun _ => 0, g⟩ (fun r => (∀ c : Dev Cert.MixoutKernel.nD,
      r.2.mem ((c.tc : Thread Cert.MixoutKernel.nD Cert.MixoutKernel.τ).loc Cert.MixoutKernel.main_arg0) = m ((c.tc : Thread Cert.MixoutKernel.nD Cert.MixoutKernel.τ).loc Cert.MixoutKernel.main_arg0)
      ∧ r.2.mem ((c.tc : Thread Cert.MixoutKernel.nD Cert.MixoutKernel.τ).loc Cert.MixoutKernel.main_arg1) = m ((c.tc : Thread Cert.MixoutKernel.nD Cert.MixoutKernel.τ).loc Cert.MixoutKernel.main_arg1)
      ∧ r.2.mem ((c.tc : Thread Cert.MixoutKernel.nD Cert.MixoutKernel.τ).loc Cert.MixoutKernel.main_arg2) = m ((c.tc : Thread Cert.MixoutKernel.nD Cert.MixoutKernel.τ).loc Cert.MixoutKernel.main_arg2)
      ∧ r.2.mem ((c.tc : Thread Cert.MixoutKernel.nD Cert.MixoutKernel.τ).loc Cert.MixoutKernel.main_arg3) = m ((c.tc : Thread Cert.MixoutKernel.nD Cert.MixoutKernel.τ).loc Cert.MixoutKernel.main_arg3))
      ∧ r.2.sem = fun _ => 0)

def quiescent_MixoutKernelIdeal [hMixoutKernelIdeal : Cert.MixoutKernelIdeal.Facts] : Prop :=
  ∀ (m : (ℓ : Loc Cert.MixoutKernelIdeal.nD Cert.MixoutKernelIdeal.τ Cert.MixoutKernelIdeal.sig) → Buf (Elt Ideal) ℓ) (g : Dev Cert.MixoutKernelIdeal.nD → PrngReg), Pre_MixoutKernelIdeal m →
    θ_run (Cert.MixoutKernelIdeal.defs (F := Ideal)) (onTc (τ := Cert.MixoutKernelIdeal.τ) (Cert.MixoutKernelIdeal.main (F := Ideal))) ⟨m, fun _ => 0, g⟩ (fun r => (∀ c : Dev Cert.MixoutKernelIdeal.nD,
      r.2.mem ((c.tc : Thread Cert.MixoutKernelIdeal.nD Cert.MixoutKernelIdeal.τ).loc Cert.MixoutKernelIdeal.main_arg0) = m ((c.tc : Thread Cert.MixoutKernelIdeal.nD Cert.MixoutKernelIdeal.τ).loc Cert.MixoutKernelIdeal.main_arg0)
      ∧ r.2.mem ((c.tc : Thread Cert.MixoutKernelIdeal.nD Cert.MixoutKernelIdeal.τ).loc Cert.MixoutKernelIdeal.main_arg1) = m ((c.tc : Thread Cert.MixoutKernelIdeal.nD Cert.MixoutKernelIdeal.τ).loc Cert.MixoutKernelIdeal.main_arg1)
      ∧ r.2.mem ((c.tc : Thread Cert.MixoutKernelIdeal.nD Cert.MixoutKernelIdeal.τ).loc Cert.MixoutKernelIdeal.main_arg2) = m ((c.tc : Thread Cert.MixoutKernelIdeal.nD Cert.MixoutKernelIdeal.τ).loc Cert.MixoutKernelIdeal.main_arg2)
      ∧ r.2.mem ((c.tc : Thread Cert.MixoutKernelIdeal.nD Cert.MixoutKernelIdeal.τ).loc Cert.MixoutKernelIdeal.main_arg3) = m ((c.tc : Thread Cert.MixoutKernelIdeal.nD Cert.MixoutKernelIdeal.τ).loc Cert.MixoutKernelIdeal.main_arg3))
      ∧ r.2.sem = fun _ => 0)

def quiescent_MixoutReferenceIdeal [hMixoutReferenceIdeal : Cert.MixoutReferenceIdeal.Facts] : Prop :=
  ∀ (m : (ℓ : Loc Cert.MixoutReferenceIdeal.nD Cert.MixoutReferenceIdeal.τ Cert.MixoutReferenceIdeal.sig) → Buf (Elt Ideal) ℓ) (g : Dev Cert.MixoutReferenceIdeal.nD → PrngReg), Pre_MixoutReferenceIdeal m →
    θ_run (Cert.MixoutReferenceIdeal.defs (F := Ideal)) (onTc (τ := Cert.MixoutReferenceIdeal.τ) (Cert.MixoutReferenceIdeal.main (F := Ideal))) ⟨m, fun _ => 0, g⟩ (fun r => (∀ c : Dev Cert.MixoutReferenceIdeal.nD,
      r.2.mem ((c.tc : Thread Cert.MixoutReferenceIdeal.nD Cert.MixoutReferenceIdeal.τ).loc Cert.MixoutReferenceIdeal.main_arg0) = m ((c.tc : Thread Cert.MixoutReferenceIdeal.nD Cert.MixoutReferenceIdeal.τ).loc Cert.MixoutReferenceIdeal.main_arg0)
      ∧ r.2.mem ((c.tc : Thread Cert.MixoutReferenceIdeal.nD Cert.MixoutReferenceIdeal.τ).loc Cert.MixoutReferenceIdeal.main_arg1) = m ((c.tc : Thread Cert.MixoutReferenceIdeal.nD Cert.MixoutReferenceIdeal.τ).loc Cert.MixoutReferenceIdeal.main_arg1)
      ∧ r.2.mem ((c.tc : Thread Cert.MixoutReferenceIdeal.nD Cert.MixoutReferenceIdeal.τ).loc Cert.MixoutReferenceIdeal.main_arg2) = m ((c.tc : Thread Cert.MixoutReferenceIdeal.nD Cert.MixoutReferenceIdeal.τ).loc Cert.MixoutReferenceIdeal.main_arg2)
      ∧ r.2.mem ((c.tc : Thread Cert.MixoutReferenceIdeal.nD Cert.MixoutReferenceIdeal.τ).loc Cert.MixoutReferenceIdeal.main_arg3) = m ((c.tc : Thread Cert.MixoutReferenceIdeal.nD Cert.MixoutReferenceIdeal.τ).loc Cert.MixoutReferenceIdeal.main_arg3))
      ∧ r.2.sem = fun _ => 0)

def quiescent_PloraKernel [hPloraKernel : Cert.PloraKernel.Facts] : Prop :=
  ∀ (m : (ℓ : Loc Cert.PloraKernel.nD Cert.PloraKernel.τ Cert.PloraKernel.sig) → Buf (Elt Bits) ℓ) (g : Dev Cert.PloraKernel.nD → PrngReg), Pre_PloraKernel m →
    θ_run (Cert.PloraKernel.defs (F := Bits)) (onTc (τ := Cert.PloraKernel.τ) (Cert.PloraKernel.main (F := Bits))) ⟨m, fun _ => 0, g⟩ (fun r => (∀ c : Dev Cert.PloraKernel.nD,
      r.2.mem ((c.tc : Thread Cert.PloraKernel.nD Cert.PloraKernel.τ).loc Cert.PloraKernel.main_arg0) = m ((c.tc : Thread Cert.PloraKernel.nD Cert.PloraKernel.τ).loc Cert.PloraKernel.main_arg0)
      ∧ r.2.mem ((c.tc : Thread Cert.PloraKernel.nD Cert.PloraKernel.τ).loc Cert.PloraKernel.main_arg1) = m ((c.tc : Thread Cert.PloraKernel.nD Cert.PloraKernel.τ).loc Cert.PloraKernel.main_arg1))
      ∧ r.2.sem = fun _ => 0)

def quiescent_PloraKernelIdeal [hPloraKernelIdeal : Cert.PloraKernelIdeal.Facts] : Prop :=
  ∀ (m : (ℓ : Loc Cert.PloraKernelIdeal.nD Cert.PloraKernelIdeal.τ Cert.PloraKernelIdeal.sig) → Buf (Elt Ideal) ℓ) (g : Dev Cert.PloraKernelIdeal.nD → PrngReg), Pre_PloraKernelIdeal m →
    θ_run (Cert.PloraKernelIdeal.defs (F := Ideal)) (onTc (τ := Cert.PloraKernelIdeal.τ) (Cert.PloraKernelIdeal.main (F := Ideal))) ⟨m, fun _ => 0, g⟩ (fun r => (∀ c : Dev Cert.PloraKernelIdeal.nD,
      r.2.mem ((c.tc : Thread Cert.PloraKernelIdeal.nD Cert.PloraKernelIdeal.τ).loc Cert.PloraKernelIdeal.main_arg0) = m ((c.tc : Thread Cert.PloraKernelIdeal.nD Cert.PloraKernelIdeal.τ).loc Cert.PloraKernelIdeal.main_arg0)
      ∧ r.2.mem ((c.tc : Thread Cert.PloraKernelIdeal.nD Cert.PloraKernelIdeal.τ).loc Cert.PloraKernelIdeal.main_arg1) = m ((c.tc : Thread Cert.PloraKernelIdeal.nD Cert.PloraKernelIdeal.τ).loc Cert.PloraKernelIdeal.main_arg1))
      ∧ r.2.sem = fun _ => 0)

def quiescent_PloraReferenceIdeal [hPloraReferenceIdeal : Cert.PloraReferenceIdeal.Facts] : Prop :=
  ∀ (m : (ℓ : Loc Cert.PloraReferenceIdeal.nD Cert.PloraReferenceIdeal.τ Cert.PloraReferenceIdeal.sig) → Buf (Elt Ideal) ℓ) (g : Dev Cert.PloraReferenceIdeal.nD → PrngReg), Pre_PloraReferenceIdeal m →
    θ_run (Cert.PloraReferenceIdeal.defs (F := Ideal)) (onTc (τ := Cert.PloraReferenceIdeal.τ) (Cert.PloraReferenceIdeal.main (F := Ideal))) ⟨m, fun _ => 0, g⟩ (fun r => (∀ c : Dev Cert.PloraReferenceIdeal.nD,
      r.2.mem ((c.tc : Thread Cert.PloraReferenceIdeal.nD Cert.PloraReferenceIdeal.τ).loc Cert.PloraReferenceIdeal.main_arg0) = m ((c.tc : Thread Cert.PloraReferenceIdeal.nD Cert.PloraReferenceIdeal.τ).loc Cert.PloraReferenceIdeal.main_arg0)
      ∧ r.2.mem ((c.tc : Thread Cert.PloraReferenceIdeal.nD Cert.PloraReferenceIdeal.τ).loc Cert.PloraReferenceIdeal.main_arg1) = m ((c.tc : Thread Cert.PloraReferenceIdeal.nD Cert.PloraReferenceIdeal.τ).loc Cert.PloraReferenceIdeal.main_arg1))
      ∧ r.2.sem = fun _ => 0)

def quiescent_DhloraKernel [hDhloraKernel : Cert.DhloraKernel.Facts] : Prop :=
  ∀ (m : (ℓ : Loc Cert.DhloraKernel.nD Cert.DhloraKernel.τ Cert.DhloraKernel.sig) → Buf (Elt Bits) ℓ) (g : Dev Cert.DhloraKernel.nD → PrngReg), Pre_DhloraKernel m →
    θ_run (Cert.DhloraKernel.defs (F := Bits)) (onTc (τ := Cert.DhloraKernel.τ) (Cert.DhloraKernel.main (F := Bits))) ⟨m, fun _ => 0, g⟩ (fun r => (∀ c : Dev Cert.DhloraKernel.nD,
      r.2.mem ((c.tc : Thread Cert.DhloraKernel.nD Cert.DhloraKernel.τ).loc Cert.DhloraKernel.main_arg0) = m ((c.tc : Thread Cert.DhloraKernel.nD Cert.DhloraKernel.τ).loc Cert.DhloraKernel.main_arg0)
      ∧ r.2.mem ((c.tc : Thread Cert.DhloraKernel.nD Cert.DhloraKernel.τ).loc Cert.DhloraKernel.main_arg1) = m ((c.tc : Thread Cert.DhloraKernel.nD Cert.DhloraKernel.τ).loc Cert.DhloraKernel.main_arg1)
      ∧ r.2.mem ((c.tc : Thread Cert.DhloraKernel.nD Cert.DhloraKernel.τ).loc Cert.DhloraKernel.main_arg2) = m ((c.tc : Thread Cert.DhloraKernel.nD Cert.DhloraKernel.τ).loc Cert.DhloraKernel.main_arg2))
      ∧ r.2.sem = fun _ => 0)

def quiescent_DhloraKernelIdeal [hDhloraKernelIdeal : Cert.DhloraKernelIdeal.Facts] : Prop :=
  ∀ (m : (ℓ : Loc Cert.DhloraKernelIdeal.nD Cert.DhloraKernelIdeal.τ Cert.DhloraKernelIdeal.sig) → Buf (Elt Ideal) ℓ) (g : Dev Cert.DhloraKernelIdeal.nD → PrngReg), Pre_DhloraKernelIdeal m →
    θ_run (Cert.DhloraKernelIdeal.defs (F := Ideal)) (onTc (τ := Cert.DhloraKernelIdeal.τ) (Cert.DhloraKernelIdeal.main (F := Ideal))) ⟨m, fun _ => 0, g⟩ (fun r => (∀ c : Dev Cert.DhloraKernelIdeal.nD,
      r.2.mem ((c.tc : Thread Cert.DhloraKernelIdeal.nD Cert.DhloraKernelIdeal.τ).loc Cert.DhloraKernelIdeal.main_arg0) = m ((c.tc : Thread Cert.DhloraKernelIdeal.nD Cert.DhloraKernelIdeal.τ).loc Cert.DhloraKernelIdeal.main_arg0)
      ∧ r.2.mem ((c.tc : Thread Cert.DhloraKernelIdeal.nD Cert.DhloraKernelIdeal.τ).loc Cert.DhloraKernelIdeal.main_arg1) = m ((c.tc : Thread Cert.DhloraKernelIdeal.nD Cert.DhloraKernelIdeal.τ).loc Cert.DhloraKernelIdeal.main_arg1)
      ∧ r.2.mem ((c.tc : Thread Cert.DhloraKernelIdeal.nD Cert.DhloraKernelIdeal.τ).loc Cert.DhloraKernelIdeal.main_arg2) = m ((c.tc : Thread Cert.DhloraKernelIdeal.nD Cert.DhloraKernelIdeal.τ).loc Cert.DhloraKernelIdeal.main_arg2))
      ∧ r.2.sem = fun _ => 0)

def quiescent_DhloraReferenceIdeal [hDhloraReferenceIdeal : Cert.DhloraReferenceIdeal.Facts] : Prop :=
  ∀ (m : (ℓ : Loc Cert.DhloraReferenceIdeal.nD Cert.DhloraReferenceIdeal.τ Cert.DhloraReferenceIdeal.sig) → Buf (Elt Ideal) ℓ) (g : Dev Cert.DhloraReferenceIdeal.nD → PrngReg), Pre_DhloraReferenceIdeal m →
    θ_run (Cert.DhloraReferenceIdeal.defs (F := Ideal)) (onTc (τ := Cert.DhloraReferenceIdeal.τ) (Cert.DhloraReferenceIdeal.main (F := Ideal))) ⟨m, fun _ => 0, g⟩ (fun r => (∀ c : Dev Cert.DhloraReferenceIdeal.nD,
      r.2.mem ((c.tc : Thread Cert.DhloraReferenceIdeal.nD Cert.DhloraReferenceIdeal.τ).loc Cert.DhloraReferenceIdeal.main_arg0) = m ((c.tc : Thread Cert.DhloraReferenceIdeal.nD Cert.DhloraReferenceIdeal.τ).loc Cert.DhloraReferenceIdeal.main_arg0)
      ∧ r.2.mem ((c.tc : Thread Cert.DhloraReferenceIdeal.nD Cert.DhloraReferenceIdeal.τ).loc Cert.DhloraReferenceIdeal.main_arg1) = m ((c.tc : Thread Cert.DhloraReferenceIdeal.nD Cert.DhloraReferenceIdeal.τ).loc Cert.DhloraReferenceIdeal.main_arg1)
      ∧ r.2.mem ((c.tc : Thread Cert.DhloraReferenceIdeal.nD Cert.DhloraReferenceIdeal.τ).loc Cert.DhloraReferenceIdeal.main_arg2) = m ((c.tc : Thread Cert.DhloraReferenceIdeal.nD Cert.DhloraReferenceIdeal.τ).loc Cert.DhloraReferenceIdeal.main_arg2))
      ∧ r.2.sem = fun _ => 0)

def quiescent_DwloraKernel [hDwloraKernel : Cert.DwloraKernel.Facts] : Prop :=
  ∀ (m : (ℓ : Loc Cert.DwloraKernel.nD Cert.DwloraKernel.τ Cert.DwloraKernel.sig) → Buf (Elt Bits) ℓ) (g : Dev Cert.DwloraKernel.nD → PrngReg), Pre_DwloraKernel m →
    θ_run (Cert.DwloraKernel.defs (F := Bits)) (onTc (τ := Cert.DwloraKernel.τ) (Cert.DwloraKernel.main (F := Bits))) ⟨m, fun _ => 0, g⟩ (fun r => (∀ c : Dev Cert.DwloraKernel.nD,
      r.2.mem ((c.tc : Thread Cert.DwloraKernel.nD Cert.DwloraKernel.τ).loc Cert.DwloraKernel.main_arg0) = m ((c.tc : Thread Cert.DwloraKernel.nD Cert.DwloraKernel.τ).loc Cert.DwloraKernel.main_arg0)
      ∧ r.2.mem ((c.tc : Thread Cert.DwloraKernel.nD Cert.DwloraKernel.τ).loc Cert.DwloraKernel.main_arg1) = m ((c.tc : Thread Cert.DwloraKernel.nD Cert.DwloraKernel.τ).loc Cert.DwloraKernel.main_arg1)
      ∧ r.2.mem ((c.tc : Thread Cert.DwloraKernel.nD Cert.DwloraKernel.τ).loc Cert.DwloraKernel.main_arg2) = m ((c.tc : Thread Cert.DwloraKernel.nD Cert.DwloraKernel.τ).loc Cert.DwloraKernel.main_arg2))
      ∧ r.2.sem = fun _ => 0)

def quiescent_DwloraKernelIdeal [hDwloraKernelIdeal : Cert.DwloraKernelIdeal.Facts] : Prop :=
  ∀ (m : (ℓ : Loc Cert.DwloraKernelIdeal.nD Cert.DwloraKernelIdeal.τ Cert.DwloraKernelIdeal.sig) → Buf (Elt Ideal) ℓ) (g : Dev Cert.DwloraKernelIdeal.nD → PrngReg), Pre_DwloraKernelIdeal m →
    θ_run (Cert.DwloraKernelIdeal.defs (F := Ideal)) (onTc (τ := Cert.DwloraKernelIdeal.τ) (Cert.DwloraKernelIdeal.main (F := Ideal))) ⟨m, fun _ => 0, g⟩ (fun r => (∀ c : Dev Cert.DwloraKernelIdeal.nD,
      r.2.mem ((c.tc : Thread Cert.DwloraKernelIdeal.nD Cert.DwloraKernelIdeal.τ).loc Cert.DwloraKernelIdeal.main_arg0) = m ((c.tc : Thread Cert.DwloraKernelIdeal.nD Cert.DwloraKernelIdeal.τ).loc Cert.DwloraKernelIdeal.main_arg0)
      ∧ r.2.mem ((c.tc : Thread Cert.DwloraKernelIdeal.nD Cert.DwloraKernelIdeal.τ).loc Cert.DwloraKernelIdeal.main_arg1) = m ((c.tc : Thread Cert.DwloraKernelIdeal.nD Cert.DwloraKernelIdeal.τ).loc Cert.DwloraKernelIdeal.main_arg1)
      ∧ r.2.mem ((c.tc : Thread Cert.DwloraKernelIdeal.nD Cert.DwloraKernelIdeal.τ).loc Cert.DwloraKernelIdeal.main_arg2) = m ((c.tc : Thread Cert.DwloraKernelIdeal.nD Cert.DwloraKernelIdeal.τ).loc Cert.DwloraKernelIdeal.main_arg2))
      ∧ r.2.sem = fun _ => 0)

def quiescent_DwloraReferenceIdeal [hDwloraReferenceIdeal : Cert.DwloraReferenceIdeal.Facts] : Prop :=
  ∀ (m : (ℓ : Loc Cert.DwloraReferenceIdeal.nD Cert.DwloraReferenceIdeal.τ Cert.DwloraReferenceIdeal.sig) → Buf (Elt Ideal) ℓ) (g : Dev Cert.DwloraReferenceIdeal.nD → PrngReg), Pre_DwloraReferenceIdeal m →
    θ_run (Cert.DwloraReferenceIdeal.defs (F := Ideal)) (onTc (τ := Cert.DwloraReferenceIdeal.τ) (Cert.DwloraReferenceIdeal.main (F := Ideal))) ⟨m, fun _ => 0, g⟩ (fun r => (∀ c : Dev Cert.DwloraReferenceIdeal.nD,
      r.2.mem ((c.tc : Thread Cert.DwloraReferenceIdeal.nD Cert.DwloraReferenceIdeal.τ).loc Cert.DwloraReferenceIdeal.main_arg0) = m ((c.tc : Thread Cert.DwloraReferenceIdeal.nD Cert.DwloraReferenceIdeal.τ).loc Cert.DwloraReferenceIdeal.main_arg0)
      ∧ r.2.mem ((c.tc : Thread Cert.DwloraReferenceIdeal.nD Cert.DwloraReferenceIdeal.τ).loc Cert.DwloraReferenceIdeal.main_arg1) = m ((c.tc : Thread Cert.DwloraReferenceIdeal.nD Cert.DwloraReferenceIdeal.τ).loc Cert.DwloraReferenceIdeal.main_arg1)
      ∧ r.2.mem ((c.tc : Thread Cert.DwloraReferenceIdeal.nD Cert.DwloraReferenceIdeal.τ).loc Cert.DwloraReferenceIdeal.main_arg2) = m ((c.tc : Thread Cert.DwloraReferenceIdeal.nD Cert.DwloraReferenceIdeal.τ).loc Cert.DwloraReferenceIdeal.main_arg2))
      ∧ r.2.sem = fun _ => 0)

def quiescent_DwpaKernel [hDwpaKernel : Cert.DwpaKernel.Facts] : Prop :=
  ∀ (m : (ℓ : Loc Cert.DwpaKernel.nD Cert.DwpaKernel.τ Cert.DwpaKernel.sig) → Buf (Elt Bits) ℓ) (g : Dev Cert.DwpaKernel.nD → PrngReg), Pre_DwpaKernel m →
    θ_run (Cert.DwpaKernel.defs (F := Bits)) (onTc (τ := Cert.DwpaKernel.τ) (Cert.DwpaKernel.main (F := Bits))) ⟨m, fun _ => 0, g⟩ (fun r => (∀ c : Dev Cert.DwpaKernel.nD,
      r.2.mem ((c.tc : Thread Cert.DwpaKernel.nD Cert.DwpaKernel.τ).loc Cert.DwpaKernel.main_arg0) = m ((c.tc : Thread Cert.DwpaKernel.nD Cert.DwpaKernel.τ).loc Cert.DwpaKernel.main_arg0)
      ∧ r.2.mem ((c.tc : Thread Cert.DwpaKernel.nD Cert.DwpaKernel.τ).loc Cert.DwpaKernel.main_arg1) = m ((c.tc : Thread Cert.DwpaKernel.nD Cert.DwpaKernel.τ).loc Cert.DwpaKernel.main_arg1)
      ∧ r.2.mem ((c.tc : Thread Cert.DwpaKernel.nD Cert.DwpaKernel.τ).loc Cert.DwpaKernel.main_arg2) = m ((c.tc : Thread Cert.DwpaKernel.nD Cert.DwpaKernel.τ).loc Cert.DwpaKernel.main_arg2))
      ∧ r.2.sem = fun _ => 0)

def quiescent_DwpaKernelIdeal [hDwpaKernelIdeal : Cert.DwpaKernelIdeal.Facts] : Prop :=
  ∀ (m : (ℓ : Loc Cert.DwpaKernelIdeal.nD Cert.DwpaKernelIdeal.τ Cert.DwpaKernelIdeal.sig) → Buf (Elt Ideal) ℓ) (g : Dev Cert.DwpaKernelIdeal.nD → PrngReg), Pre_DwpaKernelIdeal m →
    θ_run (Cert.DwpaKernelIdeal.defs (F := Ideal)) (onTc (τ := Cert.DwpaKernelIdeal.τ) (Cert.DwpaKernelIdeal.main (F := Ideal))) ⟨m, fun _ => 0, g⟩ (fun r => (∀ c : Dev Cert.DwpaKernelIdeal.nD,
      r.2.mem ((c.tc : Thread Cert.DwpaKernelIdeal.nD Cert.DwpaKernelIdeal.τ).loc Cert.DwpaKernelIdeal.main_arg0) = m ((c.tc : Thread Cert.DwpaKernelIdeal.nD Cert.DwpaKernelIdeal.τ).loc Cert.DwpaKernelIdeal.main_arg0)
      ∧ r.2.mem ((c.tc : Thread Cert.DwpaKernelIdeal.nD Cert.DwpaKernelIdeal.τ).loc Cert.DwpaKernelIdeal.main_arg1) = m ((c.tc : Thread Cert.DwpaKernelIdeal.nD Cert.DwpaKernelIdeal.τ).loc Cert.DwpaKernelIdeal.main_arg1)
      ∧ r.2.mem ((c.tc : Thread Cert.DwpaKernelIdeal.nD Cert.DwpaKernelIdeal.τ).loc Cert.DwpaKernelIdeal.main_arg2) = m ((c.tc : Thread Cert.DwpaKernelIdeal.nD Cert.DwpaKernelIdeal.τ).loc Cert.DwpaKernelIdeal.main_arg2))
      ∧ r.2.sem = fun _ => 0)

def quiescent_DwpaReferenceIdeal [hDwpaReferenceIdeal : Cert.DwpaReferenceIdeal.Facts] : Prop :=
  ∀ (m : (ℓ : Loc Cert.DwpaReferenceIdeal.nD Cert.DwpaReferenceIdeal.τ Cert.DwpaReferenceIdeal.sig) → Buf (Elt Ideal) ℓ) (g : Dev Cert.DwpaReferenceIdeal.nD → PrngReg), Pre_DwpaReferenceIdeal m →
    θ_run (Cert.DwpaReferenceIdeal.defs (F := Ideal)) (onTc (τ := Cert.DwpaReferenceIdeal.τ) (Cert.DwpaReferenceIdeal.main (F := Ideal))) ⟨m, fun _ => 0, g⟩ (fun r => (∀ c : Dev Cert.DwpaReferenceIdeal.nD,
      r.2.mem ((c.tc : Thread Cert.DwpaReferenceIdeal.nD Cert.DwpaReferenceIdeal.τ).loc Cert.DwpaReferenceIdeal.main_arg0) = m ((c.tc : Thread Cert.DwpaReferenceIdeal.nD Cert.DwpaReferenceIdeal.τ).loc Cert.DwpaReferenceIdeal.main_arg0)
      ∧ r.2.mem ((c.tc : Thread Cert.DwpaReferenceIdeal.nD Cert.DwpaReferenceIdeal.τ).loc Cert.DwpaReferenceIdeal.main_arg1) = m ((c.tc : Thread Cert.DwpaReferenceIdeal.nD Cert.DwpaReferenceIdeal.τ).loc Cert.DwpaReferenceIdeal.main_arg1)
      ∧ r.2.mem ((c.tc : Thread Cert.DwpaReferenceIdeal.nD Cert.DwpaReferenceIdeal.τ).loc Cert.DwpaReferenceIdeal.main_arg2) = m ((c.tc : Thread Cert.DwpaReferenceIdeal.nD Cert.DwpaReferenceIdeal.τ).loc Cert.DwpaReferenceIdeal.main_arg2))
      ∧ r.2.sem = fun _ => 0)

def quiescent_ProjbKernel [hProjbKernel : Cert.ProjbKernel.Facts] : Prop :=
  ∀ (m : (ℓ : Loc Cert.ProjbKernel.nD Cert.ProjbKernel.τ Cert.ProjbKernel.sig) → Buf (Elt Bits) ℓ) (g : Dev Cert.ProjbKernel.nD → PrngReg), Pre_ProjbKernel m →
    θ_run (Cert.ProjbKernel.defs (F := Bits)) (onTc (τ := Cert.ProjbKernel.τ) (Cert.ProjbKernel.main (F := Bits))) ⟨m, fun _ => 0, g⟩ (fun r => (∀ c : Dev Cert.ProjbKernel.nD,
      r.2.mem ((c.tc : Thread Cert.ProjbKernel.nD Cert.ProjbKernel.τ).loc Cert.ProjbKernel.main_arg0) = m ((c.tc : Thread Cert.ProjbKernel.nD Cert.ProjbKernel.τ).loc Cert.ProjbKernel.main_arg0)
      ∧ r.2.mem ((c.tc : Thread Cert.ProjbKernel.nD Cert.ProjbKernel.τ).loc Cert.ProjbKernel.main_arg1) = m ((c.tc : Thread Cert.ProjbKernel.nD Cert.ProjbKernel.τ).loc Cert.ProjbKernel.main_arg1)
      ∧ r.2.mem ((c.tc : Thread Cert.ProjbKernel.nD Cert.ProjbKernel.τ).loc Cert.ProjbKernel.main_arg2) = m ((c.tc : Thread Cert.ProjbKernel.nD Cert.ProjbKernel.τ).loc Cert.ProjbKernel.main_arg2)
      ∧ r.2.mem ((c.tc : Thread Cert.ProjbKernel.nD Cert.ProjbKernel.τ).loc Cert.ProjbKernel.main_arg3) = m ((c.tc : Thread Cert.ProjbKernel.nD Cert.ProjbKernel.τ).loc Cert.ProjbKernel.main_arg3)
      ∧ r.2.mem ((c.tc : Thread Cert.ProjbKernel.nD Cert.ProjbKernel.τ).loc Cert.ProjbKernel.main_arg4) = m ((c.tc : Thread Cert.ProjbKernel.nD Cert.ProjbKernel.τ).loc Cert.ProjbKernel.main_arg4))
      ∧ r.2.sem = fun _ => 0)

def quiescent_ProjbKernelIdeal [hProjbKernelIdeal : Cert.ProjbKernelIdeal.Facts] : Prop :=
  ∀ (m : (ℓ : Loc Cert.ProjbKernelIdeal.nD Cert.ProjbKernelIdeal.τ Cert.ProjbKernelIdeal.sig) → Buf (Elt Ideal) ℓ) (g : Dev Cert.ProjbKernelIdeal.nD → PrngReg), Pre_ProjbKernelIdeal m →
    θ_run (Cert.ProjbKernelIdeal.defs (F := Ideal)) (onTc (τ := Cert.ProjbKernelIdeal.τ) (Cert.ProjbKernelIdeal.main (F := Ideal))) ⟨m, fun _ => 0, g⟩ (fun r => (∀ c : Dev Cert.ProjbKernelIdeal.nD,
      r.2.mem ((c.tc : Thread Cert.ProjbKernelIdeal.nD Cert.ProjbKernelIdeal.τ).loc Cert.ProjbKernelIdeal.main_arg0) = m ((c.tc : Thread Cert.ProjbKernelIdeal.nD Cert.ProjbKernelIdeal.τ).loc Cert.ProjbKernelIdeal.main_arg0)
      ∧ r.2.mem ((c.tc : Thread Cert.ProjbKernelIdeal.nD Cert.ProjbKernelIdeal.τ).loc Cert.ProjbKernelIdeal.main_arg1) = m ((c.tc : Thread Cert.ProjbKernelIdeal.nD Cert.ProjbKernelIdeal.τ).loc Cert.ProjbKernelIdeal.main_arg1)
      ∧ r.2.mem ((c.tc : Thread Cert.ProjbKernelIdeal.nD Cert.ProjbKernelIdeal.τ).loc Cert.ProjbKernelIdeal.main_arg2) = m ((c.tc : Thread Cert.ProjbKernelIdeal.nD Cert.ProjbKernelIdeal.τ).loc Cert.ProjbKernelIdeal.main_arg2)
      ∧ r.2.mem ((c.tc : Thread Cert.ProjbKernelIdeal.nD Cert.ProjbKernelIdeal.τ).loc Cert.ProjbKernelIdeal.main_arg3) = m ((c.tc : Thread Cert.ProjbKernelIdeal.nD Cert.ProjbKernelIdeal.τ).loc Cert.ProjbKernelIdeal.main_arg3)
      ∧ r.2.mem ((c.tc : Thread Cert.ProjbKernelIdeal.nD Cert.ProjbKernelIdeal.τ).loc Cert.ProjbKernelIdeal.main_arg4) = m ((c.tc : Thread Cert.ProjbKernelIdeal.nD Cert.ProjbKernelIdeal.τ).loc Cert.ProjbKernelIdeal.main_arg4))
      ∧ r.2.sem = fun _ => 0)

def quiescent_ProjbReferenceIdeal [hProjbReferenceIdeal : Cert.ProjbReferenceIdeal.Facts] : Prop :=
  ∀ (m : (ℓ : Loc Cert.ProjbReferenceIdeal.nD Cert.ProjbReferenceIdeal.τ Cert.ProjbReferenceIdeal.sig) → Buf (Elt Ideal) ℓ) (g : Dev Cert.ProjbReferenceIdeal.nD → PrngReg), Pre_ProjbReferenceIdeal m →
    θ_run (Cert.ProjbReferenceIdeal.defs (F := Ideal)) (onTc (τ := Cert.ProjbReferenceIdeal.τ) (Cert.ProjbReferenceIdeal.main (F := Ideal))) ⟨m, fun _ => 0, g⟩ (fun r => (∀ c : Dev Cert.ProjbReferenceIdeal.nD,
      r.2.mem ((c.tc : Thread Cert.ProjbReferenceIdeal.nD Cert.ProjbReferenceIdeal.τ).loc Cert.ProjbReferenceIdeal.main_arg0) = m ((c.tc : Thread Cert.ProjbReferenceIdeal.nD Cert.ProjbReferenceIdeal.τ).loc Cert.ProjbReferenceIdeal.main_arg0)
      ∧ r.2.mem ((c.tc : Thread Cert.ProjbReferenceIdeal.nD Cert.ProjbReferenceIdeal.τ).loc Cert.ProjbReferenceIdeal.main_arg1) = m ((c.tc : Thread Cert.ProjbReferenceIdeal.nD Cert.ProjbReferenceIdeal.τ).loc Cert.ProjbReferenceIdeal.main_arg1)
      ∧ r.2.mem ((c.tc : Thread Cert.ProjbReferenceIdeal.nD Cert.ProjbReferenceIdeal.τ).loc Cert.ProjbReferenceIdeal.main_arg2) = m ((c.tc : Thread Cert.ProjbReferenceIdeal.nD Cert.ProjbReferenceIdeal.τ).loc Cert.ProjbReferenceIdeal.main_arg2)
      ∧ r.2.mem ((c.tc : Thread Cert.ProjbReferenceIdeal.nD Cert.ProjbReferenceIdeal.τ).loc Cert.ProjbReferenceIdeal.main_arg3) = m ((c.tc : Thread Cert.ProjbReferenceIdeal.nD Cert.ProjbReferenceIdeal.τ).loc Cert.ProjbReferenceIdeal.main_arg3)
      ∧ r.2.mem ((c.tc : Thread Cert.ProjbReferenceIdeal.nD Cert.ProjbReferenceIdeal.τ).loc Cert.ProjbReferenceIdeal.main_arg4) = m ((c.tc : Thread Cert.ProjbReferenceIdeal.nD Cert.ProjbReferenceIdeal.τ).loc Cert.ProjbReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v87_0)) (v1 : (c : Dev Cert.KernelIdeal.nD) → Buf (Elt Ideal) ((c.tc : Thread Cert.KernelIdeal.nD Cert.KernelIdeal.τ).loc Cert.KernelIdeal.main_v87_1)) (v2 : (c : Dev Cert.KernelIdeal.nD) → Buf (Elt Ideal) ((c.tc : Thread Cert.KernelIdeal.nD Cert.KernelIdeal.τ).loc Cert.KernelIdeal.main_v87_2)) (v3 : (c : Dev Cert.KernelIdeal.nD) → Buf (Elt Ideal) ((c.tc : Thread Cert.KernelIdeal.nD Cert.KernelIdeal.τ).loc Cert.KernelIdeal.main_v87_3)) (v4 : (c : Dev Cert.KernelIdeal.nD) → Buf (Elt Ideal) ((c.tc : Thread Cert.KernelIdeal.nD Cert.KernelIdeal.τ).loc Cert.KernelIdeal.main_v87_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87_0) = v0 c
          ∧ r.2.mem ((c.tc : Thread Cert.KernelIdeal.nD Cert.KernelIdeal.τ).loc Cert.KernelIdeal.main_v87_1) = v1 c
          ∧ r.2.mem ((c.tc : Thread Cert.KernelIdeal.nD Cert.KernelIdeal.τ).loc Cert.KernelIdeal.main_v87_2) = v2 c
          ∧ r.2.mem ((c.tc : Thread Cert.KernelIdeal.nD Cert.KernelIdeal.τ).loc Cert.KernelIdeal.main_v87_3) = v3 c
          ∧ r.2.mem ((c.tc : Thread Cert.KernelIdeal.nD Cert.KernelIdeal.τ).loc Cert.KernelIdeal.main_v87_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v159) = v3 c
          ∧ r.2.mem ((c.tc : Thread Cert.ReferenceIdeal.nD Cert.ReferenceIdeal.τ).loc Cert.ReferenceIdeal.main_v160) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DactKernel_DactKernelIdeal : Prop :=
  True

def algebraic_DactKernelIdeal_DactReferenceIdeal_pre_finite_dact [hDactKernelIdeal : Cert.DactKernelIdeal.Facts] [hDactReferenceIdeal : Cert.DactReferenceIdeal.Facts] [hPre_finite_dact : Cert.Pre_finite_dact.Facts] : Prop :=
  ∀ (m : (ℓ : Loc Cert.DactKernelIdeal.nD Cert.DactKernelIdeal.τ Cert.DactKernelIdeal.sig) → Buf (Elt Ideal) ℓ) (g : Dev Cert.DactKernelIdeal.nD → PrngReg)
    (m' : (ℓ : Loc Cert.DactReferenceIdeal.nD Cert.DactReferenceIdeal.τ Cert.DactReferenceIdeal.sig) → Buf (Elt Ideal) ℓ) (g' : Dev Cert.DactReferenceIdeal.nD → PrngReg), Pre_DactKernelIdeal_finite_dact m →
    (∀ c : Dev Cert.DactKernelIdeal.nD,
      m' ((c.tc : Thread Cert.DactReferenceIdeal.nD Cert.DactReferenceIdeal.τ).loc Cert.DactReferenceIdeal.main_arg0) = m ((c.tc : Thread Cert.DactKernelIdeal.nD Cert.DactKernelIdeal.τ).loc Cert.DactKernelIdeal.main_arg0)
      ∧ m' ((c.tc : Thread Cert.DactReferenceIdeal.nD Cert.DactReferenceIdeal.τ).loc Cert.DactReferenceIdeal.main_arg1) = m ((c.tc : Thread Cert.DactKernelIdeal.nD Cert.DactKernelIdeal.τ).loc Cert.DactKernelIdeal.main_arg1)
      ∧ m' ((c.tc : Thread Cert.DactReferenceIdeal.nD Cert.DactReferenceIdeal.τ).loc Cert.DactReferenceIdeal.main_arg2) = m ((c.tc : Thread Cert.DactKernelIdeal.nD Cert.DactKernelIdeal.τ).loc Cert.DactKernelIdeal.main_arg2)
      ∧ m' ((c.tc : Thread Cert.DactReferenceIdeal.nD Cert.DactReferenceIdeal.τ).loc Cert.DactReferenceIdeal.main_arg3) = m ((c.tc : Thread Cert.DactKernelIdeal.nD Cert.DactKernelIdeal.τ).loc Cert.DactKernelIdeal.main_arg3)) →
    ∃ (v0 : (c : Dev Cert.DactKernelIdeal.nD) → Buf (Elt Ideal) ((c.tc : Thread Cert.DactKernelIdeal.nD Cert.DactKernelIdeal.τ).loc Cert.DactKernelIdeal.main_v4)),
      θ_run (Cert.DactKernelIdeal.defs (F := Ideal)) (onTc (τ := Cert.DactKernelIdeal.τ) (Cert.DactKernelIdeal.main (F := Ideal))) ⟨m, fun _ => 0, g⟩ (fun r => ∀ c : Dev Cert.DactKernelIdeal.nD,
          r.2.mem ((c.tc : Thread Cert.DactKernelIdeal.nD Cert.DactKernelIdeal.τ).loc Cert.DactKernelIdeal.main_v4) = v0 c
          ∧ r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
          ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1)
          ∧ r.2.mem ((c.tc : Thread Cert.DactKernelIdeal.nD Cert.DactKernelIdeal.τ).loc Cert.DactKernelIdeal.main_arg2) = m ((c.tc : Thread Cert.DactKernelIdeal.nD Cert.DactKernelIdeal.τ).loc Cert.DactKernelIdeal.main_arg2)
          ∧ r.2.mem ((c.tc : Thread Cert.DactKernelIdeal.nD Cert.DactKernelIdeal.τ).loc Cert.DactKernelIdeal.main_arg3) = m ((c.tc : Thread Cert.DactKernelIdeal.nD Cert.DactKernelIdeal.τ).loc Cert.DactKernelIdeal.main_arg3))
      ∧ θ_run (Cert.DactReferenceIdeal.defs (F := Ideal)) (onTc (τ := Cert.DactReferenceIdeal.τ) (Cert.DactReferenceIdeal.main (F := Ideal))) ⟨m', fun _ => 0, g'⟩ (fun r => ∀ c : Dev Cert.DactReferenceIdeal.nD,
          r.2.mem ((c.tc : Thread Cert.DactReferenceIdeal.nD Cert.DactReferenceIdeal.τ).loc Cert.DactReferenceIdeal.main_v14) = v0 c
          ∧ r.2.mem ((c.tc : Thread Cert.DactReferenceIdeal.nD Cert.DactReferenceIdeal.τ).loc Cert.DactReferenceIdeal.main_arg0) = m' ((c.tc : Thread Cert.DactReferenceIdeal.nD Cert.DactReferenceIdeal.τ).loc Cert.DactReferenceIdeal.main_arg0)
          ∧ r.2.mem ((c.tc : Thread Cert.DactReferenceIdeal.nD Cert.DactReferenceIdeal.τ).loc Cert.DactReferenceIdeal.main_arg1) = m' ((c.tc : Thread Cert.DactReferenceIdeal.nD Cert.DactReferenceIdeal.τ).loc Cert.DactReferenceIdeal.main_arg1)
          ∧ r.2.mem ((c.tc : Thread Cert.DactReferenceIdeal.nD Cert.DactReferenceIdeal.τ).loc Cert.DactReferenceIdeal.main_arg2) = m' ((c.tc : Thread Cert.DactReferenceIdeal.nD Cert.DactReferenceIdeal.τ).loc Cert.DactReferenceIdeal.main_arg2)
          ∧ r.2.mem ((c.tc : Thread Cert.DactReferenceIdeal.nD Cert.DactReferenceIdeal.τ).loc Cert.DactReferenceIdeal.main_arg3) = m' ((c.tc : Thread Cert.DactReferenceIdeal.nD Cert.DactReferenceIdeal.τ).loc Cert.DactReferenceIdeal.main_arg3))

def preserves_DnKernel_DnKernelIdeal : Prop :=
  True

def algebraic_DnKernelIdeal_DnReferenceIdeal [hDnKernelIdeal : Cert.DnKernelIdeal.Facts] [hDnReferenceIdeal : Cert.DnReferenceIdeal.Facts] : Prop :=
  ∀ (m : (ℓ : Loc Cert.DnKernelIdeal.nD Cert.DnKernelIdeal.τ Cert.DnKernelIdeal.sig) → Buf (Elt Ideal) ℓ) (g : Dev Cert.DnKernelIdeal.nD → PrngReg)
    (m' : (ℓ : Loc Cert.DnReferenceIdeal.nD Cert.DnReferenceIdeal.τ Cert.DnReferenceIdeal.sig) → Buf (Elt Ideal) ℓ) (g' : Dev Cert.DnReferenceIdeal.nD → PrngReg), Pre_DnKernelIdeal m →
    (∀ c : Dev Cert.DnKernelIdeal.nD,
      m' ((c.tc : Thread Cert.DnReferenceIdeal.nD Cert.DnReferenceIdeal.τ).loc Cert.DnReferenceIdeal.main_arg0) = m ((c.tc : Thread Cert.DnKernelIdeal.nD Cert.DnKernelIdeal.τ).loc Cert.DnKernelIdeal.main_arg0)
      ∧ m' ((c.tc : Thread Cert.DnReferenceIdeal.nD Cert.DnReferenceIdeal.τ).loc Cert.DnReferenceIdeal.main_arg1) = m ((c.tc : Thread Cert.DnKernelIdeal.nD Cert.DnKernelIdeal.τ).loc Cert.DnKernelIdeal.main_arg1)
      ∧ m' ((c.tc : Thread Cert.DnReferenceIdeal.nD Cert.DnReferenceIdeal.τ).loc Cert.DnReferenceIdeal.main_arg2) = m ((c.tc : Thread Cert.DnKernelIdeal.nD Cert.DnKernelIdeal.τ).loc Cert.DnKernelIdeal.main_arg2)
      ∧ m' ((c.tc : Thread Cert.DnReferenceIdeal.nD Cert.DnReferenceIdeal.τ).loc Cert.DnReferenceIdeal.main_arg3) = m ((c.tc : Thread Cert.DnKernelIdeal.nD Cert.DnKernelIdeal.τ).loc Cert.DnKernelIdeal.main_arg3)
      ∧ m' ((c.tc : Thread Cert.DnReferenceIdeal.nD Cert.DnReferenceIdeal.τ).loc Cert.DnReferenceIdeal.main_arg4) = m ((c.tc : Thread Cert.DnKernelIdeal.nD Cert.DnKernelIdeal.τ).loc Cert.DnKernelIdeal.main_arg4)) →
    ∃ (v0 : (c : Dev Cert.DnKernelIdeal.nD) → Buf (Elt Ideal) ((c.tc : Thread Cert.DnKernelIdeal.nD Cert.DnKernelIdeal.τ).loc Cert.DnKernelIdeal.main_v5_0)) (v1 : (c : Dev Cert.DnKernelIdeal.nD) → Buf (Elt Ideal) ((c.tc : Thread Cert.DnKernelIdeal.nD Cert.DnKernelIdeal.τ).loc Cert.DnKernelIdeal.main_v5_1)) (v2 : (c : Dev Cert.DnKernelIdeal.nD) → Buf (Elt Ideal) ((c.tc : Thread Cert.DnKernelIdeal.nD Cert.DnKernelIdeal.τ).loc Cert.DnKernelIdeal.main_v5_2)),
      θ_run (Cert.DnKernelIdeal.defs (F := Ideal)) (onTc (τ := Cert.DnKernelIdeal.τ) (Cert.DnKernelIdeal.main (F := Ideal))) ⟨m, fun _ => 0, g⟩ (fun r => ∀ c : Dev Cert.DnKernelIdeal.nD,
          r.2.mem ((c.tc : Thread Cert.DnKernelIdeal.nD Cert.DnKernelIdeal.τ).loc Cert.DnKernelIdeal.main_v5_0) = v0 c
          ∧ r.2.mem ((c.tc : Thread Cert.DnKernelIdeal.nD Cert.DnKernelIdeal.τ).loc Cert.DnKernelIdeal.main_v5_1) = v1 c
          ∧ r.2.mem ((c.tc : Thread Cert.DnKernelIdeal.nD Cert.DnKernelIdeal.τ).loc Cert.DnKernelIdeal.main_v5_2) = v2 c
          ∧ r.2.mem ((c.tc : Thread Cert.DnKernelIdeal.nD Cert.DnKernelIdeal.τ).loc Cert.DnKernelIdeal.main_arg0) = m ((c.tc : Thread Cert.DnKernelIdeal.nD Cert.DnKernelIdeal.τ).loc Cert.DnKernelIdeal.main_arg0)
          ∧ r.2.mem ((c.tc : Thread Cert.DnKernelIdeal.nD Cert.DnKernelIdeal.τ).loc Cert.DnKernelIdeal.main_arg1) = m ((c.tc : Thread Cert.DnKernelIdeal.nD Cert.DnKernelIdeal.τ).loc Cert.DnKernelIdeal.main_arg1)
          ∧ r.2.mem ((c.tc : Thread Cert.DnKernelIdeal.nD Cert.DnKernelIdeal.τ).loc Cert.DnKernelIdeal.main_arg2) = m ((c.tc : Thread Cert.DnKernelIdeal.nD Cert.DnKernelIdeal.τ).loc Cert.DnKernelIdeal.main_arg2)
          ∧ r.2.mem ((c.tc : Thread Cert.DnKernelIdeal.nD Cert.DnKernelIdeal.τ).loc Cert.DnKernelIdeal.main_arg3) = m ((c.tc : Thread Cert.DnKernelIdeal.nD Cert.DnKernelIdeal.τ).loc Cert.DnKernelIdeal.main_arg3)
          ∧ r.2.mem ((c.tc : Thread Cert.DnKernelIdeal.nD Cert.DnKernelIdeal.τ).loc Cert.DnKernelIdeal.main_arg4) = m ((c.tc : Thread Cert.DnKernelIdeal.nD Cert.DnKernelIdeal.τ).loc Cert.DnKernelIdeal.main_arg4))
      ∧ θ_run (Cert.DnReferenceIdeal.defs (F := Ideal)) (onTc (τ := Cert.DnReferenceIdeal.τ) (Cert.DnReferenceIdeal.main (F := Ideal))) ⟨m', fun _ => 0, g'⟩ (fun r => ∀ c : Dev Cert.DnReferenceIdeal.nD,
          r.2.mem ((c.tc : Thread Cert.DnReferenceIdeal.nD Cert.DnReferenceIdeal.τ).loc Cert.DnReferenceIdeal.main_v39) = v0 c
          ∧ r.2.mem ((c.tc : Thread Cert.DnReferenceIdeal.nD Cert.DnReferenceIdeal.τ).loc Cert.DnReferenceIdeal.main_v40) = v1 c
          ∧ r.2.mem ((c.tc : Thread Cert.DnReferenceIdeal.nD Cert.DnReferenceIdeal.τ).loc Cert.DnReferenceIdeal.main_v41) = v2 c
          ∧ r.2.mem ((c.tc : Thread Cert.DnReferenceIdeal.nD Cert.DnReferenceIdeal.τ).loc Cert.DnReferenceIdeal.main_arg0) = m' ((c.tc : Thread Cert.DnReferenceIdeal.nD Cert.DnReferenceIdeal.τ).loc Cert.DnReferenceIdeal.main_arg0)
          ∧ r.2.mem ((c.tc : Thread Cert.DnReferenceIdeal.nD Cert.DnReferenceIdeal.τ).loc Cert.DnReferenceIdeal.main_arg1) = m' ((c.tc : Thread Cert.DnReferenceIdeal.nD Cert.DnReferenceIdeal.τ).loc Cert.DnReferenceIdeal.main_arg1)
          ∧ r.2.mem ((c.tc : Thread Cert.DnReferenceIdeal.nD Cert.DnReferenceIdeal.τ).loc Cert.DnReferenceIdeal.main_arg2) = m' ((c.tc : Thread Cert.DnReferenceIdeal.nD Cert.DnReferenceIdeal.τ).loc Cert.DnReferenceIdeal.main_arg2)
          ∧ r.2.mem ((c.tc : Thread Cert.DnReferenceIdeal.nD Cert.DnReferenceIdeal.τ).loc Cert.DnReferenceIdeal.main_arg3) = m' ((c.tc : Thread Cert.DnReferenceIdeal.nD Cert.DnReferenceIdeal.τ).loc Cert.DnReferenceIdeal.main_arg3)
          ∧ r.2.mem ((c.tc : Thread Cert.DnReferenceIdeal.nD Cert.DnReferenceIdeal.τ).loc Cert.DnReferenceIdeal.main_arg4) = m' ((c.tc : Thread Cert.DnReferenceIdeal.nD Cert.DnReferenceIdeal.τ).loc Cert.DnReferenceIdeal.main_arg4))

def preserves_DwiKernel_DwiKernelIdeal : Prop :=
  True

def algebraic_DwiKernelIdeal_DwiReferenceIdeal [hDwiKernelIdeal : Cert.DwiKernelIdeal.Facts] [hDwiReferenceIdeal : Cert.DwiReferenceIdeal.Facts] : Prop :=
  ∀ (m : (ℓ : Loc Cert.DwiKernelIdeal.nD Cert.DwiKernelIdeal.τ Cert.DwiKernelIdeal.sig) → Buf (Elt Ideal) ℓ) (g : Dev Cert.DwiKernelIdeal.nD → PrngReg)
    (m' : (ℓ : Loc Cert.DwiReferenceIdeal.nD Cert.DwiReferenceIdeal.τ Cert.DwiReferenceIdeal.sig) → Buf (Elt Ideal) ℓ) (g' : Dev Cert.DwiReferenceIdeal.nD → PrngReg), Pre_DwiKernelIdeal m →
    (∀ c : Dev Cert.DwiKernelIdeal.nD,
      m' ((c.tc : Thread Cert.DwiReferenceIdeal.nD Cert.DwiReferenceIdeal.τ).loc Cert.DwiReferenceIdeal.main_arg0) = m ((c.tc : Thread Cert.DwiKernelIdeal.nD Cert.DwiKernelIdeal.τ).loc Cert.DwiKernelIdeal.main_arg0)
      ∧ m' ((c.tc : Thread Cert.DwiReferenceIdeal.nD Cert.DwiReferenceIdeal.τ).loc Cert.DwiReferenceIdeal.main_arg1) = m ((c.tc : Thread Cert.DwiKernelIdeal.nD Cert.DwiKernelIdeal.τ).loc Cert.DwiKernelIdeal.main_arg1)
      ∧ m' ((c.tc : Thread Cert.DwiReferenceIdeal.nD Cert.DwiReferenceIdeal.τ).loc Cert.DwiReferenceIdeal.main_arg2) = m ((c.tc : Thread Cert.DwiKernelIdeal.nD Cert.DwiKernelIdeal.τ).loc Cert.DwiKernelIdeal.main_arg2)) →
    ∃ (v0 : (c : Dev Cert.DwiKernelIdeal.nD) → Buf (Elt Ideal) ((c.tc : Thread Cert.DwiKernelIdeal.nD Cert.DwiKernelIdeal.τ).loc Cert.DwiKernelIdeal.main_v4)),
      θ_run (Cert.DwiKernelIdeal.defs (F := Ideal)) (onTc (τ := Cert.DwiKernelIdeal.τ) (Cert.DwiKernelIdeal.main (F := Ideal))) ⟨m, fun _ => 0, g⟩ (fun r => ∀ c : Dev Cert.DwiKernelIdeal.nD,
          r.2.mem ((c.tc : Thread Cert.DwiKernelIdeal.nD Cert.DwiKernelIdeal.τ).loc Cert.DwiKernelIdeal.main_v4) = v0 c
          ∧ r.2.mem ((c.tc : Thread Cert.DwiKernelIdeal.nD Cert.DwiKernelIdeal.τ).loc Cert.DwiKernelIdeal.main_arg0) = m ((c.tc : Thread Cert.DwiKernelIdeal.nD Cert.DwiKernelIdeal.τ).loc Cert.DwiKernelIdeal.main_arg0)
          ∧ r.2.mem ((c.tc : Thread Cert.DwiKernelIdeal.nD Cert.DwiKernelIdeal.τ).loc Cert.DwiKernelIdeal.main_arg1) = m ((c.tc : Thread Cert.DwiKernelIdeal.nD Cert.DwiKernelIdeal.τ).loc Cert.DwiKernelIdeal.main_arg1)
          ∧ r.2.mem ((c.tc : Thread Cert.DwiKernelIdeal.nD Cert.DwiKernelIdeal.τ).loc Cert.DwiKernelIdeal.main_arg2) = m ((c.tc : Thread Cert.DwiKernelIdeal.nD Cert.DwiKernelIdeal.τ).loc Cert.DwiKernelIdeal.main_arg2))
      ∧ θ_run (Cert.DwiReferenceIdeal.defs (F := Ideal)) (onTc (τ := Cert.DwiReferenceIdeal.τ) (Cert.DwiReferenceIdeal.main (F := Ideal))) ⟨m', fun _ => 0, g'⟩ (fun r => ∀ c : Dev Cert.DwiReferenceIdeal.nD,
          r.2.mem ((c.tc : Thread Cert.DwiReferenceIdeal.nD Cert.DwiReferenceIdeal.τ).loc Cert.DwiReferenceIdeal.main_v4) = v0 c
          ∧ r.2.mem ((c.tc : Thread Cert.DwiReferenceIdeal.nD Cert.DwiReferenceIdeal.τ).loc Cert.DwiReferenceIdeal.main_arg0) = m' ((c.tc : Thread Cert.DwiReferenceIdeal.nD Cert.DwiReferenceIdeal.τ).loc Cert.DwiReferenceIdeal.main_arg0)
          ∧ r.2.mem ((c.tc : Thread Cert.DwiReferenceIdeal.nD Cert.DwiReferenceIdeal.τ).loc Cert.DwiReferenceIdeal.main_arg1) = m' ((c.tc : Thread Cert.DwiReferenceIdeal.nD Cert.DwiReferenceIdeal.τ).loc Cert.DwiReferenceIdeal.main_arg1)
          ∧ r.2.mem ((c.tc : Thread Cert.DwiReferenceIdeal.nD Cert.DwiReferenceIdeal.τ).loc Cert.DwiReferenceIdeal.main_arg2) = m' ((c.tc : Thread Cert.DwiReferenceIdeal.nD Cert.DwiReferenceIdeal.τ).loc Cert.DwiReferenceIdeal.main_arg2))

def preserves_DwoKernel_DwoKernelIdeal : Prop :=
  True

def algebraic_DwoKernelIdeal_DwoReferenceIdeal [hDwoKernelIdeal : Cert.DwoKernelIdeal.Facts] [hDwoReferenceIdeal : Cert.DwoReferenceIdeal.Facts] : Prop :=
  ∀ (m : (ℓ : Loc Cert.DwoKernelIdeal.nD Cert.DwoKernelIdeal.τ Cert.DwoKernelIdeal.sig) → Buf (Elt Ideal) ℓ) (g : Dev Cert.DwoKernelIdeal.nD → PrngReg)
    (m' : (ℓ : Loc Cert.DwoReferenceIdeal.nD Cert.DwoReferenceIdeal.τ Cert.DwoReferenceIdeal.sig) → Buf (Elt Ideal) ℓ) (g' : Dev Cert.DwoReferenceIdeal.nD → PrngReg), Pre_DwoKernelIdeal m →
    (∀ c : Dev Cert.DwoKernelIdeal.nD,
      m' ((c.tc : Thread Cert.DwoReferenceIdeal.nD Cert.DwoReferenceIdeal.τ).loc Cert.DwoReferenceIdeal.main_arg0) = m ((c.tc : Thread Cert.DwoKernelIdeal.nD Cert.DwoKernelIdeal.τ).loc Cert.DwoKernelIdeal.main_arg0)
      ∧ m' ((c.tc : Thread Cert.DwoReferenceIdeal.nD Cert.DwoReferenceIdeal.τ).loc Cert.DwoReferenceIdeal.main_arg1) = m ((c.tc : Thread Cert.DwoKernelIdeal.nD Cert.DwoKernelIdeal.τ).loc Cert.DwoKernelIdeal.main_arg1)
      ∧ m' ((c.tc : Thread Cert.DwoReferenceIdeal.nD Cert.DwoReferenceIdeal.τ).loc Cert.DwoReferenceIdeal.main_arg2) = m ((c.tc : Thread Cert.DwoKernelIdeal.nD Cert.DwoKernelIdeal.τ).loc Cert.DwoKernelIdeal.main_arg2)) →
    ∃ (v0 : (c : Dev Cert.DwoKernelIdeal.nD) → Buf (Elt Ideal) ((c.tc : Thread Cert.DwoKernelIdeal.nD Cert.DwoKernelIdeal.τ).loc Cert.DwoKernelIdeal.main_v2)),
      θ_run (Cert.DwoKernelIdeal.defs (F := Ideal)) (onTc (τ := Cert.DwoKernelIdeal.τ) (Cert.DwoKernelIdeal.main (F := Ideal))) ⟨m, fun _ => 0, g⟩ (fun r => ∀ c : Dev Cert.DwoKernelIdeal.nD,
          r.2.mem ((c.tc : Thread Cert.DwoKernelIdeal.nD Cert.DwoKernelIdeal.τ).loc Cert.DwoKernelIdeal.main_v2) = v0 c
          ∧ r.2.mem ((c.tc : Thread Cert.DwoKernelIdeal.nD Cert.DwoKernelIdeal.τ).loc Cert.DwoKernelIdeal.main_arg0) = m ((c.tc : Thread Cert.DwoKernelIdeal.nD Cert.DwoKernelIdeal.τ).loc Cert.DwoKernelIdeal.main_arg0)
          ∧ r.2.mem ((c.tc : Thread Cert.DwoKernelIdeal.nD Cert.DwoKernelIdeal.τ).loc Cert.DwoKernelIdeal.main_arg1) = m ((c.tc : Thread Cert.DwoKernelIdeal.nD Cert.DwoKernelIdeal.τ).loc Cert.DwoKernelIdeal.main_arg1)
          ∧ r.2.mem ((c.tc : Thread Cert.DwoKernelIdeal.nD Cert.DwoKernelIdeal.τ).loc Cert.DwoKernelIdeal.main_arg2) = m ((c.tc : Thread Cert.DwoKernelIdeal.nD Cert.DwoKernelIdeal.τ).loc Cert.DwoKernelIdeal.main_arg2))
      ∧ θ_run (Cert.DwoReferenceIdeal.defs (F := Ideal)) (onTc (τ := Cert.DwoReferenceIdeal.τ) (Cert.DwoReferenceIdeal.main (F := Ideal))) ⟨m', fun _ => 0, g'⟩ (fun r => ∀ c : Dev Cert.DwoReferenceIdeal.nD,
          r.2.mem ((c.tc : Thread Cert.DwoReferenceIdeal.nD Cert.DwoReferenceIdeal.τ).loc Cert.DwoReferenceIdeal.main_v7) = v0 c
          ∧ r.2.mem ((c.tc : Thread Cert.DwoReferenceIdeal.nD Cert.DwoReferenceIdeal.τ).loc Cert.DwoReferenceIdeal.main_arg0) = m' ((c.tc : Thread Cert.DwoReferenceIdeal.nD Cert.DwoReferenceIdeal.τ).loc Cert.DwoReferenceIdeal.main_arg0)
          ∧ r.2.mem ((c.tc : Thread Cert.DwoReferenceIdeal.nD Cert.DwoReferenceIdeal.τ).loc Cert.DwoReferenceIdeal.main_arg1) = m' ((c.tc : Thread Cert.DwoReferenceIdeal.nD Cert.DwoReferenceIdeal.τ).loc Cert.DwoReferenceIdeal.main_arg1)
          ∧ r.2.mem ((c.tc : Thread Cert.DwoReferenceIdeal.nD Cert.DwoReferenceIdeal.τ).loc Cert.DwoReferenceIdeal.main_arg2) = m' ((c.tc : Thread Cert.DwoReferenceIdeal.nD Cert.DwoReferenceIdeal.τ).loc Cert.DwoReferenceIdeal.main_arg2))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v3_0)) (v1 : (c : Dev Cert.UpKernelIdeal.nD) → Buf (Elt Ideal) ((c.tc : Thread Cert.UpKernelIdeal.nD Cert.UpKernelIdeal.τ).loc Cert.UpKernelIdeal.main_v3_1)) (v2 : (c : Dev Cert.UpKernelIdeal.nD) → Buf (Elt Ideal) ((c.tc : Thread Cert.UpKernelIdeal.nD Cert.UpKernelIdeal.τ).loc Cert.UpKernelIdeal.main_v3_2)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v3_0) = v0 c
          ∧ r.2.mem ((c.tc : Thread Cert.UpKernelIdeal.nD Cert.UpKernelIdeal.τ).loc Cert.UpKernelIdeal.main_v3_1) = v1 c
          ∧ r.2.mem ((c.tc : Thread Cert.UpKernelIdeal.nD Cert.UpKernelIdeal.τ).loc Cert.UpKernelIdeal.main_v3_2) = v2 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v3) = v0 c
          ∧ r.2.mem ((c.tc : Thread Cert.UpReferenceIdeal.nD Cert.UpReferenceIdeal.τ).loc Cert.UpReferenceIdeal.main_v4) = v1 c
          ∧ r.2.mem ((c.tc : Thread Cert.UpReferenceIdeal.nD Cert.UpReferenceIdeal.τ).loc Cert.UpReferenceIdeal.main_v7) = v2 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)) →
    ∃ (v0 : (c : Dev Cert.DownKernelIdeal.nD) → Buf (Elt Ideal) ((c.tc : Thread Cert.DownKernelIdeal.nD Cert.DownKernelIdeal.τ).loc Cert.DownKernelIdeal.main_v2_0)) (v1 : (c : Dev Cert.DownKernelIdeal.nD) → Buf (Elt Ideal) ((c.tc : Thread Cert.DownKernelIdeal.nD Cert.DownKernelIdeal.τ).loc Cert.DownKernelIdeal.main_v2_1)) (v2 : (c : Dev Cert.DownKernelIdeal.nD) → Buf (Elt Ideal) ((c.tc : Thread Cert.DownKernelIdeal.nD Cert.DownKernelIdeal.τ).loc Cert.DownKernelIdeal.main_v2_2)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v2_0) = v0 c
          ∧ r.2.mem ((c.tc : Thread Cert.DownKernelIdeal.nD Cert.DownKernelIdeal.τ).loc Cert.DownKernelIdeal.main_v2_1) = v1 c
          ∧ r.2.mem ((c.tc : Thread Cert.DownKernelIdeal.nD Cert.DownKernelIdeal.τ).loc Cert.DownKernelIdeal.main_v2_2) = v2 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v18) = v0 c
          ∧ r.2.mem ((c.tc : Thread Cert.DownReferenceIdeal.nD Cert.DownReferenceIdeal.τ).loc Cert.DownReferenceIdeal.main_v19) = v1 c
          ∧ r.2.mem ((c.tc : Thread Cert.DownReferenceIdeal.nD Cert.DownReferenceIdeal.τ).loc Cert.DownReferenceIdeal.main_v20) = v2 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)) →
    ∃ (v0 : (c : Dev Cert.MergeKernelIdeal.nD) → Buf (Elt Ideal) ((c.tc : Thread Cert.MergeKernelIdeal.nD Cert.MergeKernelIdeal.τ).loc Cert.MergeKernelIdeal.main_v2_0)) (v1 : (c : Dev Cert.MergeKernelIdeal.nD) → Buf (Elt Ideal) ((c.tc : Thread Cert.MergeKernelIdeal.nD Cert.MergeKernelIdeal.τ).loc Cert.MergeKernelIdeal.main_v2_1)) (v2 : (c : Dev Cert.MergeKernelIdeal.nD) → Buf (Elt Ideal) ((c.tc : Thread Cert.MergeKernelIdeal.nD Cert.MergeKernelIdeal.τ).loc Cert.MergeKernelIdeal.main_v2_2)) (v3 : (c : Dev Cert.MergeKernelIdeal.nD) → Buf (Elt Ideal) ((c.tc : Thread Cert.MergeKernelIdeal.nD Cert.MergeKernelIdeal.τ).loc Cert.MergeKernelIdeal.main_v2_3)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v2_0) = v0 c
          ∧ r.2.mem ((c.tc : Thread Cert.MergeKernelIdeal.nD Cert.MergeKernelIdeal.τ).loc Cert.MergeKernelIdeal.main_v2_1) = v1 c
          ∧ r.2.mem ((c.tc : Thread Cert.MergeKernelIdeal.nD Cert.MergeKernelIdeal.τ).loc Cert.MergeKernelIdeal.main_v2_2) = v2 c
          ∧ r.2.mem ((c.tc : Thread Cert.MergeKernelIdeal.nD Cert.MergeKernelIdeal.τ).loc Cert.MergeKernelIdeal.main_v2_3) = v3 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v29) = v0 c
          ∧ r.2.mem ((c.tc : Thread Cert.MergeReferenceIdeal.nD Cert.MergeReferenceIdeal.τ).loc Cert.MergeReferenceIdeal.main_v30) = v1 c
          ∧ r.2.mem ((c.tc : Thread Cert.MergeReferenceIdeal.nD Cert.MergeReferenceIdeal.τ).loc Cert.MergeReferenceIdeal.main_v31) = v2 c
          ∧ r.2.mem ((c.tc : Thread Cert.MergeReferenceIdeal.nD Cert.MergeReferenceIdeal.τ).loc Cert.MergeReferenceIdeal.main_v32) = v3 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5))

def preserves_PrkvKernel_PrkvKernelIdeal : Prop :=
  True

def algebraic_PrkvKernelIdeal_PrkvReferenceIdeal [hPrkvKernelIdeal : Cert.PrkvKernelIdeal.Facts] [hPrkvReferenceIdeal : Cert.PrkvReferenceIdeal.Facts] : Prop :=
  ∀ (m : (ℓ : Loc Cert.PrkvKernelIdeal.nD Cert.PrkvKernelIdeal.τ Cert.PrkvKernelIdeal.sig) → Buf (Elt Ideal) ℓ) (g : Dev Cert.PrkvKernelIdeal.nD → PrngReg)
    (m' : (ℓ : Loc Cert.PrkvReferenceIdeal.nD Cert.PrkvReferenceIdeal.τ Cert.PrkvReferenceIdeal.sig) → Buf (Elt Ideal) ℓ) (g' : Dev Cert.PrkvReferenceIdeal.nD → PrngReg), Pre_PrkvKernelIdeal m →
    (∀ c : Dev Cert.PrkvKernelIdeal.nD,
      m' ((c.tc : Thread Cert.PrkvReferenceIdeal.nD Cert.PrkvReferenceIdeal.τ).loc Cert.PrkvReferenceIdeal.main_arg0) = m ((c.tc : Thread Cert.PrkvKernelIdeal.nD Cert.PrkvKernelIdeal.τ).loc Cert.PrkvKernelIdeal.main_arg0)
      ∧ m' ((c.tc : Thread Cert.PrkvReferenceIdeal.nD Cert.PrkvReferenceIdeal.τ).loc Cert.PrkvReferenceIdeal.main_arg1) = m ((c.tc : Thread Cert.PrkvKernelIdeal.nD Cert.PrkvKernelIdeal.τ).loc Cert.PrkvKernelIdeal.main_arg1)) →
    ∃ (v0 : (c : Dev Cert.PrkvKernelIdeal.nD) → Buf (Elt Ideal) ((c.tc : Thread Cert.PrkvKernelIdeal.nD Cert.PrkvKernelIdeal.τ).loc Cert.PrkvKernelIdeal.main_v3)),
      θ_run (Cert.PrkvKernelIdeal.defs (F := Ideal)) (onTc (τ := Cert.PrkvKernelIdeal.τ) (Cert.PrkvKernelIdeal.main (F := Ideal))) ⟨m, fun _ => 0, g⟩ (fun r => ∀ c : Dev Cert.PrkvKernelIdeal.nD,
          r.2.mem ((c.tc : Thread Cert.PrkvKernelIdeal.nD Cert.PrkvKernelIdeal.τ).loc Cert.PrkvKernelIdeal.main_v3) = v0 c
          ∧ r.2.mem ((c.tc : Thread Cert.PrkvKernelIdeal.nD Cert.PrkvKernelIdeal.τ).loc Cert.PrkvKernelIdeal.main_arg0) = m ((c.tc : Thread Cert.PrkvKernelIdeal.nD Cert.PrkvKernelIdeal.τ).loc Cert.PrkvKernelIdeal.main_arg0)
          ∧ r.2.mem ((c.tc : Thread Cert.PrkvKernelIdeal.nD Cert.PrkvKernelIdeal.τ).loc Cert.PrkvKernelIdeal.main_arg1) = m ((c.tc : Thread Cert.PrkvKernelIdeal.nD Cert.PrkvKernelIdeal.τ).loc Cert.PrkvKernelIdeal.main_arg1))
      ∧ θ_run (Cert.PrkvReferenceIdeal.defs (F := Ideal)) (onTc (τ := Cert.PrkvReferenceIdeal.τ) (Cert.PrkvReferenceIdeal.main (F := Ideal))) ⟨m', fun _ => 0, g'⟩ (fun r => ∀ c : Dev Cert.PrkvReferenceIdeal.nD,
          r.2.mem ((c.tc : Thread Cert.PrkvReferenceIdeal.nD Cert.PrkvReferenceIdeal.τ).loc Cert.PrkvReferenceIdeal.main_v0) = v0 c
          ∧ r.2.mem ((c.tc : Thread Cert.PrkvReferenceIdeal.nD Cert.PrkvReferenceIdeal.τ).loc Cert.PrkvReferenceIdeal.main_arg0) = m' ((c.tc : Thread Cert.PrkvReferenceIdeal.nD Cert.PrkvReferenceIdeal.τ).loc Cert.PrkvReferenceIdeal.main_arg0)
          ∧ r.2.mem ((c.tc : Thread Cert.PrkvReferenceIdeal.nD Cert.PrkvReferenceIdeal.τ).loc Cert.PrkvReferenceIdeal.main_arg1) = m' ((c.tc : Thread Cert.PrkvReferenceIdeal.nD Cert.PrkvReferenceIdeal.τ).loc Cert.PrkvReferenceIdeal.main_arg1))

def preserves_DhrkvKernel_DhrkvKernelIdeal : Prop :=
  True

def algebraic_DhrkvKernelIdeal_DhrkvReferenceIdeal [hDhrkvKernelIdeal : Cert.DhrkvKernelIdeal.Facts] [hDhrkvReferenceIdeal : Cert.DhrkvReferenceIdeal.Facts] : Prop :=
  ∀ (m : (ℓ : Loc Cert.DhrkvKernelIdeal.nD Cert.DhrkvKernelIdeal.τ Cert.DhrkvKernelIdeal.sig) → Buf (Elt Ideal) ℓ) (g : Dev Cert.DhrkvKernelIdeal.nD → PrngReg)
    (m' : (ℓ : Loc Cert.DhrkvReferenceIdeal.nD Cert.DhrkvReferenceIdeal.τ Cert.DhrkvReferenceIdeal.sig) → Buf (Elt Ideal) ℓ) (g' : Dev Cert.DhrkvReferenceIdeal.nD → PrngReg), Pre_DhrkvKernelIdeal m →
    (∀ c : Dev Cert.DhrkvKernelIdeal.nD,
      m' ((c.tc : Thread Cert.DhrkvReferenceIdeal.nD Cert.DhrkvReferenceIdeal.τ).loc Cert.DhrkvReferenceIdeal.main_arg0) = m ((c.tc : Thread Cert.DhrkvKernelIdeal.nD Cert.DhrkvKernelIdeal.τ).loc Cert.DhrkvKernelIdeal.main_arg0)
      ∧ m' ((c.tc : Thread Cert.DhrkvReferenceIdeal.nD Cert.DhrkvReferenceIdeal.τ).loc Cert.DhrkvReferenceIdeal.main_arg1) = m ((c.tc : Thread Cert.DhrkvKernelIdeal.nD Cert.DhrkvKernelIdeal.τ).loc Cert.DhrkvKernelIdeal.main_arg1)
      ∧ m' ((c.tc : Thread Cert.DhrkvReferenceIdeal.nD Cert.DhrkvReferenceIdeal.τ).loc Cert.DhrkvReferenceIdeal.main_arg2) = m ((c.tc : Thread Cert.DhrkvKernelIdeal.nD Cert.DhrkvKernelIdeal.τ).loc Cert.DhrkvKernelIdeal.main_arg2)) →
    ∃ (v0 : (c : Dev Cert.DhrkvKernelIdeal.nD) → Buf (Elt Ideal) ((c.tc : Thread Cert.DhrkvKernelIdeal.nD Cert.DhrkvKernelIdeal.τ).loc Cert.DhrkvKernelIdeal.main_v3)),
      θ_run (Cert.DhrkvKernelIdeal.defs (F := Ideal)) (onTc (τ := Cert.DhrkvKernelIdeal.τ) (Cert.DhrkvKernelIdeal.main (F := Ideal))) ⟨m, fun _ => 0, g⟩ (fun r => ∀ c : Dev Cert.DhrkvKernelIdeal.nD,
          r.2.mem ((c.tc : Thread Cert.DhrkvKernelIdeal.nD Cert.DhrkvKernelIdeal.τ).loc Cert.DhrkvKernelIdeal.main_v3) = v0 c
          ∧ r.2.mem ((c.tc : Thread Cert.DhrkvKernelIdeal.nD Cert.DhrkvKernelIdeal.τ).loc Cert.DhrkvKernelIdeal.main_arg0) = m ((c.tc : Thread Cert.DhrkvKernelIdeal.nD Cert.DhrkvKernelIdeal.τ).loc Cert.DhrkvKernelIdeal.main_arg0)
          ∧ r.2.mem ((c.tc : Thread Cert.DhrkvKernelIdeal.nD Cert.DhrkvKernelIdeal.τ).loc Cert.DhrkvKernelIdeal.main_arg1) = m ((c.tc : Thread Cert.DhrkvKernelIdeal.nD Cert.DhrkvKernelIdeal.τ).loc Cert.DhrkvKernelIdeal.main_arg1)
          ∧ r.2.mem ((c.tc : Thread Cert.DhrkvKernelIdeal.nD Cert.DhrkvKernelIdeal.τ).loc Cert.DhrkvKernelIdeal.main_arg2) = m ((c.tc : Thread Cert.DhrkvKernelIdeal.nD Cert.DhrkvKernelIdeal.τ).loc Cert.DhrkvKernelIdeal.main_arg2))
      ∧ θ_run (Cert.DhrkvReferenceIdeal.defs (F := Ideal)) (onTc (τ := Cert.DhrkvReferenceIdeal.τ) (Cert.DhrkvReferenceIdeal.main (F := Ideal))) ⟨m', fun _ => 0, g'⟩ (fun r => ∀ c : Dev Cert.DhrkvReferenceIdeal.nD,
          r.2.mem ((c.tc : Thread Cert.DhrkvReferenceIdeal.nD Cert.DhrkvReferenceIdeal.τ).loc Cert.DhrkvReferenceIdeal.main_v1) = v0 c
          ∧ r.2.mem ((c.tc : Thread Cert.DhrkvReferenceIdeal.nD Cert.DhrkvReferenceIdeal.τ).loc Cert.DhrkvReferenceIdeal.main_arg0) = m' ((c.tc : Thread Cert.DhrkvReferenceIdeal.nD Cert.DhrkvReferenceIdeal.τ).loc Cert.DhrkvReferenceIdeal.main_arg0)
          ∧ r.2.mem ((c.tc : Thread Cert.DhrkvReferenceIdeal.nD Cert.DhrkvReferenceIdeal.τ).loc Cert.DhrkvReferenceIdeal.main_arg1) = m' ((c.tc : Thread Cert.DhrkvReferenceIdeal.nD Cert.DhrkvReferenceIdeal.τ).loc Cert.DhrkvReferenceIdeal.main_arg1)
          ∧ r.2.mem ((c.tc : Thread Cert.DhrkvReferenceIdeal.nD Cert.DhrkvReferenceIdeal.τ).loc Cert.DhrkvReferenceIdeal.main_arg2) = m' ((c.tc : Thread Cert.DhrkvReferenceIdeal.nD Cert.DhrkvReferenceIdeal.τ).loc Cert.DhrkvReferenceIdeal.main_arg2))

def preserves_DwrkvKernel_DwrkvKernelIdeal : Prop :=
  True

def algebraic_DwrkvKernelIdeal_DwrkvReferenceIdeal [hDwrkvKernelIdeal : Cert.DwrkvKernelIdeal.Facts] [hDwrkvReferenceIdeal : Cert.DwrkvReferenceIdeal.Facts] : Prop :=
  ∀ (m : (ℓ : Loc Cert.DwrkvKernelIdeal.nD Cert.DwrkvKernelIdeal.τ Cert.DwrkvKernelIdeal.sig) → Buf (Elt Ideal) ℓ) (g : Dev Cert.DwrkvKernelIdeal.nD → PrngReg)
    (m' : (ℓ : Loc Cert.DwrkvReferenceIdeal.nD Cert.DwrkvReferenceIdeal.τ Cert.DwrkvReferenceIdeal.sig) → Buf (Elt Ideal) ℓ) (g' : Dev Cert.DwrkvReferenceIdeal.nD → PrngReg), Pre_DwrkvKernelIdeal m →
    (∀ c : Dev Cert.DwrkvKernelIdeal.nD,
      m' ((c.tc : Thread Cert.DwrkvReferenceIdeal.nD Cert.DwrkvReferenceIdeal.τ).loc Cert.DwrkvReferenceIdeal.main_arg0) = m ((c.tc : Thread Cert.DwrkvKernelIdeal.nD Cert.DwrkvKernelIdeal.τ).loc Cert.DwrkvKernelIdeal.main_arg0)
      ∧ m' ((c.tc : Thread Cert.DwrkvReferenceIdeal.nD Cert.DwrkvReferenceIdeal.τ).loc Cert.DwrkvReferenceIdeal.main_arg1) = m ((c.tc : Thread Cert.DwrkvKernelIdeal.nD Cert.DwrkvKernelIdeal.τ).loc Cert.DwrkvKernelIdeal.main_arg1)
      ∧ m' ((c.tc : Thread Cert.DwrkvReferenceIdeal.nD Cert.DwrkvReferenceIdeal.τ).loc Cert.DwrkvReferenceIdeal.main_arg2) = m ((c.tc : Thread Cert.DwrkvKernelIdeal.nD Cert.DwrkvKernelIdeal.τ).loc Cert.DwrkvKernelIdeal.main_arg2)) →
    ∃ (v0 : (c : Dev Cert.DwrkvKernelIdeal.nD) → Buf (Elt Ideal) ((c.tc : Thread Cert.DwrkvKernelIdeal.nD Cert.DwrkvKernelIdeal.τ).loc Cert.DwrkvKernelIdeal.main_v2)),
      θ_run (Cert.DwrkvKernelIdeal.defs (F := Ideal)) (onTc (τ := Cert.DwrkvKernelIdeal.τ) (Cert.DwrkvKernelIdeal.main (F := Ideal))) ⟨m, fun _ => 0, g⟩ (fun r => ∀ c : Dev Cert.DwrkvKernelIdeal.nD,
          r.2.mem ((c.tc : Thread Cert.DwrkvKernelIdeal.nD Cert.DwrkvKernelIdeal.τ).loc Cert.DwrkvKernelIdeal.main_v2) = v0 c
          ∧ r.2.mem ((c.tc : Thread Cert.DwrkvKernelIdeal.nD Cert.DwrkvKernelIdeal.τ).loc Cert.DwrkvKernelIdeal.main_arg0) = m ((c.tc : Thread Cert.DwrkvKernelIdeal.nD Cert.DwrkvKernelIdeal.τ).loc Cert.DwrkvKernelIdeal.main_arg0)
          ∧ r.2.mem ((c.tc : Thread Cert.DwrkvKernelIdeal.nD Cert.DwrkvKernelIdeal.τ).loc Cert.DwrkvKernelIdeal.main_arg1) = m ((c.tc : Thread Cert.DwrkvKernelIdeal.nD Cert.DwrkvKernelIdeal.τ).loc Cert.DwrkvKernelIdeal.main_arg1)
          ∧ r.2.mem ((c.tc : Thread Cert.DwrkvKernelIdeal.nD Cert.DwrkvKernelIdeal.τ).loc Cert.DwrkvKernelIdeal.main_arg2) = m ((c.tc : Thread Cert.DwrkvKernelIdeal.nD Cert.DwrkvKernelIdeal.τ).loc Cert.DwrkvKernelIdeal.main_arg2))
      ∧ θ_run (Cert.DwrkvReferenceIdeal.defs (F := Ideal)) (onTc (τ := Cert.DwrkvReferenceIdeal.τ) (Cert.DwrkvReferenceIdeal.main (F := Ideal))) ⟨m', fun _ => 0, g'⟩ (fun r => ∀ c : Dev Cert.DwrkvReferenceIdeal.nD,
          r.2.mem ((c.tc : Thread Cert.DwrkvReferenceIdeal.nD Cert.DwrkvReferenceIdeal.τ).loc Cert.DwrkvReferenceIdeal.main_v4) = v0 c
          ∧ r.2.mem ((c.tc : Thread Cert.DwrkvReferenceIdeal.nD Cert.DwrkvReferenceIdeal.τ).loc Cert.DwrkvReferenceIdeal.main_arg0) = m' ((c.tc : Thread Cert.DwrkvReferenceIdeal.nD Cert.DwrkvReferenceIdeal.τ).loc Cert.DwrkvReferenceIdeal.main_arg0)
          ∧ r.2.mem ((c.tc : Thread Cert.DwrkvReferenceIdeal.nD Cert.DwrkvReferenceIdeal.τ).loc Cert.DwrkvReferenceIdeal.main_arg1) = m' ((c.tc : Thread Cert.DwrkvReferenceIdeal.nD Cert.DwrkvReferenceIdeal.τ).loc Cert.DwrkvReferenceIdeal.main_arg1)
          ∧ r.2.mem ((c.tc : Thread Cert.DwrkvReferenceIdeal.nD Cert.DwrkvReferenceIdeal.τ).loc Cert.DwrkvReferenceIdeal.main_arg2) = m' ((c.tc : Thread Cert.DwrkvReferenceIdeal.nD Cert.DwrkvReferenceIdeal.τ).loc Cert.DwrkvReferenceIdeal.main_arg2))

def preserves_PgateKernel_PgateKernelIdeal : Prop :=
  True

def algebraic_PgateKernelIdeal_PgateReferenceIdeal [hPgateKernelIdeal : Cert.PgateKernelIdeal.Facts] [hPgateReferenceIdeal : Cert.PgateReferenceIdeal.Facts] : Prop :=
  ∀ (m : (ℓ : Loc Cert.PgateKernelIdeal.nD Cert.PgateKernelIdeal.τ Cert.PgateKernelIdeal.sig) → Buf (Elt Ideal) ℓ) (g : Dev Cert.PgateKernelIdeal.nD → PrngReg)
    (m' : (ℓ : Loc Cert.PgateReferenceIdeal.nD Cert.PgateReferenceIdeal.τ Cert.PgateReferenceIdeal.sig) → Buf (Elt Ideal) ℓ) (g' : Dev Cert.PgateReferenceIdeal.nD → PrngReg), Pre_PgateKernelIdeal m →
    (∀ c : Dev Cert.PgateKernelIdeal.nD,
      m' ((c.tc : Thread Cert.PgateReferenceIdeal.nD Cert.PgateReferenceIdeal.τ).loc Cert.PgateReferenceIdeal.main_arg0) = m ((c.tc : Thread Cert.PgateKernelIdeal.nD Cert.PgateKernelIdeal.τ).loc Cert.PgateKernelIdeal.main_arg0)
      ∧ m' ((c.tc : Thread Cert.PgateReferenceIdeal.nD Cert.PgateReferenceIdeal.τ).loc Cert.PgateReferenceIdeal.main_arg1) = m ((c.tc : Thread Cert.PgateKernelIdeal.nD Cert.PgateKernelIdeal.τ).loc Cert.PgateKernelIdeal.main_arg1)) →
    ∃ (v0 : (c : Dev Cert.PgateKernelIdeal.nD) → Buf (Elt Ideal) ((c.tc : Thread Cert.PgateKernelIdeal.nD Cert.PgateKernelIdeal.τ).loc Cert.PgateKernelIdeal.main_v3)),
      θ_run (Cert.PgateKernelIdeal.defs (F := Ideal)) (onTc (τ := Cert.PgateKernelIdeal.τ) (Cert.PgateKernelIdeal.main (F := Ideal))) ⟨m, fun _ => 0, g⟩ (fun r => ∀ c : Dev Cert.PgateKernelIdeal.nD,
          r.2.mem ((c.tc : Thread Cert.PgateKernelIdeal.nD Cert.PgateKernelIdeal.τ).loc Cert.PgateKernelIdeal.main_v3) = v0 c
          ∧ r.2.mem ((c.tc : Thread Cert.PgateKernelIdeal.nD Cert.PgateKernelIdeal.τ).loc Cert.PgateKernelIdeal.main_arg0) = m ((c.tc : Thread Cert.PgateKernelIdeal.nD Cert.PgateKernelIdeal.τ).loc Cert.PgateKernelIdeal.main_arg0)
          ∧ r.2.mem ((c.tc : Thread Cert.PgateKernelIdeal.nD Cert.PgateKernelIdeal.τ).loc Cert.PgateKernelIdeal.main_arg1) = m ((c.tc : Thread Cert.PgateKernelIdeal.nD Cert.PgateKernelIdeal.τ).loc Cert.PgateKernelIdeal.main_arg1))
      ∧ θ_run (Cert.PgateReferenceIdeal.defs (F := Ideal)) (onTc (τ := Cert.PgateReferenceIdeal.τ) (Cert.PgateReferenceIdeal.main (F := Ideal))) ⟨m', fun _ => 0, g'⟩ (fun r => ∀ c : Dev Cert.PgateReferenceIdeal.nD,
          r.2.mem ((c.tc : Thread Cert.PgateReferenceIdeal.nD Cert.PgateReferenceIdeal.τ).loc Cert.PgateReferenceIdeal.main_v0) = v0 c
          ∧ r.2.mem ((c.tc : Thread Cert.PgateReferenceIdeal.nD Cert.PgateReferenceIdeal.τ).loc Cert.PgateReferenceIdeal.main_arg0) = m' ((c.tc : Thread Cert.PgateReferenceIdeal.nD Cert.PgateReferenceIdeal.τ).loc Cert.PgateReferenceIdeal.main_arg0)
          ∧ r.2.mem ((c.tc : Thread Cert.PgateReferenceIdeal.nD Cert.PgateReferenceIdeal.τ).loc Cert.PgateReferenceIdeal.main_arg1) = m' ((c.tc : Thread Cert.PgateReferenceIdeal.nD Cert.PgateReferenceIdeal.τ).loc Cert.PgateReferenceIdeal.main_arg1))

def preserves_DhgateKernel_DhgateKernelIdeal : Prop :=
  True

def algebraic_DhgateKernelIdeal_DhgateReferenceIdeal [hDhgateKernelIdeal : Cert.DhgateKernelIdeal.Facts] [hDhgateReferenceIdeal : Cert.DhgateReferenceIdeal.Facts] : Prop :=
  ∀ (m : (ℓ : Loc Cert.DhgateKernelIdeal.nD Cert.DhgateKernelIdeal.τ Cert.DhgateKernelIdeal.sig) → Buf (Elt Ideal) ℓ) (g : Dev Cert.DhgateKernelIdeal.nD → PrngReg)
    (m' : (ℓ : Loc Cert.DhgateReferenceIdeal.nD Cert.DhgateReferenceIdeal.τ Cert.DhgateReferenceIdeal.sig) → Buf (Elt Ideal) ℓ) (g' : Dev Cert.DhgateReferenceIdeal.nD → PrngReg), Pre_DhgateKernelIdeal m →
    (∀ c : Dev Cert.DhgateKernelIdeal.nD,
      m' ((c.tc : Thread Cert.DhgateReferenceIdeal.nD Cert.DhgateReferenceIdeal.τ).loc Cert.DhgateReferenceIdeal.main_arg0) = m ((c.tc : Thread Cert.DhgateKernelIdeal.nD Cert.DhgateKernelIdeal.τ).loc Cert.DhgateKernelIdeal.main_arg0)
      ∧ m' ((c.tc : Thread Cert.DhgateReferenceIdeal.nD Cert.DhgateReferenceIdeal.τ).loc Cert.DhgateReferenceIdeal.main_arg1) = m ((c.tc : Thread Cert.DhgateKernelIdeal.nD Cert.DhgateKernelIdeal.τ).loc Cert.DhgateKernelIdeal.main_arg1)
      ∧ m' ((c.tc : Thread Cert.DhgateReferenceIdeal.nD Cert.DhgateReferenceIdeal.τ).loc Cert.DhgateReferenceIdeal.main_arg2) = m ((c.tc : Thread Cert.DhgateKernelIdeal.nD Cert.DhgateKernelIdeal.τ).loc Cert.DhgateKernelIdeal.main_arg2)) →
    ∃ (v0 : (c : Dev Cert.DhgateKernelIdeal.nD) → Buf (Elt Ideal) ((c.tc : Thread Cert.DhgateKernelIdeal.nD Cert.DhgateKernelIdeal.τ).loc Cert.DhgateKernelIdeal.main_v3)),
      θ_run (Cert.DhgateKernelIdeal.defs (F := Ideal)) (onTc (τ := Cert.DhgateKernelIdeal.τ) (Cert.DhgateKernelIdeal.main (F := Ideal))) ⟨m, fun _ => 0, g⟩ (fun r => ∀ c : Dev Cert.DhgateKernelIdeal.nD,
          r.2.mem ((c.tc : Thread Cert.DhgateKernelIdeal.nD Cert.DhgateKernelIdeal.τ).loc Cert.DhgateKernelIdeal.main_v3) = v0 c
          ∧ r.2.mem ((c.tc : Thread Cert.DhgateKernelIdeal.nD Cert.DhgateKernelIdeal.τ).loc Cert.DhgateKernelIdeal.main_arg0) = m ((c.tc : Thread Cert.DhgateKernelIdeal.nD Cert.DhgateKernelIdeal.τ).loc Cert.DhgateKernelIdeal.main_arg0)
          ∧ r.2.mem ((c.tc : Thread Cert.DhgateKernelIdeal.nD Cert.DhgateKernelIdeal.τ).loc Cert.DhgateKernelIdeal.main_arg1) = m ((c.tc : Thread Cert.DhgateKernelIdeal.nD Cert.DhgateKernelIdeal.τ).loc Cert.DhgateKernelIdeal.main_arg1)
          ∧ r.2.mem ((c.tc : Thread Cert.DhgateKernelIdeal.nD Cert.DhgateKernelIdeal.τ).loc Cert.DhgateKernelIdeal.main_arg2) = m ((c.tc : Thread Cert.DhgateKernelIdeal.nD Cert.DhgateKernelIdeal.τ).loc Cert.DhgateKernelIdeal.main_arg2))
      ∧ θ_run (Cert.DhgateReferenceIdeal.defs (F := Ideal)) (onTc (τ := Cert.DhgateReferenceIdeal.τ) (Cert.DhgateReferenceIdeal.main (F := Ideal))) ⟨m', fun _ => 0, g'⟩ (fun r => ∀ c : Dev Cert.DhgateReferenceIdeal.nD,
          r.2.mem ((c.tc : Thread Cert.DhgateReferenceIdeal.nD Cert.DhgateReferenceIdeal.τ).loc Cert.DhgateReferenceIdeal.main_v1) = v0 c
          ∧ r.2.mem ((c.tc : Thread Cert.DhgateReferenceIdeal.nD Cert.DhgateReferenceIdeal.τ).loc Cert.DhgateReferenceIdeal.main_arg0) = m' ((c.tc : Thread Cert.DhgateReferenceIdeal.nD Cert.DhgateReferenceIdeal.τ).loc Cert.DhgateReferenceIdeal.main_arg0)
          ∧ r.2.mem ((c.tc : Thread Cert.DhgateReferenceIdeal.nD Cert.DhgateReferenceIdeal.τ).loc Cert.DhgateReferenceIdeal.main_arg1) = m' ((c.tc : Thread Cert.DhgateReferenceIdeal.nD Cert.DhgateReferenceIdeal.τ).loc Cert.DhgateReferenceIdeal.main_arg1)
          ∧ r.2.mem ((c.tc : Thread Cert.DhgateReferenceIdeal.nD Cert.DhgateReferenceIdeal.τ).loc Cert.DhgateReferenceIdeal.main_arg2) = m' ((c.tc : Thread Cert.DhgateReferenceIdeal.nD Cert.DhgateReferenceIdeal.τ).loc Cert.DhgateReferenceIdeal.main_arg2))

def preserves_DwgateKernel_DwgateKernelIdeal : Prop :=
  True

def algebraic_DwgateKernelIdeal_DwgateReferenceIdeal [hDwgateKernelIdeal : Cert.DwgateKernelIdeal.Facts] [hDwgateReferenceIdeal : Cert.DwgateReferenceIdeal.Facts] : Prop :=
  ∀ (m : (ℓ : Loc Cert.DwgateKernelIdeal.nD Cert.DwgateKernelIdeal.τ Cert.DwgateKernelIdeal.sig) → Buf (Elt Ideal) ℓ) (g : Dev Cert.DwgateKernelIdeal.nD → PrngReg)
    (m' : (ℓ : Loc Cert.DwgateReferenceIdeal.nD Cert.DwgateReferenceIdeal.τ Cert.DwgateReferenceIdeal.sig) → Buf (Elt Ideal) ℓ) (g' : Dev Cert.DwgateReferenceIdeal.nD → PrngReg), Pre_DwgateKernelIdeal m →
    (∀ c : Dev Cert.DwgateKernelIdeal.nD,
      m' ((c.tc : Thread Cert.DwgateReferenceIdeal.nD Cert.DwgateReferenceIdeal.τ).loc Cert.DwgateReferenceIdeal.main_arg0) = m ((c.tc : Thread Cert.DwgateKernelIdeal.nD Cert.DwgateKernelIdeal.τ).loc Cert.DwgateKernelIdeal.main_arg0)
      ∧ m' ((c.tc : Thread Cert.DwgateReferenceIdeal.nD Cert.DwgateReferenceIdeal.τ).loc Cert.DwgateReferenceIdeal.main_arg1) = m ((c.tc : Thread Cert.DwgateKernelIdeal.nD Cert.DwgateKernelIdeal.τ).loc Cert.DwgateKernelIdeal.main_arg1)
      ∧ m' ((c.tc : Thread Cert.DwgateReferenceIdeal.nD Cert.DwgateReferenceIdeal.τ).loc Cert.DwgateReferenceIdeal.main_arg2) = m ((c.tc : Thread Cert.DwgateKernelIdeal.nD Cert.DwgateKernelIdeal.τ).loc Cert.DwgateKernelIdeal.main_arg2)) →
    ∃ (v0 : (c : Dev Cert.DwgateKernelIdeal.nD) → Buf (Elt Ideal) ((c.tc : Thread Cert.DwgateKernelIdeal.nD Cert.DwgateKernelIdeal.τ).loc Cert.DwgateKernelIdeal.main_v2)),
      θ_run (Cert.DwgateKernelIdeal.defs (F := Ideal)) (onTc (τ := Cert.DwgateKernelIdeal.τ) (Cert.DwgateKernelIdeal.main (F := Ideal))) ⟨m, fun _ => 0, g⟩ (fun r => ∀ c : Dev Cert.DwgateKernelIdeal.nD,
          r.2.mem ((c.tc : Thread Cert.DwgateKernelIdeal.nD Cert.DwgateKernelIdeal.τ).loc Cert.DwgateKernelIdeal.main_v2) = v0 c
          ∧ r.2.mem ((c.tc : Thread Cert.DwgateKernelIdeal.nD Cert.DwgateKernelIdeal.τ).loc Cert.DwgateKernelIdeal.main_arg0) = m ((c.tc : Thread Cert.DwgateKernelIdeal.nD Cert.DwgateKernelIdeal.τ).loc Cert.DwgateKernelIdeal.main_arg0)
          ∧ r.2.mem ((c.tc : Thread Cert.DwgateKernelIdeal.nD Cert.DwgateKernelIdeal.τ).loc Cert.DwgateKernelIdeal.main_arg1) = m ((c.tc : Thread Cert.DwgateKernelIdeal.nD Cert.DwgateKernelIdeal.τ).loc Cert.DwgateKernelIdeal.main_arg1)
          ∧ r.2.mem ((c.tc : Thread Cert.DwgateKernelIdeal.nD Cert.DwgateKernelIdeal.τ).loc Cert.DwgateKernelIdeal.main_arg2) = m ((c.tc : Thread Cert.DwgateKernelIdeal.nD Cert.DwgateKernelIdeal.τ).loc Cert.DwgateKernelIdeal.main_arg2))
      ∧ θ_run (Cert.DwgateReferenceIdeal.defs (F := Ideal)) (onTc (τ := Cert.DwgateReferenceIdeal.τ) (Cert.DwgateReferenceIdeal.main (F := Ideal))) ⟨m', fun _ => 0, g'⟩ (fun r => ∀ c : Dev Cert.DwgateReferenceIdeal.nD,
          r.2.mem ((c.tc : Thread Cert.DwgateReferenceIdeal.nD Cert.DwgateReferenceIdeal.τ).loc Cert.DwgateReferenceIdeal.main_v4) = v0 c
          ∧ r.2.mem ((c.tc : Thread Cert.DwgateReferenceIdeal.nD Cert.DwgateReferenceIdeal.τ).loc Cert.DwgateReferenceIdeal.main_arg0) = m' ((c.tc : Thread Cert.DwgateReferenceIdeal.nD Cert.DwgateReferenceIdeal.τ).loc Cert.DwgateReferenceIdeal.main_arg0)
          ∧ r.2.mem ((c.tc : Thread Cert.DwgateReferenceIdeal.nD Cert.DwgateReferenceIdeal.τ).loc Cert.DwgateReferenceIdeal.main_arg1) = m' ((c.tc : Thread Cert.DwgateReferenceIdeal.nD Cert.DwgateReferenceIdeal.τ).loc Cert.DwgateReferenceIdeal.main_arg1)
          ∧ r.2.mem ((c.tc : Thread Cert.DwgateReferenceIdeal.nD Cert.DwgateReferenceIdeal.τ).loc Cert.DwgateReferenceIdeal.main_arg2) = m' ((c.tc : Thread Cert.DwgateReferenceIdeal.nD Cert.DwgateReferenceIdeal.τ).loc Cert.DwgateReferenceIdeal.main_arg2))

def preserves_PqkvKernel_PqkvKernelIdeal : Prop :=
  True

def algebraic_PqkvKernelIdeal_PqkvReferenceIdeal [hPqkvKernelIdeal : Cert.PqkvKernelIdeal.Facts] [hPqkvReferenceIdeal : Cert.PqkvReferenceIdeal.Facts] : Prop :=
  ∀ (m : (ℓ : Loc Cert.PqkvKernelIdeal.nD Cert.PqkvKernelIdeal.τ Cert.PqkvKernelIdeal.sig) → Buf (Elt Ideal) ℓ) (g : Dev Cert.PqkvKernelIdeal.nD → PrngReg)
    (m' : (ℓ : Loc Cert.PqkvReferenceIdeal.nD Cert.PqkvReferenceIdeal.τ Cert.PqkvReferenceIdeal.sig) → Buf (Elt Ideal) ℓ) (g' : Dev Cert.PqkvReferenceIdeal.nD → PrngReg), Pre_PqkvKernelIdeal m →
    (∀ c : Dev Cert.PqkvKernelIdeal.nD,
      m' ((c.tc : Thread Cert.PqkvReferenceIdeal.nD Cert.PqkvReferenceIdeal.τ).loc Cert.PqkvReferenceIdeal.main_arg0) = m ((c.tc : Thread Cert.PqkvKernelIdeal.nD Cert.PqkvKernelIdeal.τ).loc Cert.PqkvKernelIdeal.main_arg0)
      ∧ m' ((c.tc : Thread Cert.PqkvReferenceIdeal.nD Cert.PqkvReferenceIdeal.τ).loc Cert.PqkvReferenceIdeal.main_arg1) = m ((c.tc : Thread Cert.PqkvKernelIdeal.nD Cert.PqkvKernelIdeal.τ).loc Cert.PqkvKernelIdeal.main_arg1)) →
    ∃ (v0 : (c : Dev Cert.PqkvKernelIdeal.nD) → Buf (Elt Ideal) ((c.tc : Thread Cert.PqkvKernelIdeal.nD Cert.PqkvKernelIdeal.τ).loc Cert.PqkvKernelIdeal.main_v3)),
      θ_run (Cert.PqkvKernelIdeal.defs (F := Ideal)) (onTc (τ := Cert.PqkvKernelIdeal.τ) (Cert.PqkvKernelIdeal.main (F := Ideal))) ⟨m, fun _ => 0, g⟩ (fun r => ∀ c : Dev Cert.PqkvKernelIdeal.nD,
          r.2.mem ((c.tc : Thread Cert.PqkvKernelIdeal.nD Cert.PqkvKernelIdeal.τ).loc Cert.PqkvKernelIdeal.main_v3) = v0 c
          ∧ r.2.mem ((c.tc : Thread Cert.PqkvKernelIdeal.nD Cert.PqkvKernelIdeal.τ).loc Cert.PqkvKernelIdeal.main_arg0) = m ((c.tc : Thread Cert.PqkvKernelIdeal.nD Cert.PqkvKernelIdeal.τ).loc Cert.PqkvKernelIdeal.main_arg0)
          ∧ r.2.mem ((c.tc : Thread Cert.PqkvKernelIdeal.nD Cert.PqkvKernelIdeal.τ).loc Cert.PqkvKernelIdeal.main_arg1) = m ((c.tc : Thread Cert.PqkvKernelIdeal.nD Cert.PqkvKernelIdeal.τ).loc Cert.PqkvKernelIdeal.main_arg1))
      ∧ θ_run (Cert.PqkvReferenceIdeal.defs (F := Ideal)) (onTc (τ := Cert.PqkvReferenceIdeal.τ) (Cert.PqkvReferenceIdeal.main (F := Ideal))) ⟨m', fun _ => 0, g'⟩ (fun r => ∀ c : Dev Cert.PqkvReferenceIdeal.nD,
          r.2.mem ((c.tc : Thread Cert.PqkvReferenceIdeal.nD Cert.PqkvReferenceIdeal.τ).loc Cert.PqkvReferenceIdeal.main_v0) = v0 c
          ∧ r.2.mem ((c.tc : Thread Cert.PqkvReferenceIdeal.nD Cert.PqkvReferenceIdeal.τ).loc Cert.PqkvReferenceIdeal.main_arg0) = m' ((c.tc : Thread Cert.PqkvReferenceIdeal.nD Cert.PqkvReferenceIdeal.τ).loc Cert.PqkvReferenceIdeal.main_arg0)
          ∧ r.2.mem ((c.tc : Thread Cert.PqkvReferenceIdeal.nD Cert.PqkvReferenceIdeal.τ).loc Cert.PqkvReferenceIdeal.main_arg1) = m' ((c.tc : Thread Cert.PqkvReferenceIdeal.nD Cert.PqkvReferenceIdeal.τ).loc Cert.PqkvReferenceIdeal.main_arg1))

def preserves_DwqkvKernel_DwqkvKernelIdeal : Prop :=
  True

def algebraic_DwqkvKernelIdeal_DwqkvReferenceIdeal [hDwqkvKernelIdeal : Cert.DwqkvKernelIdeal.Facts] [hDwqkvReferenceIdeal : Cert.DwqkvReferenceIdeal.Facts] : Prop :=
  ∀ (m : (ℓ : Loc Cert.DwqkvKernelIdeal.nD Cert.DwqkvKernelIdeal.τ Cert.DwqkvKernelIdeal.sig) → Buf (Elt Ideal) ℓ) (g : Dev Cert.DwqkvKernelIdeal.nD → PrngReg)
    (m' : (ℓ : Loc Cert.DwqkvReferenceIdeal.nD Cert.DwqkvReferenceIdeal.τ Cert.DwqkvReferenceIdeal.sig) → Buf (Elt Ideal) ℓ) (g' : Dev Cert.DwqkvReferenceIdeal.nD → PrngReg), Pre_DwqkvKernelIdeal m →
    (∀ c : Dev Cert.DwqkvKernelIdeal.nD,
      m' ((c.tc : Thread Cert.DwqkvReferenceIdeal.nD Cert.DwqkvReferenceIdeal.τ).loc Cert.DwqkvReferenceIdeal.main_arg0) = m ((c.tc : Thread Cert.DwqkvKernelIdeal.nD Cert.DwqkvKernelIdeal.τ).loc Cert.DwqkvKernelIdeal.main_arg0)
      ∧ m' ((c.tc : Thread Cert.DwqkvReferenceIdeal.nD Cert.DwqkvReferenceIdeal.τ).loc Cert.DwqkvReferenceIdeal.main_arg1) = m ((c.tc : Thread Cert.DwqkvKernelIdeal.nD Cert.DwqkvKernelIdeal.τ).loc Cert.DwqkvKernelIdeal.main_arg1)
      ∧ m' ((c.tc : Thread Cert.DwqkvReferenceIdeal.nD Cert.DwqkvReferenceIdeal.τ).loc Cert.DwqkvReferenceIdeal.main_arg2) = m ((c.tc : Thread Cert.DwqkvKernelIdeal.nD Cert.DwqkvKernelIdeal.τ).loc Cert.DwqkvKernelIdeal.main_arg2)) →
    ∃ (v0 : (c : Dev Cert.DwqkvKernelIdeal.nD) → Buf (Elt Ideal) ((c.tc : Thread Cert.DwqkvKernelIdeal.nD Cert.DwqkvKernelIdeal.τ).loc Cert.DwqkvKernelIdeal.main_v2)),
      θ_run (Cert.DwqkvKernelIdeal.defs (F := Ideal)) (onTc (τ := Cert.DwqkvKernelIdeal.τ) (Cert.DwqkvKernelIdeal.main (F := Ideal))) ⟨m, fun _ => 0, g⟩ (fun r => ∀ c : Dev Cert.DwqkvKernelIdeal.nD,
          r.2.mem ((c.tc : Thread Cert.DwqkvKernelIdeal.nD Cert.DwqkvKernelIdeal.τ).loc Cert.DwqkvKernelIdeal.main_v2) = v0 c
          ∧ r.2.mem ((c.tc : Thread Cert.DwqkvKernelIdeal.nD Cert.DwqkvKernelIdeal.τ).loc Cert.DwqkvKernelIdeal.main_arg0) = m ((c.tc : Thread Cert.DwqkvKernelIdeal.nD Cert.DwqkvKernelIdeal.τ).loc Cert.DwqkvKernelIdeal.main_arg0)
          ∧ r.2.mem ((c.tc : Thread Cert.DwqkvKernelIdeal.nD Cert.DwqkvKernelIdeal.τ).loc Cert.DwqkvKernelIdeal.main_arg1) = m ((c.tc : Thread Cert.DwqkvKernelIdeal.nD Cert.DwqkvKernelIdeal.τ).loc Cert.DwqkvKernelIdeal.main_arg1)
          ∧ r.2.mem ((c.tc : Thread Cert.DwqkvKernelIdeal.nD Cert.DwqkvKernelIdeal.τ).loc Cert.DwqkvKernelIdeal.main_arg2) = m ((c.tc : Thread Cert.DwqkvKernelIdeal.nD Cert.DwqkvKernelIdeal.τ).loc Cert.DwqkvKernelIdeal.main_arg2))
      ∧ θ_run (Cert.DwqkvReferenceIdeal.defs (F := Ideal)) (onTc (τ := Cert.DwqkvReferenceIdeal.τ) (Cert.DwqkvReferenceIdeal.main (F := Ideal))) ⟨m', fun _ => 0, g'⟩ (fun r => ∀ c : Dev Cert.DwqkvReferenceIdeal.nD,
          r.2.mem ((c.tc : Thread Cert.DwqkvReferenceIdeal.nD Cert.DwqkvReferenceIdeal.τ).loc Cert.DwqkvReferenceIdeal.main_v4) = v0 c
          ∧ r.2.mem ((c.tc : Thread Cert.DwqkvReferenceIdeal.nD Cert.DwqkvReferenceIdeal.τ).loc Cert.DwqkvReferenceIdeal.main_arg0) = m' ((c.tc : Thread Cert.DwqkvReferenceIdeal.nD Cert.DwqkvReferenceIdeal.τ).loc Cert.DwqkvReferenceIdeal.main_arg0)
          ∧ r.2.mem ((c.tc : Thread Cert.DwqkvReferenceIdeal.nD Cert.DwqkvReferenceIdeal.τ).loc Cert.DwqkvReferenceIdeal.main_arg1) = m' ((c.tc : Thread Cert.DwqkvReferenceIdeal.nD Cert.DwqkvReferenceIdeal.τ).loc Cert.DwqkvReferenceIdeal.main_arg1)
          ∧ r.2.mem ((c.tc : Thread Cert.DwqkvReferenceIdeal.nD Cert.DwqkvReferenceIdeal.τ).loc Cert.DwqkvReferenceIdeal.main_arg2) = m' ((c.tc : Thread Cert.DwqkvReferenceIdeal.nD Cert.DwqkvReferenceIdeal.τ).loc Cert.DwqkvReferenceIdeal.main_arg2))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)) →
    ∃ (v0 : (c : Dev Cert.MixKernelIdeal.nD) → Buf (Elt Ideal) ((c.tc : Thread Cert.MixKernelIdeal.nD Cert.MixKernelIdeal.τ).loc Cert.MixKernelIdeal.main_v3_0)) (v1 : (c : Dev Cert.MixKernelIdeal.nD) → Buf (Elt Ideal) ((c.tc : Thread Cert.MixKernelIdeal.nD Cert.MixKernelIdeal.τ).loc Cert.MixKernelIdeal.main_v3_1)) (v2 : (c : Dev Cert.MixKernelIdeal.nD) → Buf (Elt Ideal) ((c.tc : Thread Cert.MixKernelIdeal.nD Cert.MixKernelIdeal.τ).loc Cert.MixKernelIdeal.main_v3_2)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v3_0) = v0 c
          ∧ r.2.mem ((c.tc : Thread Cert.MixKernelIdeal.nD Cert.MixKernelIdeal.τ).loc Cert.MixKernelIdeal.main_v3_1) = v1 c
          ∧ r.2.mem ((c.tc : Thread Cert.MixKernelIdeal.nD Cert.MixKernelIdeal.τ).loc Cert.MixKernelIdeal.main_v3_2) = v2 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v42) = v0 c
          ∧ r.2.mem ((c.tc : Thread Cert.MixReferenceIdeal.nD Cert.MixReferenceIdeal.τ).loc Cert.MixReferenceIdeal.main_v43) = v1 c
          ∧ r.2.mem ((c.tc : Thread Cert.MixReferenceIdeal.nD Cert.MixReferenceIdeal.τ).loc Cert.MixReferenceIdeal.main_v44) = v2 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7))

def preserves_ProjaKernel_ProjaKernelIdeal : Prop :=
  True

def algebraic_ProjaKernelIdeal_ProjaReferenceIdeal [hProjaKernelIdeal : Cert.ProjaKernelIdeal.Facts] [hProjaReferenceIdeal : Cert.ProjaReferenceIdeal.Facts] : Prop :=
  ∀ (m : (ℓ : Loc Cert.ProjaKernelIdeal.nD Cert.ProjaKernelIdeal.τ Cert.ProjaKernelIdeal.sig) → Buf (Elt Ideal) ℓ) (g : Dev Cert.ProjaKernelIdeal.nD → PrngReg)
    (m' : (ℓ : Loc Cert.ProjaReferenceIdeal.nD Cert.ProjaReferenceIdeal.τ Cert.ProjaReferenceIdeal.sig) → Buf (Elt Ideal) ℓ) (g' : Dev Cert.ProjaReferenceIdeal.nD → PrngReg), Pre_ProjaKernelIdeal m →
    (∀ c : Dev Cert.ProjaKernelIdeal.nD,
      m' ((c.tc : Thread Cert.ProjaReferenceIdeal.nD Cert.ProjaReferenceIdeal.τ).loc Cert.ProjaReferenceIdeal.main_arg0) = m ((c.tc : Thread Cert.ProjaKernelIdeal.nD Cert.ProjaKernelIdeal.τ).loc Cert.ProjaKernelIdeal.main_arg0)
      ∧ m' ((c.tc : Thread Cert.ProjaReferenceIdeal.nD Cert.ProjaReferenceIdeal.τ).loc Cert.ProjaReferenceIdeal.main_arg1) = m ((c.tc : Thread Cert.ProjaKernelIdeal.nD Cert.ProjaKernelIdeal.τ).loc Cert.ProjaKernelIdeal.main_arg1)) →
    ∃ (v0 : (c : Dev Cert.ProjaKernelIdeal.nD) → Buf (Elt Ideal) ((c.tc : Thread Cert.ProjaKernelIdeal.nD Cert.ProjaKernelIdeal.τ).loc Cert.ProjaKernelIdeal.main_v2)),
      θ_run (Cert.ProjaKernelIdeal.defs (F := Ideal)) (onTc (τ := Cert.ProjaKernelIdeal.τ) (Cert.ProjaKernelIdeal.main (F := Ideal))) ⟨m, fun _ => 0, g⟩ (fun r => ∀ c : Dev Cert.ProjaKernelIdeal.nD,
          r.2.mem ((c.tc : Thread Cert.ProjaKernelIdeal.nD Cert.ProjaKernelIdeal.τ).loc Cert.ProjaKernelIdeal.main_v2) = v0 c
          ∧ r.2.mem ((c.tc : Thread Cert.ProjaKernelIdeal.nD Cert.ProjaKernelIdeal.τ).loc Cert.ProjaKernelIdeal.main_arg0) = m ((c.tc : Thread Cert.ProjaKernelIdeal.nD Cert.ProjaKernelIdeal.τ).loc Cert.ProjaKernelIdeal.main_arg0)
          ∧ r.2.mem ((c.tc : Thread Cert.ProjaKernelIdeal.nD Cert.ProjaKernelIdeal.τ).loc Cert.ProjaKernelIdeal.main_arg1) = m ((c.tc : Thread Cert.ProjaKernelIdeal.nD Cert.ProjaKernelIdeal.τ).loc Cert.ProjaKernelIdeal.main_arg1))
      ∧ θ_run (Cert.ProjaReferenceIdeal.defs (F := Ideal)) (onTc (τ := Cert.ProjaReferenceIdeal.τ) (Cert.ProjaReferenceIdeal.main (F := Ideal))) ⟨m', fun _ => 0, g'⟩ (fun r => ∀ c : Dev Cert.ProjaReferenceIdeal.nD,
          r.2.mem ((c.tc : Thread Cert.ProjaReferenceIdeal.nD Cert.ProjaReferenceIdeal.τ).loc Cert.ProjaReferenceIdeal.main_v0) = v0 c
          ∧ r.2.mem ((c.tc : Thread Cert.ProjaReferenceIdeal.nD Cert.ProjaReferenceIdeal.τ).loc Cert.ProjaReferenceIdeal.main_arg0) = m' ((c.tc : Thread Cert.ProjaReferenceIdeal.nD Cert.ProjaReferenceIdeal.τ).loc Cert.ProjaReferenceIdeal.main_arg0)
          ∧ r.2.mem ((c.tc : Thread Cert.ProjaReferenceIdeal.nD Cert.ProjaReferenceIdeal.τ).loc Cert.ProjaReferenceIdeal.main_arg1) = m' ((c.tc : Thread Cert.ProjaReferenceIdeal.nD Cert.ProjaReferenceIdeal.τ).loc Cert.ProjaReferenceIdeal.main_arg1))

def preserves_DyaKernel_DyaKernelIdeal : Prop :=
  True

def algebraic_DyaKernelIdeal_DyaReferenceIdeal [hDyaKernelIdeal : Cert.DyaKernelIdeal.Facts] [hDyaReferenceIdeal : Cert.DyaReferenceIdeal.Facts] : Prop :=
  ∀ (m : (ℓ : Loc Cert.DyaKernelIdeal.nD Cert.DyaKernelIdeal.τ Cert.DyaKernelIdeal.sig) → Buf (Elt Ideal) ℓ) (g : Dev Cert.DyaKernelIdeal.nD → PrngReg)
    (m' : (ℓ : Loc Cert.DyaReferenceIdeal.nD Cert.DyaReferenceIdeal.τ Cert.DyaReferenceIdeal.sig) → Buf (Elt Ideal) ℓ) (g' : Dev Cert.DyaReferenceIdeal.nD → PrngReg), Pre_DyaKernelIdeal m →
    (∀ c : Dev Cert.DyaKernelIdeal.nD,
      m' ((c.tc : Thread Cert.DyaReferenceIdeal.nD Cert.DyaReferenceIdeal.τ).loc Cert.DyaReferenceIdeal.main_arg0) = m ((c.tc : Thread Cert.DyaKernelIdeal.nD Cert.DyaKernelIdeal.τ).loc Cert.DyaKernelIdeal.main_arg0)
      ∧ m' ((c.tc : Thread Cert.DyaReferenceIdeal.nD Cert.DyaReferenceIdeal.τ).loc Cert.DyaReferenceIdeal.main_arg1) = m ((c.tc : Thread Cert.DyaKernelIdeal.nD Cert.DyaKernelIdeal.τ).loc Cert.DyaKernelIdeal.main_arg1)
      ∧ m' ((c.tc : Thread Cert.DyaReferenceIdeal.nD Cert.DyaReferenceIdeal.τ).loc Cert.DyaReferenceIdeal.main_arg2) = m ((c.tc : Thread Cert.DyaKernelIdeal.nD Cert.DyaKernelIdeal.τ).loc Cert.DyaKernelIdeal.main_arg2)) →
    ∃ (v0 : (c : Dev Cert.DyaKernelIdeal.nD) → Buf (Elt Ideal) ((c.tc : Thread Cert.DyaKernelIdeal.nD Cert.DyaKernelIdeal.τ).loc Cert.DyaKernelIdeal.main_v2)),
      θ_run (Cert.DyaKernelIdeal.defs (F := Ideal)) (onTc (τ := Cert.DyaKernelIdeal.τ) (Cert.DyaKernelIdeal.main (F := Ideal))) ⟨m, fun _ => 0, g⟩ (fun r => ∀ c : Dev Cert.DyaKernelIdeal.nD,
          r.2.mem ((c.tc : Thread Cert.DyaKernelIdeal.nD Cert.DyaKernelIdeal.τ).loc Cert.DyaKernelIdeal.main_v2) = v0 c
          ∧ r.2.mem ((c.tc : Thread Cert.DyaKernelIdeal.nD Cert.DyaKernelIdeal.τ).loc Cert.DyaKernelIdeal.main_arg0) = m ((c.tc : Thread Cert.DyaKernelIdeal.nD Cert.DyaKernelIdeal.τ).loc Cert.DyaKernelIdeal.main_arg0)
          ∧ r.2.mem ((c.tc : Thread Cert.DyaKernelIdeal.nD Cert.DyaKernelIdeal.τ).loc Cert.DyaKernelIdeal.main_arg1) = m ((c.tc : Thread Cert.DyaKernelIdeal.nD Cert.DyaKernelIdeal.τ).loc Cert.DyaKernelIdeal.main_arg1)
          ∧ r.2.mem ((c.tc : Thread Cert.DyaKernelIdeal.nD Cert.DyaKernelIdeal.τ).loc Cert.DyaKernelIdeal.main_arg2) = m ((c.tc : Thread Cert.DyaKernelIdeal.nD Cert.DyaKernelIdeal.τ).loc Cert.DyaKernelIdeal.main_arg2))
      ∧ θ_run (Cert.DyaReferenceIdeal.defs (F := Ideal)) (onTc (τ := Cert.DyaReferenceIdeal.τ) (Cert.DyaReferenceIdeal.main (F := Ideal))) ⟨m', fun _ => 0, g'⟩ (fun r => ∀ c : Dev Cert.DyaReferenceIdeal.nD,
          r.2.mem ((c.tc : Thread Cert.DyaReferenceIdeal.nD Cert.DyaReferenceIdeal.τ).loc Cert.DyaReferenceIdeal.main_v1) = v0 c
          ∧ r.2.mem ((c.tc : Thread Cert.DyaReferenceIdeal.nD Cert.DyaReferenceIdeal.τ).loc Cert.DyaReferenceIdeal.main_arg0) = m' ((c.tc : Thread Cert.DyaReferenceIdeal.nD Cert.DyaReferenceIdeal.τ).loc Cert.DyaReferenceIdeal.main_arg0)
          ∧ r.2.mem ((c.tc : Thread Cert.DyaReferenceIdeal.nD Cert.DyaReferenceIdeal.τ).loc Cert.DyaReferenceIdeal.main_arg1) = m' ((c.tc : Thread Cert.DyaReferenceIdeal.nD Cert.DyaReferenceIdeal.τ).loc Cert.DyaReferenceIdeal.main_arg1)
          ∧ r.2.mem ((c.tc : Thread Cert.DyaReferenceIdeal.nD Cert.DyaReferenceIdeal.τ).loc Cert.DyaReferenceIdeal.main_arg2) = m' ((c.tc : Thread Cert.DyaReferenceIdeal.nD Cert.DyaReferenceIdeal.τ).loc Cert.DyaReferenceIdeal.main_arg2))

def preserves_DwprKernel_DwprKernelIdeal : Prop :=
  True

def algebraic_DwprKernelIdeal_DwprReferenceIdeal [hDwprKernelIdeal : Cert.DwprKernelIdeal.Facts] [hDwprReferenceIdeal : Cert.DwprReferenceIdeal.Facts] : Prop :=
  ∀ (m : (ℓ : Loc Cert.DwprKernelIdeal.nD Cert.DwprKernelIdeal.τ Cert.DwprKernelIdeal.sig) → Buf (Elt Ideal) ℓ) (g : Dev Cert.DwprKernelIdeal.nD → PrngReg)
    (m' : (ℓ : Loc Cert.DwprReferenceIdeal.nD Cert.DwprReferenceIdeal.τ Cert.DwprReferenceIdeal.sig) → Buf (Elt Ideal) ℓ) (g' : Dev Cert.DwprReferenceIdeal.nD → PrngReg), Pre_DwprKernelIdeal m →
    (∀ c : Dev Cert.DwprKernelIdeal.nD,
      m' ((c.tc : Thread Cert.DwprReferenceIdeal.nD Cert.DwprReferenceIdeal.τ).loc Cert.DwprReferenceIdeal.main_arg0) = m ((c.tc : Thread Cert.DwprKernelIdeal.nD Cert.DwprKernelIdeal.τ).loc Cert.DwprKernelIdeal.main_arg0)
      ∧ m' ((c.tc : Thread Cert.DwprReferenceIdeal.nD Cert.DwprReferenceIdeal.τ).loc Cert.DwprReferenceIdeal.main_arg1) = m ((c.tc : Thread Cert.DwprKernelIdeal.nD Cert.DwprKernelIdeal.τ).loc Cert.DwprKernelIdeal.main_arg1)
      ∧ m' ((c.tc : Thread Cert.DwprReferenceIdeal.nD Cert.DwprReferenceIdeal.τ).loc Cert.DwprReferenceIdeal.main_arg2) = m ((c.tc : Thread Cert.DwprKernelIdeal.nD Cert.DwprKernelIdeal.τ).loc Cert.DwprKernelIdeal.main_arg2)) →
    ∃ (v0 : (c : Dev Cert.DwprKernelIdeal.nD) → Buf (Elt Ideal) ((c.tc : Thread Cert.DwprKernelIdeal.nD Cert.DwprKernelIdeal.τ).loc Cert.DwprKernelIdeal.main_v2)),
      θ_run (Cert.DwprKernelIdeal.defs (F := Ideal)) (onTc (τ := Cert.DwprKernelIdeal.τ) (Cert.DwprKernelIdeal.main (F := Ideal))) ⟨m, fun _ => 0, g⟩ (fun r => ∀ c : Dev Cert.DwprKernelIdeal.nD,
          r.2.mem ((c.tc : Thread Cert.DwprKernelIdeal.nD Cert.DwprKernelIdeal.τ).loc Cert.DwprKernelIdeal.main_v2) = v0 c
          ∧ r.2.mem ((c.tc : Thread Cert.DwprKernelIdeal.nD Cert.DwprKernelIdeal.τ).loc Cert.DwprKernelIdeal.main_arg0) = m ((c.tc : Thread Cert.DwprKernelIdeal.nD Cert.DwprKernelIdeal.τ).loc Cert.DwprKernelIdeal.main_arg0)
          ∧ r.2.mem ((c.tc : Thread Cert.DwprKernelIdeal.nD Cert.DwprKernelIdeal.τ).loc Cert.DwprKernelIdeal.main_arg1) = m ((c.tc : Thread Cert.DwprKernelIdeal.nD Cert.DwprKernelIdeal.τ).loc Cert.DwprKernelIdeal.main_arg1)
          ∧ r.2.mem ((c.tc : Thread Cert.DwprKernelIdeal.nD Cert.DwprKernelIdeal.τ).loc Cert.DwprKernelIdeal.main_arg2) = m ((c.tc : Thread Cert.DwprKernelIdeal.nD Cert.DwprKernelIdeal.τ).loc Cert.DwprKernelIdeal.main_arg2))
      ∧ θ_run (Cert.DwprReferenceIdeal.defs (F := Ideal)) (onTc (τ := Cert.DwprReferenceIdeal.τ) (Cert.DwprReferenceIdeal.main (F := Ideal))) ⟨m', fun _ => 0, g'⟩ (fun r => ∀ c : Dev Cert.DwprReferenceIdeal.nD,
          r.2.mem ((c.tc : Thread Cert.DwprReferenceIdeal.nD Cert.DwprReferenceIdeal.τ).loc Cert.DwprReferenceIdeal.main_v3) = v0 c
          ∧ r.2.mem ((c.tc : Thread Cert.DwprReferenceIdeal.nD Cert.DwprReferenceIdeal.τ).loc Cert.DwprReferenceIdeal.main_arg0) = m' ((c.tc : Thread Cert.DwprReferenceIdeal.nD Cert.DwprReferenceIdeal.τ).loc Cert.DwprReferenceIdeal.main_arg0)
          ∧ r.2.mem ((c.tc : Thread Cert.DwprReferenceIdeal.nD Cert.DwprReferenceIdeal.τ).loc Cert.DwprReferenceIdeal.main_arg1) = m' ((c.tc : Thread Cert.DwprReferenceIdeal.nD Cert.DwprReferenceIdeal.τ).loc Cert.DwprReferenceIdeal.main_arg1)
          ∧ r.2.mem ((c.tc : Thread Cert.DwprReferenceIdeal.nD Cert.DwprReferenceIdeal.τ).loc Cert.DwprReferenceIdeal.main_arg2) = m' ((c.tc : Thread Cert.DwprReferenceIdeal.nD Cert.DwprReferenceIdeal.τ).loc Cert.DwprReferenceIdeal.main_arg2))

def preserves_MixoutKernel_MixoutKernelIdeal : Prop :=
  True

def algebraic_MixoutKernelIdeal_MixoutReferenceIdeal [hMixoutKernelIdeal : Cert.MixoutKernelIdeal.Facts] [hMixoutReferenceIdeal : Cert.MixoutReferenceIdeal.Facts] : Prop :=
  ∀ (m : (ℓ : Loc Cert.MixoutKernelIdeal.nD Cert.MixoutKernelIdeal.τ Cert.MixoutKernelIdeal.sig) → Buf (Elt Ideal) ℓ) (g : Dev Cert.MixoutKernelIdeal.nD → PrngReg)
    (m' : (ℓ : Loc Cert.MixoutReferenceIdeal.nD Cert.MixoutReferenceIdeal.τ Cert.MixoutReferenceIdeal.sig) → Buf (Elt Ideal) ℓ) (g' : Dev Cert.MixoutReferenceIdeal.nD → PrngReg), Pre_MixoutKernelIdeal m →
    (∀ c : Dev Cert.MixoutKernelIdeal.nD,
      m' ((c.tc : Thread Cert.MixoutReferenceIdeal.nD Cert.MixoutReferenceIdeal.τ).loc Cert.MixoutReferenceIdeal.main_arg0) = m ((c.tc : Thread Cert.MixoutKernelIdeal.nD Cert.MixoutKernelIdeal.τ).loc Cert.MixoutKernelIdeal.main_arg0)
      ∧ m' ((c.tc : Thread Cert.MixoutReferenceIdeal.nD Cert.MixoutReferenceIdeal.τ).loc Cert.MixoutReferenceIdeal.main_arg1) = m ((c.tc : Thread Cert.MixoutKernelIdeal.nD Cert.MixoutKernelIdeal.τ).loc Cert.MixoutKernelIdeal.main_arg1)
      ∧ m' ((c.tc : Thread Cert.MixoutReferenceIdeal.nD Cert.MixoutReferenceIdeal.τ).loc Cert.MixoutReferenceIdeal.main_arg2) = m ((c.tc : Thread Cert.MixoutKernelIdeal.nD Cert.MixoutKernelIdeal.τ).loc Cert.MixoutKernelIdeal.main_arg2)
      ∧ m' ((c.tc : Thread Cert.MixoutReferenceIdeal.nD Cert.MixoutReferenceIdeal.τ).loc Cert.MixoutReferenceIdeal.main_arg3) = m ((c.tc : Thread Cert.MixoutKernelIdeal.nD Cert.MixoutKernelIdeal.τ).loc Cert.MixoutKernelIdeal.main_arg3)) →
    ∃ (v0 : (c : Dev Cert.MixoutKernelIdeal.nD) → Buf (Elt Ideal) ((c.tc : Thread Cert.MixoutKernelIdeal.nD Cert.MixoutKernelIdeal.τ).loc Cert.MixoutKernelIdeal.main_v2_0)) (v1 : (c : Dev Cert.MixoutKernelIdeal.nD) → Buf (Elt Ideal) ((c.tc : Thread Cert.MixoutKernelIdeal.nD Cert.MixoutKernelIdeal.τ).loc Cert.MixoutKernelIdeal.main_v2_1)),
      θ_run (Cert.MixoutKernelIdeal.defs (F := Ideal)) (onTc (τ := Cert.MixoutKernelIdeal.τ) (Cert.MixoutKernelIdeal.main (F := Ideal))) ⟨m, fun _ => 0, g⟩ (fun r => ∀ c : Dev Cert.MixoutKernelIdeal.nD,
          r.2.mem ((c.tc : Thread Cert.MixoutKernelIdeal.nD Cert.MixoutKernelIdeal.τ).loc Cert.MixoutKernelIdeal.main_v2_0) = v0 c
          ∧ r.2.mem ((c.tc : Thread Cert.MixoutKernelIdeal.nD Cert.MixoutKernelIdeal.τ).loc Cert.MixoutKernelIdeal.main_v2_1) = v1 c
          ∧ r.2.mem ((c.tc : Thread Cert.MixoutKernelIdeal.nD Cert.MixoutKernelIdeal.τ).loc Cert.MixoutKernelIdeal.main_arg0) = m ((c.tc : Thread Cert.MixoutKernelIdeal.nD Cert.MixoutKernelIdeal.τ).loc Cert.MixoutKernelIdeal.main_arg0)
          ∧ r.2.mem ((c.tc : Thread Cert.MixoutKernelIdeal.nD Cert.MixoutKernelIdeal.τ).loc Cert.MixoutKernelIdeal.main_arg1) = m ((c.tc : Thread Cert.MixoutKernelIdeal.nD Cert.MixoutKernelIdeal.τ).loc Cert.MixoutKernelIdeal.main_arg1)
          ∧ r.2.mem ((c.tc : Thread Cert.MixoutKernelIdeal.nD Cert.MixoutKernelIdeal.τ).loc Cert.MixoutKernelIdeal.main_arg2) = m ((c.tc : Thread Cert.MixoutKernelIdeal.nD Cert.MixoutKernelIdeal.τ).loc Cert.MixoutKernelIdeal.main_arg2)
          ∧ r.2.mem ((c.tc : Thread Cert.MixoutKernelIdeal.nD Cert.MixoutKernelIdeal.τ).loc Cert.MixoutKernelIdeal.main_arg3) = m ((c.tc : Thread Cert.MixoutKernelIdeal.nD Cert.MixoutKernelIdeal.τ).loc Cert.MixoutKernelIdeal.main_arg3))
      ∧ θ_run (Cert.MixoutReferenceIdeal.defs (F := Ideal)) (onTc (τ := Cert.MixoutReferenceIdeal.τ) (Cert.MixoutReferenceIdeal.main (F := Ideal))) ⟨m', fun _ => 0, g'⟩ (fun r => ∀ c : Dev Cert.MixoutReferenceIdeal.nD,
          r.2.mem ((c.tc : Thread Cert.MixoutReferenceIdeal.nD Cert.MixoutReferenceIdeal.τ).loc Cert.MixoutReferenceIdeal.main_v1) = v0 c
          ∧ r.2.mem ((c.tc : Thread Cert.MixoutReferenceIdeal.nD Cert.MixoutReferenceIdeal.τ).loc Cert.MixoutReferenceIdeal.main_v16) = v1 c
          ∧ r.2.mem ((c.tc : Thread Cert.MixoutReferenceIdeal.nD Cert.MixoutReferenceIdeal.τ).loc Cert.MixoutReferenceIdeal.main_arg0) = m' ((c.tc : Thread Cert.MixoutReferenceIdeal.nD Cert.MixoutReferenceIdeal.τ).loc Cert.MixoutReferenceIdeal.main_arg0)
          ∧ r.2.mem ((c.tc : Thread Cert.MixoutReferenceIdeal.nD Cert.MixoutReferenceIdeal.τ).loc Cert.MixoutReferenceIdeal.main_arg1) = m' ((c.tc : Thread Cert.MixoutReferenceIdeal.nD Cert.MixoutReferenceIdeal.τ).loc Cert.MixoutReferenceIdeal.main_arg1)
          ∧ r.2.mem ((c.tc : Thread Cert.MixoutReferenceIdeal.nD Cert.MixoutReferenceIdeal.τ).loc Cert.MixoutReferenceIdeal.main_arg2) = m' ((c.tc : Thread Cert.MixoutReferenceIdeal.nD Cert.MixoutReferenceIdeal.τ).loc Cert.MixoutReferenceIdeal.main_arg2)
          ∧ r.2.mem ((c.tc : Thread Cert.MixoutReferenceIdeal.nD Cert.MixoutReferenceIdeal.τ).loc Cert.MixoutReferenceIdeal.main_arg3) = m' ((c.tc : Thread Cert.MixoutReferenceIdeal.nD Cert.MixoutReferenceIdeal.τ).loc Cert.MixoutReferenceIdeal.main_arg3))

def preserves_PloraKernel_PloraKernelIdeal : Prop :=
  True

def algebraic_PloraKernelIdeal_PloraReferenceIdeal [hPloraKernelIdeal : Cert.PloraKernelIdeal.Facts] [hPloraReferenceIdeal : Cert.PloraReferenceIdeal.Facts] : Prop :=
  ∀ (m : (ℓ : Loc Cert.PloraKernelIdeal.nD Cert.PloraKernelIdeal.τ Cert.PloraKernelIdeal.sig) → Buf (Elt Ideal) ℓ) (g : Dev Cert.PloraKernelIdeal.nD → PrngReg)
    (m' : (ℓ : Loc Cert.PloraReferenceIdeal.nD Cert.PloraReferenceIdeal.τ Cert.PloraReferenceIdeal.sig) → Buf (Elt Ideal) ℓ) (g' : Dev Cert.PloraReferenceIdeal.nD → PrngReg), Pre_PloraKernelIdeal m →
    (∀ c : Dev Cert.PloraKernelIdeal.nD,
      m' ((c.tc : Thread Cert.PloraReferenceIdeal.nD Cert.PloraReferenceIdeal.τ).loc Cert.PloraReferenceIdeal.main_arg0) = m ((c.tc : Thread Cert.PloraKernelIdeal.nD Cert.PloraKernelIdeal.τ).loc Cert.PloraKernelIdeal.main_arg0)
      ∧ m' ((c.tc : Thread Cert.PloraReferenceIdeal.nD Cert.PloraReferenceIdeal.τ).loc Cert.PloraReferenceIdeal.main_arg1) = m ((c.tc : Thread Cert.PloraKernelIdeal.nD Cert.PloraKernelIdeal.τ).loc Cert.PloraKernelIdeal.main_arg1)) →
    ∃ (v0 : (c : Dev Cert.PloraKernelIdeal.nD) → Buf (Elt Ideal) ((c.tc : Thread Cert.PloraKernelIdeal.nD Cert.PloraKernelIdeal.τ).loc Cert.PloraKernelIdeal.main_v3)),
      θ_run (Cert.PloraKernelIdeal.defs (F := Ideal)) (onTc (τ := Cert.PloraKernelIdeal.τ) (Cert.PloraKernelIdeal.main (F := Ideal))) ⟨m, fun _ => 0, g⟩ (fun r => ∀ c : Dev Cert.PloraKernelIdeal.nD,
          r.2.mem ((c.tc : Thread Cert.PloraKernelIdeal.nD Cert.PloraKernelIdeal.τ).loc Cert.PloraKernelIdeal.main_v3) = v0 c
          ∧ r.2.mem ((c.tc : Thread Cert.PloraKernelIdeal.nD Cert.PloraKernelIdeal.τ).loc Cert.PloraKernelIdeal.main_arg0) = m ((c.tc : Thread Cert.PloraKernelIdeal.nD Cert.PloraKernelIdeal.τ).loc Cert.PloraKernelIdeal.main_arg0)
          ∧ r.2.mem ((c.tc : Thread Cert.PloraKernelIdeal.nD Cert.PloraKernelIdeal.τ).loc Cert.PloraKernelIdeal.main_arg1) = m ((c.tc : Thread Cert.PloraKernelIdeal.nD Cert.PloraKernelIdeal.τ).loc Cert.PloraKernelIdeal.main_arg1))
      ∧ θ_run (Cert.PloraReferenceIdeal.defs (F := Ideal)) (onTc (τ := Cert.PloraReferenceIdeal.τ) (Cert.PloraReferenceIdeal.main (F := Ideal))) ⟨m', fun _ => 0, g'⟩ (fun r => ∀ c : Dev Cert.PloraReferenceIdeal.nD,
          r.2.mem ((c.tc : Thread Cert.PloraReferenceIdeal.nD Cert.PloraReferenceIdeal.τ).loc Cert.PloraReferenceIdeal.main_v0) = v0 c
          ∧ r.2.mem ((c.tc : Thread Cert.PloraReferenceIdeal.nD Cert.PloraReferenceIdeal.τ).loc Cert.PloraReferenceIdeal.main_arg0) = m' ((c.tc : Thread Cert.PloraReferenceIdeal.nD Cert.PloraReferenceIdeal.τ).loc Cert.PloraReferenceIdeal.main_arg0)
          ∧ r.2.mem ((c.tc : Thread Cert.PloraReferenceIdeal.nD Cert.PloraReferenceIdeal.τ).loc Cert.PloraReferenceIdeal.main_arg1) = m' ((c.tc : Thread Cert.PloraReferenceIdeal.nD Cert.PloraReferenceIdeal.τ).loc Cert.PloraReferenceIdeal.main_arg1))

def preserves_DhloraKernel_DhloraKernelIdeal : Prop :=
  True

def algebraic_DhloraKernelIdeal_DhloraReferenceIdeal [hDhloraKernelIdeal : Cert.DhloraKernelIdeal.Facts] [hDhloraReferenceIdeal : Cert.DhloraReferenceIdeal.Facts] : Prop :=
  ∀ (m : (ℓ : Loc Cert.DhloraKernelIdeal.nD Cert.DhloraKernelIdeal.τ Cert.DhloraKernelIdeal.sig) → Buf (Elt Ideal) ℓ) (g : Dev Cert.DhloraKernelIdeal.nD → PrngReg)
    (m' : (ℓ : Loc Cert.DhloraReferenceIdeal.nD Cert.DhloraReferenceIdeal.τ Cert.DhloraReferenceIdeal.sig) → Buf (Elt Ideal) ℓ) (g' : Dev Cert.DhloraReferenceIdeal.nD → PrngReg), Pre_DhloraKernelIdeal m →
    (∀ c : Dev Cert.DhloraKernelIdeal.nD,
      m' ((c.tc : Thread Cert.DhloraReferenceIdeal.nD Cert.DhloraReferenceIdeal.τ).loc Cert.DhloraReferenceIdeal.main_arg0) = m ((c.tc : Thread Cert.DhloraKernelIdeal.nD Cert.DhloraKernelIdeal.τ).loc Cert.DhloraKernelIdeal.main_arg0)
      ∧ m' ((c.tc : Thread Cert.DhloraReferenceIdeal.nD Cert.DhloraReferenceIdeal.τ).loc Cert.DhloraReferenceIdeal.main_arg1) = m ((c.tc : Thread Cert.DhloraKernelIdeal.nD Cert.DhloraKernelIdeal.τ).loc Cert.DhloraKernelIdeal.main_arg1)
      ∧ m' ((c.tc : Thread Cert.DhloraReferenceIdeal.nD Cert.DhloraReferenceIdeal.τ).loc Cert.DhloraReferenceIdeal.main_arg2) = m ((c.tc : Thread Cert.DhloraKernelIdeal.nD Cert.DhloraKernelIdeal.τ).loc Cert.DhloraKernelIdeal.main_arg2)) →
    ∃ (v0 : (c : Dev Cert.DhloraKernelIdeal.nD) → Buf (Elt Ideal) ((c.tc : Thread Cert.DhloraKernelIdeal.nD Cert.DhloraKernelIdeal.τ).loc Cert.DhloraKernelIdeal.main_v3)),
      θ_run (Cert.DhloraKernelIdeal.defs (F := Ideal)) (onTc (τ := Cert.DhloraKernelIdeal.τ) (Cert.DhloraKernelIdeal.main (F := Ideal))) ⟨m, fun _ => 0, g⟩ (fun r => ∀ c : Dev Cert.DhloraKernelIdeal.nD,
          r.2.mem ((c.tc : Thread Cert.DhloraKernelIdeal.nD Cert.DhloraKernelIdeal.τ).loc Cert.DhloraKernelIdeal.main_v3) = v0 c
          ∧ r.2.mem ((c.tc : Thread Cert.DhloraKernelIdeal.nD Cert.DhloraKernelIdeal.τ).loc Cert.DhloraKernelIdeal.main_arg0) = m ((c.tc : Thread Cert.DhloraKernelIdeal.nD Cert.DhloraKernelIdeal.τ).loc Cert.DhloraKernelIdeal.main_arg0)
          ∧ r.2.mem ((c.tc : Thread Cert.DhloraKernelIdeal.nD Cert.DhloraKernelIdeal.τ).loc Cert.DhloraKernelIdeal.main_arg1) = m ((c.tc : Thread Cert.DhloraKernelIdeal.nD Cert.DhloraKernelIdeal.τ).loc Cert.DhloraKernelIdeal.main_arg1)
          ∧ r.2.mem ((c.tc : Thread Cert.DhloraKernelIdeal.nD Cert.DhloraKernelIdeal.τ).loc Cert.DhloraKernelIdeal.main_arg2) = m ((c.tc : Thread Cert.DhloraKernelIdeal.nD Cert.DhloraKernelIdeal.τ).loc Cert.DhloraKernelIdeal.main_arg2))
      ∧ θ_run (Cert.DhloraReferenceIdeal.defs (F := Ideal)) (onTc (τ := Cert.DhloraReferenceIdeal.τ) (Cert.DhloraReferenceIdeal.main (F := Ideal))) ⟨m', fun _ => 0, g'⟩ (fun r => ∀ c : Dev Cert.DhloraReferenceIdeal.nD,
          r.2.mem ((c.tc : Thread Cert.DhloraReferenceIdeal.nD Cert.DhloraReferenceIdeal.τ).loc Cert.DhloraReferenceIdeal.main_v1) = v0 c
          ∧ r.2.mem ((c.tc : Thread Cert.DhloraReferenceIdeal.nD Cert.DhloraReferenceIdeal.τ).loc Cert.DhloraReferenceIdeal.main_arg0) = m' ((c.tc : Thread Cert.DhloraReferenceIdeal.nD Cert.DhloraReferenceIdeal.τ).loc Cert.DhloraReferenceIdeal.main_arg0)
          ∧ r.2.mem ((c.tc : Thread Cert.DhloraReferenceIdeal.nD Cert.DhloraReferenceIdeal.τ).loc Cert.DhloraReferenceIdeal.main_arg1) = m' ((c.tc : Thread Cert.DhloraReferenceIdeal.nD Cert.DhloraReferenceIdeal.τ).loc Cert.DhloraReferenceIdeal.main_arg1)
          ∧ r.2.mem ((c.tc : Thread Cert.DhloraReferenceIdeal.nD Cert.DhloraReferenceIdeal.τ).loc Cert.DhloraReferenceIdeal.main_arg2) = m' ((c.tc : Thread Cert.DhloraReferenceIdeal.nD Cert.DhloraReferenceIdeal.τ).loc Cert.DhloraReferenceIdeal.main_arg2))

def preserves_DwloraKernel_DwloraKernelIdeal : Prop :=
  True

def algebraic_DwloraKernelIdeal_DwloraReferenceIdeal [hDwloraKernelIdeal : Cert.DwloraKernelIdeal.Facts] [hDwloraReferenceIdeal : Cert.DwloraReferenceIdeal.Facts] : Prop :=
  ∀ (m : (ℓ : Loc Cert.DwloraKernelIdeal.nD Cert.DwloraKernelIdeal.τ Cert.DwloraKernelIdeal.sig) → Buf (Elt Ideal) ℓ) (g : Dev Cert.DwloraKernelIdeal.nD → PrngReg)
    (m' : (ℓ : Loc Cert.DwloraReferenceIdeal.nD Cert.DwloraReferenceIdeal.τ Cert.DwloraReferenceIdeal.sig) → Buf (Elt Ideal) ℓ) (g' : Dev Cert.DwloraReferenceIdeal.nD → PrngReg), Pre_DwloraKernelIdeal m →
    (∀ c : Dev Cert.DwloraKernelIdeal.nD,
      m' ((c.tc : Thread Cert.DwloraReferenceIdeal.nD Cert.DwloraReferenceIdeal.τ).loc Cert.DwloraReferenceIdeal.main_arg0) = m ((c.tc : Thread Cert.DwloraKernelIdeal.nD Cert.DwloraKernelIdeal.τ).loc Cert.DwloraKernelIdeal.main_arg0)
      ∧ m' ((c.tc : Thread Cert.DwloraReferenceIdeal.nD Cert.DwloraReferenceIdeal.τ).loc Cert.DwloraReferenceIdeal.main_arg1) = m ((c.tc : Thread Cert.DwloraKernelIdeal.nD Cert.DwloraKernelIdeal.τ).loc Cert.DwloraKernelIdeal.main_arg1)
      ∧ m' ((c.tc : Thread Cert.DwloraReferenceIdeal.nD Cert.DwloraReferenceIdeal.τ).loc Cert.DwloraReferenceIdeal.main_arg2) = m ((c.tc : Thread Cert.DwloraKernelIdeal.nD Cert.DwloraKernelIdeal.τ).loc Cert.DwloraKernelIdeal.main_arg2)) →
    ∃ (v0 : (c : Dev Cert.DwloraKernelIdeal.nD) → Buf (Elt Ideal) ((c.tc : Thread Cert.DwloraKernelIdeal.nD Cert.DwloraKernelIdeal.τ).loc Cert.DwloraKernelIdeal.main_v2)),
      θ_run (Cert.DwloraKernelIdeal.defs (F := Ideal)) (onTc (τ := Cert.DwloraKernelIdeal.τ) (Cert.DwloraKernelIdeal.main (F := Ideal))) ⟨m, fun _ => 0, g⟩ (fun r => ∀ c : Dev Cert.DwloraKernelIdeal.nD,
          r.2.mem ((c.tc : Thread Cert.DwloraKernelIdeal.nD Cert.DwloraKernelIdeal.τ).loc Cert.DwloraKernelIdeal.main_v2) = v0 c
          ∧ r.2.mem ((c.tc : Thread Cert.DwloraKernelIdeal.nD Cert.DwloraKernelIdeal.τ).loc Cert.DwloraKernelIdeal.main_arg0) = m ((c.tc : Thread Cert.DwloraKernelIdeal.nD Cert.DwloraKernelIdeal.τ).loc Cert.DwloraKernelIdeal.main_arg0)
          ∧ r.2.mem ((c.tc : Thread Cert.DwloraKernelIdeal.nD Cert.DwloraKernelIdeal.τ).loc Cert.DwloraKernelIdeal.main_arg1) = m ((c.tc : Thread Cert.DwloraKernelIdeal.nD Cert.DwloraKernelIdeal.τ).loc Cert.DwloraKernelIdeal.main_arg1)
          ∧ r.2.mem ((c.tc : Thread Cert.DwloraKernelIdeal.nD Cert.DwloraKernelIdeal.τ).loc Cert.DwloraKernelIdeal.main_arg2) = m ((c.tc : Thread Cert.DwloraKernelIdeal.nD Cert.DwloraKernelIdeal.τ).loc Cert.DwloraKernelIdeal.main_arg2))
      ∧ θ_run (Cert.DwloraReferenceIdeal.defs (F := Ideal)) (onTc (τ := Cert.DwloraReferenceIdeal.τ) (Cert.DwloraReferenceIdeal.main (F := Ideal))) ⟨m', fun _ => 0, g'⟩ (fun r => ∀ c : Dev Cert.DwloraReferenceIdeal.nD,
          r.2.mem ((c.tc : Thread Cert.DwloraReferenceIdeal.nD Cert.DwloraReferenceIdeal.τ).loc Cert.DwloraReferenceIdeal.main_v4) = v0 c
          ∧ r.2.mem ((c.tc : Thread Cert.DwloraReferenceIdeal.nD Cert.DwloraReferenceIdeal.τ).loc Cert.DwloraReferenceIdeal.main_arg0) = m' ((c.tc : Thread Cert.DwloraReferenceIdeal.nD Cert.DwloraReferenceIdeal.τ).loc Cert.DwloraReferenceIdeal.main_arg0)
          ∧ r.2.mem ((c.tc : Thread Cert.DwloraReferenceIdeal.nD Cert.DwloraReferenceIdeal.τ).loc Cert.DwloraReferenceIdeal.main_arg1) = m' ((c.tc : Thread Cert.DwloraReferenceIdeal.nD Cert.DwloraReferenceIdeal.τ).loc Cert.DwloraReferenceIdeal.main_arg1)
          ∧ r.2.mem ((c.tc : Thread Cert.DwloraReferenceIdeal.nD Cert.DwloraReferenceIdeal.τ).loc Cert.DwloraReferenceIdeal.main_arg2) = m' ((c.tc : Thread Cert.DwloraReferenceIdeal.nD Cert.DwloraReferenceIdeal.τ).loc Cert.DwloraReferenceIdeal.main_arg2))

def preserves_DwpaKernel_DwpaKernelIdeal : Prop :=
  True

def algebraic_DwpaKernelIdeal_DwpaReferenceIdeal [hDwpaKernelIdeal : Cert.DwpaKernelIdeal.Facts] [hDwpaReferenceIdeal : Cert.DwpaReferenceIdeal.Facts] : Prop :=
  ∀ (m : (ℓ : Loc Cert.DwpaKernelIdeal.nD Cert.DwpaKernelIdeal.τ Cert.DwpaKernelIdeal.sig) → Buf (Elt Ideal) ℓ) (g : Dev Cert.DwpaKernelIdeal.nD → PrngReg)
    (m' : (ℓ : Loc Cert.DwpaReferenceIdeal.nD Cert.DwpaReferenceIdeal.τ Cert.DwpaReferenceIdeal.sig) → Buf (Elt Ideal) ℓ) (g' : Dev Cert.DwpaReferenceIdeal.nD → PrngReg), Pre_DwpaKernelIdeal m →
    (∀ c : Dev Cert.DwpaKernelIdeal.nD,
      m' ((c.tc : Thread Cert.DwpaReferenceIdeal.nD Cert.DwpaReferenceIdeal.τ).loc Cert.DwpaReferenceIdeal.main_arg0) = m ((c.tc : Thread Cert.DwpaKernelIdeal.nD Cert.DwpaKernelIdeal.τ).loc Cert.DwpaKernelIdeal.main_arg0)
      ∧ m' ((c.tc : Thread Cert.DwpaReferenceIdeal.nD Cert.DwpaReferenceIdeal.τ).loc Cert.DwpaReferenceIdeal.main_arg1) = m ((c.tc : Thread Cert.DwpaKernelIdeal.nD Cert.DwpaKernelIdeal.τ).loc Cert.DwpaKernelIdeal.main_arg1)
      ∧ m' ((c.tc : Thread Cert.DwpaReferenceIdeal.nD Cert.DwpaReferenceIdeal.τ).loc Cert.DwpaReferenceIdeal.main_arg2) = m ((c.tc : Thread Cert.DwpaKernelIdeal.nD Cert.DwpaKernelIdeal.τ).loc Cert.DwpaKernelIdeal.main_arg2)) →
    ∃ (v0 : (c : Dev Cert.DwpaKernelIdeal.nD) → Buf (Elt Ideal) ((c.tc : Thread Cert.DwpaKernelIdeal.nD Cert.DwpaKernelIdeal.τ).loc Cert.DwpaKernelIdeal.main_v2)),
      θ_run (Cert.DwpaKernelIdeal.defs (F := Ideal)) (onTc (τ := Cert.DwpaKernelIdeal.τ) (Cert.DwpaKernelIdeal.main (F := Ideal))) ⟨m, fun _ => 0, g⟩ (fun r => ∀ c : Dev Cert.DwpaKernelIdeal.nD,
          r.2.mem ((c.tc : Thread Cert.DwpaKernelIdeal.nD Cert.DwpaKernelIdeal.τ).loc Cert.DwpaKernelIdeal.main_v2) = v0 c
          ∧ r.2.mem ((c.tc : Thread Cert.DwpaKernelIdeal.nD Cert.DwpaKernelIdeal.τ).loc Cert.DwpaKernelIdeal.main_arg0) = m ((c.tc : Thread Cert.DwpaKernelIdeal.nD Cert.DwpaKernelIdeal.τ).loc Cert.DwpaKernelIdeal.main_arg0)
          ∧ r.2.mem ((c.tc : Thread Cert.DwpaKernelIdeal.nD Cert.DwpaKernelIdeal.τ).loc Cert.DwpaKernelIdeal.main_arg1) = m ((c.tc : Thread Cert.DwpaKernelIdeal.nD Cert.DwpaKernelIdeal.τ).loc Cert.DwpaKernelIdeal.main_arg1)
          ∧ r.2.mem ((c.tc : Thread Cert.DwpaKernelIdeal.nD Cert.DwpaKernelIdeal.τ).loc Cert.DwpaKernelIdeal.main_arg2) = m ((c.tc : Thread Cert.DwpaKernelIdeal.nD Cert.DwpaKernelIdeal.τ).loc Cert.DwpaKernelIdeal.main_arg2))
      ∧ θ_run (Cert.DwpaReferenceIdeal.defs (F := Ideal)) (onTc (τ := Cert.DwpaReferenceIdeal.τ) (Cert.DwpaReferenceIdeal.main (F := Ideal))) ⟨m', fun _ => 0, g'⟩ (fun r => ∀ c : Dev Cert.DwpaReferenceIdeal.nD,
          r.2.mem ((c.tc : Thread Cert.DwpaReferenceIdeal.nD Cert.DwpaReferenceIdeal.τ).loc Cert.DwpaReferenceIdeal.main_v4) = v0 c
          ∧ r.2.mem ((c.tc : Thread Cert.DwpaReferenceIdeal.nD Cert.DwpaReferenceIdeal.τ).loc Cert.DwpaReferenceIdeal.main_arg0) = m' ((c.tc : Thread Cert.DwpaReferenceIdeal.nD Cert.DwpaReferenceIdeal.τ).loc Cert.DwpaReferenceIdeal.main_arg0)
          ∧ r.2.mem ((c.tc : Thread Cert.DwpaReferenceIdeal.nD Cert.DwpaReferenceIdeal.τ).loc Cert.DwpaReferenceIdeal.main_arg1) = m' ((c.tc : Thread Cert.DwpaReferenceIdeal.nD Cert.DwpaReferenceIdeal.τ).loc Cert.DwpaReferenceIdeal.main_arg1)
          ∧ r.2.mem ((c.tc : Thread Cert.DwpaReferenceIdeal.nD Cert.DwpaReferenceIdeal.τ).loc Cert.DwpaReferenceIdeal.main_arg2) = m' ((c.tc : Thread Cert.DwpaReferenceIdeal.nD Cert.DwpaReferenceIdeal.τ).loc Cert.DwpaReferenceIdeal.main_arg2))

def preserves_ProjbKernel_ProjbKernelIdeal : Prop :=
  True

def algebraic_ProjbKernelIdeal_ProjbReferenceIdeal [hProjbKernelIdeal : Cert.ProjbKernelIdeal.Facts] [hProjbReferenceIdeal : Cert.ProjbReferenceIdeal.Facts] : Prop :=
  ∀ (m : (ℓ : Loc Cert.ProjbKernelIdeal.nD Cert.ProjbKernelIdeal.τ Cert.ProjbKernelIdeal.sig) → Buf (Elt Ideal) ℓ) (g : Dev Cert.ProjbKernelIdeal.nD → PrngReg)
    (m' : (ℓ : Loc Cert.ProjbReferenceIdeal.nD Cert.ProjbReferenceIdeal.τ Cert.ProjbReferenceIdeal.sig) → Buf (Elt Ideal) ℓ) (g' : Dev Cert.ProjbReferenceIdeal.nD → PrngReg), Pre_ProjbKernelIdeal m →
    (∀ c : Dev Cert.ProjbKernelIdeal.nD,
      m' ((c.tc : Thread Cert.ProjbReferenceIdeal.nD Cert.ProjbReferenceIdeal.τ).loc Cert.ProjbReferenceIdeal.main_arg0) = m ((c.tc : Thread Cert.ProjbKernelIdeal.nD Cert.ProjbKernelIdeal.τ).loc Cert.ProjbKernelIdeal.main_arg0)
      ∧ m' ((c.tc : Thread Cert.ProjbReferenceIdeal.nD Cert.ProjbReferenceIdeal.τ).loc Cert.ProjbReferenceIdeal.main_arg1) = m ((c.tc : Thread Cert.ProjbKernelIdeal.nD Cert.ProjbKernelIdeal.τ).loc Cert.ProjbKernelIdeal.main_arg1)
      ∧ m' ((c.tc : Thread Cert.ProjbReferenceIdeal.nD Cert.ProjbReferenceIdeal.τ).loc Cert.ProjbReferenceIdeal.main_arg2) = m ((c.tc : Thread Cert.ProjbKernelIdeal.nD Cert.ProjbKernelIdeal.τ).loc Cert.ProjbKernelIdeal.main_arg2)
      ∧ m' ((c.tc : Thread Cert.ProjbReferenceIdeal.nD Cert.ProjbReferenceIdeal.τ).loc Cert.ProjbReferenceIdeal.main_arg3) = m ((c.tc : Thread Cert.ProjbKernelIdeal.nD Cert.ProjbKernelIdeal.τ).loc Cert.ProjbKernelIdeal.main_arg3)
      ∧ m' ((c.tc : Thread Cert.ProjbReferenceIdeal.nD Cert.ProjbReferenceIdeal.τ).loc Cert.ProjbReferenceIdeal.main_arg4) = m ((c.tc : Thread Cert.ProjbKernelIdeal.nD Cert.ProjbKernelIdeal.τ).loc Cert.ProjbKernelIdeal.main_arg4)) →
    ∃ (v0 : (c : Dev Cert.ProjbKernelIdeal.nD) → Buf (Elt Ideal) ((c.tc : Thread Cert.ProjbKernelIdeal.nD Cert.ProjbKernelIdeal.τ).loc Cert.ProjbKernelIdeal.main_v3_0)) (v1 : (c : Dev Cert.ProjbKernelIdeal.nD) → Buf (Elt Ideal) ((c.tc : Thread Cert.ProjbKernelIdeal.nD Cert.ProjbKernelIdeal.τ).loc Cert.ProjbKernelIdeal.main_v3_1)),
      θ_run (Cert.ProjbKernelIdeal.defs (F := Ideal)) (onTc (τ := Cert.ProjbKernelIdeal.τ) (Cert.ProjbKernelIdeal.main (F := Ideal))) ⟨m, fun _ => 0, g⟩ (fun r => ∀ c : Dev Cert.ProjbKernelIdeal.nD,
          r.2.mem ((c.tc : Thread Cert.ProjbKernelIdeal.nD Cert.ProjbKernelIdeal.τ).loc Cert.ProjbKernelIdeal.main_v3_0) = v0 c
          ∧ r.2.mem ((c.tc : Thread Cert.ProjbKernelIdeal.nD Cert.ProjbKernelIdeal.τ).loc Cert.ProjbKernelIdeal.main_v3_1) = v1 c
          ∧ r.2.mem ((c.tc : Thread Cert.ProjbKernelIdeal.nD Cert.ProjbKernelIdeal.τ).loc Cert.ProjbKernelIdeal.main_arg0) = m ((c.tc : Thread Cert.ProjbKernelIdeal.nD Cert.ProjbKernelIdeal.τ).loc Cert.ProjbKernelIdeal.main_arg0)
          ∧ r.2.mem ((c.tc : Thread Cert.ProjbKernelIdeal.nD Cert.ProjbKernelIdeal.τ).loc Cert.ProjbKernelIdeal.main_arg1) = m ((c.tc : Thread Cert.ProjbKernelIdeal.nD Cert.ProjbKernelIdeal.τ).loc Cert.ProjbKernelIdeal.main_arg1)
          ∧ r.2.mem ((c.tc : Thread Cert.ProjbKernelIdeal.nD Cert.ProjbKernelIdeal.τ).loc Cert.ProjbKernelIdeal.main_arg2) = m ((c.tc : Thread Cert.ProjbKernelIdeal.nD Cert.ProjbKernelIdeal.τ).loc Cert.ProjbKernelIdeal.main_arg2)
          ∧ r.2.mem ((c.tc : Thread Cert.ProjbKernelIdeal.nD Cert.ProjbKernelIdeal.τ).loc Cert.ProjbKernelIdeal.main_arg3) = m ((c.tc : Thread Cert.ProjbKernelIdeal.nD Cert.ProjbKernelIdeal.τ).loc Cert.ProjbKernelIdeal.main_arg3)
          ∧ r.2.mem ((c.tc : Thread Cert.ProjbKernelIdeal.nD Cert.ProjbKernelIdeal.τ).loc Cert.ProjbKernelIdeal.main_arg4) = m ((c.tc : Thread Cert.ProjbKernelIdeal.nD Cert.ProjbKernelIdeal.τ).loc Cert.ProjbKernelIdeal.main_arg4))
      ∧ θ_run (Cert.ProjbReferenceIdeal.defs (F := Ideal)) (onTc (τ := Cert.ProjbReferenceIdeal.τ) (Cert.ProjbReferenceIdeal.main (F := Ideal))) ⟨m', fun _ => 0, g'⟩ (fun r => ∀ c : Dev Cert.ProjbReferenceIdeal.nD,
          r.2.mem ((c.tc : Thread Cert.ProjbReferenceIdeal.nD Cert.ProjbReferenceIdeal.τ).loc Cert.ProjbReferenceIdeal.main_v0) = v0 c
          ∧ r.2.mem ((c.tc : Thread Cert.ProjbReferenceIdeal.nD Cert.ProjbReferenceIdeal.τ).loc Cert.ProjbReferenceIdeal.main_v16) = v1 c
          ∧ r.2.mem ((c.tc : Thread Cert.ProjbReferenceIdeal.nD Cert.ProjbReferenceIdeal.τ).loc Cert.ProjbReferenceIdeal.main_arg0) = m' ((c.tc : Thread Cert.ProjbReferenceIdeal.nD Cert.ProjbReferenceIdeal.τ).loc Cert.ProjbReferenceIdeal.main_arg0)
          ∧ r.2.mem ((c.tc : Thread Cert.ProjbReferenceIdeal.nD Cert.ProjbReferenceIdeal.τ).loc Cert.ProjbReferenceIdeal.main_arg1) = m' ((c.tc : Thread Cert.ProjbReferenceIdeal.nD Cert.ProjbReferenceIdeal.τ).loc Cert.ProjbReferenceIdeal.main_arg1)
          ∧ r.2.mem ((c.tc : Thread Cert.ProjbReferenceIdeal.nD Cert.ProjbReferenceIdeal.τ).loc Cert.ProjbReferenceIdeal.main_arg2) = m' ((c.tc : Thread Cert.ProjbReferenceIdeal.nD Cert.ProjbReferenceIdeal.τ).loc Cert.ProjbReferenceIdeal.main_arg2)
          ∧ r.2.mem ((c.tc : Thread Cert.ProjbReferenceIdeal.nD Cert.ProjbReferenceIdeal.τ).loc Cert.ProjbReferenceIdeal.main_arg3) = m' ((c.tc : Thread Cert.ProjbReferenceIdeal.nD Cert.ProjbReferenceIdeal.τ).loc Cert.ProjbReferenceIdeal.main_arg3)
          ∧ r.2.mem ((c.tc : Thread Cert.ProjbReferenceIdeal.nD Cert.ProjbReferenceIdeal.τ).loc Cert.ProjbReferenceIdeal.main_arg4) = m' ((c.tc : Thread Cert.ProjbReferenceIdeal.nD Cert.ProjbReferenceIdeal.τ).loc Cert.ProjbReferenceIdeal.main_arg4))

def Claim : Prop :=
  ∃ (hKernel : Cert.Kernel.Facts) (hKernelIdeal : Cert.KernelIdeal.Facts) (hReferenceIdeal : Cert.ReferenceIdeal.Facts) (hDactKernel : Cert.DactKernel.Facts) (hDactKernelIdeal : Cert.DactKernelIdeal.Facts) (hDactReferenceIdeal : Cert.DactReferenceIdeal.Facts) (hDnKernel : Cert.DnKernel.Facts) (hDnKernelIdeal : Cert.DnKernelIdeal.Facts) (hDnReferenceIdeal : Cert.DnReferenceIdeal.Facts) (hDwiKernel : Cert.DwiKernel.Facts) (hDwiKernelIdeal : Cert.DwiKernelIdeal.Facts) (hDwiReferenceIdeal : Cert.DwiReferenceIdeal.Facts) (hDwoKernel : Cert.DwoKernel.Facts) (hDwoKernelIdeal : Cert.DwoKernelIdeal.Facts) (hDwoReferenceIdeal : Cert.DwoReferenceIdeal.Facts) (hUpKernel : Cert.UpKernel.Facts) (hUpKernelIdeal : Cert.UpKernelIdeal.Facts) (hUpReferenceIdeal : Cert.UpReferenceIdeal.Facts) (hDownKernel : Cert.DownKernel.Facts) (hDownKernelIdeal : Cert.DownKernelIdeal.Facts) (hDownReferenceIdeal : Cert.DownReferenceIdeal.Facts) (hMergeKernel : Cert.MergeKernel.Facts) (hMergeKernelIdeal : Cert.MergeKernelIdeal.Facts) (hMergeReferenceIdeal : Cert.MergeReferenceIdeal.Facts) (hPrkvKernel : Cert.PrkvKernel.Facts) (hPrkvKernelIdeal : Cert.PrkvKernelIdeal.Facts) (hPrkvReferenceIdeal : Cert.PrkvReferenceIdeal.Facts) (hDhrkvKernel : Cert.DhrkvKernel.Facts) (hDhrkvKernelIdeal : Cert.DhrkvKernelIdeal.Facts) (hDhrkvReferenceIdeal : Cert.DhrkvReferenceIdeal.Facts) (hDwrkvKernel : Cert.DwrkvKernel.Facts) (hDwrkvKernelIdeal : Cert.DwrkvKernelIdeal.Facts) (hDwrkvReferenceIdeal : Cert.DwrkvReferenceIdeal.Facts) (hPgateKernel : Cert.PgateKernel.Facts) (hPgateKernelIdeal : Cert.PgateKernelIdeal.Facts) (hPgateReferenceIdeal : Cert.PgateReferenceIdeal.Facts) (hDhgateKernel : Cert.DhgateKernel.Facts) (hDhgateKernelIdeal : Cert.DhgateKernelIdeal.Facts) (hDhgateReferenceIdeal : Cert.DhgateReferenceIdeal.Facts) (hDwgateKernel : Cert.DwgateKernel.Facts) (hDwgateKernelIdeal : Cert.DwgateKernelIdeal.Facts) (hDwgateReferenceIdeal : Cert.DwgateReferenceIdeal.Facts) (hPqkvKernel : Cert.PqkvKernel.Facts) (hPqkvKernelIdeal : Cert.PqkvKernelIdeal.Facts) (hPqkvReferenceIdeal : Cert.PqkvReferenceIdeal.Facts) (hDwqkvKernel : Cert.DwqkvKernel.Facts) (hDwqkvKernelIdeal : Cert.DwqkvKernelIdeal.Facts) (hDwqkvReferenceIdeal : Cert.DwqkvReferenceIdeal.Facts) (hMixKernel : Cert.MixKernel.Facts) (hMixKernelIdeal : Cert.MixKernelIdeal.Facts) (hMixReferenceIdeal : Cert.MixReferenceIdeal.Facts) (hProjaKernel : Cert.ProjaKernel.Facts) (hProjaKernelIdeal : Cert.ProjaKernelIdeal.Facts) (hProjaReferenceIdeal : Cert.ProjaReferenceIdeal.Facts) (hDyaKernel : Cert.DyaKernel.Facts) (hDyaKernelIdeal : Cert.DyaKernelIdeal.Facts) (hDyaReferenceIdeal : Cert.DyaReferenceIdeal.Facts) (hDwprKernel : Cert.DwprKernel.Facts) (hDwprKernelIdeal : Cert.DwprKernelIdeal.Facts) (hDwprReferenceIdeal : Cert.DwprReferenceIdeal.Facts) (hMixoutKernel : Cert.MixoutKernel.Facts) (hMixoutKernelIdeal : Cert.MixoutKernelIdeal.Facts) (hMixoutReferenceIdeal : Cert.MixoutReferenceIdeal.Facts) (hPloraKernel : Cert.PloraKernel.Facts) (hPloraKernelIdeal : Cert.PloraKernelIdeal.Facts) (hPloraReferenceIdeal : Cert.PloraReferenceIdeal.Facts) (hDhloraKernel : Cert.DhloraKernel.Facts) (hDhloraKernelIdeal : Cert.DhloraKernelIdeal.Facts) (hDhloraReferenceIdeal : Cert.DhloraReferenceIdeal.Facts) (hDwloraKernel : Cert.DwloraKernel.Facts) (hDwloraKernelIdeal : Cert.DwloraKernelIdeal.Facts) (hDwloraReferenceIdeal : Cert.DwloraReferenceIdeal.Facts) (hDwpaKernel : Cert.DwpaKernel.Facts) (hDwpaKernelIdeal : Cert.DwpaKernelIdeal.Facts) (hDwpaReferenceIdeal : Cert.DwpaReferenceIdeal.Facts) (hProjbKernel : Cert.ProjbKernel.Facts) (hProjbKernelIdeal : Cert.ProjbKernelIdeal.Facts) (hProjbReferenceIdeal : Cert.ProjbReferenceIdeal.Facts) (hPre_finite : Cert.Pre_finite.Facts) (hPre_finite_dact : Cert.Pre_finite_dact.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DactKernel (hDactKernel := hDactKernel)
    ∧ quiescent_DactKernelIdeal (hDactKernelIdeal := hDactKernelIdeal)
    ∧ quiescent_DactKernelIdeal_pre_finite_dact (hDactKernelIdeal := hDactKernelIdeal) (hPre_finite_dact := hPre_finite_dact)
    ∧ quiescent_DactReferenceIdeal (hDactReferenceIdeal := hDactReferenceIdeal)
    ∧ quiescent_DactReferenceIdeal_pre_finite_dact (hDactReferenceIdeal := hDactReferenceIdeal) (hPre_finite_dact := hPre_finite_dact)
    ∧ quiescent_DnKernel (hDnKernel := hDnKernel)
    ∧ quiescent_DnKernelIdeal (hDnKernelIdeal := hDnKernelIdeal)
    ∧ quiescent_DnReferenceIdeal (hDnReferenceIdeal := hDnReferenceIdeal)
    ∧ quiescent_DwiKernel (hDwiKernel := hDwiKernel)
    ∧ quiescent_DwiKernelIdeal (hDwiKernelIdeal := hDwiKernelIdeal)
    ∧ quiescent_DwiReferenceIdeal (hDwiReferenceIdeal := hDwiReferenceIdeal)
    ∧ quiescent_DwoKernel (hDwoKernel := hDwoKernel)
    ∧ quiescent_DwoKernelIdeal (hDwoKernelIdeal := hDwoKernelIdeal)
    ∧ quiescent_DwoReferenceIdeal (hDwoReferenceIdeal := hDwoReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_PrkvKernel (hPrkvKernel := hPrkvKernel)
    ∧ quiescent_PrkvKernelIdeal (hPrkvKernelIdeal := hPrkvKernelIdeal)
    ∧ quiescent_PrkvReferenceIdeal (hPrkvReferenceIdeal := hPrkvReferenceIdeal)
    ∧ quiescent_DhrkvKernel (hDhrkvKernel := hDhrkvKernel)
    ∧ quiescent_DhrkvKernelIdeal (hDhrkvKernelIdeal := hDhrkvKernelIdeal)
    ∧ quiescent_DhrkvReferenceIdeal (hDhrkvReferenceIdeal := hDhrkvReferenceIdeal)
    ∧ quiescent_DwrkvKernel (hDwrkvKernel := hDwrkvKernel)
    ∧ quiescent_DwrkvKernelIdeal (hDwrkvKernelIdeal := hDwrkvKernelIdeal)
    ∧ quiescent_DwrkvReferenceIdeal (hDwrkvReferenceIdeal := hDwrkvReferenceIdeal)
    ∧ quiescent_PgateKernel (hPgateKernel := hPgateKernel)
    ∧ quiescent_PgateKernelIdeal (hPgateKernelIdeal := hPgateKernelIdeal)
    ∧ quiescent_PgateReferenceIdeal (hPgateReferenceIdeal := hPgateReferenceIdeal)
    ∧ quiescent_DhgateKernel (hDhgateKernel := hDhgateKernel)
    ∧ quiescent_DhgateKernelIdeal (hDhgateKernelIdeal := hDhgateKernelIdeal)
    ∧ quiescent_DhgateReferenceIdeal (hDhgateReferenceIdeal := hDhgateReferenceIdeal)
    ∧ quiescent_DwgateKernel (hDwgateKernel := hDwgateKernel)
    ∧ quiescent_DwgateKernelIdeal (hDwgateKernelIdeal := hDwgateKernelIdeal)
    ∧ quiescent_DwgateReferenceIdeal (hDwgateReferenceIdeal := hDwgateReferenceIdeal)
    ∧ quiescent_PqkvKernel (hPqkvKernel := hPqkvKernel)
    ∧ quiescent_PqkvKernelIdeal (hPqkvKernelIdeal := hPqkvKernelIdeal)
    ∧ quiescent_PqkvReferenceIdeal (hPqkvReferenceIdeal := hPqkvReferenceIdeal)
    ∧ quiescent_DwqkvKernel (hDwqkvKernel := hDwqkvKernel)
    ∧ quiescent_DwqkvKernelIdeal (hDwqkvKernelIdeal := hDwqkvKernelIdeal)
    ∧ quiescent_DwqkvReferenceIdeal (hDwqkvReferenceIdeal := hDwqkvReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_ProjaKernel (hProjaKernel := hProjaKernel)
    ∧ quiescent_ProjaKernelIdeal (hProjaKernelIdeal := hProjaKernelIdeal)
    ∧ quiescent_ProjaReferenceIdeal (hProjaReferenceIdeal := hProjaReferenceIdeal)
    ∧ quiescent_DyaKernel (hDyaKernel := hDyaKernel)
    ∧ quiescent_DyaKernelIdeal (hDyaKernelIdeal := hDyaKernelIdeal)
    ∧ quiescent_DyaReferenceIdeal (hDyaReferenceIdeal := hDyaReferenceIdeal)
    ∧ quiescent_DwprKernel (hDwprKernel := hDwprKernel)
    ∧ quiescent_DwprKernelIdeal (hDwprKernelIdeal := hDwprKernelIdeal)
    ∧ quiescent_DwprReferenceIdeal (hDwprReferenceIdeal := hDwprReferenceIdeal)
    ∧ quiescent_MixoutKernel (hMixoutKernel := hMixoutKernel)
    ∧ quiescent_MixoutKernelIdeal (hMixoutKernelIdeal := hMixoutKernelIdeal)
    ∧ quiescent_MixoutReferenceIdeal (hMixoutReferenceIdeal := hMixoutReferenceIdeal)
    ∧ quiescent_PloraKernel (hPloraKernel := hPloraKernel)
    ∧ quiescent_PloraKernelIdeal (hPloraKernelIdeal := hPloraKernelIdeal)
    ∧ quiescent_PloraReferenceIdeal (hPloraReferenceIdeal := hPloraReferenceIdeal)
    ∧ quiescent_DhloraKernel (hDhloraKernel := hDhloraKernel)
    ∧ quiescent_DhloraKernelIdeal (hDhloraKernelIdeal := hDhloraKernelIdeal)
    ∧ quiescent_DhloraReferenceIdeal (hDhloraReferenceIdeal := hDhloraReferenceIdeal)
    ∧ quiescent_DwloraKernel (hDwloraKernel := hDwloraKernel)
    ∧ quiescent_DwloraKernelIdeal (hDwloraKernelIdeal := hDwloraKernelIdeal)
    ∧ quiescent_DwloraReferenceIdeal (hDwloraReferenceIdeal := hDwloraReferenceIdeal)
    ∧ quiescent_DwpaKernel (hDwpaKernel := hDwpaKernel)
    ∧ quiescent_DwpaKernelIdeal (hDwpaKernelIdeal := hDwpaKernelIdeal)
    ∧ quiescent_DwpaReferenceIdeal (hDwpaReferenceIdeal := hDwpaReferenceIdeal)
    ∧ quiescent_ProjbKernel (hProjbKernel := hProjbKernel)
    ∧ quiescent_ProjbKernelIdeal (hProjbKernelIdeal := hProjbKernelIdeal)
    ∧ quiescent_ProjbReferenceIdeal (hProjbReferenceIdeal := hProjbReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DactKernel_DactKernelIdeal
    ∧ algebraic_DactKernelIdeal_DactReferenceIdeal_pre_finite_dact (hDactKernelIdeal := hDactKernelIdeal) (hDactReferenceIdeal := hDactReferenceIdeal) (hPre_finite_dact := hPre_finite_dact)
    ∧ preserves_DnKernel_DnKernelIdeal
    ∧ algebraic_DnKernelIdeal_DnReferenceIdeal (hDnKernelIdeal := hDnKernelIdeal) (hDnReferenceIdeal := hDnReferenceIdeal)
    ∧ preserves_DwiKernel_DwiKernelIdeal
    ∧ algebraic_DwiKernelIdeal_DwiReferenceIdeal (hDwiKernelIdeal := hDwiKernelIdeal) (hDwiReferenceIdeal := hDwiReferenceIdeal)
    ∧ preserves_DwoKernel_DwoKernelIdeal
    ∧ algebraic_DwoKernelIdeal_DwoReferenceIdeal (hDwoKernelIdeal := hDwoKernelIdeal) (hDwoReferenceIdeal := hDwoReferenceIdeal)
    ∧ preserves_UpKernel_UpKernelIdeal
    ∧ algebraic_UpKernelIdeal_UpReferenceIdeal (hUpKernelIdeal := hUpKernelIdeal) (hUpReferenceIdeal := hUpReferenceIdeal)
    ∧ preserves_DownKernel_DownKernelIdeal
    ∧ algebraic_DownKernelIdeal_DownReferenceIdeal (hDownKernelIdeal := hDownKernelIdeal) (hDownReferenceIdeal := hDownReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_PrkvKernel_PrkvKernelIdeal
    ∧ algebraic_PrkvKernelIdeal_PrkvReferenceIdeal (hPrkvKernelIdeal := hPrkvKernelIdeal) (hPrkvReferenceIdeal := hPrkvReferenceIdeal)
    ∧ preserves_DhrkvKernel_DhrkvKernelIdeal
    ∧ algebraic_DhrkvKernelIdeal_DhrkvReferenceIdeal (hDhrkvKernelIdeal := hDhrkvKernelIdeal) (hDhrkvReferenceIdeal := hDhrkvReferenceIdeal)
    ∧ preserves_DwrkvKernel_DwrkvKernelIdeal
    ∧ algebraic_DwrkvKernelIdeal_DwrkvReferenceIdeal (hDwrkvKernelIdeal := hDwrkvKernelIdeal) (hDwrkvReferenceIdeal := hDwrkvReferenceIdeal)
    ∧ preserves_PgateKernel_PgateKernelIdeal
    ∧ algebraic_PgateKernelIdeal_PgateReferenceIdeal (hPgateKernelIdeal := hPgateKernelIdeal) (hPgateReferenceIdeal := hPgateReferenceIdeal)
    ∧ preserves_DhgateKernel_DhgateKernelIdeal
    ∧ algebraic_DhgateKernelIdeal_DhgateReferenceIdeal (hDhgateKernelIdeal := hDhgateKernelIdeal) (hDhgateReferenceIdeal := hDhgateReferenceIdeal)
    ∧ preserves_DwgateKernel_DwgateKernelIdeal
    ∧ algebraic_DwgateKernelIdeal_DwgateReferenceIdeal (hDwgateKernelIdeal := hDwgateKernelIdeal) (hDwgateReferenceIdeal := hDwgateReferenceIdeal)
    ∧ preserves_PqkvKernel_PqkvKernelIdeal
    ∧ algebraic_PqkvKernelIdeal_PqkvReferenceIdeal (hPqkvKernelIdeal := hPqkvKernelIdeal) (hPqkvReferenceIdeal := hPqkvReferenceIdeal)
    ∧ preserves_DwqkvKernel_DwqkvKernelIdeal
    ∧ algebraic_DwqkvKernelIdeal_DwqkvReferenceIdeal (hDwqkvKernelIdeal := hDwqkvKernelIdeal) (hDwqkvReferenceIdeal := hDwqkvReferenceIdeal)
    ∧ preserves_MixKernel_MixKernelIdeal
    ∧ algebraic_MixKernelIdeal_MixReferenceIdeal (hMixKernelIdeal := hMixKernelIdeal) (hMixReferenceIdeal := hMixReferenceIdeal)
    ∧ preserves_ProjaKernel_ProjaKernelIdeal
    ∧ algebraic_ProjaKernelIdeal_ProjaReferenceIdeal (hProjaKernelIdeal := hProjaKernelIdeal) (hProjaReferenceIdeal := hProjaReferenceIdeal)
    ∧ preserves_DyaKernel_DyaKernelIdeal
    ∧ algebraic_DyaKernelIdeal_DyaReferenceIdeal (hDyaKernelIdeal := hDyaKernelIdeal) (hDyaReferenceIdeal := hDyaReferenceIdeal)
    ∧ preserves_DwprKernel_DwprKernelIdeal
    ∧ algebraic_DwprKernelIdeal_DwprReferenceIdeal (hDwprKernelIdeal := hDwprKernelIdeal) (hDwprReferenceIdeal := hDwprReferenceIdeal)
    ∧ preserves_MixoutKernel_MixoutKernelIdeal
    ∧ algebraic_MixoutKernelIdeal_MixoutReferenceIdeal (hMixoutKernelIdeal := hMixoutKernelIdeal) (hMixoutReferenceIdeal := hMixoutReferenceIdeal)
    ∧ preserves_PloraKernel_PloraKernelIdeal
    ∧ algebraic_PloraKernelIdeal_PloraReferenceIdeal (hPloraKernelIdeal := hPloraKernelIdeal) (hPloraReferenceIdeal := hPloraReferenceIdeal)
    ∧ preserves_DhloraKernel_DhloraKernelIdeal
    ∧ algebraic_DhloraKernelIdeal_DhloraReferenceIdeal (hDhloraKernelIdeal := hDhloraKernelIdeal) (hDhloraReferenceIdeal := hDhloraReferenceIdeal)
    ∧ preserves_DwloraKernel_DwloraKernelIdeal
    ∧ algebraic_DwloraKernelIdeal_DwloraReferenceIdeal (hDwloraKernelIdeal := hDwloraKernelIdeal) (hDwloraReferenceIdeal := hDwloraReferenceIdeal)
    ∧ preserves_DwpaKernel_DwpaKernelIdeal
    ∧ algebraic_DwpaKernelIdeal_DwpaReferenceIdeal (hDwpaKernelIdeal := hDwpaKernelIdeal) (hDwpaReferenceIdeal := hDwpaReferenceIdeal)
    ∧ preserves_ProjbKernel_ProjbKernelIdeal
    ∧ algebraic_ProjbKernelIdeal_ProjbReferenceIdeal (hProjbKernelIdeal := hProjbKernelIdeal) (hProjbReferenceIdeal := hProjbReferenceIdeal)
-- ==== Pre_finite.lean ====
abbrev S4096x2304 : Shape := ⟨2, ![4096, 2304]⟩
abbrev S4096x256 : Shape := ⟨2, ![4096, 256]⟩
abbrev S4096x4 : Shape := ⟨2, ![4096, 4]⟩
abbrev S1x64 : Shape := ⟨2, ![1, 64]⟩
abbrev S_ : Shape := ⟨0, ![]⟩

class Facts : Prop where
  bcast_S_S4096x2304 : S_.BroadcastsInDim S4096x2304 (![] : Fin 0 → Fin S4096x2304.rank)
  reducesTo_S4096x2304_S_d0_1 : S4096x2304.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S4096x4 : S_.BroadcastsInDim S4096x4 (![] : Fin 0 → Fin S4096x4.rank)
  reducesTo_S4096x4_S_d0_1 : S4096x4.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  main_v23

def fn {F : FTy → Type} [FloatOps F] (main_arg0 : FVec F S4096x2304 .f32) (main_arg1 : FVec F S4096x256 .f32) (main_arg2 : FVec F S4096x4 .f32) (main_arg3 : FVec F S1x64 .f32) (main_arg4 : FVec F S1x64 .f32) : IVec S_ 1 :=
  let main_v0 : FVec F S4096x2304 .f32 := Host.absf main_arg0
  let main_cst : FVec F S_ .f32 := constant S_ .f32 0x7F800000#32
  let main_v1 : FVec F S4096x2304 .f32 := broadcastInDim S4096x2304 ![] bcast_S_S4096x2304 main_cst
  let main_v2 : IVec S4096x2304 1 := cmpf .olt main_v0 main_v1
  let main_c : IVec S_ 1 := constantI S_ 1 1#1
  let main_v3 : IVec S_ 1 := (fun x v => Host.reduce IntOp.andi x v reducesTo_S4096x2304_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x4 .f32 := Host.absf main_arg2
  let main_cst_2 : FVec F S_ .f32 := constant S_ .f32 0x7F800000#32
  let main_v10 : FVec F S4096x4 .f32 := broadcastInDim S4096x4 ![] bcast_S_S4096x4 main_cst_2
  let main_v11 : IVec S4096x4 1 := cmpf .olt main_v9 main_v10
  let main_c_3 : IVec S_ 1 := constantI S_ 1 1#1
  let main_v12 : IVec S_ 1 := (fun x v => Host.reduce IntOp.andi x v reducesTo_S4096x4_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_v13 main_v16
-- ==== Pre_finite_dact.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2816 : S_.BroadcastsInDim S4096x2816 (![] : Fin 0 → Fin S4096x2816.rank)
  reducesTo_S4096x2816_S_d0_1 : S4096x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  main_v18

def fn {F : FTy → Type} [FloatOps F] (main_arg0 : FVec F S4096x1024 .f32) (main_arg1 : FVec F S4096x2816 .f32) (main_arg2 : FVec F S4096x2816 .f32) (main_arg3 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2816 .f32 := Host.absf main_arg1
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : IVec S_ 1 := andi main_v3 main_v7
  let main_v9 : FVec F S4096x2816 .f32 := Host.absf main_arg2
  let main_cst_2 : FVec F S_ .f32 := constant S_ .f32 0x7F800000#32
  let main_v10 : FVec F S4096x2816 .f32 := broadcastInDim S4096x2816 ![] bcast_S_S4096x2816 main_cst_2
  let main_v11 : IVec S4096x2816 1 := cmpf .olt main_v9 main_v10
  let main_c_3 : IVec S_ 1 := constantI S_ 1 1#1
  let main_v12 : IVec S_ 1 := (fun x v => Host.reduce IntOp.andi x v reducesTo_S4096x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_v13 main_v16
-- ==== Kernel.lean ====
abbrev S4096x2304 : Shape := ⟨2, ![4096, 2304]⟩
abbrev S4096x256 : Shape := ⟨2, ![4096, 256]⟩
abbrev S4096x4 : Shape := ⟨2, ![4096, 4]⟩
abbrev S1x64 : Shape := ⟨2, ![1, 64]⟩
abbrev S64 : Shape := ⟨1, ![64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S4096x4x64 : Shape := ⟨3, ![4096, 4, 64]⟩
abbrev S4x4096x4096 : Shape := ⟨3, ![4, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x4096 : Shape := ⟨2, ![4, 4096]⟩
abbrev S4x4096x1 : Shape := ⟨3, ![4, 4096, 1]⟩
abbrev S4x4096x64 : Shape := ⟨3, ![4, 4096, 64]⟩
abbrev S4096x4x1 : Shape := ⟨3, ![4096, 4, 1]⟩
abbrev S2048x128 : Shape := ⟨2, ![2048, 128]⟩
abbrev S128x128 : Shape := ⟨2, ![128, 128]⟩
abbrev S2x1x128x64 : Shape := ⟨4, ![2, 1, 128, 64]⟩
abbrev S1x128x128 : Shape := ⟨3, ![1, 128, 128]⟩
abbrev S16x128x128 : Shape := ⟨3, ![16, 128, 128]⟩
abbrev S16x1x1 : Shape := ⟨3, ![16, 1, 1]⟩
abbrev S16x128x64 : Shape := ⟨3, ![16, 128, 64]⟩
abbrev S1x128x64 : Shape := ⟨3, ![1, 128, 64]⟩
abbrev S15x128x64 : Shape := ⟨3, ![15, 128, 64]⟩
abbrev S16x128 : Shape := ⟨2, ![16, 128]⟩
abbrev S16x128x1 : Shape := ⟨3, ![16, 128, 1]⟩
abbrev S1x1x64 : Shape := ⟨3, ![1, 1, 64]⟩
abbrev S1x1x128x64 : Shape := ⟨4, ![1, 1, 128, 64]⟩
abbrev S16x64 : Shape := ⟨2, ![16, 64]⟩

abbrev nBuf : Space → Nat
  | .hbm => 118
  | .vmem => 30
  | .smem => 0
  | _ => 0

abbrev bufTy : (tb : Table) → Fin (tcTables nBuf tb) → BufTy
  | .hbm, ⟨0, _⟩ => ⟨S4096x2304, .f32⟩
  | .hbm, ⟨1, _⟩ => ⟨S4096x256, .f32⟩
  | .hbm, ⟨2, _⟩ => ⟨S4096x4, .f32⟩
  | .hbm, ⟨3, _⟩ => ⟨S1x64, .f32⟩
  | .hbm, ⟨4, _⟩ => ⟨S1x64, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S64, .f32⟩
  | .hbm, ⟨9, _⟩ => ⟨S64, .f32⟩
  | .hbm, ⟨10, _⟩ => ⟨S16384x64, .f32⟩
  | .hbm, ⟨11, _⟩ => ⟨S16384x64, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x64, .f32⟩
  | .hbm, ⟨27, _⟩ => ⟨S16384x64, .f32⟩
  | .hbm, ⟨28, _⟩ => ⟨S1x64, .f32⟩
  | .hbm, ⟨29, _⟩ => ⟨S16384x64, .f32⟩
  | .hbm, ⟨30, _⟩ => ⟨S16384x64, .f32⟩
  | .hbm, ⟨31, _⟩ => ⟨S_, .f32⟩
  | .hbm, ⟨32, _⟩ => ⟨S16384x64, .f32⟩
  | .hbm, ⟨33, _⟩ => ⟨S16384x64, .f32⟩
  | .hbm, ⟨34, _⟩ => ⟨S4096x4x64, .f32⟩
  | .hbm, ⟨35, _⟩ => ⟨S16384x64, .f32⟩
  | .hbm, ⟨36, _⟩ => ⟨S16384x64, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x64, .f32⟩
  | .hbm, ⟨52, _⟩ => ⟨S16384x64, .f32⟩
  | .hbm, ⟨53, _⟩ => ⟨S1x64, .f32⟩
  | .hbm, ⟨54, _⟩ => ⟨S16384x64, .f32⟩
  | .hbm, ⟨55, _⟩ => ⟨S16384x64, .f32⟩
  | .hbm, ⟨56, _⟩ => ⟨S4096x4x64, .f32⟩
  | .hbm, ⟨57, _⟩ => ⟨S4096x4x64, .f32⟩
  | .hbm, ⟨58, _⟩ => ⟨S4x4096x4096, .f32⟩
  | .hbm, ⟨59, _⟩ => ⟨S4096, .i32⟩
  | .hbm, ⟨60, _⟩ => ⟨S4096x1, .i32⟩
  | .hbm, ⟨61, _⟩ => ⟨S4096, .i32⟩
  | .hbm, ⟨62, _⟩ => ⟨S1x4096, .i32⟩
  | .hbm, ⟨63, _⟩ => ⟨S4096x4096, .i32⟩
  | .hbm, ⟨64, _⟩ => ⟨S4096x4096, .i32⟩
  | .hbm, ⟨65, _⟩ => ⟨S4096x4096, .i32⟩
  | .hbm, ⟨66, _⟩ => ⟨S_, .i32⟩
  | .hbm, ⟨67, _⟩ => ⟨S4096x4096, .i32⟩
  | .hbm, ⟨68, _⟩ => ⟨S4096x4096, .i1⟩
  | .hbm, ⟨69, _⟩ => ⟨S_, .i32⟩
  | .hbm, ⟨70, _⟩ => ⟨S4096x4096, .i32⟩
  | .hbm, ⟨71, _⟩ => ⟨S4096x4096, .i1⟩
  | .hbm, ⟨72, _⟩ => ⟨S4096x4096, .i1⟩
  | .hbm, ⟨73, _⟩ => ⟨S_, .f32⟩
  | .hbm, ⟨74, _⟩ => ⟨S_, .f32⟩
  | .hbm, ⟨75, _⟩ => ⟨S4x4096x4096, .i1⟩
  | .hbm, ⟨76, _⟩ => ⟨S4x4096x4096, .f32⟩
  | .hbm, ⟨77, _⟩ => ⟨S4x4096x4096, .f32⟩
  | .hbm, ⟨78, _⟩ => ⟨S_, .f32⟩
  | .hbm, ⟨79, _⟩ => ⟨S4x4096x4096, .f32⟩
  | .hbm, ⟨80, _⟩ => ⟨S_, .f32⟩
  | .hbm, ⟨81, _⟩ => ⟨S4x4096, .f32⟩
  | .hbm, ⟨82, _⟩ => ⟨S4x4096x1, .f32⟩
  | .hbm, ⟨83, _⟩ => ⟨S4x4096x4096, .f32⟩
  | .hbm, ⟨84, _⟩ => ⟨S4x4096x4096, .i1⟩
  | .hbm, ⟨85, _⟩ => ⟨S4x4096x4096, .f32⟩
  | .hbm, ⟨86, _⟩ => ⟨S_, .f32⟩
  | .hbm, ⟨87, _⟩ => ⟨S4x4096, .f32⟩
  | .hbm, ⟨88, _⟩ => ⟨S4x4096x1, .f32⟩
  | .hbm, ⟨89, _⟩ => ⟨S4x4096x4096, .f32⟩
  | .hbm, ⟨90, _⟩ => ⟨S4x4096x4096, .f32⟩
  | .hbm, ⟨91, _⟩ => ⟨S4x4096x4096, .f32⟩
  | .hbm, ⟨92, _⟩ => ⟨S_, .f32⟩
  | .hbm, ⟨93, _⟩ => ⟨S4x4096, .f32⟩
  | .hbm, ⟨94, _⟩ => ⟨S4x4096x1, .f32⟩
  | .hbm, ⟨95, _⟩ => ⟨S4x4096x4096, .f32⟩
  | .hbm, ⟨96, _⟩ => ⟨S4x4096x4096, .f32⟩
  | .hbm, ⟨97, _⟩ => ⟨S4x4096x1, .f32⟩
  | .hbm, ⟨98, _⟩ => ⟨S_, .f32⟩
  | .hbm, ⟨99, _⟩ => ⟨S4x4096x1, .f32⟩
  | .hbm, ⟨100, _⟩ => ⟨S4x4096x1, .f32⟩
  | .hbm, ⟨101, _⟩ => ⟨S4x4096x64, .f32⟩
  | .hbm, ⟨102, _⟩ => ⟨S4x4096, .f32⟩
  | .hbm, ⟨103, _⟩ => ⟨S4x4096, .f32⟩
  | .hbm, ⟨104, _⟩ => ⟨S4096x4x64, .f32⟩
  | .hbm, ⟨105, _⟩ => ⟨S4096x256, .f32⟩
  | .hbm, ⟨106, _⟩ => ⟨S4096x4, .f32⟩
  | .hbm, ⟨107, _⟩ => ⟨S4096x4x1, .f32⟩
  | .hbm, ⟨108, _⟩ => ⟨S4096x4x64, .f32⟩
  | .hbm, ⟨109, _⟩ => ⟨S4096x256, .f32⟩
  | .hbm, ⟨110, _⟩ => ⟨S4096x4x1, .f32⟩
  | .hbm, ⟨111, _⟩ => ⟨S4096x4x64, .f32⟩
  | .hbm, ⟨112, _⟩ => ⟨S4096x256, .f32⟩
  | .hbm, ⟨113, _⟩ => ⟨S4096x256, .f32⟩
  | .hbm, ⟨114, _⟩ => ⟨S4096x256, .f32⟩
  | .hbm, ⟨115, _⟩ => ⟨S4096x256, .f32⟩
  | .hbm, ⟨116, _⟩ => ⟨S1x64, .f32⟩
  | .hbm, ⟨117, _⟩ => ⟨S1x64, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S1x64, .f32⟩
  | .local _ .vmem, ⟨19, _⟩ => ⟨S1x64, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S1x64, .f32⟩
  | .local _ .vmem, ⟨27, _⟩ => ⟨S1x64, .f32⟩
  | .local _ .vmem, ⟨28, _⟩ => ⟨S2x1x128x64, .f32⟩
  | .local _ .vmem, ⟨29, _⟩ => ⟨S2x1x128x64, .f32⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c : Ref sig .tc := ⟨.hbm, 66, rfl⟩
abbrev main_v52 : Ref sig .tc := ⟨.hbm, 67, rfl⟩
abbrev main_v53 : Ref sig .tc := ⟨.hbm, 68, rfl⟩
abbrev main_c_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_call0_v0 : Ref sig .tc := ⟨.hbm, 74, rfl⟩
abbrev main_v57_1 : Ref sig .tc := ⟨.hbm, 75, rfl⟩
abbrev main_call0_v2 : Ref sig .tc := ⟨.hbm, 76, rfl⟩
abbrev main_v57_0 : Ref sig .tc := ⟨.hbm, 77, rfl⟩
abbrev main_call0_cst : Ref sig .tc := ⟨.hbm, 78, rfl⟩
abbrev main_v57_2 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87_0 : Ref sig .tc := ⟨.hbm, 113, rfl⟩
abbrev main_v87_1 : Ref sig .tc := ⟨.hbm, 114, rfl⟩
abbrev main_v87_2 : Ref sig .tc := ⟨.hbm, 115, rfl⟩
abbrev main_v87_3 : Ref sig .tc := ⟨.hbm, 116, rfl⟩
abbrev main_v87_4 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem15_0 : DmaSem sig := 27

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c6_i32 : BitVec 32 := 6#32
  let v1 : BitVec 32 := Scalar.addi c6_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c12_i32 : BitVec 32 := 12#32
  let v1 : BitVec 32 := Scalar.addi c12_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c16_i32 : BitVec 32 := 16#32
  let v1 : BitVec 32 := Scalar.muli v0 c16_i32
  let c1_i32_0 : BitVec 32 := 1#32
  let v2 : BitVec 32 := Scalar.subi v1 c1_i32_0
  let c0_i32 : BitVec 32 := 0#32
  let v3 : BitVec 32 := Scalar.maxsi v2 c0_i32
  let c6_i32 : BitVec 32 := 6#32
  let v4 : BitVec 32 := Scalar.addi c6_i32 arg0
  let c0_i32_1 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c16_i32 : BitVec 32 := 16#32
  let v1 : BitVec 32 := Scalar.muli v0 c16_i32
  let c1_i32_0 : BitVec 32 := 1#32
  let v2 : BitVec 32 := Scalar.subi v1 c1_i32_0
  let c0_i32 : BitVec 32 := 0#32
  let v3 : BitVec 32 := Scalar.maxsi v2 c0_i32
  let c12_i32 : BitVec 32 := 12#32
  let v4 : BitVec 32 := Scalar.addi c12_i32 arg0
  let c0_i32_1 : BitVec 32 := 0#32
  ![v3.toNat, v4.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S4096x2304 : Shape := ⟨2, ![4096, 2304]⟩
abbrev S4096x256 : Shape := ⟨2, ![4096, 256]⟩
abbrev S4096x4 : Shape := ⟨2, ![4096, 4]⟩
abbrev S1x64 : Shape := ⟨2, ![1, 64]⟩
abbrev S64 : Shape := ⟨1, ![64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S4096x4x64 : Shape := ⟨3, ![4096, 4, 64]⟩
abbrev S4x4096x4096 : Shape := ⟨3, ![4, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x4096 : Shape := ⟨2, ![4, 4096]⟩
abbrev S4x4096x1 : Shape := ⟨3, ![4, 4096, 1]⟩
abbrev S4x4096x64 : Shape := ⟨3, ![4, 4096, 64]⟩
abbrev S4x64x4096 : Shape := ⟨3, ![4, 64, 4096]⟩

abbrev nBuf : Space → Nat
  | .hbm => 204
  | .vmem => 0
  | .smem => 0
  | _ => 0

abbrev hbmTy0_0 (i : Nat) : BufTy := match i % 128 with
  | 0 => ⟨S4096x2304, .f32⟩
  | 1 => ⟨S4096x256, .f32⟩
  | 2 => ⟨S4096x4, .f32⟩
  | 3 => ⟨S1x64, .f32⟩
  | 4 => ⟨S1x64, .f32⟩
  | 5 => ⟨S4096x256, .f32⟩
  | 6 => ⟨S4096x256, .f32⟩
  | 7 => ⟨S4096x256, .f32⟩
  | 8 => ⟨S64, .f32⟩
  | 9 => ⟨S64, .f32⟩
  | 10 => ⟨S16384x64, .f32⟩
  | 11 => ⟨S16384x64, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384x1, .f32⟩
  | 22 => ⟨S16384x1, .f32⟩
  | 23 => ⟨S_, .f32⟩
  | 24 => ⟨S16384x1, .f32⟩
  | 25 => ⟨S16384x1, .f32⟩
  | 26 => ⟨S16384x64, .f32⟩
  | 27 => ⟨S16384x64, .f32⟩
  | 28 => ⟨S1x64, .f32⟩
  | 29 => ⟨S16384x64, .f32⟩
  | 30 => ⟨S16384x64, .f32⟩
  | 31 => ⟨S_, .f32⟩
  | 32 => ⟨S16384x64, .f32⟩
  | 33 => ⟨S16384x64, .f32⟩
  | 34 => ⟨S4096x4x64, .f32⟩
  | 35 => ⟨S16384x64, .f32⟩
  | 36 => ⟨S16384x64, .f32⟩
  | 37 => ⟨S_, .f32⟩
  | 38 => ⟨S16384, .f32⟩
  | 39 => ⟨S16384x1, .f32⟩
  | 40 => ⟨S_, .f32⟩
  | 41 => ⟨S16384x1, .f32⟩
  | 42 => ⟨S16384x1, .f32⟩
  | 43 => ⟨S_, .f32⟩
  | 44 => ⟨S16384x1, .f32⟩
  | 45 => ⟨S16384x1, .f32⟩
  | 46 => ⟨S16384x1, .f32⟩
  | 47 => ⟨S16384x1, .f32⟩
  | 48 => ⟨S_, .f32⟩
  | 49 => ⟨S16384x1, .f32⟩
  | 50 => ⟨S16384x1, .f32⟩
  | 51 => ⟨S16384x64, .f32⟩
  | 52 => ⟨S16384x64, .f32⟩
  | 53 => ⟨S1x64, .f32⟩
  | 54 => ⟨S16384x64, .f32⟩
  | 55 => ⟨S16384x64, .f32⟩
  | 56 => ⟨S4096x4x64, .f32⟩
  | 57 => ⟨S4096x4x64, .f32⟩
  | 58 => ⟨S4x4096x4096, .f32⟩
  | 59 => ⟨S4096, .i32⟩
  | 60 => ⟨S4096x1, .i32⟩
  | 61 => ⟨S4096, .i32⟩
  | 62 => ⟨S1x4096, .i32⟩
  | 63 => ⟨S4096x4096, .i32⟩
  | 64 => ⟨S4096x4096, .i32⟩
  | 65 => ⟨S4096x4096, .i32⟩
  | 66 => ⟨S_, .i32⟩
  | 67 => ⟨S4096x4096, .i32⟩
  | 68 => ⟨S4096x4096, .i1⟩
  | 69 => ⟨S_, .i32⟩
  | 70 => ⟨S4096x4096, .i32⟩
  | 71 => ⟨S4096x4096, .i1⟩
  | 72 => ⟨S4096x4096, .i1⟩
  | 73 => ⟨S_, .f32⟩
  | 74 => ⟨S_, .f32⟩
  | 75 => ⟨S4x4096x4096, .i1⟩
  | 76 => ⟨S4x4096x4096, .f32⟩
  | 77 => ⟨S4x4096x4096, .f32⟩
  | 78 => ⟨S_, .f32⟩
  | 79 => ⟨S4x4096x4096, .f32⟩
  | 80 => ⟨S_, .f32⟩
  | 81 => ⟨S4x4096, .f32⟩
  | 82 => ⟨S4x4096x1, .f32⟩
  | 83 => ⟨S4x4096x4096, .f32⟩
  | 84 => ⟨S4x4096x4096, .i1⟩
  | 85 => ⟨S4x4096x4096, .f32⟩
  | 86 => ⟨S_, .f32⟩
  | 87 => ⟨S4x4096, .f32⟩
  | 88 => ⟨S4x4096x1, .f32⟩
  | 89 => ⟨S4x4096x4096, .f32⟩
  | 90 => ⟨S4x4096x4096, .f32⟩
  | 91 => ⟨S4x4096x4096, .f32⟩
  | 92 => ⟨S_, .f32⟩
  | 93 => ⟨S4x4096, .f32⟩
  | 94 => ⟨S4x4096x1, .f32⟩
  | 95 => ⟨S4x4096x4096, .f32⟩
  | 96 => ⟨S4x4096x4096, .f32⟩
  | 97 => ⟨S4x4096x1, .f32⟩
  | 98 => ⟨S_, .f32⟩
  | 99 => ⟨S4x4096x1, .f32⟩
  | 100 => ⟨S4x4096x1, .f32⟩
  | 101 => ⟨S4x4096x64, .f32⟩
  | 102 => ⟨S4x4096, .f32⟩
  | 103 => ⟨S4x4096, .f32⟩
  | 104 => ⟨S4096x4x64, .f32⟩
  | 105 => ⟨S4x4096x64, .f32⟩
  | 106 => ⟨S4x4096, .f32⟩
  | 107 => ⟨S4x4096, .f32⟩
  | 108 => ⟨S4x64x4096, .f32⟩
  | 109 => ⟨S4096x4x64, .f32⟩
  | 110 => ⟨S4x4096x4096, .f32⟩
  | 111 => ⟨S4x4096x4096, .f32⟩
  | 112 => ⟨S4x4096x4096, .f32⟩
  | 113 => ⟨S4x4096x4096, .f32⟩
  | 114 => ⟨S_, .f32⟩
  | 115 => ⟨S4x4096, .f32⟩
  | 116 => ⟨S4x4096x1, .f32⟩
  | 117 => ⟨S4x4096x1, .f32⟩
  | 118 => ⟨S4x4096x4096, .f32⟩
  | 119 => ⟨S4x4096x4096, .f32⟩
  | 120 => ⟨S_, .f32⟩
  | 121 => ⟨S4x4096, .f32⟩
  | 122 => ⟨S4x4096, .f32⟩
  | 123 => ⟨S4x4096x4096, .f32⟩
  | 124 => ⟨S4x4096x4096, .f32⟩
  | 125 => ⟨S4x4096x4096, .f32⟩
  | 126 => ⟨S4x4096x4096, .f32⟩
  | 127 => ⟨S_, .f32⟩
  | _ => ⟨S4096x2304, .f32⟩

abbrev hbmTy0_1 (i : Nat) : BufTy := match i % 128 with
  | 0 => ⟨S4x4096, .f32⟩
  | 1 => ⟨S4x4096x1, .f32⟩
  | 2 => ⟨S_, .f32⟩
  | 3 => ⟨S4x4096, .f32⟩
  | 4 => ⟨S4x4096, .f32⟩
  | 5 => ⟨S4x4096, .f32⟩
  | 6 => ⟨S4x4096x4096, .f32⟩
  | 7 => ⟨S4x4096x4096, .f32⟩
  | 8 => ⟨S4x4096x4096, .f32⟩
  | 9 => ⟨S_, .f32⟩
  | 10 => ⟨S4x4096x4096, .f32⟩
  | 11 => ⟨S4x4096x4096, .f32⟩
  | 12 => ⟨S4x4096x64, .f32⟩
  | 13 => ⟨S4096x4x64, .f32⟩
  | 14 => ⟨S4x4096x64, .f32⟩
  | 15 => ⟨S4096x4x64, .f32⟩
  | 16 => ⟨S4096x256, .f32⟩
  | 17 => ⟨S16384x64, .f32⟩
  | 18 => ⟨S16384x64, .f32⟩
  | 19 => ⟨S_, .f32⟩
  | 20 => ⟨S64, .f32⟩
  | 21 => ⟨S1x64, .f32⟩
  | 22 => ⟨S16384x64, .f32⟩
  | 23 => ⟨S16384x64, .f32⟩
  | 24 => ⟨S_, .f32⟩
  | 25 => ⟨S64, .f32⟩
  | 26 => ⟨S16384x64, .f32⟩
  | 27 => ⟨S_, .f32⟩
  | 28 => ⟨S16384, .f32⟩
  | 29 => ⟨S16384x1, .f32⟩
  | 30 => ⟨S16384x64, .f32⟩
  | 31 => ⟨S16384x64, .f32⟩
  | 32 => ⟨S16384x1, .f32⟩
  | 33 => ⟨S_, .f32⟩
  | 34 => ⟨S16384x1, .f32⟩
  | 35 => ⟨S16384x1, .f32⟩
  | 36 => ⟨S_, .f32⟩
  | 37 => ⟨S16384, .f32⟩
  | 38 => ⟨S16384x64, .f32⟩
  | 39 => ⟨S16384x64, .f32⟩
  | 40 => ⟨S16384x64, .f32⟩
  | 41 => ⟨S16384x64, .f32⟩
  | 42 => ⟨S16384x64, .f32⟩
  | 43 => ⟨S4096x256, .f32⟩
  | 44 => ⟨S16384x64, .f32⟩
  | 45 => ⟨S_, .f32⟩
  | 46 => ⟨S16384x64, .f32⟩
  | 47 => ⟨S16384x64, .f32⟩
  | 48 => ⟨S16384x64, .f32⟩
  | 49 => ⟨S_, .f32⟩
  | 50 => ⟨S64, .f32⟩
  | 51 => ⟨S1x64, .f32⟩
  | 52 => ⟨S16384x64, .f32⟩
  | 53 => ⟨S16384x64, .f32⟩
  | 54 => ⟨S_, .f32⟩
  | 55 => ⟨S64, .f32⟩
  | 56 => ⟨S16384x64, .f32⟩
  | 57 => ⟨S_, .f32⟩
  | 58 => ⟨S16384, .f32⟩
  | 59 => ⟨S16384x1, .f32⟩
  | 60 => ⟨S16384x64, .f32⟩
  | 61 => ⟨S16384x64, .f32⟩
  | 62 => ⟨S16384x1, .f32⟩
  | 63 => ⟨S_, .f32⟩
  | 64 => ⟨S16384x1, .f32⟩
  | 65 => ⟨S16384x1, .f32⟩
  | 66 => ⟨S_, .f32⟩
  | 67 => ⟨S16384, .f32⟩
  | 68 => ⟨S16384x64, .f32⟩
  | 69 => ⟨S16384x64, .f32⟩
  | 70 => ⟨S16384x64, .f32⟩
  | 71 => ⟨S16384x64, .f32⟩
  | 72 => ⟨S16384x64, .f32⟩
  | 73 => ⟨S4096x256, .f32⟩
  | 74 => ⟨S1x64, .f32⟩
  | 75 => ⟨S1x64, .f32⟩
  | _ => ⟨S4096x2304, .f32⟩

abbrev hbmTy (i : Nat) : BufTy := match i / 128 with
  | 0 => hbmTy0_0 i
  | 1 => hbmTy0_1 i
  | _ => ⟨S4096x2304, .f32⟩

abbrev bufTy : (tb : Table) → Fin (tcTables nBuf tb) → BufTy
  | .hbm, ⟨i, _⟩ => hbmTy i
  | _, _ => ⟨S4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c : Ref sig .tc := ⟨.hbm, 66, rfl⟩
abbrev main_v52 : Ref sig .tc := ⟨.hbm, 67, rfl⟩
abbrev main_v53 : Ref sig .tc := ⟨.hbm, 68, rfl⟩
abbrev main_c_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_call0_v0 : Ref sig .tc := ⟨.hbm, 74, rfl⟩
abbrev main_v57_1 : Ref sig .tc := ⟨.hbm, 75, rfl⟩
abbrev main_call0_v2 : Ref sig .tc := ⟨.hbm, 76, rfl⟩
abbrev main_v57_0 : Ref sig .tc := ⟨.hbm, 77, rfl⟩
abbrev main_call0_cst : Ref sig .tc := ⟨.hbm, 78, rfl⟩
abbrev main_v57_2 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_14 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_15 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_16 : Ref sig .tc := ⟨.hbm, 127, rfl⟩
abbrev main_v99 : Ref sig .tc := ⟨.hbm, 128, rfl⟩
abbrev main_v100 : Ref sig .tc := ⟨.hbm, 129, rfl⟩
abbrev main_cst_17 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_call1_cst : Ref sig .tc := ⟨.hbm, 137, rfl⟩
abbrev main_call1_v0 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_18 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_19 : Ref sig .tc := ⟨.hbm, 152, rfl⟩
abbrev main_v119 : Ref sig .tc := ⟨.hbm, 153, rfl⟩
abbrev main_v120 : Ref sig .tc := ⟨.hbm, 154, rfl⟩
abbrev main_cst_20 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_21 : Ref sig .tc := ⟨.hbm, 161, rfl⟩
abbrev main_v126 : Ref sig .tc := ⟨.hbm, 162, rfl⟩
abbrev main_v127 : Ref sig .tc := ⟨.hbm, 163, rfl⟩
abbrev main_cst_22 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_23 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_cst_24 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_cst_25 : Ref sig .tc := ⟨.hbm, 182, rfl⟩
abbrev main_v143 : Ref sig .tc := ⟨.hbm, 183, rfl⟩
abbrev main_v144 : Ref sig .tc := ⟨.hbm, 184, rfl⟩
abbrev main_cst_26 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_cst_27 : Ref sig .tc := ⟨.hbm, 191, rfl⟩
abbrev main_v150 : Ref sig .tc := ⟨.hbm, 192, rfl⟩
abbrev main_v151 : Ref sig .tc := ⟨.hbm, 193, rfl⟩
abbrev main_cst_28 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩

abbrev nD : Nat := 1
abbrev τ : Topo := Topo.v7x

variable {F : FTy → Type} [FloatOps F]

def κ : String → Option EReal := fun
  | "mask" => some ⊥
  | _ => none
-- ==== DactKernel.lean ====
abbrev S4096x1024 : Shape := ⟨2, ![4096, 1024]⟩
abbrev S4096x2816 : Shape := ⟨2, ![4096, 2816]⟩
abbrev S2816x1024 : Shape := ⟨2, ![2816, 1024]⟩
abbrev S2x4096x2816 : Shape := ⟨3, ![2, 4096, 2816]⟩
abbrev S512x1024 : Shape := ⟨2, ![512, 1024]⟩
abbrev S1408x1024 : Shape := ⟨2, ![1408, 1024]⟩
abbrev S512x1408 : Shape := ⟨2, ![512, 1408]⟩
abbrev S2x512x1408 : Shape := ⟨3, ![2, 512, 1408]⟩
abbrev S1x512x1408 : Shape := ⟨3, ![1, 512, 1408]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S2816x1024, .f32⟩
  | .hbm, ⟨4, _⟩ => ⟨S4096x1024, .bf16⟩
  | .hbm, ⟨5, _⟩ => ⟨S2816x1024, .bf16⟩
  | .hbm, ⟨6, _⟩ => ⟨S4096x2816, .bf16⟩
  | .hbm, ⟨7, _⟩ => ⟨S4096x2816, .bf16⟩
  | .hbm, ⟨8, _⟩ => ⟨S2x4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S2x512x1408, .bf16⟩
  | .local _ .vmem, ⟨9, _⟩ => ⟨S2x512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DactReferenceIdeal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩
abbrev S1x4096x2816 : Shape := ⟨3, ![1, 4096, 2816]⟩
abbrev S2x4096x2816 : Shape := ⟨3, ![2, 4096, 2816]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S2816x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S1x4096x2816, .f32⟩
  | .hbm, ⟨33, _⟩ => ⟨S1x4096x2816, .f32⟩
  | .hbm, ⟨34, _⟩ => ⟨S2x4096x2816, .f32⟩
  | .hbm, ⟨35, _⟩ => ⟨S2x4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== DnKernel.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S4096x2x2816 : Shape := ⟨3, ![4096, 2, 2816]⟩
abbrev S2x4096x2816 : Shape := ⟨3, ![2, 4096, 2816]⟩
abbrev S5632x1024 : Shape := ⟨2, ![5632, 1024]⟩
abbrev S1x512x2816 : Shape := ⟨3, ![1, 512, 2816]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩

abbrev nBuf : Space → Nat
  | .hbm => 13
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S4096x2x2816, .f32⟩
  | .hbm, ⟨6, _⟩ => ⟨S2x4096x2816, .f32⟩
  | .hbm, ⟨7, _⟩ => ⟨S2x4096x2816, .bf16⟩
  | .hbm, ⟨8, _⟩ => ⟨S5632x1024, .f32⟩
  | .hbm, ⟨9, _⟩ => ⟨S5632x1024, .bf16⟩
  | .hbm, ⟨10, _⟩ => ⟨S4096x1024, .f32⟩
  | .hbm, ⟨11, _⟩ => ⟨S4096x1024, .bf16⟩
  | .hbm, ⟨12, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_7 : BitVec 32 := 1#32
  let v15 : BitVec 1 := Scalar.cmpi .eq arg2 c1_i32_7
  let v16 : BitVec 32 := Scalar.extui v15
  let c0_i32_8 : BitVec 32 := 0#32
  let v17 : BitVec 1 := Scalar.cmpi .ne v16 c0_i32_8
  v17

def k0_cond4 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c1_i32_27 : BitVec 32 := 1#32
  let v51 : BitVec 1 := Scalar.cmpi .eq v3 c1_i32_27
  let v52 : BitVec 32 := Scalar.extui v51
  let c0_i32_28 : BitVec 32 := 0#32
  let v53 : BitVec 1 := Scalar.cmpi .ne v52 c0_i32_28
  v53

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== DnReferenceIdeal.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== DwiKernel.lean ====
abbrev S4096x1024 : Shape := ⟨2, ![4096, 1024]⟩
abbrev S1024x5632 : Shape := ⟨2, ![1024, 5632]⟩
abbrev S4096x5632 : Shape := ⟨2, ![4096, 5632]⟩
abbrev S4096x2x2816 : Shape := ⟨3, ![4096, 2, 2816]⟩
abbrev S2x4096x2816 : Shape := ⟨3, ![2, 4096, 2816]⟩
abbrev S5632x1024 : Shape := ⟨2, ![5632, 1024]⟩
abbrev S1x1024x1408 : Shape := ⟨3, ![1, 1024, 1408]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2x2816, .f32⟩
  | .hbm, ⟨4, _⟩ => ⟨S2x4096x2816, .f32⟩
  | .hbm, ⟨5, _⟩ => ⟨S2x4096x2816, .bf16⟩
  | .hbm, ⟨6, _⟩ => ⟨S4096x1024, .bf16⟩
  | .hbm, ⟨7, _⟩ => ⟨S5632x1024, .bf16⟩
  | .local _ .vmem, ⟨0, _⟩ => ⟨S1x1024x1408, .bf16⟩
  | .local _ .vmem, ⟨1, _⟩ => ⟨S1x1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwiReferenceIdeal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .f32⟩
  | .hbm, ⟨4, _⟩ => ⟨S5632x1024, .f32⟩
  | .hbm, ⟨5, _⟩ => ⟨S1024x5632, .f32⟩
  | .hbm, ⟨6, _⟩ => ⟨S5632x1024, .f32⟩
  | .hbm, ⟨7, _⟩ => ⟨S5632x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwoKernel.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S4096x1024, .bf16⟩
  | .hbm, ⟨5, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoReferenceIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S1024x2816 : Shape := ⟨2, ![1024, 2816]⟩

abbrev nBuf : Space → Nat
  | .hbm => 13
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S1024x2816, .f32⟩
  | .hbm, ⟨11, _⟩ => ⟨S2816x1024, .f32⟩
  | .hbm, ⟨12, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== UpKernel.lean ====
abbrev S4096x1024 : Shape := ⟨2, ![4096, 1024]⟩
abbrev S1024x5632 : Shape := ⟨2, ![1024, 5632]⟩
abbrev S5632x1024 : Shape := ⟨2, ![5632, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S5632x1024, .f32⟩
  | .hbm, ⟨4, _⟩ => ⟨S5632x1024, .bf16⟩
  | .hbm, ⟨5, _⟩ => ⟨S4096x2816, .bf16⟩
  | .hbm, ⟨6, _⟩ => ⟨S4096x2816, .bf16⟩
  | .hbm, ⟨7, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpReferenceIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .bf16⟩
  | .hbm, ⟨6, _⟩ => ⟨S4096x2816, .bf16⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== DownKernel.lean ====
abbrev S4096x2816 : Shape := ⟨2, ![4096, 2816]⟩
abbrev S2816x1024 : Shape := ⟨2, ![2816, 1024]⟩
abbrev S4096x1024 : Shape := ⟨2, ![4096, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x2816, .bf16⟩
  | .hbm, ⟨5, _⟩ => ⟨S2816x1024, .bf16⟩
  | .hbm, ⟨6, _⟩ => ⟨S4096x1024, .f32⟩
  | .hbm, ⟨7, _⟩ => ⟨S4096x1024, .bf16⟩
  | .hbm, ⟨8, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x128, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== DownReferenceIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096 : Shape := ⟨1, ![4096]⟩
abbrev S1x128 : Shape := ⟨2, ![1, 128]⟩

abbrev nBuf : Space → Nat
  | .hbm => 34
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096x1024, .f32⟩
  | .hbm, ⟨31, _⟩ => ⟨S4096x1024, .f32⟩
  | .hbm, ⟨32, _⟩ => ⟨S4096x1024, .bf16⟩
  | .hbm, ⟨33, _⟩ => ⟨S1x128, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_cst_5 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_cst_7 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]
-- ==== MergeKernel.lean ====
abbrev S4096x1024 : Shape := ⟨2, ![4096, 1024]⟩
abbrev S1024x1024 : Shape := ⟨2, ![1024, 1024]⟩
abbrev S4096x2048 : Shape := ⟨2, ![4096, 2048]⟩
abbrev S1x2048 : Shape := ⟨2, ![1, 2048]⟩
abbrev S512x1024 : Shape := ⟨2, ![512, 1024]⟩
abbrev S512x2048 : Shape := ⟨2, ![512, 2048]⟩
abbrev S2048 : Shape := ⟨1, ![2048]⟩

abbrev nBuf : Space → Nat
  | .hbm => 12
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x2048, .f32⟩
  | .hbm, ⟨3, _⟩ => ⟨S4096x1024, .f32⟩
  | .hbm, ⟨4, _⟩ => ⟨S4096x1024, .f32⟩
  | .hbm, ⟨5, _⟩ => ⟨S1x2048, .f32⟩
  | .hbm, ⟨6, _⟩ => ⟨S4096x1024, .bf16⟩
  | .hbm, ⟨7, _⟩ => ⟨S1024x1024, .bf16⟩
  | .hbm, ⟨8, _⟩ => ⟨S4096x1024, .bf16⟩
  | .hbm, ⟨9, _⟩ => ⟨S4096x1024, .bf16⟩
  | .hbm, ⟨10, _⟩ => ⟨S4096x2048, .bf16⟩
  | .hbm, ⟨11, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x2048, .f32⟩
  | .local _ .vmem, ⟨4, _⟩ => ⟨S512x2048, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x2048, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | .local _ .vmem, ⟨16, _⟩ => ⟨S1x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== MergeReferenceIdeal.lean ====
abbrev S4096x1024 : Shape := ⟨2, ![4096, 1024]⟩
abbrev S1024x1024 : Shape := ⟨2, ![1024, 1024]⟩
abbrev S4096x2048 : Shape := ⟨2, ![4096, 2048]⟩
abbrev S1x2048 : Shape := ⟨2, ![1, 2048]⟩
abbrev S2048 : Shape := ⟨1, ![2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x2048, .f32⟩
  | .hbm, ⟨3, _⟩ => ⟨S4096x1024, .f32⟩
  | .hbm, ⟨4, _⟩ => ⟨S4096x1024, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S_, .f32⟩
  | .hbm, ⟨39, _⟩ => ⟨S2048, .f32⟩
  | .hbm, ⟨40, _⟩ => ⟨S4096x1024, .bf16⟩
  | .hbm, ⟨41, _⟩ => ⟨S4096x1024, .bf16⟩
  | .hbm, ⟨42, _⟩ => ⟨S4096x2048, .bf16⟩
  | .hbm, ⟨43, _⟩ => ⟨S1x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== PrkvKernel.lean ====
abbrev S4096x1024 : Shape := ⟨2, ![4096, 1024]⟩
abbrev S1024x3072 : Shape := ⟨2, ![1024, 3072]⟩
abbrev S3072x1024 : Shape := ⟨2, ![3072, 1024]⟩
abbrev S4096x3072 : Shape := ⟨2, ![4096, 3072]⟩
abbrev S2048x1024 : Shape := ⟨2, ![2048, 1024]⟩
abbrev S1536x1024 : Shape := ⟨2, ![1536, 1024]⟩
abbrev S2048x1536 : Shape := ⟨2, ![2048, 1536]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x1024, .bf16⟩
  | .hbm, ⟨3, _⟩ => ⟨S3072x1024, .f32⟩
  | .hbm, ⟨4, _⟩ => ⟨S3072x1024, .bf16⟩
  | .hbm, ⟨5, _⟩ => ⟨S4096x3072, .f32⟩
  | .local _ .vmem, ⟨0, _⟩ => ⟨S2048x1024, .bf16⟩
  | .local _ .vmem, ⟨1, _⟩ => ⟨S2048x1024, .bf16⟩
  | .local _ .vmem, ⟨2, _⟩ => ⟨S1536x1024, .bf16⟩
  | .local _ .vmem, ⟨3, _⟩ => ⟨S1536x1024, .bf16⟩
  | .local _ .vmem, ⟨4, _⟩ => ⟨S2048x1536, .f32⟩
  | .local _ .vmem, ⟨5, _⟩ => ⟨S2048x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PrkvReferenceIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DhrkvKernel.lean ====
abbrev S4096x1024 : Shape := ⟨2, ![4096, 1024]⟩
abbrev S1024x3072 : Shape := ⟨2, ![1024, 3072]⟩
abbrev S4096x3072 : Shape := ⟨2, ![4096, 3072]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .bf16⟩
  | .hbm, ⟨4, _⟩ => ⟨S3072x1024, .f32⟩
  | .hbm, ⟨5, _⟩ => ⟨S3072x1024, .bf16⟩
  | .hbm, ⟨6, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhrkvReferenceIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DwrkvKernel.lean ====
abbrev S4096x1024 : Shape := ⟨2, ![4096, 1024]⟩
abbrev S1024x3072 : Shape := ⟨2, ![1024, 3072]⟩
abbrev S4096x3072 : Shape := ⟨2, ![4096, 3072]⟩
abbrev S3072x1024 : Shape := ⟨2, ![3072, 1024]⟩
abbrev S1024x1536 : Shape := ⟨2, ![1024, 1536]⟩
abbrev S1024x1024 : Shape := ⟨2, ![1024, 1024]⟩
abbrev S1536x1024 : Shape := ⟨2, ![1536, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .bf16⟩
  | .hbm, ⟨4, _⟩ => ⟨S4096x1024, .bf16⟩
  | .hbm, ⟨5, _⟩ => ⟨S3072x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwrkvReferenceIdeal.lean ====
abbrev S4096x1024 : Shape := ⟨2, ![4096, 1024]⟩
abbrev S1024x3072 : Shape := ⟨2, ![1024, 3072]⟩
abbrev S4096x3072 : Shape := ⟨2, ![4096, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .f32⟩
  | .hbm, ⟨4, _⟩ => ⟨S3072x1024, .f32⟩
  | .hbm, ⟨5, _⟩ => ⟨S1024x3072, .f32⟩
  | .hbm, ⟨6, _⟩ => ⟨S3072x1024, .f32⟩
  | .hbm, ⟨7, _⟩ => ⟨S3072x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PgateKernel.lean ====
abbrev S4096x1024 : Shape := ⟨2, ![4096, 1024]⟩
abbrev S1024x2048 : Shape := ⟨2, ![1024, 2048]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S2048x1024, .f32⟩
  | .hbm, ⟨4, _⟩ => ⟨S2048x1024, .bf16⟩
  | .hbm, ⟨5, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .f32⟩
  | .local _ .vmem, ⟨4, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PgateReferenceIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DhgateKernel.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .bf16⟩
  | .hbm, ⟨4, _⟩ => ⟨S2048x1024, .f32⟩
  | .hbm, ⟨5, _⟩ => ⟨S2048x1024, .bf16⟩
  | .hbm, ⟨6, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhgateReferenceIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DwgateKernel.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .bf16⟩
  | .hbm, ⟨4, _⟩ => ⟨S4096x1024, .bf16⟩
  | .hbm, ⟨5, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwgateReferenceIdeal.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PqkvKernel.lean ====
abbrev S4096x1024 : Shape := ⟨2, ![4096, 1024]⟩
abbrev S1024x2304 : Shape := ⟨2, ![1024, 2304]⟩
abbrev S2304x1024 : Shape := ⟨2, ![2304, 1024]⟩
abbrev S4096x2304 : Shape := ⟨2, ![4096, 2304]⟩
abbrev S2048x1024 : Shape := ⟨2, ![2048, 1024]⟩
abbrev S1152x1024 : Shape := ⟨2, ![1152, 1024]⟩
abbrev S2048x1152 : Shape := ⟨2, ![2048, 1152]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S4096x1024, .bf16⟩
  | .hbm, ⟨3, _⟩ => ⟨S2304x1024, .f32⟩
  | .hbm, ⟨4, _⟩ => ⟨S2304x1024, .bf16⟩
  | .hbm, ⟨5, _⟩ => ⟨S4096x2304, .f32⟩
  | .local _ .vmem, ⟨0, _⟩ => ⟨S2048x1024, .bf16⟩
  | .local _ .vmem, ⟨1, _⟩ => ⟨S2048x1024, .bf16⟩
  | .local _ .vmem, ⟨2, _⟩ => ⟨S1152x1024, .bf16⟩
  | .local _ .vmem, ⟨3, _⟩ => ⟨S1152x1024, .bf16⟩
  | .local _ .vmem, ⟨4, _⟩ => ⟨S2048x1152, .f32⟩
  | .local _ .vmem, ⟨5, _⟩ => ⟨S2048x1152, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PqkvReferenceIdeal.lean ====
abbrev S4096x1024 : Shape := ⟨2, ![4096, 1024]⟩
abbrev S1024x2304 : Shape := ⟨2, ![1024, 2304]⟩
abbrev S4096x2304 : Shape := ⟨2, ![4096, 2304]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S4096x2304, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DwqkvKernel.lean ====
abbrev S4096x1024 : Shape := ⟨2, ![4096, 1024]⟩
abbrev S1024x2304 : Shape := ⟨2, ![1024, 2304]⟩
abbrev S4096x2304 : Shape := ⟨2, ![4096, 2304]⟩
abbrev S2304x1024 : Shape := ⟨2, ![2304, 1024]⟩
abbrev S1024x1152 : Shape := ⟨2, ![1024, 1152]⟩
abbrev S1024x1024 : Shape := ⟨2, ![1024, 1024]⟩
abbrev S1152x1024 : Shape := ⟨2, ![1152, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S4096x2304, .f32⟩
  | .hbm, ⟨3, _⟩ => ⟨S4096x2304, .bf16⟩
  | .hbm, ⟨4, _⟩ => ⟨S4096x1024, .bf16⟩
  | .hbm, ⟨5, _⟩ => ⟨S2304x1024, .bf16⟩
  | .local _ .vmem, ⟨0, _⟩ => ⟨S1024x1152, .bf16⟩
  | .local _ .vmem, ⟨1, _⟩ => ⟨S1024x1152, .bf16⟩
  | .local _ .vmem, ⟨2, _⟩ => ⟨S1024x1024, .bf16⟩
  | .local _ .vmem, ⟨3, _⟩ => ⟨S1024x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwqkvReferenceIdeal.lean ====
abbrev S4096x1024 : Shape := ⟨2, ![4096, 1024]⟩
abbrev S1024x2304 : Shape := ⟨2, ![1024, 2304]⟩
abbrev S4096x2304 : Shape := ⟨2, ![4096, 2304]⟩
abbrev S2304x1024 : Shape := ⟨2, ![2304, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S4096x2304, .f32⟩
  | .hbm, ⟨3, _⟩ => ⟨S4096x2304, .f32⟩
  | .hbm, ⟨4, _⟩ => ⟨S2304x1024, .f32⟩
  | .hbm, ⟨5, _⟩ => ⟨S1024x2304, .f32⟩
  | .hbm, ⟨6, _⟩ => ⟨S2304x1024, .f32⟩
  | .hbm, ⟨7, _⟩ => ⟨S2304x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixKernel.lean ====
abbrev S4096x1024 : Shape := ⟨2, ![4096, 1024]⟩
abbrev S1x1024 : Shape := ⟨2, ![1, 1024]⟩
abbrev S1024x2304 : Shape := ⟨2, ![1024, 2304]⟩
abbrev S4096x2304 : Shape := ⟨2, ![4096, 2304]⟩
abbrev S2304x1024 : Shape := ⟨2, ![2304, 1024]⟩
abbrev S512x2304 : Shape := ⟨2, ![512, 2304]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2304, .f32⟩
  | .hbm, ⟨3, _⟩ => ⟨S4096x2304, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x2304, .bf16⟩
  | .hbm, ⟨9, _⟩ => ⟨S2304x1024, .f32⟩
  | .hbm, ⟨10, _⟩ => ⟨S2304x1024, .bf16⟩
  | .hbm, ⟨11, _⟩ => ⟨S4096x1024, .f32⟩
  | .hbm, ⟨12, _⟩ => ⟨S4096x1024, .bf16⟩
  | .hbm, ⟨13, _⟩ => ⟨S1x1024, .f32⟩
  | .local _ .vmem, ⟨0, _⟩ => ⟨S512x2304, .bf16⟩
  | .local _ .vmem, ⟨1, _⟩ => ⟨S512x2304, .bf16⟩
  | .local _ .vmem, ⟨2, _⟩ => ⟨S2304x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== MixReferenceIdeal.lean ====
abbrev S4096x1024 : Shape := ⟨2, ![4096, 1024]⟩
abbrev S1x1024 : Shape := ⟨2, ![1, 1024]⟩
abbrev S1024x2304 : Shape := ⟨2, ![1024, 2304]⟩
abbrev S4096x2304 : Shape := ⟨2, ![4096, 2304]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2304, .f32⟩
  | .hbm, ⟨3, _⟩ => ⟨S4096x2304, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x2304, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .bf16⟩
  | .hbm, ⟨61, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== ProjaKernel.lean ====
abbrev S4096x1024 : Shape := ⟨2, ![4096, 1024]⟩
abbrev S1024x1024 : Shape := ⟨2, ![1024, 1024]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjaReferenceIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DyaKernel.lean ====
abbrev S4096x1024 : Shape := ⟨2, ![4096, 1024]⟩
abbrev S1024x1024 : Shape := ⟨2, ![1024, 1024]⟩
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyaReferenceIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DwprKernel.lean ====
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwprReferenceIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixoutKernel.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== MixoutReferenceIdeal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== PloraKernel.lean ====
abbrev S4096x1024 : Shape := ⟨2, ![4096, 1024]⟩
abbrev S1024x512 : Shape := ⟨2, ![1024, 512]⟩
abbrev S512x1024 : Shape := ⟨2, ![512, 1024]⟩
abbrev S4096x512 : Shape := ⟨2, ![4096, 512]⟩
abbrev S2048x512 : Shape := ⟨2, ![2048, 512]⟩
abbrev S512x512 : Shape := ⟨2, ![512, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S4096x1024, .bf16⟩
  | .hbm, ⟨3, _⟩ => ⟨S512x1024, .f32⟩
  | .hbm, ⟨4, _⟩ => ⟨S512x1024, .bf16⟩
  | .hbm, ⟨5, _⟩ => ⟨S4096x512, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S512x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PloraReferenceIdeal.lean ====
abbrev S4096x1024 : Shape := ⟨2, ![4096, 1024]⟩
abbrev S1024x512 : Shape := ⟨2, ![1024, 512]⟩
abbrev S4096x512 : Shape := ⟨2, ![4096, 512]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DhloraKernel.lean ====
abbrev S4096x1024 : Shape := ⟨2, ![4096, 1024]⟩
abbrev S1024x512 : Shape := ⟨2, ![1024, 512]⟩
abbrev S4096x512 : Shape := ⟨2, ![4096, 512]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S4096x512, .f32⟩
  | .hbm, ⟨3, _⟩ => ⟨S4096x512, .bf16⟩
  | .hbm, ⟨4, _⟩ => ⟨S512x1024, .f32⟩
  | .hbm, ⟨5, _⟩ => ⟨S512x1024, .bf16⟩
  | .hbm, ⟨6, _⟩ => ⟨S4096x1024, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S2048x1024, .f32⟩
  | .local _ .vmem, ⟨4, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhloraReferenceIdeal.lean ====
abbrev S4096x1024 : Shape := ⟨2, ![4096, 1024]⟩
abbrev S1024x512 : Shape := ⟨2, ![1024, 512]⟩
abbrev S4096x512 : Shape := ⟨2, ![4096, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S4096x512, .f32⟩
  | .hbm, ⟨3, _⟩ => ⟨S4096x512, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DwloraKernel.lean ====
abbrev S4096x1024 : Shape := ⟨2, ![4096, 1024]⟩
abbrev S1024x512 : Shape := ⟨2, ![1024, 512]⟩
abbrev S4096x512 : Shape := ⟨2, ![4096, 512]⟩
abbrev S512x1024 : Shape := ⟨2, ![512, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S4096x512, .f32⟩
  | .hbm, ⟨3, _⟩ => ⟨S4096x512, .bf16⟩
  | .hbm, ⟨4, _⟩ => ⟨S4096x1024, .bf16⟩
  | .hbm, ⟨5, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwloraReferenceIdeal.lean ====
abbrev S4096x1024 : Shape := ⟨2, ![4096, 1024]⟩
abbrev S1024x512 : Shape := ⟨2, ![1024, 512]⟩
abbrev S4096x512 : Shape := ⟨2, ![4096, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S4096x512, .f32⟩
  | .hbm, ⟨3, _⟩ => ⟨S4096x512, .f32⟩
  | .hbm, ⟨4, _⟩ => ⟨S512x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwpaKernel.lean ====
abbrev S4096x768 : Shape := ⟨2, ![4096, 768]⟩
abbrev S768x1024 : Shape := ⟨2, ![768, 1024]⟩
abbrev S4096x1024 : Shape := ⟨2, ![4096, 1024]⟩
abbrev S1024x768 : Shape := ⟨2, ![1024, 768]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x768, .f32⟩
  | .hbm, ⟨1, _⟩ => ⟨S768x1024, .f32⟩
  | .hbm, ⟨2, _⟩ => ⟨S4096x1024, .f32⟩
  | .hbm, ⟨3, _⟩ => ⟨S4096x1024, .bf16⟩
  | .hbm, ⟨4, _⟩ => ⟨S4096x768, .bf16⟩
  | .hbm, ⟨5, _⟩ => ⟨S1024x768, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwpaReferenceIdeal.lean ====
abbrev S4096x768 : Shape := ⟨2, ![4096, 768]⟩
abbrev S768x1024 : Shape := ⟨2, ![768, 1024]⟩
abbrev S4096x1024 : Shape := ⟨2, ![4096, 1024]⟩
abbrev S1024x768 : Shape := ⟨2, ![1024, 768]⟩

abbrev nBuf : Space → Nat
  | .hbm => 8
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S768x1024, .f32⟩
  | .hbm, ⟨2, _⟩ => ⟨S4096x1024, .f32⟩
  | .hbm, ⟨3, _⟩ => ⟨S4096x1024, .f32⟩
  | .hbm, ⟨4, _⟩ => ⟨S1024x768, .f32⟩
  | .hbm, ⟨5, _⟩ => ⟨S768x1024, .f32⟩
  | .hbm, ⟨6, _⟩ => ⟨S1024x768, .f32⟩
  | .hbm, ⟨7, _⟩ => ⟨S1024x768, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjbKernel.lean ====
abbrev S4096x768 : Shape := ⟨2, ![4096, 768]⟩
abbrev S768x1024 : Shape := ⟨2, ![768, 1024]⟩
abbrev S4096x2048 : Shape := ⟨2, ![4096, 2048]⟩
abbrev S4096x1024 : Shape := ⟨2, ![4096, 1024]⟩
abbrev S1x2048 : Shape := ⟨2, ![1, 2048]⟩
abbrev S1024x768 : Shape := ⟨2, ![1024, 768]⟩
abbrev S512x768 : Shape := ⟨2, ![512, 768]⟩
abbrev S512x2048 : Shape := ⟨2, ![512, 2048]⟩
abbrev S512x1024 : Shape := ⟨2, ![512, 1024]⟩

abbrev nBuf : Space → Nat
  | .hbm => 10
  | .vmem => 12
  | .smem => 0
  | _ => 0

abbrev bufTy : (tb : Table) → Fin (tcTables nBuf tb) → BufTy
  | .hbm, ⟨0, _⟩ => ⟨S4096x768, .f32⟩
  | .hbm, ⟨1, _⟩ => ⟨S768x1024, .f32⟩
  | .hbm, ⟨2, _⟩ => ⟨S4096x2048, .f32⟩
  | .hbm, ⟨3, _⟩ => ⟨S4096x1024, .f32⟩
  | .hbm, ⟨4, _⟩ => ⟨S1x2048, .f32⟩
  | .hbm, ⟨5, _⟩ => ⟨S4096x768, .bf16⟩
  | .hbm, ⟨6, _⟩ => ⟨S1024x768, .f32⟩
  | .hbm, ⟨7, _⟩ => ⟨S1024x768, .bf16⟩
  | .hbm, ⟨8, _⟩ => ⟨S4096x1024, .f32⟩
  | .hbm, ⟨9, _⟩ => ⟨S4096x1024, .bf16⟩
  | .local _ .vmem, ⟨0, _⟩ => ⟨S512x768, .bf16⟩
  | .local _ .vmem, ⟨1, _⟩ => ⟨S512x768, .bf16⟩
  | .local _ .vmem, ⟨2, _⟩ => ⟨S1024x768, .bf16⟩
  | .local _ .vmem, ⟨3, _⟩ => ⟨S512x2048, .f32⟩
  | .local _ .vmem, ⟨4, _⟩ => ⟨S512x2048, .f32⟩
  | .local _ .vmem, ⟨5, _⟩ => ⟨S512x1024, .f32⟩
  | .local _ .vmem, ⟨6, _⟩ => ⟨S512x1024, .f32⟩
  | .local _ .vmem, ⟨7, _⟩ => ⟨S1x2048, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== ProjbReferenceIdeal.lean ====
abbrev S4096x768 : Shape := ⟨2, ![4096, 768]⟩
abbrev S768x1024 : Shape := ⟨2, ![768, 1024]⟩
abbrev S4096x2048 : Shape := ⟨2, ![4096, 2048]⟩
abbrev S4096x1024 : Shape := ⟨2, ![4096, 1024]⟩
abbrev S1x2048 : Shape := ⟨2, ![1, 2048]⟩
abbrev S2048 : Shape := ⟨1, ![2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S768x1024, .f32⟩
  | .hbm, ⟨2, _⟩ => ⟨S4096x2048, .f32⟩
  | .hbm, ⟨3, _⟩ => ⟨S4096x1024, .f32⟩
  | .hbm, ⟨4, _⟩ => ⟨S1x2048, .f32⟩
  | .hbm, ⟨5, _⟩ => ⟨S4096x1024, .f32⟩
  | .hbm, ⟨6, _⟩ => ⟨S2048, .f32⟩
  | .hbm, ⟨7, _⟩ => ⟨S1x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.Vocab.lean ====
/- What the kernel computes of one head and one tile of sixteen blocks, as functions of the tile's rows: the same
   operations for both heads of a grid point. -/
module

public import proofs.«01_k».proof.Proof.Gen.KernelIdeal.Skeleton

@[expose] public section

set_option maxRecDepth 16384

noncomputable section

namespace Cert.Attn.Ker

open Idealize.ShloMosaic Cert.KernelIdeal Cert.KernelIdeal.Gen

/-- Rows of 64 lanes, in blocks. -/
abbrev Rows := FVec Ideal S16x128x64 .f32
/-- A square of scores per block. -/
abbrev Sq := FVec Ideal S16x128x128 .f32
/-- One number per row. -/
abbrev Col := FVec Ideal S16x128x1 .f32
/-- One row of 64 lanes. -/
abbrev Lane := FVec Ideal S1x64 .f32
/-- One block of rows carried from tile to tile. -/
abbrev Carry := FVec Ideal S1x1x128x64 .f32

/-- The sum along the lanes, kept as a column. -/
def lsum (x : Rows) : Col :=
  shapeCast S16x128x1 (multiReduction .add [2] S16x128 x 0x00000000#32 reduces_S16x128x64_S16x128 (.inl rfl) rfl)
    shapeCasts_S16x128_S16x128x1
/-- A column repeated along the lanes. -/
def cb (x : Col) : Rows := broadcastTo S16x128x64 x broadcasts_S16x128x1_S16x128x64
/-- A column repeated along the keys of a block. -/
def cbs (x : Col) : Sq := broadcastTo S16x128x128 x broadcasts_S16x128x1_S16x128x128
/-- The reciprocal root mean square of each row. -/
def rsv (x : Rows) : Col :=
  rsqrt (addf (divf (lsum (mulf x x)) (broadcast S16x128x1 (Scalar.ofBits .f32 0x42800000#32)))
    (broadcast S16x128x1 (Scalar.ofBits .f32 0x358637BD#32)))
/-- Rows normalised, before the gain. -/
def xh (x : Rows) : Rows := mulf x (cb (rsv x))
/-- A scaled gain repeated along the rows. -/
def gb (g : Lane) (c : Ideal .f32) : Rows :=
  broadcastTo S16x128x64 (shapeCast S1x1x64 (mulf g (broadcast S1x64 c)) shapeCasts_S1x64_S1x1x64) broadcasts_S1x1x64_S16x128x64
/-- Normalised, scaled rows. -/
def nrm (x : Rows) (g : Lane) (c : Ideal .f32) : Rows := mulf (xh x) (gb g c)
/-- Each block's products of rows with rows. -/
def sco (a b : Rows) : Sq :=
  matmul dot_S16x128x64_S16x128x64_S16x128x128_2_2_1_1_0_0 none (truncf .bf16 a bitsLt_bf16_f32) (truncf .bf16 b bitsLt_bf16_f32)
    (constant S16x128x128 .f32 0x00000000#32)
/-- The query's row and the key's row within a block. -/
def ri : IVec S1x128x128 32 := iota .tc S1x128x128 32 [1] iota_S1x128x128_d1_w32
def si : IVec S1x128x128 32 := iota .tc S1x128x128 32 [2] iota_S1x128x128_d2_w32
/-- The value that stands for a key not seen. -/
def ninf : Sq := broadcast S16x128x128 (Named.named (F := Ideal) κ "mask" 0xF149F2CA#32)
/-- The weights of a block's own keys. -/
def pcur (l : Col) (a b : Rows) : Sq :=
  exp (subf (select (broadcastTo S16x128x128 (shapeCast S1x128x128 (cmpi .sge ri si) shapeCasts_S1x128x128_S1x128x128)
    broadcasts_S1x128x128_S16x128x128) (sco a b) ninf) (cbs l))
/-- The weights of the block before's keys. -/
def pprev (fs : IVec S16x1x1 1) (l : Col) (a b : Rows) : Sq :=
  exp (subf (select (andi (broadcastTo S16x128x128 (cmpi .sge si ri) broadcasts_S1x128x128_S16x128x128)
    (broadcastTo S16x128x128 (xori fs (constantI S16x1x1 1 1#1)) broadcasts_S16x1x1_S16x128x128)) (sco a b) ninf) (cbs l))
/-- What each row's score gradients have in common. -/
def cor (d o : Rows) (dl : Col) : Col := subf dl (lsum (mulf d o))
/-- The gradients of a block's scores. -/
def dsv (p : Sq) (d v : Rows) (c : Col) : Sq := mulf p (addf (sco d v) (cbs c))
/-- Rows of scores times rows of keys. -/
def mqry (s : Sq) (x : Rows) : Rows :=
  matmul dot_S16x128x128_S16x128x64_S16x128x64_2_1_1_2_0_0 none (truncf .bf16 s bitsLt_bf16_f32) (truncf .bf16 x bitsLt_bf16_f32)
    (constant S16x128x64 .f32 0x00000000#32)
/-- Columns of scores times rows of queries. -/
def mkey (s : Sq) (x : Rows) : Rows :=
  matmul dot_S16x128x128_S16x128x64_S16x128x64_1_1_2_2_0_0 none (truncf .bf16 s bitsLt_bf16_f32) (truncf .bf16 x bitsLt_bf16_f32)
    (constant S16x128x64 .f32 0x00000000#32)
/-- The blocks moved on by one, a block put before. -/
def before (c : FVec Ideal S1x128x64 .f32) (x : Rows) : Rows :=
  concatenate S16x128x64 0 [⟨S1x128x64, c⟩, ⟨S15x128x64, extractStridedSlice S15x128x64 ![0, 0, 0] x slices_S16x128x64_o0_0_0_S15x128x64⟩]
    concatenates_S1x128x64_S15x128x64_S16x128x64_d0
/-- The blocks moved back by one, a block put after. -/
def after (x : Rows) (c : Carry) : Rows :=
  concatenate S16x128x64 0 [⟨S15x128x64, extractStridedSlice S15x128x64 ![1, 0, 0] x slices_S16x128x64_o1_0_0_S15x128x64⟩,
    ⟨S1x128x64, shapeCast S1x128x64 c shapeCasts_S1x1x128x64_S1x128x64⟩] concatenates_S15x128x64_S1x128x64_S16x128x64_d0
/-- The first block, kept for the tile before. -/
def first (x : Rows) : Carry :=
  shapeCast S1x1x128x64 (extractStridedSlice S1x128x64 ![0, 0, 0] x slices_S16x128x64_o0_0_0_S1x128x64) shapeCasts_S1x128x64_S1x1x128x64
/-- The gradient through the normalisation. -/
def nbv (x y : Rows) (g : Lane) (c : Ideal .f32) : Rows :=
  mulf (cb (rsv x)) (subf (mulf y (gb g c)) (mulf (xh x) (cb (divf (lsum (mulf (mulf y (gb g c)) (xh x)))
    (broadcast S16x128x1 (Scalar.ofBits .f32 0x42800000#32))))))
/-- A gain's gradient over a tile. -/
def gsum (x y : Rows) (c : Ideal .f32) : Lane :=
  shapeCast S1x64 (multiReduction .add [0] S64 (multiReduction .add [1] S16x64 (mulf (mulf y (xh x)) (broadcast S16x128x64 c)) 0x00000000#32
    reduces_S16x128x64_S16x64 (.inl rfl) rfl) 0x00000000#32 reduces_S16x64_S64 (.inl rfl) rfl) shapeCasts_S64_S1x64
/-- Two heads' rows side by side. -/
def pair (a b : Rows) : Sq :=
  concatenate S16x128x128 2 [⟨S16x128x64, a⟩, ⟨S16x128x64, b⟩] concatenates_S16x128x64_S16x128x64_S16x128x128_d2
/-- One block of a tile as a block of rows. -/
def blk (off : Fin 3 → Nat) (h : S16x128x128.Slices off S1x128x128) (x : Sq) : FVec Ideal S128x128 .f32 :=
  shapeCast S128x128 (extractStridedSlice S1x128x128 off x h) shapeCasts_S1x128x128_S128x128

/-- One head's rows of a tile: queries, keys, values, the keys and values of the block before each block, outputs, the
    outputs' gradients, the logarithms of the denominators, their gradients, the two gains, and which block is the
    sequence's first. -/
structure Tile where
  q : Rows
  k : Rows
  v : Rows
  kp : Rows
  vp : Rows
  o : Rows
  d : Rows
  l : Col
  dl : Col
  gq : Lane
  gk : Lane
  fs : IVec S16x1x1 1

namespace Tile

variable (T : Tile)

def one : Ideal .f32 := Scalar.ofBits .f32 0x3F800000#32
def eighth : Ideal .f32 := Scalar.ofBits .f32 0x3E000000#32
def qn : Rows := nrm T.q T.gq eighth
def kn : Rows := nrm T.k T.gk one
def knp : Rows := nrm T.kp T.gk one
def p : Sq := pcur T.l T.qn T.kn
def pp : Sq := pprev T.fs T.l T.qn T.knp
def c : Col := cor T.d T.o T.dl
def ds : Sq := dsv T.p T.d T.v T.c
def dsp : Sq := dsv T.pp T.d T.vp T.c
def dqn : Rows := addf (mqry T.ds T.kn) (mqry T.dsp T.knp)
def dkp : Rows := mkey T.dsp T.qn
def dvp : Rows := mkey T.pp T.d
def dkn (ck : Carry) : Rows := addf (mkey T.ds T.qn) (after T.dkp ck)
def dv (cv : Carry) : Rows := addf (mkey T.p T.d) (after T.dvp cv)
def dq : Rows := nbv T.q T.dqn T.gq eighth
def dk (ck : Carry) : Rows := nbv T.k (T.dkn ck) T.gk one
def dgq : Lane := gsum T.q T.dqn eighth
def dgk (ck : Carry) : Lane := gsum T.k (T.dkn ck) one

end Tile

end Cert.Attn.Ker
-- ==== Proof.Bridge.lean ====
/- What each grid point leaves in the output windows and in the carries, in the vocabulary of one head and one tile. -/
module

public import proofs.«01_k».proof.Proof.Vocab
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Attn.Ker

open Idealize.ShloMosaic Cert.KernelIdeal Cert.KernelIdeal.Gen Idealize.ShloMosaic.TcCoe Idealize.SL.Sem

/-- The contents of a window of sixteen blocks of rows. -/
abbrev Win := Vec Ideal S2048x128 .f32
/-- The contents of the two carries, one block per head. -/
abbrev Carries := Vec Ideal S2x1x128x64 .f32

/-- The sixteen blocks of a window, stacked. -/
def stk (x : Win) : Sq := k0_pay7
  (View.ld x (Rect.unit ![0, 0] ![128, 128] inb_S2048x128_S128x128_0_0))
  (View.ld x (Rect.unit ![128, 0] ![128, 128] inb_S2048x128_S128x128_128_0))
  (View.ld x (Rect.unit ![256, 0] ![128, 128] inb_S2048x128_S128x128_256_0))
  (View.ld x (Rect.unit ![384, 0] ![128, 128] inb_S2048x128_S128x128_384_0))
  (View.ld x (Rect.unit ![512, 0] ![128, 128] inb_S2048x128_S128x128_512_0))
  (View.ld x (Rect.unit ![640, 0] ![128, 128] inb_S2048x128_S128x128_640_0))
  (View.ld x (Rect.unit ![768, 0] ![128, 128] inb_S2048x128_S128x128_768_0))
  (View.ld x (Rect.unit ![896, 0] ![128, 128] inb_S2048x128_S128x128_896_0))
  (View.ld x (Rect.unit ![1024, 0] ![128, 128] inb_S2048x128_S128x128_1024_0))
  (View.ld x (Rect.unit ![1152, 0] ![128, 128] inb_S2048x128_S128x128_1152_0))
  (View.ld x (Rect.unit ![1280, 0] ![128, 128] inb_S2048x128_S128x128_1280_0))
  (View.ld x (Rect.unit ![1408, 0] ![128, 128] inb_S2048x128_S128x128_1408_0))
  (View.ld x (Rect.unit ![1536, 0] ![128, 128] inb_S2048x128_S128x128_1536_0))
  (View.ld x (Rect.unit ![1664, 0] ![128, 128] inb_S2048x128_S128x128_1664_0))
  (View.ld x (Rect.unit ![1792, 0] ![128, 128] inb_S2048x128_S128x128_1792_0))
  (View.ld x (Rect.unit ![1920, 0] ![128, 128] inb_S2048x128_S128x128_1920_0))

/-- One head's lanes of a tile. -/
def half (off : Fin 3 → Nat) (h : S16x128x128.Slices off S16x128x64) (x : Sq) : Rows := extractStridedSlice S16x128x64 off x h
/-- One head's lanes of a single block. -/
def half1 (off : Fin 3 → Nat) (h : S1x128x128.Slices off S1x128x64) (x : Vec Ideal S128x128 .f32) : FVec Ideal S1x128x64 .f32 :=
  extractStridedSlice S1x128x64 off (shapeCast S1x128x128 (View.ld x (Rect.unit ![0, 0] ![128, 128] inb_S128x128_S128x128_0_0))
    shapeCasts_S128x128_S1x128x128) h
/-- One lane of a tile, a column. -/
def col (off : Fin 3 → Nat) (h : S16x128x128.Slices off S16x128x1) (x : Sq) : Col := extractStridedSlice S16x128x1 off x h
/-- A gain as loaded. -/
def gain (x : Vec Ideal S1x64 .f32) : Lane := View.ld x (Rect.unit ![0, 0] ![1, 64] inb_S1x64_S1x64_0_0)

/-- The contents of a grid point's eleven input windows. -/
structure Point where
  q : Win
  k : Win
  v : Win
  kb : Vec Ideal S128x128 .f32
  vb : Vec Ideal S128x128 .f32
  o : Win
  l : Win
  d : Win
  dl : Win
  gq : Vec Ideal S1x64 .f32
  gk : Vec Ideal S1x64 .f32

namespace Point

variable (i : grid0.Coords) (P : Point)

/-- The first head's tile. -/
def t0 : Tile where
  q := half ![0, 0, 0] slices_S16x128x128_o0_0_0_S16x128x64 (stk P.q)
  k := half ![0, 0, 0] slices_S16x128x128_o0_0_0_S16x128x64 (stk P.k)
  v := half ![0, 0, 0] slices_S16x128x128_o0_0_0_S16x128x64 (stk P.v)
  kp := before (half1 ![0, 0, 0] slices_S1x128x128_o0_0_0_S1x128x64 P.kb) (half ![0, 0, 0] slices_S16x128x128_o0_0_0_S16x128x64 (stk P.k))
  vp := before (half1 ![0, 0, 0] slices_S1x128x128_o0_0_0_S1x128x64 P.vb) (half ![0, 0, 0] slices_S16x128x128_o0_0_0_S16x128x64 (stk P.v))
  o := half ![0, 0, 0] slices_S16x128x128_o0_0_0_S16x128x64 (stk P.o)
  d := half ![0, 0, 0] slices_S16x128x128_o0_0_0_S16x128x64 (stk P.d)
  l := col ![0, 0, 0] slices_S16x128x128_o0_0_0_S16x128x1 (stk P.l)
  dl := col ![0, 0, 0] slices_S16x128x128_o0_0_0_S16x128x1 (stk P.dl)
  gq := gain P.gq
  gk := gain P.gk
  fs := k0_pay59 (BitVec.ofNat 32 (i 1).val)

/-- The second head's tile. -/
def t1 : Tile where
  q := half ![0, 0, 64] slices_S16x128x128_o0_0_64_S16x128x64 (stk P.q)
  k := half ![0, 0, 64] slices_S16x128x128_o0_0_64_S16x128x64 (stk P.k)
  v := half ![0, 0, 64] slices_S16x128x128_o0_0_64_S16x128x64 (stk P.v)
  kp := before (half1 ![0, 0, 64] slices_S1x128x128_o0_0_64_S1x128x64 P.kb) (half ![0, 0, 64] slices_S16x128x128_o0_0_64_S16x128x64 (stk P.k))
  vp := before (half1 ![0, 0, 64] slices_S1x128x128_o0_0_64_S1x128x64 P.vb) (half ![0, 0, 64] slices_S16x128x128_o0_0_64_S16x128x64 (stk P.v))
  o := half ![0, 0, 64] slices_S16x128x128_o0_0_64_S16x128x64 (stk P.o)
  d := half ![0, 0, 64] slices_S16x128x128_o0_0_64_S16x128x64 (stk P.d)
  l := col ![0, 0, 64] slices_S16x128x128_o0_0_64_S16x128x1 (stk P.l)
  dl := col ![0, 0, 64] slices_S16x128x128_o0_0_64_S16x128x1 (stk P.dl)
  gq := gain P.gq
  gk := gain P.gk
  fs := k0_pay59 (BitVec.ofNat 32 (i 1).val)

end Point

/-- A tile's sixteen blocks written into a window, the last block's store last. -/
def rows (x : Sq) : Win := View.canon (Val := Elt Ideal) (e := .f32) [
  ⟨Rect.unit ![1920, 0] ![128, 128] inb_S2048x128_S128x128_1920_0, blk ![15, 0, 0] slices_S16x128x128_o15_0_0_S1x128x128 x⟩,
  ⟨Rect.unit ![1792, 0] ![128, 128] inb_S2048x128_S128x128_1792_0, blk ![14, 0, 0] slices_S16x128x128_o14_0_0_S1x128x128 x⟩,
  ⟨Rect.unit ![1664, 0] ![128, 128] inb_S2048x128_S128x128_1664_0, blk ![13, 0, 0] slices_S16x128x128_o13_0_0_S1x128x128 x⟩,
  ⟨Rect.unit ![1536, 0] ![128, 128] inb_S2048x128_S128x128_1536_0, blk ![12, 0, 0] slices_S16x128x128_o12_0_0_S1x128x128 x⟩,
  ⟨Rect.unit ![1408, 0] ![128, 128] inb_S2048x128_S128x128_1408_0, blk ![11, 0, 0] slices_S16x128x128_o11_0_0_S1x128x128 x⟩,
  ⟨Rect.unit ![1280, 0] ![128, 128] inb_S2048x128_S128x128_1280_0, blk ![10, 0, 0] slices_S16x128x128_o10_0_0_S1x128x128 x⟩,
  ⟨Rect.unit ![1152, 0] ![128, 128] inb_S2048x128_S128x128_1152_0, blk ![9, 0, 0] slices_S16x128x128_o9_0_0_S1x128x128 x⟩,
  ⟨Rect.unit ![1024, 0] ![128, 128] inb_S2048x128_S128x128_1024_0, blk ![8, 0, 0] slices_S16x128x128_o8_0_0_S1x128x128 x⟩,
  ⟨Rect.unit ![896, 0] ![128, 128] inb_S2048x128_S128x128_896_0, blk ![7, 0, 0] slices_S16x128x128_o7_0_0_S1x128x128 x⟩,
  ⟨Rect.unit ![768, 0] ![128, 128] inb_S2048x128_S128x128_768_0, blk ![6, 0, 0] slices_S16x128x128_o6_0_0_S1x128x128 x⟩,
  ⟨Rect.unit ![640, 0] ![128, 128] inb_S2048x128_S128x128_640_0, blk ![5, 0, 0] slices_S16x128x128_o5_0_0_S1x128x128 x⟩,
  ⟨Rect.unit ![512, 0] ![128, 128] inb_S2048x128_S128x128_512_0, blk ![4, 0, 0] slices_S16x128x128_o4_0_0_S1x128x128 x⟩,
  ⟨Rect.unit ![384, 0] ![128, 128] inb_S2048x128_S128x128_384_0, blk ![3, 0, 0] slices_S16x128x128_o3_0_0_S1x128x128 x⟩,
  ⟨Rect.unit ![256, 0] ![128, 128] inb_S2048x128_S128x128_256_0, blk ![2, 0, 0] slices_S16x128x128_o2_0_0_S1x128x128 x⟩,
  ⟨Rect.unit ![128, 0] ![128, 128] inb_S2048x128_S128x128_128_0, blk ![1, 0, 0] slices_S16x128x128_o1_0_0_S1x128x128 x⟩,
  ⟨Rect.unit ![0, 0] ![128, 128] inb_S2048x128_S128x128_0_0, blk ![0, 0, 0] slices_S16x128x128_o0_0_0_S1x128x128 x⟩]

/-- The two heads' carries, one block each. -/
def carr (a b : Carry) : Carries := fun i => if (i 0).val = 0 then a (ix4 0 0 (i 2) (i 3)) else b (ix4 0 0 (i 2) (i 3))
/-- The carries before a sequence of tiles: nothing. -/
def cnone : Carries := k0_pay5 (F := Ideal)
/-- A gain's gradient before a sequence of tiles: nothing. -/
def gnone : Vec Ideal S1x64 .f32 := k0_pay3 (F := Ideal)
/-- One head's carry. -/
def car0 (x : Carries) : Carry := View.ld x (Rect.unit ![0, 0, 0, 0] ![1, 1, 128, 64] inb_S2x1x128x64_S1x1x128x64_0_0_0_0)
def car1 (x : Carries) : Carry := View.ld x (Rect.unit ![1, 0, 0, 0] ![1, 1, 128, 64] inb_S2x1x128x64_S1x1x128x64_1_0_0_0)
/-- A gain's gradient with a tile's part added. -/
def gadd (g : Vec Ideal S1x64 .f32) (x : Lane) : Vec Ideal S1x64 .f32 := addf (shapeCast S1x64 g shapeCasts_S1x64_S1x64) x

namespace Point

variable (i : grid0.Coords) (P : Point)

/-- A grid point's outputs: query, key and value gradients, and the two gains' gradients added to; and the carries. -/
def outQ : Win := rows (pair (P.t0 i).dq (P.t1 i).dq)
def outK (c : Carries) : Win := rows (pair ((P.t0 i).dk (car0 c)) ((P.t1 i).dk (car1 c)))
def outV (c : Carries) : Win := rows (pair ((P.t0 i).dv (car0 c)) ((P.t1 i).dv (car1 c)))
def outGq (g : Vec Ideal S1x64 .f32) : Vec Ideal S1x64 .f32 := gadd (gadd g (P.t0 i).dgq) (P.t1 i).dgq
def outGk (c : Carries) (g : Vec Ideal S1x64 .f32) : Vec Ideal S1x64 .f32 :=
  gadd (gadd g ((P.t0 i).dgk (car0 c))) ((P.t1 i).dgk (car1 c))
def carK : Carries := carr (first (P.t0 i).dkp) (first (P.t1 i).dkp)
def carV : Carries := carr (first (P.t0 i).dvp) (first (P.t1 i).dvp)

end Point

section Stacks

variable (x : Win)

theorem stk_k : k0_pay8
      (View.ld x (Rect.unit ![0, 0] ![128, 128] inb_S2048x128_S128x128_0_0))
      (View.ld x (Rect.unit ![128, 0] ![128, 128] inb_S2048x128_S128x128_128_0))
      (View.ld x (Rect.unit ![256, 0] ![128, 128] inb_S2048x128_S128x128_256_0))
      (View.ld x (Rect.unit ![384, 0] ![128, 128] inb_S2048x128_S128x128_384_0))
      (View.ld x (Rect.unit ![512, 0] ![128, 128] inb_S2048x128_S128x128_512_0))
      (View.ld x (Rect.unit ![640, 0] ![128, 128] inb_S2048x128_S128x128_640_0))
      (View.ld x (Rect.unit ![768, 0] ![128, 128] inb_S2048x128_S128x128_768_0))
      (View.ld x (Rect.unit ![896, 0] ![128, 128] inb_S2048x128_S128x128_896_0))
      (View.ld x (Rect.unit ![1024, 0] ![128, 128] inb_S2048x128_S128x128_1024_0))
      (View.ld x (Rect.unit ![1152, 0] ![128, 128] inb_S2048x128_S128x128_1152_0))
      (View.ld x (Rect.unit ![1280, 0] ![128, 128] inb_S2048x128_S128x128_1280_0))
      (View.ld x (Rect.unit ![1408, 0] ![128, 128] inb_S2048x128_S128x128_1408_0))
      (View.ld x (Rect.unit ![1536, 0] ![128, 128] inb_S2048x128_S128x128_1536_0))
      (View.ld x (Rect.unit ![1664, 0] ![128, 128] inb_S2048x128_S128x128_1664_0))
      (View.ld x (Rect.unit ![1792, 0] ![128, 128] inb_S2048x128_S128x128_1792_0))
      (View.ld x (Rect.unit ![1920, 0] ![128, 128] inb_S2048x128_S128x128_1920_0)) = stk x := rfl

theorem stk_v : k0_pay9
      (View.ld x (Rect.unit ![0, 0] ![128, 128] inb_S2048x128_S128x128_0_0))
      (View.ld x (Rect.unit ![128, 0] ![128, 128] inb_S2048x128_S128x128_128_0))
      (View.ld x (Rect.unit ![256, 0] ![128, 128] inb_S2048x128_S128x128_256_0))
      (View.ld x (Rect.unit ![384, 0] ![128, 128] inb_S2048x128_S128x128_384_0))
      (View.ld x (Rect.unit ![512, 0] ![128, 128] inb_S2048x128_S128x128_512_0))
      (View.ld x (Rect.unit ![640, 0] ![128, 128] inb_S2048x128_S128x128_640_0))
      (View.ld x (Rect.unit ![768, 0] ![128, 128] inb_S2048x128_S128x128_768_0))
      (View.ld x (Rect.unit ![896, 0] ![128, 128] inb_S2048x128_S128x128_896_0))
      (View.ld x (Rect.unit ![1024, 0] ![128, 128] inb_S2048x128_S128x128_1024_0))
      (View.ld x (Rect.unit ![1152, 0] ![128, 128] inb_S2048x128_S128x128_1152_0))
      (View.ld x (Rect.unit ![1280, 0] ![128, 128] inb_S2048x128_S128x128_1280_0))
      (View.ld x (Rect.unit ![1408, 0] ![128, 128] inb_S2048x128_S128x128_1408_0))
      (View.ld x (Rect.unit ![1536, 0] ![128, 128] inb_S2048x128_S128x128_1536_0))
      (View.ld x (Rect.unit ![1664, 0] ![128, 128] inb_S2048x128_S128x128_1664_0))
      (View.ld x (Rect.unit ![1792, 0] ![128, 128] inb_S2048x128_S128x128_1792_0))
      (View.ld x (Rect.unit ![1920, 0] ![128, 128] inb_S2048x128_S128x128_1920_0)) = stk x := rfl

theorem stk_q : k0_pay7
      (View.ld x (Rect.unit ![0, 0] ![128, 128] inb_S2048x128_S128x128_0_0))
      (View.ld x (Rect.unit ![128, 0] ![128, 128] inb_S2048x128_S128x128_128_0))
      (View.ld x (Rect.unit ![256, 0] ![128, 128] inb_S2048x128_S128x128_256_0))
      (View.ld x (Rect.unit ![384, 0] ![128, 128] inb_S2048x128_S128x128_384_0))
      (View.ld x (Rect.unit ![512, 0] ![128, 128] inb_S2048x128_S128x128_512_0))
      (View.ld x (Rect.unit ![640, 0] ![128, 128] inb_S2048x128_S128x128_640_0))
      (View.ld x (Rect.unit ![768, 0] ![128, 128] inb_S2048x128_S128x128_768_0))
      (View.ld x (Rect.unit ![896, 0] ![128, 128] inb_S2048x128_S128x128_896_0))
      (View.ld x (Rect.unit ![1024, 0] ![128, 128] inb_S2048x128_S128x128_1024_0))
      (View.ld x (Rect.unit ![1152, 0] ![128, 128] inb_S2048x128_S128x128_1152_0))
      (View.ld x (Rect.unit ![1280, 0] ![128, 128] inb_S2048x128_S128x128_1280_0))
      (View.ld x (Rect.unit ![1408, 0] ![128, 128] inb_S2048x128_S128x128_1408_0))
      (View.ld x (Rect.unit ![1536, 0] ![128, 128] inb_S2048x128_S128x128_1536_0))
      (View.ld x (Rect.unit ![1664, 0] ![128, 128] inb_S2048x128_S128x128_1664_0))
      (View.ld x (Rect.unit ![1792, 0] ![128, 128] inb_S2048x128_S128x128_1792_0))
      (View.ld x (Rect.unit ![1920, 0] ![128, 128] inb_S2048x128_S128x128_1920_0)) = stk x := rfl

theorem stk_d : k0_pay49
      (View.ld x (Rect.unit ![0, 0] ![128, 128] inb_S2048x128_S128x128_0_0))
      (View.ld x (Rect.unit ![128, 0] ![128, 128] inb_S2048x128_S128x128_128_0))
      (View.ld x (Rect.unit ![256, 0] ![128, 128] inb_S2048x128_S128x128_256_0))
      (View.ld x (Rect.unit ![384, 0] ![128, 128] inb_S2048x128_S128x128_384_0))
      (View.ld x (Rect.unit ![512, 0] ![128, 128] inb_S2048x128_S128x128_512_0))
      (View.ld x (Rect.unit ![640, 0] ![128, 128] inb_S2048x128_S128x128_640_0))
      (View.ld x (Rect.unit ![768, 0] ![128, 128] inb_S2048x128_S128x128_768_0))
      (View.ld x (Rect.unit ![896, 0] ![128, 128] inb_S2048x128_S128x128_896_0))
      (View.ld x (Rect.unit ![1024, 0] ![128, 128] inb_S2048x128_S128x128_1024_0))
      (View.ld x (Rect.unit ![1152, 0] ![128, 128] inb_S2048x128_S128x128_1152_0))
      (View.ld x (Rect.unit ![1280, 0] ![128, 128] inb_S2048x128_S128x128_1280_0))
      (View.ld x (Rect.unit ![1408, 0] ![128, 128] inb_S2048x128_S128x128_1408_0))
      (View.ld x (Rect.unit ![1536, 0] ![128, 128] inb_S2048x128_S128x128_1536_0))
      (View.ld x (Rect.unit ![1664, 0] ![128, 128] inb_S2048x128_S128x128_1664_0))
      (View.ld x (Rect.unit ![1792, 0] ![128, 128] inb_S2048x128_S128x128_1792_0))
      (View.ld x (Rect.unit ![1920, 0] ![128, 128] inb_S2048x128_S128x128_1920_0)) = stk x := rfl

theorem cast_stk_o (a0 a1 a2 a3 a4 a5 a6 a7 a8 a9 a10 a11 a12 a13 a14 a15 : Vec Ideal S128x128 .f32) :
    k0_pay33 (k0_pay17 (k0_pay12 a0)) (k0_pay18 (k0_pay13 a1)) (k0_pay19 (k0_pay14 a2)) (k0_pay20 (k0_pay15 a3)) (k0_pay21 (k0_pay16 a4)) (k0_pay22 a5) (k0_pay23 a6) (k0_pay24 a7) (k0_pay25 a8) (k0_pay26 a9) (k0_pay27 a10) (k0_pay28 a11) (k0_pay29 a12) (k0_pay30 a13) (k0_pay31 a14) (k0_pay32 a15) = k0_pay7 a0 a1 a2 a3 a4 a5 a6 a7 a8 a9 a10 a11 a12 a13 a14 a15 := by
  have h : k0_pay33 (k0_pay17 (k0_pay12 a0)) (k0_pay18 (k0_pay13 a1)) (k0_pay19 (k0_pay14 a2)) (k0_pay20 (k0_pay15 a3)) (k0_pay21 (k0_pay16 a4)) (k0_pay22 a5) (k0_pay23 a6) (k0_pay24 a7) (k0_pay25 a8) (k0_pay26 a9) (k0_pay27 a10) (k0_pay28 a11) (k0_pay29 a12) (k0_pay30 a13) (k0_pay31 a14) (k0_pay32 a15) = k0_pay7 (shapeCast S128x128 a0 shapeCasts_S128x128_S128x128) (shapeCast S128x128 a1 shapeCasts_S128x128_S128x128) (shapeCast S128x128 a2 shapeCasts_S128x128_S128x128) (shapeCast S128x128 a3 shapeCasts_S128x128_S128x128) (shapeCast S128x128 a4 shapeCasts_S128x128_S128x128) (shapeCast S128x128 a5 shapeCasts_S128x128_S128x128) (shapeCast S128x128 a6 shapeCasts_S128x128_S128x128) (shapeCast S128x128 a7 shapeCasts_S128x128_S128x128) (shapeCast S128x128 a8 shapeCasts_S128x128_S128x128) (shapeCast S128x128 a9 shapeCasts_S128x128_S128x128) (shapeCast S128x128 a10 shapeCasts_S128x128_S128x128) (shapeCast S128x128 a11 shapeCasts_S128x128_S128x128) (shapeCast S128x128 a12 shapeCasts_S128x128_S128x128) (shapeCast S128x128 a13 shapeCasts_S128x128_S128x128) (shapeCast S128x128 a14 shapeCasts_S128x128_S128x128) (shapeCast S128x128 a15 shapeCasts_S128x128_S128x128) := rfl
  rw [h]
  simp only [shapeCast_self]

theorem stk_o : k0_pay33
      (k0_pay17 (k0_pay12 (View.ld x (Rect.unit ![0, 0] ![128, 128] inb_S2048x128_S128x128_0_0))))
      (k0_pay18 (k0_pay13 (View.ld x (Rect.unit ![128, 0] ![128, 128] inb_S2048x128_S128x128_128_0))))
      (k0_pay19 (k0_pay14 (View.ld x (Rect.unit ![256, 0] ![128, 128] inb_S2048x128_S128x128_256_0))))
      (k0_pay20 (k0_pay15 (View.ld x (Rect.unit ![384, 0] ![128, 128] inb_S2048x128_S128x128_384_0))))
      (k0_pay21 (k0_pay16 (View.ld x (Rect.unit ![512, 0] ![128, 128] inb_S2048x128_S128x128_512_0))))
      (k0_pay22 (View.ld x (Rect.unit ![640, 0] ![128, 128] inb_S2048x128_S128x128_640_0)))
      (k0_pay23 (View.ld x (Rect.unit ![768, 0] ![128, 128] inb_S2048x128_S128x128_768_0)))
      (k0_pay24 (View.ld x (Rect.unit ![896, 0] ![128, 128] inb_S2048x128_S128x128_896_0)))
      (k0_pay25 (View.ld x (Rect.unit ![1024, 0] ![128, 128] inb_S2048x128_S128x128_1024_0)))
      (k0_pay26 (View.ld x (Rect.unit ![1152, 0] ![128, 128] inb_S2048x128_S128x128_1152_0)))
      (k0_pay27 (View.ld x (Rect.unit ![1280, 0] ![128, 128] inb_S2048x128_S128x128_1280_0)))
      (k0_pay28 (View.ld x (Rect.unit ![1408, 0] ![128, 128] inb_S2048x128_S128x128_1408_0)))
      (k0_pay29 (View.ld x (Rect.unit ![1536, 0] ![128, 128] inb_S2048x128_S128x128_1536_0)))
      (k0_pay30 (View.ld x (Rect.unit ![1664, 0] ![128, 128] inb_S2048x128_S128x128_1664_0)))
      (k0_pay31 (View.ld x (Rect.unit ![1792, 0] ![128, 128] inb_S2048x128_S128x128_1792_0)))
      (k0_pay32 (View.ld x (Rect.unit ![1920, 0] ![128, 128] inb_S2048x128_S128x128_1920_0))) = stk x :=
  cast_stk_o _ _ _ _ _ _ _ _ _ _ _ _ _ _ _ _

theorem cast_stk_l (a0 a1 a2 a3 a4 a5 a6 a7 a8 a9 a10 a11 a12 a13 a14 a15 : Vec Ideal S128x128 .f32) :
    k0_pay48 (k0_pay34 a0) (k0_pay35 a1) (k0_pay36 a2) (k0_pay37 a3) (k0_pay38 a4) (k0_pay39 a5) (k0_pay40 a6) (k0_pay41 a7) (k0_pay42 a8) (k0_pay43 a9) (k0_pay44 a10) (k0_pay45 a11) (k0_pay46 a12) (k0_pay47 a13) a14 a15 = k0_pay7 a0 a1 a2 a3 a4 a5 a6 a7 a8 a9 a10 a11 a12 a13 a14 a15 := by
  have h : k0_pay48 (k0_pay34 a0) (k0_pay35 a1) (k0_pay36 a2) (k0_pay37 a3) (k0_pay38 a4) (k0_pay39 a5) (k0_pay40 a6) (k0_pay41 a7) (k0_pay42 a8) (k0_pay43 a9) (k0_pay44 a10) (k0_pay45 a11) (k0_pay46 a12) (k0_pay47 a13) a14 a15 = k0_pay7 (shapeCast S128x128 a0 shapeCasts_S128x128_S128x128) (shapeCast S128x128 a1 shapeCasts_S128x128_S128x128) (shapeCast S128x128 a2 shapeCasts_S128x128_S128x128) (shapeCast S128x128 a3 shapeCasts_S128x128_S128x128) (shapeCast S128x128 a4 shapeCasts_S128x128_S128x128) (shapeCast S128x128 a5 shapeCasts_S128x128_S128x128) (shapeCast S128x128 a6 shapeCasts_S128x128_S128x128) (shapeCast S128x128 a7 shapeCasts_S128x128_S128x128) (shapeCast S128x128 a8 shapeCasts_S128x128_S128x128) (shapeCast S128x128 a9 shapeCasts_S128x128_S128x128) (shapeCast S128x128 a10 shapeCasts_S128x128_S128x128) (shapeCast S128x128 a11 shapeCasts_S128x128_S128x128) (shapeCast S128x128 a12 shapeCasts_S128x128_S128x128) (shapeCast S128x128 a13 shapeCasts_S128x128_S128x128) (shapeCast S128x128 a14 shapeCasts_S128x128_S128x128) (shapeCast S128x128 a15 shapeCasts_S128x128_S128x128) := rfl
  rw [h]
  simp only [shapeCast_self]

theorem stk_l : k0_pay48
      (k0_pay34 (View.ld x (Rect.unit ![0, 0] ![128, 128] inb_S2048x128_S128x128_0_0)))
      (k0_pay35 (View.ld x (Rect.unit ![128, 0] ![128, 128] inb_S2048x128_S128x128_128_0)))
      (k0_pay36 (View.ld x (Rect.unit ![256, 0] ![128, 128] inb_S2048x128_S128x128_256_0)))
      (k0_pay37 (View.ld x (Rect.unit ![384, 0] ![128, 128] inb_S2048x128_S128x128_384_0)))
      (k0_pay38 (View.ld x (Rect.unit ![512, 0] ![128, 128] inb_S2048x128_S128x128_512_0)))
      (k0_pay39 (View.ld x (Rect.unit ![640, 0] ![128, 128] inb_S2048x128_S128x128_640_0)))
      (k0_pay40 (View.ld x (Rect.unit ![768, 0] ![128, 128] inb_S2048x128_S128x128_768_0)))
      (k0_pay41 (View.ld x (Rect.unit ![896, 0] ![128, 128] inb_S2048x128_S128x128_896_0)))
      (k0_pay42 (View.ld x (Rect.unit ![1024, 0] ![128, 128] inb_S2048x128_S128x128_1024_0)))
      (k0_pay43 (View.ld x (Rect.unit ![1152, 0] ![128, 128] inb_S2048x128_S128x128_1152_0)))
      (k0_pay44 (View.ld x (Rect.unit ![1280, 0] ![128, 128] inb_S2048x128_S128x128_1280_0)))
      (k0_pay45 (View.ld x (Rect.unit ![1408, 0] ![128, 128] inb_S2048x128_S128x128_1408_0)))
      (k0_pay46 (View.ld x (Rect.unit ![1536, 0] ![128, 128] inb_S2048x128_S128x128_1536_0)))
      (k0_pay47 (View.ld x (Rect.unit ![1664, 0] ![128, 128] inb_S2048x128_S128x128_1664_0)))
      (View.ld x (Rect.unit ![1792, 0] ![128, 128] inb_S2048x128_S128x128_1792_0))
      (View.ld x (Rect.unit ![1920, 0] ![128, 128] inb_S2048x128_S128x128_1920_0)) = stk x :=
  cast_stk_l _ _ _ _ _ _ _ _ _ _ _ _ _ _ _ _

theorem cast_stk_dl (a0 a1 a2 a3 a4 a5 a6 a7 a8 a9 a10 a11 a12 a13 a14 a15 : Vec Ideal S128x128 .f32) :
    k0_pay58 (k0_pay50 a0) (k0_pay51 a1) (k0_pay52 a2) (k0_pay53 a3) (k0_pay54 a4) (k0_pay55 a5) (k0_pay56 a6) (k0_pay57 a7) a8 a9 a10 a11 a12 a13 a14 a15 = k0_pay7 a0 a1 a2 a3 a4 a5 a6 a7 a8 a9 a10 a11 a12 a13 a14 a15 := by
  have h : k0_pay58 (k0_pay50 a0) (k0_pay51 a1) (k0_pay52 a2) (k0_pay53 a3) (k0_pay54 a4) (k0_pay55 a5) (k0_pay56 a6) (k0_pay57 a7) a8 a9 a10 a11 a12 a13 a14 a15 = k0_pay7 (shapeCast S128x128 a0 shapeCasts_S128x128_S128x128) (shapeCast S128x128 a1 shapeCasts_S128x128_S128x128) (shapeCast S128x128 a2 shapeCasts_S128x128_S128x128) (shapeCast S128x128 a3 shapeCasts_S128x128_S128x128) (shapeCast S128x128 a4 shapeCasts_S128x128_S128x128) (shapeCast S128x128 a5 shapeCasts_S128x128_S128x128) (shapeCast S128x128 a6 shapeCasts_S128x128_S128x128) (shapeCast S128x128 a7 shapeCasts_S128x128_S128x128) (shapeCast S128x128 a8 shapeCasts_S128x128_S128x128) (shapeCast S128x128 a9 shapeCasts_S128x128_S128x128) (shapeCast S128x128 a10 shapeCasts_S128x128_S128x128) (shapeCast S128x128 a11 shapeCasts_S128x128_S128x128) (shapeCast S128x128 a12 shapeCasts_S128x128_S128x128) (shapeCast S128x128 a13 shapeCasts_S128x128_S128x128) (shapeCast S128x128 a14 shapeCasts_S128x128_S128x128) (shapeCast S128x128 a15 shapeCasts_S128x128_S128x128) := rfl
  rw [h]
  simp only [shapeCast_self]

theorem stk_dl : k0_pay58
      (k0_pay50 (View.ld x (Rect.unit ![0, 0] ![128, 128] inb_S2048x128_S128x128_0_0)))
      (k0_pay51 (View.ld x (Rect.unit ![128, 0] ![128, 128] inb_S2048x128_S128x128_128_0)))
      (k0_pay52 (View.ld x (Rect.unit ![256, 0] ![128, 128] inb_S2048x128_S128x128_256_0)))
      (k0_pay53 (View.ld x (Rect.unit ![384, 0] ![128, 128] inb_S2048x128_S128x128_384_0)))
      (k0_pay54 (View.ld x (Rect.unit ![512, 0] ![128, 128] inb_S2048x128_S128x128_512_0)))
      (k0_pay55 (View.ld x (Rect.unit ![640, 0] ![128, 128] inb_S2048x128_S128x128_640_0)))
      (k0_pay56 (View.ld x (Rect.unit ![768, 0] ![128, 128] inb_S2048x128_S128x128_768_0)))
      (k0_pay57 (View.ld x (Rect.unit ![896, 0] ![128, 128] inb_S2048x128_S128x128_896_0)))
      (View.ld x (Rect.unit ![1024, 0] ![128, 128] inb_S2048x128_S128x128_1024_0))
      (View.ld x (Rect.unit ![1152, 0] ![128, 128] inb_S2048x128_S128x128_1152_0))
      (View.ld x (Rect.unit ![1280, 0] ![128, 128] inb_S2048x128_S128x128_1280_0))
      (View.ld x (Rect.unit ![1408, 0] ![128, 128] inb_S2048x128_S128x128_1408_0))
      (View.ld x (Rect.unit ![1536, 0] ![128, 128] inb_S2048x128_S128x128_1536_0))
      (View.ld x (Rect.unit ![1664, 0] ![128, 128] inb_S2048x128_S128x128_1664_0))
      (View.ld x (Rect.unit ![1792, 0] ![128, 128] inb_S2048x128_S128x128_1792_0))
      (View.ld x (Rect.unit ![1920, 0] ![128, 128] inb_S2048x128_S128x128_1920_0)) = stk x :=
  cast_stk_dl _ _ _ _ _ _ _ _ _ _ _ _ _ _ _ _

end Stacks

/-- A gain loaded whole. -/
theorem gld (x : Vec Ideal S1x64 .f32) : View.ld x (Rect.unit ![0, 0] ![1, 64] inb_S1x64_S1x64_0_0) = x :=
  View.ld_unit_lit' (S := S1x64) inb_S1x64_S1x64_0_0 x (by decide)

section Readback

variable (v : View sig .tc .vmem S2x1x128x64 .f32) (x : Carry)

/-- The store that clears both carries holds every entry of them. -/
theorem mem_both (y : S2x1x128x64.Idx) :
    y ∈ (Rect.unit (s := S2x1x128x64) ![0, 0, 0, 0] ![2, 1, 128, 64] inb_S2x1x128x64_S2x1x128x64_0_0_0_0).set := by
  have h0 : ∀ a : Fin 4, (![0, 0, 0, 0] : Fin 4 → Nat) a = 0 := by decide
  refine (Rect.mem_set_unit (inb := inb_S2x1x128x64_S2x1x128x64_0_0_0_0)).mpr fun (a : Fin 4) => ?_
  rw [h0 a]
  exact ⟨Nat.zero_le _, lt_of_lt_of_eq (y a).isLt (Nat.zero_add _).symm⟩

/-- What the clearing store alone leaves. -/
theorem canon_both (z : Carries) : View.canon (Val := Elt Ideal) (e := .f32)
    [⟨Rect.unit ![0, 0, 0, 0] ![2, 1, 128, 64] inb_S2x1x128x64_S2x1x128x64_0_0_0_0, z⟩] = z :=
  View.canon_cons_unit_lit' (S := S2x1x128x64) inb_S2x1x128x64_S2x1x128x64_0_0_0_0 z [] (by decide)

/-- A list of stores of which one clears both carries holds every entry. -/
theorem cover_both (z : Carries) (L : List (View.Piece (Elt Ideal) S2x1x128x64 .f32))
    (hL : (⟨Rect.unit ![0, 0, 0, 0] ![2, 1, 128, 64] inb_S2x1x128x64_S2x1x128x64_0_0_0_0, z⟩ :
      View.Piece (Elt Ideal) S2x1x128x64 .f32) ∈ L) (y : S2x1x128x64.Idx) : ∃ p ∈ L, y ∈ p.1.set := by
  refine ⟨_, hL, ?_⟩
  exact mem_both y

/-- After the clearing store the first head's carry reads cleared. -/
theorem rb0 (z : Carries) : v.readCov (Val := Elt Ideal)
    [⟨Rect.unit ![0, 0, 0, 0] ![2, 1, 128, 64] inb_S2x1x128x64_S2x1x128x64_0_0_0_0, z⟩]
    (Rect.unit ![0, 0, 0, 0] ![1, 1, 128, 64] inb_S2x1x128x64_S1x1x128x64_0_0_0_0).toLoadRect = car0 z := by
  rw [View.readCov_eq_canon_ld _ _ _ (cover_both z _ List.mem_cons_self), canon_both]
  rfl

/-- A row of the second head's carry is not the first head's. -/
theorem not_mem0 (y : S2x1x128x64.Idx) (h : (y 0).val ≠ 0) :
    y ∉ (Rect.unit (s := S2x1x128x64) ![0, 0, 0, 0] ![1, 1, 128, 64] inb_S2x1x128x64_S1x1x128x64_0_0_0_0).set := by
  intro hm
  have : (y 0).val < 0 + 1 := ((Rect.mem_set_unit (inb := inb_S2x1x128x64_S1x1x128x64_0_0_0_0)).mp hm 0).2
  omega

/-- A row of the first head's carry is not the second head's. -/
theorem not_mem1 (y : S2x1x128x64.Idx) (h : (y 0).val = 0) :
    y ∉ (Rect.unit (s := S2x1x128x64) ![1, 0, 0, 0] ![1, 1, 128, 64] inb_S2x1x128x64_S1x1x128x64_1_0_0_0).set := by
  intro hm
  have : 1 ≤ (y 0).val := ((Rect.mem_set_unit (inb := inb_S2x1x128x64_S1x1x128x64_1_0_0_0)).mp hm 0).1
  omega

/-- The first head's store leaves the second head's carry cleared. -/
theorem rb1 (z : Carries) : v.readCov (Val := Elt Ideal)
    [⟨Rect.unit ![0, 0, 0, 0] ![1, 1, 128, 64] inb_S2x1x128x64_S1x1x128x64_0_0_0_0, x⟩,
      ⟨Rect.unit ![0, 0, 0, 0] ![2, 1, 128, 64] inb_S2x1x128x64_S2x1x128x64_0_0_0_0, z⟩]
    (Rect.unit ![1, 0, 0, 0] ![1, 1, 128, 64] inb_S2x1x128x64_S1x1x128x64_1_0_0_0).toLoadRect = car1 z := by
  rw [View.readCov_eq_canon_ld _ _ _ (cover_both z _ (List.mem_cons_of_mem _ List.mem_cons_self))]
  funext y
  rw [View.ld_apply, View.canon_cons_of_not_mem, canon_both]
  · rfl
  · refine not_mem0 _ ?_
    rw [Rect.idx_unit_val]
    show 1 + _ ≠ 0
    omega

/-- An entry of the first head's carry, placed. -/
theorem emb0 (h : Fin 2) (s : Fin 1) (r : Fin 128) (e : Fin 64) (hh : h.val = 0) : ix4 h s r e = (Rect.unit (s := S2x1x128x64)
    ![0, 0, 0, 0] ![1, 1, 128, 64] inb_S2x1x128x64_S1x1x128x64_0_0_0_0).emb (ix4 0 0 r e) := by
  funext d
  refine Fin.ext ?_
  match d with
  | ⟨0, _⟩ => exact hh
  | ⟨1, _⟩ => exact (Nat.lt_one_iff.mp s.isLt)
  | ⟨2, _⟩ => show r.val = 0 + 1 * r.val; omega
  | ⟨3, _⟩ => show e.val = 0 + 1 * e.val; omega

/-- An entry of the second head's carry, placed. -/
theorem emb1 (h : Fin 2) (s : Fin 1) (r : Fin 128) (e : Fin 64) (hh : ¬h.val = 0) : ix4 h s r e = (Rect.unit (s := S2x1x128x64)
    ![1, 0, 0, 0] ![1, 1, 128, 64] inb_S2x1x128x64_S1x1x128x64_1_0_0_0).emb (ix4 0 0 r e) := by
  funext d
  refine Fin.ext ?_
  match d with
  | ⟨0, _⟩ => show h.val = 1 + 1 * 0; omega
  | ⟨1, _⟩ => exact (Nat.lt_one_iff.mp s.isLt)
  | ⟨2, _⟩ => show r.val = 0 + 1 * r.val; omega
  | ⟨3, _⟩ => show e.val = 0 + 1 * e.val; omega

/-- The two heads' stores are the carries, whatever was there before. -/
theorem canon_carr (a b : Carry) (L : List (View.Piece (Elt Ideal) S2x1x128x64 .f32)) :
    View.canon (⟨Rect.unit ![1, 0, 0, 0] ![1, 1, 128, 64] inb_S2x1x128x64_S1x1x128x64_1_0_0_0, b⟩ ::
      ⟨Rect.unit ![0, 0, 0, 0] ![1, 1, 128, 64] inb_S2x1x128x64_S1x1x128x64_0_0_0_0, a⟩ :: L) = carr a b := by
  funext y
  obtain ⟨h, s, r, e, rfl⟩ : ∃ h s r e, y = ix4 h s r e := ⟨y 0, y 1, y 2, y 3, funext fun d => by
    match d with
    | ⟨0, _⟩ => rfl
    | ⟨1, _⟩ => rfl
    | ⟨2, _⟩ => rfl
    | ⟨3, _⟩ => rfl⟩
  by_cases hh : h.val = 0
  · have hn : ix4 h s r e ∉ (⟨Rect.unit ![1, 0, 0, 0] ![1, 1, 128, 64] inb_S2x1x128x64_S1x1x128x64_1_0_0_0, b⟩ :
        View.Piece (Elt Ideal) S2x1x128x64 .f32).1.set := not_mem1 (ix4 h s r e) hh
    rw [View.canon_cons_of_not_mem _ _ hn]
    have hp := View.canon_cons_emb (Val := Elt Ideal) (e := .f32) (Rect.unit (s := S2x1x128x64) ![0, 0, 0, 0] ![1, 1, 128, 64]
      inb_S2x1x128x64_S1x1x128x64_0_0_0_0) a L (ix4 (n0 := 1) (n1 := 1) (n2 := 128) (n3 := 64) 0 0 r e)
    rw [← emb0 h s r e hh] at hp
    exact hp.trans (if_pos hh).symm
  · have hp := View.canon_cons_emb (Val := Elt Ideal) (e := .f32) (Rect.unit (s := S2x1x128x64) ![1, 0, 0, 0] ![1, 1, 128, 64]
      inb_S2x1x128x64_S1x1x128x64_1_0_0_0) b (⟨Rect.unit ![0, 0, 0, 0] ![1, 1, 128, 64]
        inb_S2x1x128x64_S1x1x128x64_0_0_0_0, a⟩ :: L) (ix4 (n0 := 1) (n1 := 1) (n2 := 128) (n3 := 64) 0 0 r e)
    rw [← emb1 h s r e hh] at hp
    exact hp.trans (if_neg hh).symm

end Readback

end Cert.Attn.Ker
-- ==== Proof.Spec.lean ====
/- The backward pass of windowed attention in plain real arithmetic: what both programs compute once every argument
   is a real number. Rows are indexed by token, head and lane; nothing here speaks of either program. -/
module

public import Idealize.ShloMosaic.PureOps.Ideal

@[expose] public section

noncomputable section

namespace Cert.Attn

/-- The constant the root mean square is kept away from zero with. -/
def eps : ℝ := 8796093 * (2 : ℝ) ^ (-43 : ℤ)

theorem eps_pos : 0 < eps := by unfold eps; positivity

/-- The mean square of a row of 64 lanes, plus the constant. -/
def ms (x : Fin 64 → ℝ) : ℝ := (∑ e, x e * x e) / 64 + eps

theorem ms_pos (x : Fin 64 → ℝ) : 0 < ms x :=
  add_pos_of_nonneg_of_pos (div_nonneg (Finset.sum_nonneg fun e _ => mul_self_nonneg (x e)) (by norm_num)) eps_pos

/-- The reciprocal root mean square. -/
def rs (x : Fin 64 → ℝ) : ℝ := (Real.sqrt (ms x))⁻¹

theorem rs_pos (x : Fin 64 → ℝ) : 0 < rs x := inv_pos.mpr (Real.sqrt_pos.mpr (ms_pos x))

theorem rs_mul_rs (x : Fin 64 → ℝ) : rs x * rs x = (ms x)⁻¹ := by
  unfold rs
  rw [← mul_inv, Real.mul_self_sqrt (ms_pos x).le]

/-- The gradient of a row `x` whose normalised, scaled row has gradient `y`. -/
def nb (x y g : Fin 64 → ℝ) (e : Fin 64) : ℝ :=
  rs x * (y e * g e - x e * rs x * ((∑ e', y e' * g e' * (x e' * rs x)) / 64))

/-- The same gradient as the chain rule writes it through the reciprocal root's derivative. -/
theorem nb_eq (x y g : Fin 64 → ℝ) (e : Fin 64) :
    y e * g e * rs x + x e * ((∑ e', x e' * (y e' * g e')) * (-(1 / 2) * (rs x / ms x)) / 64)
      + (∑ e', x e' * (y e' * g e')) * (-(1 / 2) * (rs x / ms x)) / 64 * x e = nb x y g e := by
  have h : (∑ e', y e' * g e' * (x e' * rs x)) = (∑ e', x e' * (y e' * g e')) * rs x := by
    rw [Finset.sum_mul]
    exact Finset.sum_congr rfl fun e' _ => by ring
  unfold nb
  rw [h, div_eq_mul_inv (rs x), ← rs_mul_rs]
  ring

/-- The arguments: queries, keys and values before normalisation, the gradients of the head outputs and of the
    logarithms of the denominators, and the two gains. -/
structure Inp where
  q : Fin 4096 → Fin 4 → Fin 64 → ℝ
  k : Fin 4096 → Fin 4 → Fin 64 → ℝ
  v : Fin 4096 → Fin 4 → Fin 64 → ℝ
  dO : Fin 4096 → Fin 4 → Fin 64 → ℝ
  dl : Fin 4096 → Fin 4 → ℝ
  gq : Fin 64 → ℝ
  gk : Fin 64 → ℝ

/-- Query `t` sees key `j`: the 128 keys before it and itself. -/
def win (t j : Fin 4096) : Prop := j.val ≤ t.val ∧ t.val ≤ j.val + 128

instance (t j : Fin 4096) : Decidable (win t j) := by unfold win; infer_instance

namespace Inp

variable (I : Inp)

/-- The normalised, scaled query. -/
def qn (t : Fin 4096) (h : Fin 4) (e : Fin 64) : ℝ := I.q t h e * rs (I.q t h) * I.gq e * (1 / 8)
/-- The normalised key. -/
def kn (t : Fin 4096) (h : Fin 4) (e : Fin 64) : ℝ := I.k t h e * rs (I.k t h) * I.gk e
/-- The score of key `j` for query `t`. -/
def sc (h : Fin 4) (t j : Fin 4096) : ℝ := ∑ e, I.qn t h e * I.kn j h e

/-- The score where the key is seen, minus infinity elsewhere. -/
def msc (h : Fin 4) (t j : Fin 4096) : EReal := if win t j then (I.sc h t j : EReal) else ⊥

/-- The greatest score of a query, as an extended real. -/
def top (h : Fin 4) (t : Fin 4096) : EReal := Finset.univ.sup fun j => I.msc h t j

theorem exists_top (h : Fin 4) (t : Fin 4096) : ∃ j, win t j ∧ I.top h t = (I.sc h t j : EReal) := by
  obtain ⟨j, -, hj⟩ := Finset.exists_mem_eq_sup (Finset.univ : Finset (Fin 4096)) ⟨t, Finset.mem_univ t⟩ fun j => I.msc h t j
  have htop : I.top h t = I.msc h t j := hj
  by_cases hw : win t j
  · exact ⟨j, hw, by rw [htop, msc, if_pos hw]⟩
  · exfalso
    have hle : I.msc h t t ≤ I.top h t := Finset.le_sup (f := fun j => I.msc h t j) (Finset.mem_univ t)
    rw [htop, msc, msc, if_neg hw, if_pos (by unfold win; omega), le_bot_iff] at hle
    exact EReal.coe_ne_bot _ hle

/-- The greatest score of a query. -/
def mx (h : Fin 4) (t : Fin 4096) : ℝ := (I.top h t).toReal

theorem coe_mx (h : Fin 4) (t : Fin 4096) : (I.mx h t : EReal) = I.top h t := by
  obtain ⟨j, -, hj⟩ := I.exists_top h t
  rw [mx, hj, EReal.toReal_coe]

/-- The exponential of a seen score over the greatest; zero for a key not seen. -/
def pe (h : Fin 4) (t j : Fin 4096) : ℝ := if win t j then Real.exp (I.sc h t j - I.mx h t) else 0
/-- The denominator of a query. -/
def den (h : Fin 4) (t : Fin 4096) : ℝ := ∑ j, I.pe h t j

theorem pe_nonneg (h : Fin 4) (t j : Fin 4096) : 0 ≤ I.pe h t j := by
  unfold pe; split_ifs
  · exact (Real.exp_pos _).le
  · exact le_rfl

theorem den_pos (h : Fin 4) (t : Fin 4096) : 0 < I.den h t := by
  refine Finset.sum_pos' (fun j _ => I.pe_nonneg h t j) ⟨t, Finset.mem_univ t, ?_⟩
  rw [pe, if_pos (by unfold win; omega)]
  exact Real.exp_pos _

/-- The weight of key `j` for query `t`. -/
def p (h : Fin 4) (t j : Fin 4096) : ℝ := I.pe h t j / I.den h t
/-- The logarithm of the denominator, the greatest score put back. -/
def lse (h : Fin 4) (t : Fin 4096) : ℝ := I.mx h t + Real.log (I.den h t)
/-- The output of a head. -/
def o (h : Fin 4) (t : Fin 4096) (e : Fin 64) : ℝ := ∑ j, I.p h t j * I.v j h e

theorem p_of_not (h : Fin 4) (t j : Fin 4096) (hw : ¬ win t j) : I.p h t j = 0 := by
  rw [p, pe, if_neg hw, zero_div]

/-- A seen key's weight recovered from its score and the logarithm of the denominator. -/
theorem exp_sc_sub_lse (h : Fin 4) (t j : Fin 4096) (hw : win t j) :
    Real.exp (I.sc h t j - I.lse h t) = I.p h t j := by
  rw [p, pe, if_pos hw, lse, ← sub_sub, Real.exp_sub, Real.exp_log (I.den_pos h t)]

theorem sum_p (h : Fin 4) (t : Fin 4096) : ∑ j, I.p h t j = 1 := by
  unfold p
  rw [← Finset.sum_div]
  exact div_self (I.den_pos h t).ne'

/-- The gradient of a weight. -/
def dp (h : Fin 4) (t j : Fin 4096) : ℝ := ∑ e, I.dO t h e * I.v j h e

/-- The output's gradient against the output: the mean of the weights' gradients. -/
def dm (h : Fin 4) (t : Fin 4096) : ℝ := ∑ e, I.dO t h e * I.o h t e

theorem dm_eq (h : Fin 4) (t : Fin 4096) : I.dm h t = ∑ j, I.p h t j * I.dp h t j := by
  unfold dm o dp
  simp only [Finset.mul_sum]
  rw [Finset.sum_comm]
  exact Finset.sum_congr rfl fun j _ => Finset.sum_congr rfl fun e _ => by ring

/-- The gradient of a score. -/
def ds (h : Fin 4) (t j : Fin 4096) : ℝ := I.p h t j * (I.dp h t j - (I.dm h t - I.dl t h))

theorem ds_of_not (h : Fin 4) (t j : Fin 4096) (hw : ¬ win t j) : I.ds h t j = 0 := by
  rw [ds, I.p_of_not h t j hw, zero_mul]

theorem sum_ds (h : Fin 4) (t : Fin 4096) : ∑ j, I.ds h t j = I.dl t h := by
  have : ∀ j, I.ds h t j = I.p h t j * I.dp h t j - I.p h t j * (I.dm h t - I.dl t h) := fun j => by
    rw [ds]; ring
  simp only [this, Finset.sum_sub_distrib, ← Finset.sum_mul, I.sum_p, ← I.dm_eq]
  ring

/-- The gradient of the normalised, scaled query. -/
def dqn (t : Fin 4096) (h : Fin 4) (e : Fin 64) : ℝ := ∑ j, I.ds h t j * I.kn j h e
/-- The gradient of the normalised key. -/
def dkn (j : Fin 4096) (h : Fin 4) (e : Fin 64) : ℝ := ∑ t, I.ds h t j * I.qn t h e
/-- The gradient of the value. -/
def dv (j : Fin 4096) (h : Fin 4) (e : Fin 64) : ℝ := ∑ t, I.p h t j * I.dO t h e
/-- The gradient of the query. -/
def dq (t : Fin 4096) (h : Fin 4) (e : Fin 64) : ℝ := nb (I.q t h) (fun e => I.dqn t h e * (1 / 8)) I.gq e
/-- The gradient of the key. -/
def dk (t : Fin 4096) (h : Fin 4) (e : Fin 64) : ℝ := nb (I.k t h) (I.dkn t h) I.gk e
/-- One row's part of the query gain's gradient. -/
def pgq (t : Fin 4096) (h : Fin 4) (e : Fin 64) : ℝ := I.q t h e * rs (I.q t h) * (I.dqn t h e * (1 / 8))
/-- One row's part of the key gain's gradient. -/
def pgk (t : Fin 4096) (h : Fin 4) (e : Fin 64) : ℝ := I.k t h e * rs (I.k t h) * I.dkn t h e
/-- The query gain's gradient. -/
def dgq (e : Fin 64) : ℝ := ∑ t, ∑ h, I.pgq t h e
/-- The key gain's gradient. -/
def dgk (e : Fin 64) : ℝ := ∑ t, ∑ h, I.pgk t h e

end Inp

end Cert.Attn
-- ==== Proof.Coe.lean ====
/- Real numbers as extended reals: the operations of the exact semantics on them, and the programs' literals. -/
module

public import proofs.«01_k».proof.Proof.Spec

@[expose] public section

noncomputable section

namespace Cert.Attn

open Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals is a real. -/
theorem sum_mul_coe {ι : Type*} [Fintype ι] (f g : ι → EReal) (a b : ι → ℝ) (hf : ∀ i, f i = (a i : EReal))
    (hg : ∀ i, g i = (b i : EReal)) : ∑ i, f i * g i = ((∑ i, a i * b i : ℝ) : EReal) := by
  rw [coe_sum]
  exact Finset.sum_congr rfl fun i _ => by rw [hf, hg, EReal.coe_mul]

/-- A sum of reals is a real. -/
theorem sum_coe {ι : Type*} [Fintype ι] (f : ι → EReal) (a : ι → ℝ) (hf : ∀ i, f i = (a i : EReal)) :
    ∑ i, f i = ((∑ i, a i : ℝ) : EReal) := by
  rw [coe_sum]
  exact Finset.sum_congr rfl fun i _ => hf i

theorem div_coe_coe (x y : ℝ) (hy : y ≠ 0) : Ideal.div (x : EReal) (y : EReal) = ((x / y : ℝ) : EReal) := by
  rw [Ideal.div_coe hy, ← EReal.coe_mul, mul_one_div]

theorem rsqrt_ms (x : Fin 64 → ℝ) : Ideal.rsqrt (ms x : EReal) = (rs x : EReal) := by
  rw [Ideal.rsqrt_coe, if_neg (ms_pos x).le.not_gt, if_neg (ms_pos x).ne', rs]

theorem log_coe_pos (x : ℝ) (hx : 0 < x) : Ideal.log (x : EReal) = (Real.log x : EReal) := by
  rw [Ideal.log_coe, if_neg hx.not_ge]

theorem lit_zero : Ideal.ofBits .f32 0x00000000#32 = (0 : EReal) := by
  simp [Ideal.ofBits, Ideal.ieee]

theorem lit_one : Ideal.ofBits .f32 0x3F800000#32 = ((1 : ℝ) : EReal) := by
  simp [Ideal.ofBits, Ideal.ieee, -EReal.coe_mul]; norm_num

theorem lit_64 : Ideal.ofBits .f32 0x42800000#32 = ((64 : ℝ) : EReal) := by
  simp [Ideal.ofBits, Ideal.ieee, -EReal.coe_mul]; norm_num

theorem lit_eighth : Ideal.ofBits .f32 0x3E000000#32 = ((1 / 8 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

theorem lit_eps : Ideal.ofBits .f32 0x358637BD#32 = (eps : EReal) := by
  simp [Ideal.ofBits, Ideal.ieee, -EReal.coe_mul, eps]

theorem lit_bot : Ideal.ofBits .f32 0xFF800000#32 = (⊥ : EReal) := by
  simp [Ideal.ofBits, Ideal.ieee]

end Cert.Attn
-- ==== Proof.Args.lean ====
/- The program's five arguments as the real arguments of the specification. -/
module

public import proofs.«01_k».proof.Proof.Coe
public import Idealize.ShloMosaic.Lib.ValueIdx

@[expose] public section

noncomputable section

namespace Cert.Attn

open Idealize.ShloMosaic Idealize.ShloMosaic.ValueIdx

/-- The contents of a rank-two array of extended reals. -/
abbrev Arr (n m : Nat) := (⟨2, ![n, m]⟩ : Shape).Idx → EReal

/-- The five arrays hold the real arguments: the heads' rows side by side, keys 768 and values 1536 columns after the
    queries. -/
structure Reads (I : Inp) (x0 : Arr 4096 2304) (x1 : Arr 4096 256) (x2 : Arr 4096 4) (x3 x4 : Arr 1 64) : Prop where
  q : ∀ j (t : Fin 4096) (h : Fin 4) (e : Fin 64), (j 0).val = t.val → (j 1).val = h.val * 64 + e.val →
    x0 j = (I.q t h e : EReal)
  k : ∀ j (t : Fin 4096) (h : Fin 4) (e : Fin 64), (j 0).val = t.val → (j 1).val = 768 + h.val * 64 + e.val →
    x0 j = (I.k t h e : EReal)
  v : ∀ j (t : Fin 4096) (h : Fin 4) (e : Fin 64), (j 0).val = t.val → (j 1).val = 1536 + h.val * 64 + e.val →
    x0 j = (I.v t h e : EReal)
  dO : ∀ j (t : Fin 4096) (h : Fin 4) (e : Fin 64), (j 0).val = t.val → (j 1).val = h.val * 64 + e.val →
    x1 j = (I.dO t h e : EReal)
  dl : ∀ j (t : Fin 4096) (h : Fin 4), (j 0).val = t.val → (j 1).val = h.val → x2 j = (I.dl t h : EReal)
  gq : ∀ j (e : Fin 64), (j 1).val = e.val → x3 j = (I.gq e : EReal)
  gk : ∀ j (e : Fin 64), (j 1).val = e.val → x4 j = (I.gk e : EReal)

/-- The real arguments five arrays hold. -/
def inp (x0 : Arr 4096 2304) (x1 : Arr 4096 256) (x2 : Arr 4096 4) (x3 x4 : Arr 1 64) : Inp where
  q t h e := (x0 (ix2 t ⟨h.val * 64 + e.val, by omega⟩)).toReal
  k t h e := (x0 (ix2 t ⟨768 + h.val * 64 + e.val, by omega⟩)).toReal
  v t h e := (x0 (ix2 t ⟨1536 + h.val * 64 + e.val, by omega⟩)).toReal
  dO t h e := (x1 (ix2 t ⟨h.val * 64 + e.val, by omega⟩)).toReal
  dl t h := (x2 (ix2 t h)).toReal
  gq e := (x3 (ix2 0 e)).toReal
  gk e := (x4 (ix2 0 e)).toReal

/-- A real entry found by its coordinates. -/
theorem entry {n m : Nat} (x : Arr n m) (hx : ∀ i, ∃ r : ℝ, x i = (r : EReal)) (j : (⟨2, ![n, m]⟩ : Shape).Idx) (a : Fin n)
    (b : Fin m) (ha : (j 0).val = a.val) (hb : (j 1).val = b.val) : x j = ((x (ix2 a b)).toReal : EReal) := by
  have hj : j = ix2 a b := funext fun d => match d with
    | ⟨0, _⟩ => Fin.ext ha
    | ⟨1, _⟩ => Fin.ext hb
  obtain ⟨r, hr⟩ := hx (ix2 a b)
  rw [hj, hr, EReal.toReal_coe]

/-- Arrays of reals hold their real arguments. -/
theorem reads_inp (x0 : Arr 4096 2304) (x1 : Arr 4096 256) (x2 : Arr 4096 4) (x3 x4 : Arr 1 64)
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) :
    Reads (inp x0 x1 x2 x3 x4) x0 x1 x2 x3 x4 where
  q j t h e ht he := entry x0 h0 j t ⟨h.val * 64 + e.val, by omega⟩ ht he
  k j t h e ht he := entry x0 h0 j t ⟨768 + h.val * 64 + e.val, by omega⟩ ht he
  v j t h e ht he := entry x0 h0 j t ⟨1536 + h.val * 64 + e.val, by omega⟩ ht he
  dO j t h e ht he := entry x1 h1 j t ⟨h.val * 64 + e.val, by omega⟩ ht he
  dl j t h ht he := entry x2 h2 j t h ht he
  gq j e he := entry x3 h3 j 0 e (by have := idx2_lt0 j; show (j 0).val = 0; omega) he
  gk j e he := entry x4 h4 j 0 e (by have := idx2_lt0 j; show (j 0).val = 0; omega) he

end Cert.Attn
-- ==== Proof.Mask.lean ====
/- The window of a query as the two programs compute it in words, and the greatest score of a row. -/
module

public import proofs.«01_k».proof.Proof.Args

@[expose] public section

noncomputable section

namespace Cert.Attn

open Idealize.ShloMosaic Idealize.ShloMosaic.ValueIdx

theorem toInt_small (a : Nat) (ha : a < 2 ^ 31) : (BitVec.ofNat 32 a).toInt = (a : ℤ) := by
  rw [BitVec.toInt_ofNat']
  norm_num [Int.bmod]
  omega

theorem toInt_sub_small (a b : Nat) (ha : a < 2 ^ 30) (hb : b < 2 ^ 30) :
    (BitVec.ofNat 32 a - BitVec.ofNat 32 b).toInt = (a : ℤ) - b := by
  rw [BitVec.toInt_sub, toInt_small a (by omega), toInt_small b (by omega), Int.bmod_eq_of_le] <;> omega

/-- The two signed comparisons of the distance from key to query decide the window. -/
theorem window_word (a b : Nat) (ha : a < 2 ^ 30) (hb : b < 2 ^ 30) :
    IntOp.andi (IntOp.cmpi .sge (IntOp.subi (BitVec.ofNat 32 a) (BitVec.ofNat 32 b)) 0#32)
      (IntOp.cmpi .sle (IntOp.subi (BitVec.ofNat 32 a) (BitVec.ofNat 32 b)) 128#32)
      = if b ≤ a ∧ a ≤ b + 128 then 1#1 else 0#1 := by
  have h := toInt_sub_small a b ha hb
  have h1 : (0#32).sle (BitVec.ofNat 32 a - BitVec.ofNat 32 b) = decide (b ≤ a) := by
    rw [BitVec.sle, h]; exact decide_eq_decide.mpr (by simp)
  have h2 : (BitVec.ofNat 32 a - BitVec.ofNat 32 b).sle 128#32 = decide (a ≤ b + 128) := by
    rw [BitVec.sle, h]; exact decide_eq_decide.mpr (by simp; omega)
  show (BitVec.ofBool ((0#32).sle (BitVec.ofNat 32 a - BitVec.ofNat 32 b)))
    &&& (BitVec.ofBool ((BitVec.ofNat 32 a - BitVec.ofNat 32 b).sle 128#32)) = _
  rw [h1, h2]
  by_cases hp : b ≤ a <;> by_cases hq : a ≤ b + 128 <;> simp [hp, hq]

/-- The window as a bit. -/
def seen (t j : Fin 4096) : BitVec 1 := if win t j then 1#1 else 0#1

theorem select_seen (t j : Fin 4096) (a b : EReal) : Scalar.select (seen t j) a b = if win t j then a else b := by
  unfold seen
  by_cases hw : win t j
  · rw [if_pos hw, if_pos hw]; rfl
  · rw [if_neg hw, if_neg hw]; rfl

theorem msc_word (I : Inp) (h : Fin 4) (t j : Fin 4096) :
    Scalar.select (seen t j) (I.sc h t j : EReal) (Ideal.ofBits .f32 0xFF800000#32) = I.msc h t j := by
  rw [select_seen, lit_bot]; rfl

theorem msc_congr (I : Inp) {h h' : Fin 4} {t t' j j' : Fin 4096} (eh : h = h') (et : t = t') (ej : j = j') :
    I.msc h t j = I.msc h' t' j' := by
  rw [eh, et, ej]

theorem lse_word (I : Inp) (h : Fin 4) (t : Fin 4096) :
    (I.mx h t : EReal) + Ideal.log (I.den h t : EReal) = (I.lse h t : EReal) := by
  rw [log_coe_pos _ (I.den_pos _ _), ← EReal.coe_add, Inp.lse]

theorem exp_msc (I : Inp) (h : Fin 4) (t j : Fin 4096) :
    Ideal.exp (I.msc h t j - (I.mx h t : EReal)) = (I.pe h t j : EReal) := by
  unfold Inp.msc Inp.pe
  by_cases hw : win t j
  · rw [if_pos hw, if_pos hw, ← EReal.coe_sub, Ideal.exp_coe]
  · rw [if_neg hw, if_neg hw, EReal.bot_sub, Ideal.exp_bot]; rfl

/-- One or zero as a real: whether a key's masked score is the greatest. -/
def hit (I : Inp) (h : Fin 4) (t j : Fin 4096) : ℝ := if I.msc h t j = I.top h t then 1 else 0

/-- How many keys have the greatest score. -/
def cnt (I : Inp) (h : Fin 4) (t : Fin 4096) : ℝ := ∑ j, hit I h t j

theorem cnt_ne_zero (I : Inp) (h : Fin 4) (t : Fin 4096) : cnt I h t ≠ 0 := by
  obtain ⟨j, hj, ht⟩ := I.exists_top h t
  refine (Finset.sum_pos' (fun j _ => ?_) ⟨j, Finset.mem_univ j, ?_⟩).ne'
  · unfold hit; split_ifs <;> norm_num
  · rw [hit, if_pos (by rw [ht, Inp.msc, if_pos hj])]; norm_num

theorem hit_word (I : Inp) (h : Fin 4) (t j : Fin 4096) :
    FloatOps.uitofp (F := Ideal) .f32 (FloatOps.cmpf (F := Ideal) (φ := .f32) .oeq (I.msc h t j) (I.top h t))
      = (hit I h t j : EReal) := by
  show (((BitVec.ofBool (decide (I.msc h t j = I.top h t))).toNat : ℝ) : EReal) = _
  unfold hit
  by_cases hp : I.msc h t j = I.top h t <;> simp [hp]

end Cert.Attn
-- ==== Proof.VocabVal.lean ====
/- The vocabulary's values: each operation on rows of real numbers gives rows of real numbers. -/
module

public import proofs.«01_k».proof.Proof.Vocab
public import proofs.«01_k».proof.Proof.Mask
public import Idealize.ShloMosaic.Lib.Pointwise
public import Idealize.ShloMosaic.PureOps.Ideal.Laws

@[expose] public section

set_option maxRecDepth 16384

noncomputable section

namespace Cert.Attn.Ker

open Idealize.ShloMosaic Cert.KernelIdeal Cert.KernelIdeal.Gen

theorem lsum_val (x : Rows) (b : Fin 16) (r : Fin 128) : lsum x (ix3 b r 0) = ∑ e : Fin 64, x (ix3 b r e) := by
  pointwise [lsum]

theorem cb_val (x : Col) (b : Fin 16) (r : Fin 128) (e : Fin 64) : cb x (ix3 b r e) = x (ix3 b r 0) := by
  pointwise [cb]

theorem cbs_val (x : Col) (b : Fin 16) (r s : Fin 128) : cbs x (ix3 b r s) = x (ix3 b r 0) := by
  pointwise [cbs]

theorem gb_val (g : Lane) (c : Ideal .f32) (b : Fin 16) (r : Fin 128) (e : Fin 64) : gb g c (ix3 b r e) = g (ix2 0 e) * c := by
  pointwise [gb]

theorem sco_val (x y : Rows) (b : Fin 16) (r s : Fin 128) : sco x y (ix3 b r s) = ∑ e : Fin 64, x (ix3 b r e) * y (ix3 b s e) := by
  pointwise [sco]

theorem mqry_val (x : Sq) (y : Rows) (b : Fin 16) (r : Fin 128) (e : Fin 64) :
    mqry x y (ix3 b r e) = ∑ s : Fin 128, x (ix3 b r s) * y (ix3 b s e) := by
  pointwise [mqry]

theorem mkey_val (x : Sq) (y : Rows) (b : Fin 16) (s : Fin 128) (e : Fin 64) :
    mkey x y (ix3 b s e) = ∑ r : Fin 128, x (ix3 b r s) * y (ix3 b r e) := by
  pointwise [mkey]

theorem before_val (c : FVec Ideal S1x128x64 .f32) (x : Rows) (b : Fin 16) (s : Fin 128) (e : Fin 64) :
    before c x (ix3 b s e) = if h : b.val = 0 then c (ix3 0 s e) else x (ix3 ⟨b.val - 1, by omega⟩ s e) := by
  pointwise [before]
  by_cases h : b.val = 0
  · rw [dif_pos (by omega), dif_pos h]
    exact congrArg (fun n => c (ix3 n s e)) (Fin.ext h)
  · rw [dif_neg (by omega), dif_neg h]

theorem after_val (c : Carry) (x : Rows) (b : Fin 16) (s : Fin 128) (e : Fin 64) :
    after x c (ix3 b s e) = if h : b.val = 15 then c (ix4 0 0 s e) else x (ix3 ⟨b.val + 1, by omega⟩ s e) := by
  pointwise [after]
  by_cases h : b.val = 15
  · rw [dif_neg (by omega), dif_pos h]
  · rw [dif_pos (by omega), dif_neg h]
    exact congrArg (fun n => x (ix3 n s e)) (Fin.ext (Nat.add_comm 1 b.val))

theorem first_val (x : Rows) (s : Fin 128) (e : Fin 64) : first x (ix4 0 0 s e) = x (ix3 0 s e) := by
  pointwise [first]

theorem gsum_val (x y : Rows) (c : Ideal .f32) (e : Fin 64) :
    gsum x y c (ix2 0 e) = ∑ b : Fin 16, ∑ r : Fin 128, y (ix3 b r e) * xh x (ix3 b r e) * c := by
  pointwise [gsum]

theorem pair_val (x y : Rows) (b : Fin 16) (r l : Fin 128) :
    pair x y (ix3 b r l) = if h : l.val < 64 then x (ix3 b r ⟨l.val, h⟩) else y (ix3 b r ⟨l.val - 64, by omega⟩) := by
  pointwise [pair]

end Cert.Attn.Ker
-- ==== Proof.TileVal.lean ====
/- The values of one head's tile: on real rows every operation gives real numbers, written out here. -/
module

public import proofs.«01_k».proof.Proof.VocabVal
public import proofs.«01_k».proof.Proof.Coe

@[expose] public section

set_option maxRecDepth 16384

noncomputable section

namespace Cert.Attn.Ker

open Idealize.ShloMosaic Cert.KernelIdeal Cert.KernelIdeal.Gen

/-- The extended rows hold real ones. -/
def HasR (x : Rows) (f : Fin 16 → Fin 128 → Fin 64 → ℝ) : Prop := ∀ b r e, x (ix3 b r e) = (f b r e : EReal)
/-- The extended squares hold real ones. -/
def HasS (x : Sq) (f : Fin 16 → Fin 128 → Fin 128 → ℝ) : Prop := ∀ b r s, x (ix3 b r s) = (f b r s : EReal)
/-- The extended columns hold real ones. -/
def HasC (x : Col) (f : Fin 16 → Fin 128 → ℝ) : Prop := ∀ b r, x (ix3 b r 0) = (f b r : EReal)
/-- An extended row of lanes holds a real one. -/
def HasL (x : Lane) (f : Fin 64 → ℝ) : Prop := ∀ e, x (ix2 0 e) = (f e : EReal)
/-- An extended carry holds a real block. -/
def HasK (x : Carry) (f : Fin 128 → Fin 64 → ℝ) : Prop := ∀ s e, x (ix4 0 0 s e) = (f s e : EReal)

variable {x y a b' : Rows} {f g : Fin 16 → Fin 128 → Fin 64 → ℝ} {w : Lane} {u : Fin 64 → ℝ} {c : Ideal .f32} {cr : ℝ}

theorem rsv_val (hx : HasR x f) : HasC (rsv x) (fun b r => rs (f b r)) := fun b r => by
  have h : rsv x (ix3 b r 0) = Ideal.rsqrt (Ideal.div (∑ e : Fin 64, x (ix3 b r e) * x (ix3 b r e))
      (Ideal.ofBits .f32 0x42800000#32) + Ideal.ofBits .f32 0x358637BD#32) := by
    unfold rsv
    pointwise [lsum]
  rw [h, sum_mul_coe _ _ _ _ (hx b r) (hx b r), lit_64, lit_eps, div_coe_coe _ _ (by norm_num), ← EReal.coe_add]
  exact rsqrt_ms (f b r)

theorem xh_val (hx : HasR x f) : HasR (xh x) (fun b r e => f b r e * rs (f b r)) := fun b r e => by
  have h : xh x (ix3 b r e) = x (ix3 b r e) * rsv x (ix3 b r 0) := by
    pointwise [xh, cb]
  rw [h, hx, rsv_val hx, EReal.coe_mul]

theorem nrm_val (hx : HasR x f) (hw : HasL w u) (hc : c = (cr : EReal)) :
    HasR (nrm x w c) (fun b r e => f b r e * rs (f b r) * (u e * cr)) := fun b r e => by
  have h : nrm x w c (ix3 b r e) = xh x (ix3 b r e) * gb w c (ix3 b r e) := rfl
  rw [h, xh_val hx, gb_val, hw, hc, ← EReal.coe_mul, ← EReal.coe_mul]

theorem sco_has (hx : HasR x f) (hy : HasR y g) : HasS (sco x y) (fun b r s => ∑ e, f b r e * g b s e) := fun b r s => by
  rw [sco_val, sum_mul_coe _ _ _ _ (hx b r) (hy b s)]

theorem mqry_has {p : Sq} {pr : Fin 16 → Fin 128 → Fin 128 → ℝ} (hp : HasS p pr) (hy : HasR y g) :
    HasR (mqry p y) (fun b r e => ∑ s, pr b r s * g b s e) := fun b r e => by
  rw [mqry_val, sum_mul_coe _ _ _ _ (hp b r) fun s => hy b s e]

theorem mkey_has {p : Sq} {pr : Fin 16 → Fin 128 → Fin 128 → ℝ} (hp : HasS p pr) (hy : HasR y g) :
    HasR (mkey p y) (fun b s e => ∑ r, pr b r s * g b r e) := fun b s e => by
  rw [mkey_val, sum_mul_coe _ _ _ _ (fun r => hp b r s) fun r => hy b r e]

/-- A key is not after its query, in words. -/
theorem sge_word (r s : Fin 128) :
    IntOp.cmpi .sge (BitVec.ofNat 32 r.val) (BitVec.ofNat 32 s.val) = if s.val ≤ r.val then 1#1 else 0#1 := by
  have h : (BitVec.ofNat 32 s.val).sle (BitVec.ofNat 32 r.val) = decide (s.val ≤ r.val) := by
    rw [BitVec.sle, toInt_small _ (by omega), toInt_small _ (by omega)]
    exact decide_eq_decide.mpr (by simp)
  show BitVec.ofBool ((BitVec.ofNat 32 s.val).sle (BitVec.ofNat 32 r.val)) = _
  rw [h]
  by_cases hp : s.val ≤ r.val <;> simp [hp]

/-- The exponential of a masked score. -/
theorem exp_mask (P : Prop) [Decidable P] (z l : ℝ) :
    Ideal.exp (Scalar.select (if P then 1#1 else 0#1) (z : EReal) ⊥ - (l : EReal)) = ((if P then Real.exp (z - l) else 0 : ℝ) : EReal) := by
  by_cases hp : P
  · rw [if_pos hp, if_pos hp, ← Ideal.exp_coe, EReal.coe_sub]
    rfl
  · rw [if_neg hp, if_neg hp]
    show Ideal.exp (⊥ - (l : EReal)) = _
    rw [EReal.bot_sub, Ideal.exp_bot]
    rfl

theorem named_mask : Named.named (F := Ideal) κ "mask" (φ := .f32) 0xF149F2CA#32 = (⊥ : EReal) :=
  IdealRules.named_const.ideal_named_scalar _ _ _ _ rfl

theorem pcur_val {l : Col} {lr : Fin 16 → Fin 128 → ℝ} (hl : HasC l lr) (hx : HasR x f) (hy : HasR y g) :
    HasS (pcur l x y) (fun b r s => if s.val ≤ r.val then Real.exp ((∑ e, f b r e * g b s e) - lr b r) else 0) := fun b r s => by
  have h : pcur l x y (ix3 b r s) = Ideal.exp (Scalar.select (IntOp.cmpi .sge (BitVec.ofNat 32 r.val) (BitVec.ofNat 32 s.val))
      (sco x y (ix3 b r s)) (Named.named (F := Ideal) κ "mask" (φ := .f32) 0xF149F2CA#32) - l (ix3 b r 0)) := by
    unfold pcur
    pointwise [ri, si, ninf, cbs]
  rw [h, sco_has hx hy, hl, named_mask, sge_word]
  exact exp_mask _ _ _

theorem pprev_val {l : Col} {lr : Fin 16 → Fin 128 → ℝ} {fs : IVec S16x1x1 1} {F : Fin 16 → Prop} [DecidablePred F]
    (hf : ∀ b, fs (ix3 b 0 0) = if F b then 1#1 else 0#1) (hl : HasC l lr) (hx : HasR x f) (hy : HasR y g) :
    HasS (pprev fs l x y) (fun b r s => if r.val ≤ s.val ∧ ¬F b then Real.exp ((∑ e, f b r e * g b s e) - lr b r) else 0) :=
  fun b r s => by
  have h : pprev fs l x y (ix3 b r s) = Ideal.exp (Scalar.select (IntOp.andi
      (IntOp.cmpi .sge (BitVec.ofNat 32 s.val) (BitVec.ofNat 32 r.val)) (IntOp.xori (fs (ix3 b 0 0)) 1#1))
      (sco x y (ix3 b r s)) (Named.named (F := Ideal) κ "mask" (φ := .f32) 0xF149F2CA#32) - l (ix3 b r 0)) := by
    unfold pprev
    pointwise [ri, si, ninf, cbs]
  have hw : IntOp.andi (if r.val ≤ s.val then 1#1 else 0#1) (IntOp.xori (if F b then 1#1 else 0#1) 1#1)
      = if r.val ≤ s.val ∧ ¬F b then 1#1 else 0#1 := by
    by_cases h1 : r.val ≤ s.val <;> by_cases h2 : F b <;> simp [h1, h2, IntOp.andi, IntOp.xori]
  rw [h, sco_has hx hy, hl, named_mask, sge_word, hf, hw]
  exact exp_mask _ _ _

theorem cor_val {d o : Rows} {dr or : Fin 16 → Fin 128 → Fin 64 → ℝ} {dl : Col} {dlr : Fin 16 → Fin 128 → ℝ} (hd : HasR d dr)
    (ho : HasR o or) (hl : HasC dl dlr) : HasC (cor d o dl) (fun b r => dlr b r - ∑ e, dr b r e * or b r e) := fun b r => by
  have h : cor d o dl (ix3 b r 0) = dl (ix3 b r 0) - ∑ e : Fin 64, d (ix3 b r e) * o (ix3 b r e) := by
    unfold cor
    pointwise [lsum]
  rw [h, hl, sum_mul_coe _ _ _ _ (hd b r) (ho b r), EReal.coe_sub]

theorem dsv_val {p : Sq} {pr : Fin 16 → Fin 128 → Fin 128 → ℝ} {k : Col} {kr : Fin 16 → Fin 128 → ℝ} (hp : HasS p pr)
    (hx : HasR x f) (hy : HasR y g) (hk : HasC k kr) :
    HasS (dsv p x y k) (fun b r s => pr b r s * ((∑ e, f b r e * g b s e) + kr b r)) := fun b r s => by
  have h : dsv p x y k (ix3 b r s) = p (ix3 b r s) * (sco x y (ix3 b r s) + cbs k (ix3 b r s)) := rfl
  rw [h, cbs_val, hp, sco_has hx hy, hk, EReal.coe_mul, EReal.coe_add]

theorem add_has (hx : HasR x f) (hy : HasR y g) : HasR (addf x y) (fun b r e => f b r e + g b r e) := fun b r e => by
  have h : addf x y (ix3 b r e) = x (ix3 b r e) + y (ix3 b r e) := rfl
  rw [h, hx, hy, EReal.coe_add]

theorem before_has {k : FVec Ideal S1x128x64 .f32} {kr : Fin 128 → Fin 64 → ℝ} (hk : ∀ s e, k (ix3 0 s e) = (kr s e : EReal))
    (hx : HasR x f) : HasR (before k x) (fun b s e => if h : b.val = 0 then kr s e else f ⟨b.val - 1, by omega⟩ s e) :=
  fun b s e => by
  rw [before_val]
  by_cases h : b.val = 0
  · rw [dif_pos h, hk]
    simp [h]
  · rw [dif_neg h, hx]
    simp [h]

theorem after_has {k : Carry} {kr : Fin 128 → Fin 64 → ℝ} (hk : HasK k kr) (hx : HasR x f) :
    HasR (after x k) (fun b s e => if h : b.val = 15 then kr s e else f ⟨b.val + 1, by omega⟩ s e) := fun b s e => by
  rw [after_val]
  by_cases h : b.val = 15
  · rw [dif_pos h, hk]
    simp [h]
  · rw [dif_neg h, hx]
    simp [h]

theorem first_has (hx : HasR x f) : HasK (first x) (f 0) := fun s e => by rw [first_val, hx]

/-- A row's gradient through the normalisation, the gain scaled. -/
theorem nbv_val (hx : HasR x f) (hy : HasR y g) (hw : HasL w u) (hc : c = (cr : EReal)) :
    HasR (nbv x y w c) (fun b r e => nb (f b r) (fun e => g b r e * cr) u e) := fun b r e => by
  have h : nbv x y w c (ix3 b r e) = rsv x (ix3 b r 0) * (y (ix3 b r e) * gb w c (ix3 b r e) - xh x (ix3 b r e)
      * Ideal.div (∑ e' : Fin 64, y (ix3 b r e') * gb w c (ix3 b r e') * xh x (ix3 b r e')) (Ideal.ofBits .f32 0x42800000#32)) := by
    unfold nbv
    pointwise [lsum, cb]
  have hg : ∀ e', y (ix3 b r e') * gb w c (ix3 b r e') = ((g b r e' * cr * u e' : ℝ) : EReal) := fun e' => by
    rw [hy, gb_val, hw, hc, ← EReal.coe_mul, ← EReal.coe_mul]
    exact congrArg _ (by ring)
  rw [h, rsv_val hx, xh_val hx, hg, sum_mul_coe _ _ _ _ hg (xh_val hx b r), lit_64, div_coe_coe _ _ (by norm_num),
    ← EReal.coe_mul, ← EReal.coe_sub, ← EReal.coe_mul]
  rfl

theorem gsum_has (hx : HasR x f) (hy : HasR y g) (hc : c = (cr : EReal)) :
    HasL (gsum x y c) (fun e => ∑ b, ∑ r, f b r e * rs (f b r) * (g b r e * cr)) := fun e => by
  rw [gsum_val]
  refine sum_coe _ _ fun b => sum_coe _ _ fun r => ?_
  rw [hy, xh_val hx, hc, ← EReal.coe_mul, ← EReal.coe_mul]
  exact congrArg _ (by ring)

/-- One head's real rows of a tile. -/
structure RTile where
  q : Fin 16 → Fin 128 → Fin 64 → ℝ
  k : Fin 16 → Fin 128 → Fin 64 → ℝ
  v : Fin 16 → Fin 128 → Fin 64 → ℝ
  kp : Fin 16 → Fin 128 → Fin 64 → ℝ
  vp : Fin 16 → Fin 128 → Fin 64 → ℝ
  o : Fin 16 → Fin 128 → Fin 64 → ℝ
  d : Fin 16 → Fin 128 → Fin 64 → ℝ
  l : Fin 16 → Fin 128 → ℝ
  dl : Fin 16 → Fin 128 → ℝ
  gq : Fin 64 → ℝ
  gk : Fin 64 → ℝ
  fs : Fin 16 → Bool

namespace RTile

variable (R : RTile)

def qn (b : Fin 16) (r : Fin 128) (e : Fin 64) : ℝ := R.q b r e * rs (R.q b r) * (R.gq e * (1 / 8))
def kn (b : Fin 16) (r : Fin 128) (e : Fin 64) : ℝ := R.k b r e * rs (R.k b r) * (R.gk e * 1)
def knp (b : Fin 16) (r : Fin 128) (e : Fin 64) : ℝ := R.kp b r e * rs (R.kp b r) * (R.gk e * 1)
def p (b : Fin 16) (r s : Fin 128) : ℝ := if s.val ≤ r.val then Real.exp ((∑ e, R.qn b r e * R.kn b s e) - R.l b r) else 0
def pp (b : Fin 16) (r s : Fin 128) : ℝ :=
  if r.val ≤ s.val ∧ ¬R.fs b = true then Real.exp ((∑ e, R.qn b r e * R.knp b s e) - R.l b r) else 0
def com (b : Fin 16) (r : Fin 128) : ℝ := R.dl b r - ∑ e, R.d b r e * R.o b r e
def ds (b : Fin 16) (r s : Fin 128) : ℝ := R.p b r s * ((∑ e, R.d b r e * R.v b s e) + R.com b r)
def dsp (b : Fin 16) (r s : Fin 128) : ℝ := R.pp b r s * ((∑ e, R.d b r e * R.vp b s e) + R.com b r)
def dqn (b : Fin 16) (r : Fin 128) (e : Fin 64) : ℝ := (∑ s, R.ds b r s * R.kn b s e) + ∑ s, R.dsp b r s * R.knp b s e
def dkp (b : Fin 16) (s : Fin 128) (e : Fin 64) : ℝ := ∑ r, R.dsp b r s * R.qn b r e
def dvp (b : Fin 16) (s : Fin 128) (e : Fin 64) : ℝ := ∑ r, R.pp b r s * R.d b r e
def dkn (ck : Fin 128 → Fin 64 → ℝ) (b : Fin 16) (s : Fin 128) (e : Fin 64) : ℝ :=
  (∑ r, R.ds b r s * R.qn b r e) + if h : b.val = 15 then ck s e else R.dkp ⟨b.val + 1, by omega⟩ s e
def dv (cv : Fin 128 → Fin 64 → ℝ) (b : Fin 16) (s : Fin 128) (e : Fin 64) : ℝ :=
  (∑ r, R.p b r s * R.d b r e) + if h : b.val = 15 then cv s e else R.dvp ⟨b.val + 1, by omega⟩ s e

end RTile

/-- A tile of extended reals holds a real one. -/
structure Holds (T : Tile) (R : RTile) : Prop where
  q : HasR T.q R.q
  k : HasR T.k R.k
  v : HasR T.v R.v
  kp : HasR T.kp R.kp
  vp : HasR T.vp R.vp
  o : HasR T.o R.o
  d : HasR T.d R.d
  l : HasC T.l R.l
  dl : HasC T.dl R.dl
  gq : HasL T.gq R.gq
  gk : HasL T.gk R.gk
  fs : ∀ b, T.fs (ix3 b 0 0) = if R.fs b = true then 1#1 else 0#1

namespace Holds

variable {T : Tile} {R : RTile} (H : Holds T R) {ck : Carry} {ckr : Fin 128 → Fin 64 → ℝ} (hk : HasK ck ckr)

include H

theorem qn : HasR T.qn R.qn := nrm_val H.q H.gq lit_eighth
theorem kn : HasR T.kn R.kn := nrm_val H.k H.gk lit_one
theorem knp : HasR T.knp R.knp := nrm_val H.kp H.gk lit_one
theorem p : HasS T.p R.p := pcur_val H.l H.qn H.kn
theorem pp : HasS T.pp R.pp := pprev_val (F := fun b => R.fs b = true) H.fs H.l H.qn H.knp
theorem com : HasC T.c R.com := cor_val H.d H.o H.dl
theorem ds : HasS T.ds R.ds := dsv_val H.p H.d H.v H.com
theorem dsp : HasS T.dsp R.dsp := dsv_val H.pp H.d H.vp H.com
theorem dqn : HasR T.dqn R.dqn := add_has (mqry_has H.ds H.kn) (mqry_has H.dsp H.knp)
theorem dkp : HasR T.dkp R.dkp := mkey_has H.dsp H.qn
theorem dvp : HasR T.dvp R.dvp := mkey_has H.pp H.d
theorem dq : HasR T.dq (fun b r e => nb (R.q b r) (fun e => R.dqn b r e * (1 / 8)) R.gq e) := nbv_val H.q H.dqn H.gq lit_eighth
theorem dgq : HasL T.dgq (fun e => ∑ b, ∑ r, R.q b r e * rs (R.q b r) * (R.dqn b r e * (1 / 8))) := gsum_has H.q H.dqn lit_eighth

include hk

theorem dkn : HasR (T.dkn ck) (R.dkn ckr) := add_has (mkey_has H.ds H.qn) (after_has hk H.dkp)
theorem dv : HasR (T.dv ck) (R.dv ckr) := add_has (mkey_has H.p H.d) (after_has hk H.dvp)
theorem dk : HasR (T.dk ck) (fun b r e => nb (R.k b r) (fun e => R.dkn ckr b r e * 1) R.gk e) := nbv_val H.k (H.dkn hk) H.gk lit_one
theorem dgk : HasL (T.dgk ck) (fun e => ∑ b, ∑ r, R.k b r e * rs (R.k b r) * (R.dkn ckr b r e * 1)) := gsum_has H.k (H.dkn hk) lit_one

end Holds

end Cert.Attn.Ker
-- ==== Proof.PointVal.lean ====
/- A grid point's windows at their entries: the stacked blocks, the heads' lanes, the carries. -/
module

public import proofs.«01_k».proof.Proof.Bridge
public import proofs.«01_k».proof.Proof.TileVal

@[expose] public section

set_option maxRecDepth 16384

noncomputable section

namespace Cert.Attn.Ker

open Idealize.ShloMosaic Cert.KernelIdeal Cert.KernelIdeal.Gen Idealize.ShloMosaic.TcCoe Idealize.SL.Sem

/-- Row `r` of block `b`. -/
def wr (b : Fin 16) (r : Fin 128) : Fin 2048 := ⟨128 * b.val + r.val, by omega⟩

theorem inb_row (b : Fin 16) : ∀ a, (![128 * b.val, 0] : Fin 2 → Nat) a + (![128, 128] : Fin 2 → Nat) a ≤ S2048x128.size a := fun a => by
  match a with
  | ⟨0, _⟩ => show 128 * b.val + 128 ≤ 2048; omega
  | ⟨1, _⟩ => show 0 + 128 ≤ 128; omega

/-- Block `b` of a window. -/
def row (x : Win) (b : Fin 16) : Vec Ideal S128x128 .f32 := View.ld x (Rect.unit ![128 * b.val, 0] ![128, 128] (inb_row b))

theorem row_val (x : Win) (b : Fin 16) (r l : Fin 128) : row x b (ix2 r l) = x (ix2 (wr b r) l) :=
  View.ld_unit_apply_of x _ _ _ _ _ fun a => by
    match a with
    | ⟨0, _⟩ => rfl
    | ⟨1, _⟩ => exact (Nat.zero_add _).symm

theorem stk_ofFn (x : Win) (h) : stk x = concatenate S16x128x128 0 (List.ofFn fun n : Fin 16 =>
    (⟨S1x128x128, shapeCast S1x128x128 (row x n) shapeCasts_S128x128_S1x128x128⟩ : (s : Shape) × (s.Idx → Ideal .f32))) h := rfl

theorem stk_val (x : Win) (b : Fin 16) (r l : Fin 128) : stk x (ix3 b r l) = x (ix2 (wr b r) l) := by
  have h : Shape.Concatenates ((List.ofFn fun n : Fin 16 => (⟨S1x128x128, shapeCast S1x128x128 (row x n)
    shapeCasts_S128x128_S1x128x128⟩ : (s : Shape) × (s.Idx → Ideal .f32))).map (·.1)) S16x128x128 0 := by
    rw [List.map_ofFn]
    show Shape.Concatenates (List.ofFn fun _ : Fin 16 => S1x128x128) S16x128x128 0
    decide
  rw [stk_ofFn x h]
  refine ((concatenate_ofFn_unit_apply' _ _ h rfl (ix3 b r l)).trans ?_).trans (row_val x b r l)
  pointwise

theorem half0_val (x : Sq) (b : Fin 16) (r : Fin 128) (e : Fin 64) :
    half ![0, 0, 0] slices_S16x128x128_o0_0_0_S16x128x64 x (ix3 b r e) = x (ix3 b r ⟨e.val, by omega⟩) := by
  pointwise [half]

theorem half64_val (x : Sq) (b : Fin 16) (r : Fin 128) (e : Fin 64) :
    half ![0, 0, 64] slices_S16x128x128_o0_0_64_S16x128x64 x (ix3 b r e) = x (ix3 b r ⟨64 + e.val, by omega⟩) := by
  pointwise [half]

theorem col0_val (x : Sq) (b : Fin 16) (r : Fin 128) :
    col ![0, 0, 0] slices_S16x128x128_o0_0_0_S16x128x1 x (ix3 b r 0) = x (ix3 b r 0) := by
  pointwise [col]

theorem col64_val (x : Sq) (b : Fin 16) (r : Fin 128) :
    col ![0, 0, 64] slices_S16x128x128_o0_0_64_S16x128x1 x (ix3 b r 0) = x (ix3 b r 64) := by
  pointwise [col]

/-- A block loaded whole. -/
def whole (x : Vec Ideal S128x128 .f32) : Vec Ideal S128x128 .f32 :=
  View.ld x (Rect.unit ![0, 0] ![128, 128] inb_S128x128_S128x128_0_0)

theorem whole_val (x : Vec Ideal S128x128 .f32) (r l : Fin 128) : whole x (ix2 r l) = x (ix2 r l) :=
  View.ld_unit_apply_of x _ _ _ _ _ fun a => by
    match a with
    | ⟨0, _⟩ => exact (Nat.zero_add _).symm
    | ⟨1, _⟩ => exact (Nat.zero_add _).symm

theorem half1_0_val (x : Vec Ideal S128x128 .f32) (r : Fin 128) (e : Fin 64) :
    half1 ![0, 0, 0] slices_S1x128x128_o0_0_0_S1x128x64 x (ix3 0 r e) = x (ix2 r ⟨e.val, by omega⟩) := by
  refine Eq.trans ?_ (whole_val x r ⟨e.val, by omega⟩)
  show extractStridedSlice S1x128x64 _ (shapeCast S1x128x128 (whole x) _) _ _ = _
  pointwise

theorem half1_64_val (x : Vec Ideal S128x128 .f32) (r : Fin 128) (e : Fin 64) :
    half1 ![0, 0, 64] slices_S1x128x128_o0_0_64_S1x128x64 x (ix3 0 r e) = x (ix2 r ⟨64 + e.val, by omega⟩) := by
  refine Eq.trans ?_ (whole_val x r ⟨64 + e.val, by omega⟩)
  show extractStridedSlice S1x128x64 _ (shapeCast S1x128x128 (whole x) _) _ _ = _
  pointwise

theorem gain_val (x : Vec Ideal S1x64 .f32) (e : Fin 64) : gain x (ix2 0 e) = x (ix2 0 e) :=
  View.ld_unit_apply_of x _ _ _ _ _ fun a => by
    match a with
    | ⟨0, _⟩ => rfl
    | ⟨1, _⟩ => exact (Nat.zero_add _).symm

theorem first_word : ∀ (b : Fin 16) (s : Fin 2),
    IntOp.andi (IntOp.cmpi .slt (BitVec.ofNat 32 b.val) 1#32) (Scalar.cmpi .eq (BitVec.ofNat 32 s.val) 1#32)
      = if b.val = 0 ∧ s.val = 1 then 1#1 else 0#1 := by decide

theorem fs_val (b : Fin 16) (s : Fin 2) :
    k0_pay59 (BitVec.ofNat 32 s.val) (ix3 b 0 0) = if b.val = 0 ∧ s.val = 1 then 1#1 else 0#1 := by
  refine Eq.trans ?_ (first_word b s)
  pointwise [k0_pay59]

theorem slices_row (b : Fin 16) : S16x128x128.Slices ![b.val, 0, 0] S1x128x128 := by
  revert b
  decide

theorem rows_ofFn (x : Sq) : rows x = View.canon (Val := Elt Ideal) (e := .f32) (List.ofFn fun n : Fin 16 =>
    (⟨Rect.unit ![128 * (15 - n.val), 0] ![128, 128] (inb_row ⟨15 - n.val, by omega⟩),
      blk ![15 - n.val, 0, 0] (slices_row ⟨15 - n.val, by omega⟩) x⟩ : View.Piece (Elt Ideal) S2048x128 .f32)) := rfl

theorem blk_val (b : Fin 16) (x : Sq) (r l : Fin 128) : blk ![b.val, 0, 0] (slices_row b) x (ix2 r l) = x (ix3 b r l) := by
  pointwise [blk]

theorem rows_val (x : Sq) (b : Fin 16) (r l : Fin 128) : rows x (ix2 (wr b r) l) = x (ix3 b r l) := by
  rw [rows_ofFn]
  refine View.canon_ofFn_unit_eq_of_forall (Val := Elt Ideal) (e := .f32) (S := S2048x128) (fun n : Fin 16 => ![128 * (15 - n.val), 0]) ![128, 128]
    (fun n => inb_row ⟨15 - n.val, by omega⟩) (fun n => blk ![15 - n.val, 0, 0] (slices_row ⟨15 - n.val, by omega⟩) x) _ _
    ⟨⟨15 - b.val, by omega⟩, fun a => ?_⟩ fun n y hy => ?_
  · match a with
    | ⟨0, _⟩ =>
      show 128 * (15 - (15 - b.val)) ≤ 128 * b.val + r.val ∧ 128 * b.val + r.val < 128 * (15 - (15 - b.val)) + 128
      omega
    | ⟨1, _⟩ =>
      show 0 ≤ l.val ∧ l.val < 0 + 128
      omega
  · obtain ⟨r', l', rfl⟩ : ∃ r' l' : Fin 128, y = ix2 r' l' := ⟨y 0, y 1, funext fun d => by
      match d with
      | ⟨0, _⟩ => rfl
      | ⟨1, _⟩ => rfl⟩
    have h0 : 128 * b.val + r.val = 128 * (15 - n.val) + r'.val := hy 0
    have h1 : l.val = 0 + l'.val := hy 1
    have hb : b = ⟨15 - n.val, by omega⟩ := Fin.ext (by show b.val = 15 - n.val; omega)
    have hr : r = r' := Fin.ext (by have := congrArg Fin.val hb; simp only at this; omega)
    have hl : l = l' := Fin.ext (by omega)
    subst hr hl
    refine (blk_val ⟨15 - n.val, by omega⟩ x r l).trans ?_
    exact congrArg (fun b => x (ix3 b r l)) hb.symm

theorem car0_carr (a b : Carry) (s : Fin 128) (e : Fin 64) : car0 (carr a b) (ix4 0 0 s e) = a (ix4 0 0 s e) :=
  View.ld_unit_apply_of (carr a b) _ _ _ _ (ix4 0 0 s e) fun d => by
    match d with
    | ⟨0, _⟩ => rfl
    | ⟨1, _⟩ => rfl
    | ⟨2, _⟩ => exact (Nat.zero_add _).symm
    | ⟨3, _⟩ => exact (Nat.zero_add _).symm

theorem car1_carr (a b : Carry) (s : Fin 128) (e : Fin 64) : car1 (carr a b) (ix4 0 0 s e) = b (ix4 0 0 s e) :=
  View.ld_unit_apply_of (carr a b) _ _ _ _ (ix4 1 0 s e) fun d => by
    match d with
    | ⟨0, _⟩ => rfl
    | ⟨1, _⟩ => rfl
    | ⟨2, _⟩ => exact (Nat.zero_add _).symm
    | ⟨3, _⟩ => exact (Nat.zero_add _).symm

theorem cnone_val (i : S2x1x128x64.Idx) : cnone i = ((0 : ℝ) : EReal) := by
  unfold cnone k0_pay5
  rw [shapeCast_self]
  exact lit_zero.trans EReal.coe_zero.symm

theorem car0_cnone : HasK (car0 cnone) fun _ _ => 0 := fun _ _ => cnone_val _
theorem car1_cnone : HasK (car1 cnone) fun _ _ => 0 := fun _ _ => cnone_val _

theorem gnone_val : HasL gnone fun _ => 0 := fun _ => lit_zero.trans EReal.coe_zero.symm

theorem gadd_val {g : Vec Ideal S1x64 .f32} {x : Lane} {u w : Fin 64 → ℝ} (hg : HasL g u) (hx : HasL x w) :
    HasL (gadd g x) fun e => u e + w e := fun e => by
  unfold gadd
  rw [shapeCast_self]
  show g _ + x _ = _
  rw [hg, hx, ← EReal.coe_add]

end Cert.Attn.Ker
-- ==== Proof.Split.lean ====
/- The sequence in blocks of 128 rows: a query sees its own block and the one before, a key is seen from its own block
   and the one after. One head's tile of the specification's real numbers. -/
module

public import proofs.«01_k».proof.Proof.TileVal
public import proofs.«01_k».proof.Proof.Spec

@[expose] public section

noncomputable section

namespace Cert.Attn

open Cert.Attn.Ker

/-- Row `r` of block `G`. -/
def tok (G : Fin 32) (r : Fin 128) : Fin 4096 := ⟨128 * G.val + r.val, by omega⟩

theorem tok_val (G : Fin 32) (r : Fin 128) : (tok G r).val = 128 * G.val + r.val := rfl

theorem sum_tok (f : Fin 4096 → ℝ) : ∑ t, f t = ∑ G, ∑ r, f (tok G r) := by
  rw [← Fintype.sum_prod_type']
  refine (Fintype.sum_bijective (fun p : Fin 32 × Fin 128 => tok p.1 p.2) ⟨?_, ?_⟩ _ _ fun p => rfl).symm
  · rintro ⟨G, r⟩ ⟨G', r'⟩ h
    have h' : 128 * G.val + r.val = 128 * G'.val + r'.val := congrArg Fin.val h
    exact Prod.ext (Fin.ext (by show G.val = G'.val; omega)) (Fin.ext (by show r.val = r'.val; omega))
  · intro t
    exact ⟨(⟨t.val / 128, by omega⟩, ⟨t.val % 128, by omega⟩), Fin.ext (by show 128 * (t.val / 128) + t.val % 128 = t.val; omega)⟩

/-- The block before. -/
def prev (G : Fin 32) : Fin 32 := ⟨G.val - 1, by omega⟩

theorem sum_blocks (F : Fin 32 → ℝ) (G H : Fin 32) (hH : H ≠ G) (h0 : ∀ G', G' ≠ G → G' ≠ H → F G' = 0) :
    ∑ G', F G' = F G + F H :=
  Fintype.sum_eq_add G H hH.symm fun G' h => h0 G' h.1 h.2

/-- What a query gathers over the keys it sees. -/
theorem sum_keys (f : Fin 4096 → ℝ) (G : Fin 32) (r : Fin 128) (hf : ∀ j, ¬win (tok G r) j → f j = 0) :
    ∑ j, f j = (∑ s, f (tok G s)) + ∑ s, if G.val = 0 then 0 else f (tok (prev G) s) := by
  rw [sum_tok]
  have h0 : ∀ G', G' ≠ G → G'.val + 1 ≠ G.val → ∑ s, f (tok G' s) = 0 := fun G' h1 h2 =>
    Finset.sum_eq_zero fun s _ => hf _ fun hw => by
      have h3 : G'.val ≠ G.val := fun h => h1 (Fin.ext h)
      unfold win at hw
      rw [tok_val, tok_val] at hw
      omega
  by_cases hG : G.val = 0
  · simp only [hG, if_true, Finset.sum_const_zero, add_zero]
    exact Fintype.sum_eq_single G fun G' h => h0 G' h (by omega)
  · simp only [hG, if_false]
    have hp : (prev G).val = G.val - 1 := rfl
    exact sum_blocks _ G (prev G) (fun h => by have := congrArg Fin.val h; omega) fun G' h1 h2 => h0 G' h1 fun h =>
      h2 (Fin.ext (by omega))

/-- The block after. -/
def next (G : Fin 32) (h : G.val ≠ 31) : Fin 32 := ⟨G.val + 1, by omega⟩

/-- What a key gathers over the queries that see it. -/
theorem sum_queries (f : Fin 4096 → ℝ) (G : Fin 32) (s : Fin 128) (hf : ∀ t, ¬win t (tok G s) → f t = 0) :
    ∑ t, f t = (∑ r, f (tok G r)) + if h : G.val = 31 then 0 else ∑ r, f (tok (next G h) r) := by
  rw [sum_tok]
  have h0 : ∀ G', G' ≠ G → G'.val ≠ G.val + 1 → ∑ r, f (tok G' r) = 0 := fun G' h1 h2 =>
    Finset.sum_eq_zero fun r _ => hf _ fun hw => by
      have h3 : G'.val ≠ G.val := fun h => h1 (Fin.ext h)
      unfold win at hw
      rw [tok_val, tok_val] at hw
      omega
  by_cases hG : G.val = 31
  · rw [dif_pos hG, add_zero]
    exact Fintype.sum_eq_single G fun G' h => h0 G' h (by omega)
  · rw [dif_neg hG]
    have hp : (next G hG).val = G.val + 1 := rfl
    exact sum_blocks _ G (next G hG) (fun h => by have := congrArg Fin.val h; omega) fun G' h1 h2 => h0 G' h1 fun h =>
      h2 (Fin.ext (by omega))

/-- Block `b` of tile `n`. -/
def gblk (n : Fin 2) (b : Fin 16) : Fin 32 := ⟨16 * n.val + b.val, by omega⟩

theorem gblk_val (n : Fin 2) (b : Fin 16) : (gblk n b).val = 16 * n.val + b.val := rfl

namespace Inp

variable (I : Inp) (h : Fin 4) (n : Fin 2)

/-- One head's tile of the arguments. -/
def tile : RTile where
  q b r := I.q (tok (gblk n b) r) h
  k b r := I.k (tok (gblk n b) r) h
  v b r := I.v (tok (gblk n b) r) h
  kp b r := I.k (tok (prev (gblk n b)) r) h
  vp b r := I.v (tok (prev (gblk n b)) r) h
  o b r := I.o h (tok (gblk n b) r)
  d b r := I.dO (tok (gblk n b) r) h
  l b r := I.lse h (tok (gblk n b) r)
  dl b r := I.dl (tok (gblk n b) r) h
  gq := I.gq
  gk := I.gk
  fs b := decide ((gblk n b).val = 0)

theorem tile_qn (b : Fin 16) (r : Fin 128) (e : Fin 64) : (I.tile h n).qn b r e = I.qn (tok (gblk n b) r) h e := by
  show I.q _ h e * rs (I.q (tok (gblk n b) r) h) * (I.gq e * (1 / 8)) = I.q _ h e * rs (I.q (tok (gblk n b) r) h) * I.gq e * (1 / 8)
  ring

theorem tile_kn (b : Fin 16) (r : Fin 128) (e : Fin 64) : (I.tile h n).kn b r e = I.kn (tok (gblk n b) r) h e := by
  show I.k _ h e * rs (I.k (tok (gblk n b) r) h) * (I.gk e * 1) = I.k _ h e * rs (I.k (tok (gblk n b) r) h) * I.gk e
  ring

theorem tile_knp (b : Fin 16) (r : Fin 128) (e : Fin 64) : (I.tile h n).knp b r e = I.kn (tok (prev (gblk n b)) r) h e := by
  show I.k _ h e * rs (I.k (tok (prev (gblk n b)) r) h) * (I.gk e * 1) = I.k _ h e * rs (I.k (tok (prev (gblk n b)) r) h) * I.gk e
  ring

theorem tile_p (b : Fin 16) (r s : Fin 128) : (I.tile h n).p b r s = I.p h (tok (gblk n b) r) (tok (gblk n b) s) := by
  unfold RTile.p
  by_cases hw : s.val ≤ r.val
  · rw [if_pos hw, ← I.exp_sc_sub_lse h _ _ (by unfold win; rw [tok_val, tok_val]; omega)]
    simp only [tile_qn, tile_kn]
    rfl
  · rw [if_neg hw, I.p_of_not h _ _ (by unfold win; rw [tok_val, tok_val]; omega)]

theorem tile_pp (b : Fin 16) (r s : Fin 128) :
    (I.tile h n).pp b r s = if (gblk n b).val = 0 then 0 else I.p h (tok (gblk n b) r) (tok (prev (gblk n b)) s) := by
  unfold RTile.pp
  have hf : (I.tile h n).fs b = decide ((gblk n b).val = 0) := rfl
  have hv : (prev (gblk n b)).val = (gblk n b).val - 1 := rfl
  by_cases h0 : (gblk n b).val = 0
  · rw [if_neg (by rw [hf]; simp [h0]), if_pos h0]
  · rw [if_neg h0]
    by_cases hw : r.val ≤ s.val
    · rw [if_pos (by rw [hf]; simp [h0, hw]), ← I.exp_sc_sub_lse h _ _ (by unfold win; rw [tok_val, tok_val]; omega)]
      simp only [tile_qn, tile_knp]
      rfl
    · rw [if_neg (by simp [hw]), I.p_of_not h _ _ (by unfold win; rw [tok_val, tok_val]; omega)]

theorem tile_ds (b : Fin 16) (r s : Fin 128) : (I.tile h n).ds b r s = I.ds h (tok (gblk n b) r) (tok (gblk n b) s) := by
  unfold RTile.ds
  rw [tile_p]
  show _ * (I.dp h _ _ + (I.dl _ h - I.dm h _)) = _ * (I.dp h _ _ - (I.dm h _ - I.dl _ h))
  ring

theorem tile_dsp (b : Fin 16) (r s : Fin 128) :
    (I.tile h n).dsp b r s = if (gblk n b).val = 0 then 0 else I.ds h (tok (gblk n b) r) (tok (prev (gblk n b)) s) := by
  unfold RTile.dsp
  rw [tile_pp]
  by_cases h0 : (gblk n b).val = 0
  · rw [if_pos h0, if_pos h0, zero_mul]
  · rw [if_neg h0, if_neg h0]
    show _ * (I.dp h _ _ + (I.dl _ h - I.dm h _)) = _ * (I.dp h _ _ - (I.dm h _ - I.dl _ h))
    ring

theorem tile_dqn (b : Fin 16) (r : Fin 128) (e : Fin 64) : (I.tile h n).dqn b r e = I.dqn (tok (gblk n b) r) h e := by
  unfold RTile.dqn Inp.dqn
  rw [sum_keys (fun j => I.ds h (tok (gblk n b) r) j * I.kn j h e) (gblk n b) r fun j hj => by
    show I.ds h _ j * _ = 0
    rw [I.ds_of_not h _ _ hj, zero_mul]]
  simp only [tile_ds, tile_kn, tile_dsp, tile_knp, ite_mul, zero_mul]

/-- What block `G`'s queries give the keys of the block before. -/
def dkb (G : Fin 32) (s : Fin 128) (e : Fin 64) : ℝ := ∑ r, I.ds h (tok G r) (tok (prev G) s) * I.qn (tok G r) h e
/-- What block `G`'s queries give the values of the block before. -/
def dvb (G : Fin 32) (s : Fin 128) (e : Fin 64) : ℝ := ∑ r, I.p h (tok G r) (tok (prev G) s) * I.dO (tok G r) h e

theorem tile_dkp (b : Fin 16) (s : Fin 128) (e : Fin 64) (h0 : (gblk n b).val ≠ 0) :
    (I.tile h n).dkp b s e = I.dkb h (gblk n b) s e := by
  unfold RTile.dkp dkb
  simp only [tile_dsp, tile_qn, if_neg h0]

theorem tile_dvp (b : Fin 16) (s : Fin 128) (e : Fin 64) (h0 : (gblk n b).val ≠ 0) :
    (I.tile h n).dvp b s e = I.dvb h (gblk n b) s e := by
  unfold RTile.dvp dvb
  simp only [tile_pp, if_neg h0]
  rfl

theorem prev_next (G : Fin 32) (hG : G.val ≠ 31) : prev (next G hG) = G := Fin.ext (by show G.val + 1 - 1 = G.val; omega)

/-- What the tile after, if there is one, gives this tile's last block. -/
def ck (s : Fin 128) (e : Fin 64) : ℝ := if n.val = 1 then 0 else I.dkb h 16 s e
def cv (s : Fin 128) (e : Fin 64) : ℝ := if n.val = 1 then 0 else I.dvb h 16 s e

theorem after_eq (F : Fin 32 → Fin 128 → Fin 64 → ℝ) (f : Fin 16 → Fin 128 → Fin 64 → ℝ)
    (hf : ∀ b s e, (gblk n b).val ≠ 0 → f b s e = F (gblk n b) s e) (b : Fin 16) (s : Fin 128) (e : Fin 64) :
    (if hb : b.val = 15 then (if n.val = 1 then 0 else F 16 s e) else f ⟨b.val + 1, by omega⟩ s e)
      = if hG : (gblk n b).val = 31 then 0 else F (next (gblk n b) hG) s e := by
  have hv := gblk_val n b
  by_cases hb : b.val = 15
  · rw [dif_pos hb]
    by_cases hn : n.val = 1
    · rw [if_pos hn, dif_pos (by omega)]
    · rw [if_neg hn, dif_neg (by omega)]
      exact congrArg (fun G => F G s e) (Fin.ext (by show 16 = (gblk n b).val + 1; omega))
  · rw [dif_neg hb, dif_neg (by omega), hf _ _ _ (by rw [gblk_val]; show 16 * n.val + (b.val + 1) ≠ 0; omega)]
    exact congrArg (fun G => F G s e) (Fin.ext (by show 16 * n.val + (b.val + 1) = (gblk n b).val + 1; omega))

theorem tile_dkn (b : Fin 16) (s : Fin 128) (e : Fin 64) :
    (I.tile h n).dkn (I.ck h n) b s e = I.dkn (tok (gblk n b) s) h e := by
  unfold RTile.dkn Inp.dkn
  rw [sum_queries (fun t => I.ds h t (tok (gblk n b) s) * I.qn t h e) (gblk n b) s fun t ht => by
    show I.ds h t _ * _ = 0
    rw [I.ds_of_not h _ _ ht, zero_mul]]
  simp only [tile_ds, tile_qn]
  refine congrArg _ ((after_eq n (I.dkb h) _ (I.tile_dkp h n) b s e).trans ?_)
  refine dite_congr rfl (fun _ => rfl) fun hG => ?_
  unfold dkb
  rw [prev_next]

theorem tile_dv (b : Fin 16) (s : Fin 128) (e : Fin 64) :
    (I.tile h n).dv (I.cv h n) b s e = I.dv (tok (gblk n b) s) h e := by
  unfold RTile.dv Inp.dv
  rw [sum_queries (fun t => I.p h t (tok (gblk n b) s) * I.dO t h e) (gblk n b) s fun t ht => by
    show I.p h t _ * _ = 0
    rw [I.p_of_not h _ _ ht, zero_mul]]
  simp only [tile_p]
  refine congrArg _ ((after_eq n (I.dvb h) _ (I.tile_dvp h n) b s e).trans ?_)
  refine dite_congr rfl (fun _ => rfl) fun hG => ?_
  unfold dvb
  rw [prev_next]

end Inp

end Cert.Attn
-- ==== Proof.PointHolds.lean ====
/- A grid point's outputs as the specification's gradients, its windows holding a pair of heads' tile. -/
module

public import proofs.«01_k».proof.Proof.PointVal
public import proofs.«01_k».proof.Proof.Split

@[expose] public section

set_option maxRecDepth 16384

noncomputable section

namespace Cert.Attn.Ker

open Idealize.ShloMosaic Cert.KernelIdeal Cert.KernelIdeal.Gen Idealize.ShloMosaic.TcCoe Idealize.SL.Sem

/-- Lane `e` of head `hd` of a pair. -/
def lane (hd : Fin 2) (e : Fin 64) : Fin 128 := ⟨64 * hd.val + e.val, by omega⟩
/-- Head `hd` of pair `hp`. -/
def head (hp hd : Fin 2) : Fin 4 := ⟨2 * hp.val + hd.val, by omega⟩

/-- The windows hold tile `n` of the pair `hp` of heads. -/
structure At (P : Point) (I : Inp) (hp n : Fin 2) : Prop where
  q : ∀ b r hd e, P.q (ix2 (wr b r) (lane hd e)) = (I.q (tok (gblk n b) r) (head hp hd) e : EReal)
  k : ∀ b r hd e, P.k (ix2 (wr b r) (lane hd e)) = (I.k (tok (gblk n b) r) (head hp hd) e : EReal)
  v : ∀ b r hd e, P.v (ix2 (wr b r) (lane hd e)) = (I.v (tok (gblk n b) r) (head hp hd) e : EReal)
  kb : ∀ r hd e, P.kb (ix2 r (lane hd e)) = (I.k (tok (prev (gblk n 0)) r) (head hp hd) e : EReal)
  vb : ∀ r hd e, P.vb (ix2 r (lane hd e)) = (I.v (tok (prev (gblk n 0)) r) (head hp hd) e : EReal)
  o : ∀ b r hd e, P.o (ix2 (wr b r) (lane hd e)) = (I.o (head hp hd) (tok (gblk n b) r) e : EReal)
  d : ∀ b r hd e, P.d (ix2 (wr b r) (lane hd e)) = (I.dO (tok (gblk n b) r) (head hp hd) e : EReal)
  l : ∀ b r hd e, P.l (ix2 (wr b r) (lane hd e)) = (I.lse (head hp hd) (tok (gblk n b) r) : EReal)
  dl : ∀ b r hd e, P.dl (ix2 (wr b r) (lane hd e)) = (I.dl (tok (gblk n b) r) (head hp hd) : EReal)
  gq : ∀ e, P.gq (ix2 0 e) = (I.gq e : EReal)
  gk : ∀ e, P.gk (ix2 0 e) = (I.gk e : EReal)

/-- The same of eleven contents. -/
theorem At.of {q k v : Win} {kb vb : Vec Ideal S128x128 .f32} {o l d dl : Win} {gq gk : Vec Ideal S1x64 .f32} {I : Inp} {hp n : Fin 2}
    (hq : ∀ b r hd e, q (ix2 (wr b r) (lane hd e)) = (I.q (tok (gblk n b) r) (head hp hd) e : EReal))
    (hk : ∀ b r hd e, k (ix2 (wr b r) (lane hd e)) = (I.k (tok (gblk n b) r) (head hp hd) e : EReal))
    (hv : ∀ b r hd e, v (ix2 (wr b r) (lane hd e)) = (I.v (tok (gblk n b) r) (head hp hd) e : EReal))
    (hkb : ∀ r hd e, kb (ix2 r (lane hd e)) = (I.k (tok (prev (gblk n 0)) r) (head hp hd) e : EReal))
    (hvb : ∀ r hd e, vb (ix2 r (lane hd e)) = (I.v (tok (prev (gblk n 0)) r) (head hp hd) e : EReal))
    (ho : ∀ b r hd e, o (ix2 (wr b r) (lane hd e)) = (I.o (head hp hd) (tok (gblk n b) r) e : EReal))
    (hl : ∀ b r hd e, l (ix2 (wr b r) (lane hd e)) = (I.lse (head hp hd) (tok (gblk n b) r) : EReal))
    (hd : ∀ b r hd e, d (ix2 (wr b r) (lane hd e)) = (I.dO (tok (gblk n b) r) (head hp hd) e : EReal))
    (hdl : ∀ b r hd e, dl (ix2 (wr b r) (lane hd e)) = (I.dl (tok (gblk n b) r) (head hp hd) : EReal))
    (hgq : ∀ e, gq (ix2 0 e) = (I.gq e : EReal))
    (hgk : ∀ e, gk (ix2 0 e) = (I.gk e : EReal))
    : At (Point.mk q k v kb vb o l d dl gq gk) I hp n :=
  ⟨hq, hk, hv, hkb, hvb, ho, hd, hl, hdl, hgq, hgk⟩

theorem lane0 (e : Fin 64) : (⟨e.val, by omega⟩ : Fin 128) = lane 0 e := Fin.ext (by show e.val = 64 * 0 + e.val; omega)
theorem lane1 (e : Fin 64) : (⟨64 + e.val, by omega⟩ : Fin 128) = lane 1 e := Fin.ext (by show 64 + e.val = 64 * 1 + e.val; omega)

theorem half_0 {x : Win} {f : Fin 16 → Fin 128 → Fin 2 → Fin 64 → ℝ} (hx : ∀ b r hd e, x (ix2 (wr b r) (lane hd e)) = (f b r hd e : EReal)) :
    HasR (half ![0, 0, 0] slices_S16x128x128_o0_0_0_S16x128x64 (stk x)) fun b r e => f b r 0 e := fun b r e => by
  rw [half0_val, stk_val, lane0, hx]

theorem half_1 {x : Win} {f : Fin 16 → Fin 128 → Fin 2 → Fin 64 → ℝ} (hx : ∀ b r hd e, x (ix2 (wr b r) (lane hd e)) = (f b r hd e : EReal)) :
    HasR (half ![0, 0, 64] slices_S16x128x128_o0_0_64_S16x128x64 (stk x)) fun b r e => f b r 1 e := fun b r e => by
  rw [half64_val, stk_val, lane1, hx]

theorem col_0 {x : Win} {f : Fin 16 → Fin 128 → Fin 2 → ℝ} (hx : ∀ b r hd e, x (ix2 (wr b r) (lane hd e)) = (f b r hd : EReal)) :
    HasC (col ![0, 0, 0] slices_S16x128x128_o0_0_0_S16x128x1 (stk x)) fun b r => f b r 0 := fun b r => by
  rw [col0_val, stk_val]
  exact hx b r 0 0

theorem col_1 {x : Win} {f : Fin 16 → Fin 128 → Fin 2 → ℝ} (hx : ∀ b r hd e, x (ix2 (wr b r) (lane hd e)) = (f b r hd : EReal)) :
    HasC (col ![0, 0, 64] slices_S16x128x128_o0_0_64_S16x128x1 (stk x)) fun b r => f b r 1 := fun b r => by
  rw [col64_val, stk_val]
  exact hx b r 1 0

theorem before_eq (n : Fin 2) {k : FVec Ideal S1x128x64 .f32} {x : Rows} {F : Fin 32 → Fin 128 → Fin 64 → ℝ}
    (hk : ∀ s e, k (ix3 0 s e) = (F (prev (gblk n 0)) s e : EReal)) (hx : HasR x fun b r e => F (gblk n b) r e) :
    HasR (before k x) fun b r e => F (prev (gblk n b)) r e := fun b r e => by
  rw [before_has hk hx]
  refine congrArg _ ?_
  by_cases h : b.val = 0
  · refine (dif_pos h).trans ?_
    exact congrArg (fun b => F (prev (gblk n b)) r e) (Fin.ext h.symm)
  · refine (dif_neg h).trans ?_
    exact congrArg (fun G => F G r e) (Fin.ext (by show 16 * n.val + (b.val - 1) = 16 * n.val + b.val - 1; omega))

theorem fs_eq {i : grid0.Coords} {n : Fin 2} (hi : (i 1).val = 1 - n.val) (b : Fin 16) :
    k0_pay59 (BitVec.ofNat 32 (i 1).val) (ix3 b 0 0) = if decide ((gblk n b).val = 0) = true then 1#1 else 0#1 := by
  have h := fs_val b ⟨1 - n.val, by omega⟩
  rw [hi]
  refine h.trans ?_
  have e : (b.val = 0 ∧ 1 - n.val = 1) ↔ (gblk n b).val = 0 := by rw [gblk_val]; omega
  simp only [decide_eq_true_eq]
  exact if_congr e rfl rfl

variable {i : grid0.Coords} {P : Point} {I : Inp} {hp n : Fin 2} (A : At P I hp n) (hi : (i 1).val = 1 - n.val)

include A hi

theorem holds0 : Holds (P.t0 i) (I.tile (head hp 0) n) where
  q := half_0 A.q
  k := half_0 A.k
  v := half_0 A.v
  kp := before_eq n (F := fun G s e => I.k (tok G s) (head hp 0) e) (fun s e => by rw [half1_0_val, lane0, A.kb]) (half_0 A.k)
  vp := before_eq n (F := fun G s e => I.v (tok G s) (head hp 0) e) (fun s e => by rw [half1_0_val, lane0, A.vb]) (half_0 A.v)
  o := half_0 A.o
  d := half_0 A.d
  l := col_0 A.l
  dl := col_0 A.dl
  gq e := (gain_val _ e).trans (A.gq e)
  gk e := (gain_val _ e).trans (A.gk e)
  fs := fs_eq hi

theorem holds1 : Holds (P.t1 i) (I.tile (head hp 1) n) where
  q := half_1 A.q
  k := half_1 A.k
  v := half_1 A.v
  kp := before_eq n (F := fun G s e => I.k (tok G s) (head hp 1) e) (fun s e => by rw [half1_64_val, lane1, A.kb]) (half_1 A.k)
  vp := before_eq n (F := fun G s e => I.v (tok G s) (head hp 1) e) (fun s e => by rw [half1_64_val, lane1, A.vb]) (half_1 A.v)
  o := half_1 A.o
  d := half_1 A.d
  l := col_1 A.l
  dl := col_1 A.dl
  gq e := (gain_val _ e).trans (A.gq e)
  gk e := (gain_val _ e).trans (A.gk e)
  fs := fs_eq hi

omit A hi in
theorem rows_pair {x y : Rows} {f : Fin 2 → Fin 16 → Fin 128 → Fin 64 → ℝ} (hx : HasR x (f 0)) (hy : HasR y (f 1)) (b r hd e) :
    rows (pair x y) (ix2 (wr b r) (lane hd e)) = (f hd b r e : EReal) := by
  rw [rows_val, pair_val]
  obtain rfl | rfl : hd = 0 ∨ hd = 1 := by omega
  · have hl : (lane 0 e).val = e.val := by show 64 * 0 + e.val = _; omega
    rw [dif_pos (by omega)]
    exact Eq.trans (congrArg (fun e => x (ix3 b r e)) (Fin.ext hl)) (hx b r e)
  · have hl : (lane 1 e).val = 64 + e.val := by show 64 * 1 + e.val = _; omega
    rw [dif_neg (by omega)]
    exact Eq.trans (congrArg (fun e => y (ix3 b r e)) (Fin.ext (by show (lane 1 e).val - 64 = e.val; omega))) (hy b r e)

theorem outQ_val (b r hd e) : P.outQ i (ix2 (wr b r) (lane hd e)) = (I.dq (tok (gblk n b) r) (head hp hd) e : EReal) := by
  refine (rows_pair (f := fun hd b r e => nb ((I.tile (head hp hd) n).q b r) (fun e => (I.tile (head hp hd) n).dqn b r e * (1 / 8)) I.gq e)
    (holds0 A hi).dq (holds1 A hi).dq b r hd e).trans ?_
  simp only [Inp.tile_dqn]
  rfl

/-- The carries hold what the tile after gives. -/
structure Car (cK cV : Carries) (I : Inp) (hp n : Fin 2) : Prop where
  k0 : HasK (car0 cK) (I.ck (head hp 0) n)
  k1 : HasK (car1 cK) (I.ck (head hp 1) n)
  v0 : HasK (car0 cV) (I.cv (head hp 0) n)
  v1 : HasK (car1 cV) (I.cv (head hp 1) n)

variable {cK cV : Carries} (C : Car cK cV I hp n)

include C

theorem outK_val (b r hd e) : P.outK i cK (ix2 (wr b r) (lane hd e)) = (I.dk (tok (gblk n b) r) (head hp hd) e : EReal) := by
  refine (rows_pair (f := fun hd b r e => nb ((I.tile (head hp hd) n).k b r)
    (fun e => (I.tile (head hp hd) n).dkn (I.ck (head hp hd) n) b r e * 1) I.gk e)
    ((holds0 A hi).dk C.k0) ((holds1 A hi).dk C.k1) b r hd e).trans ?_
  simp only [Inp.tile_dkn, mul_one]
  rfl

theorem outV_val (b r hd e) : P.outV i cV (ix2 (wr b r) (lane hd e)) = (I.dv (tok (gblk n b) r) (head hp hd) e : EReal) := by
  refine (rows_pair (f := fun hd b r e => (I.tile (head hp hd) n).dv (I.cv (head hp hd) n) b r e)
    ((holds0 A hi).dv C.v0) ((holds1 A hi).dv C.v1) b r hd e).trans ?_
  simp only [Inp.tile_dv]

omit C

/-- One head's tile's part of a gain's gradient. -/
def part (f : Fin 4096 → Fin 4 → Fin 64 → ℝ) (h : Fin 4) (n : Fin 2) (e : Fin 64) : ℝ := ∑ b, ∑ r, f (tok (gblk n b) r) h e

theorem outGq_val {g : Vec Ideal S1x64 .f32} {u : Fin 64 → ℝ} (hg : HasL g u) :
    HasL (P.outGq i g) fun e => u e + part I.pgq (head hp 0) n e + part I.pgq (head hp 1) n e := by
  have h := gadd_val (gadd_val hg (holds0 A hi).dgq) (holds1 A hi).dgq
  simp only [Inp.tile_dqn] at h
  exact h

include C in
theorem outGk_val {g : Vec Ideal S1x64 .f32} {u : Fin 64 → ℝ} (hg : HasL g u) :
    HasL (P.outGk i cK g) fun e => u e + part I.pgk (head hp 0) n e + part I.pgk (head hp 1) n e := by
  have h := gadd_val (gadd_val hg ((holds0 A hi).dgk C.k0)) ((holds1 A hi).dgk C.k1)
  simp only [Inp.tile_dkn, mul_one] at h
  exact h

/-- The last tile leaves the carries the first one needs. -/
theorem car_next (hn : n = 1) : Car (P.carK i) (P.carV i) I hp 0 := by
  have hg : (gblk n 0).val ≠ 0 := by rw [gblk_val, hn]; decide
  have h16 : gblk n 0 = 16 := by rw [hn]; decide
  refine ⟨fun s e => ?_, fun s e => ?_, fun s e => ?_, fun s e => ?_⟩
  · refine (car0_carr _ _ s e).trans ((first_has (holds0 A hi).dkp s e).trans ?_)
    rw [Inp.tile_dkp _ _ _ _ _ _ hg, h16]
    rfl
  · refine (car1_carr _ _ s e).trans ((first_has (holds1 A hi).dkp s e).trans ?_)
    rw [Inp.tile_dkp _ _ _ _ _ _ hg, h16]
    rfl
  · refine (car0_carr _ _ s e).trans ((first_has (holds0 A hi).dvp s e).trans ?_)
    rw [Inp.tile_dvp _ _ _ _ _ _ hg, h16]
    rfl
  · refine (car1_carr _ _ s e).trans ((first_has (holds1 A hi).dvp s e).trans ?_)
    rw [Inp.tile_dvp _ _ _ _ _ _ hg, h16]
    rfl

omit A hi in
/-- Nothing comes after the last tile. -/
theorem car_none : Car cnone cnone I hp 1 :=
  ⟨car0_cnone, car1_cnone, car0_cnone, car1_cnone⟩

end Cert.Attn.Ker
-- ==== Proof.OutsA.lean ====
/- What a grid point of case A leaves: the outputs and the carries of the vocabulary. -/
module

public import proofs.«01_k».proof.Proof.Bridge

@[expose] public section

set_option maxRecDepth 16384

noncomputable section

namespace Cert.Attn.Ker

open Idealize.ShloMosaic Cert.KernelIdeal Cert.KernelIdeal.Gen Idealize.ShloMosaic.TcCoe Idealize.SL.Sem

set_option maxHeartbeats 4000000 in
/-- The seven results of case A in the vocabulary. -/
theorem outs_A (c : Dev nD) (i : grid0.Coords) (arg2 : Memref sig .tc .vmem S2048x128 .f32) (harg2 : arg2.IsWhole)
  (arg3 : Memref sig .tc .vmem S2048x128 .f32) (harg3 : arg3.IsWhole) (arg4 : Memref sig .tc .vmem S2048x128 .f32)
  (harg4 : arg4.IsWhole) (arg5 : Memref sig .tc .vmem S128x128 .f32) (harg5 : arg5.IsWhole) (arg6 : Memref sig .tc .vmem
  S128x128 .f32) (harg6 : arg6.IsWhole) (arg7 : Memref sig .tc .vmem S2048x128 .f32) (harg7 : arg7.IsWhole) (arg8 :
  Memref sig .tc .vmem S2048x128 .f32) (harg8 : arg8.IsWhole) (arg9 : Memref sig .tc .vmem S2048x128 .f32) (harg9 :
  arg9.IsWhole) (arg10 : Memref sig .tc .vmem S2048x128 .f32) (harg10 : arg10.IsWhole) (arg11 : Memref sig .tc .vmem
  S1x64 .f32) (harg11 : arg11.IsWhole) (arg12 : Memref sig .tc .vmem S1x64 .f32) (harg12 : arg12.IsWhole) (arg13 :
  Memref sig .tc .vmem S2048x128 .f32) (harg13 : arg13.IsWhole) (arg14 : Memref sig .tc .vmem S2048x128 .f32) (harg14 :
  arg14.IsWhole) (arg15 : Memref sig .tc .vmem S2048x128 .f32) (harg15 : arg15.IsWhole) (arg16 : Memref sig .tc .vmem
  S1x64 .f32) (harg16 : arg16.IsWhole) (arg17 : Memref sig .tc .vmem S1x64 .f32) (harg17 : arg17.IsWhole) (arg18 :
  Memref sig .tc .vmem S2x1x128x64 .f32) (harg18 : arg18.IsWhole) (arg19 : Memref sig .tc .vmem S2x1x128x64 .f32)
  (harg19 : arg19.IsWhole) (hc0 : cond0_0 i) (hc1 : cond0_1 i) (x0 : Vec Ideal S2048x128 .f32) (x1 : Vec Ideal S2048x128
  .f32) (x2 : Vec Ideal S2048x128 .f32) (x3 : Vec Ideal S128x128 .f32) (x4 : Vec Ideal S128x128 .f32) (x5 : Vec Ideal
  S2048x128 .f32) (x6 : Vec Ideal S2048x128 .f32) (x7 : Vec Ideal S2048x128 .f32) (x8 : Vec Ideal S2048x128 .f32) (x9 :
  Vec Ideal S1x64 .f32) (x10 : Vec Ideal S1x64 .f32) :
    out0_A_11 c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 hc0 hc1 x0 x1 x2 x3 x4 x5 x6 x7 x8 x9 x10 = Point.outQ i (Point.mk x0 x1 x2 x3 x4 x5 x6 x7 x8 x9 x10) ∧
    out0_A_12 c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 hc0 hc1 x0 x1 x2 x3 x4 x5 x6 x7 x8 x9 x10 = Point.outK i (Point.mk x0 x1 x2 x3 x4 x5 x6 x7 x8 x9 x10) cnone ∧
    out0_A_13 c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 hc0 hc1 x0 x1 x2 x3 x4 x5 x6 x7 x8 x9 x10 = Point.outV i (Point.mk x0 x1 x2 x3 x4 x5 x6 x7 x8 x9 x10) cnone ∧
    out0_A_14 c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 hc0 hc1 x0 x1 x2 x3 x4 x5 x6 x7 x8 x9 x10 = Point.outGq i (Point.mk x0 x1 x2 x3 x4 x5 x6 x7 x8 x9 x10)
      gnone ∧
    out0_A_15 c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 hc0 hc1 x0 x1 x2 x3 x4 x5 x6 x7 x8 x9 x10 = Point.outGk i (Point.mk x0 x1 x2 x3 x4 x5 x6 x7 x8 x9 x10)
      cnone gnone ∧
    sout0_A_0 c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 hc0 hc1 x0 x1 x2 x3 x4 x5 x6 x7 x8 x9 x10 = Point.carK i (Point.mk x0 x1 x2 x3 x4 x5 x6 x7 x8 x9 x10) ∧
    sout0_A_1 c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 hc0 hc1 x0 x1 x2 x3 x4 x5 x6 x7 x8 x9 x10 = Point.carV i (Point.mk x0 x1 x2 x3 x4 x5 x6 x7 x8 x9 x10) := by
  refine ⟨?_, ?_, ?_, ?_, ?_, ?_, ?_⟩
  on_goal 1 =>
    unfold out0_A_11
    rw [View.read_writes_eq_canon _ _ _ (fun _ => cover0_A_11 ..)]
  on_goal 2 =>
    unfold out0_A_12
    rw [View.read_writes_eq_canon _ _ _ (fun _ => cover0_A_12 ..)]
  on_goal 3 =>
    unfold out0_A_13
    rw [View.read_writes_eq_canon _ _ _ (fun _ => cover0_A_13 ..)]
  on_goal 4 =>
    unfold out0_A_14
    rw [View.read_writes_eq_canon _ _ _ (fun _ => cover0_A_14 ..)]
  on_goal 5 =>
    unfold out0_A_15
    rw [View.read_writes_eq_canon _ _ _ (fun _ => cover0_A_15 ..)]
  on_goal 6 =>
    unfold sout0_A_0
    rw [View.read_writes_eq_canon _ _ _ (fun _ => scover0_A_0 ..)]
  on_goal 7 =>
    unfold sout0_A_1
    rw [View.read_writes_eq_canon _ _ _ (fun _ => scover0_A_1 ..)]
  all_goals
    unfold kernelRun0_A
    dsimp only
    sl_unfold_words
    simp only [View.readAt_eq_ld, harg2.read_unread, harg3.read_unread, harg4.read_unread, harg5.read_unread, harg6.read_unread,
      harg7.read_unread, harg8.read_unread, harg9.read_unread, harg10.read_unread, harg11.read_unread,
      harg12.read_unread, harg13.read_unread, harg14.read_unread, harg15.read_unread, harg16.read_unread,
      harg17.read_unread, harg18.read_unread, harg19.read_unread]
    try simp only [rb0, rb1]
    try simp (disch := decide) only [View.canon_cons_unit_lit', View.readCov_cons_unit_lit']
    try rw [canon_carr]
    simp only [stk_q, stk_k, stk_v, stk_d, stk_o, stk_l, stk_dl]
    simp only [Point.outQ, Point.outK, Point.outV, Point.outGq, Point.outGk, Point.carK, Point.carV, gadd, gnone, cnone, Tile.dq,
      Tile.dk, Tile.dv, Tile.dgq, Tile.dgk, Tile.dkn, Tile.dvp, Tile.dkp, Tile.dqn, Tile.dsp, Tile.ds, Tile.c, Tile.pp,
      Tile.p, Tile.knp, Tile.kn, Tile.qn, Tile.one, Tile.eighth, Point.t0, Point.t1, lsum, cb, cbs, rsv, xh, gb, nrm,
      sco, ri, si, ninf, pcur, pprev, cor, dsv, mqry, mkey, before, after, first, nbv, gsum, pair, blk, half, half1,
      col, gain, rows, car0, car1, k0_pay1, k0_pay2, k0_pay3, k0_pay4, k0_pay5, k0_pay6, k0_pay7, k0_pay8, k0_pay9,
      k0_pay10, k0_pay11, k0_pay12, k0_pay13, k0_pay14, k0_pay15, k0_pay16, k0_pay17, k0_pay18, k0_pay19, k0_pay20,
      k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42,
      k0_pay43, k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64,
      k0_pay65, k0_pay66, k0_pay67, k0_pay68, k0_pay69, k0_pay70, k0_pay71, k0_pay72, k0_pay73, k0_pay74, k0_pay75,
      k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97,
      k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117,
      k0_pay118, k0_pay119, k0_pay120, k0_pay121, k0_pay122, k0_pay123, k0_pay124, k0_pay125, k0_pay126, k0_pay127,
      k0_pay128, k0_pay129, k0_pay130, k0_pay131, k0_pay132, k0_pay133, k0_pay134, k0_pay135, k0_pay136, k0_pay137,
      k0_pay138, k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156, k0_pay157,
      k0_pay158, k0_pay159, k0_pay160, k0_pay161, k0_pay162, k0_pay163, k0_pay164, k0_pay165, k0_pay166, k0_pay167,
      k0_pay168, k0_pay169, k0_pay170, k0_pay171, k0_pay172, k0_pay173, k0_pay174, k0_pay175, k0_pay176, k0_pay177,
      k0_pay178, k0_pay179, k0_pay180, k0_pay181, k0_pay182, k0_pay183]

end Cert.Attn.Ker
-- ==== Proof.OutsB.lean ====
/- What a grid point of case B leaves: the outputs and the carries of the vocabulary. -/
module

public import proofs.«01_k».proof.Proof.Bridge

@[expose] public section

set_option maxRecDepth 16384

noncomputable section

namespace Cert.Attn.Ker

open Idealize.ShloMosaic Cert.KernelIdeal Cert.KernelIdeal.Gen Idealize.ShloMosaic.TcCoe Idealize.SL.Sem

set_option maxHeartbeats 4000000 in
/-- The seven results of case B in the vocabulary. -/
theorem outs_B (c : Dev nD) (i : grid0.Coords) (arg2 : Memref sig .tc .vmem S2048x128 .f32) (harg2 : arg2.IsWhole)
  (arg3 : Memref sig .tc .vmem S2048x128 .f32) (harg3 : arg3.IsWhole) (arg4 : Memref sig .tc .vmem S2048x128 .f32)
  (harg4 : arg4.IsWhole) (arg5 : Memref sig .tc .vmem S128x128 .f32) (harg5 : arg5.IsWhole) (arg6 : Memref sig .tc .vmem
  S128x128 .f32) (harg6 : arg6.IsWhole) (arg7 : Memref sig .tc .vmem S2048x128 .f32) (harg7 : arg7.IsWhole) (arg8 :
  Memref sig .tc .vmem S2048x128 .f32) (harg8 : arg8.IsWhole) (arg9 : Memref sig .tc .vmem S2048x128 .f32) (harg9 :
  arg9.IsWhole) (arg10 : Memref sig .tc .vmem S2048x128 .f32) (harg10 : arg10.IsWhole) (arg11 : Memref sig .tc .vmem
  S1x64 .f32) (harg11 : arg11.IsWhole) (arg12 : Memref sig .tc .vmem S1x64 .f32) (harg12 : arg12.IsWhole) (arg13 :
  Memref sig .tc .vmem S2048x128 .f32) (harg13 : arg13.IsWhole) (arg14 : Memref sig .tc .vmem S2048x128 .f32) (harg14 :
  arg14.IsWhole) (arg15 : Memref sig .tc .vmem S2048x128 .f32) (harg15 : arg15.IsWhole) (arg16 : Memref sig .tc .vmem
  S1x64 .f32) (harg16 : arg16.IsWhole) (arg17 : Memref sig .tc .vmem S1x64 .f32) (harg17 : arg17.IsWhole) (arg18 :
  Memref sig .tc .vmem S2x1x128x64 .f32) (harg18 : arg18.IsWhole) (arg19 : Memref sig .tc .vmem S2x1x128x64 .f32)
  (harg19 : arg19.IsWhole) (hc0 : ¬cond0_0 i) (hc1 : ¬cond0_1 i) (x0 : Vec Ideal S2048x128 .f32) (x1 : Vec Ideal
  S2048x128 .f32) (x2 : Vec Ideal S2048x128 .f32) (x3 : Vec Ideal S128x128 .f32) (x4 : Vec Ideal S128x128 .f32) (x5 :
  Vec Ideal S2048x128 .f32) (x6 : Vec Ideal S2048x128 .f32) (x7 : Vec Ideal S2048x128 .f32) (x8 : Vec Ideal S2048x128
  .f32) (x9 : Vec Ideal S1x64 .f32) (x10 : Vec Ideal S1x64 .f32) (xo14 : Vec Ideal S1x64 .f32) (xo15 : Vec Ideal S1x64
  .f32) (xs0 : Vec Ideal S2x1x128x64 .f32) (xs1 : Vec Ideal S2x1x128x64 .f32) :
    out0_B_11 c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 hc0 hc1 x0 x1 x2 x3 x4 x5 x6 x7 x8 x9 x10 xo14 xo15 xs0 xs1 = Point.outQ i (Point.mk x0 x1 x2 x3 x4 x5 x6
      x7 x8 x9 x10) ∧
    out0_B_12 c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 hc0 hc1 x0 x1 x2 x3 x4 x5 x6 x7 x8 x9 x10 xo14 xo15 xs0 xs1 = Point.outK i (Point.mk x0 x1 x2 x3 x4 x5 x6
      x7 x8 x9 x10) xs0 ∧
    out0_B_13 c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 hc0 hc1 x0 x1 x2 x3 x4 x5 x6 x7 x8 x9 x10 xo14 xo15 xs0 xs1 = Point.outV i (Point.mk x0 x1 x2 x3 x4 x5 x6
      x7 x8 x9 x10) xs1 ∧
    out0_B_14 c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 hc0 hc1 x0 x1 x2 x3 x4 x5 x6 x7 x8 x9 x10 xo14 xo15 xs0 xs1 = Point.outGq i (Point.mk x0 x1 x2 x3 x4 x5 x6
      x7 x8 x9 x10) xo14 ∧
    out0_B_15 c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 hc0 hc1 x0 x1 x2 x3 x4 x5 x6 x7 x8 x9 x10 xo14 xo15 xs0 xs1 = Point.outGk i (Point.mk x0 x1 x2 x3 x4 x5 x6
      x7 x8 x9 x10) xs0 xo15 ∧
    sout0_B_0 c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 hc0 hc1 x0 x1 x2 x3 x4 x5 x6 x7 x8 x9 x10 xo14 xo15 xs0 xs1 = Point.carK i (Point.mk x0 x1 x2 x3 x4 x5 x6
      x7 x8 x9 x10) ∧
    sout0_B_1 c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 hc0 hc1 x0 x1 x2 x3 x4 x5 x6 x7 x8 x9 x10 xo14 xo15 xs0 xs1 = Point.carV i (Point.mk x0 x1 x2 x3 x4 x5 x6
      x7 x8 x9 x10) := by
  refine ⟨?_, ?_, ?_, ?_, ?_, ?_, ?_⟩
  on_goal 1 =>
    unfold out0_B_11
    rw [View.read_writes_eq_canon _ _ _ (fun _ => cover0_B_11 ..)]
  on_goal 2 =>
    unfold out0_B_12
    rw [View.read_writes_eq_canon _ _ _ (fun _ => cover0_B_12 ..)]
  on_goal 3 =>
    unfold out0_B_13
    rw [View.read_writes_eq_canon _ _ _ (fun _ => cover0_B_13 ..)]
  on_goal 4 =>
    unfold out0_B_14
    rw [View.read_writes_eq_canon _ _ _ (fun _ => cover0_B_14 ..)]
  on_goal 5 =>
    unfold out0_B_15
    rw [View.read_writes_eq_canon _ _ _ (fun _ => cover0_B_15 ..)]
  on_goal 6 =>
    unfold sout0_B_0
    rw [View.read_writes_eq_canon _ _ _ (fun _ => scover0_B_0 ..)]
  on_goal 7 =>
    unfold sout0_B_1
    rw [View.read_writes_eq_canon _ _ _ (fun _ => scover0_B_1 ..)]
  all_goals
    unfold kernelRun0_B
    dsimp only
    sl_unfold_words
    simp only [View.readAt_eq_ld, harg2.read_unread, harg3.read_unread, harg4.read_unread, harg5.read_unread, harg6.read_unread,
      harg7.read_unread, harg8.read_unread, harg9.read_unread, harg10.read_unread, harg11.read_unread,
      harg12.read_unread, harg13.read_unread, harg14.read_unread, harg15.read_unread, harg16.read_unread,
      harg17.read_unread, harg18.read_unread, harg19.read_unread]
    try simp (disch := decide) only [View.canon_cons_unit_lit', View.readCov_cons_unit_lit']
    try rw [canon_carr]
    simp only [stk_q, stk_k, stk_v, stk_d, stk_o, stk_l, stk_dl]
    simp only [Point.outQ, Point.outK, Point.outV, Point.outGq, Point.outGk, Point.carK, Point.carV, gadd, gnone, cnone, Tile.dq,
      Tile.dk, Tile.dv, Tile.dgq, Tile.dgk, Tile.dkn, Tile.dvp, Tile.dkp, Tile.dqn, Tile.dsp, Tile.ds, Tile.c, Tile.pp,
      Tile.p, Tile.knp, Tile.kn, Tile.qn, Tile.one, Tile.eighth, Point.t0, Point.t1, lsum, cb, cbs, rsv, xh, gb, nrm,
      sco, ri, si, ninf, pcur, pprev, cor, dsv, mqry, mkey, before, after, first, nbv, gsum, pair, blk, half, half1,
      col, gain, rows, car0, car1, k0_pay1, k0_pay2, k0_pay3, k0_pay4, k0_pay5, k0_pay6, k0_pay7, k0_pay8, k0_pay9,
      k0_pay10, k0_pay11, k0_pay12, k0_pay13, k0_pay14, k0_pay15, k0_pay16, k0_pay17, k0_pay18, k0_pay19, k0_pay20,
      k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42,
      k0_pay43, k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64,
      k0_pay65, k0_pay66, k0_pay67, k0_pay68, k0_pay69, k0_pay70, k0_pay71, k0_pay72, k0_pay73, k0_pay74, k0_pay75,
      k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97,
      k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117,
      k0_pay118, k0_pay119, k0_pay120, k0_pay121, k0_pay122, k0_pay123, k0_pay124, k0_pay125, k0_pay126, k0_pay127,
      k0_pay128, k0_pay129, k0_pay130, k0_pay131, k0_pay132, k0_pay133, k0_pay134, k0_pay135, k0_pay136, k0_pay137,
      k0_pay138, k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156, k0_pay157,
      k0_pay158, k0_pay159, k0_pay160, k0_pay161, k0_pay162, k0_pay163, k0_pay164, k0_pay165, k0_pay166, k0_pay167,
      k0_pay168, k0_pay169, k0_pay170, k0_pay171, k0_pay172, k0_pay173, k0_pay174, k0_pay175, k0_pay176, k0_pay177,
      k0_pay178, k0_pay179, k0_pay180, k0_pay181, k0_pay182, k0_pay183, gld]

end Cert.Attn.Ker
-- ==== Proof.OutsC.lean ====
/- What a grid point of case C leaves: the outputs and the carries of the vocabulary. -/
module

public import proofs.«01_k».proof.Proof.Bridge

@[expose] public section

set_option maxRecDepth 16384

noncomputable section

namespace Cert.Attn.Ker

open Idealize.ShloMosaic Cert.KernelIdeal Cert.KernelIdeal.Gen Idealize.ShloMosaic.TcCoe Idealize.SL.Sem

set_option maxHeartbeats 4000000 in
/-- The seven results of case C in the vocabulary. -/
theorem outs_C (c : Dev nD) (i : grid0.Coords) (arg2 : Memref sig .tc .vmem S2048x128 .f32) (harg2 : arg2.IsWhole)
  (arg3 : Memref sig .tc .vmem S2048x128 .f32) (harg3 : arg3.IsWhole) (arg4 : Memref sig .tc .vmem S2048x128 .f32)
  (harg4 : arg4.IsWhole) (arg5 : Memref sig .tc .vmem S128x128 .f32) (harg5 : arg5.IsWhole) (arg6 : Memref sig .tc .vmem
  S128x128 .f32) (harg6 : arg6.IsWhole) (arg7 : Memref sig .tc .vmem S2048x128 .f32) (harg7 : arg7.IsWhole) (arg8 :
  Memref sig .tc .vmem S2048x128 .f32) (harg8 : arg8.IsWhole) (arg9 : Memref sig .tc .vmem S2048x128 .f32) (harg9 :
  arg9.IsWhole) (arg10 : Memref sig .tc .vmem S2048x128 .f32) (harg10 : arg10.IsWhole) (arg11 : Memref sig .tc .vmem
  S1x64 .f32) (harg11 : arg11.IsWhole) (arg12 : Memref sig .tc .vmem S1x64 .f32) (harg12 : arg12.IsWhole) (arg13 :
  Memref sig .tc .vmem S2048x128 .f32) (harg13 : arg13.IsWhole) (arg14 : Memref sig .tc .vmem S2048x128 .f32) (harg14 :
  arg14.IsWhole) (arg15 : Memref sig .tc .vmem S2048x128 .f32) (harg15 : arg15.IsWhole) (arg16 : Memref sig .tc .vmem
  S1x64 .f32) (harg16 : arg16.IsWhole) (arg17 : Memref sig .tc .vmem S1x64 .f32) (harg17 : arg17.IsWhole) (arg18 :
  Memref sig .tc .vmem S2x1x128x64 .f32) (harg18 : arg18.IsWhole) (arg19 : Memref sig .tc .vmem S2x1x128x64 .f32)
  (harg19 : arg19.IsWhole) (hc0 : ¬cond0_0 i) (hc1 : cond0_1 i) (x0 : Vec Ideal S2048x128 .f32) (x1 : Vec Ideal
  S2048x128 .f32) (x2 : Vec Ideal S2048x128 .f32) (x3 : Vec Ideal S128x128 .f32) (x4 : Vec Ideal S128x128 .f32) (x5 :
  Vec Ideal S2048x128 .f32) (x6 : Vec Ideal S2048x128 .f32) (x7 : Vec Ideal S2048x128 .f32) (x8 : Vec Ideal S2048x128
  .f32) (x9 : Vec Ideal S1x64 .f32) (x10 : Vec Ideal S1x64 .f32) (xo14 : Vec Ideal S1x64 .f32) (xo15 : Vec Ideal S1x64
  .f32) :
    out0_C_11 c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 hc0 hc1 x0 x1 x2 x3 x4 x5 x6 x7 x8 x9 x10 xo14 xo15 = Point.outQ i (Point.mk x0 x1 x2 x3 x4 x5 x6 x7 x8 x9
      x10) ∧
    out0_C_12 c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 hc0 hc1 x0 x1 x2 x3 x4 x5 x6 x7 x8 x9 x10 xo14 xo15 = Point.outK i (Point.mk x0 x1 x2 x3 x4 x5 x6 x7 x8 x9
      x10) cnone ∧
    out0_C_13 c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 hc0 hc1 x0 x1 x2 x3 x4 x5 x6 x7 x8 x9 x10 xo14 xo15 = Point.outV i (Point.mk x0 x1 x2 x3 x4 x5 x6 x7 x8 x9
      x10) cnone ∧
    out0_C_14 c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 hc0 hc1 x0 x1 x2 x3 x4 x5 x6 x7 x8 x9 x10 xo14 xo15 = Point.outGq i (Point.mk x0 x1 x2 x3 x4 x5 x6 x7 x8 x9
      x10) xo14 ∧
    out0_C_15 c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 hc0 hc1 x0 x1 x2 x3 x4 x5 x6 x7 x8 x9 x10 xo14 xo15 = Point.outGk i (Point.mk x0 x1 x2 x3 x4 x5 x6 x7 x8 x9
      x10) cnone xo15 ∧
    sout0_C_0 c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 hc0 hc1 x0 x1 x2 x3 x4 x5 x6 x7 x8 x9 x10 xo14 xo15 = Point.carK i (Point.mk x0 x1 x2 x3 x4 x5 x6 x7 x8 x9
      x10) ∧
    sout0_C_1 c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 hc0 hc1 x0 x1 x2 x3 x4 x5 x6 x7 x8 x9 x10 xo14 xo15 = Point.carV i (Point.mk x0 x1 x2 x3 x4 x5 x6 x7 x8 x9
      x10) := by
  refine ⟨?_, ?_, ?_, ?_, ?_, ?_, ?_⟩
  on_goal 1 =>
    unfold out0_C_11
    rw [View.read_writes_eq_canon _ _ _ (fun _ => cover0_C_11 ..)]
  on_goal 2 =>
    unfold out0_C_12
    rw [View.read_writes_eq_canon _ _ _ (fun _ => cover0_C_12 ..)]
  on_goal 3 =>
    unfold out0_C_13
    rw [View.read_writes_eq_canon _ _ _ (fun _ => cover0_C_13 ..)]
  on_goal 4 =>
    unfold out0_C_14
    rw [View.read_writes_eq_canon _ _ _ (fun _ => cover0_C_14 ..)]
  on_goal 5 =>
    unfold out0_C_15
    rw [View.read_writes_eq_canon _ _ _ (fun _ => cover0_C_15 ..)]
  on_goal 6 =>
    unfold sout0_C_0
    rw [View.read_writes_eq_canon _ _ _ (fun _ => scover0_C_0 ..)]
  on_goal 7 =>
    unfold sout0_C_1
    rw [View.read_writes_eq_canon _ _ _ (fun _ => scover0_C_1 ..)]
  all_goals
    unfold kernelRun0_C
    dsimp only
    sl_unfold_words
    simp only [View.readAt_eq_ld, harg2.read_unread, harg3.read_unread, harg4.read_unread, harg5.read_unread, harg6.read_unread,
      harg7.read_unread, harg8.read_unread, harg9.read_unread, harg10.read_unread, harg11.read_unread,
      harg12.read_unread, harg13.read_unread, harg14.read_unread, harg15.read_unread, harg16.read_unread,
      harg17.read_unread, harg18.read_unread, harg19.read_unread]
    try simp only [rb0, rb1]
    try simp (disch := decide) only [View.canon_cons_unit_lit', View.readCov_cons_unit_lit']
    try rw [canon_carr]
    simp only [stk_q, stk_k, stk_v, stk_d, stk_o, stk_l, stk_dl]
    simp only [Point.outQ, Point.outK, Point.outV, Point.outGq, Point.outGk, Point.carK, Point.carV, gadd, gnone, cnone, Tile.dq,
      Tile.dk, Tile.dv, Tile.dgq, Tile.dgk, Tile.dkn, Tile.dvp, Tile.dkp, Tile.dqn, Tile.dsp, Tile.ds, Tile.c, Tile.pp,
      Tile.p, Tile.knp, Tile.kn, Tile.qn, Tile.one, Tile.eighth, Point.t0, Point.t1, lsum, cb, cbs, rsv, xh, gb, nrm,
      sco, ri, si, ninf, pcur, pprev, cor, dsv, mqry, mkey, before, after, first, nbv, gsum, pair, blk, half, half1,
      col, gain, rows, car0, car1, k0_pay1, k0_pay2, k0_pay3, k0_pay4, k0_pay5, k0_pay6, k0_pay7, k0_pay8, k0_pay9,
      k0_pay10, k0_pay11, k0_pay12, k0_pay13, k0_pay14, k0_pay15, k0_pay16, k0_pay17, k0_pay18, k0_pay19, k0_pay20,
      k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42,
      k0_pay43, k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64,
      k0_pay65, k0_pay66, k0_pay67, k0_pay68, k0_pay69, k0_pay70, k0_pay71, k0_pay72, k0_pay73, k0_pay74, k0_pay75,
      k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97,
      k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117,
      k0_pay118, k0_pay119, k0_pay120, k0_pay121, k0_pay122, k0_pay123, k0_pay124, k0_pay125, k0_pay126, k0_pay127,
      k0_pay128, k0_pay129, k0_pay130, k0_pay131, k0_pay132, k0_pay133, k0_pay134, k0_pay135, k0_pay136, k0_pay137,
      k0_pay138, k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156, k0_pay157,
      k0_pay158, k0_pay159, k0_pay160, k0_pay161, k0_pay162, k0_pay163, k0_pay164, k0_pay165, k0_pay166, k0_pay167,
      k0_pay168, k0_pay169, k0_pay170, k0_pay171, k0_pay172, k0_pay173, k0_pay174, k0_pay175, k0_pay176, k0_pay177,
      k0_pay178, k0_pay179, k0_pay180, k0_pay181, k0_pay182, k0_pay183, gld]

end Cert.Attn.Ker
-- ==== Proof.Blocks.lean ====
/- The grid's points: which tile of which pair of heads each point's windows hold. -/
module

public import proofs.«01_k».proof.Proof.PointHolds
public import proofs.«01_k».proof.Proof.Args
public import proofs.«01_k».proof.Proof.OutsA
public import proofs.«01_k».proof.Proof.OutsB
public import proofs.«01_k».proof.Proof.OutsC
public import proofs.«01_k».proof.Proof.Gen.KernelIdeal.Value
public import Idealize.ShloMosaic.Lib.Pipeline.ValueKit

@[expose] public section

set_option maxRecDepth 16384

noncomputable section

namespace Cert.Attn.Ker

open Idealize.ShloMosaic Cert.KernelIdeal Cert.KernelIdeal.Gen Idealize.ShloMosaic.TcCoe Idealize.SL.Sem

variable (m : (ℓ : Loc nD τ sig) → Buf (Elt Ideal) ℓ) (c : Dev nD)

/-- The windows' contents at a point. -/
def pnt (t : Fin cfg0.N) : Point := Point.mk (iblk m c 0 t) (iblk m c 1 t) (iblk m c 2 t) (iblk m c 3 t) (iblk m c 4 t) (iblk m c 5 t)
  (iblk m c 6 t) (iblk m c 7 t) (iblk m c 8 t) (iblk m c 9 t) (iblk m c 10 t)

theorem lt_N (t : Fin cfg0.N) : t.val < 4 := lt_of_lt_of_eq t.isLt N_0

/-- The pair of heads and the tile of a point: the pairs in turn, each pair's last tile first. -/
def hpt (t : Nat) : Fin 2 := ⟨t / 2 % 2, by omega⟩
def ntt (t : Nat) : Fin 2 := ⟨1 - t % 2, by omega⟩

theorem coords1 (t : Fin cfg0.N) : (grid0.coords t 1).val = 1 - (ntt t.val).val := by
  have h : ∀ t : Fin grid0.N, (grid0.coords t 1).val = t.val % 2 := by decide +kernel
  refine (h t).trans ?_
  show t.val % 2 = 1 - (1 - t.val % 2)
  omega

/-- The arrays the call finds hold the arguments, the forward pass's outputs and logarithms, and the logarithms'
    gradients. -/
structure Host (I : Inp) (x2 : Arr 4096 4) : Prop where
  args : Reads I (V m c main_arg0) (V m c main_arg1) x2 (V m c main_arg3) (V m c main_arg4)
  o : ∀ (j : S4096x256.Idx) (t : Fin 4096) (h : Fin 4) (e : Fin 64), (j 0).val = t.val → (j 1).val = h.val * 64 + e.val →
    V m c main_v79 j = (I.o h t e : EReal)
  l : ∀ (j : S4096x256.Idx) (t : Fin 4096) (h : Fin 4) (e : Fin 64), (j 0).val = t.val → (j 1).val = h.val * 64 + e.val →
    V m c main_v83 j = (I.lse h t : EReal)
  dl : ∀ (j : S4096x256.Idx) (t : Fin 4096) (h : Fin 4) (e : Fin 64), (j 0).val = t.val → (j 1).val = h.val * 64 + e.val →
    V m c main_v86 j = (I.dl t h : EReal)

theorem idx : ∀ t : Fin cfg0.N, win0_0.index t = ![1 - t.val % 2, t.val / 2] ∧ win0_1.index t = ![1 - t.val % 2, 6 + t.val / 2]
    ∧ win0_2.index t = ![1 - t.val % 2, 12 + t.val / 2] ∧ win0_3.index t = ![16 * (1 - t.val % 2) - 1, 6 + t.val / 2]
    ∧ win0_4.index t = ![16 * (1 - t.val % 2) - 1, 12 + t.val / 2] ∧ win0_5.index t = ![1 - t.val % 2, t.val / 2]
    ∧ win0_6.index t = ![1 - t.val % 2, t.val / 2] ∧ win0_7.index t = ![1 - t.val % 2, t.val / 2]
    ∧ win0_8.index t = ![1 - t.val % 2, t.val / 2] ∧ win0_9.index t = ![0, 0] ∧ win0_10.index t = ![0, 0]
    ∧ win0_11.index t = ![1 - t.val % 2, t.val / 2] ∧ win0_12.index t = ![1 - t.val % 2, t.val / 2]
    ∧ win0_13.index t = ![1 - t.val % 2, t.val / 2] :=
  (by decide +kernel : ∀ t : Fin grid0.N, _)

theorem row_eq (t : Nat) (b : Fin 16) (r : Fin 128) : (1 - t % 2) * 2048 + (wr b r).val = (tok (gblk (ntt t) b) r).val := by
  show (1 - t % 2) * 2048 + (128 * b.val + r.val) = 128 * (16 * (1 - t % 2) + b.val) + r.val
  omega

theorem prev_eq (t : Nat) (r : Fin 128) : (16 * (1 - t % 2) - 1) * 128 + r.val = (tok (prev (gblk (ntt t) 0)) r).val := by
  show (16 * (1 - t % 2) - 1) * 128 + r.val = 128 * (16 * (1 - t % 2) + 0 - 1) + r.val
  omega

theorem col_eq (t : Fin cfg0.N) (k : Nat) (hd : Fin 2) (e : Fin 64) :
    (k + t.val / 2) * 128 + (lane hd e).val = 128 * k + (head (hpt t.val) hd).val * 64 + e.val := by
  have := lt_N t
  show (k + t.val / 2) * 128 + (64 * hd.val + e.val) = 128 * k + (2 * (t.val / 2 % 2) + hd.val) * 64 + e.val
  omega

theorem col_eq0 (t : Fin cfg0.N) (hd : Fin 2) (e : Fin 64) :
    t.val / 2 * 128 + (lane hd e).val = (head (hpt t.val) hd).val * 64 + e.val := by
  have := col_eq t 0 hd e
  omega

/-- The window of the queries, read. -/
theorem rd_q (A : S4096x2304.Idx → EReal) (t : Fin cfg0.N) (b : Fin 16) (r : Fin 128) (hd : Fin 2) (e : Fin 64) (z : EReal)
    (hA : ∀ j, (j 0).val = (tok (gblk (ntt t.val) b) r).val → (j 1).val = (head (hpt t.val) hd).val * 64 + e.val → A j = z) :
    ((cfg0.win 0).blk t).view.read (Elt Ideal) A (ix2 (wr b r) (lane hd e)) = z := by
  refine hA _ ?_ ?_ <;> blk_simp [idx t]
  · exact row_eq t.val b r
  · exact col_eq0 t hd e

/-- The window of the keys, read. -/
theorem rd_k (A : S4096x2304.Idx → EReal) (t : Fin cfg0.N) (b : Fin 16) (r : Fin 128) (hd : Fin 2) (e : Fin 64) (z : EReal)
    (hA : ∀ j, (j 0).val = (tok (gblk (ntt t.val) b) r).val → (j 1).val = 768 + (head (hpt t.val) hd).val * 64 + e.val → A j = z) :
    ((cfg0.win 1).blk t).view.read (Elt Ideal) A (ix2 (wr b r) (lane hd e)) = z := by
  refine hA _ ?_ ?_ <;> blk_simp [idx t]
  · exact row_eq t.val b r
  · exact col_eq t 6 hd e

/-- The window of the values, read. -/
theorem rd_v (A : S4096x2304.Idx → EReal) (t : Fin cfg0.N) (b : Fin 16) (r : Fin 128) (hd : Fin 2) (e : Fin 64) (z : EReal)
    (hA : ∀ j, (j 0).val = (tok (gblk (ntt t.val) b) r).val → (j 1).val = 1536 + (head (hpt t.val) hd).val * 64 + e.val → A j = z) :
    ((cfg0.win 2).blk t).view.read (Elt Ideal) A (ix2 (wr b r) (lane hd e)) = z := by
  refine hA _ ?_ ?_ <;> blk_simp [idx t]
  · exact row_eq t.val b r
  · exact col_eq t 12 hd e

/-- The window of the keys before, read. -/
theorem rd_kb (A : S4096x2304.Idx → EReal) (t : Fin cfg0.N) (r : Fin 128) (hd : Fin 2) (e : Fin 64) (z : EReal)
    (hA : ∀ j, (j 0).val = (tok (prev (gblk (ntt t.val) 0)) r).val → (j 1).val = 768 + (head (hpt t.val) hd).val * 64 + e.val → A j = z) :
    ((cfg0.win 3).blk t).view.read (Elt Ideal) A (ix2 r (lane hd e)) = z := by
  refine hA _ ?_ ?_ <;> blk_simp [idx t]
  · exact prev_eq t.val r
  · exact col_eq t 6 hd e

/-- The window of the values before, read. -/
theorem rd_vb (A : S4096x2304.Idx → EReal) (t : Fin cfg0.N) (r : Fin 128) (hd : Fin 2) (e : Fin 64) (z : EReal)
    (hA : ∀ j, (j 0).val = (tok (prev (gblk (ntt t.val) 0)) r).val → (j 1).val = 1536 + (head (hpt t.val) hd).val * 64 + e.val → A j = z) :
    ((cfg0.win 4).blk t).view.read (Elt Ideal) A (ix2 r (lane hd e)) = z := by
  refine hA _ ?_ ?_ <;> blk_simp [idx t]
  · exact prev_eq t.val r
  · exact col_eq t 12 hd e

/-- The window of the outputs, read. -/
theorem rd_o (A : S4096x256.Idx → EReal) (t : Fin cfg0.N) (b : Fin 16) (r : Fin 128) (hd : Fin 2) (e : Fin 64) (z : EReal)
    (hA : ∀ j, (j 0).val = (tok (gblk (ntt t.val) b) r).val → (j 1).val = (head (hpt t.val) hd).val * 64 + e.val → A j = z) :
    ((cfg0.win 5).blk t).view.read (Elt Ideal) A (ix2 (wr b r) (lane hd e)) = z := by
  refine hA _ ?_ ?_ <;> blk_simp [idx t]
  · exact row_eq t.val b r
  · exact col_eq0 t hd e

/-- The window of the logarithms, read. -/
theorem rd_l (A : S4096x256.Idx → EReal) (t : Fin cfg0.N) (b : Fin 16) (r : Fin 128) (hd : Fin 2) (e : Fin 64) (z : EReal)
    (hA : ∀ j, (j 0).val = (tok (gblk (ntt t.val) b) r).val → (j 1).val = (head (hpt t.val) hd).val * 64 + e.val → A j = z) :
    ((cfg0.win 6).blk t).view.read (Elt Ideal) A (ix2 (wr b r) (lane hd e)) = z := by
  refine hA _ ?_ ?_ <;> blk_simp [idx t]
  · exact row_eq t.val b r
  · exact col_eq0 t hd e

/-- The window of the outputs' gradients, read. -/
theorem rd_d (A : S4096x256.Idx → EReal) (t : Fin cfg0.N) (b : Fin 16) (r : Fin 128) (hd : Fin 2) (e : Fin 64) (z : EReal)
    (hA : ∀ j, (j 0).val = (tok (gblk (ntt t.val) b) r).val → (j 1).val = (head (hpt t.val) hd).val * 64 + e.val → A j = z) :
    ((cfg0.win 7).blk t).view.read (Elt Ideal) A (ix2 (wr b r) (lane hd e)) = z := by
  refine hA _ ?_ ?_ <;> blk_simp [idx t]
  · exact row_eq t.val b r
  · exact col_eq0 t hd e

/-- The window of the logarithms' gradients, read. -/
theorem rd_dl (A : S4096x256.Idx → EReal) (t : Fin cfg0.N) (b : Fin 16) (r : Fin 128) (hd : Fin 2) (e : Fin 64) (z : EReal)
    (hA : ∀ j, (j 0).val = (tok (gblk (ntt t.val) b) r).val → (j 1).val = (head (hpt t.val) hd).val * 64 + e.val → A j = z) :
    ((cfg0.win 8).blk t).view.read (Elt Ideal) A (ix2 (wr b r) (lane hd e)) = z := by
  refine hA _ ?_ ?_ <;> blk_simp [idx t]
  · exact row_eq t.val b r
  · exact col_eq0 t hd e

/-- The window of a gain, read. -/
theorem rd_gq (A : S1x64.Idx → EReal) (t : Fin cfg0.N) (e : Fin 64) (z : EReal) (hA : ∀ j, (j 1).val = e.val → A j = z) :
    ((cfg0.win 9).blk t).view.read (Elt Ideal) A (ix2 0 e) = z := by
  refine hA _ ?_
  blk_simp [idx t]

/-- The window of a gain, read. -/
theorem rd_gk (A : S1x64.Idx → EReal) (t : Fin cfg0.N) (e : Fin 64) (z : EReal) (hA : ∀ j, (j 1).val = e.val → A j = z) :
    ((cfg0.win 10).blk t).view.read (Elt Ideal) A (ix2 0 e) = z := by
  refine hA _ ?_
  blk_simp [idx t]

section Reads

variable (t : Fin cfg0.N)

theorem iblk0 : iblk m c 0 t = ((cfg0.win 0).blk t).view.read (Elt Ideal) (V m c main_arg0) := rfl
theorem iblk1 : iblk m c 1 t = ((cfg0.win 1).blk t).view.read (Elt Ideal) (V m c main_arg0) := rfl
theorem iblk2 : iblk m c 2 t = ((cfg0.win 2).blk t).view.read (Elt Ideal) (V m c main_arg0) := rfl
theorem iblk3 : iblk m c 3 t = ((cfg0.win 3).blk t).view.read (Elt Ideal) (V m c main_arg0) := rfl
theorem iblk4 : iblk m c 4 t = ((cfg0.win 4).blk t).view.read (Elt Ideal) (V m c main_arg0) := rfl
theorem iblk5 : iblk m c 5 t = ((cfg0.win 5).blk t).view.read (Elt Ideal) (V m c main_v79) := rfl
theorem iblk6 : iblk m c 6 t = ((cfg0.win 6).blk t).view.read (Elt Ideal) (V m c main_v83) := rfl
theorem iblk7 : iblk m c 7 t = ((cfg0.win 7).blk t).view.read (Elt Ideal) (V m c main_arg1) := rfl
theorem iblk8 : iblk m c 8 t = ((cfg0.win 8).blk t).view.read (Elt Ideal) (V m c main_v86) := rfl
theorem iblk9 : iblk m c 9 t = ((cfg0.win 9).blk t).view.read (Elt Ideal) (V m c main_arg3) := rfl
theorem iblk10 : iblk m c 10 t = ((cfg0.win 10).blk t).view.read (Elt Ideal) (V m c main_arg4) := rfl

end Reads

variable {m c} {I : Inp} {x2 : Arr 4096 4} (W : Host m c I x2)

include W

section Fields

variable (t : Fin cfg0.N) (b : Fin 16) (r : Fin 128) (hd : Fin 2) (e : Fin 64)

theorem at_q : iblk m c 0 t (ix2 (wr b r) (lane hd e)) = (I.q (tok (gblk (ntt t.val) b) r) (head (hpt t.val) hd) e : EReal) :=
  (congrFun (iblk0 m c t) _).trans (rd_q (V m c main_arg0) t b r hd e _ fun j h0 h1 => W.args.q j _ _ _ h0 h1)
theorem at_k : iblk m c 1 t (ix2 (wr b r) (lane hd e)) = (I.k (tok (gblk (ntt t.val) b) r) (head (hpt t.val) hd) e : EReal) :=
  (congrFun (iblk1 m c t) _).trans (rd_k (V m c main_arg0) t b r hd e _ fun j h0 h1 => W.args.k j _ _ _ h0 h1)
theorem at_v : iblk m c 2 t (ix2 (wr b r) (lane hd e)) = (I.v (tok (gblk (ntt t.val) b) r) (head (hpt t.val) hd) e : EReal) :=
  (congrFun (iblk2 m c t) _).trans (rd_v (V m c main_arg0) t b r hd e _ fun j h0 h1 => W.args.v j _ _ _ h0 h1)
theorem at_kb : iblk m c 3 t (ix2 r (lane hd e)) = (I.k (tok (prev (gblk (ntt t.val) 0)) r) (head (hpt t.val) hd) e : EReal) :=
  (congrFun (iblk3 m c t) _).trans (rd_kb (V m c main_arg0) t r hd e _ fun j h0 h1 => W.args.k j _ _ _ h0 h1)
theorem at_vb : iblk m c 4 t (ix2 r (lane hd e)) = (I.v (tok (prev (gblk (ntt t.val) 0)) r) (head (hpt t.val) hd) e : EReal) :=
  (congrFun (iblk4 m c t) _).trans (rd_vb (V m c main_arg0) t r hd e _ fun j h0 h1 => W.args.v j _ _ _ h0 h1)
theorem at_o : iblk m c 5 t (ix2 (wr b r) (lane hd e)) = (I.o (head (hpt t.val) hd) (tok (gblk (ntt t.val) b) r) e : EReal) :=
  (congrFun (iblk5 m c t) _).trans (rd_o (V m c main_v79) t b r hd e _ fun j h0 h1 => W.o j _ _ _ h0 h1)
theorem at_l : iblk m c 6 t (ix2 (wr b r) (lane hd e)) = (I.lse (head (hpt t.val) hd) (tok (gblk (ntt t.val) b) r) : EReal) :=
  (congrFun (iblk6 m c t) _).trans (rd_l (V m c main_v83) t b r hd e _ fun j h0 h1 => W.l j _ _ e h0 h1)
theorem at_d : iblk m c 7 t (ix2 (wr b r) (lane hd e)) = (I.dO (tok (gblk (ntt t.val) b) r) (head (hpt t.val) hd) e : EReal) :=
  (congrFun (iblk7 m c t) _).trans (rd_d (V m c main_arg1) t b r hd e _ fun j h0 h1 => W.args.dO j _ _ _ h0 h1)
theorem at_dl : iblk m c 8 t (ix2 (wr b r) (lane hd e)) = (I.dl (tok (gblk (ntt t.val) b) r) (head (hpt t.val) hd) : EReal) :=
  (congrFun (iblk8 m c t) _).trans (rd_dl (V m c main_v86) t b r hd e _ fun j h0 h1 => W.dl j _ _ e h0 h1)
theorem at_gq : iblk m c 9 t (ix2 0 e) = (I.gq e : EReal) :=
  (congrFun (iblk9 m c t) _).trans (rd_gq (V m c main_arg3) t e _ fun j h => W.args.gq j _ h)
theorem at_gk : iblk m c 10 t (ix2 0 e) = (I.gk e : EReal) :=
  (congrFun (iblk10 m c t) _).trans (rd_gk (V m c main_arg4) t e _ fun j h => W.args.gk j _ h)

end Fields

/-- A point's windows hold its tile. -/
theorem at_pnt (t : Fin cfg0.N) : At (pnt m c t) I (hpt t.val) (ntt t.val) :=
  At.of (at_q W t) (at_k W t) (at_v W t) (at_kb W t) (at_vb W t) (at_o W t) (at_l W t) (at_d W t) (at_dl W t) (at_gq W t) (at_gk W t)

omit W in
variable (m c) in
/-- What point `t` leaves, from what it found in the carries and the gains' gradients. -/
def left (t : Fin cfg0.N) (cK cV : Carries) (gq gk : Vec Ideal S1x64 .f32) :
    Win × Win × Win × Vec Ideal S1x64 .f32 × Vec Ideal S1x64 .f32 × Carries × Carries :=
  ((pnt m c t).outQ (grid0.coords t), (pnt m c t).outK (grid0.coords t) cK, (pnt m c t).outV (grid0.coords t) cV,
    (pnt m c t).outGq (grid0.coords t) gq, (pnt m c t).outGk (grid0.coords t) cK gk, (pnt m c t).carK (grid0.coords t),
    (pnt m c t).carV (grid0.coords t))

set_option maxHeartbeats 1000000 in
variable (m c) in
omit W in
/-- What the first point leaves. -/
theorem outs0_A (t : Fin cfg0.N) (h0 : t.val % 4 = 0) (h1 : t.val % 2 = 0) :
    outsAt0 m c t.val t.isLt = left m c t cnone cnone gnone gnone := by
  rw [outsAt0_A m c t h0 h1]
  obtain ⟨e0, e1, e2, e3, e4, e5, e6⟩ := outs_A c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) (ms0_8 t) (hs0_8 t)
    (ms0_9 t) (hs0_9 t) (ms0_10 t) (hs0_10 t) (ms0_11 t) (hs0_11 t) (ms0_12 t) (hs0_12 t) (ms0_13 t) (hs0_13 t)
    (ms0_14 t) (hs0_14 t) (ms0_15 t) (hs0_15 t) scM0_0 (Memref.isWhole_whole _) scM0_1 (Memref.isWhole_whole _)
    ((hcond0_0 t).mpr h0) ((hcond0_1 t).mpr h1) (iblk m c 0 t) (iblk m c 1 t) (iblk m c 2 t) (iblk m c 3 t) (iblk m c 4 t)
    (iblk m c 5 t) (iblk m c 6 t) (iblk m c 7 t) (iblk m c 8 t) (iblk m c 9 t) (iblk m c 10 t)
  rw [e0, e1, e2, e3, e4, e5, e6]
  rfl

set_option maxHeartbeats 1000000 in
variable (m c) in
omit W in
/-- What a later step of a pair leaves. -/
theorem outs0_B (t : Fin cfg0.N) (h0 : ¬t.val % 4 = 0) (h1 : ¬t.val % 2 = 0) :
    outsAt0 m c t.val t.isLt = left m c t
      (outsAt0 m c (t.val - 1) (Nat.lt_of_le_of_lt (Nat.sub_le _ _) t.isLt)).2.2.2.2.2.1
      (outsAt0 m c (t.val - 1) (Nat.lt_of_le_of_lt (Nat.sub_le _ _) t.isLt)).2.2.2.2.2.2
      (outsAt0 m c (t.val - 1) (Nat.lt_of_le_of_lt (Nat.sub_le _ _) t.isLt)).2.2.2.1
      (outsAt0 m c (t.val - 1) (Nat.lt_of_le_of_lt (Nat.sub_le _ _) t.isLt)).2.2.2.2.1 := by
  rw [outsAt0_B m c t h0 h1]
  obtain ⟨e0, e1, e2, e3, e4, e5, e6⟩ := outs_B c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) (ms0_8 t) (hs0_8 t)
    (ms0_9 t) (hs0_9 t) (ms0_10 t) (hs0_10 t) (ms0_11 t) (hs0_11 t) (ms0_12 t) (hs0_12 t) (ms0_13 t) (hs0_13 t)
    (ms0_14 t) (hs0_14 t) (ms0_15 t) (hs0_15 t) scM0_0 (Memref.isWhole_whole _) scM0_1 (Memref.isWhole_whole _)
    (fun h => h0 ((hcond0_0 t).mp h)) (fun h => h1 ((hcond0_1 t).mp h)) (iblk m c 0 t) (iblk m c 1 t) (iblk m c 2 t) (iblk m c 3 t) (iblk m c 4 t)
    (iblk m c 5 t) (iblk m c 6 t) (iblk m c 7 t) (iblk m c 8 t) (iblk m c 9 t) (iblk m c 10 t)
    (outsAt0 m c (t.val - 1) (Nat.lt_of_le_of_lt (Nat.sub_le _ _) t.isLt)).2.2.2.1
    (outsAt0 m c (t.val - 1) (Nat.lt_of_le_of_lt (Nat.sub_le _ _) t.isLt)).2.2.2.2.1
    (outsAt0 m c (t.val - 1) (Nat.lt_of_le_of_lt (Nat.sub_le _ _) t.isLt)).2.2.2.2.2.1
    (outsAt0 m c (t.val - 1) (Nat.lt_of_le_of_lt (Nat.sub_le _ _) t.isLt)).2.2.2.2.2.2
  rw [e0, e1, e2, e3, e4, e5, e6]
  rfl

set_option maxHeartbeats 1000000 in
variable (m c) in
omit W in
/-- What the first step of a later pair leaves. -/
theorem outs0_C (t : Fin cfg0.N) (h0 : ¬t.val % 4 = 0) (h1 : t.val % 2 = 0) :
    outsAt0 m c t.val t.isLt = left m c t cnone cnone
      (outsAt0 m c (t.val - 1) (Nat.lt_of_le_of_lt (Nat.sub_le _ _) t.isLt)).2.2.2.1
      (outsAt0 m c (t.val - 1) (Nat.lt_of_le_of_lt (Nat.sub_le _ _) t.isLt)).2.2.2.2.1 := by
  rw [outsAt0_C m c t h0 h1]
  obtain ⟨e0, e1, e2, e3, e4, e5, e6⟩ := outs_C c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) (ms0_8 t) (hs0_8 t)
    (ms0_9 t) (hs0_9 t) (ms0_10 t) (hs0_10 t) (ms0_11 t) (hs0_11 t) (ms0_12 t) (hs0_12 t) (ms0_13 t) (hs0_13 t)
    (ms0_14 t) (hs0_14 t) (ms0_15 t) (hs0_15 t) scM0_0 (Memref.isWhole_whole _) scM0_1 (Memref.isWhole_whole _)
    (fun h => h0 ((hcond0_0 t).mp h)) ((hcond0_1 t).mpr h1) (iblk m c 0 t) (iblk m c 1 t) (iblk m c 2 t) (iblk m c 3 t) (iblk m c 4 t)
    (iblk m c 5 t) (iblk m c 6 t) (iblk m c 7 t) (iblk m c 8 t) (iblk m c 9 t) (iblk m c 10 t)
    (outsAt0 m c (t.val - 1) (Nat.lt_of_le_of_lt (Nat.sub_le _ _) t.isLt)).2.2.2.1
    (outsAt0 m c (t.val - 1) (Nat.lt_of_le_of_lt (Nat.sub_le _ _) t.isLt)).2.2.2.2.1
  rw [e0, e1, e2, e3, e4, e5, e6]
  rfl

end Cert.Attn.Ker
-- ==== Proof.RefFwd.lean ====
/- The reference's forward operations, read as the specification's real functions. -/
module

public import proofs.«01_k».proof.Proof.Args
public import proofs.«01_k».proof.Proof.Gen.ReferenceIdeal.Read

@[expose] public section

set_option maxRecDepth 16384

noncomputable section

namespace Cert.Attn.Ref

open Idealize.ShloMosaic Idealize.ShloMosaic.ValueIdx Cert.ReferenceIdeal Cert.ReferenceIdeal.Gen Cert.ReferenceIdeal.Read

/-- The token of a row of the table of all heads' rows. -/
def rt (r : Fin 16384) : Fin 4096 := ⟨r.val / 4, by omega⟩
/-- The head of such a row. -/
def rh (r : Fin 16384) : Fin 4 := ⟨r.val % 4, by omega⟩

variable {I : Inp} {x0 : Arr 4096 2304} {x1 : Arr 4096 256} {x2 : Arr 4096 4} {x3 x4 : Arr 1 64}

/-- A row's mean square plus the constant, from its lanes. -/
theorem ms_lift (f : Fin 64 → EReal) (x : Fin 64 → ℝ) (z c e : EReal) (hz : z = 0) (hc : c = ((64 : ℝ) : EReal))
    (he : e = (eps : EReal)) (hf : ∀ k, f k = (x k : EReal)) :
    Ideal.div (z + ∑ k, f k * f k) c + e = (ms x : EReal) := by
  rw [hz, zero_add, hc, he, sum_mul_coe f f x x hf hf, div_coe_coe _ _ (by norm_num), ← EReal.coe_add, ms]

section Norm

variable (H : Reads I x0 x1 x2 x3 x4)
include H

theorem v5 (i : S16384x64.Idx) : val_main_v5 (F := Ideal) x0 i = (I.q (rt (i 0)) (rh (i 0)) (i 1) : EReal) := by
  rw [val_main_v5_apply, val_main_v0_apply]
  have h1 : (i 1).val < 64 := (i 1).isLt
  refine H.q _ _ _ _ ?_ ?_
  · show ((i 0).val * 64 + (i 1).val) / 256 = (i 0).val / 4; omega
  · show ((i 0).val * 64 + (i 1).val) % 256 = (i 0).val % 4 * 64 + (i 1).val; omega

theorem v25 (i : S16384x64.Idx) : val_main_v25 (F := Ideal) x0 i = (I.k (rt (i 0)) (rh (i 0)) (i 1) : EReal) := by
  rw [val_main_v25_apply, val_main_v1_apply]
  have h1 : (i 1).val < 64 := (i 1).isLt
  refine H.k _ _ _ _ ?_ ?_
  · show ((i 0).val * 64 + (i 1).val) / 256 = (i 0).val / 4; omega
  · show 768 + ((i 0).val * 64 + (i 1).val) % 256 = 768 + (i 0).val % 4 * 64 + (i 1).val; omega

theorem v43 (i : S4096x4x64.Idx) : val_main_v43 (F := Ideal) x0 i = (I.v (i 0) (i 1) (i 2) : EReal) := by
  rw [val_main_v43_apply, val_main_v2_apply]
  have h1 : (i 1).val < 4 := (i 1).isLt
  have h2 : (i 2).val < 64 := (i 2).isLt
  refine H.v _ _ _ _ ?_ ?_
  · show (((i 0).val * 4 + (i 1).val) * 64 + (i 2).val) / 256 = (i 0).val; omega
  · show 1536 + (((i 0).val * 4 + (i 1).val) * 64 + (i 2).val) % 256 = 1536 + (i 1).val * 64 + (i 2).val; omega

theorem v12 (i : S16384x1.Idx) : val_main_v12 (F := Ideal) x0 i = (ms (I.q (rt (i 0)) (rh (i 0))) : EReal) := by
  rw [val_main_v12_apply, val_main_v10_apply, val_main_v8_apply, val_main_v7_apply]
  exact ms_lift (fun k => val_main_v5 (F := Ideal) x0 (idx_main_v7 (idx_main_v8 i) k)) _ _ _ _ lit_zero lit_64 lit_eps
    fun k => v5 H _

theorem v32 (i : S16384x1.Idx) : val_main_v32 (F := Ideal) x0 i = (ms (I.k (rt (i 0)) (rh (i 0))) : EReal) := by
  rw [val_main_v32_apply, val_main_v30_apply, val_main_v28_apply, val_main_v27_apply]
  exact ms_lift (fun k => val_main_v25 (F := Ideal) x0 (idx_main_v27 (idx_main_v28 i) k)) _ _ _ _ lit_zero lit_64 lit_eps
    fun k => v25 H _

theorem v13 (i : S16384x1.Idx) : val_main_v13 (F := Ideal) x0 i = (rs (I.q (rt (i 0)) (rh (i 0))) : EReal) := by
  rw [val_main_v13_apply, v12 H]
  exact rsqrt_ms _

theorem v33 (i : S16384x1.Idx) : val_main_v33 (F := Ideal) x0 i = (rs (I.k (rt (i 0)) (rh (i 0))) : EReal) := by
  rw [val_main_v33_apply, v32 H]
  exact rsqrt_ms _

/-- Minus a half of the reciprocal root over the mean square. -/
theorem half_lift (x : Fin 64 → ℝ) (c a b : EReal) (hc : c = ((-(1 / 2) : ℝ) : EReal)) (ha : a = (rs x : EReal))
    (hb : b = (ms x : EReal)) : c * Ideal.div a b = ((-(1 / 2) * (rs x / ms x) : ℝ) : EReal) := by
  rw [hc, ha, hb, div_coe_coe _ _ (ms_pos x).ne', ← EReal.coe_mul]

theorem v16 (i : S16384x1.Idx) : val_main_v16 (F := Ideal) x0 i
    = ((-(1 / 2) * (rs (I.q (rt (i 0)) (rh (i 0))) / ms (I.q (rt (i 0)) (rh (i 0)))) : ℝ) : EReal) := by
  rw [val_main_v16_apply, val_main_v14_apply]
  exact half_lift H _ _ _ _ lit_neg_half (v13 H i) (v12 H i)

theorem v36 (i : S16384x1.Idx) : val_main_v36 (F := Ideal) x0 i
    = ((-(1 / 2) * (rs (I.k (rt (i 0)) (rh (i 0))) / ms (I.k (rt (i 0)) (rh (i 0)))) : ℝ) : EReal) := by
  rw [val_main_v36_apply, val_main_v34_apply]
  exact half_lift H _ _ _ _ lit_neg_half (v33 H i) (v32 H i)

theorem v18 (i : S16384x64.Idx) : val_main_v18 (F := Ideal) x0 i
    = ((I.q (rt (i 0)) (rh (i 0)) (i 1) * rs (I.q (rt (i 0)) (rh (i 0))) : ℝ) : EReal) := by
  rw [val_main_v18_apply, val_main_v17_apply, v5 H, v13 H]
  exact (EReal.coe_mul _ _).symm

theorem v38 (i : S16384x64.Idx) : val_main_v38 (F := Ideal) x0 i
    = ((I.k (rt (i 0)) (rh (i 0)) (i 1) * rs (I.k (rt (i 0)) (rh (i 0))) : ℝ) : EReal) := by
  rw [val_main_v38_apply, val_main_v37_apply, v25 H, v33 H]
  exact (EReal.coe_mul _ _).symm

/-- A gain read along the lanes. -/
theorem v19 (i : S1x64.Idx) : val_main_v19 (F := Ideal) x3 i = (I.gq (i 1) : EReal) := by
  rw [val_main_v19_apply, val_main_v3_apply]
  exact H.gq _ _ (Nat.mod_eq_of_lt (idx2_lt1 i))

theorem v39 (i : S1x64.Idx) : val_main_v39 (F := Ideal) x4 i = (I.gk (i 1) : EReal) := by
  rw [val_main_v39_apply, val_main_v4_apply]
  exact H.gk _ _ (Nat.mod_eq_of_lt (idx2_lt1 i))

theorem v24 (i : S4096x4x64.Idx) : val_main_v24 (F := Ideal) x0 x3 i = (I.qn (i 0) (i 1) (i 2) : EReal) := by
  rw [val_main_v24_apply, val_main_v23_apply, val_main_v21_apply, v18 H, val_main_v20_apply, v19 H]
  have h1 : (i 1).val < 4 := (i 1).isLt
  have h2 : (i 2).val < 64 := (i 2).isLt
  have ht : rt ((idx_main_v24 i) 0) = i 0 := Fin.ext (by
    show (((i 0).val * 4 + (i 1).val) * 64 + (i 2).val) / 64 / 4 = (i 0).val; omega)
  have hh : rh ((idx_main_v24 i) 0) = i 1 := Fin.ext (by
    show (((i 0).val * 4 + (i 1).val) * 64 + (i 2).val) / 64 % 4 = (i 1).val; omega)
  have he : (idx_main_v24 i) 1 = i 2 := Fin.ext (by
    show (((i 0).val * 4 + (i 1).val) * 64 + (i 2).val) % 64 = (i 2).val; omega)
  have he' : (idx_main_v20 (idx_main_v24 i)) 1 = i 2 := he
  rw [ht, hh, he, he', val_main_v22_apply, val_main_cst_3_apply]
  refine (congrArg (fun c : EReal => _ * _ * c) lit_eighth).trans ?_
  rw [← EReal.coe_mul, ← EReal.coe_mul]
  rfl

theorem v42 (i : S4096x4x64.Idx) : val_main_v42 (F := Ideal) x0 x4 i = (I.kn (i 0) (i 1) (i 2) : EReal) := by
  rw [val_main_v42_apply, val_main_v41_apply, v38 H, val_main_v40_apply, v39 H]
  have h1 : (i 1).val < 4 := (i 1).isLt
  have h2 : (i 2).val < 64 := (i 2).isLt
  have ht : rt ((idx_main_v42 i) 0) = i 0 := Fin.ext (by
    show (((i 0).val * 4 + (i 1).val) * 64 + (i 2).val) / 64 / 4 = (i 0).val; omega)
  have hh : rh ((idx_main_v42 i) 0) = i 1 := Fin.ext (by
    show (((i 0).val * 4 + (i 1).val) * 64 + (i 2).val) / 64 % 4 = (i 1).val; omega)
  have he : (idx_main_v42 i) 1 = i 2 := Fin.ext (by
    show (((i 0).val * 4 + (i 1).val) * 64 + (i 2).val) % 64 = (i 2).val; omega)
  have he' : (idx_main_v40 (idx_main_v42 i)) 1 = i 2 := he
  rw [ht, hh, he, he']
  exact (EReal.coe_mul _ _).symm

theorem v44 (i : S4x4096x4096.Idx) : val_main_v44 (F := Ideal) x0 x3 x4 i = (I.sc (i 0) (i 1) (i 2) : EReal) := by
  rw [val_main_v44_apply]
  exact sum_mul_coe _ _ (fun e => I.qn (i 1) (i 0) e) (fun e => I.kn (i 2) (i 0) e) (fun e => v24 H _) (fun e => v42 H _)

end Norm

end Cert.Attn.Ref
-- ==== Proof.RefSoft.lean ====
/- The reference's softmax, outputs and logarithms of the denominators. -/
module

public import proofs.«01_k».proof.Proof.Mask
public import proofs.«01_k».proof.Proof.RefFwd

@[expose] public section

set_option maxRecDepth 16384

noncomputable section

namespace Cert.Attn.Ref

open Idealize.ShloMosaic Idealize.ShloMosaic.ValueIdx Cert.ReferenceIdeal Cert.ReferenceIdeal.Gen Cert.ReferenceIdeal.Read

variable {I : Inp} {x0 : Arr 4096 2304} {x1 : Arr 4096 256} {x2 : Arr 4096 4} {x3 x4 : Arr 1 64}

theorem v57_1 (i : S4x4096x4096.Idx) : val_main_v57_1 (F := Ideal) i = seen (i 1) (i 2) := by
  rw [val_main_v57_1_apply]
  exact window_word (i 1).val (i 2).val (lt_trans (i 1).isLt (show 4096 < 2 ^ 30 by norm_num))
    (lt_trans (i 2).isLt (show 4096 < 2 ^ 30 by norm_num))

variable (H : Reads I x0 x1 x2 x3 x4)
include H

theorem v57_0 (i : S4x4096x4096.Idx) : val_main_v57_0 (F := Ideal) x0 x3 x4 i = I.msc (i 0) (i 1) (i 2) := by
  rw [val_main_v57_0_apply, v57_1, v44 H]
  exact msc_word I _ _ _

theorem v58 (i : S4x4096.Idx) : val_main_v58 (F := Ideal) x0 x3 x4 i = I.top (i 0) (i 1) := by
  have hr : Shape.Reduces S4x4096x4096 [2] S4x4096 := by decide
  unfold val_main_v58
  rw [Host.reduce_eq_fold_single _ _ _ _ hr]
  have h0 : ∀ k : Fin 4096, hr.lift i k 0 = i 0 := fun k => Fin.ext ((hr.lift_val i k 0).trans rfl)
  have h1 : ∀ k : Fin 4096, hr.lift i k 1 = i 1 := fun k => Fin.ext ((hr.lift_val i k 1).trans rfl)
  have h2 : ∀ k : Fin 4096, hr.lift i k 2 = k := fun k => Fin.ext ((hr.lift_val i k 2).trans rfl)
  have hf : (val_main_v57_0 (F := Ideal) x0 x3 x4 ∘ hr.lift i) = fun k : Fin 4096 => I.msc (i 0) (i 1) k := funext fun k => by
    show val_main_v57_0 (F := Ideal) x0 x3 x4 (hr.lift i k) = _
    exact (v57_0 H _).trans (msc_congr I (h0 k) (h1 k) (h2 k))
  rw [hf, val_main_cst_10_apply]
  exact congrArg (fun z => Finset.fold max z (fun k : Fin 4096 => I.msc (i 0) (i 1) k) Finset.univ) lit_bot

theorem v58_mx (i : S4x4096.Idx) : val_main_v58 (F := Ideal) x0 x3 x4 i = (I.mx (i 0) (i 1) : EReal) := by
  exact (v58 H i).trans (I.coe_mx _ _).symm

theorem v62 (i : S4x4096x4096.Idx) : val_main_v62 (F := Ideal) x0 x3 x4 i = (hit I (i 0) (i 1) (i 2) : EReal) := by
  rw [val_main_v62_apply, val_main_v61_apply, v57_0 H, val_main_v60_apply, val_main_v59_apply, v58 H]
  have e0 : (idx_main_v59 (idx_main_v60 i)) 0 = i 0 := Fin.ext (by
    have h1 : (i 1).val < 4096 := (i 1).isLt
    show (((i 0).val * 4096 + (i 1).val) * 1 + 0) / 4096 = (i 0).val; omega)
  have e1 : (idx_main_v59 (idx_main_v60 i)) 1 = i 1 := Fin.ext (by
    have h1 : (i 1).val < 4096 := (i 1).isLt
    show (((i 0).val * 4096 + (i 1).val) * 1 + 0) % 4096 = (i 1).val; omega)
  rw [e0, e1]
  exact hit_word I _ _ _

theorem v63 (i : S4x4096.Idx) : val_main_v63 (F := Ideal) x0 x3 x4 i = (cnt I (i 0) (i 1) : EReal) := by
  rw [val_main_v63_apply]
  refine (congrArg (· + _) lit_zero).trans ?_
  rw [zero_add]
  exact sum_coe _ _ fun k => v62 H _

theorem v67 (i : S4x4096x4096.Idx) : val_main_v67 (F := Ideal) x0 x3 x4 i = (I.pe (i 0) (i 1) (i 2) : EReal) := by
  rw [val_main_v67_apply, val_main_v66_apply, v57_0 H, val_main_v65_apply, val_main_v64_apply, v58_mx H]
  exact exp_msc I _ _ _

theorem v68 (i : S4x4096.Idx) : val_main_v68 (F := Ideal) x0 x3 x4 i = (I.den (i 0) (i 1) : EReal) := by
  rw [val_main_v68_apply]
  refine (congrArg (· + _) lit_zero).trans ?_
  rw [zero_add]
  exact sum_coe _ _ fun k => v67 H _

theorem v71 (i : S4x4096x4096.Idx) : val_main_v71 (F := Ideal) x0 x3 x4 i = (I.p (i 0) (i 1) (i 2) : EReal) := by
  rw [val_main_v71_apply, v67 H, val_main_v70_apply, val_main_v69_apply, v68 H]
  exact div_coe_coe _ _ (I.den_pos _ _).ne'

theorem v74 (i : S4x4096x1.Idx) : val_main_v74 (F := Ideal) x0 x3 x4 i
    = ((1 / (I.den (i 0) (i 1) * I.den (i 0) (i 1)) : ℝ) : EReal) := by
  rw [val_main_v74_apply, val_main_v72_apply, val_main_v69_apply, v68 H]
  show Ideal.div (Ideal.ofBits .f32 0x3F800000#32) ((I.den (i 0) (i 1) : EReal) * (I.den (i 0) (i 1) : EReal)) = _
  have hd := (I.den_pos (i 0) (i 1)).ne'
  rw [lit_one, ← EReal.coe_mul, div_coe_coe _ _ (mul_ne_zero hd hd)]

theorem v75 (i : S4x4096x64.Idx) : val_main_v75 (F := Ideal) x0 x3 x4 i = (I.o (i 0) (i 1) (i 2) : EReal) := by
  rw [val_main_v75_apply]
  exact sum_mul_coe _ _ (fun j => I.p (i 0) (i 1) j) (fun j => I.v j (i 0) (i 2)) (fun j => v71 H _) (fun j => v43 H _)

theorem v77 (i : S4x4096.Idx) : val_main_v77 (F := Ideal) x0 x3 x4 i = (I.lse (i 0) (i 1) : EReal) := by
  rw [val_main_v77_apply, v58_mx H, val_main_v76_apply, v68 H]
  exact lse_word I _ _

end Cert.Attn.Ref
-- ==== Proof.RefBwd.lean ====
/- The reference's derivative lines up to the scores' gradient. -/
module

public import proofs.«01_k».proof.Proof.RefSoft

@[expose] public section

set_option maxRecDepth 16384

noncomputable section

namespace Cert.Attn.Ref

open Idealize.ShloMosaic Idealize.ShloMosaic.ValueIdx Cert.ReferenceIdeal Cert.ReferenceIdeal.Gen Cert.ReferenceIdeal.Read

variable {I : Inp} {x0 : Arr 4096 2304} {x1 : Arr 4096 256} {x2 : Arr 4096 4} {x3 x4 : Arr 1 64}

/-- A sum of reals from a zero. -/
theorem zsum {n : Nat} (f : Fin n → EReal) (a : Fin n → ℝ) (z : EReal) (hz : z = 0) (hf : ∀ k, f k = (a k : EReal)) :
    z + ∑ k, f k = ((∑ k, a k : ℝ) : EReal) := by
  rw [hz, zero_add, sum_coe f a hf]

/-- A sum of one real from a zero. -/
theorem zsum_one (f : Fin 1 → EReal) (a : ℝ) (z : EReal) (hz : z = 0) (hf : f 0 = (a : EReal)) :
    z + ∑ k, f k = (a : EReal) := by
  rw [hz, zero_add, Fin.sum_univ_one, hf]

/-- The sum the quotient's derivative subtracts is the mean of the weights' gradients over the denominator. -/
theorem sum_quot (I : Inp) (h : Fin 4) (t : Fin 4096) :
    ∑ j, I.dp h t j * (1 / (I.den h t * I.den h t)) * I.pe h t j = I.dm h t / I.den h t := by
  rw [I.dm_eq, Finset.sum_div]
  refine Finset.sum_congr rfl fun j _ => ?_
  have hd := (I.den_pos h t).ne'
  rw [Inp.p]
  field_simp

/-- The score's gradient as the chain rule writes it through the exponential and the quotient. -/
theorem ds_chain (I : Inp) (h : Fin 4) (t j : Fin 4096) :
    (I.dp h t j / I.den h t + (I.dl t h / I.den h t + -(I.dm h t / I.den h t))) * I.pe h t j = I.ds h t j := by
  have hd := (I.den_pos h t).ne'
  rw [Inp.ds, Inp.p]
  field_simp
  ring

theorem ds_chain_coe (I : Inp) (h : Fin 4) (t j : Fin 4096) (a b c d n : EReal) (ha : a = (I.dp h t j : EReal))
    (hb : b = (I.den h t : EReal)) (hc : c = ((I.dl t h / I.den h t + -(I.dm h t / I.den h t) : ℝ) : EReal))
    (hd : d = (I.pe h t j : EReal)) : (Ideal.div a b + c) * d = (I.ds h t j : EReal) := by
  rw [ha, hb, hc, hd, div_coe_coe _ _ (I.den_pos h t).ne', ← EReal.coe_add, ← EReal.coe_mul, ds_chain]

/-- The greatest score's own gradient is zero, and shared among the keys that have it stays zero. -/
theorem ds_top (I : Inp) (h : Fin 4) (t j : Fin 4096) (g a b c : EReal) (hg : g = (I.ds h t j : EReal)) (ha : a = ((0 : ℝ) : EReal))
    (hb : b = (cnt I h t : EReal)) (hc : c = (hit I h t j : EReal)) : g + Ideal.div a b * c = (I.ds h t j : EReal) := by
  rw [hg, ha, hb, hc, div_coe_coe _ _ (cnt_ne_zero I h t), ← EReal.coe_mul, ← EReal.coe_add, zero_div, zero_mul, add_zero]

/-- A key not seen has no gradient. -/
theorem ds_seen (I : Inp) (h : Fin 4) (t j : Fin 4096) (g z : EReal) (hg : g = (I.ds h t j : EReal)) (hz : z = 0) :
    Scalar.select (seen t j) g z = (I.ds h t j : EReal) := by
  rw [select_seen, hg, hz]
  by_cases hw : win t j
  · rw [if_pos hw]
  · rw [if_neg hw, I.ds_of_not h t j hw]; rfl

variable (H : Reads I x0 x1 x2 x3 x4)
include H

theorem v79 (i : S4x4096x64.Idx) : val_main_v79 (F := Ideal) x1 i = (I.dO (i 1) (i 0) (i 2) : EReal) := by
  rw [val_main_v79_apply, val_main_v78_apply]
  have h0 : (i 0).val < 4 := (i 0).isLt
  have h2 : (i 2).val < 64 := (i 2).isLt
  refine H.dO _ _ _ _ ?_ ?_
  · show (((i 1).val * 4 + (i 0).val) * 64 + (i 2).val) / 256 = (i 1).val; omega
  · show (((i 1).val * 4 + (i 0).val) * 64 + (i 2).val) % 256 = (i 0).val * 64 + (i 2).val; omega

theorem v80 (i : S4x4096.Idx) : val_main_v80 (F := Ideal) x2 i = (I.dl (i 1) (i 0) : EReal) := by
  rw [val_main_v80_apply]
  exact H.dl _ _ _ rfl rfl

theorem v83 (i : S4096x4x64.Idx) : val_main_v83 (F := Ideal) x0 x1 x3 x4 i = (I.dv (i 0) (i 1) (i 2) : EReal) := by
  rw [val_main_v83_apply, val_main_v82_apply]
  refine (sum_mul_coe _ _ (fun t => I.dO t (i 1) (i 2)) (fun t => I.p (i 1) t (i 0)) (fun t => v79 H _) (fun t => v71 H _)).trans ?_
  exact congrArg _ (Finset.sum_congr rfl fun t _ => mul_comm _ _)

theorem v84 (i : S4x4096x4096.Idx) : val_main_v84 (F := Ideal) x0 x1 i = (I.dp (i 0) (i 1) (i 2) : EReal) := by
  rw [val_main_v84_apply]
  exact sum_mul_coe _ _ (fun e => I.dO (i 1) (i 0) e) (fun e => I.v (i 2) (i 0) e) (fun e => v79 H _) (fun e => v43 H _)

theorem v87 (i : S4x4096x4096.Idx) : val_main_v87 (F := Ideal) x0 x1 x3 x4 i
    = ((I.dp (i 0) (i 1) (i 2) * (1 / (I.den (i 0) (i 1) * I.den (i 0) (i 1))) * I.pe (i 0) (i 1) (i 2) : ℝ) : EReal) := by
  rw [val_main_v87_apply, val_main_v86_apply, v84 H, val_main_v85_apply, v74 H, v67 H, EReal.coe_mul, EReal.coe_mul]
  rfl

theorem v88 (i : S4x4096.Idx) : val_main_v88 (F := Ideal) x0 x1 x3 x4 i = ((I.dm (i 0) (i 1) / I.den (i 0) (i 1) : ℝ) : EReal) := by
  rw [val_main_v88_apply]
  exact (zsum _ _ _ lit_zero fun k => v87 H _).trans (congrArg _ (sum_quot I _ _))

theorem v90 (i : S4x4096x1.Idx) : val_main_v90 (F := Ideal) x0 x1 x3 x4 i = ((-(I.dm (i 0) (i 1) / I.den (i 0) (i 1)) : ℝ) : EReal) := by
  have h1 : (i 1).val < 4096 := (i 1).isLt
  have h2 : (i 2).val < 1 := (i 2).isLt
  have e : idx_main_v89 i = ix2 (n0 := 4) (n1 := 4096) (i 0) (i 1) := funext fun a => match a with
    | ⟨0, _⟩ => Fin.ext (by show (((i 0).val * 4096 + (i 1).val) * 1 + (i 2).val) / 4096 = (i 0).val; omega)
    | ⟨1, _⟩ => Fin.ext (by show (((i 0).val * 4096 + (i 1).val) * 1 + (i 2).val) % 4096 = (i 1).val; omega)
  rw [val_main_v90_apply, val_main_v89_apply, e, v88 H]
  exact (EReal.coe_neg _).symm

theorem v94 (i : S4x4096.Idx) : val_main_v94 (F := Ideal) x0 x1 x2 x3 x4 i
    = ((I.dl (i 1) (i 0) / I.den (i 0) (i 1) + -(I.dm (i 0) (i 1) / I.den (i 0) (i 1)) : ℝ) : EReal) := by
  rw [val_main_v94_apply, val_main_v81_apply, v80 H, v68 H, val_main_v93_apply]
  refine (congrArg₂ (fun a b : EReal => a + b) (div_coe_coe _ _ (I.den_pos _ _).ne')
    (zsum_one _ _ _ lit_zero (v90 H _))).trans ?_
  exact (EReal.coe_add _ _).symm

theorem v97 (i : S4x4096x4096.Idx) : val_main_v97 (F := Ideal) x0 x1 x2 x3 x4 i = (I.ds (i 0) (i 1) (i 2) : EReal) := by
  rw [val_main_v97_apply, val_main_v96_apply, val_main_v92_apply, val_main_v91_apply, val_main_v69_apply, val_main_v95_apply]
  exact ds_chain_coe I _ _ _ _ _ _ _ 0 (v84 H i) (v68 H _) (v94 H _) (v67 H i)

theorem v99 (i : S4x4096.Idx) : val_main_v99 (F := Ideal) x0 x1 x2 x3 x4 i = ((-I.dl (i 1) (i 0) : ℝ) : EReal) := by
  rw [val_main_v99_apply]
  refine (zsum _ (fun k => -I.ds (i 0) (i 1) k) _ lit_zero fun k => ?_).trans (congrArg _ ?_)
  · rw [val_main_v98_apply, v97 H, EReal.coe_neg]; rfl
  · exact (Finset.sum_neg_distrib _).trans (congrArg _ (I.sum_ds _ _))

theorem v102 (i : S4x4096.Idx) : val_main_v102 (F := Ideal) x0 x1 x2 x3 x4 i = ((0 : ℝ) : EReal) := by
  have h1 : (i 1).val < 4096 := (i 1).isLt
  have e : idx_main_v100 (idx_main_v101 i 0) = ix2 (n0 := 4) (n1 := 4096) (i 0) (i 1) := funext fun a => match a with
    | ⟨0, _⟩ => Fin.ext (by show (((i 0).val * 4096 + (i 1).val) * 1 + 0) / 4096 = (i 0).val; omega)
    | ⟨1, _⟩ => Fin.ext (by show (((i 0).val * 4096 + (i 1).val) * 1 + 0) % 4096 = (i 1).val; omega)
  have hz : val_main_v100 (F := Ideal) x0 x1 x2 x3 x4 (idx_main_v101 i 0) = ((-I.dl (i 1) (i 0) : ℝ) : EReal) := by
    rw [val_main_v100_apply, e, v99 H]
  rw [val_main_v102_apply, v80 H, val_main_v101_apply]
  refine (congrArg (fun b : EReal => (I.dl (i 1) (i 0) : EReal) + b) (zsum_one _ _ _ lit_zero hz)).trans ?_
  rw [← EReal.coe_add, add_neg_cancel]

theorem v107 (i : S4x4096x4096.Idx) : val_main_v107 (F := Ideal) x0 x1 x2 x3 x4 i = (I.ds (i 0) (i 1) (i 2) : EReal) := by
  rw [val_main_v107_apply, v57_1, val_main_v106_apply, val_main_v105_apply, val_main_v104_apply, val_main_v103_apply]
  exact ds_seen I _ _ _ _ _ (ds_top I _ _ _ _ _ _ _ (v97 H i) (v102 H _) (v63 H _) (v62 H i)) lit_zero

theorem v109 (i : S4096x4x64.Idx) : val_main_v109 (F := Ideal) x0 x1 x2 x3 x4 i = (I.dkn (i 0) (i 1) (i 2) : EReal) := by
  rw [val_main_v109_apply, val_main_v108_apply]
  exact sum_mul_coe _ _ (fun t => I.ds (i 1) t (i 0)) (fun t => I.qn t (i 1) (i 2)) (fun t => v107 H _) (fun t => v24 H _)

theorem v111 (i : S4096x4x64.Idx) : val_main_v111 (F := Ideal) x0 x1 x2 x3 x4 i = (I.dqn (i 0) (i 1) (i 2) : EReal) := by
  rw [val_main_v111_apply, val_main_v110_apply]
  exact sum_mul_coe _ _ (fun j => I.ds (i 1) (i 0) j) (fun j => I.kn j (i 1) (i 2)) (fun j => v107 H _) (fun j => v42 H _)

end Cert.Attn.Ref
-- ==== Proof.RefOut.lean ====
/- The reference's five results as the specification's gradients. -/
module

public import proofs.«01_k».proof.Proof.RefBwd

@[expose] public section

set_option maxRecDepth 16384

noncomputable section

namespace Cert.Attn

/-- The head a column of the heads' rows side by side belongs to. -/
def hd (c : Fin 256) : Fin 4 := ⟨c.val / 64, by omega⟩
/-- The lane of such a column. -/
def ln (c : Fin 256) : Fin 64 := ⟨c.val % 64, by omega⟩

end Cert.Attn

namespace Cert.Attn.Ref

open Idealize.ShloMosaic Idealize.ShloMosaic.ValueIdx Cert.ReferenceIdeal Cert.ReferenceIdeal.Gen Cert.ReferenceIdeal.Read

variable {I : Inp} {x0 : Arr 4096 2304} {x1 : Arr 4096 256} {x2 : Arr 4096 4} {x3 x4 : Arr 1 64}

/-- A row's gradient through its normalisation, as the chain rule's operations compute it. -/
theorem nb_lift (x y g : Fin 64 → ℝ) (e : Fin 64) (a r b c : EReal) (ha : a = ((y e * g e : ℝ) : EReal)) (hr : r = (rs x : EReal))
    (hb : b = (x e : EReal))
    (hc : c = (((∑ e', x e' * (y e' * g e')) * (-(1 / 2) * (rs x / ms x)) / 64 : ℝ) : EReal)) :
    a * r + b * c + c * b = (nb x y g e : EReal) := by
  rw [ha, hr, hb, hc, ← EReal.coe_mul, ← EReal.coe_mul, ← EReal.coe_mul, ← EReal.coe_add, ← EReal.coe_add, nb_eq]

/-- The rows of all heads listed together are the tokens' rows, head by head. -/
theorem sum_rows (f : Fin 4096 → Fin 4 → ℝ) : ∑ r, f (rt r) (rh r) = ∑ t, ∑ h, f t h := by
  have e : Function.Bijective fun r : Fin 16384 => (rt r, rh r) := by
    refine ⟨fun r r' hr => ?_, fun th => ⟨⟨th.1.val * 4 + th.2.val, ?_⟩, Prod.ext (Fin.ext ?_) (Fin.ext ?_)⟩⟩
    · have ht : r.val / 4 = r'.val / 4 := congrArg Fin.val (Prod.mk.inj hr).1
      have hh : r.val % 4 = r'.val % 4 := congrArg Fin.val (Prod.mk.inj hr).2
      exact Fin.ext (by omega)
    · have := th.1.isLt; have := th.2.isLt; omega
    · show (th.1.val * 4 + th.2.val) / 4 = th.1.val; omega
    · show (th.1.val * 4 + th.2.val) % 4 = th.2.val; omega
  rw [← Fintype.sum_prod_type' f]
  exact Fintype.sum_bijective _ e _ _ fun _ => rfl

/-- A real times a real over 64. -/
theorem mean_lift (a b c : EReal) (x y : ℝ) (ha : a = (x : EReal)) (hb : b = (y : EReal)) (hc : c = ((64 : ℝ) : EReal)) :
    Ideal.div (a * b) c = ((x * y / 64 : ℝ) : EReal) := by
  rw [ha, hb, hc, ← EReal.coe_mul, div_coe_coe _ _ (by norm_num)]

variable (H : Reads I x0 x1 x2 x3 x4)
include H

theorem v113 (i : S16384x64.Idx) : val_main_v113 (F := Ideal) x0 x1 x2 x3 x4 i = (I.dkn (rt (i 0)) (rh (i 0)) (i 1) : EReal) := by
  have h1 : (i 1).val < 64 := (i 1).isLt
  have e : idx_main_v113 i = ix3 (n0 := 4096) (n1 := 4) (n2 := 64) (rt (i 0)) (rh (i 0)) (i 1) := funext fun a => match a with
    | ⟨0, _⟩ => Fin.ext (by show ((i 0).val * 64 + (i 1).val) / 256 = (i 0).val / 4; omega)
    | ⟨1, _⟩ => Fin.ext (by show ((i 0).val * 64 + (i 1).val) / 64 % 4 = (i 0).val % 4; omega)
    | ⟨2, _⟩ => Fin.ext (by show ((i 0).val * 64 + (i 1).val) % 64 = (i 1).val; omega)
  rw [val_main_v113_apply, e, v109 H]

theorem v137 (i : S16384x64.Idx) : val_main_v137 (F := Ideal) x0 x1 x2 x3 x4 i
    = ((I.dqn (rt (i 0)) (rh (i 0)) (i 1) * (1 / 8) : ℝ) : EReal) := by
  have h1 : (i 1).val < 64 := (i 1).isLt
  have e : idx_main_v135 i = ix3 (n0 := 4096) (n1 := 4) (n2 := 64) (rt (i 0)) (rh (i 0)) (i 1) := funext fun a => match a with
    | ⟨0, _⟩ => Fin.ext (by show ((i 0).val * 64 + (i 1).val) / 256 = (i 0).val / 4; omega)
    | ⟨1, _⟩ => Fin.ext (by show ((i 0).val * 64 + (i 1).val) / 64 % 4 = (i 0).val % 4; omega)
    | ⟨2, _⟩ => Fin.ext (by show ((i 0).val * 64 + (i 1).val) % 64 = (i 1).val; omega)
  rw [val_main_v137_apply, val_main_v135_apply, e, v111 H, val_main_v136_apply, val_main_cst_23_apply]
  exact (congrArg (fun c : EReal => _ * c) lit_eighth).trans (EReal.coe_mul _ _).symm

theorem v118 (i : S16384x64.Idx) : val_main_v118 (F := Ideal) x0 x1 x2 x3 x4 i
    = ((I.dkn (rt (i 0)) (rh (i 0)) (i 1) * I.gk (i 1) : ℝ) : EReal) := by
  rw [val_main_v118_apply, v113 H, val_main_v117_apply, v39 H]
  exact (EReal.coe_mul _ _).symm

theorem v142 (i : S16384x64.Idx) : val_main_v142 (F := Ideal) x0 x1 x2 x3 x4 i
    = ((I.dqn (rt (i 0)) (rh (i 0)) (i 1) * (1 / 8) * I.gq (i 1) : ℝ) : EReal) := by
  rw [val_main_v142_apply, v137 H, val_main_v141_apply, v19 H]
  exact (EReal.coe_mul _ _).symm

theorem v121 (i : S16384.Idx) : val_main_v121 (F := Ideal) x0 x1 x2 x3 x4 i
    = ((∑ e, I.k (rt (i 0)) (rh (i 0)) e * (I.dkn (rt (i 0)) (rh (i 0)) e * I.gk e) : ℝ) : EReal) := by
  rw [val_main_v121_apply]
  refine zsum _ _ _ lit_zero fun e => ?_
  rw [val_main_v120_apply, v25 H, v118 H]
  exact (EReal.coe_mul _ _).symm

theorem v145 (i : S16384.Idx) : val_main_v145 (F := Ideal) x0 x1 x2 x3 x4 i
    = ((∑ e, I.q (rt (i 0)) (rh (i 0)) e * (I.dqn (rt (i 0)) (rh (i 0)) e * (1 / 8) * I.gq e) : ℝ) : EReal) := by
  rw [val_main_v145_apply]
  refine zsum _ _ _ lit_zero fun e => ?_
  rw [val_main_v144_apply, v5 H, v142 H]
  exact (EReal.coe_mul _ _).symm

theorem v127 (i : S16384x1.Idx) : val_main_v127 (F := Ideal) x0 x1 x2 x3 x4 i
    = (((∑ e, I.k (rt (i 0)) (rh (i 0)) e * (I.dkn (rt (i 0)) (rh (i 0)) e * I.gk e))
        * (-(1 / 2) * (rs (I.k (rt (i 0)) (rh (i 0))) / ms (I.k (rt (i 0)) (rh (i 0))))) / 64 : ℝ) : EReal) := by
  have h1 : (i 1).val < 1 := (i 1).isLt
  have e : idx_main_v122 i = ix1 (n := 16384) (i 0) := funext fun a => match a with
    | ⟨0, _⟩ => Fin.ext (by show (i 0).val * 1 + (i 1).val = (i 0).val; omega)
  rw [val_main_v127_apply, val_main_v125_apply, val_main_v122_apply, e]
  exact mean_lift _ _ _ _ _ (v121 H _) (v36 H i) lit_64

theorem v151 (i : S16384x1.Idx) : val_main_v151 (F := Ideal) x0 x1 x2 x3 x4 i
    = (((∑ e, I.q (rt (i 0)) (rh (i 0)) e * (I.dqn (rt (i 0)) (rh (i 0)) e * (1 / 8) * I.gq e))
        * (-(1 / 2) * (rs (I.q (rt (i 0)) (rh (i 0))) / ms (I.q (rt (i 0)) (rh (i 0))))) / 64 : ℝ) : EReal) := by
  have h1 : (i 1).val < 1 := (i 1).isLt
  have e : idx_main_v146 i = ix1 (n := 16384) (i 0) := funext fun a => match a with
    | ⟨0, _⟩ => Fin.ext (by show (i 0).val * 1 + (i 1).val = (i 0).val; omega)
  rw [val_main_v151_apply, val_main_v149_apply, val_main_v146_apply, e]
  exact mean_lift _ _ _ _ _ (v145 H _) (v16 H i) lit_64

theorem v133 (i : S16384x64.Idx) : val_main_v133 (F := Ideal) x0 x1 x2 x3 x4 i = (I.dk (rt (i 0)) (rh (i 0)) (i 1) : EReal) := by
  rw [val_main_v133_apply, val_main_v131_apply, val_main_v124_apply, val_main_v123_apply, val_main_v130_apply, val_main_v132_apply,
    val_main_v129_apply, val_main_v128_apply]
  exact nb_lift _ _ _ _ _ _ _ _ (v118 H i) (v33 H _) (v25 H i) (zsum_one _ _ _ lit_zero (v127 H _))

theorem v157 (i : S16384x64.Idx) : val_main_v157 (F := Ideal) x0 x1 x2 x3 x4 i = (I.dq (rt (i 0)) (rh (i 0)) (i 1) : EReal) := by
  rw [val_main_v157_apply, val_main_v155_apply, val_main_v148_apply, val_main_v147_apply, val_main_v154_apply, val_main_v156_apply,
    val_main_v153_apply, val_main_v152_apply]
  exact nb_lift _ (fun e => I.dqn (rt (i 0)) (rh (i 0)) e * (1 / 8)) _ _ _ _ _ _ (v142 H i) (v13 H _) (v5 H i)
    (zsum_one _ _ _ lit_zero (v151 H _))

/-- The reference's gradient of the queries. -/
theorem ref_dq (i : S4096x256.Idx) : val_main_v158 (F := Ideal) x0 x1 x2 x3 x4 i = (I.dq (i 0) (hd (i 1)) (ln (i 1)) : EReal) := by
  have h1 : (i 1).val < 256 := (i 1).isLt
  have ht : rt ((idx_main_v158 i) 0) = i 0 := Fin.ext (by show ((i 0).val * 256 + (i 1).val) / 64 / 4 = (i 0).val; omega)
  have hh : rh ((idx_main_v158 i) 0) = hd (i 1) := Fin.ext (by
    show ((i 0).val * 256 + (i 1).val) / 64 % 4 = (i 1).val / 64; omega)
  have he : (idx_main_v158 i) 1 = ln (i 1) := Fin.ext (by show ((i 0).val * 256 + (i 1).val) % 64 = (i 1).val % 64; omega)
  rw [val_main_v158_apply, v157 H, ht, hh, he]

/-- The reference's gradient of the keys. -/
theorem ref_dk (i : S4096x256.Idx) : val_main_v134 (F := Ideal) x0 x1 x2 x3 x4 i = (I.dk (i 0) (hd (i 1)) (ln (i 1)) : EReal) := by
  have h1 : (i 1).val < 256 := (i 1).isLt
  have ht : rt ((idx_main_v134 i) 0) = i 0 := Fin.ext (by show ((i 0).val * 256 + (i 1).val) / 64 / 4 = (i 0).val; omega)
  have hh : rh ((idx_main_v134 i) 0) = hd (i 1) := Fin.ext (by
    show ((i 0).val * 256 + (i 1).val) / 64 % 4 = (i 1).val / 64; omega)
  have he : (idx_main_v134 i) 1 = ln (i 1) := Fin.ext (by show ((i 0).val * 256 + (i 1).val) % 64 = (i 1).val % 64; omega)
  rw [val_main_v134_apply, v133 H, ht, hh, he]

/-- The reference's gradient of the values. -/
theorem ref_dv (i : S4096x256.Idx) : val_main_v112 (F := Ideal) x0 x1 x3 x4 i = (I.dv (i 0) (hd (i 1)) (ln (i 1)) : EReal) := by
  have h1 : (i 1).val < 256 := (i 1).isLt
  have e : idx_main_v112 i = ix3 (n0 := 4096) (n1 := 4) (n2 := 64) (i 0) (hd (i 1)) (ln (i 1)) := funext fun a => match a with
    | ⟨0, _⟩ => Fin.ext (by show ((i 0).val * 256 + (i 1).val) / 256 = (i 0).val; omega)
    | ⟨1, _⟩ => Fin.ext (by show ((i 0).val * 256 + (i 1).val) / 64 % 4 = (i 1).val / 64; omega)
    | ⟨2, _⟩ => Fin.ext (by show ((i 0).val * 256 + (i 1).val) % 64 = (i 1).val % 64; omega)
  rw [val_main_v112_apply, e, v83 H]

/-- The reference's gradient of the key gain. -/
theorem ref_dgk (i : S1x64.Idx) : val_main_v160 (F := Ideal) x0 x1 x2 x3 x4 i = (I.dgk (i 1) : EReal) := by
  rw [val_main_v160_apply, val_main_v119_apply]
  refine zsum_one _ _ _ lit_zero ?_
  rw [val_main_v116_apply, val_main_v115_apply]
  refine (zsum _ (fun r => I.pgk (rt r) (rh r) (i 1)) _ lit_zero fun r => ?_).trans (congrArg _ (sum_rows fun t h => I.pgk t h (i 1)))
  rw [val_main_v114_apply, v38 H, v113 H]
  have e : (idx_main_v115 (idx_main_v116 (idx_main_v119 (idx_main_v160 i) 0)) r) 1 = i 1 := Fin.ext (by
    show 0 * 64 + (i 1).val = (i 1).val; omega)
  rw [e]
  exact (EReal.coe_mul _ _).symm

/-- The reference's gradient of the query gain. -/
theorem ref_dgq (i : S1x64.Idx) : val_main_v159 (F := Ideal) x0 x1 x2 x3 x4 i = (I.dgq (i 1) : EReal) := by
  rw [val_main_v159_apply, val_main_v143_apply]
  refine zsum_one _ _ _ lit_zero ?_
  rw [val_main_v140_apply, val_main_v139_apply]
  refine (zsum _ (fun r => I.pgq (rt r) (rh r) (i 1)) _ lit_zero fun r => ?_).trans (congrArg _ (sum_rows fun t h => I.pgq t h (i 1)))
  rw [val_main_v138_apply, v18 H, v137 H]
  have e : (idx_main_v139 (idx_main_v140 (idx_main_v143 (idx_main_v159 i) 0)) r) 1 = i 1 := Fin.ext (by
    show 0 * 64 + (i 1).val = (i 1).val; omega)
  rw [e]
  exact (EReal.coe_mul _ _).symm

end Cert.Attn.Ref
-- ==== Proof.Chain.lean ====
/- The four points in turn: what each leaves, by what the points before left; and the five result arrays. -/
module

public import proofs.«01_k».proof.Proof.Blocks
public import proofs.«01_k».proof.Proof.RefOut

@[expose] public section

set_option maxRecDepth 16384

noncomputable section

namespace Cert.Attn

open Cert.Attn.Ker

theorem sum_gblk (F : Fin 32 → ℝ) : ∑ G, F G = (∑ b, F (gblk 0 b)) + ∑ b, F (gblk 1 b) := by
  rw [← Fin.sum_univ_two (f := fun n => ∑ b, F (gblk n b)), ← Fintype.sum_prod_type']
  refine (Fintype.sum_bijective (fun p : Fin 2 × Fin 16 => gblk p.1 p.2) ⟨?_, ?_⟩ _ _ fun p => rfl).symm
  · rintro ⟨n, b⟩ ⟨n', b'⟩ h
    have h' : 16 * n.val + b.val = 16 * n'.val + b'.val := congrArg Fin.val h
    exact Prod.ext (Fin.ext (by show n.val = n'.val; omega)) (Fin.ext (by show b.val = b'.val; omega))
  · intro G
    exact ⟨(⟨G.val / 16, by omega⟩, ⟨G.val % 16, by omega⟩), Fin.ext (by show 16 * (G.val / 16) + G.val % 16 = G.val; omega)⟩

/-- A gain's gradient's part from the points before `t`. -/
def acc (f : Fin 4096 → Fin 4 → Fin 64 → ℝ) : Nat → Fin 64 → ℝ
  | 0, _ => 0
  | t + 1, e => acc f t e + part f (head (hpt t) 0) (ntt t) e + part f (head (hpt t) 1) (ntt t) e

/-- After the four points it is the whole gradient. -/
theorem acc_four (f : Fin 4096 → Fin 4 → Fin 64 → ℝ) (e : Fin 64) : acc f 4 e = ∑ t, ∑ h, f t h e := by
  have hh : ∀ h, ∑ t, f t h e = part f h 0 e + part f h 1 e := fun h => by
    rw [sum_tok, sum_gblk]
    rfl
  rw [Finset.sum_comm, Fin.sum_univ_four, hh, hh, hh, hh]
  show 0 + part f 0 1 e + part f 1 1 e + part f 0 0 e + part f 1 0 e + part f 2 1 e + part f 3 1 e + part f 2 0 e
    + part f 3 0 e = _
  ring

end Cert.Attn

namespace Cert.Attn.Ker

open Idealize.ShloMosaic Cert.KernelIdeal Cert.KernelIdeal.Gen Idealize.ShloMosaic.TcCoe Idealize.SL.Sem

/-- An entry of a gain's gradient. -/
theorem lane_idx (y : S1x64.Idx) : ∃ e : Fin 64, y = ix2 0 e := ⟨y 1, funext fun a => match a with
  | ⟨0, _⟩ => Fin.ext (by have : (y 0).val < 1 := (y 0).isLt; show (y 0).val = 0; omega)
  | ⟨1, _⟩ => rfl⟩

/-- A row and a column of a window as a row of a block and a lane of a head. -/
theorem win_idx (y : S2048x128.Idx) : ∃ b r hd e, y = ix2 (wr b r) (lane hd e) := by
  have h0 : (y 0).val < 2048 := (y 0).isLt
  have h1 : (y 1).val < 128 := (y 1).isLt
  refine ⟨⟨(y 0).val / 128, by omega⟩, ⟨(y 0).val % 128, by omega⟩, ⟨(y 1).val / 64, by omega⟩, ⟨(y 1).val % 64, by omega⟩,
    funext fun a => ?_⟩
  match a with
  | ⟨0, _⟩ => exact Fin.ext (by show (y 0).val = 128 * ((y 0).val / 128) + (y 0).val % 128; omega)
  | ⟨1, _⟩ => exact Fin.ext (by show (y 1).val = 64 * ((y 1).val / 64) + (y 1).val % 64; omega)

variable {m : (ℓ : Loc nD τ sig) → Buf (Elt Ideal) ℓ} {c : Dev nD} {I : Inp} {x2 : Arr 4096 4} (W : Host m c I x2)

/-- What a point leaves, its carries and its gains' gradients found as the specification has them. -/
structure Left (m : (ℓ : Loc nD τ sig) → Buf (Elt Ideal) ℓ) (c : Dev nD) (I : Inp) (t : Fin cfg0.N) : Prop where
  out : ∃ cK cV gq gk, outsAt0 m c t.val t.isLt = left m c t cK cV gq gk ∧ Car cK cV I (hpt t.val) (ntt t.val)
    ∧ HasL gq (acc I.pgq t.val) ∧ HasL gk (acc I.pgk t.val)

include W

theorem Left.gq {t : Fin cfg0.N} (L : Left m c I t) : HasL (outsAt0 m c t.val t.isLt).2.2.2.1 (acc I.pgq (t.val + 1)) := by
  obtain ⟨cK, cV, gq, gk, e, C, hq, hk⟩ := L.out
  rw [e]
  exact outGq_val (at_pnt W t) (coords1 t) hq

theorem Left.gk {t : Fin cfg0.N} (L : Left m c I t) : HasL (outsAt0 m c t.val t.isLt).2.2.2.2.1 (acc I.pgk (t.val + 1)) := by
  obtain ⟨cK, cV, gq, gk, e, C, hq, hk⟩ := L.out
  rw [e]
  exact outGk_val (at_pnt W t) (coords1 t) C hk

theorem Left.car {t : Fin cfg0.N} (L : Left m c I t) (ht : t.val % 2 = 0) :
    Car (outsAt0 m c t.val t.isLt).2.2.2.2.2.1 (outsAt0 m c t.val t.isLt).2.2.2.2.2.2 I (hpt t.val) 0 := by
  obtain ⟨cK, cV, gq, gk, e, C, hq, hk⟩ := L.out
  rw [e]
  exact car_next (at_pnt W t) (coords1 t) (Fin.ext (by show 1 - t.val % 2 = 1; omega))

theorem Left.dq {t : Fin cfg0.N} (L : Left m c I t) (b r hd e) : (outsAt0 m c t.val t.isLt).1 (ix2 (wr b r) (lane hd e))
    = (I.dq (tok (gblk (ntt t.val) b) r) (head (hpt t.val) hd) e : EReal) := by
  obtain ⟨cK, cV, gq, gk, h, C, hq, hk⟩ := L.out
  rw [h]
  exact outQ_val (at_pnt W t) (coords1 t) b r hd e

theorem Left.dk {t : Fin cfg0.N} (L : Left m c I t) (b r hd e) : (outsAt0 m c t.val t.isLt).2.1 (ix2 (wr b r) (lane hd e))
    = (I.dk (tok (gblk (ntt t.val) b) r) (head (hpt t.val) hd) e : EReal) := by
  obtain ⟨cK, cV, gq, gk, h, C, hq, hk⟩ := L.out
  rw [h]
  exact outK_val (at_pnt W t) (coords1 t) C b r hd e

theorem Left.dv {t : Fin cfg0.N} (L : Left m c I t) (b r hd e) : (outsAt0 m c t.val t.isLt).2.2.1 (ix2 (wr b r) (lane hd e))
    = (I.dv (tok (gblk (ntt t.val) b) r) (head (hpt t.val) hd) e : EReal) := by
  obtain ⟨cK, cV, gq, gk, h, C, hq, hk⟩ := L.out
  rw [h]
  exact outV_val (at_pnt W t) (coords1 t) C b r hd e

omit W in
theorem left_first (t : Fin cfg0.N) (h : t.val = 0) : Left m c I t := by
  refine ⟨cnone, cnone, gnone, gnone, outs0_A m c t (by omega) (by omega), ?_, ?_, ?_⟩
  · rw [show ntt t.val = 1 from Fin.ext (by show 1 - t.val % 2 = 1; omega)]
    exact car_none
  · rw [h]
    exact gnone_val
  · rw [h]
    exact gnone_val

theorem left_next (s t : Fin cfg0.N) (hs : t.val = s.val + 1) (L : Left m c I s) : Left m c I t := by
  have ht := lt_N t
  have hp : t.val - 1 = s.val := by omega
  have hq := L.gq W
  have hk := L.gk W
  rw [← hs] at hq hk
  by_cases h1 : t.val % 2 = 0
  · have e := outs0_C m c t (by omega) h1
    simp only [hp] at e
    refine ⟨_, _, _, _, e, ?_, hq, hk⟩
    rw [show ntt t.val = 1 from Fin.ext (by show 1 - t.val % 2 = 1; omega)]
    exact car_none
  · have e := outs0_B m c t (by omega) h1
    simp only [hp] at e
    refine ⟨_, _, _, _, e, ?_, hq, hk⟩
    have C := L.car W (by omega)
    rw [show ntt t.val = 0 from Fin.ext (by show 1 - t.val % 2 = 0; omega),
      show hpt t.val = hpt s.val from Fin.ext (by show t.val / 2 % 2 = s.val / 2 % 2; omega)]
    exact C

theorem left_all : ∀ (n : Nat) (h : n < cfg0.N), Left m c I ⟨n, h⟩
  | 0, h => left_first ⟨0, h⟩ rfl
  | n + 1, h => left_next W ⟨n, Nat.lt_of_succ_lt h⟩ ⟨n + 1, h⟩ rfl (left_all n _)

omit W in
/-- The last point. -/
def lastPt : Fin cfg0.N := ⟨3, by decide⟩

omit W in
/-- Where a point's window entry lies in the result arrays. -/
theorem place (t : Fin cfg0.N) (b : Fin 16) (r : Fin 128) (h : Fin 2) (e : Fin 64) (j : S4096x256.Idx)
    (h0 : (j 0).val = (1 - t.val % 2) * 2048 + (wr b r).val) (h1 : (j 1).val = t.val / 2 * 128 + (lane h e).val)
    (f : Fin 4096 → Fin 4 → Fin 64 → ℝ) :
    ((f (tok (gblk (ntt t.val) b) r) (head (hpt t.val) h) e : ℝ) : EReal) = (f (j 0) (hd (j 1)) (ln (j 1)) : EReal) := by
  rw [row_eq] at h0
  rw [col_eq0] at h1
  rw [show j 0 = tok (gblk (ntt t.val) b) r from Fin.ext h0,
    show hd (j 1) = head (hpt t.val) h from Fin.ext (by show (j 1).val / 64 = _; omega),
    show ln (j 1) = e from Fin.ext (by show (j 1).val % 64 = _; omega)]

theorem final_dq : (dats m 0 c).arrAt 11 cfg0.N = fun j : S4096x256.Idx => (I.dq (j 0) (hd (j 1)) (ln (j 1)) : EReal) := by
  refine (dats m 0 c).arrAt_eq_of_covers 11 _ (by decide +kernel) fun t hf y => ?_
  obtain ⟨b, r, h, e, rfl⟩ := win_idx y
  refine Eq.trans ?_ (place t b r h e _ ?_ ?_ I.dq)
  · blk_simp
    rw [after0_11]
    exact (left_all W t.val t.isLt).dq W b r h e
  · blk_simp [idx t]
  · blk_simp [idx t]

theorem final_dk : (dats m 0 c).arrAt 12 cfg0.N = fun j : S4096x256.Idx => (I.dk (j 0) (hd (j 1)) (ln (j 1)) : EReal) := by
  refine (dats m 0 c).arrAt_eq_of_covers 12 _ (by decide +kernel) fun t hf y => ?_
  obtain ⟨b, r, h, e, rfl⟩ := win_idx y
  refine Eq.trans ?_ (place t b r h e _ ?_ ?_ I.dk)
  · blk_simp
    rw [after0_12]
    exact (left_all W t.val t.isLt).dk W b r h e
  · blk_simp [idx t]
  · blk_simp [idx t]

theorem final_dv : (dats m 0 c).arrAt 13 cfg0.N = fun j : S4096x256.Idx => (I.dv (j 0) (hd (j 1)) (ln (j 1)) : EReal) := by
  refine (dats m 0 c).arrAt_eq_of_covers 13 _ (by decide +kernel) fun t hf y => ?_
  obtain ⟨b, r, h, e, rfl⟩ := win_idx y
  refine Eq.trans ?_ (place t b r h e _ ?_ ?_ I.dv)
  · blk_simp
    rw [after0_13]
    exact (left_all W t.val t.isLt).dv W b r h e
  · blk_simp [idx t]
  · blk_simp [idx t]

theorem final_dgq : (dats m 0 c).arrAt 14 cfg0.N = fun j : S1x64.Idx => (I.dgq (j 1) : EReal) := by
  refine (dats m 0 c).arrAt_eq_of_after_last 14 lastPt (by decide +kernel) _ fun j => ?_
  obtain ⟨e, rfl⟩ := lane_idx j
  blk_simp
  rw [after0_14]
  refine ((left_all W lastPt.val lastPt.isLt).gq W e).trans ?_
  rw [show lastPt.val + 1 = 4 from rfl, acc_four]
  rfl

theorem final_dgk : (dats m 0 c).arrAt 15 cfg0.N = fun j : S1x64.Idx => (I.dgk (j 1) : EReal) := by
  refine (dats m 0 c).arrAt_eq_of_after_last 15 lastPt (by decide +kernel) _ fun j => ?_
  obtain ⟨e, rfl⟩ := lane_idx j
  blk_simp
  rw [after0_15]
  refine ((left_all W lastPt.val lastPt.isLt).gk W e).trans ?_
  rw [show lastPt.val + 1 = 4 from rfl, acc_four]
  rfl

end Cert.Attn.Ker
-- ==== Proof.HostOps.lean ====
/- The host operations before the launch compute, step for step, what the reference's first lines compute. -/
module

public import proofs.«01_k».proof.Proof.Gen.KernelIdeal.Value
public import proofs.«01_k».proof.Proof.Gen.ReferenceIdeal.Read
public import Idealize.ShloMosaic.Lib.StableHlo.Run

@[expose] public section

set_option maxRecDepth 16384

noncomputable section

namespace Cert.Attn.Line

open Idealize.ShloMosaic Cert.KernelIdeal Cert.KernelIdeal.Gen Idealize.ShloMosaic.TcCoe Idealize.SL.Sem
open Idealize.ShloMosaic.StableHlo
open Cert.ReferenceIdeal.Read

variable {F : FTy → Type} [FloatOps F]
variable (W : Valuation τ sig (Elt F))

/-- A line of operations runs as its first part and then its rest. -/
theorem after_cut (l l' : List (HloOp τ sig (Elt F))) : after (l ++ l') W = after l' (after l W) := by
  induction l generalizing W with
  | nil => rfl
  | cons a l ih => exact ih _

/-- The lines' query rows, -/
def seg1 : List (HloOp τ sig (Elt F)) := hostOps0.take 30
/-- their key rows, -/
def seg2 : List (HloOp τ sig (Elt F)) := (hostOps0.drop 30).take 22
/-- their scores and window, -/
def seg3 : List (HloOp τ sig (Elt F)) := (hostOps0.drop 30).drop 22
/-- their softmax, outputs and logarithms, -/
def seg5 : List (HloOp τ sig (Elt F)) := hostOps0_2.take 24
/-- and the kernel's layouts. -/
def seg6 : List (HloOp τ sig (Elt F)) := hostOps0_2.drop 24

theorem line_eq : (List.flatten [hostOps0, hostOps0_1, hostOps0_2] : List (HloOp τ sig (Elt F)))
    = seg1 ++ (seg2 ++ (seg3 ++ (hostOps0_1 ++ (seg5 ++ seg6)))) := rfl

theorem seg1_v24 : after seg1 W main_v24 = val_main_v24 (F := F) (W main_arg0) (W main_arg3) := by
  simp only [seg1, hostOps0, List.take_succ_cons, List.take_zero]
  after_results_simp
  first | done | rfl

theorem seg1_v1 : after seg1 W main_v1 = val_main_v1 (F := F) (W main_arg0) := by
  simp only [seg1, hostOps0, List.take_succ_cons, List.take_zero]
  after_results_simp
  first | done | rfl

theorem seg1_v2 : after seg1 W main_v2 = val_main_v2 (F := F) (W main_arg0) := by
  simp only [seg1, hostOps0, List.take_succ_cons, List.take_zero]
  after_results_simp
  first | done | rfl

theorem seg1_v4 : after seg1 W main_v4 = val_main_v4 (F := F) (W main_arg4) := by
  simp only [seg1, hostOps0, List.take_succ_cons, List.take_zero]
  after_results_simp
  first | done | rfl

theorem seg1_arg2 : after seg1 W main_arg2 = W main_arg2 := by
  simp only [seg1, hostOps0, List.take_succ_cons, List.take_zero]
  after_results_simp
  first | done | rfl

variable (x0 : (⟨S4096x2304, .f32⟩ : BufTy).Contents (Elt F)) (x3 x4 : (⟨S1x64, .f32⟩ : BufTy).Contents (Elt F))

theorem seg2_v42 (h1 : W main_v1 = val_main_v1 x0) (h4 : W main_v4 = val_main_v4 x4) : after seg2 W main_v42 = val_main_v42 (F := F) x0 x4 := by
  simp only [seg2, hostOps0, List.take_succ_cons, List.take_zero, List.drop_succ_cons, List.drop_zero]
  after_results_simp
  simp only [h1, h4]
  first | done | rfl

theorem seg2_v24 : after seg2 W main_v24 = W main_v24 := by
  simp only [seg2, hostOps0, List.take_succ_cons, List.take_zero, List.drop_succ_cons, List.drop_zero]
  after_results_simp
  first | done | rfl

theorem seg2_v2 : after seg2 W main_v2 = W main_v2 := by
  simp only [seg2, hostOps0, List.take_succ_cons, List.take_zero, List.drop_succ_cons, List.drop_zero]
  after_results_simp
  first | done | rfl

theorem seg2_arg2 : after seg2 W main_arg2 = W main_arg2 := by
  simp only [seg2, hostOps0, List.take_succ_cons, List.take_zero, List.drop_succ_cons, List.drop_zero]
  after_results_simp
  first | done | rfl

theorem seg3_v43 (h2 : W main_v2 = val_main_v2 x0) : after seg3 W main_v43 = val_main_v43 (F := F) x0 := by
  simp only [seg3, hostOps0, List.drop_succ_cons, List.drop_zero]
  after_results_simp
  simp only [h2]
  first | done | rfl

theorem seg3_v44 (h24 : W main_v24 = val_main_v24 x0 x3) (h42 : W main_v42 = val_main_v42 x0 x4) : after seg3 W main_v44 = val_main_v44 (F := F) x0 x3 x4 := by
  simp only [seg3, hostOps0, List.drop_succ_cons, List.drop_zero]
  after_results_simp
  simp only [h24, h42]
  first | done | rfl

theorem seg3_v56 : after seg3 W main_v56 = val_main_v56 (F := F) := by
  simp only [seg3, hostOps0, List.drop_succ_cons, List.drop_zero]
  after_results_simp
  first | done | rfl

theorem seg3_cst_9 : after seg3 W main_cst_9 = val_main_cst_9 (F := F) := by
  simp only [seg3, hostOps0, List.drop_succ_cons, List.drop_zero]
  after_results_simp
  first | done | rfl

theorem seg3_arg2 : after seg3 W main_arg2 = W main_arg2 := by
  simp only [seg3, hostOps0, List.drop_succ_cons, List.drop_zero]
  after_results_simp
  first | done | rfl

theorem seg4_v57_0 (h44 : W main_v44 = val_main_v44 x0 x3 x4) (h56 : W main_v56 = val_main_v56) (h9 : W main_cst_9 = val_main_cst_9) : after hostOps0_1 W main_v57_0 = val_main_v57_0 (F := F) x0 x3 x4 := by
  simp only [hostOps0_1, TRef.nullary, TRef.ternary, TRef.unary, TRef.toBuf, TRef.ofBuf, cast_eq]
  after_results_simp
  simp only [h44, h56, h9]
  first | done | rfl

theorem seg4_v43 : after hostOps0_1 W main_v43 = W main_v43 := by
  simp only [hostOps0_1, TRef.nullary, TRef.ternary, TRef.unary, TRef.toBuf, TRef.ofBuf, cast_eq]
  after_results_simp
  first | done | rfl

theorem seg4_arg2 : after hostOps0_1 W main_arg2 = W main_arg2 := by
  simp only [hostOps0_1, TRef.nullary, TRef.ternary, TRef.unary, TRef.toBuf, TRef.ofBuf, cast_eq]
  after_results_simp
  first | done | rfl

theorem seg5_v75 (h57 : W main_v57_0 = val_main_v57_0 x0 x3 x4) (h43 : W main_v43 = val_main_v43 x0) : after seg5 W main_v75 = val_main_v75 (F := F) x0 x3 x4 := by
  simp only [seg5, hostOps0_2, List.take_succ_cons, List.take_zero]
  after_results_simp
  simp only [h57, h43]
  first | done | rfl

theorem seg5_v77 (h57 : W main_v57_0 = val_main_v57_0 x0 x3 x4) : after seg5 W main_v77 = val_main_v77 (F := F) x0 x3 x4 := by
  simp only [seg5, hostOps0_2, List.take_succ_cons, List.take_zero]
  after_results_simp
  simp only [h57]
  first | done | rfl

theorem seg5_arg2 : after seg5 W main_arg2 = W main_arg2 := by
  simp only [seg5, hostOps0_2, List.take_succ_cons, List.take_zero]
  after_results_simp
  first | done | rfl

end Cert.Attn.Line
-- ==== Proof.Host.lean ====
/- What the launch hands the kernel: the saved outputs, the logarithms and their gradients, head by head in lanes. -/
module

public import proofs.«01_k».proof.Proof.HostOps
public import proofs.«01_k».proof.Proof.Blocks
public import proofs.«01_k».proof.Proof.RefSoft

@[expose] public section

set_option maxRecDepth 16384

noncomputable section

namespace Cert.Attn.Line

open Idealize.ShloMosaic Cert.KernelIdeal Cert.KernelIdeal.Gen Idealize.ShloMosaic.TcCoe Idealize.SL.Sem
open Idealize.ShloMosaic.StableHlo
open Cert.ReferenceIdeal.Read

/-- The heads' lanes side by side: entry `(t, 64 h + e)` is the entry `(t, h, e)`. -/
theorem lanes (y : S4096x4x64.Idx → EReal) (j : S4096x256.Idx) (t : Fin 4096) (h : Fin 4) (e : Fin 64)
    (ht : (j 0).val = t.val) (he : (j 1).val = h.val * 64 + e.val) :
    shapeCast S4096x256 y shapeCasts_S4096x4x64_S4096x256 j = y (ix3 t h e) :=
  shapeCast_apply y shapeCasts_S4096x4x64_S4096x256 j (ix3 t h e) (by
    rewrite [Shape.rowMajor_val_two, Shape.rowMajor_val_three]
    show (t.val * 4 + h.val) * 64 + e.val = (j 0).val * 256 + (j 1).val
    omega)

/-- A head's number repeated over its lanes. -/
theorem spread (y : S4096x4.Idx → EReal) (t : Fin 4096) (h : Fin 4) (e : Fin 64) :
    broadcastInDim S4096x4x64 ![0, 1, 2] bcast_S4096x4x1_S4096x4x64_0_1_2
      (broadcastInDim S4096x4x1 ![0, 1] bcast_S4096x4_S4096x4x1_0_1 y) (ix3 t h e) = y (ix2 t h) := by
  refine (broadcastInDim_apply _ bcast_S4096x4x1_S4096x4x64_0_1_2 _ _ (ix3 t h 0) fun a => match a with
    | ⟨0, _⟩ => rfl
    | ⟨1, _⟩ => rfl
    | ⟨2, _⟩ => rfl).trans ?_
  exact broadcastInDim_apply _ bcast_S4096x4_S4096x4x1_0_1 y _ (ix2 t h) fun a => match a with
    | ⟨0, _⟩ => rfl
    | ⟨1, _⟩ => rfl

variable (W : Valuation τ sig (Elt Ideal))

theorem seg6_v79 (j : S4096x256.Idx) (t : Fin 4096) (h : Fin 4) (e : Fin 64) (ht : (j 0).val = t.val)
    (he : (j 1).val = h.val * 64 + e.val) : after seg6 W main_v79 j = W main_v75 (ix3 h t e) := by
  simp only [seg6, hostOps0_2, List.drop_succ_cons, List.drop_zero]
  after_results_simp
  refine (lanes _ j t h e ht he).trans ?_
  exact transpose_apply [1, 0, 2] _ transposes_S4x4096x64_S4096x4x64_1_0_2 (ix3 t h e) (ix3 h t e) fun b => match b with
    | ⟨0, _⟩ => rfl
    | ⟨1, _⟩ => rfl
    | ⟨2, _⟩ => rfl

theorem seg6_v83 (j : S4096x256.Idx) (t : Fin 4096) (h : Fin 4) (e : Fin 64) (ht : (j 0).val = t.val)
    (he : (j 1).val = h.val * 64 + e.val) : after seg6 W main_v83 j = W main_v77 (ix2 h t) := by
  simp only [seg6, hostOps0_2, List.drop_succ_cons, List.drop_zero]
  after_results_simp
  refine (lanes _ j t h e ht he).trans ((spread _ t h e).trans ?_)
  exact transpose_apply [1, 0] _ transposes_S4x4096_S4096x4_1_0 (ix2 t h) (ix2 h t) fun b => match b with
    | ⟨0, _⟩ => rfl
    | ⟨1, _⟩ => rfl

theorem seg6_v86 (j : S4096x256.Idx) (t : Fin 4096) (h : Fin 4) (e : Fin 64) (ht : (j 0).val = t.val)
    (he : (j 1).val = h.val * 64 + e.val) : after seg6 W main_v86 j = W main_arg2 (ix2 t h) := by
  simp only [seg6, hostOps0_2, List.drop_succ_cons, List.drop_zero]
  after_results_simp
  exact (lanes _ j t h e ht he).trans (spread _ t h e)

/-- The contents before the layouts. -/
def before : Valuation τ sig (Elt Ideal) := after seg5 (after hostOps0_1 (after seg3 (after seg2 (after seg1 W))))

theorem whole : after (List.flatten [hostOps0, hostOps0_1, hostOps0_2]) W = after seg6 (before W) := by
  rw [line_eq, after_cut, after_cut, after_cut, after_cut, after_cut]; rfl

theorem before_v57 : after hostOps0_1 (after seg3 (after seg2 (after seg1 W))) main_v57_0
    = val_main_v57_0 (F := Ideal) (W main_arg0) (W main_arg3) (W main_arg4) :=
  seg4_v57_0 _ _ _ _
    (seg3_v44 _ _ _ _ ((seg2_v24 _).trans (seg1_v24 W)) (seg2_v42 _ _ _ (seg1_v1 W) (seg1_v4 W)))
    (seg3_v56 _) (seg3_cst_9 _)

theorem before_v43 : after hostOps0_1 (after seg3 (after seg2 (after seg1 W))) main_v43 = val_main_v43 (F := Ideal) (W main_arg0) :=
  (seg4_v43 _).trans (seg3_v43 _ _ ((seg2_v2 _).trans (seg1_v2 W)))

theorem before_v75 : before W main_v75 = val_main_v75 (F := Ideal) (W main_arg0) (W main_arg3) (W main_arg4) :=
  seg5_v75 _ _ _ _ (before_v57 W) (before_v43 W)

theorem before_v77 : before W main_v77 = val_main_v77 (F := Ideal) (W main_arg0) (W main_arg3) (W main_arg4) :=
  seg5_v77 _ _ _ _ (before_v57 W)

theorem before_arg2 : before W main_arg2 = W main_arg2 :=
  (seg5_arg2 _).trans ((seg4_arg2 _).trans ((seg3_arg2 _).trans ((seg2_arg2 _).trans (seg1_arg2 W))))

end Cert.Attn.Line

namespace Cert.Attn.Ker

open Idealize.ShloMosaic Cert.KernelIdeal Cert.KernelIdeal.Gen Idealize.ShloMosaic.TcCoe Idealize.SL.Sem

variable (m : (ℓ : Loc nD τ sig) → Buf (Elt Ideal) ℓ) (c : Dev nD) {I : Inp}

/-- The launch's arguments at real inputs. -/
theorem host_of (H : Reads I (m ((c : Thread nD τ).loc main_arg0)) (m ((c : Thread nD τ).loc main_arg1))
    (m ((c : Thread nD τ).loc main_arg2)) (m ((c : Thread nD τ).loc main_arg3)) (m ((c : Thread nD τ).loc main_arg4))) :
    Host m c I (m ((c : Thread nD τ).loc main_arg2)) where
  args := by rw [V_main_arg0, V_main_arg1, V_main_arg3, V_main_arg4]; exact H
  o j t h e ht he := by
    refine (congrFun (congrFun (Line.whole fun b => m (c, b)) main_v79) j).trans ?_
    refine (Line.seg6_v79 _ j t h e ht he).trans ?_
    exact (congrFun (Line.before_v75 fun b => m (c, b)) _).trans (Ref.v75 H _)
  l j t h e ht he := by
    refine (congrFun (congrFun (Line.whole fun b => m (c, b)) main_v83) j).trans ?_
    refine (Line.seg6_v83 _ j t h e ht he).trans ?_
    exact (congrFun (Line.before_v77 fun b => m (c, b)) _).trans (Ref.v77 H _)
  dl j t h e ht he := by
    refine (congrFun (congrFun (Line.whole fun b => m (c, b)) main_v86) j).trans ?_
    refine (Line.seg6_v86 _ j t h e ht he).trans ?_
    exact (congrFun (Line.before_arg2 fun b => m (c, b)) _).trans (H.dl _ t h rfl rfl)

end Cert.Attn.Ker
-- ==== Proof.Finite.lean ====
/- The precondition read off: every entry of the five arguments is a real number. -/
module

public import proofs.«01_k».proof.Proof.Coe
public import proofs.«01_k».proof.Pre_finite
public import Idealize.ShloMosaic.Lib.ReduceAll

@[expose] public section

noncomputable section

namespace Cert.Attn

open Idealize.ShloMosaic Cert.Pre_finite Cert.Pre_finite.Facts

theorem lit_top : Ideal.ofBits .f32 0x7F800000#32 = (⊤ : EReal) := by
  simp [Ideal.ofBits, Ideal.ieee]

/-- A value whose magnitude is below `+∞` is real. -/
theorem real_of_small (a : EReal) (h : FloatOps.cmpf (F := Ideal) (φ := .f32) .olt (max a (-a)) (Ideal.ofBits .f32 0x7F800000#32) = 1#1) :
    ∃ r : ℝ, a = (r : EReal) := by
  rw [lit_top] at h
  have h' : BitVec.ofBool (decide (max a (-a) < ⊤)) = 1#1 := h
  have hlt : max a (-a) < ⊤ := by
    by_contra hn
    rw [decide_eq_false hn] at h'
    exact absurd h' (by decide)
  have h1 : a ≠ ⊤ := fun e => by rw [e] at hlt; simp at hlt
  have h2 : a ≠ ⊥ := fun e => by rw [e] at hlt; simp at hlt
  exact ⟨a.toReal, (EReal.coe_toReal h1 h2).symm⟩

instance : Subsingleton S_.Idx := ⟨fun _ _ => funext fun a => a.elim0⟩

/-- Where the `and` of two flags is one, both are. -/
theorem both {p q : IVec S_ 1} {j : S_.Idx} (h : andi p q j = 1#1) : p j = 1#1 ∧ q j = 1#1 := IntOp.andi_eq_one.1 h

variable [Facts]

/-- An array all of whose magnitudes are below `+∞` holds real numbers. -/
theorem all_real {s : Shape} (x : FVec Ideal s .f32) (hb : S_.BroadcastsInDim s ![]) {axes : List (Fin s.rank)} (hr : s.ReducesTo axes S_) (j : S_.Idx)
    (h : Host.reduce IntOp.andi (cmpf .olt (Host.absf x) (broadcastInDim s ![] hb (constant S_ .f32 0x7F800000#32)))
      (constantI S_ 1 1#1) hr h_S_ j = 1#1) (i : s.Idx) : ∃ r : ℝ, x i = (r : EReal) :=
  real_of_small _ (Host.reduce_andi_all _ _ _ _ j h i)

variable (x0 : FVec Ideal S4096x2304 .f32) (x1 : FVec Ideal S4096x256 .f32) (x2 : FVec Ideal S4096x4 .f32)
  (x3 x4 : FVec Ideal S1x64 .f32)

theorem finite_args (h : fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ ∀ i, ∃ r : ℝ, x4 i = (r : EReal) := by
  have h0 := congrFun h (fun a => a.elim0)
  obtain ⟨h0, h4⟩ := both h0
  obtain ⟨h0, h3⟩ := both h0
  obtain ⟨h0, h2⟩ := both h0
  obtain ⟨h0, h1⟩ := both h0
  exact ⟨all_real x0 _ _ _ h0, all_real x1 _ _ _ h1, all_real x2 _ _ _ h2, all_real x3 _ _ _ h3, all_real x4 _ _ _ h4⟩

end Cert.Attn
-- ==== Proof.Claims.lean ====
/- The claims, each from its program's run. -/
module

public import proofs.«01_k».proof.Defs
public import proofs.«01_k».proof.Proof.Chain
public import proofs.«01_k».proof.Proof.Host
public import proofs.«01_k».proof.Proof.Finite
public import proofs.«01_k».proof.Proof.RefOut
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import Idealize.ShloMosaic.Lib.Claim

@[expose] public section

set_option maxRecDepth 16384

noncomputable section

namespace Cert.Attn

open Idealize.ShloMosaic Idealize.ShloMosaic.TcCoe Idealize.SL.Sem

theorem frame_kernel : Cert.quiescent_Kernel := fun m g _ => Cert.Kernel.Gen.frame m g

theorem frame_ideal : Cert.quiescent_KernelIdeal := fun m g _ => Cert.KernelIdeal.Gen.frame m g

theorem frame_ideal_finite : Cert.quiescent_KernelIdeal_pre_finite := fun m g _ => Cert.KernelIdeal.Gen.frame m g

/-- The reference keeps its arguments, and has no semaphore. -/
theorem frame_reference : Cert.quiescent_ReferenceIdeal := fun m g _ =>
  (θ_run Cert.ReferenceIdeal.defs _ _).mono
    (fun r h => ⟨fun c => (h c).2.2.2.2.2, sem_eq_zero_of_no_sems (by decide) r.2⟩)
    (Cert.ReferenceIdeal.Value.run (F := Ideal) m g)

theorem frame_reference_finite : Cert.quiescent_ReferenceIdeal_pre_finite := fun m g _ => frame_reference m g trivial

theorem preserves : Cert.preserves_Kernel_KernelIdeal :=
  IdealRules.named_const.statement Cert.KernelIdeal.κ "mask" .f32 0xF149F2CA#32 ⊥ rfl

section

open Cert.KernelIdeal

variable (m : (ℓ : Loc nD τ sig) → Buf (Elt Ideal) ℓ) (c : Dev nD)

/-- The real arguments on a device. -/
def args : Inp := inp (m ((c : Thread nD τ).loc main_arg0)) (m ((c : Thread nD τ).loc main_arg1)) (m ((c : Thread nD τ).loc main_arg2))
  (m ((c : Thread nD τ).loc main_arg3)) (m ((c : Thread nD τ).loc main_arg4))

theorem args_read (h : Cert.Pre_KernelIdeal_finite m) :
    Reads (args m c) (m ((c : Thread nD τ).loc main_arg0)) (m ((c : Thread nD τ).loc main_arg1)) (m ((c : Thread nD τ).loc main_arg2))
      (m ((c : Thread nD τ).loc main_arg3)) (m ((c : Thread nD τ).loc main_arg4)) := by
  obtain ⟨h0, h1, h2, h3, h4⟩ := finite_args _ _ _ _ _ (h c)
  exact reads_inp _ _ _ _ _ h0 h1 h2 h3 h4

/-- The kernel ends with the five gradients. -/
theorem kernel_run (g : Dev nD → PrngReg) (h : Cert.Pre_KernelIdeal_finite m) :
    θ_run defs (onTc (τ := τ) (main (F := Ideal))) ⟨m, fun _ => 0, g⟩ fun r => ∀ c : Dev nD,
      r.2.mem ((c : Thread nD τ).loc main_v87_0) = (fun j : S4096x256.Idx => ((args m c).dq (j 0) (hd (j 1)) (ln (j 1)) : EReal))
      ∧ r.2.mem ((c : Thread nD τ).loc main_v87_1) = (fun j : S4096x256.Idx => ((args m c).dk (j 0) (hd (j 1)) (ln (j 1)) : EReal))
      ∧ r.2.mem ((c : Thread nD τ).loc main_v87_2) = (fun j : S4096x256.Idx => ((args m c).dv (j 0) (hd (j 1)) (ln (j 1)) : EReal))
      ∧ r.2.mem ((c : Thread nD τ).loc main_v87_3) = (fun j : S1x64.Idx => ((args m c).dgq (j 1) : EReal))
      ∧ r.2.mem ((c : Thread nD τ).loc main_v87_4) = (fun j : S1x64.Idx => ((args m c).dgk (j 1) : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r hr c => by
    have W := Ker.host_of m c (args_read m c h)
    obtain ⟨e0, e1, e2, e3, e4, k⟩ := hr c
    exact ⟨e0.trans (Ker.final_dq W), e1.trans (Ker.final_dk W), e2.trans (Ker.final_dv W), e3.trans (Ker.final_dgq W),
      e4.trans (Ker.final_dgk W), k⟩) (Cert.KernelIdeal.Value.run_blocks m g)

end

section

open Cert.ReferenceIdeal Cert.ReferenceIdeal.Read

variable (m : (ℓ : Loc nD τ sig) → Buf (Elt Ideal) ℓ)

/-- So does the reference. -/
theorem reference_run (g : Dev nD → PrngReg) (I : Dev nD → Inp)
    (H : ∀ c : Dev nD, Reads (I c) (m ((c : Thread nD τ).loc main_arg0)) (m ((c : Thread nD τ).loc main_arg1)) (m ((c : Thread nD τ).loc main_arg2))
      (m ((c : Thread nD τ).loc main_arg3)) (m ((c : Thread nD τ).loc main_arg4))) :
    θ_run defs (onTc (τ := τ) (main (F := Ideal))) ⟨m, fun _ => 0, g⟩ fun r => ∀ c : Dev nD,
      r.2.mem ((c : Thread nD τ).loc main_v158) = (fun j : S4096x256.Idx => ((I c).dq (j 0) (hd (j 1)) (ln (j 1)) : EReal))
      ∧ r.2.mem ((c : Thread nD τ).loc main_v134) = (fun j : S4096x256.Idx => ((I c).dk (j 0) (hd (j 1)) (ln (j 1)) : EReal))
      ∧ r.2.mem ((c : Thread nD τ).loc main_v112) = (fun j : S4096x256.Idx => ((I c).dv (j 0) (hd (j 1)) (ln (j 1)) : EReal))
      ∧ r.2.mem ((c : Thread nD τ).loc main_v159) = (fun j : S1x64.Idx => ((I c).dgq (j 1) : EReal))
      ∧ r.2.mem ((c : Thread nD τ).loc main_v160) = (fun j : S1x64.Idx => ((I c).dgk (j 1) : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r hr c => by
    obtain ⟨e0, e1, e2, e3, e4, k⟩ := hr c
    exact ⟨(e0.trans (val_main_v158_eq _)).trans (funext (Ref.ref_dq (H c))), (e1.trans (val_main_v134_eq _)).trans (funext (Ref.ref_dk (H c))),
      (e2.trans (val_main_v112_eq _)).trans (funext (Ref.ref_dv (H c))), (e3.trans (val_main_v159_eq _)).trans (funext (Ref.ref_dgq (H c))),
      (e4.trans (val_main_v160_eq _)).trans (funext (Ref.ref_dgk (H c))), k⟩) (Cert.ReferenceIdeal.Value.run (F := Ideal) m g)

end

/-- Kernel and reference agree. -/
theorem algebraic : Cert.algebraic_KernelIdeal_ReferenceIdeal_pre_finite := fun m g m' g' h e =>
  ⟨_, _, _, _, _, kernel_run m g h, reference_run m' g' (fun c => args m c) fun c => by
    obtain ⟨e0, e1, e2, e3, e4⟩ := e c
    rw [e0, e1, e2, e3, e4]
    exact args_read m c h⟩

end Cert.Attn
-- ==== Proof.DactVal.lean ====
/- The gated unit's gradients, entry by entry: what one grid point's body stores in its block. -/
module

public import proofs.«01_k».proof.Proof.Gen.DactKernelIdeal.Value
public import Idealize.ShloMosaic.Lib.Pointwise
public import Idealize.ShloMosaic.PureOps.Ideal.Laws
public import Idealize.ShloMosaic.Lib.Pipeline.ValueKit

@[expose] public section

set_option maxRecDepth 16384

noncomputable section

namespace Cert.Dact

open Idealize.ShloMosaic

/-- The number 0.5. -/
abbrev half : EReal := Ideal.ofBits .f32 0x3F000000#32

/-- The gate's gradient, from the gradient of the unit's product, the other branch and the gate; -/
def dgate (t u g : EReal) : EReal := t * u * (Ideal.logistic g * (1 + g * (1 - Ideal.logistic g)))
/-- the other branch's; -/
def dup (t g : EReal) : EReal := t * g * Ideal.logistic g

end Cert.Dact

namespace Cert.Dact.Ker

open Idealize.ShloMosaic Cert.DactKernelIdeal Cert.DactKernelIdeal.Gen

variable (d : Vec Ideal S512x1024 .bf16) (w : Vec Ideal S1408x1024 .bf16) (g u : Vec Ideal S512x1408 .bf16)

theorem pay4_val (r : Fin 512) (f : Fin 1408) :
    k0_pay4 d w g u (ix3 0 r f) = dgate (half * ∑ k : Fin 1024, d (ix2 r k) * w (ix2 f k)) (u (ix2 r f)) (g (ix2 r f)) := by
  pointwise [k0_pay4, k0_pay3, k0_pay2, k0_pay1]
  rfl

theorem pay5_val (r : Fin 512) (f : Fin 1408) :
    k0_pay5 d w g (ix3 0 r f) = dup (half * ∑ k : Fin 1024, d (ix2 r k) * w (ix2 f k)) (g (ix2 r f)) := by
  pointwise [k0_pay5, k0_pay3, k0_pay2, k0_pay1]
  rfl

/-- The block a point leaves: the gate's gradient, then the other branch's. -/
def blk : Vec Ideal S2x512x1408 .bf16 := fun y =>
  let t := half * ∑ k : Fin 1024, d (ix2 (y 1) k) * w (ix2 (y 2) k)
  if (y 0).val = 0 then dgate t (u (ix2 (y 1) (y 2))) (g (ix2 (y 1) (y 2))) else dup t (g (ix2 (y 1) (y 2)))

theorem idx1 (x : S1x512x1408.Idx) : x = ix3 0 (x 1) (x 2) := by
  funext a
  match a with
  | ⟨0, _⟩ => exact Subsingleton.elim (α := Fin 1) _ _
  | ⟨1, _⟩ => rfl
  | ⟨2, _⟩ => rfl

theorem emb4 (x : S1x512x1408.Idx) : r0_4.emb x = ix3 1 (x 1) (x 2) := by
  funext a
  match a with
  | ⟨0, _⟩ => exact Fin.ext (by have := (x 0).isLt; show 1 + 1 * (x 0).val = 1; change (x 0).val < 1 at this; omega)
  | ⟨1, _⟩ => exact Fin.ext (by show 0 + 1 * (x 1).val = (x 1).val; omega)
  | ⟨2, _⟩ => exact Fin.ext (by show 0 + 1 * (x 2).val = (x 2).val; omega)

theorem emb3 (x : S1x512x1408.Idx) : r0_3.emb x = ix3 0 (x 1) (x 2) := by
  funext a
  match a with
  | ⟨0, _⟩ => exact Fin.ext (by have := (x 0).isLt; show 0 + 1 * (x 0).val = 0; change (x 0).val < 1 at this; omega)
  | ⟨1, _⟩ => exact Fin.ext (by show 0 + 1 * (x 1).val = (x 1).val; omega)
  | ⟨2, _⟩ => exact Fin.ext (by show 0 + 1 * (x 2).val = (x 2).val; omega)

theorem out_val : out0_4 d w g u = blk d w g u := by
  funext y
  unfold out0_4
  rw [View.ld_unit_zero (by decide), View.ld_unit_zero (by decide), View.ld_unit_zero (by decide), View.ld_unit_zero (by decide)]
  refine View.canon_apply_of_pieces (Val := Elt Ideal) (S := S2x512x1408) (e := .bf16) (blk d w g u) _ ?_ y (cover0_4 _ _ y)
  intro p hp x
  simp only [List.mem_cons, List.not_mem_nil, or_false] at hp
  obtain rfl | rfl := hp
  · refine Eq.trans (congrArg (k0_pay5 d w g) (idx1 x)) ((pay5_val d w g (x 1) (x 2)).trans ?_)
    exact (congrArg (blk d w g u) (emb4 x)).symm
  · refine Eq.trans (congrArg (k0_pay4 d w g u) (idx1 x)) ((pay4_val d w g u (x 1) (x 2)).trans ?_)
    exact (congrArg (blk d w g u) (emb3 x)).symm

end Cert.Dact.Ker

namespace Cert.Dact

open Idealize.ShloMosaic Cert.DactKernelIdeal

/-- The gradients of a whole half-step's unit: of the gate, then of the other branch. -/
def grads (ct : S4096x1024.Idx → EReal) (ga up : S4096x2816.Idx → EReal) (wo : S2816x1024.Idx → EReal) (j : S2x4096x2816.Idx) : EReal :=
  let t := half * ∑ k : Fin 1024, ct (ix2 (j 1) k) * wo (ix2 (j 2) k)
  if (j 0).val = 0 then dgate t (up (ix2 (j 1) (j 2))) (ga (ix2 (j 1) (j 2))) else dup t (ga (ix2 (j 1) (j 2)))

end Cert.Dact

namespace Cert.Dact.Ker

open Idealize.ShloMosaic Cert.DactKernelIdeal Cert.DactKernelIdeal.Gen Idealize.ShloMosaic.TcCoe Idealize.SL.Sem

theorem lt_N (t : Fin cfg0.N) : t.val < 16 := lt_of_lt_of_eq t.isLt N_0

/-- The array's row and lane of a point's row and lane. -/
def row (t : Fin cfg0.N) (r : Fin 512) : Fin 4096 := ⟨t.val / 2 * 512 + r.val, by have := lt_N t; omega⟩
def lane (t : Fin cfg0.N) (f : Fin 1408) : Fin 2816 := ⟨t.val % 2 * 1408 + f.val, by omega⟩

theorem idx : ∀ t : Fin cfg0.N, win0_0.index t = ![t.val / 2, 0] ∧ win0_1.index t = ![t.val % 2, 0]
    ∧ win0_2.index t = ![t.val / 2, t.val % 2] ∧ win0_3.index t = ![t.val / 2, t.val % 2]
    ∧ win0_4.index t = ![0, t.val / 2, t.val % 2] :=
  (by decide +kernel : ∀ t : Fin grid0.N, _)

/-- The windows read. -/
theorem rd_ct (A : S4096x1024.Idx → EReal) (t : Fin cfg0.N) (r : Fin 512) (k : Fin 1024) :
    ((cfg0.win 0).blk t).view.read (Elt Ideal) A (ix2 r k) = A (ix2 (row t r) k) := by
  refine congrArg A (funext fun a => ?_)
  match a with
  | ⟨0, _⟩ => exact Fin.ext (by blk_simp [idx t]; rfl)
  | ⟨1, _⟩ => exact Fin.ext (by blk_simp [idx t])

theorem rd_wo (A : S2816x1024.Idx → EReal) (t : Fin cfg0.N) (f : Fin 1408) (k : Fin 1024) :
    ((cfg0.win 1).blk t).view.read (Elt Ideal) A (ix2 f k) = A (ix2 (lane t f) k) := by
  refine congrArg A (funext fun a => ?_)
  match a with
  | ⟨0, _⟩ => exact Fin.ext (by blk_simp [idx t]; rfl)
  | ⟨1, _⟩ => exact Fin.ext (by blk_simp [idx t])

theorem rd_ga (A : S4096x2816.Idx → EReal) (t : Fin cfg0.N) (r : Fin 512) (f : Fin 1408) :
    ((cfg0.win 2).blk t).view.read (Elt Ideal) A (ix2 r f) = A (ix2 (row t r) (lane t f)) := by
  refine congrArg A (funext fun a => ?_)
  match a with
  | ⟨0, _⟩ => exact Fin.ext (by blk_simp [idx t]; rfl)
  | ⟨1, _⟩ => exact Fin.ext (by blk_simp [idx t]; rfl)

theorem rd_up (A : S4096x2816.Idx → EReal) (t : Fin cfg0.N) (r : Fin 512) (f : Fin 1408) :
    ((cfg0.win 3).blk t).view.read (Elt Ideal) A (ix2 r f) = A (ix2 (row t r) (lane t f)) := by
  refine congrArg A (funext fun a => ?_)
  match a with
  | ⟨0, _⟩ => exact Fin.ext (by blk_simp [idx t]; rfl)
  | ⟨1, _⟩ => exact Fin.ext (by blk_simp [idx t]; rfl)

variable (m : (ℓ : Loc nD τ sig) → Buf (Elt Ideal) ℓ) (c : Dev nD)

/-- A block whose windows hold an array's rows and lanes is a place in the gradients. -/
theorem blk_grads {d : Vec Ideal S512x1024 .bf16} {w : Vec Ideal S1408x1024 .bf16} {g u : Vec Ideal S512x1408 .bf16}
    {a : S4096x1024.Idx → EReal} {b : S2816x1024.Idx → EReal} {ga up : S4096x2816.Idx → EReal} (y : S2x512x1408.Idx)
    (s : Fin 4096) (l : Fin 2816) (h0 : ∀ k : Fin 1024, d (ix2 (y 1) k) = a (ix2 s k)) (h1 : ∀ k : Fin 1024, w (ix2 (y 2) k) = b (ix2 l k))
    (h2 : g (ix2 (y 1) (y 2)) = ga (ix2 s l)) (h3 : u (ix2 (y 1) (y 2)) = up (ix2 s l)) :
    blk d w g u y = grads a ga up b (ix3 (y 0) s l) := by
  unfold blk grads
  rw [h2, h3]
  simp only [h0, h1]
  rfl

/-- A point's block is its place in the gradients. -/
theorem point (t : Fin cfg0.N) (y : S2x512x1408.Idx) : blk (iblk m c 0 t) (iblk m c 1 t) (iblk m c 2 t) (iblk m c 3 t) y
    = grads (V m c main_v0) (V m c main_v2) (V m c main_v3) (V m c main_v1) (ix3 (y 0) (row t (y 1)) (lane t (y 2))) :=
  blk_grads y _ _ (fun k => rd_ct _ t (y 1) k) (fun k => rd_wo _ t (y 2) k) (rd_ga _ t (y 1) (y 2)) (rd_up _ t (y 1) (y 2))

/-- The kernel's array ends holding the gradients. -/
theorem final : (dats m 0 c).arrAt 4 cfg0.N = grads (V m c main_v0) (V m c main_v2) (V m c main_v3) (V m c main_v1) := by
  refine (dats m 0 c).arrAt_eq_of_covers 4 _ (by decide +kernel) fun t hf y => ?_
  have he : ((cfg0.win 4).blk t).view.emb y = ix3 (y 0) (row t (y 1)) (lane t (y 2)) := by
    funext a
    match a with
    | ⟨0, _⟩ => exact Fin.ext (by blk_simp [idx t]; rfl)
    | ⟨1, _⟩ => exact Fin.ext (by blk_simp [idx t]; rfl)
    | ⟨2, _⟩ => exact Fin.ext (by blk_simp [idx t]; rfl)
  blk_simp
  rw [after0_4, out_val]
  exact (point m c t y).trans (congrArg (grads (V m c main_v0) (V m c main_v2) (V m c main_v3) (V m c main_v1)) he).symm

end Cert.Dact.Ker
-- ==== Proof.DactRef.lean ====
/- The gated unit's gradients over the real numbers: the reference's lines agree with the kernel's. -/
module

public import proofs.«01_k».proof.Proof.DactVal
public import proofs.«01_k».proof.Proof.Coe
public import proofs.«01_k».proof.Proof.Gen.DactReferenceIdeal.Read

@[expose] public section

set_option maxRecDepth 16384

noncomputable section

namespace Cert.Dact

open Idealize.ShloMosaic Cert.Attn

theorem half_eq : half = ((1 / 2 : ℝ) : EReal) := by
  simp [half, Ideal.ofBits, Ideal.ieee, -EReal.coe_mul]; norm_num

/-- A gate's sigmoid is real. -/
theorem logistic_coe (g : ℝ) : Ideal.logistic (g : EReal) = ((1 / (1 + Real.exp (-g)) : ℝ) : EReal) := by
  have h : (1 : ℝ) + Real.exp (-g) ≠ 0 := by have := Real.exp_pos (-g); positivity
  rw [Ideal.logistic, ← EReal.coe_neg, Ideal.exp_coe, ← EReal.coe_one, ← EReal.coe_add, div_coe_coe _ _ h]

end Cert.Dact

namespace Cert.Dact.Ref

open Idealize.ShloMosaic Cert.DactReferenceIdeal Cert.DactReferenceIdeal.Read Cert.Attn

variable (x0 : S4096x1024.Idx → EReal) (x1 x2 : S4096x2816.Idx → EReal) (x3 : S2816x1024.Idx → EReal)

theorem sg_val (i : S4096x2816.Idx) : val_main_v0_2 (F := Ideal) x1 i = Ideal.logistic (x1 i) := by
  simp only [val_main_v0_2_apply, val_main_call0_v4_apply, val_main_call0_cst_0_apply, val_main_call0_v3_apply, val_main_call0_v2_apply,
    val_main_call0_cst_apply, val_main_call0_v1_apply, val_main_call0_v0_apply]
  show Ideal.div (Ideal.ofBits .f32 0x3F800000#32) (Ideal.ofBits .f32 0x3F800000#32 + Ideal.exp (-x1 i)) = _
  rw [lit_one]
  rfl

theorem v14_val (a : Fin 2) (s : Fin 4096) (f : Fin 2816) : val_main_v14 (F := Ideal) x0 x1 x2 x3 (ix3 a s f)
    = if a.val = 0 then val_main_v10 (F := Ideal) x0 x1 x2 x3 (ix2 s f) else val_main_v8 (F := Ideal) x0 x1 x3 (ix2 s f) := by
  pointwise [val_main_v14, val_main_v13]
  by_cases h : a.val = 0
  · rw [dif_pos (by omega), if_pos h, val_main_v11_apply]
    exact congrArg _ (funext fun b => match b with
      | ⟨0, _⟩ => rfl
      | ⟨1, _⟩ => rfl)
  · rw [dif_neg (by omega), if_neg h, val_main_v12_apply]
    exact congrArg _ (funext fun b => match b with
      | ⟨0, _⟩ => rfl
      | ⟨1, _⟩ => rfl)

theorem v7_val (s : Fin 4096) (f : Fin 2816) : val_main_v7 (F := Ideal) x0 x3 (ix2 s f)
    = ∑ k : Fin 1024, half * x0 (ix2 s k) * x3 (ix2 f k) := by
  pointwise [val_main_v7, val_main_v6, val_main_v5, val_main_cst_0]

theorem v8_val (i : S4096x2816.Idx) : val_main_v8 (F := Ideal) x0 x1 x3 i
    = x1 i * Ideal.logistic (x1 i) * val_main_v7 (F := Ideal) x0 x3 i := by
  rw [val_main_v8_apply, val_main_v0_0_apply, sg_val]
  rfl

theorem v10_val (i : S4096x2816.Idx) : val_main_v10 (F := Ideal) x0 x1 x2 x3 i
    = val_main_v7 (F := Ideal) x0 x3 i * x2 i * Ideal.logistic (x1 i)
      + x1 i * (val_main_v7 (F := Ideal) x0 x3 i * x2 i) * (Ideal.logistic (x1 i) * (1 - Ideal.logistic (x1 i))) := by
  rw [val_main_v10_apply, val_main_call1_v1_apply, val_main_call1_v2_apply, val_main_call1_v0_apply, val_main_v9_apply, val_main_v0_1_apply,
    val_main_call0_v7_apply, val_main_call0_v6_apply, val_main_call0_cst_1_apply, sg_val]
  show _ + _ * (_ * (Ideal.ofBits .f32 0x3F800000#32 - _)) = _
  rw [lit_one]
  rfl

/-- On real arguments the reference ends with the gradients. -/
theorem grads_val (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) : val_main_v14 (F := Ideal) x0 x1 x2 x3 = grads x0 x1 x2 x3 := by
  choose a ha using h0
  choose g hg using h1
  choose u hu using h2
  choose w hw using h3
  funext i
  obtain ⟨b, s, f, rfl⟩ : ∃ (b : Fin 2) (s : Fin 4096) (f : Fin 2816), i = ix3 b s f :=
    ⟨i 0, i 1, i 2, funext fun a => match a with
      | ⟨0, _⟩ => rfl
      | ⟨1, _⟩ => rfl
      | ⟨2, _⟩ => rfl⟩
  have e7 : val_main_v7 (F := Ideal) x0 x3 (ix2 s f) = ((1 / 2 * ∑ k : Fin 1024, a (ix2 s k) * w (ix2 f k) : ℝ) : EReal) := by
    rw [v7_val, Finset.mul_sum]
    refine sum_coe _ _ fun k => ?_
    rw [ha, hw, half_eq, ← EReal.coe_mul, ← EReal.coe_mul, mul_assoc]
  have et : half * (∑ k : Fin 1024, x0 (ix2 s k) * x3 (ix2 f k)) = ((1 / 2 * ∑ k : Fin 1024, a (ix2 s k) * w (ix2 f k) : ℝ) : EReal) := by
    rw [sum_mul_coe _ _ (fun k => a (ix2 s k)) (fun k => w (ix2 f k)) (fun k => ha _) (fun k => hw _), half_eq, ← EReal.coe_mul]
  rw [v14_val, v10_val, v8_val, e7]
  show _ = if b.val = 0 then dgate (half * ∑ k : Fin 1024, x0 (ix2 s k) * x3 (ix2 f k)) (x2 (ix2 s f)) (x1 (ix2 s f))
    else dup (half * ∑ k : Fin 1024, x0 (ix2 s k) * x3 (ix2 f k)) (x1 (ix2 s f))
  unfold dgate dup
  rw [et, hg, hu, logistic_coe, show (1 : EReal) = ((1 : ℝ) : EReal) from rfl]
  generalize (1 / 2 * ∑ k : Fin 1024, a (ix2 s k) * w (ix2 f k) : ℝ) = t
  generalize (1 / (1 + Real.exp (-g (ix2 s f))) : ℝ) = l
  split
  · simp only [← EReal.coe_mul, ← EReal.coe_add, ← EReal.coe_sub]
    refine congrArg _ ?_
    ring
  · simp only [← EReal.coe_mul]
    refine congrArg _ ?_
    ring

end Cert.Dact.Ref
-- ==== Proof.Real.lean ====
/- The gated unit's precondition of finite arguments, read off: every entry is a real number. -/
module

public import proofs.«01_k».proof.Proof.Finite
public import proofs.«01_k».proof.Pre_finite_dact

@[expose] public section

noncomputable section

namespace Cert.Dact

open Idealize.ShloMosaic Cert.Pre_finite_dact Cert.Pre_finite_dact.Facts Cert.Attn

/-- The shapes of the precondition's program fit. -/
instance preFacts : Cert.Pre_finite_dact.Facts := by
  constructor <;> decide

theorem both {p q : IVec S_ 1} {j : S_.Idx} (h : andi p q j = 1#1) : p j = 1#1 ∧ q j = 1#1 := IntOp.andi_eq_one.1 h

theorem all_real {s : Shape} (x : FVec Ideal s .f32) (hb : S_.BroadcastsInDim s ![]) {axes : List (Fin s.rank)} (hr : s.ReducesTo axes S_) (j : S_.Idx)
    (h : Host.reduce IntOp.andi (cmpf .olt (Host.absf x) (broadcastInDim s ![] hb (constant S_ .f32 0x7F800000#32)))
      (constantI S_ 1 1#1) hr h_S_ j = 1#1) (i : s.Idx) : ∃ r : ℝ, x i = (r : EReal) :=
  haveI : Subsingleton S_.Idx := ⟨fun _ _ => funext fun a => a.elim0⟩
  real_of_small _ (Host.reduce_andi_all _ _ _ _ j h i)

theorem finite_args (x0 : FVec Ideal S4096x1024 .f32) (x1 x2 : FVec Ideal S4096x2816 .f32) (x3 : FVec Ideal S2816x1024 .f32)
    (h : fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal))
      ∧ ∀ i, ∃ r : ℝ, x3 i = (r : EReal) := by
  have h0 := congrFun h (fun a => a.elim0)
  obtain ⟨h0, h3⟩ := both h0
  obtain ⟨h0, h2⟩ := both h0
  obtain ⟨h0, h1⟩ := both h0
  exact ⟨all_real x0 _ _ _ h0, all_real x1 _ _ _ h1, all_real x2 _ _ _ h2, all_real x3 _ _ _ h3⟩

end Cert.Dact
-- ==== Proof.DactClaims.lean ====
/- The claims on the gated unit's gradients, each from its program's run. -/
module

public import proofs.«01_k».proof.Defs
public import proofs.«01_k».proof.Proof.DactRef
public import proofs.«01_k».proof.Proof.Real
public import proofs.«01_k».proof.Proof.Gen.DactKernel.Frame
public import proofs.«01_k».proof.Proof.Gen.DactReferenceIdeal.Run
public import Idealize.ShloMosaic.Lib.Claim
public import Idealize.ShloMosaic.Lib.StableHlo.Run

@[expose] public section

set_option maxRecDepth 16384

noncomputable section

namespace Cert.Dact

open Idealize.ShloMosaic Idealize.ShloMosaic.TcCoe Idealize.SL.Sem

theorem frame_kernel : Cert.quiescent_DactKernel := fun m g _ => Cert.DactKernel.Gen.frame m g

theorem frame_ideal : Cert.quiescent_DactKernelIdeal := fun m g _ => Cert.DactKernelIdeal.Gen.frame m g

theorem frame_ideal_finite : Cert.quiescent_DactKernelIdeal_pre_finite_dact := fun m g _ => Cert.DactKernelIdeal.Gen.frame m g

/-- The reference keeps its arguments, and has no semaphore. -/
theorem frame_reference : Cert.quiescent_DactReferenceIdeal := fun m g _ =>
  (θ_run Cert.DactReferenceIdeal.defs _ _).mono
    (fun r h => ⟨fun c => (h c).2, sem_eq_zero_of_no_sems (by decide) r.2⟩)
    (Cert.DactReferenceIdeal.Value.run (F := Ideal) m g)

theorem frame_reference_finite : Cert.quiescent_DactReferenceIdeal_pre_finite_dact := fun m g _ => frame_reference m g trivial

theorem preserves : Cert.preserves_DactKernel_DactKernelIdeal := trivial

section

open Cert.DactKernelIdeal Cert.DactKernelIdeal.Gen Idealize.ShloMosaic.StableHlo

variable (m : (ℓ : Loc nD τ sig) → Buf (Elt Ideal) ℓ) (c : Dev nD)

/-- What the host hands the launch: the arguments, whose narrowing changes no number. -/
theorem host : V m c main_v0 = truncf (F := Ideal) .bf16 (m ((c : Thread nD τ).loc main_arg0)) bitsLt_bf16_f32
    ∧ V m c main_v1 = truncf (F := Ideal) .bf16 (m ((c : Thread nD τ).loc main_arg3)) bitsLt_bf16_f32
    ∧ V m c main_v2 = truncf (F := Ideal) .bf16 (m ((c : Thread nD τ).loc main_arg1)) bitsLt_bf16_f32
    ∧ V m c main_v3 = truncf (F := Ideal) .bf16 (m ((c : Thread nD τ).loc main_arg2)) bitsLt_bf16_f32 := by
  unfold V hostOps0
  refine ⟨?_, ?_, ?_, ?_⟩ <;> after_results_simp

/-- The kernel ends with the gradients. -/
theorem kernel_run (g : Dev nD → PrngReg) :
    θ_run defs (onTc (τ := τ) (main (F := Ideal))) ⟨m, fun _ => 0, g⟩ fun r => ∀ c : Dev nD,
      r.2.mem ((c : Thread nD τ).loc main_v4) = grads (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r hr c => by
    obtain ⟨e, k⟩ := hr c
    obtain ⟨h0, h3, h1, h2⟩ := host m c
    refine ⟨e.trans ((Ker.final m c).trans ?_), k⟩
    rw [h0, h1, h2, h3]
    rfl) (Cert.DactKernelIdeal.Value.run_blocks m g)

end

section

open Cert.DactReferenceIdeal Cert.DactReferenceIdeal.Read

variable (m : (ℓ : Loc nD τ sig) → Buf (Elt Ideal) ℓ)

/-- So does the reference, on real arguments. -/
theorem reference_run (g : Dev nD → PrngReg)
    (h : ∀ c : Dev nD, (∀ i, ∃ r : ℝ, m ((c : Thread nD τ).loc main_arg0) i = (r : EReal))
      ∧ (∀ i, ∃ r : ℝ, m ((c : Thread nD τ).loc main_arg1) i = (r : EReal))
      ∧ (∀ i, ∃ r : ℝ, m ((c : Thread nD τ).loc main_arg2) i = (r : EReal))
      ∧ ∀ i, ∃ r : ℝ, m ((c : Thread nD τ).loc main_arg3) i = (r : EReal)) :
    θ_run defs (onTc (τ := τ) (main (F := Ideal))) ⟨m, fun _ => 0, g⟩ fun r => ∀ c : Dev nD,
      r.2.mem ((c : Thread nD τ).loc main_v14) = grads (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r hr c => by
    obtain ⟨e, k⟩ := hr c
    obtain ⟨h0, h1, h2, h3⟩ := h c
    exact ⟨(e.trans (val_main_v14_eq _ _ _ _)).trans (Ref.grads_val _ _ _ _ h0 h1 h2 h3), k⟩) (Cert.DactReferenceIdeal.Value.run (F := Ideal) m g)

end

/-- Kernel and reference agree. -/
theorem algebraic : Cert.algebraic_DactKernelIdeal_DactReferenceIdeal_pre_finite_dact := fun m g m' g' h e =>
  ⟨fun c => grads (m ((c.tc : Thread _ _).loc Cert.DactKernelIdeal.main_arg0)) (m ((c.tc : Thread _ _).loc Cert.DactKernelIdeal.main_arg1))
      (m ((c.tc : Thread _ _).loc Cert.DactKernelIdeal.main_arg2)) (m ((c.tc : Thread _ _).loc Cert.DactKernelIdeal.main_arg3)),
    kernel_run m g, (θ_run Cert.DactReferenceIdeal.defs _ _).mono (fun r hr c => by
      obtain ⟨e0, e1, e2, e3⟩ := e c
      obtain ⟨k, ks⟩ := hr c
      rw [e0, e1, e2, e3] at k
      exact ⟨k, ks⟩) (reference_run m' g' fun c => by
        obtain ⟨e0, e1, e2, e3⟩ := e c
        rw [e0, e1, e2, e3]
        exact finite_args _ _ _ _ (h c))⟩

end Cert.Dact
-- ==== Proof.Sums.lean ====
/- Sums of extended reals: cut into equal runs, and scaled. -/
module

public import Mathlib.Data.EReal.Operations
public import Mathlib.Algebra.BigOperators.Fin

@[expose] public section

noncomputable section

namespace Cert.Sums

/-- Place `s` of run `k`, of runs `q` long. -/
def at_ (n q : ℕ) (k : ℕ) (s : Fin q) (h : 0 < n) : Fin (n * q) :=
  ⟨k % n * q + s.val, by
    have h1 : k % n + 1 ≤ n := Nat.mod_lt k h
    have h2 : (k % n + 1) * q ≤ n * q := Nat.mul_le_mul_right q h1
    have h3 := s.isLt
    rw [Nat.add_mul] at h2
    omega⟩

/-- A sum is the sum of its runs' sums. -/
theorem sum_runs (n q : ℕ) (h : 0 < n) (f : Fin (n * q) → EReal) :
    ∑ k ∈ Finset.range n, ∑ s : Fin q, f (at_ n q k s h) = ∑ i, f i := by
  rw [Finset.sum_range, ← Equiv.sum_comp finProdFinEquiv f, Fintype.sum_prod_type]
  refine Finset.sum_congr rfl fun k _ => Finset.sum_congr rfl fun s _ => congrArg f (Fin.ext ?_)
  show k.val % n * q + s.val = s.val + q * k.val
  rw [Nat.mod_eq_of_lt k.isLt, Nat.mul_comm, Nat.add_comm]

/-- A number that is neither negative nor infinite scales a sum term by term. -/
theorem sum_scale {ι : Type*} (s : Finset ι) (f : ι → EReal) (c : EReal) (h0 : 0 ≤ c) (ht : c ≠ ⊤) : (∑ i ∈ s, f i) * c = ∑ i ∈ s, f i * c := by
  classical
  refine Finset.induction_on s (by simp) fun a t ha ih => ?_
  rw [Finset.sum_insert ha, Finset.sum_insert ha, EReal.right_distrib_of_nonneg_of_ne_top h0 ht, ih]

/-- What is set at every `p`-th point, and added to at the others, is a sum of the last points' terms. -/
theorem acc_runs (p N : ℕ) (hp : 0 < p) (A : (n : ℕ) → n < N → EReal) (R : ℕ → ℕ → EReal)
    (h0 : ∀ n hn, n % p = 0 → A n hn = R (n / p) (n % p))
    (hs : ∀ n hn, (n + 1) % p ≠ 0 → A (n + 1) hn = A n (Nat.lt_of_succ_lt hn) + R ((n + 1) / p) ((n + 1) % p)) (n : ℕ) (hn : n < N) :
    A n hn = ∑ k ∈ Finset.range (n % p + 1), R (n / p) k := by
  have first : ∀ n hn, n % p = 0 → A n hn = ∑ k ∈ Finset.range (n % p + 1), R (n / p) k := fun n hn h => by
    rw [h0 n hn h, h, Finset.sum_range_one]
  induction n with
  | zero => exact first 0 hn (Nat.zero_mod p)
  | succ n ih =>
    by_cases h : (n + 1) % p = 0
    · exact first _ hn h
    · have hd : (n + 1) / p = n / p := Nat.succ_div_of_not_dvd fun d => h (Nat.mod_eq_zero_of_dvd d)
      have hm : (n + 1) % p = n % p + 1 := by
        have e1 := Nat.div_add_mod (n + 1) p
        have e2 := Nat.div_add_mod n p
        rw [hd] at e1
        omega
      rw [hs n hn h, ih, Finset.sum_range_succ _ ((n + 1) % p), hd, hm]

end Cert.Sums
-- ==== Proof.DnPay.lean ====
/- The input's cotangent: what the kernel's arithmetic makes of its blocks, entry by entry. -/
module

public import proofs.«01_k».proof.Proof.Gen.DnKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Dn

open Idealize.ShloMosaic

/-- The literals 1024, and a millionth. -/
abbrev width : EReal := Ideal.ofBits .f32 0x44800000#32
abbrev small : EReal := Ideal.ofBits .f32 0x358637BD#32

/-- A row's inverse root mean square. -/
def irms (x : Fin 1024 → EReal) : EReal := Ideal.rsqrt (Ideal.div (∑ q, x q * x q) width + small)

/-- A row's cotangent through its normalization, the gain `g` and the weights' cotangent `d` given, on top of `e`. -/
def dx (x d g e : Fin 1024 → EReal) (q : Fin 1024) : EReal :=
  e q + irms x * (d q * g q - x q * irms x * Ideal.div (∑ k, d k * g k * (x k * irms x)) width)

end Cert.Dn

namespace Cert.Dn.Ker

open Idealize.ShloMosaic Cert.DnKernelIdeal Cert.DnKernelIdeal.Gen Idealize.ShloMosaic.TcCoe Idealize.SL.Sem

theorem pay2_val (x0 : Vec Ideal S1x512x2816 .bf16) (x1 : Vec Ideal S2816x1024 .bf16) (r : Fin 512) (q : Fin 1024) :
    k0_pay2 x0 x1 (ix2 r q) = ∑ f : Fin 2816, x0 (ix3 0 r f) * x1 (ix2 f q) := by
  pointwise [k0_pay2, k0_pay1]

theorem pay3_val (x0 : Vec Ideal S1x512x2816 .bf16) (x1 : Vec Ideal S2816x1024 .bf16) (a : Vec Ideal S512x1024 .f32) (r : Fin 512) (q : Fin 1024) :
    k0_pay3 x0 x1 a (ix2 r q) = a (ix2 r q) + ∑ f : Fin 2816, x0 (ix3 0 r f) * x1 (ix2 f q) := by
  pointwise [k0_pay3, k0_pay1]

theorem pay4_val (x a : Vec Ideal S1x1024 .f32) (q : Fin 1024) : k0_pay4 x a (ix2 0 q) = a (ix2 0 q) + x (ix2 0 q) := by
  pointwise [k0_pay4]

theorem pay5_val (x : Vec Ideal S512x1024 .f32) (r : Fin 512) : k0_pay5 x (ix2 r 0) = irms fun q => x (ix2 r q) := by
  unfold irms
  pointwise [k0_pay5]

theorem pay6_val (x : Vec Ideal S512x1024 .f32) (r : Fin 512) (q : Fin 1024) : k0_pay6 x (ix2 r q) = x (ix2 r q) * irms fun q => x (ix2 r q) := by
  pointwise [k0_pay6]
  rw [pay5_val]

theorem pay7_val (d x e : Vec Ideal S512x1024 .f32) (g : Vec Ideal S1x1024 .f32) (r : Fin 512) (q : Fin 1024) :
    k0_pay7 d x e g (ix2 r q) = dx (fun q => x (ix2 r q)) (fun q => d (ix2 r q)) (fun q => g (ix2 0 q)) (fun q => e (ix2 r q)) q := by
  unfold dx
  pointwise [k0_pay7]
  simp only [pay5_val, pay6_val]

theorem pay8_val (d x : Vec Ideal S512x1024 .f32) (q : Fin 1024) :
    k0_pay8 d x (ix2 0 q) = ∑ r : Fin 512, d (ix2 r q) * (x (ix2 r q) * irms fun q => x (ix2 r q)) := by
  pointwise [k0_pay8]
  simp only [pay6_val]

theorem pay9_val (d x e : Vec Ideal S512x1024 .f32) (g : Vec Ideal S1x1024 .f32) (i : S512x1024.Idx) : k0_pay9 d x e g i = k0_pay7 d x e g i := rfl

theorem pay10_val (q : Fin 1024) : k0_pay10 (F := Ideal) (ix2 0 q) = 0 := by
  pointwise [k0_pay10]

section

variable (c : Dev nD) (i : grid0.Coords) (arg3 : Memref sig .tc .vmem S1x512x2816 .bf16) (harg3 : arg3.IsWhole)
  (arg4 : Memref sig .tc .vmem S2816x1024 .bf16) (harg4 : arg4.IsWhole) (arg5 : Memref sig .tc .vmem S512x1024 .f32) (harg5 : arg5.IsWhole)
  (arg6 : Memref sig .tc .vmem S512x1024 .f32) (harg6 : arg6.IsWhole) (arg7 : Memref sig .tc .vmem S1x1024 .f32) (harg7 : arg7.IsWhole)
  (arg8 : Memref sig .tc .vmem S512x1024 .f32) (harg8 : arg8.IsWhole) (arg9 : Memref sig .tc .vmem S512x1024 .bf16) (harg9 : arg9.IsWhole)
  (arg10 : Memref sig .tc .vmem S1x1024 .f32) (harg10 : arg10.IsWhole) (arg11 : Memref sig .tc .vmem S512x1024 .f32) (harg11 : arg11.IsWhole)
  (x0 : Vec Ideal S1x512x2816 .bf16) (x1 : Vec Ideal S2816x1024 .bf16) (x2 x3 : Vec Ideal S512x1024 .f32) (x4 : Vec Ideal S1x1024 .f32)
  (xo : Vec Ideal S1x1024 .f32) (xs : Vec Ideal S512x1024 .f32)

theorem sout_A (hc0 : cond0_0 i) (hc1 : ¬cond0_1 i) (hc2 : ¬cond0_2 i) :
    sout0_A_0 c i arg3 harg3 arg4 harg4 arg5 harg5 arg6 harg6 arg7 harg7 arg8 harg8 arg9 harg9 arg10 harg10 arg11 harg11 hc0 hc1 hc2 x0 x1 x2 x3 x4
      = k0_pay2 x0 x1 := by
  unfold sout0_A_0
  rw [View.read_writes_eq_canon _ _ _ (fun _ => scover0_A_0 ..)]
  unfold kernelRun0_A
  dsimp only
  sl_unfold_words
  simp (disch := decide) only [View.canon_cons_unit_lit', View.readCov_cons_unit_lit']
  simp only [View.readAt_eq_ld, harg3.read_unread, harg4.read_unread]
  repeat rw [View.ld_unit_zero (by decide)]

theorem out_B_5 (hc0 : ¬cond0_0 i) (hc1 : cond0_1 i) (hc2 : cond0_2 i) (hc3 : cond0_3 i) :
    out0_B_5 c i arg3 harg3 arg4 harg4 arg5 harg5 arg6 harg6 arg7 harg7 arg8 harg8 arg9 harg9 arg10 harg10 arg11 harg11 hc0 hc1 hc2 hc3 x0 x1 x2 x3 x4 xs
      = k0_pay7 (k0_pay3 x0 x1 xs) x2 x3 x4 := by
  unfold out0_B_5
  rw [View.read_writes_eq_canon _ _ _ (fun _ => cover0_B_5 ..)]
  unfold kernelRun0_B
  dsimp only
  sl_unfold_words
  simp (disch := decide) only [View.canon_cons_unit_lit', View.readCov_cons_unit_lit']
  simp only [View.readAt_eq_ld, harg3.read_unread, harg4.read_unread, harg5.read_unread, harg6.read_unread, harg7.read_unread, harg10.read_unread, harg11.read_unread]
  repeat rw [View.ld_unit_zero (by decide)]

theorem out_B_6 (hc0 : ¬cond0_0 i) (hc1 : cond0_1 i) (hc2 : cond0_2 i) (hc3 : cond0_3 i) :
    out0_B_6 c i arg3 harg3 arg4 harg4 arg5 harg5 arg6 harg6 arg7 harg7 arg8 harg8 arg9 harg9 arg10 harg10 arg11 harg11 hc0 hc1 hc2 hc3 x0 x1 x2 x3 x4 xs
      = k0_pay9 (k0_pay3 x0 x1 xs) x2 x3 x4 := by
  unfold out0_B_6
  rw [View.read_writes_eq_canon _ _ _ (fun _ => cover0_B_6 ..)]
  unfold kernelRun0_B
  dsimp only
  sl_unfold_words
  simp (disch := decide) only [View.canon_cons_unit_lit', View.readCov_cons_unit_lit']
  simp only [View.readAt_eq_ld, harg3.read_unread, harg4.read_unread, harg5.read_unread, harg6.read_unread, harg7.read_unread, harg10.read_unread, harg11.read_unread]
  repeat rw [View.ld_unit_zero (by decide)]

theorem out_B_7 (hc0 : ¬cond0_0 i) (hc1 : cond0_1 i) (hc2 : cond0_2 i) (hc3 : cond0_3 i) :
    out0_B_7 c i arg3 harg3 arg4 harg4 arg5 harg5 arg6 harg6 arg7 harg7 arg8 harg8 arg9 harg9 arg10 harg10 arg11 harg11 hc0 hc1 hc2 hc3 x0 x1 x2 x3 x4 xs
      = k0_pay4 (k0_pay8 (k0_pay3 x0 x1 xs) x2) (k0_pay10 (F := Ideal)) := by
  unfold out0_B_7
  rw [View.read_writes_eq_canon _ _ _ (fun _ => cover0_B_7 ..)]
  unfold kernelRun0_B
  dsimp only
  sl_unfold_words
  simp (disch := decide) only [View.canon_cons_unit_lit', View.readCov_cons_unit_lit']
  simp only [View.readAt_eq_ld, harg3.read_unread, harg4.read_unread, harg5.read_unread, harg6.read_unread, harg7.read_unread, harg10.read_unread, harg11.read_unread]
  repeat rw [View.ld_unit_zero (by decide)]

theorem out_C_5 (hc0 : ¬cond0_0 i) (hc1 : cond0_1 i) (hc2 : cond0_2 i) (hc3 : ¬cond0_3 i) :
    out0_C_5 c i arg3 harg3 arg4 harg4 arg5 harg5 arg6 harg6 arg7 harg7 arg8 harg8 arg9 harg9 arg10 harg10 arg11 harg11 hc0 hc1 hc2 hc3 x0 x1 x2 x3 x4 xo xs
      = k0_pay7 (k0_pay3 x0 x1 xs) x2 x3 x4 := by
  unfold out0_C_5
  rw [View.read_writes_eq_canon _ _ _ (fun _ => cover0_C_5 ..)]
  unfold kernelRun0_C
  dsimp only
  sl_unfold_words
  simp (disch := decide) only [View.canon_cons_unit_lit', View.readCov_cons_unit_lit']
  simp only [View.readAt_eq_ld, harg3.read_unread, harg4.read_unread, harg5.read_unread, harg6.read_unread, harg7.read_unread, harg10.read_unread, harg11.read_unread]
  repeat rw [View.ld_unit_zero (by decide)]

theorem out_C_6 (hc0 : ¬cond0_0 i) (hc1 : cond0_1 i) (hc2 : cond0_2 i) (hc3 : ¬cond0_3 i) :
    out0_C_6 c i arg3 harg3 arg4 harg4 arg5 harg5 arg6 harg6 arg7 harg7 arg8 harg8 arg9 harg9 arg10 harg10 arg11 harg11 hc0 hc1 hc2 hc3 x0 x1 x2 x3 x4 xo xs
      = k0_pay9 (k0_pay3 x0 x1 xs) x2 x3 x4 := by
  unfold out0_C_6
  rw [View.read_writes_eq_canon _ _ _ (fun _ => cover0_C_6 ..)]
  unfold kernelRun0_C
  dsimp only
  sl_unfold_words
  simp (disch := decide) only [View.canon_cons_unit_lit', View.readCov_cons_unit_lit']
  simp only [View.readAt_eq_ld, harg3.read_unread, harg4.read_unread, harg5.read_unread, harg6.read_unread, harg7.read_unread, harg10.read_unread, harg11.read_unread]
  repeat rw [View.ld_unit_zero (by decide)]

theorem out_C_7 (hc0 : ¬cond0_0 i) (hc1 : cond0_1 i) (hc2 : cond0_2 i) (hc3 : ¬cond0_3 i) :
    out0_C_7 c i arg3 harg3 arg4 harg4 arg5 harg5 arg6 harg6 arg7 harg7 arg8 harg8 arg9 harg9 arg10 harg10 arg11 harg11 hc0 hc1 hc2 hc3 x0 x1 x2 x3 x4 xo xs
      = k0_pay4 (k0_pay8 (k0_pay3 x0 x1 xs) x2) xo := by
  unfold out0_C_7
  rw [View.read_writes_eq_canon _ _ _ (fun _ => cover0_C_7 ..)]
  unfold kernelRun0_C
  dsimp only
  sl_unfold_words
  simp (disch := decide) only [View.canon_cons_unit_lit', View.readCov_cons_unit_lit']
  simp only [View.readAt_eq_ld, harg3.read_unread, harg4.read_unread, harg5.read_unread, harg6.read_unread, harg7.read_unread, harg10.read_unread, harg11.read_unread]
  repeat rw [View.ld_unit_zero (by decide)]

end

end Cert.Dn.Ker
-- ==== Proof.DnVal.lean ====
/- The input's cotangent: the kernel's arrays, from its blocks. -/
module

public import proofs.«01_k».proof.Proof.Sums
public import proofs.«01_k».proof.Proof.DnPay

@[expose] public section

set_option maxRecDepth 16384

noncomputable section

namespace Cert.Dn

open Idealize.ShloMosaic Cert.DnKernelIdeal Cert.DnKernelIdeal.Facts₀

/-- The cotangent behind the weights: a token's cotangents times the weights. -/
def dn (du : S4096x5632.Idx → EReal) (w : S1024x5632.Idx → EReal) (s : Fin 4096) (q : Fin 1024) : EReal :=
  ∑ k : Fin 5632, du (ix2 s k) * w (ix2 q k)

/-- The input's cotangent, -/
def dxs (x : S4096x1024.Idx → EReal) (g : S1x1024.Idx → EReal) (w : S1024x5632.Idx → EReal) (du : S4096x5632.Idx → EReal)
    (e : S4096x1024.Idx → EReal) (j : S4096x1024.Idx) : EReal :=
  dx (fun q => x (ix2 (j 0) q)) (dn du w (j 0)) (fun q => g (ix2 0 q)) (fun q => e (ix2 (j 0) q)) (j 1)

/-- and the gain's. -/
def dg (x : S4096x1024.Idx → EReal) (w : S1024x5632.Idx → EReal) (du : S4096x5632.Idx → EReal) (j : S1x1024.Idx) : EReal :=
  ∑ s : Fin (8 * 512), dn du w s (j 1) * (x (ix2 s (j 1)) * irms fun q => x (ix2 s q))

/-- A lane's half, and its place there. -/
def half (l : Fin 5632) : Fin 2 := ⟨l.val / 2816, by omega⟩
def lane (l : Fin 5632) : Fin 2816 := ⟨l.val % 2816, by omega⟩

/-- What the host makes of the cotangents and the weights. -/
def halves (du : Vec Ideal S4096x5632 .f32) : Vec Ideal S2x4096x2816 .bf16 :=
  truncf (F := Ideal) .bf16 (transpose S2x4096x2816 [1, 0, 2] (shapeCast S4096x2x2816 du shapeCasts_S4096x5632_S4096x2x2816) transposes_S4096x2x2816_S2x4096x2816_1_0_2) bitsLt_bf16_f32
def turned (w : Vec Ideal S1024x5632 .f32) : Vec Ideal S5632x1024 .bf16 :=
  truncf (F := Ideal) .bf16 (transpose S5632x1024 [1, 0] w transposes_S1024x5632_S5632x1024_1_0) bitsLt_bf16_f32

theorem halves_val (du : Vec Ideal S4096x5632 .f32) (l : Fin 5632) (k : Fin 4096) : halves du (ix3 (half l) k (lane l)) = du (ix2 k l) := by
  pointwise [halves]
  exact congrArg du (congrArg (ix2 k) (Fin.ext (by show l.val / 2816 * 2816 + l.val % 2816 = l.val; omega)))

theorem turned_val (w : Vec Ideal S1024x5632 .f32) (l : Fin 5632) (q : Fin 1024) : turned w (ix2 l q) = w (ix2 q l) := by
  pointwise [turned]

/-- One half's products, summed, -/
def run (du : S4096x5632.Idx → EReal) (w : S1024x5632.Idx → EReal) (s : Fin 4096) (q : Fin 1024) (h : ℕ) : EReal :=
  ∑ f : Fin 2816, du (ix2 s (Sums.at_ 2 2816 h f (by decide))) * w (ix2 q (Sums.at_ 2 2816 h f (by decide)))

theorem runs (du : S4096x5632.Idx → EReal) (w : S1024x5632.Idx → EReal) (s : Fin 4096) (q : Fin 1024) :
    run du w s q 0 + run du w s q 1 = dn du w s q := by
  have e := Sums.sum_runs 2 2816 (by decide) fun k => du (ix2 s k) * w (ix2 q k)
  rw [Finset.sum_range_succ, Finset.sum_range_one] at e
  exact e

end Cert.Dn

namespace Cert.Dn.Ker

open Idealize.ShloMosaic Cert.DnKernelIdeal Cert.DnKernelIdeal.Gen Idealize.ShloMosaic.TcCoe Idealize.SL.Sem

theorem lt_N (t : Fin cfg0.N) : t.val < 16 := lt_of_lt_of_eq t.isLt N_0

/-- The array's row of a point's row. -/
abbrev row (i : ℕ) (r : Fin 512) : Fin 4096 := Sums.at_ 8 512 i r (by decide)

theorem row_val (t : Fin cfg0.N) (r : Fin 512) : (row (t.val / 2) r).val = t.val / 2 * 512 + r.val := by
  have := lt_N t
  exact congrArg (· * 512 + r.val) (Nat.mod_eq_of_lt (by omega))

abbrev col (h : ℕ) (f : Fin 2816) : Fin 5632 := Sums.at_ 2 2816 h f (by decide)

theorem col_val (t : Fin cfg0.N) (f : Fin 2816) : (col (t.val % 2) f).val = t.val % 2 * 2816 + f.val :=
  congrArg (· * 2816 + f.val) (Nat.mod_mod _ _)

theorem idx : ∀ t : Fin cfg0.N, win0_0.index t = ![t.val % 2, t.val / 2, 0] ∧ win0_1.index t = ![t.val % 2, 0]
    ∧ win0_2.index t = ![t.val / 2, 0] ∧ win0_3.index t = ![t.val / 2, 0] ∧ win0_4.index t = ![0, 0]
    ∧ win0_5.index t = ![t.val / 2, 0] ∧ win0_6.index t = ![t.val / 2, 0] ∧ win0_7.index t = ![0, 0] :=
  (by decide +kernel : ∀ t : Fin grid0.N, _)

/-- The windows read. -/
theorem rd_du (A : S2x4096x2816.Idx → EReal) (t : Fin cfg0.N) (r : Fin 512) (f : Fin 2816) : ((cfg0.win 0).blk t).view.read (Elt Ideal) A (ix3 0 r f)
    = A (ix3 (half (col (t.val % 2) f)) (row (t.val / 2) r) (lane (col (t.val % 2) f))) := by
  refine congrArg A (funext fun a => ?_)
  match a with
  | ⟨0, _⟩ => exact Fin.ext (by blk_simp [idx t]; show _ = (col (t.val % 2) f).val / 2816; rw [col_val]; omega)
  | ⟨1, _⟩ => exact Fin.ext (by blk_simp [idx t]; exact (row_val t r).symm)
  | ⟨2, _⟩ => exact Fin.ext (by blk_simp [idx t]; show _ = (col (t.val % 2) f).val % 2816; rw [col_val]; omega)

theorem rd_w (A : S5632x1024.Idx → EReal) (t : Fin cfg0.N) (f : Fin 2816) (q : Fin 1024) :
    ((cfg0.win 1).blk t).view.read (Elt Ideal) A (ix2 f q) = A (ix2 (col (t.val % 2) f) q) := by
  refine congrArg A (funext fun a => ?_)
  match a with
  | ⟨0, _⟩ => exact Fin.ext (by blk_simp [idx t]; exact (col_val t f).symm)
  | ⟨1, _⟩ => exact Fin.ext (by blk_simp [idx t])

theorem rd_x (A : S4096x1024.Idx → EReal) (t : Fin cfg0.N) (r : Fin 512) (q : Fin 1024) :
    ((cfg0.win 2).blk t).view.read (Elt Ideal) A (ix2 r q) = A (ix2 (row (t.val / 2) r) q) := by
  refine congrArg A (funext fun a => ?_)
  match a with
  | ⟨0, _⟩ => exact Fin.ext (by blk_simp [idx t]; exact (row_val t r).symm)
  | ⟨1, _⟩ => exact Fin.ext (by blk_simp [idx t])

theorem rd_e (A : S4096x1024.Idx → EReal) (t : Fin cfg0.N) (r : Fin 512) (q : Fin 1024) :
    ((cfg0.win 3).blk t).view.read (Elt Ideal) A (ix2 r q) = A (ix2 (row (t.val / 2) r) q) := by
  refine congrArg A (funext fun a => ?_)
  match a with
  | ⟨0, _⟩ => exact Fin.ext (by blk_simp [idx t]; exact (row_val t r).symm)
  | ⟨1, _⟩ => exact Fin.ext (by blk_simp [idx t])

theorem rd_g (A : S1x1024.Idx → EReal) (t : Fin cfg0.N) (q : Fin 1024) :
    ((cfg0.win 4).blk t).view.read (Elt Ideal) A (ix2 0 q) = A (ix2 0 q) := by
  refine congrArg A (funext fun a => ?_)
  match a with
  | ⟨0, _⟩ => exact Fin.ext (by blk_simp [idx t])
  | ⟨1, _⟩ => exact Fin.ext (by blk_simp [idx t])

/-- A block whose windows hold a half's rows and lanes sums that half's products. -/
theorem blk_run {a : Vec Ideal S1x512x2816 .bf16} {b : Vec Ideal S2816x1024 .bf16} {du : Vec Ideal S4096x5632 .f32} {w : Vec Ideal S1024x5632 .f32}
    {r : Fin 512} {s : Fin 4096} {q : Fin 1024} {h : ℕ} (h0 : ∀ f, a (ix3 0 r f) = halves du (ix3 (half (col h f)) s (lane (col h f))))
    (h1 : ∀ f, b (ix2 f q) = turned w (ix2 (col h f) q)) : ∑ f : Fin 2816, a (ix3 0 r f) * b (ix2 f q) = run du w s q h := by
  unfold run
  simp only [h0, h1, halves_val, turned_val]

theorem emb_dx (t : Fin cfg0.N) (y : S512x1024.Idx) : ((cfg0.win 5).blk t).view.emb y = ix2 (row (t.val / 2) (y 0)) (y 1) := by
  funext a
  match a with
  | ⟨0, _⟩ => exact Fin.ext (by blk_simp [idx t]; exact (row_val t (y 0)).symm)
  | ⟨1, _⟩ => exact Fin.ext (by blk_simp [idx t]; rfl)

theorem emb_dxb (t : Fin cfg0.N) (y : S512x1024.Idx) : ((cfg0.win 6).blk t).view.emb y = ix2 (row (t.val / 2) (y 0)) (y 1) := by
  funext a
  match a with
  | ⟨0, _⟩ => exact Fin.ext (by blk_simp [idx t]; exact (row_val t (y 0)).symm)
  | ⟨1, _⟩ => exact Fin.ext (by blk_simp [idx t]; rfl)

theorem emb_dg (t : Fin cfg0.N) (y : S1x1024.Idx) : ((cfg0.win 7).blk t).view.emb y = ix2 0 (y 1) := by
  funext a
  match a with
  | ⟨0, _⟩ => exact Fin.ext (by blk_simp [idx t]; rfl)
  | ⟨1, _⟩ => exact Fin.ext (by blk_simp [idx t]; rfl)

/-- One block of rows' part of the gain's cotangent, -/
def part (x : S4096x1024.Idx → EReal) (w : S1024x5632.Idx → EReal) (du : S4096x5632.Idx → EReal) (q : Fin 1024) (i : ℕ) : EReal :=
  ∑ r : Fin 512, dn du w (row i r) q * (x (ix2 (row i r) q) * irms fun q => x (ix2 (row i r) q))

/-- all eight of which make it. -/
theorem parts (x : S4096x1024.Idx → EReal) (w : S1024x5632.Idx → EReal) (du : S4096x5632.Idx → EReal) (q : Fin 1024) :
    ∑ i ∈ Finset.range (7 + 1), part x w du q i = dg x w du (ix2 0 q) :=
  Sums.sum_runs 8 512 (by decide) fun s => dn du w s q * (x (ix2 s q) * irms fun q => x (ix2 s q))

variable (m : (ℓ : Loc nD τ sig) → Buf (Elt Ideal) ℓ) (c : Dev nD)
  (x : Vec Ideal S4096x1024 .f32) (g : Vec Ideal S1x1024 .f32) (w : Vec Ideal S1024x5632 .f32) (du : Vec Ideal S4096x5632 .f32) (e : Vec Ideal S4096x1024 .f32)

/-- The launch's arrays, of the arguments. -/
structure Holds : Prop where
  hdu : V m c main_v2 = halves du
  hw : V m c main_v4 = turned w
  hx : V m c main_arg0 = x
  he : V m c main_arg4 = e
  hg : V m c main_arg1 = g

variable {m c x g w du e} (H : Holds m c x g w du e)
include H

theorem iblk_du (t : Fin cfg0.N) (r : Fin 512) (f : Fin 2816) : (iblk m c 0 t : Vec Ideal S1x512x2816 .bf16) (ix3 0 r f)
    = halves du (ix3 (half (col (t.val % 2) f)) (row (t.val / 2) r) (lane (col (t.val % 2) f))) :=
  (rd_du _ t r f).trans (congrFun H.hdu _)

theorem iblk_w (t : Fin cfg0.N) (f : Fin 2816) (q : Fin 1024) : (iblk m c 1 t : Vec Ideal S2816x1024 .bf16) (ix2 f q)
    = turned w (ix2 (col (t.val % 2) f) q) :=
  (rd_w _ t f q).trans (congrFun H.hw _)

theorem iblk_x (t : Fin cfg0.N) (r : Fin 512) (q : Fin 1024) : (iblk m c 2 t : Vec Ideal S512x1024 .f32) (ix2 r q) = x (ix2 (row (t.val / 2) r) q) :=
  (rd_x _ t r q).trans (congrFun H.hx _)

theorem iblk_e (t : Fin cfg0.N) (r : Fin 512) (q : Fin 1024) : (iblk m c 3 t : Vec Ideal S512x1024 .f32) (ix2 r q) = e (ix2 (row (t.val / 2) r) q) :=
  (rd_e _ t r q).trans (congrFun H.he _)

theorem iblk_g (t : Fin cfg0.N) (q : Fin 1024) : (iblk m c 4 t : Vec Ideal S1x1024 .f32) (ix2 0 q) = g (ix2 0 q) :=
  (rd_g _ t q).trans (congrFun H.hg _)

/-- What the accumulator holds after an even point, -/
theorem acc_even (n : ℕ) (hn : n < cfg0.N) (h : n % 2 = 0) (r : Fin 512) (q : Fin 1024) :
    (outsAt0 m c n hn).2.2.2 (ix2 r q) = run du w (row (n / 2) r) q 0 := by
  rw [outsAt0_A m c ⟨n, hn⟩ h (by dsimp only; omega) (by dsimp only; omega)]
  dsimp only
  rw [sout_A, pay2_val, blk_run (iblk_du H ⟨n, hn⟩ r) (fun f => iblk_w H ⟨n, hn⟩ f q)]
  exact congrArg _ h

/-- and what the products sum to at an odd one. -/
theorem dn_odd (n : ℕ) (hn : n + 1 < cfg0.N) (h : (n + 1) % 2 = 1) (r : Fin 512) (q : Fin 1024) :
    k0_pay3 (iblk m c 0 ⟨n + 1, hn⟩) (iblk m c 1 ⟨n + 1, hn⟩) (outsAt0 m c n (Nat.lt_of_succ_lt hn)).2.2.2 (ix2 r q) = dn du w (row ((n + 1) / 2) r) q := by
  rw [pay3_val, blk_run (iblk_du H ⟨n + 1, hn⟩ r) (fun f => iblk_w H ⟨n + 1, hn⟩ f q), acc_even H n _ (by omega), ← runs,
    show n / 2 = (n + 1) / 2 by omega]
  dsimp only
  rw [h]

/-- An odd point's block of the input's cotangent. -/
theorem dx_odd (n : ℕ) (hn : n + 1 < cfg0.N) (h : (n + 1) % 2 = 1) (r : Fin 512) (q : Fin 1024) :
    (outsAt0 m c (n + 1) hn).1 (ix2 r q) = dxs x g w du e (ix2 (row ((n + 1) / 2) r) q)
    ∧ (outsAt0 m c (n + 1) hn).2.1 (ix2 r q) = dxs x g w du e (ix2 (row ((n + 1) / 2) r) q) := by
  have key : k0_pay7 (k0_pay3 (iblk m c 0 ⟨n + 1, hn⟩) (iblk m c 1 ⟨n + 1, hn⟩) (outsAt0 m c n (Nat.lt_of_succ_lt hn)).2.2.2)
      (iblk m c 2 ⟨n + 1, hn⟩) (iblk m c 3 ⟨n + 1, hn⟩) (iblk m c 4 ⟨n + 1, hn⟩) (ix2 r q) = dxs x g w du e (ix2 (row ((n + 1) / 2) r) q) := by
    rw [pay7_val]
    simp only [iblk_x H, iblk_e H, iblk_g H, dn_odd H n hn h]
    rfl
  by_cases h3 : (n + 1) % 16 = 1
  · rw [outsAt0_B m c ⟨n + 1, hn⟩ (by dsimp only; omega) h h h3]
    dsimp only
    rw [out_B_5, out_B_6]
    exact ⟨key, key⟩
  · rw [outsAt0_C m c ⟨n + 1, hn⟩ (by dsimp only; omega) h h h3]
    dsimp only
    rw [out_C_5, out_C_6]
    exact ⟨key, key⟩

/-- A block's part of the gain's cotangent. -/
theorem dg_part (n : ℕ) (hn : n + 1 < cfg0.N) (h : (n + 1) % 2 = 1) (q : Fin 1024) :
    k0_pay8 (k0_pay3 (iblk m c 0 ⟨n + 1, hn⟩) (iblk m c 1 ⟨n + 1, hn⟩) (outsAt0 m c n (Nat.lt_of_succ_lt hn)).2.2.2) (iblk m c 2 ⟨n + 1, hn⟩) (ix2 0 q)
      = part x w du q ((n + 1) / 2) := by
  rw [pay8_val]
  simp only [iblk_x H, dn_odd H n hn h]
  rfl

/-- The gain's cotangent so far, after an odd point. -/
theorem dg_odd (q : Fin 1024) (i : ℕ) (hn : 2 * i + 1 < cfg0.N) :
    (outsAt0 m c (2 * i + 1) hn).2.2.1 (ix2 0 q) = ∑ k ∈ Finset.range (i + 1), part x w du q k := by
  have hN : 2 * i + 1 < 16 := lt_N ⟨2 * i + 1, hn⟩
  induction i with
  | zero =>
    rw [outsAt0_B m c ⟨2 * 0 + 1, hn⟩ (by decide : ¬1 % 2 = 0) (by decide : 1 % 2 = 1) (by decide : 1 % 2 = 1) (by decide : 1 % 16 = 1)]
    dsimp only
    rw [out_B_7, pay4_val, pay10_val, zero_add, Finset.sum_range_one]
    exact dg_part H 0 hn rfl q
  | succ i ih =>
    have h : (2 * (i + 1) + 1) % 2 = 1 := by omega
    rw [outsAt0_C m c ⟨2 * (i + 1) + 1, hn⟩ (by dsimp only; omega) h h (by dsimp only; omega)]
    dsimp only
    rw [out_C_7, pay4_val, Finset.sum_range_succ _ (i + 1)]
    refine congrArg₂ (· + ·) ?_ ((dg_part H (2 * (i + 1)) hn h q).trans (congrArg _ (by omega)))
    refine Eq.trans (congrFun ?_ _) (ih (by omega) (by omega))
    exact (congrArg (·.2.2.1) (outsAt0_A m c ⟨2 * i + 1 + 1, by omega⟩ (by dsimp only; omega) (by dsimp only; omega) (by dsimp only; omega))).trans rfl

theorem point_dx (t : Fin cfg0.N) (h : t.val % 2 = 1) (y : S512x1024.Idx) :
    (outsAt0 m c t.val t.isLt).1 y = dxs x g w du e (ix2 (row (t.val / 2) (y 0)) (y 1))
    ∧ (outsAt0 m c t.val t.isLt).2.1 y = dxs x g w du e (ix2 (row (t.val / 2) (y 0)) (y 1)) := by
  obtain ⟨n, hn⟩ := t
  cases n with
  | zero => exact absurd h (by decide : ¬0 % 2 = 1)
  | succ n =>
    obtain ⟨k1, k2⟩ := dx_odd H n hn h (y 0) (y 1)
    exact ⟨(congrArg _ (eq_ix2 y)).trans k1, (congrArg _ (eq_ix2 y)).trans k2⟩

/-- The kernel's arrays end holding the cotangents. -/
theorem final_dx : (dats m 0 c).arrAt 5 cfg0.N = dxs x g w du e := by
  refine (dats m 0 c).arrAt_eq_of_covers 5 _ (by decide +kernel) fun t hf y => ?_
  blk_simp
  rw [after0_5]
  exact (point_dx H t ((flush0_5 t).mp hf) y).1.trans (congrArg (dxs x g w du e) (emb_dx t y)).symm

theorem final_dxb : (dats m 0 c).arrAt 6 cfg0.N = dxs x g w du e := by
  refine (dats m 0 c).arrAt_eq_of_covers 6 _ (by decide +kernel) fun t hf y => ?_
  blk_simp
  rw [after0_6]
  exact (point_dx H t ((flush0_6 t).mp hf) y).2.trans (congrArg (dxs x g w du e) (emb_dxb t y)).symm

theorem last_dg (t : Fin cfg0.N) (h : t.val % 16 = 15) (y : S1x1024.Idx) : (outsAt0 m c t.val t.isLt).2.2.1 y = dg x w du (ix2 0 (y 1)) := by
  obtain rfl : t = ⟨15, by decide⟩ := Fin.ext (by have := lt_N t; show t.val = 15; omega)
  have h0 : y = ix2 0 (y 1) := funext fun a => match a with
    | ⟨0, _⟩ => Fin.ext (by have := (y 0).isLt; change (y 0).val < 1 at this; show (y 0).val = 0; omega)
    | ⟨1, _⟩ => rfl
  exact (congrArg _ h0).trans ((dg_odd H (y 1) 7 (by decide)).trans (parts x w du (y 1)))

theorem final_dg : (dats m 0 c).arrAt 7 cfg0.N = dg x w du := by
  refine (dats m 0 c).arrAt_eq_of_covers 7 _ (by decide +kernel) fun t hf y => ?_
  blk_simp
  rw [after0_7]
  exact (last_dg H t ((flush0_7 t).mp hf) y).trans (congrArg (dg x w du) (emb_dg t y)).symm

end Cert.Dn.Ker
-- ==== Proof.DnRef.lean ====
/- The input's cotangent over the real numbers: the reference's lines agree with the kernel's. -/
module

public import proofs.«01_k».proof.Proof.DnVal
public import proofs.«01_k».proof.Proof.Coe
public import proofs.«01_k».proof.Proof.Gen.DnReferenceIdeal.Read

@[expose] public section

set_option maxRecDepth 16384

noncomputable section

namespace Cert.Dn.Ref

open Idealize.ShloMosaic Cert.DnReferenceIdeal Cert.DnReferenceIdeal.Read Cert.Attn

variable (x0 : Vec Ideal S4096x1024 .f32) (x1 : Vec Ideal S1x1024 .f32) (x2 : Vec Ideal S1024x5632 .f32) (x3 : Vec Ideal S4096x5632 .f32)
  (x4 : Vec Ideal S4096x1024 .f32)

theorem v18_val (s : Fin 4096) (q : Fin 1024) : val_main_v18 (F := Ideal) x2 x3 (ix2 s q) = dn x3 x2 s q := by
  unfold dn
  pointwise [val_main_v18]

/-- A row's mean square, kept off zero. -/
def msq (x : Fin 1024 → EReal) : EReal := Ideal.div (∑ q, x q * x q) width + small

theorem v7_val (s : Fin 4096) : val_main_v7 (F := Ideal) x0 (ix2 s 0) = msq fun q => x0 (ix2 s q) := by
  unfold msq
  pointwise [val_main_v7, val_main_v6, val_main_v5, val_main_v4, val_main_v3, val_main_v2, val_main_v1, val_main_cst, val_main_cst_0, val_main_cst_1]

theorem v8_val (s : Fin 4096) : val_main_v8 (F := Ideal) x0 (ix2 s 0) = irms fun q => x0 (ix2 s q) := by
  pointwise [val_main_v8]
  rw [v7_val]
  rfl

theorem v13_val (s : Fin 4096) (q : Fin 1024) : val_main_v13 (F := Ideal) x0 (ix2 s q) = x0 (ix2 s q) * irms fun q => x0 (ix2 s q) := by
  pointwise [val_main_v13, val_main_v12]
  rw [v8_val]

theorem v23_val (s : Fin 4096) (q : Fin 1024) : val_main_v23 (F := Ideal) x1 x2 x3 (ix2 s q) = dn x3 x2 s q * x1 (ix2 0 q) := by
  pointwise [val_main_v23, val_main_v22, val_main_v14, val_main_v0]
  rw [v18_val]

/-- The reference's factor of the row in its cotangent. -/
def back (x d g : Fin 1024 → EReal) : EReal :=
  Ideal.div ((∑ k, x k * (d k * g k)) * (Ideal.ofBits .f32 0xBF000000#32 * Ideal.div (irms x) (msq x))) width

theorem v35_val (s : Fin 4096) (q : Fin 1024) : val_main_v35 (F := Ideal) x0 x1 x2 x3 (ix2 s q)
    = back (fun q => x0 (ix2 s q)) (dn x3 x2 s) fun q => x1 (ix2 0 q) := by
  unfold back
  pointwise [val_main_v35, val_main_v34, val_main_v33, val_main_v32, val_main_v31, val_main_v27, val_main_v26, val_main_v25, val_main_v11, val_main_v10,
    val_main_v9, val_main_cst_2, val_main_cst_5, val_main_cst_6, val_main_cst_7]
  simp only [v23_val]
  refine (Fin.sum_univ_one _).trans ?_
  rw [v8_val, v7_val]

theorem v39_val (s : Fin 4096) (q : Fin 1024) : val_main_v39 (F := Ideal) x0 x1 x2 x3 x4 (ix2 s q)
    = x4 (ix2 s q) + dn x3 x2 s q * x1 (ix2 0 q) * (irms fun q => x0 (ix2 s q))
      + x0 (ix2 s q) * back (fun q => x0 (ix2 s q)) (dn x3 x2 s) (fun q => x1 (ix2 0 q))
      + back (fun q => x0 (ix2 s q)) (dn x3 x2 s) (fun q => x1 (ix2 0 q)) * x0 (ix2 s q) := by
  pointwise [val_main_v39, val_main_v38, val_main_v37, val_main_v36, val_main_v30, val_main_v29, val_main_v28]
  simp only [v8_val, v23_val, v35_val]

theorem v41_val (q : Fin 1024) : val_main_v41 (F := Ideal) x0 x2 x3 (ix2 0 q)
    = ∑ s : Fin 4096, dn x3 x2 s q * (x0 (ix2 s q) * irms fun q => x0 (ix2 s q)) := by
  pointwise [val_main_v41, val_main_v24, val_main_v21, val_main_v20, val_main_v19, val_main_cst_3, val_main_cst_4]
  refine (Fin.sum_univ_one _).trans (Finset.sum_congr rfl fun s _ => ?_)
  rw [v13_val, v18_val, mul_comm]

theorem eq_first (j : S1x1024.Idx) : j = ix2 0 (j 1) := funext fun a => match a with
  | ⟨0, _⟩ => Fin.ext (by have := (j 0).isLt; change (j 0).val < 1 at this; show (j 0).val = 0; omega)
  | ⟨1, _⟩ => rfl

/-- The reference ends with the gain's cotangent. -/
theorem dg_val : val_main_v41 (F := Ideal) x0 x2 x3 = dg x0 x2 x3 :=
  funext fun j => (congrArg _ (eq_first j)).trans (v41_val x0 x2 x3 (j 1))

section

variable (x : Fin 1024 → ℝ)

/-- A row's mean square over the reals, -/
def rms : ℝ := (∑ q, x q * x q) / 1024 + eps

theorem rms_pos : 0 < rms x :=
  add_pos_of_nonneg_of_pos (div_nonneg (Finset.sum_nonneg fun q _ => mul_self_nonneg (x q)) (by norm_num)) eps_pos

theorem width_eq : width = ((1024 : ℝ) : EReal) := by
  simp [width, Ideal.ofBits, Ideal.ieee, -EReal.coe_mul]; norm_num

theorem msq_coe : (msq fun q => (x q : EReal)) = (rms x : EReal) := by
  unfold msq rms
  rw [sum_mul_coe _ _ x x (fun _ => rfl) (fun _ => rfl), width_eq, div_coe_coe _ _ (by norm_num), show small = (eps : EReal) from lit_eps, ← EReal.coe_add]

/-- and its inverse root. -/
theorem irms_coe : (irms fun q => (x q : EReal)) = (((Real.sqrt (rms x))⁻¹ : ℝ) : EReal) := by
  have e := msq_coe x
  unfold msq at e
  unfold irms
  rw [e, Ideal.rsqrt_coe, if_neg (rms_pos x).le.not_gt, if_neg (rms_pos x).ne']

/-- The two equal parts that the norm's derivative adds are one. -/
theorem twice (z : EReal) (c : ℝ) : z * (c : EReal) + z * (c : EReal) = z * ((2 * c : ℝ) : EReal) := by
  have h : ∀ y : EReal, y + y = y * ((2 : ℝ) : EReal) := fun y => by
    induction y with
    | bot => rw [EReal.bot_mul_coe_of_pos (by norm_num)]; rfl
    | top => rw [EReal.top_mul_coe_of_pos (by norm_num)]; rfl
    | coe y => rw [← EReal.coe_add, ← EReal.coe_mul, mul_two]
  rw [h, mul_assoc, ← EReal.coe_mul, mul_comm c 2]

variable (d g e : Fin 1024 → EReal)

/-- On a row of real numbers the reference's cotangent is the kernel's, -/
theorem row_real (q : Fin 1024) : e q + d q * g q * (irms fun q => (x q : EReal))
      + x q * back (fun q => (x q : EReal)) d g + back (fun q => (x q : EReal)) d g * x q
    = dx (fun q => (x q : EReal)) d g e q := by
  have hp := rms_pos x
  have hs : 0 < Real.sqrt (rms x) := Real.sqrt_pos.2 hp
  have h2 : rms x = Real.sqrt (rms x) * Real.sqrt (rms x) := (Real.mul_self_sqrt hp.le).symm
  have hr : 0 ≤ (Real.sqrt (rms x))⁻¹ := (inv_pos.2 hs).le
  have e2 : ∑ k, d k * g k * ((x k : EReal) * (((Real.sqrt (rms x))⁻¹ : ℝ) : EReal))
      = (∑ k, (x k : EReal) * (d k * g k)) * (((Real.sqrt (rms x))⁻¹ : ℝ) : EReal) := by
    rw [Sums.sum_scale _ _ _ (EReal.coe_nonneg.2 hr) (EReal.coe_ne_top _)]
    exact Finset.sum_congr rfl fun k _ => by rw [mul_comm (x k : EReal) (d k * g k), mul_assoc, mul_assoc, mul_assoc]
  unfold dx back
  rw [irms_coe, msq_coe, e2, lit_neg_half, width_eq, div_coe_coe _ _ hp.ne', Ideal.div_coe (by norm_num : (1024 : ℝ) ≠ 0),
    Ideal.div_coe (by norm_num : (1024 : ℝ) ≠ 0), ← EReal.coe_mul, ← EReal.coe_mul]
  generalize (∑ k, (x k : EReal) * (d k * g k)) = z
  generalize d q * g q = y
  generalize Real.sqrt (rms x) = r at *
  have a1 : (x q : EReal) * (z * ((-(1 / 2) * (r⁻¹ / rms x) : ℝ) : EReal) * ((1 / 1024 : ℝ) : EReal))
      = z * ((x q * (-(1 / 2) * (r⁻¹ / rms x)) * (1 / 1024) : ℝ) : EReal) := by
    rw [EReal.coe_mul (x q * (-(1 / 2) * (r⁻¹ / rms x))) (1 / 1024), EReal.coe_mul (x q) (-(1 / 2) * (r⁻¹ / rms x))]
    ac_rfl
  have a2 : ((x q * r⁻¹ : ℝ) : EReal) * (z * (r⁻¹ : ℝ) * ((1 / 1024 : ℝ) : EReal)) = z * ((x q * r⁻¹ * r⁻¹ * (1 / 1024) : ℝ) : EReal) := by
    rw [EReal.coe_mul (x q * r⁻¹ * r⁻¹) (1 / 1024), EReal.coe_mul (x q * r⁻¹) r⁻¹]
    ac_rfl
  rw [mul_comm (z * _ * _) (x q : EReal), a1, a2, add_assoc, twice, add_assoc, sub_eq_add_neg,
    EReal.left_distrib_of_nonneg_of_ne_top (EReal.coe_nonneg.2 hr) (EReal.coe_ne_top _), mul_comm y, ← mul_neg, ← EReal.coe_neg,
    mul_left_comm _ z, ← EReal.coe_mul]
  refine congrArg (fun c : ℝ => e q + ((r⁻¹ : ℝ) * y + z * (c : EReal))) ?_
  rw [h2]
  field_simp

end

/-- and on one with an infinite entry both are the residual's, since the inverse root is zero. -/
theorem row_top (x d g e : Fin 1024 → EReal) (k : Fin 1024) (h : x k * x k = ⊤) (q : Fin 1024) :
    e q + d q * g q * irms x + x q * back x d g + back x d g * x q = dx x d g e q := by
  have sq : ∀ y : EReal, 0 ≤ y * y := fun y => by
    induction y with
    | bot => rw [EReal.bot_mul_bot]; exact le_top
    | top => rw [EReal.top_mul_top]; exact le_top
    | coe y => rw [← EReal.coe_mul]; exact EReal.coe_nonneg.2 (mul_self_nonneg y)
  have hs : ∑ q, x q * x q = ⊤ := top_le_iff.1 (h.symm.le.trans (Finset.single_le_sum (f := fun q => x q * x q) (fun i _ => sq _) (Finset.mem_univ k)))
  have hm : msq x = ⊤ := by
    unfold msq
    rw [hs, width_eq, Ideal.div_coe (by norm_num), EReal.top_mul_coe_of_pos (by norm_num), show small = (eps : EReal) from lit_eps,
      EReal.top_add_coe]
  have hi : irms x = 0 := (congrArg Ideal.rsqrt hm).trans Ideal.rsqrt_top
  have hd : ∀ y : EReal, y ≠ 0 → Ideal.div 0 y = 0 := fun y hy => by rw [Ideal.div, if_neg hy, zero_mul]
  have hb : back x d g = 0 := by
    unfold back
    rw [hi, hm, hd _ EReal.top_ne_zero, mul_zero, mul_zero, hd _ (by rw [width_eq]; exact EReal.coe_ne_zero.2 (by norm_num))]
  unfold dx
  rw [hb, hi]
  simp only [zero_mul, mul_zero, add_zero]

/-- So they are the same on every row. -/
theorem row_val (x d g e : Fin 1024 → EReal) (q : Fin 1024) :
    e q + d q * g q * irms x + x q * back x d g + back x d g * x q = dx x d g e q := by
  by_cases h : ∃ k, x k * x k = ⊤
  · exact row_top x d g e h.choose h.choose_spec q
  · have hx : ∀ k, x k = ((x k).toReal : EReal) := fun k => (EReal.coe_toReal (fun ht => h ⟨k, by rw [ht, EReal.top_mul_top]⟩)
      fun hb => h ⟨k, by rw [hb, EReal.bot_mul_bot]⟩).symm
    rw [show x = fun k => ((x k).toReal : EReal) from funext hx]
    exact row_real (fun k => (x k).toReal) d g e q

/-- The reference ends with the input's cotangent. -/
theorem dx_val : val_main_v39 (F := Ideal) x0 x1 x2 x3 x4 = dxs x0 x1 x2 x3 x4 := by
  refine funext fun j => (congrArg _ (eq_ix2 j)).trans ?_
  refine (v39_val x0 x1 x2 x3 x4 (j 0) (j 1)).trans ?_
  exact row_val (fun q => x0 (ix2 (j 0) q)) (dn x3 x2 (j 0)) (fun q => x1 (ix2 0 q)) (fun q => x4 (ix2 (j 0) q)) (j 1)

end Cert.Dn.Ref
-- ==== Proof.DnClaims.lean ====
/- The claims on the normalised input's gradients, each from its program's run. -/
module

public import proofs.«01_k».proof.Defs
public import proofs.«01_k».proof.Proof.DnRef
public import proofs.«01_k».proof.Proof.Gen.DnKernel.Frame
public import proofs.«01_k».proof.Proof.Gen.DnReferenceIdeal.Run
public import Idealize.ShloMosaic.Lib.Claim
public import Idealize.ShloMosaic.Lib.StableHlo.Run

@[expose] public section

set_option maxRecDepth 16384

noncomputable section

namespace Cert.Dn

open Idealize.ShloMosaic Idealize.ShloMosaic.TcCoe Idealize.SL.Sem

/-- The reference keeps its arguments, and has no semaphore. -/
theorem frame_reference : Cert.quiescent_DnReferenceIdeal := fun m g _ =>
  (θ_run Cert.DnReferenceIdeal.defs _ _).mono
    (fun r h => ⟨fun c => (h c).2.2.2, sem_eq_zero_of_no_sems (by decide) r.2⟩)
    (Cert.DnReferenceIdeal.Value.run (F := Ideal) m g)

section

open Cert.DnKernelIdeal Cert.DnKernelIdeal.Gen Idealize.ShloMosaic.StableHlo

variable (m : (ℓ : Loc nD τ sig) → Buf (Elt Ideal) ℓ) (c : Dev nD)

/-- What the host hands the launch. -/
theorem host : Ker.Holds m c (m ((c : Thread nD τ).loc main_arg0)) (m ((c : Thread nD τ).loc main_arg1)) (m ((c : Thread nD τ).loc main_arg2))
    (m ((c : Thread nD τ).loc main_arg3)) (m ((c : Thread nD τ).loc main_arg4)) := by
  constructor <;> unfold V hostOps0 <;> after_results_simp <;> rfl

/-- The kernel ends with the gradients. -/
theorem kernel_run (g : Dev nD → PrngReg) :
    θ_run defs (onTc (τ := τ) (main (F := Ideal))) ⟨m, fun _ => 0, g⟩ fun r => ∀ c : Dev nD,
      r.2.mem ((c : Thread nD τ).loc main_v5_0) = dxs (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v5_1) = dxs (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v5_2) = dg (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r hr c => by
    obtain ⟨e0, e1, e2, k⟩ := hr c
    exact ⟨e0.trans (Ker.final_dx (host m c)), e1.trans (Ker.final_dxb (host m c)), e2.trans (Ker.final_dg (host m c)), k⟩)
    (Cert.DnKernelIdeal.Value.run_blocks m g)

end

section

open Cert.DnReferenceIdeal Cert.DnReferenceIdeal.Read

variable (m : (ℓ : Loc nD τ sig) → Buf (Elt Ideal) ℓ)

/-- So does the reference. -/
theorem reference_run (g : Dev nD → PrngReg) :
    θ_run defs (onTc (τ := τ) (main (F := Ideal))) ⟨m, fun _ => 0, g⟩ fun r => ∀ c : Dev nD,
      r.2.mem ((c : Thread nD τ).loc main_v39) = dxs (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v40) = dxs (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v41) = dg (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r hr c => by
    obtain ⟨e0, e1, e2, k⟩ := hr c
    have hx := Ref.dx_val (m ((c : Thread nD τ).loc main_arg0)) (m ((c : Thread nD τ).loc main_arg1))
      (m ((c : Thread nD τ).loc main_arg2)) (m ((c : Thread nD τ).loc main_arg3)) (m ((c : Thread nD τ).loc main_arg4))
    exact ⟨(e0.trans (val_main_v39_eq _ _)).trans hx, (e1.trans (val_main_v40_eq _ _)).trans hx,
      (e2.trans (val_main_v41_eq _ _ _)).trans (Ref.dg_val _ _ _), k⟩) (Cert.DnReferenceIdeal.Value.run (F := Ideal) m g)

end

/-- Kernel and reference agree. -/
theorem algebraic : Cert.algebraic_DnKernelIdeal_DnReferenceIdeal := fun m g m' g' _ e =>
  ⟨fun c => dxs (m ((c.tc : Thread _ _).loc Cert.DnKernelIdeal.main_arg0)) (m ((c.tc : Thread _ _).loc Cert.DnKernelIdeal.main_arg1))
      (m ((c.tc : Thread _ _).loc Cert.DnKernelIdeal.main_arg2)) (m ((c.tc : Thread _ _).loc Cert.DnKernelIdeal.main_arg3)) (m ((c.tc : Thread _ _).loc Cert.DnKernelIdeal.main_arg4)),
    fun c => dxs (m ((c.tc : Thread _ _).loc Cert.DnKernelIdeal.main_arg0)) (m ((c.tc : Thread _ _).loc Cert.DnKernelIdeal.main_arg1))
      (m ((c.tc : Thread _ _).loc Cert.DnKernelIdeal.main_arg2)) (m ((c.tc : Thread _ _).loc Cert.DnKernelIdeal.main_arg3)) (m ((c.tc : Thread _ _).loc Cert.DnKernelIdeal.main_arg4)),
    fun c => dg (m ((c.tc : Thread _ _).loc Cert.DnKernelIdeal.main_arg0)) (m ((c.tc : Thread _ _).loc Cert.DnKernelIdeal.main_arg2))
      (m ((c.tc : Thread _ _).loc Cert.DnKernelIdeal.main_arg3)),
    kernel_run m g, (θ_run Cert.DnReferenceIdeal.defs _ _).mono (fun r hr c => by
      obtain ⟨e0, e1, e2, e3, e4⟩ := e c
      obtain ⟨k0, k1, k2, ks⟩ := hr c
      rw [e0, e1, e2, e3, e4] at k0 k1
      rw [e0, e2, e3] at k2
      exact ⟨k0, k1, k2, ks⟩) (reference_run m' g')⟩

end Cert.Dn
-- ==== Proof.DwiVal.lean ====
/- The input weights' gradient: a product summed run by run of tokens into the kernel's accumulator. -/
module

public import proofs.«01_k».proof.Proof.Sums
public import proofs.«01_k».proof.Proof.Gen.DwiKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Dwi.Ker

open Idealize.ShloMosaic Cert.DwiKernelIdeal Cert.DwiKernelIdeal.Gen Idealize.ShloMosaic.TcCoe Idealize.SL.Sem

section

variable (c : Dev nD) (i : grid0.Coords) (arg3 : Memref sig .tc .vmem S1x1024x1408 .bf16) (harg3 : arg3.IsWhole)
  (arg4 : Memref sig .tc .vmem S1024x1024 .bf16) (harg4 : arg4.IsWhole) (arg5 : Memref sig .tc .vmem S1408x1024 .bf16) (harg5 : arg5.IsWhole)
  (arg6 : Memref sig .tc .vmem S1408x1024 .f32) (harg6 : arg6.IsWhole) (x0 : Vec Ideal S1x1024x1408 .bf16) (x1 : Vec Ideal S1024x1024 .bf16)
  (xs : Vec Ideal S1408x1024 .f32)

/-- The accumulator after a first point, -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (fun _ => scover0_A_0 ..)]
  unfold kernelRun0_A
  dsimp only
  sl_unfold_words
  simp (disch := decide) only [View.canon_cons_unit_lit', View.readCov_cons_unit_lit']
  simp only [View.readAt_eq_ld, harg3.read_unread, harg4.read_unread]
  repeat rw [View.ld_unit_zero (by decide)]

/-- after a middle one -/
theorem sout_B (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0
  rw [View.read_writes_eq_canon _ _ _ (fun _ => scover0_B_0 ..)]
  unfold kernelRun0_B
  dsimp only
  sl_unfold_words
  simp (disch := decide) only [View.canon_cons_unit_lit', View.readCov_cons_unit_lit']
  simp only [View.readAt_eq_ld, harg3.read_unread, harg4.read_unread, harg6.read_unread]
  repeat rw [View.ld_unit_zero (by decide)]

/-- and after a last one, which also leaves its block. -/
theorem end_C (hc0 : ¬cond0_0 i) (hc1 : cond0_1 i) (hc2 : cond0_2 i) :
    sout0_C_0 c i arg3 harg3 arg4 harg4 arg5 harg5 arg6 harg6 hc0 hc1 hc2 x0 x1 xs = k0_pay3 x0 x1 xs
    ∧ out0_C_2 c i arg3 harg3 arg4 harg4 arg5 harg5 arg6 harg6 hc0 hc1 hc2 x0 x1 xs = k0_pay4 (k0_pay3 x0 x1 xs) := by
  unfold sout0_C_0 out0_C_2
  rw [View.read_writes_eq_canon _ _ _ (fun _ => scover0_C_0 ..), View.read_writes_eq_canon _ _ _ (fun _ => cover0_C_2 ..)]
  unfold kernelRun0_C
  dsimp only
  sl_unfold_words
  simp (disch := decide) only [View.canon_cons_unit_lit', View.readCov_cons_unit_lit']
  simp only [View.readAt_eq_ld, harg3.read_unread, harg4.read_unread, harg6.read_unread]
  repeat rw [View.ld_unit_zero (by decide)]
  exact ⟨rfl, rfl⟩

end

theorem pay2_val (x0 : Vec Ideal S1x1024x1408 .bf16) (x1 : Vec Ideal S1024x1024 .bf16) (r : Fin 1408) (n : Fin 1024) :
    k0_pay2 x0 x1 (ix2 r n) = ∑ s : Fin 1024, x0 (ix3 0 s r) * x1 (ix2 s n) := by
  pointwise [k0_pay2, k0_pay1]

theorem pay3_val (x0 : Vec Ideal S1x1024x1408 .bf16) (x1 : Vec Ideal S1024x1024 .bf16) (a : Vec Ideal S1408x1024 .f32) (r : Fin 1408) (n : Fin 1024) :
    k0_pay3 x0 x1 a (ix2 r n) = a (ix2 r n) + ∑ s : Fin 1024, x0 (ix3 0 s r) * x1 (ix2 s n) := by
  pointwise [k0_pay3, k0_pay1]

theorem pay4_val (a : Vec Ideal S1408x1024 .f32) (r : Fin 1408) (n : Fin 1024) : k0_pay4 a (ix2 r n) = a (ix2 r n) := by
  pointwise [k0_pay4]

end Cert.Dwi.Ker

namespace Cert.Dwi

open Idealize.ShloMosaic Cert.DwiKernelIdeal

/-- A lane's half, and its place there. -/
def half (l : Fin 5632) : Fin 2 := ⟨l.val / 2816, by omega⟩
def lane (l : Fin 5632) : Fin 2816 := ⟨l.val % 2816, by omega⟩

/-- The gradient, of the cotangents in two halves of lanes: every token's cotangent times its input. -/
def grad2 (a : S2x4096x2816.Idx → EReal) (b : S4096x1024.Idx → EReal) (j : S5632x1024.Idx) : EReal :=
  ∑ k : Fin (4 * 1024), a (ix3 (half (j 0)) k (lane (j 0))) * b (ix2 k (j 1))

end Cert.Dwi

namespace Cert.Dwi.Ker

open Idealize.ShloMosaic Cert.DwiKernelIdeal Cert.DwiKernelIdeal.Gen Idealize.ShloMosaic.TcCoe Idealize.SL.Sem

theorem lt_N (t : Fin cfg0.N) : t.val < 16 := lt_of_lt_of_eq t.isLt N_0

/-- The array's token and lane of a point's token and lane. -/
abbrev tok (k : ℕ) (s : Fin 1024) : Fin 4096 := Sums.at_ 4 1024 k s (by decide)
abbrev col (i : ℕ) (r : Fin 1408) : Fin 5632 := Sums.at_ 4 1408 i r (by decide)

theorem col_val (t : Fin cfg0.N) (r : Fin 1408) : (col (t.val / 4) r).val = t.val / 4 * 1408 + r.val := by
  have := lt_N t
  exact congrArg (· * 1408 + r.val) (Nat.mod_eq_of_lt (by omega))

theorem tok_val (t : Fin cfg0.N) (s : Fin 1024) : (tok (t.val % 4) s).val = t.val % 4 * 1024 + s.val :=
  congrArg (· * 1024 + s.val) (Nat.mod_mod _ _)

theorem idx : ∀ t : Fin cfg0.N, win0_0.index t = ![t.val / 8, t.val % 4, t.val / 4 % 2] ∧ win0_1.index t = ![t.val % 4, 0]
    ∧ win0_2.index t = ![t.val / 4, 0] :=
  (by decide +kernel : ∀ t : Fin grid0.N, _)

/-- The windows read. -/
theorem rd_du (A : S2x4096x2816.Idx → EReal) (t : Fin cfg0.N) (s : Fin 1024) (r : Fin 1408) : ((cfg0.win 0).blk t).view.read (Elt Ideal) A (ix3 0 s r)
    = A (ix3 (half (col (t.val / 4) r)) (tok (t.val % 4) s) (lane (col (t.val / 4) r))) := by
  refine congrArg A (funext fun a => ?_)
  match a with
  | ⟨0, _⟩ => exact Fin.ext (by blk_simp [idx t]; show _ = (col (t.val / 4) r).val / 2816; rw [col_val]; omega)
  | ⟨1, _⟩ => exact Fin.ext (by blk_simp [idx t]; exact (tok_val t s).symm)
  | ⟨2, _⟩ => exact Fin.ext (by blk_simp [idx t]; show _ = (col (t.val / 4) r).val % 2816; rw [col_val]; omega)

theorem rd_ct (A : S4096x1024.Idx → EReal) (t : Fin cfg0.N) (s : Fin 1024) (q : Fin 1024) :
    ((cfg0.win 1).blk t).view.read (Elt Ideal) A (ix2 s q) = A (ix2 (tok (t.val % 4) s) q) := by
  refine congrArg A (funext fun a => ?_)
  match a with
  | ⟨0, _⟩ => exact Fin.ext (by blk_simp [idx t]; exact (tok_val t s).symm)
  | ⟨1, _⟩ => exact Fin.ext (by blk_simp [idx t])

/-- One run's products, summed, -/
def run (a : S2x4096x2816.Idx → EReal) (b : S4096x1024.Idx → EReal) (l : Fin 5632) (q : Fin 1024) (k : ℕ) : EReal :=
  ∑ s : Fin 1024, a (ix3 (half l) (tok k s) (lane l)) * b (ix2 (tok k s) q)

/-- as a block whose windows hold the run's rows and lanes gives them. -/
theorem blk_run {d : Vec Ideal S1x1024x1408 .bf16} {w : Vec Ideal S1024x1024 .bf16} {a : S2x4096x2816.Idx → EReal} {b : S4096x1024.Idx → EReal}
    {r : Fin 1408} {l : Fin 5632} {q : Fin 1024} {k : ℕ} (h0 : ∀ s, d (ix3 0 s r) = a (ix3 (half l) (tok k s) (lane l)))
    (h1 : ∀ s, w (ix2 s q) = b (ix2 (tok k s) q)) : ∑ s : Fin 1024, d (ix3 0 s r) * w (ix2 s q) = run a b l q k := by
  unfold run
  simp only [h0, h1]

/-- All four runs make the gradient. -/
theorem runs_grad (a : S2x4096x2816.Idx → EReal) (b : S4096x1024.Idx → EReal) (l : Fin 5632) (q : Fin 1024) :
    ∑ k ∈ Finset.range (3 + 1), run a b l q k = grad2 a b (ix2 l q) :=
  Sums.sum_runs 4 1024 (by decide) fun k => a (ix3 (half l) k (lane l)) * b (ix2 k q)

variable (m : (ℓ : Loc nD τ sig) → Buf (Elt Ideal) ℓ) (c : Dev nD)

theorem first (t : Fin cfg0.N) (r : Fin 1408) (q : Fin 1024) :
    k0_pay2 (iblk m c 0 t) (iblk m c 1 t) (ix2 r q) = run (V m c main_v2) (V m c main_v3) (col (t.val / 4) r) q (t.val % 4) :=
  (pay2_val _ _ r q).trans (blk_run (fun s => rd_du _ t s r) fun s => rd_ct _ t s q)

theorem next (t : Fin cfg0.N) (x : Vec Ideal S1408x1024 .f32) (r : Fin 1408) (q : Fin 1024) :
    k0_pay3 (iblk m c 0 t) (iblk m c 1 t) x (ix2 r q) = x (ix2 r q) + run (V m c main_v2) (V m c main_v3) (col (t.val / 4) r) q (t.val % 4) :=
  (pay3_val _ _ x r q).trans (congrArg (x (ix2 r q) + ·) (blk_run (fun s => rd_du _ t s r) fun s => rd_ct _ t s q))

/-- The accumulator after a point is the sum of the runs so far. -/
theorem acc (n : ℕ) (hn : n < cfg0.N) (r : Fin 1408) (q : Fin 1024) : (outsAt0 m c n hn).2 (ix2 r q)
    = ∑ k ∈ Finset.range (n % 4 + 1), run (V m c main_v2) (V m c main_v3) (col (n / 4) r) q k := by
  refine Sums.acc_runs 4 cfg0.N (by decide) (fun n hn => (outsAt0 m c n hn).2 (ix2 r q))
    (fun i k => run (V m c main_v2) (V m c main_v3) (col i r) q k) (fun n hn h => ?_) (fun n hn h => ?_) n hn
  · rw [outsAt0_A m c ⟨n, hn⟩ h (by dsimp only; omega) (by dsimp only; omega)]
    dsimp only
    rw [sout_A, first]
  · by_cases h2 : (n + 1) % 4 = 3
    · rw [outsAt0_C m c ⟨n + 1, hn⟩ h (by dsimp only; omega) h2]
      dsimp only
      rw [(end_C ..).1, next]
      rfl
    · rw [outsAt0_B m c ⟨n + 1, hn⟩ h (by dsimp only; omega) h2]
      dsimp only
      rw [sout_B, next]
      rfl

/-- A last point leaves its accumulator. -/
theorem last (t : Fin cfg0.N) (h : t.val % 4 = 3) : (outsAt0 m c t.val t.isLt).1 = k0_pay4 (outsAt0 m c t.val t.isLt).2 := by
  rw [outsAt0_C m c t (by omega) (by omega) h]
  dsimp only
  rw [(end_C ..).1, (end_C ..).2]

theorem last_at (t : Fin cfg0.N) (h : t.val % 4 = 3) (r : Fin 1408) (q : Fin 1024) :
    k0_pay4 (outsAt0 m c t.val t.isLt).2 (ix2 r q) = grad2 (V m c main_v2) (V m c main_v3) (ix2 (col (t.val / 4) r) q) := by
  rw [pay4_val, acc, h]
  exact runs_grad _ _ _ q

/-- The kernel's array ends holding the gradient. -/
theorem final : (dats m 0 c).arrAt 2 cfg0.N = grad2 (V m c main_v2) (V m c main_v3) := by
  refine (dats m 0 c).arrAt_eq_of_covers 2 _ (by decide +kernel) fun t hf y => ?_
  have h3 : t.val % 4 = 3 := (flush0_2 t).mp hf
  have he : ((cfg0.win 2).blk t).view.emb y = ix2 (col (t.val / 4) (y 0)) (y 1) := by
    funext a
    match a with
    | ⟨0, _⟩ => exact Fin.ext (by blk_simp [idx t]; exact (col_val t _).symm)
    | ⟨1, _⟩ => exact Fin.ext (by blk_simp [idx t]; rfl)
  blk_simp
  rw [after0_2, last m c t h3]
  refine Eq.trans ?_ (congrArg (grad2 (V m c main_v2) (V m c main_v3)) he).symm
  exact (congrArg _ (eq_ix2 y)).trans (last_at m c t h3 (y 0) (y 1))

end Cert.Dwi.Ker

namespace Cert.Dwi

open Idealize.ShloMosaic Cert.DwiKernelIdeal Cert.DwiKernelIdeal.Facts₀

/-- The gradient, of the input and the cotangents. -/
def grad (n : S4096x1024.Idx → EReal) (du : S4096x5632.Idx → EReal) (j : S5632x1024.Idx) : EReal :=
  ∑ k : Fin 4096, du (ix2 k (j 0)) * n (ix2 k (j 1))

/-- The host's cut of the cotangents in two halves of lanes, -/
def halves (du : Vec Ideal S4096x5632 .f32) : Vec Ideal S2x4096x2816 .bf16 :=
  truncf (F := Ideal) .bf16 (transpose S2x4096x2816 [1, 0, 2] (shapeCast S4096x2x2816 du shapeCasts_S4096x5632_S4096x2x2816) transposes_S4096x2x2816_S2x4096x2816_1_0_2) bitsLt_bf16_f32

theorem halves_val (du : Vec Ideal S4096x5632 .f32) (l : Fin 5632) (k : Fin 4096) : halves du (ix3 (half l) k (lane l)) = du (ix2 k l) := by
  pointwise [halves]
  exact congrArg du (congrArg (ix2 k) (Fin.ext (by show l.val / 2816 * 2816 + l.val % 2816 = l.val; omega)))

/-- gives the same gradient. -/
theorem grad2_halves (n : S4096x1024.Idx → EReal) (du : Vec Ideal S4096x5632 .f32) : grad2 (halves du) n = grad n du := by
  funext j
  exact Finset.sum_congr rfl fun k _ => congrArg (· * _) (halves_val du (j 0) k)

end Cert.Dwi
-- ==== Proof.DwiClaims.lean ====
/- The claims on the input weights' gradient, each from its program's run, and the reference's values. -/
module

public import proofs.«01_k».proof.Defs
public import proofs.«01_k».proof.Proof.DwiVal
public import proofs.«01_k».proof.Proof.Gen.DwiReferenceIdeal.Read
public import proofs.«01_k».proof.Proof.Gen.DwiKernel.Frame
public import proofs.«01_k».proof.Proof.Gen.DwiReferenceIdeal.Run
public import Idealize.ShloMosaic.Lib.Claim
public import Idealize.ShloMosaic.Lib.StableHlo.Run

@[expose] public section

set_option maxRecDepth 16384

noncomputable section

namespace Cert.Dwi.Ref

open Idealize.ShloMosaic Cert.DwiReferenceIdeal Cert.DwiReferenceIdeal.Read

theorem sum_val (x0 : Vec Ideal S4096x1024 .f32) (x2 : Vec Ideal S4096x5632 .f32) (f : Fin 5632) (d : Fin 1024) :
    val_main_v4 (F := Ideal) x0 x2 (ix2 f d) = ∑ k : Fin 4096, x2 (ix2 k f) * x0 (ix2 k d) := by
  pointwise [val_main_v4, val_main_v3, val_main_v2, val_main_v1]

/-- The gradient: every token's cotangent times its input. -/
theorem grad_val (x0 : Vec Ideal S4096x1024 .f32) (x2 : Vec Ideal S4096x5632 .f32) : val_main_v4 (F := Ideal) x0 x2 = grad x0 x2 := by
  funext j
  exact (congrArg _ (eq_ix2 j)).trans (sum_val x0 x2 (j 0) (j 1))

end Cert.Dwi.Ref

namespace Cert.Dwi

open Idealize.ShloMosaic Idealize.ShloMosaic.TcCoe Idealize.SL.Sem

/-- The reference keeps its arguments, and has no semaphore. -/
theorem frame_reference : Cert.quiescent_DwiReferenceIdeal := fun m g _ =>
  (θ_run Cert.DwiReferenceIdeal.defs _ _).mono
    (fun r h => ⟨fun c => (h c).2, sem_eq_zero_of_no_sems (by decide) r.2⟩)
    (Cert.DwiReferenceIdeal.Value.run (F := Ideal) m g)

section

open Cert.DwiKernelIdeal Cert.DwiKernelIdeal.Gen Idealize.ShloMosaic.StableHlo Cert.DwiReferenceIdeal.Read

variable (m : (ℓ : Loc nD τ sig) → Buf (Elt Ideal) ℓ) (c : Dev nD)

/-- What the host hands the launch: the cotangents in two halves of lanes and the input, whose narrowing changes no number. -/
theorem host : V m c main_v2 = halves (m ((c : Thread nD τ).loc main_arg2))
    ∧ V m c main_v3 = truncf (F := Ideal) .bf16 (m ((c : Thread nD τ).loc main_arg0)) bitsLt_bf16_f32 := by
  unfold V hostOps0
  refine ⟨?_, ?_⟩ <;> after_results_simp
  rfl

/-- Kernel and reference agree. -/
theorem algebraic : Cert.algebraic_DwiKernelIdeal_DwiReferenceIdeal := fun m g m' g' _ e =>
  ⟨fun c => grad (m ((c.tc : Thread _ _).loc main_arg0)) (m ((c.tc : Thread _ _).loc main_arg2)),
    (θ_run defs _ _).mono (fun r hr c => by
      obtain ⟨e0, k⟩ := hr c
      obtain ⟨h0, h1⟩ := host m c
      refine ⟨e0.trans ((Ker.final m c).trans ?_), k⟩
      rw [h0, h1, grad2_halves]
      rfl) (Cert.DwiKernelIdeal.Value.run_blocks m g),
    (θ_run Cert.DwiReferenceIdeal.defs _ _).mono (fun r hr c => by
      obtain ⟨h0, h1, h2⟩ := e c
      obtain ⟨e0, k⟩ := hr c
      have k0 := (e0.trans (val_main_v4_eq _ _)).trans (Ref.grad_val _ _)
      rw [h0, h2] at k0
      exact ⟨k0, k⟩) (Cert.DwiReferenceIdeal.Value.run (F := Ideal) m' g')⟩

end

end Cert.Dwi
-- ==== Proof.DwoVal.lean ====
/- The output weights' gradient: a product summed run by run of tokens into the kernel's accumulator. -/
module

public import proofs.«01_k».proof.Proof.Sums
public import proofs.«01_k».proof.Proof.Gen.DwoKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Dwo.Ker

open Idealize.ShloMosaic Cert.DwoKernelIdeal Cert.DwoKernelIdeal.Gen Idealize.ShloMosaic.TcCoe Idealize.SL.Sem

section

variable (c : Dev nD) (i : grid0.Coords) (arg3 : Memref sig .tc .vmem S1024x1408 .bf16) (harg3 : arg3.IsWhole)
  (arg4 : Memref sig .tc .vmem S1024x1024 .bf16) (harg4 : arg4.IsWhole) (arg5 : Memref sig .tc .vmem S1408x1024 .bf16) (harg5 : arg5.IsWhole)
  (arg6 : Memref sig .tc .vmem S1408x1024 .f32) (harg6 : arg6.IsWhole) (x0 : Vec Ideal S1024x1408 .bf16) (x1 : Vec Ideal S1024x1024 .bf16)
  (xs : Vec Ideal S1408x1024 .f32)

/-- The accumulator after a first point, -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (fun _ => scover0_A_0 ..)]
  unfold kernelRun0_A
  dsimp only
  sl_unfold_words
  simp (disch := decide) only [View.canon_cons_unit_lit', View.readCov_cons_unit_lit']
  simp only [View.readAt_eq_ld, harg3.read_unread, harg4.read_unread]
  repeat rw [View.ld_unit_zero (by decide)]

/-- after a middle one -/
theorem sout_B (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0
  rw [View.read_writes_eq_canon _ _ _ (fun _ => scover0_B_0 ..)]
  unfold kernelRun0_B
  dsimp only
  sl_unfold_words
  simp (disch := decide) only [View.canon_cons_unit_lit', View.readCov_cons_unit_lit']
  simp only [View.readAt_eq_ld, harg3.read_unread, harg4.read_unread, harg6.read_unread]
  repeat rw [View.ld_unit_zero (by decide)]

/-- and after a last one, which also leaves its block. -/
theorem end_C (hc0 : ¬cond0_0 i) (hc1 : cond0_1 i) (hc2 : cond0_2 i) :
    sout0_C_0 c i arg3 harg3 arg4 harg4 arg5 harg5 arg6 harg6 hc0 hc1 hc2 x0 x1 xs = k0_pay3 x0 x1 xs
    ∧ out0_C_2 c i arg3 harg3 arg4 harg4 arg5 harg5 arg6 harg6 hc0 hc1 hc2 x0 x1 xs = k0_pay4 (k0_pay3 x0 x1 xs) := by
  unfold sout0_C_0 out0_C_2
  rw [View.read_writes_eq_canon _ _ _ (fun _ => scover0_C_0 ..), View.read_writes_eq_canon _ _ _ (fun _ => cover0_C_2 ..)]
  unfold kernelRun0_C
  dsimp only
  sl_unfold_words
  simp (disch := decide) only [View.canon_cons_unit_lit', View.readCov_cons_unit_lit']
  simp only [View.readAt_eq_ld, harg3.read_unread, harg4.read_unread, harg6.read_unread]
  repeat rw [View.ld_unit_zero (by decide)]
  exact ⟨rfl, rfl⟩

end

theorem pay2_val (x0 : Vec Ideal S1024x1408 .bf16) (x1 : Vec Ideal S1024x1024 .bf16) (r : Fin 1408) (n : Fin 1024) :
    k0_pay2 x0 x1 (ix2 r n) = ∑ s : Fin 1024, x0 (ix2 s r) * x1 (ix2 s n) := by
  pointwise [k0_pay2, k0_pay1]

theorem pay3_val (x0 : Vec Ideal S1024x1408 .bf16) (x1 : Vec Ideal S1024x1024 .bf16) (a : Vec Ideal S1408x1024 .f32) (r : Fin 1408) (n : Fin 1024) :
    k0_pay3 x0 x1 a (ix2 r n) = a (ix2 r n) + ∑ s : Fin 1024, x0 (ix2 s r) * x1 (ix2 s n) := by
  pointwise [k0_pay3, k0_pay1]

theorem pay4_val (a : Vec Ideal S1408x1024 .f32) (r : Fin 1408) (n : Fin 1024) :
    k0_pay4 a (ix2 r n) = a (ix2 r n) * Ideal.ofBits .f32 0x3F000000#32 := by
  pointwise [k0_pay4]

end Cert.Dwo.Ker

namespace Cert.Dwo

open Idealize.ShloMosaic Cert.DwoKernelIdeal

/-- The gradient: every token's output cotangent times its unit, halved. -/
def grad (a : S4096x2816.Idx → EReal) (b : S4096x1024.Idx → EReal) (j : S2816x1024.Idx) : EReal :=
  (∑ k : Fin (4 * 1024), a (ix2 k (j 0)) * b (ix2 k (j 1))) * Ideal.ofBits .f32 0x3F000000#32

end Cert.Dwo

namespace Cert.Dwo.Ker

open Idealize.ShloMosaic Cert.DwoKernelIdeal Cert.DwoKernelIdeal.Gen Idealize.ShloMosaic.TcCoe Idealize.SL.Sem

theorem lt_N (t : Fin cfg0.N) : t.val < 8 := lt_of_lt_of_eq t.isLt N_0

/-- The array's token and lane of a point's token and lane. -/
abbrev tok (k : ℕ) (s : Fin 1024) : Fin 4096 := Sums.at_ 4 1024 k s (by decide)
abbrev lane (i : ℕ) (r : Fin 1408) : Fin 2816 := Sums.at_ 2 1408 i r (by decide)

theorem lane_val (t : Fin cfg0.N) (r : Fin 1408) : (lane (t.val / 4) r).val = t.val / 4 * 1408 + r.val := by
  have := lt_N t
  exact congrArg (· * 1408 + r.val) (Nat.mod_eq_of_lt (by omega))

theorem tok_val (t : Fin cfg0.N) (s : Fin 1024) : (tok (t.val % 4) s).val = t.val % 4 * 1024 + s.val :=
  congrArg (· * 1024 + s.val) (Nat.mod_mod _ _)

theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The windows read. -/
theorem rd_act (A : S4096x2816.Idx → EReal) (t : Fin cfg0.N) (s : Fin 1024) (r : Fin 1408) :
    ((cfg0.win 0).blk t).view.read (Elt Ideal) A (ix2 s r) = A (ix2 (tok (t.val % 4) s) (lane (t.val / 4) r)) := by
  refine congrArg A (funext fun a => ?_)
  match a with
  | ⟨0, _⟩ => exact Fin.ext (by blk_simp [idx t]; exact (tok_val t s).symm)
  | ⟨1, _⟩ => exact Fin.ext (by blk_simp [idx t]; exact (lane_val t r).symm)

theorem rd_ct (A : S4096x1024.Idx → EReal) (t : Fin cfg0.N) (s : Fin 1024) (q : Fin 1024) :
    ((cfg0.win 1).blk t).view.read (Elt Ideal) A (ix2 s q) = A (ix2 (tok (t.val % 4) s) q) := by
  refine congrArg A (funext fun a => ?_)
  match a with
  | ⟨0, _⟩ => exact Fin.ext (by blk_simp [idx t]; exact (tok_val t s).symm)
  | ⟨1, _⟩ => exact Fin.ext (by blk_simp [idx t])

/-- One run's products, summed, -/
def run (a : S4096x2816.Idx → EReal) (b : S4096x1024.Idx → EReal) (l : Fin 2816) (q : Fin 1024) (k : ℕ) : EReal :=
  ∑ s : Fin 1024, a (ix2 (tok k s) l) * b (ix2 (tok k s) q)

/-- as a block whose windows hold the run's rows and lanes gives them. -/
theorem blk_run {d : Vec Ideal S1024x1408 .bf16} {w : Vec Ideal S1024x1024 .bf16} {a : S4096x2816.Idx → EReal} {b : S4096x1024.Idx → EReal}
    {r : Fin 1408} {l : Fin 2816} {q : Fin 1024} {k : ℕ} (h0 : ∀ s, d (ix2 s r) = a (ix2 (tok k s) l))
    (h1 : ∀ s, w (ix2 s q) = b (ix2 (tok k s) q)) : ∑ s : Fin 1024, d (ix2 s r) * w (ix2 s q) = run a b l q k := by
  unfold run
  simp only [h0, h1]

/-- All four runs make the gradient. -/
theorem runs_grad (a : S4096x2816.Idx → EReal) (b : S4096x1024.Idx → EReal) (l : Fin 2816) (q : Fin 1024) :
    (∑ k ∈ Finset.range (3 + 1), run a b l q k) * Ideal.ofBits .f32 0x3F000000#32 = grad a b (ix2 l q) :=
  congrArg (· * _) (Sums.sum_runs 4 1024 (by decide) fun k => a (ix2 k l) * b (ix2 k q))

variable (m : (ℓ : Loc nD τ sig) → Buf (Elt Ideal) ℓ) (c : Dev nD)

theorem first (t : Fin cfg0.N) (r : Fin 1408) (q : Fin 1024) :
    k0_pay2 (iblk m c 0 t) (iblk m c 1 t) (ix2 r q) = run (V m c main_v0) (V m c main_v1) (lane (t.val / 4) r) q (t.val % 4) :=
  (pay2_val _ _ r q).trans (blk_run (fun s => rd_act _ t s r) fun s => rd_ct _ t s q)

theorem next (t : Fin cfg0.N) (x : Vec Ideal S1408x1024 .f32) (r : Fin 1408) (q : Fin 1024) :
    k0_pay3 (iblk m c 0 t) (iblk m c 1 t) x (ix2 r q) = x (ix2 r q) + run (V m c main_v0) (V m c main_v1) (lane (t.val / 4) r) q (t.val % 4) :=
  (pay3_val _ _ x r q).trans (congrArg (x (ix2 r q) + ·) (blk_run (fun s => rd_act _ t s r) fun s => rd_ct _ t s q))

/-- The accumulator after a point is the sum of the runs so far. -/
theorem acc (n : ℕ) (hn : n < cfg0.N) (r : Fin 1408) (q : Fin 1024) : (outsAt0 m c n hn).2 (ix2 r q)
    = ∑ k ∈ Finset.range (n % 4 + 1), run (V m c main_v0) (V m c main_v1) (lane (n / 4) r) q k := by
  refine Sums.acc_runs 4 cfg0.N (by decide) (fun n hn => (outsAt0 m c n hn).2 (ix2 r q))
    (fun i k => run (V m c main_v0) (V m c main_v1) (lane i r) q k) (fun n hn h => ?_) (fun n hn h => ?_) n hn
  · rw [outsAt0_A m c ⟨n, hn⟩ h (by dsimp only; omega) (by dsimp only; omega)]
    dsimp only
    rw [sout_A, first]
  · by_cases h2 : (n + 1) % 4 = 3
    · rw [outsAt0_C m c ⟨n + 1, hn⟩ h (by dsimp only; omega) h2]
      dsimp only
      rw [(end_C ..).1, next]
      rfl
    · rw [outsAt0_B m c ⟨n + 1, hn⟩ h (by dsimp only; omega) h2]
      dsimp only
      rw [sout_B, next]
      rfl

/-- A last point leaves its accumulator, halved. -/
theorem last (t : Fin cfg0.N) (h : t.val % 4 = 3) : (outsAt0 m c t.val t.isLt).1 = k0_pay4 (outsAt0 m c t.val t.isLt).2 := by
  rw [outsAt0_C m c t (by omega) (by omega) h]
  dsimp only
  rw [(end_C ..).1, (end_C ..).2]

theorem last_at (t : Fin cfg0.N) (h : t.val % 4 = 3) (r : Fin 1408) (q : Fin 1024) :
    k0_pay4 (outsAt0 m c t.val t.isLt).2 (ix2 r q) = grad (V m c main_v0) (V m c main_v1) (ix2 (lane (t.val / 4) r) q) := by
  rw [pay4_val, acc, h]
  exact runs_grad _ _ _ q

/-- The kernel's array ends holding the gradient. -/
theorem final : (dats m 0 c).arrAt 2 cfg0.N = grad (V m c main_v0) (V m c main_v1) := by
  refine (dats m 0 c).arrAt_eq_of_covers 2 _ (by decide +kernel) fun t hf y => ?_
  have h3 : t.val % 4 = 3 := (flush0_2 t).mp hf
  have he : ((cfg0.win 2).blk t).view.emb y = ix2 (lane (t.val / 4) (y 0)) (y 1) := by
    funext a
    match a with
    | ⟨0, _⟩ => exact Fin.ext (by blk_simp [idx t]; exact (lane_val t _).symm)
    | ⟨1, _⟩ => exact Fin.ext (by blk_simp [idx t]; rfl)
  blk_simp
  rw [after0_2, last m c t h3]
  refine Eq.trans ?_ (congrArg (grad (V m c main_v0) (V m c main_v1)) he).symm
  exact (congrArg _ (eq_ix2 y)).trans (last_at m c t h3 (y 0) (y 1))

end Cert.Dwo.Ker
-- ==== Proof.DwoClaims.lean ====
/- The claims on the output weights' gradient, each from its program's run, and the reference's values. -/
module

public import proofs.«01_k».proof.Defs
public import proofs.«01_k».proof.Proof.DwoVal
public import proofs.«01_k».proof.Proof.DactRef
public import proofs.«01_k».proof.Proof.Gen.DwoReferenceIdeal.Read
public import proofs.«01_k».proof.Proof.Gen.DwoKernel.Frame
public import proofs.«01_k».proof.Proof.Gen.DwoReferenceIdeal.Run
public import Idealize.ShloMosaic.Lib.Claim
public import Idealize.ShloMosaic.Lib.StableHlo.Run

@[expose] public section

set_option maxRecDepth 16384

noncomputable section

namespace Cert.Dwo.Ref

open Idealize.ShloMosaic Cert.DwoReferenceIdeal Cert.DwoReferenceIdeal.Read

theorem sum_val (x0 : Vec Ideal S4096x2816 .f32) (x2 : Vec Ideal S4096x1024 .f32) (f : Fin 2816) (d : Fin 1024) :
    val_main_v7 (F := Ideal) x0 x2 (ix2 f d)
      = ∑ k : Fin 4096, Ideal.ofBits .f32 0x3F000000#32 * x2 (ix2 k d) * x0 (ix2 k f) := by
  pointwise [val_main_v7, val_main_v6, val_main_v5, val_main_v4, val_main_v3, val_main_cst_0]

theorem scale_last (h x a : EReal) : h * x * a = a * x * h := by rw [mul_comm, mul_comm h, mul_assoc]

/-- Halving the cotangent first halves the sum. -/
theorem grad_val (x0 : Vec Ideal S4096x2816 .f32) (x2 : Vec Ideal S4096x1024 .f32) :
    val_main_v7 (F := Ideal) x0 x2 = grad x0 x2 := by
  funext j
  refine (congrArg _ (eq_ix2 j)).trans ((sum_val x0 x2 (j 0) (j 1)).trans ?_)
  have hh : (0 : EReal) ≤ Ideal.ofBits .f32 0x3F000000#32 := by
    rw [show Ideal.ofBits .f32 0x3F000000#32 = ((1 / 2 : ℝ) : EReal) from Dact.half_eq]
    exact_mod_cast (by norm_num : (0 : ℝ) ≤ 1 / 2)
  have ht : Ideal.ofBits .f32 0x3F000000#32 ≠ ⊤ := by
    rw [show Ideal.ofBits .f32 0x3F000000#32 = ((1 / 2 : ℝ) : EReal) from Dact.half_eq]
    exact EReal.coe_ne_top _
  refine Eq.trans ?_ (Sums.sum_scale _ _ _ hh ht).symm
  exact Finset.sum_congr rfl fun k _ => scale_last _ _ _

end Cert.Dwo.Ref

namespace Cert.Dwo

open Idealize.ShloMosaic Idealize.ShloMosaic.TcCoe Idealize.SL.Sem

/-- The reference keeps its arguments, and has no semaphore. -/
theorem frame_reference : Cert.quiescent_DwoReferenceIdeal := fun m g _ =>
  (θ_run Cert.DwoReferenceIdeal.defs _ _).mono
    (fun r h => ⟨fun c => (h c).2, sem_eq_zero_of_no_sems (by decide) r.2⟩)
    (Cert.DwoReferenceIdeal.Value.run (F := Ideal) m g)

section

open Cert.DwoKernelIdeal Cert.DwoKernelIdeal.Gen Idealize.ShloMosaic.StableHlo Cert.DwoReferenceIdeal.Read

variable (m : (ℓ : Loc nD τ sig) → Buf (Elt Ideal) ℓ) (c : Dev nD)

/-- What the host hands the launch: the arguments, whose narrowing changes no number. -/
theorem host : V m c main_v0 = truncf (F := Ideal) .bf16 (m ((c : Thread nD τ).loc main_arg0)) bitsLt_bf16_f32
    ∧ V m c main_v1 = truncf (F := Ideal) .bf16 (m ((c : Thread nD τ).loc main_arg2)) bitsLt_bf16_f32 := by
  unfold V hostOps0
  refine ⟨?_, ?_⟩ <;> after_results_simp

/-- Kernel and reference agree. -/
theorem algebraic : Cert.algebraic_DwoKernelIdeal_DwoReferenceIdeal := fun m g m' g' _ e =>
  ⟨fun c => grad (m ((c.tc : Thread _ _).loc main_arg0)) (m ((c.tc : Thread _ _).loc main_arg2)),
    (θ_run defs _ _).mono (fun r hr c => by
      obtain ⟨e0, k⟩ := hr c
      obtain ⟨h0, h1⟩ := host m c
      refine ⟨e0.trans ((Ker.final m c).trans ?_), k⟩
      rw [h0, h1]
      rfl) (Cert.DwoKernelIdeal.Value.run_blocks m g),
    (θ_run Cert.DwoReferenceIdeal.defs _ _).mono (fun r hr c => by
      obtain ⟨h0, h1, h2⟩ := e c
      obtain ⟨e0, k⟩ := hr c
      have k0 := (e0.trans (val_main_v7_eq _ _)).trans (Ref.grad_val _ _)
      rw [h0, h2] at k0
      exact ⟨k0, k⟩) (Cert.DwoReferenceIdeal.Value.run (F := Ideal) m' g')⟩

end

end Cert.Dwo
-- ==== Proof.UpVal.lean ====
/- The gated unit, entry by entry: what one grid point's body stores in its blocks, and what the launch's arrays end holding. -/
module

public import proofs.«01_k».proof.Proof.Gen.UpKernelIdeal.Value
public import Idealize.ShloMosaic.Lib.Pointwise
public import Idealize.ShloMosaic.PureOps.Ideal.Laws
public import Idealize.ShloMosaic.Lib.Pipeline.ValueKit

@[expose] public section

set_option maxRecDepth 16384

noncomputable section

namespace Cert.Up.Ker

open Idealize.ShloMosaic Cert.UpKernelIdeal Cert.UpKernelIdeal.Gen

variable (d : Vec Ideal S512x1024 .bf16) (w v : Vec Ideal S1408x1024 .bf16)

/-- A point's row times a lane's weights. -/
def dot (r : Fin 512) (f : Fin 1408) : EReal := ∑ k : Fin 1024, d (ix2 r k) * w (ix2 f k)

theorem pay2_val (r : Fin 512) (f : Fin 1408) : k0_pay2 d w (ix2 r f) = dot d w r f := by
  pointwise [k0_pay2, k0_pay1]
  rfl

theorem pay3_val (r : Fin 512) (f : Fin 1408) : k0_pay3 d w (ix2 r f) = dot d w r f := by
  pointwise [k0_pay3, k0_pay1]
  rfl

/-- The three stores: the gate, the other branch, and their product through the gate's sigmoid. -/
theorem gate_val : out0_3 d w v = fun y => dot d w (y 0) (y 1) := by
  unfold out0_3 r0_2
  simp (disch := decide) only [View.canon_cons_unit_lit']
  rw [View.ld_unit_zero (by decide), View.ld_unit_zero (by decide)]
  funext y
  exact (congrArg (k0_pay2 d w) (eq_ix2 y)).trans (pay2_val d w _ _)

theorem up_val : out0_4 d w v = fun y => dot d v (y 0) (y 1) := by
  unfold out0_4 r0_2
  simp (disch := decide) only [View.canon_cons_unit_lit']
  rw [View.ld_unit_zero (by decide), View.ld_unit_zero (by decide)]
  funext y
  exact (congrArg (k0_pay3 d v) (eq_ix2 y)).trans (pay3_val d v _ _)

theorem act_val : out0_5 d w v = fun y => dot d w (y 0) (y 1) * Ideal.logistic (dot d w (y 0) (y 1)) * dot d v (y 0) (y 1) := by
  unfold out0_5 r0_2
  simp (disch := decide) only [View.canon_cons_unit_lit']
  rw [View.ld_unit_zero (by decide), View.ld_unit_zero (by decide), View.ld_unit_zero (by decide)]
  funext y
  have e2 := (congrArg (k0_pay2 d w) (eq_ix2 y)).trans (pay2_val d w _ _)
  have e3 := (congrArg (k0_pay3 d v) (eq_ix2 y)).trans (pay3_val d v _ _)
  rw [← e2, ← e3]
  rfl

end Cert.Up.Ker

namespace Cert.Up

open Idealize.ShloMosaic Cert.UpKernelIdeal Cert.UpKernelIdeal.Facts₀

/-- A token's input times a lane's weights, -/
def lin (n : S4096x1024.Idx → EReal) (w : S1024x5632.Idx → EReal) (s : Fin 4096) (l : Fin 5632) : EReal :=
  ∑ k : Fin 1024, n (ix2 s k) * w (ix2 k l)

/-- over the first half of lanes (the gate) and the second (the other branch), -/
def gate (n : S4096x1024.Idx → EReal) (w : S1024x5632.Idx → EReal) (j : S4096x2816.Idx) : EReal :=
  lin n w (j 0) ⟨(j 1).val, by have : (j 1).val < 2816 := (j 1).isLt; omega⟩
def up (n : S4096x1024.Idx → EReal) (w : S1024x5632.Idx → EReal) (j : S4096x2816.Idx) : EReal :=
  lin n w (j 0) ⟨2816 + (j 1).val, by have : (j 1).val < 2816 := (j 1).isLt; omega⟩

/-- and the unit's output. -/
def act (n : S4096x1024.Idx → EReal) (w : S1024x5632.Idx → EReal) (j : S4096x2816.Idx) : EReal :=
  gate n w j * Ideal.logistic (gate n w j) * up n w j

/-- The host's turn of the weights. -/
def turn (w : Vec Ideal S1024x5632 .f32) : Vec Ideal S5632x1024 .bf16 :=
  truncf (F := Ideal) .bf16 (transpose S5632x1024 [1, 0] w transposes_S1024x5632_S5632x1024_1_0) bitsLt_bf16_f32

theorem turn_val (w : Vec Ideal S1024x5632 .f32) (l : Fin 5632) (k : Fin 1024) : turn w (ix2 l k) = w (ix2 k l) := by
  pointwise [turn]

end Cert.Up

namespace Cert.Up.Ker

open Idealize.ShloMosaic Cert.UpKernelIdeal Cert.UpKernelIdeal.Gen Idealize.ShloMosaic.TcCoe Idealize.SL.Sem

theorem lt_N (t : Fin cfg0.N) : t.val < 16 := lt_of_lt_of_eq t.isLt N_0

/-- The array's row and lane of a point's row and lane. -/
def row (t : Fin cfg0.N) (r : Fin 512) : Fin 4096 := ⟨t.val / 2 * 512 + r.val, by have := lt_N t; omega⟩
def lane (t : Fin cfg0.N) (f : Fin 1408) : Fin 2816 := ⟨t.val % 2 * 1408 + f.val, by omega⟩

theorem idx : ∀ t : Fin cfg0.N, win0_0.index t = ![t.val / 2, 0] ∧ win0_1.index t = ![t.val % 2, 0]
    ∧ win0_2.index t = ![t.val % 2 + 2, 0] ∧ win0_3.index t = ![t.val / 2, t.val % 2]
    ∧ win0_4.index t = ![t.val / 2, t.val % 2] ∧ win0_5.index t = ![t.val / 2, t.val % 2] :=
  (by decide +kernel : ∀ t : Fin grid0.N, _)

/-- The windows read. -/
theorem rd_n (A : S4096x1024.Idx → EReal) (t : Fin cfg0.N) (r : Fin 512) (k : Fin 1024) :
    ((cfg0.win 0).blk t).view.read (Elt Ideal) A (ix2 r k) = A (ix2 (row t r) k) := by
  refine congrArg A (funext fun a => ?_)
  match a with
  | ⟨0, _⟩ => exact Fin.ext (by blk_simp [idx t]; rfl)
  | ⟨1, _⟩ => exact Fin.ext (by blk_simp [idx t])

theorem rd_gate (A : S5632x1024.Idx → EReal) (t : Fin cfg0.N) (f : Fin 1408) (k : Fin 1024) :
    ((cfg0.win 1).blk t).view.read (Elt Ideal) A (ix2 f k) = A (ix2 ⟨(lane t f).val, by omega⟩ k) := by
  refine congrArg A (funext fun a => ?_)
  match a with
  | ⟨0, _⟩ => exact Fin.ext (by blk_simp [idx t]; rfl)
  | ⟨1, _⟩ => exact Fin.ext (by blk_simp [idx t])

theorem rd_up (A : S5632x1024.Idx → EReal) (t : Fin cfg0.N) (f : Fin 1408) (k : Fin 1024) :
    ((cfg0.win 2).blk t).view.read (Elt Ideal) A (ix2 f k) = A (ix2 ⟨2816 + (lane t f).val, by omega⟩ k) := by
  refine congrArg A (funext fun a => ?_)
  match a with
  | ⟨0, _⟩ => exact Fin.ext (by blk_simp [idx t]; show _ = 2816 + (t.val % 2 * 1408 + f.val); omega)
  | ⟨1, _⟩ => exact Fin.ext (by blk_simp [idx t])

/-- A block whose windows hold an array's row and lane makes that row's and lane's product. -/
theorem dot_lin {d : Vec Ideal S512x1024 .bf16} {w : Vec Ideal S1408x1024 .bf16} {n : S4096x1024.Idx → EReal} {v : Vec Ideal S1024x5632 .f32}
    {r : Fin 512} {f : Fin 1408} {s : Fin 4096} {l : Fin 5632} (h0 : ∀ k : Fin 1024, d (ix2 r k) = n (ix2 s k))
    (h1 : ∀ k : Fin 1024, w (ix2 f k) = turn v (ix2 l k)) : dot d w r f = lin n v s l := by
  unfold dot lin
  exact Finset.sum_congr rfl fun k _ => congrArg₂ (· * ·) (h0 k) ((h1 k).trans (turn_val v l k))

variable (m : (ℓ : Loc nD τ sig) → Buf (Elt Ideal) ℓ) (c : Dev nD) (n : S4096x1024.Idx → EReal) (v : Vec Ideal S1024x5632 .f32)

section

variable (h0 : V m c main_v0 = n) (h1 : V m c main_v2 = turn v)
include h0 h1

theorem gate_at (t : Fin cfg0.N) (y : S512x1408.Idx) : dot (iblk m c 0 t) (iblk m c 1 t) (y 0) (y 1) = gate n v (ix2 (row t (y 0)) (lane t (y 1))) :=
  dot_lin (fun k => (rd_n _ t (y 0) k).trans (congrFun h0 _)) fun k => (rd_gate _ t (y 1) k).trans (congrFun h1 _)

theorem up_at (t : Fin cfg0.N) (y : S512x1408.Idx) : dot (iblk m c 0 t) (iblk m c 2 t) (y 0) (y 1) = up n v (ix2 (row t (y 0)) (lane t (y 1))) :=
  dot_lin (fun k => (rd_n _ t (y 0) k).trans (congrFun h0 _)) fun k => (rd_up _ t (y 1) k).trans (congrFun h1 _)

/-- The kernel's arrays end holding the gate, the other branch and the unit's output. -/
theorem final_gate : (dats m 0 c).arrAt 3 cfg0.N = gate n v := by
  refine (dats m 0 c).arrAt_eq_of_covers 3 _ (by decide +kernel) fun t hf y => ?_
  have he : ((cfg0.win 3).blk t).view.emb y = ix2 (row t (y 0)) (lane t (y 1)) := by
    funext a
    match a with
    | ⟨0, _⟩ => exact Fin.ext (by blk_simp [idx t]; rfl)
    | ⟨1, _⟩ => exact Fin.ext (by blk_simp [idx t]; rfl)
  blk_simp
  rw [after0_3, gate_val]
  exact (gate_at m c n v h0 h1 t y).trans (congrArg (gate n v) he).symm

theorem final_up : (dats m 0 c).arrAt 4 cfg0.N = up n v := by
  refine (dats m 0 c).arrAt_eq_of_covers 4 _ (by decide +kernel) fun t hf y => ?_
  have he : ((cfg0.win 4).blk t).view.emb y = ix2 (row t (y 0)) (lane t (y 1)) := by
    funext a
    match a with
    | ⟨0, _⟩ => exact Fin.ext (by blk_simp [idx t]; rfl)
    | ⟨1, _⟩ => exact Fin.ext (by blk_simp [idx t]; rfl)
  blk_simp
  rw [after0_4, up_val]
  exact (up_at m c n v h0 h1 t y).trans (congrArg (up n v) he).symm

theorem final_act : (dats m 0 c).arrAt 5 cfg0.N = act n v := by
  refine (dats m 0 c).arrAt_eq_of_covers 5 _ (by decide +kernel) fun t hf y => ?_
  have he : ((cfg0.win 5).blk t).view.emb y = ix2 (row t (y 0)) (lane t (y 1)) := by
    funext a
    match a with
    | ⟨0, _⟩ => exact Fin.ext (by blk_simp [idx t]; rfl)
    | ⟨1, _⟩ => exact Fin.ext (by blk_simp [idx t]; rfl)
  blk_simp
  rw [after0_5, act_val]
  dsimp only
  rw [gate_at m c n v h0 h1 t y, up_at m c n v h0 h1 t y]
  exact (congrArg (act n v) he).symm

end

end Cert.Up.Ker
-- ==== Proof.UpClaims.lean ====
/- The claims on the gated unit, each from its program's run, and the reference's values. -/
module

public import proofs.«01_k».proof.Defs
public import proofs.«01_k».proof.Proof.UpVal
public import proofs.«01_k».proof.Proof.Coe
public import proofs.«01_k».proof.Proof.Gen.UpReferenceIdeal.Read
public import proofs.«01_k».proof.Proof.Gen.UpKernel.Frame
public import proofs.«01_k».proof.Proof.Gen.UpReferenceIdeal.Run
public import Idealize.ShloMosaic.Lib.Claim
public import Idealize.ShloMosaic.Lib.StableHlo.Run

@[expose] public section

set_option maxRecDepth 16384

noncomputable section

namespace Cert.Up.Ref

open Idealize.ShloMosaic Cert.UpReferenceIdeal Cert.UpReferenceIdeal.Read Cert.Attn

variable (x0 : S4096x1024.Idx → EReal) (x1 : S1024x5632.Idx → EReal)

theorem lin_val (s : Fin 4096) (l : Fin 5632) : val_main_v0 (F := Ideal) x0 x1 (ix2 s l) = lin x0 x1 s l := by
  pointwise [val_main_v0]
  rfl

theorem gate_val : val_main_v1 (F := Ideal) x0 x1 = gate x0 x1 := by
  funext j
  rw [val_main_v1_apply]
  exact (congrArg (val_main_v0 (F := Ideal) x0 x1) (eq_ix2 (idx_main_v1 j))).trans (lin_val x0 x1 _ _)

theorem up_val : val_main_v2 (F := Ideal) x0 x1 = up x0 x1 := by
  funext j
  rw [val_main_v2_apply]
  exact (congrArg (val_main_v0 (F := Ideal) x0 x1) (eq_ix2 (idx_main_v2 j))).trans (lin_val x0 x1 _ _)

theorem act_val : val_main_v6 (F := Ideal) x0 x1 = act x0 x1 := by
  funext j
  rw [val_main_v6_apply, val_main_v5_apply, val_main_call0_v5_apply, val_main_call0_v4_apply, val_main_call0_cst_0_apply,
    val_main_call0_v3_apply, val_main_call0_v2_apply, val_main_call0_cst_apply, val_main_call0_v1_apply, val_main_call0_v0_apply, gate_val, up_val]
  show gate x0 x1 j * Ideal.div (Ideal.ofBits .f32 0x3F800000#32) (Ideal.ofBits .f32 0x3F800000#32 + Ideal.exp (-gate x0 x1 j)) * up x0 x1 j = _
  rw [lit_one]
  rfl

end Cert.Up.Ref

namespace Cert.Up

open Idealize.ShloMosaic Idealize.ShloMosaic.TcCoe Idealize.SL.Sem

/-- The reference keeps its arguments, and has no semaphore. -/
theorem frame_reference : Cert.quiescent_UpReferenceIdeal := fun m g _ =>
  (θ_run Cert.UpReferenceIdeal.defs _ _).mono
    (fun r h => ⟨fun c => (h c).2.2.2, sem_eq_zero_of_no_sems (by decide) r.2⟩)
    (Cert.UpReferenceIdeal.Value.run (F := Ideal) m g)

section

open Cert.UpKernelIdeal Cert.UpKernelIdeal.Gen Idealize.ShloMosaic.StableHlo Cert.UpReferenceIdeal.Read

variable (m : (ℓ : Loc nD τ sig) → Buf (Elt Ideal) ℓ) (c : Dev nD)

/-- What the host hands the launch: the input, whose narrowing changes no number, and the weights turned. -/
theorem host : V m c main_v0 = truncf (F := Ideal) .bf16 (m ((c : Thread nD τ).loc main_arg0)) bitsLt_bf16_f32 ∧ V m c main_v2 = turn (m ((c : Thread nD τ).loc main_arg1)) := by
  unfold V hostOps0
  refine ⟨?_, ?_⟩ <;> after_results_simp
  rfl

/-- Kernel and reference agree. -/
theorem algebraic : Cert.algebraic_UpKernelIdeal_UpReferenceIdeal := fun m g m' g' _ e =>
  ⟨fun c => gate (m ((c.tc : Thread _ _).loc main_arg0)) (m ((c.tc : Thread _ _).loc main_arg1)),
    fun c => up (m ((c.tc : Thread _ _).loc main_arg0)) (m ((c.tc : Thread _ _).loc main_arg1)),
    fun c => act (m ((c.tc : Thread _ _).loc main_arg0)) (m ((c.tc : Thread _ _).loc main_arg1)),
    (θ_run defs _ _).mono (fun r hr c => by
      obtain ⟨e0, e1, e2, k⟩ := hr c
      obtain ⟨h0, h1⟩ := host m c
      exact ⟨e0.trans (Ker.final_gate m c _ _ h0 h1), e1.trans (Ker.final_up m c _ _ h0 h1), e2.trans (Ker.final_act m c _ _ h0 h1), k⟩) (Cert.UpKernelIdeal.Value.run_blocks m g),
    (θ_run Cert.UpReferenceIdeal.defs _ _).mono (fun r hr c => by
      obtain ⟨h0, h1⟩ := e c
      obtain ⟨e0, e1, e2, k⟩ := hr c
      have k0 := (e0.trans (val_main_v3_eq _ _)).trans (Ref.gate_val _ _)
      have k1 := (e1.trans (val_main_v4_eq _ _)).trans (Ref.up_val _ _)
      have k2 := (e2.trans (val_main_v7_eq _ _)).trans (Ref.act_val _ _)
      rw [h0, h1] at k0
      rw [h0, h1] at k1
      rw [h0, h1] at k2
      exact ⟨k0, k1, k2, k⟩) (Cert.UpReferenceIdeal.Value.run (F := Ideal) m' g')⟩

end

end Cert.Up
-- ==== Proof.DownPay.lean ====
/- The closing projection with its loss: what one grid point's body leaves. -/
module

public import proofs.«01_k».proof.Proof.Sums
public import proofs.«01_k».proof.Proof.Gen.DownKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Down.Ker

open Idealize.ShloMosaic Cert.DownKernelIdeal Cert.DownKernelIdeal.Gen Idealize.ShloMosaic.TcCoe Idealize.SL.Sem

section

variable (c : Dev nD) (i : grid0.Coords) (arg3 : Memref sig .tc .vmem S512x2816 .bf16) (harg3 : arg3.IsWhole)
  (arg4 : Memref sig .tc .vmem S2816x1024 .bf16) (harg4 : arg4.IsWhole) (arg5 : Memref sig .tc .vmem S512x1024 .f32) (harg5 : arg5.IsWhole)
  (arg6 : Memref sig .tc .vmem S512x1024 .f32) (harg6 : arg6.IsWhole) (arg7 : Memref sig .tc .vmem S512x1024 .f32) (harg7 : arg7.IsWhole)
  (arg8 : Memref sig .tc .vmem S512x1024 .bf16) (harg8 : arg8.IsWhole) (arg9 : Memref sig .tc .vmem S1x128 .f32) (harg9 : arg9.IsWhole)
  (x0 : Vec Ideal S512x2816 .bf16) (x1 : Vec Ideal S2816x1024 .bf16) (x2 : Vec Ideal S512x1024 .f32) (x3 : Vec Ideal S512x1024 .f32) (xo : Vec Ideal S1x128 .f32)

/-- What a point leaves: the gradient, -/
theorem out_A_4 (hc : cond0_0 i) :
    out0_A_4 c i arg3 harg3 arg4 harg4 arg5 harg5 arg6 harg6 arg7 harg7 arg8 harg8 arg9 harg9 hc x0 x1 x2 x3 = k0_pay4 x0 x1 x2 x3 := by
  unfold out0_A_4
  rw [View.read_writes_eq_canon _ _ _ (fun _ => cover0_A_4 ..)]
  unfold kernelRun0_A
  dsimp only
  sl_unfold_words
  simp (disch := decide) only [View.canon_cons_unit_lit', View.readCov_cons_unit_lit', View.readAt_eq_ld, harg3.read_unread, harg4.read_unread, harg5.read_unread, harg6.read_unread]
  repeat rw [View.ld_unit_zero (by decide)]

theorem out_B_4 (hc : ¬cond0_0 i) :
    out0_B_4 c i arg3 harg3 arg4 harg4 arg5 harg5 arg6 harg6 arg7 harg7 arg8 harg8 arg9 harg9 hc x0 x1 x2 x3 xo = k0_pay4 x0 x1 x2 x3 := by
  unfold out0_B_4
  rw [View.read_writes_eq_canon _ _ _ (fun _ => cover0_B_4 ..)]
  unfold kernelRun0_B
  dsimp only
  sl_unfold_words
  simp (disch := decide) only [View.canon_cons_unit_lit', View.readCov_cons_unit_lit', View.readAt_eq_ld, harg3.read_unread, harg4.read_unread, harg5.read_unread, harg6.read_unread, harg9.read_unread]
  repeat rw [View.ld_unit_zero (by decide)]

/-- the same narrowed, -/
theorem out_A_5 (hc : cond0_0 i) :
    out0_A_5 c i arg3 harg3 arg4 harg4 arg5 harg5 arg6 harg6 arg7 harg7 arg8 harg8 arg9 harg9 hc x0 x1 x2 x3 = k0_pay6 x0 x1 x2 x3 := by
  unfold out0_A_5
  rw [View.read_writes_eq_canon _ _ _ (fun _ => cover0_A_5 ..)]
  unfold kernelRun0_A
  dsimp only
  sl_unfold_words
  simp (disch := decide) only [View.canon_cons_unit_lit', View.readCov_cons_unit_lit', View.readAt_eq_ld, harg3.read_unread, harg4.read_unread, harg5.read_unread, harg6.read_unread]
  repeat rw [View.ld_unit_zero (by decide)]

theorem out_B_5 (hc : ¬cond0_0 i) :
    out0_B_5 c i arg3 harg3 arg4 harg4 arg5 harg5 arg6 harg6 arg7 harg7 arg8 harg8 arg9 harg9 hc x0 x1 x2 x3 xo = k0_pay6 x0 x1 x2 x3 := by
  unfold out0_B_5
  rw [View.read_writes_eq_canon _ _ _ (fun _ => cover0_B_5 ..)]
  unfold kernelRun0_B
  dsimp only
  sl_unfold_words
  simp (disch := decide) only [View.canon_cons_unit_lit', View.readCov_cons_unit_lit', View.readAt_eq_ld, harg3.read_unread, harg4.read_unread, harg5.read_unread, harg6.read_unread, harg9.read_unread]
  repeat rw [View.ld_unit_zero (by decide)]

/-- and the loss so far. -/
theorem out_A_6 (hc : cond0_0 i) :
    out0_A_6 c i arg3 harg3 arg4 harg4 arg5 harg5 arg6 harg6 arg7 harg7 arg8 harg8 arg9 harg9 hc x0 x1 x2 x3 = k0_pay2 (k0_pay5 x0 x1 x2 x3) (k0_pay1 (F := Ideal)) := by
  unfold out0_A_6
  rw [View.read_writes_eq_canon _ _ _ (fun _ => cover0_A_6 ..)]
  unfold kernelRun0_A
  dsimp only
  sl_unfold_words
  simp (disch := decide) only [View.canon_cons_unit_lit', View.readCov_cons_unit_lit', View.readAt_eq_ld, harg3.read_unread, harg4.read_unread, harg5.read_unread, harg6.read_unread]
  repeat rw [View.ld_unit_zero (by decide)]

theorem out_B_6 (hc : ¬cond0_0 i) :
    out0_B_6 c i arg3 harg3 arg4 harg4 arg5 harg5 arg6 harg6 arg7 harg7 arg8 harg8 arg9 harg9 hc x0 x1 x2 x3 xo = k0_pay2 (k0_pay5 x0 x1 x2 x3) xo := by
  unfold out0_B_6
  rw [View.read_writes_eq_canon _ _ _ (fun _ => cover0_B_6 ..)]
  unfold kernelRun0_B
  dsimp only
  sl_unfold_words
  simp (disch := decide) only [View.canon_cons_unit_lit', View.readCov_cons_unit_lit', View.readAt_eq_ld, harg3.read_unread, harg4.read_unread, harg5.read_unread, harg6.read_unread, harg9.read_unread]
  repeat rw [View.ld_unit_zero (by decide)]

end

variable (a : Vec Ideal S512x2816 .bf16) (w : Vec Ideal S2816x1024 .bf16) (x g : Vec Ideal S512x1024 .f32)

/-- A point's errors. -/
def err (r : Fin 512) (q : Fin 1024) : EReal :=
  x (ix2 r q) + Ideal.ofBits .f32 0x3F000000#32 * (∑ k : Fin 2816, a (ix2 r k) * w (ix2 k q)) - g (ix2 r q)

theorem pay3_val (r : Fin 512) (q : Fin 1024) : k0_pay3 a w x g (ix2 r q) = err a w x g r q := by
  pointwise [k0_pay3]
  rfl

theorem pay4_val (r : Fin 512) (q : Fin 1024) : k0_pay4 a w x g (ix2 r q) = err a w x g r q * Ideal.ofBits .f32 0x3A800000#32 := by
  pointwise [k0_pay4]
  rw [pay3_val]

theorem pay6_val (r : Fin 512) (q : Fin 1024) : k0_pay6 a w x g (ix2 r q) = err a w x g r q * Ideal.ofBits .f32 0x3A800000#32 := by
  pointwise [k0_pay6]
  exact pay4_val a w x g r q

theorem pay5_val (l : Fin 128) : k0_pay5 a w x g (ix2 0 l) = Ideal.ofBits .f32 0x3F000000#32
    * ∑ r : Fin 512, Ideal.div (∑ q : Fin 1024, err a w x g r q * err a w x g r q) (Ideal.ofBits .f32 0x44800000#32) := by
  pointwise [k0_pay5]
  simp only [pay3_val]

theorem pay2_val (p y : Vec Ideal S1x128 .f32) (l : Fin 128) : k0_pay2 p y (ix2 0 l) = y (ix2 0 l) + p (ix2 0 l) := by
  pointwise [k0_pay2]

theorem pay1_val (l : Fin 128) : k0_pay1 (F := Ideal) (ix2 0 l) = Ideal.ofBits .f32 0x00000000#32 := by
  pointwise [k0_pay1]

end Cert.Down.Ker
-- ==== Proof.DownVal.lean ====
/- The closing projection with its loss: the kernel's arrays, from its blocks. -/
module

public import proofs.«01_k».proof.Proof.DownPay

@[expose] public section

set_option maxRecDepth 16384

noncomputable section

namespace Cert.Down

open Idealize.ShloMosaic Cert.DownKernelIdeal

/-- The number 0.5, -/
abbrev half : EReal := Ideal.ofBits .f32 0x3F000000#32
/-- the width, 1024, -/
abbrev width : EReal := Ideal.ofBits .f32 0x44800000#32
/-- and one over it. -/
abbrev inv : EReal := Ideal.ofBits .f32 0x3A800000#32

variable (a : S4096x2816.Idx → EReal) (w : S2816x1024.Idx → EReal) (x g : S4096x1024.Idx → EReal)

/-- The last layer's error against its target, -/
def err (s : Fin 4096) (q : Fin 1024) : EReal := x (ix2 s q) + half * (∑ k : Fin 2816, a (ix2 s k) * w (ix2 k q)) - g (ix2 s q)
/-- a token's mean square error, -/
def mse (s : Fin 4096) : EReal := Ideal.div (∑ q : Fin 1024, err a w x g s q * err a w x g s q) width

/-- the loss's gradient, -/
def dy (j : S4096x1024.Idx) : EReal := err a w x g (j 0) (j 1) * inv
/-- and the loss, in every lane of a row. -/
def loss (_ : S1x128.Idx) : EReal := half * ∑ s : Fin (8 * 512), mse a w x g s

theorem half_eq : half = ((1 / 2 : ℝ) : EReal) := by
  simp [half, Ideal.ofBits, Ideal.ieee, -EReal.coe_mul]; norm_num

end Cert.Down

namespace Cert.Down.Ker

open Idealize.ShloMosaic Cert.DownKernelIdeal Cert.DownKernelIdeal.Gen Idealize.ShloMosaic.TcCoe Idealize.SL.Sem

theorem lt_N (t : Fin cfg0.N) : t.val < 8 := lt_of_lt_of_eq t.isLt N_0

/-- The array's row of a point's row. -/
abbrev row (i : ℕ) (r : Fin 512) : Fin 4096 := Sums.at_ 8 512 i r (by decide)

theorem row_val (t : Fin cfg0.N) (r : Fin 512) : (row t.val r).val = t.val * 512 + r.val :=
  congrArg (· * 512 + r.val) (Nat.mod_eq_of_lt (lt_N t))

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

/-- The windows read. -/
theorem rd_a (A : S4096x2816.Idx → EReal) (t : Fin cfg0.N) (r : Fin 512) (k : Fin 2816) :
    ((cfg0.win 0).blk t).view.read (Elt Ideal) A (ix2 r k) = A (ix2 (row t.val r) k) := by
  refine congrArg A (funext fun a => ?_)
  match a with
  | ⟨0, _⟩ => exact Fin.ext (by blk_simp [idx t]; exact (row_val t r).symm)
  | ⟨1, _⟩ => exact Fin.ext (by blk_simp [idx t])

theorem rd_w (A : S2816x1024.Idx → EReal) (t : Fin cfg0.N) (k : Fin 2816) (q : Fin 1024) :
    ((cfg0.win 1).blk t).view.read (Elt Ideal) A (ix2 k q) = A (ix2 k q) := by
  refine congrArg A (funext fun a => ?_)
  match a with
  | ⟨0, _⟩ => exact Fin.ext (by blk_simp [idx t])
  | ⟨1, _⟩ => exact Fin.ext (by blk_simp [idx t])

theorem rd_x (A : S4096x1024.Idx → EReal) (t : Fin cfg0.N) (r : Fin 512) (q : Fin 1024) :
    ((cfg0.win 2).blk t).view.read (Elt Ideal) A (ix2 r q) = A (ix2 (row t.val r) q) := by
  refine congrArg A (funext fun a => ?_)
  match a with
  | ⟨0, _⟩ => exact Fin.ext (by blk_simp [idx t]; exact (row_val t r).symm)
  | ⟨1, _⟩ => exact Fin.ext (by blk_simp [idx t])

theorem rd_g (A : S4096x1024.Idx → EReal) (t : Fin cfg0.N) (r : Fin 512) (q : Fin 1024) :
    ((cfg0.win 3).blk t).view.read (Elt Ideal) A (ix2 r q) = A (ix2 (row t.val r) q) := by
  refine congrArg A (funext fun a => ?_)
  match a with
  | ⟨0, _⟩ => exact Fin.ext (by blk_simp [idx t]; exact (row_val t r).symm)
  | ⟨1, _⟩ => exact Fin.ext (by blk_simp [idx t])

/-- Blocks whose windows hold an array's rows make those rows' errors. -/
theorem err_blk {a' : Vec Ideal S512x2816 .bf16} {w' : Vec Ideal S2816x1024 .bf16} {x' g' : Vec Ideal S512x1024 .f32}
    {a : S4096x2816.Idx → EReal} {w : S2816x1024.Idx → EReal} {x g : S4096x1024.Idx → EReal} {r : Fin 512} {s : Fin 4096} {q : Fin 1024}
    (h0 : ∀ k, a' (ix2 r k) = a (ix2 s k)) (h1 : ∀ k, w' (ix2 k q) = w (ix2 k q)) (h2 : x' (ix2 r q) = x (ix2 s q)) (h3 : g' (ix2 r q) = g (ix2 s q)) :
    err a' w' x' g' r q = Down.err a w x g s q := by
  unfold err Down.err
  rw [h2, h3]
  simp only [h0, h1]

variable (m : (ℓ : Loc nD τ sig) → Buf (Elt Ideal) ℓ) (c : Dev nD)

theorem err_at (t : Fin cfg0.N) (r : Fin 512) (q : Fin 1024) : err (iblk m c 0 t) (iblk m c 1 t) (iblk m c 2 t) (iblk m c 3 t) r q
    = Down.err (V m c main_v0) (V m c main_v1) (V m c main_arg2) (V m c main_arg3) (row t.val r) q :=
  err_blk (fun k => rd_a _ t r k) (fun k => rd_w _ t k q) (rd_x _ t r q) (rd_g _ t r q)

/-- A point's two gradients, -/
theorem outs (t : Fin cfg0.N) :
    (outsAt0 m c t.val t.isLt).1 = k0_pay4 (iblk m c 0 t) (iblk m c 1 t) (iblk m c 2 t) (iblk m c 3 t)
    ∧ (outsAt0 m c t.val t.isLt).2.1 = k0_pay6 (iblk m c 0 t) (iblk m c 1 t) (iblk m c 2 t) (iblk m c 3 t) := by
  by_cases h0 : t.val % 8 = 0
  · rw [outsAt0_A m c t h0]
    dsimp only
    rw [out_A_4, out_A_5]
    exact ⟨rfl, rfl⟩
  · rw [outsAt0_B m c t h0]
    dsimp only
    rw [out_B_4, out_B_5]
    exact ⟨rfl, rfl⟩

/-- one run of tokens' share of the loss, -/
def run (a : S4096x2816.Idx → EReal) (w : S2816x1024.Idx → EReal) (x g : S4096x1024.Idx → EReal) (k : ℕ) : EReal :=
  half * ∑ r : Fin 512, mse a w x g (row k r)

theorem part (t : Fin cfg0.N) (l : Fin 128) : k0_pay5 (iblk m c 0 t) (iblk m c 1 t) (iblk m c 2 t) (iblk m c 3 t) (ix2 0 l)
    = run (V m c main_v0) (V m c main_v1) (V m c main_arg2) (V m c main_arg3) t.val := by
  refine (pay5_val _ _ _ _ l).trans (congrArg (half * ·) (Finset.sum_congr rfl fun r _ => congrArg (Ideal.div · width) (Finset.sum_congr rfl fun q _ => ?_)))
  rw [err_at]

/-- and the loss so far. -/
theorem acc (n : ℕ) (hn : n < cfg0.N) (l : Fin 128) : (outsAt0 m c n hn).2.2 (ix2 0 l)
    = ∑ k ∈ Finset.range (n % 8 + 1), run (V m c main_v0) (V m c main_v1) (V m c main_arg2) (V m c main_arg3) k := by
  refine Sums.acc_runs 8 cfg0.N (by decide) (fun n hn => (outsAt0 m c n hn).2.2 (ix2 0 l))
    (fun _ k => run (V m c main_v0) (V m c main_v1) (V m c main_arg2) (V m c main_arg3) k) (fun n hn h => ?_) (fun n hn h => ?_) n hn
  · have hm : n % 8 = n := Nat.mod_eq_of_lt (lt_N ⟨n, hn⟩)
    rw [hm, outsAt0_A m c ⟨n, hn⟩ h]
    dsimp only
    rw [out_A_6, pay2_val, pay1_val, Ideal.ofBits_zero, zero_add]
    exact part m c ⟨n, hn⟩ l
  · have hm : (n + 1) % 8 = n + 1 := Nat.mod_eq_of_lt (lt_N ⟨n + 1, hn⟩)
    rw [hm, outsAt0_B m c ⟨n + 1, hn⟩ h]
    dsimp only
    rw [out_B_6, pay2_val]
    exact congrArg (_ + ·) (part m c ⟨n + 1, hn⟩ l)

/-- All eight runs make the loss. -/
theorem runs (a : S4096x2816.Idx → EReal) (w : S2816x1024.Idx → EReal) (x g : S4096x1024.Idx → EReal) (j : S1x128.Idx) :
    ∑ k ∈ Finset.range (7 + 1), run a w x g k = loss a w x g j := by
  have h := Sums.sum_scale (Finset.range (7 + 1)) (fun k => ∑ r : Fin 512, mse a w x g (row k r)) half
    (by rw [half_eq]; exact_mod_cast (by norm_num : (0 : ℝ) ≤ 1 / 2)) (by rw [half_eq]; exact EReal.coe_ne_top _)
  refine Eq.trans (Finset.sum_congr rfl fun k _ => mul_comm _ _) (h.symm.trans ((mul_comm _ _).trans (congrArg (half * ·) ?_)))
  exact Sums.sum_runs 8 512 (by decide) fun s => mse a w x g s

/-- The kernel's arrays end holding the gradient, twice, and the loss. -/
theorem final_dy : (dats m 0 c).arrAt 4 cfg0.N = dy (V m c main_v0) (V m c main_v1) (V m c main_arg2) (V m c main_arg3) := by
  refine (dats m 0 c).arrAt_eq_of_covers 4 _ (by decide +kernel) fun t hf y => ?_
  have he : ((cfg0.win 4).blk t).view.emb y = ix2 (row t.val (y 0)) (y 1) := by
    funext a
    match a with
    | ⟨0, _⟩ => exact Fin.ext (by blk_simp [idx t]; exact (row_val t (y 0)).symm)
    | ⟨1, _⟩ => exact Fin.ext (by blk_simp [idx t]; rfl)
  blk_simp
  rw [after0_4, (outs m c t).1]
  refine Eq.trans ?_ (congrArg (dy (V m c main_v0) (V m c main_v1) (V m c main_arg2) (V m c main_arg3)) he).symm
  refine (congrArg _ (eq_ix2 y)).trans ((pay4_val _ _ _ _ (y 0) (y 1)).trans ?_)
  exact congrArg (· * inv) (err_at m c t (y 0) (y 1))

theorem final_dyb : (dats m 0 c).arrAt 5 cfg0.N = dy (V m c main_v0) (V m c main_v1) (V m c main_arg2) (V m c main_arg3) := by
  refine (dats m 0 c).arrAt_eq_of_covers 5 _ (by decide +kernel) fun t hf y => ?_
  have he : ((cfg0.win 5).blk t).view.emb y = ix2 (row t.val (y 0)) (y 1) := by
    funext a
    match a with
    | ⟨0, _⟩ => exact Fin.ext (by blk_simp [idx t]; exact (row_val t (y 0)).symm)
    | ⟨1, _⟩ => exact Fin.ext (by blk_simp [idx t]; rfl)
  blk_simp
  rw [after0_5, (outs m c t).2]
  refine Eq.trans ?_ (congrArg (dy (V m c main_v0) (V m c main_v1) (V m c main_arg2) (V m c main_arg3)) he).symm
  refine (congrArg _ (eq_ix2 y)).trans ((pay6_val _ _ _ _ (y 0) (y 1)).trans ?_)
  exact congrArg (· * inv) (err_at m c t (y 0) (y 1))

theorem eq_first (y : S1x128.Idx) : y = ix2 0 (y 1) := by
  funext a
  match a with
  | ⟨0, _⟩ => exact Subsingleton.elim (α := Fin 1) _ _
  | ⟨1, _⟩ => rfl

theorem final_loss : (dats m 0 c).arrAt 6 cfg0.N = loss (V m c main_v0) (V m c main_v1) (V m c main_arg2) (V m c main_arg3) := by
  refine (dats m 0 c).arrAt_eq_of_covers 6 _ (by decide +kernel) fun t hf y => ?_
  have h7 : t.val % 8 = 7 := (flush0_6 t).mp hf
  blk_simp
  rw [after0_6]
  refine (congrArg _ (eq_first y)).trans ((acc m c t.val t.isLt (y 1)).trans ?_)
  rw [h7]
  exact runs _ _ _ _ _

end Cert.Down.Ker
-- ==== Proof.DownClaims.lean ====
/- The claims on the loss and its gradient, each from its program's run, and the reference's values. -/
module

public import proofs.«01_k».proof.Defs
public import proofs.«01_k».proof.Proof.DownVal
public import proofs.«01_k».proof.Proof.Coe
public import proofs.«01_k».proof.Proof.Gen.DownReferenceIdeal.Read
public import proofs.«01_k».proof.Proof.Gen.DownKernel.Frame
public import proofs.«01_k».proof.Proof.Gen.DownReferenceIdeal.Run
public import Idealize.ShloMosaic.Lib.Claim
public import Idealize.ShloMosaic.Lib.StableHlo.Run

@[expose] public section

set_option maxRecDepth 16384

noncomputable section

namespace Cert.Down.Ref

open Idealize.ShloMosaic Cert.DownReferenceIdeal Cert.DownReferenceIdeal.Read Cert.Attn

variable (x0 : S4096x2816.Idx → EReal) (x1 : S2816x1024.Idx → EReal) (x2 x3 : S4096x1024.Idx → EReal)

theorem width_eq : width = ((1024 : ℝ) : EReal) := by
  simp [width, Ideal.ofBits, Ideal.ieee, -EReal.coe_mul]; norm_num

theorem inv_eq : inv = ((1 / 1024 : ℝ) : EReal) := by
  simp [inv, Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem err_val (s : Fin 4096) (q : Fin 1024) : val_main_v4 (F := Ideal) x0 x1 x2 x3 (ix2 s q) = err x0 x1 x2 x3 s q := by
  pointwise [val_main_v4, val_main_v3, val_main_v2, val_main_v1, val_main_cst, val_main_v0]
  rfl

/-- Twice the error, halved and over the width, is the error over the width. -/
theorem scale (z : EReal) : Ideal.div half width * (Ideal.ofBits .f32 0x40000000#32 * z) = z * inv := by
  rw [half_eq, width_eq, lit_two, inv_eq, div_coe_coe _ _ (by norm_num), ← mul_assoc, ← EReal.coe_mul, mul_comm]
  congr 2
  norm_num

theorem dy_val : val_main_v18 (F := Ideal) x0 x1 x2 x3 = dy x0 x1 x2 x3 := by
  funext j
  refine (congrArg _ (eq_ix2 j)).trans ?_
  pointwise [val_main_v18, val_main_v17, val_main_v16, val_main_v15, val_main_cst_7, val_main_v14, val_main_v13, val_main_cst_5, val_main_cst_6,
    val_main_v7, val_main_v6, val_main_cst_0]
  exact (congrArg (Ideal.div half width * ·) (congrArg (_ * ·) ((congrArg _ (eq_ix2 j)).trans (err_val x0 x1 x2 x3 _ _)))).trans (scale _)

theorem mse_val (s : Fin 4096) : val_main_v10 (F := Ideal) x0 x1 x2 x3 (ix1 s) = mse x0 x1 x2 x3 s := by
  pointwise [val_main_v10, val_main_v9, val_main_cst_2, val_main_v8, val_main_cst_1, val_main_v5]
  simp only [err_val]
  rfl

theorem loss_val : val_main_v20 (F := Ideal) x0 x1 x2 x3 = loss x0 x1 x2 x3 := by
  funext j
  refine (congrArg _ (Ker.eq_first j)).trans ?_
  pointwise [val_main_v20, val_main_v12, val_main_cst_4, val_main_v11, val_main_cst_3]
  exact congrArg (half * ·) (Finset.sum_congr rfl fun s _ => mse_val x0 x1 x2 x3 s)

end Cert.Down.Ref

namespace Cert.Down

open Idealize.ShloMosaic Idealize.ShloMosaic.TcCoe Idealize.SL.Sem

/-- The reference keeps its arguments, and has no semaphore. -/
theorem frame_reference : Cert.quiescent_DownReferenceIdeal := fun m g _ =>
  (θ_run Cert.DownReferenceIdeal.defs _ _).mono
    (fun r h => ⟨fun c => (h c).2.2.2, sem_eq_zero_of_no_sems (by decide) r.2⟩)
    (Cert.DownReferenceIdeal.Value.run (F := Ideal) m g)

section

open Cert.DownKernelIdeal Cert.DownKernelIdeal.Gen Idealize.ShloMosaic.StableHlo Cert.DownReferenceIdeal.Read

variable (m : (ℓ : Loc nD τ sig) → Buf (Elt Ideal) ℓ) (c : Dev nD)

/-- What the host hands the launch: the arguments, whose narrowing changes no number. -/
theorem host : V m c main_v0 = truncf (F := Ideal) .bf16 (m ((c : Thread nD τ).loc main_arg0)) bitsLt_bf16_f32 ∧ V m c main_v1 = truncf (F := Ideal) .bf16 (m ((c : Thread nD τ).loc main_arg1)) bitsLt_bf16_f32 := by
  unfold V hostOps0
  refine ⟨?_, ?_⟩ <;> after_results_simp

/-- Kernel and reference agree. -/
theorem algebraic : Cert.algebraic_DownKernelIdeal_DownReferenceIdeal := fun m g m' g' _ e =>
  ⟨fun c => dy (m ((c.tc : Thread _ _).loc main_arg0)) (m ((c.tc : Thread _ _).loc main_arg1)) (m ((c.tc : Thread _ _).loc main_arg2)) (m ((c.tc : Thread _ _).loc main_arg3)),
    fun c => dy (m ((c.tc : Thread _ _).loc main_arg0)) (m ((c.tc : Thread _ _).loc main_arg1)) (m ((c.tc : Thread _ _).loc main_arg2)) (m ((c.tc : Thread _ _).loc main_arg3)),
    fun c => loss (m ((c.tc : Thread _ _).loc main_arg0)) (m ((c.tc : Thread _ _).loc main_arg1)) (m ((c.tc : Thread _ _).loc main_arg2)) (m ((c.tc : Thread _ _).loc main_arg3)),
    (θ_run defs _ _).mono (fun r hr c => by
      obtain ⟨e0, e1, e2, k⟩ := hr c
      obtain ⟨h0, h1⟩ := host m c
      have f0 := Ker.final_dy m c
      have f1 := Ker.final_dyb m c
      have f2 := Ker.final_loss m c
      rw [h0, h1, V_main_arg2, V_main_arg3] at f0 f1 f2
      exact ⟨e0.trans f0, e1.trans f1, e2.trans f2, k⟩) (Cert.DownKernelIdeal.Value.run_blocks m g),
    (θ_run Cert.DownReferenceIdeal.defs _ _).mono (fun r hr c => by
      obtain ⟨h0, h1, h2, h3⟩ := e c
      obtain ⟨e0, e1, e2, k⟩ := hr c
      have k0 := (e0.trans (val_main_v18_eq _ _ _ _)).trans (Ref.dy_val _ _ _ _)
      have k1 := (e1.trans (val_main_v19_eq _ _ _ _)).trans (Ref.dy_val _ _ _ _)
      have k2 := (e2.trans (val_main_v20_eq _ _ _ _)).trans (Ref.loss_val _ _ _ _)
      rw [h0, h1, h2, h3] at k0
      rw [h0, h1, h2, h3] at k1
      rw [h0, h1, h2, h3] at k2
      exact ⟨k0, k1, k2, k⟩) (Cert.DownReferenceIdeal.Value.run (F := Ideal) m' g')⟩

end

end Cert.Down
-- ==== Proof.MergePay.lean ====
/- The gated merge's gradients: what one grid point's body leaves. -/
module

public import proofs.«01_k».proof.Proof.Sums
public import proofs.«01_k».proof.Proof.Gen.MergeKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Merge.Ker

open Idealize.ShloMosaic Cert.MergeKernelIdeal Cert.MergeKernelIdeal.Gen Idealize.ShloMosaic.TcCoe Idealize.SL.Sem

section

variable (c : Dev nD) (i : grid0.Coords) (arg3 : Memref sig .tc .vmem S512x1024 .bf16) (harg3 : arg3.IsWhole)
  (arg4 : Memref sig .tc .vmem S1024x1024 .bf16) (harg4 : arg4.IsWhole) (arg5 : Memref sig .tc .vmem S512x2048 .f32) (harg5 : arg5.IsWhole)
  (arg6 : Memref sig .tc .vmem S512x1024 .f32) (harg6 : arg6.IsWhole) (arg7 : Memref sig .tc .vmem S512x1024 .f32) (harg7 : arg7.IsWhole)
  (arg8 : Memref sig .tc .vmem S1x2048 .f32) (harg8 : arg8.IsWhole) (arg9 : Memref sig .tc .vmem S512x1024 .bf16) (harg9 : arg9.IsWhole)
  (arg10 : Memref sig .tc .vmem S512x1024 .bf16) (harg10 : arg10.IsWhole) (arg11 : Memref sig .tc .vmem S512x2048 .bf16) (harg11 : arg11.IsWhole)
  (arg12 : Memref sig .tc .vmem S1x2048 .f32) (harg12 : arg12.IsWhole)
  (x0 : Vec Ideal S512x1024 .bf16) (x1 : Vec Ideal S1024x1024 .bf16) (x2 : Vec Ideal S512x2048 .f32) (x3 : Vec Ideal S512x1024 .f32) (x4 : Vec Ideal S512x1024 .f32) (x5 : Vec Ideal S1x2048 .f32) (xo : Vec Ideal S1x2048 .f32)

/-- What a point leaves: the first branch's gradient, -/
theorem out_A_6 (hc : cond0_0 i) :
    out0_A_6 c i arg3 harg3 arg4 harg4 arg5 harg5 arg6 harg6 arg7 harg7 arg8 harg8 arg9 harg9 arg10 harg10 arg11 harg11 arg12 harg12 hc x0 x1 x2 x3 x4 x5 = k0_pay10 x0 x1 x2 x5 := by
  unfold out0_A_6
  rw [View.read_writes_eq_canon _ _ _ (fun _ => cover0_A_6 ..)]
  unfold kernelRun0_A
  dsimp only
  sl_unfold_words
  simp (disch := decide) only [View.canon_cons_unit_lit', View.readCov_cons_unit_lit', View.readAt_eq_ld, harg3.read_unread, harg4.read_unread, harg5.read_unread, harg6.read_unread, harg7.read_unread, harg8.read_unread]
  repeat rw [View.ld_unit_zero (by decide)]

theorem out_B_6 (hc : ¬cond0_0 i) :
    out0_B_6 c i arg3 harg3 arg4 harg4 arg5 harg5 arg6 harg6 arg7 harg7 arg8 harg8 arg9 harg9 arg10 harg10 arg11 harg11 arg12 harg12 hc x0 x1 x2 x3 x4 x5 xo = k0_pay10 x0 x1 x2 x5 := by
  unfold out0_B_6
  rw [View.read_writes_eq_canon _ _ _ (fun _ => cover0_B_6 ..)]
  unfold kernelRun0_B
  dsimp only
  sl_unfold_words
  simp (disch := decide) only [View.canon_cons_unit_lit', View.readCov_cons_unit_lit', View.readAt_eq_ld, harg3.read_unread, harg4.read_unread, harg5.read_unread, harg6.read_unread, harg7.read_unread, harg8.read_unread, harg12.read_unread]
  repeat rw [View.ld_unit_zero (by decide)]

/-- the second's, -/
theorem out_A_7 (hc : cond0_0 i) :
    out0_A_7 c i arg3 harg3 arg4 harg4 arg5 harg5 arg6 harg6 arg7 harg7 arg8 harg8 arg9 harg9 arg10 harg10 arg11 harg11 arg12 harg12 hc x0 x1 x2 x3 x4 x5 = k0_pay11 x0 x1 x2 x5 := by
  unfold out0_A_7
  rw [View.read_writes_eq_canon _ _ _ (fun _ => cover0_A_7 ..)]
  unfold kernelRun0_A
  dsimp only
  sl_unfold_words
  simp (disch := decide) only [View.canon_cons_unit_lit', View.readCov_cons_unit_lit', View.readAt_eq_ld, harg3.read_unread, harg4.read_unread, harg5.read_unread, harg6.read_unread, harg7.read_unread, harg8.read_unread]
  repeat rw [View.ld_unit_zero (by decide)]

theorem out_B_7 (hc : ¬cond0_0 i) :
    out0_B_7 c i arg3 harg3 arg4 harg4 arg5 harg5 arg6 harg6 arg7 harg7 arg8 harg8 arg9 harg9 arg10 harg10 arg11 harg11 arg12 harg12 hc x0 x1 x2 x3 x4 x5 xo = k0_pay11 x0 x1 x2 x5 := by
  unfold out0_B_7
  rw [View.read_writes_eq_canon _ _ _ (fun _ => cover0_B_7 ..)]
  unfold kernelRun0_B
  dsimp only
  sl_unfold_words
  simp (disch := decide) only [View.canon_cons_unit_lit', View.readCov_cons_unit_lit', View.readAt_eq_ld, harg3.read_unread, harg4.read_unread, harg5.read_unread, harg6.read_unread, harg7.read_unread, harg8.read_unread, harg12.read_unread]
  repeat rw [View.ld_unit_zero (by decide)]

/-- the gates', -/
theorem out_A_8 (hc : cond0_0 i) :
    out0_A_8 c i arg3 harg3 arg4 harg4 arg5 harg5 arg6 harg6 arg7 harg7 arg8 harg8 arg9 harg9 arg10 harg10 arg11 harg11 arg12 harg12 hc x0 x1 x2 x3 x4 x5 = k0_pay1 (k0_pay8 x0 x1 x2 x3 x4 x5) := by
  unfold out0_A_8
  rw [View.read_writes_eq_canon _ _ _ (fun _ => cover0_A_8 ..)]
  unfold kernelRun0_A
  dsimp only
  sl_unfold_words
  simp (disch := decide) only [View.canon_cons_unit_lit', View.readCov_cons_unit_lit', View.readAt_eq_ld, harg3.read_unread, harg4.read_unread, harg5.read_unread, harg6.read_unread, harg7.read_unread, harg8.read_unread]
  repeat rw [View.ld_unit_zero (by decide)]

theorem out_B_8 (hc : ¬cond0_0 i) :
    out0_B_8 c i arg3 harg3 arg4 harg4 arg5 harg5 arg6 harg6 arg7 harg7 arg8 harg8 arg9 harg9 arg10 harg10 arg11 harg11 arg12 harg12 hc x0 x1 x2 x3 x4 x5 xo = k0_pay1 (k0_pay8 x0 x1 x2 x3 x4 x5) := by
  unfold out0_B_8
  rw [View.read_writes_eq_canon _ _ _ (fun _ => cover0_B_8 ..)]
  unfold kernelRun0_B
  dsimp only
  sl_unfold_words
  simp (disch := decide) only [View.canon_cons_unit_lit', View.readCov_cons_unit_lit', View.readAt_eq_ld, harg3.read_unread, harg4.read_unread, harg5.read_unread, harg6.read_unread, harg7.read_unread, harg8.read_unread, harg12.read_unread]
  repeat rw [View.ld_unit_zero (by decide)]

/-- and the bias's so far. -/
theorem out_A_9 (hc : cond0_0 i) :
    out0_A_9 c i arg3 harg3 arg4 harg4 arg5 harg5 arg6 harg6 arg7 harg7 arg8 harg8 arg9 harg9 arg10 harg10 arg11 harg11 arg12 harg12 hc x0 x1 x2 x3 x4 x5 = k0_pay3 (k0_pay9 x0 x1 x2 x3 x4 x5) (k0_pay2 (F := Ideal)) := by
  unfold out0_A_9
  rw [View.read_writes_eq_canon _ _ _ (fun _ => cover0_A_9 ..)]
  unfold kernelRun0_A
  dsimp only
  sl_unfold_words
  simp (disch := decide) only [View.canon_cons_unit_lit', View.readCov_cons_unit_lit', View.readAt_eq_ld, harg3.read_unread, harg4.read_unread, harg5.read_unread, harg6.read_unread, harg7.read_unread, harg8.read_unread]
  repeat rw [View.ld_unit_zero (by decide)]

theorem out_B_9 (hc : ¬cond0_0 i) :
    out0_B_9 c i arg3 harg3 arg4 harg4 arg5 harg5 arg6 harg6 arg7 harg7 arg8 harg8 arg9 harg9 arg10 harg10 arg11 harg11 arg12 harg12 hc x0 x1 x2 x3 x4 x5 xo = k0_pay3 (k0_pay9 x0 x1 x2 x3 x4 x5) xo := by
  unfold out0_B_9
  rw [View.read_writes_eq_canon _ _ _ (fun _ => cover0_B_9 ..)]
  unfold kernelRun0_B
  dsimp only
  sl_unfold_words
  simp (disch := decide) only [View.canon_cons_unit_lit', View.readCov_cons_unit_lit', View.readAt_eq_ld, harg3.read_unread, harg4.read_unread, harg5.read_unread, harg6.read_unread, harg7.read_unread, harg8.read_unread, harg12.read_unread]
  repeat rw [View.ld_unit_zero (by decide)]

end

variable (x : Vec Ideal S512x1024 .bf16) (w : Vec Ideal S1024x1024 .bf16) (p : Vec Ideal S512x2048 .f32) (a b : Vec Ideal S512x1024 .f32)
  (h : Vec Ideal S1x2048 .f32)

/-- A point's cotangents behind the weights, -/
def dm (r : Fin 512) (k : Fin 1024) : EReal := ∑ q : Fin 1024, x (ix2 r q) * w (ix2 k q)
/-- and its gates. -/
def gt (r : Fin 512) (l : Fin 2048) : EReal := Ideal.logistic (p (ix2 r l) + h (ix2 0 l))

theorem pay4_val (r : Fin 512) (k : Fin 1024) : k0_pay4 x w (ix2 r k) = dm x w r k := by
  pointwise [k0_pay4]
  rfl

theorem pay5_val (r : Fin 512) (l : Fin 2048) : k0_pay5 p h (ix2 r l) = gt p h r l := by
  pointwise [k0_pay5]
  rfl

theorem pay6_val (r : Fin 512) (k : Fin 1024) : k0_pay6 p h (ix2 r k) = gt p h r ⟨k.val, by omega⟩ := by
  pointwise [k0_pay6]
  exact pay5_val p h r _

theorem pay7_val (r : Fin 512) (k : Fin 1024) : k0_pay7 p h (ix2 r k) = gt p h r ⟨1024 + k.val, by omega⟩ := by
  pointwise [k0_pay7]
  exact pay5_val p h r _

theorem pay10_val (r : Fin 512) (k : Fin 1024) : k0_pay10 x w p h (ix2 r k) = dm x w r k * gt p h r ⟨k.val, by omega⟩ := by
  pointwise [k0_pay10]
  rw [pay4_val, pay6_val]

theorem pay11_val (r : Fin 512) (k : Fin 1024) : k0_pay11 x w p h (ix2 r k) = dm x w r k * gt p h r ⟨1024 + k.val, by omega⟩ := by
  pointwise [k0_pay11]
  rw [pay4_val, pay7_val]

theorem pay8_val (r : Fin 512) (l : Fin 2048) : k0_pay8 x w p a b h (ix2 r l)
    = dm x w r ⟨l.val % 1024, by omega⟩ * (if l.val < 1024 then a (ix2 r ⟨l.val % 1024, by omega⟩) else b (ix2 r ⟨l.val % 1024, by omega⟩))
      * gt p h r l * (1 - gt p h r l) := by
  pointwise [k0_pay8]
  by_cases hl : l.val < 1024
  · have e : (⟨l.val % 1024, by omega⟩ : Fin 1024) = ⟨l.val, hl⟩ := Fin.ext (Nat.mod_eq_of_lt hl)
    rw [dif_pos hl, if_pos hl, pay4_val, pay6_val, e]
  · have e : (⟨l.val % 1024, by omega⟩ : Fin 1024) = ⟨l.val - 1024, by omega⟩ := Fin.ext (by show l.val % 1024 = l.val - 1024; omega)
    have g : (⟨1024 + (l.val - 1024), by omega⟩ : Fin 2048) = l := Fin.ext (by show 1024 + (l.val - 1024) = l.val; omega)
    rw [dif_neg hl, if_neg hl, pay4_val, pay7_val, e, g]

theorem pay1_val (y : FVec Ideal S512x2048 .f32) (r : Fin 512) (l : Fin 2048) : (k0_pay1 y (ix2 r l) : EReal) = y (ix2 r l) := by
  pointwise [k0_pay1]

theorem pay9_val (l : Fin 2048) : k0_pay9 x w p a b h (ix2 0 l) = ∑ r : Fin 512, k0_pay8 x w p a b h (ix2 r l) := by
  pointwise [k0_pay9]

theorem pay3_val (u y : Vec Ideal S1x2048 .f32) (l : Fin 2048) : k0_pay3 u y (ix2 0 l) = y (ix2 0 l) + u (ix2 0 l) := by
  pointwise [k0_pay3]

theorem pay2_val (l : Fin 2048) : k0_pay2 (F := Ideal) (ix2 0 l) = Ideal.ofBits .f32 0x00000000#32 := by
  pointwise [k0_pay2]

end Cert.Merge.Ker
-- ==== Proof.MergeVal.lean ====
/- The gated merge's gradients: the kernel's arrays, from its blocks. -/
module

public import proofs.«01_k».proof.Proof.MergePay

@[expose] public section

set_option maxRecDepth 16384

noncomputable section

namespace Cert.Merge

open Idealize.ShloMosaic Cert.MergeKernelIdeal

variable (x : S4096x1024.Idx → EReal) (w : S1024x1024.Idx → EReal) (p : S4096x2048.Idx → EReal) (a b : S4096x1024.Idx → EReal) (h : S1x2048.Idx → EReal)

/-- The cotangent behind the weights, -/
def dm (s : Fin 4096) (k : Fin 1024) : EReal := ∑ q : Fin 1024, x (ix2 s q) * w (ix2 k q)
/-- the gates, -/
def gt (s : Fin 4096) (l : Fin 2048) : EReal := Ideal.logistic (p (ix2 s l) + h (ix2 0 l))
/-- a lane's place in its branch, -/
def lane (l : Fin 2048) : Fin 1024 := ⟨l.val % 1024, by omega⟩
/-- a gate's gradient, -/
def dp (s : Fin 4096) (l : Fin 2048) : EReal :=
  dm x w s (lane l) * (if l.val < 1024 then a (ix2 s (lane l)) else b (ix2 s (lane l))) * gt p h s l * (1 - gt p h s l)

/-- and the four results: the branches' gradients, -/
def da (j : S4096x1024.Idx) : EReal := dm x w (j 0) (j 1) * gt p h (j 0) ⟨(j 1).val, by have : (j 1).val < 1024 := (j 1).isLt; omega⟩
def db (j : S4096x1024.Idx) : EReal := dm x w (j 0) (j 1) * gt p h (j 0) ⟨1024 + (j 1).val, by have : (j 1).val < 1024 := (j 1).isLt; omega⟩
/-- the gates', -/
def dpg (j : S4096x2048.Idx) : EReal := dp x w p a b h (j 0) (j 1)
/-- and the bias's. -/
def dh (j : S1x2048.Idx) : EReal := ∑ s : Fin (8 * 512), dp x w p a b h s (j 1)

end Cert.Merge

namespace Cert.Merge.Ker

open Idealize.ShloMosaic Cert.MergeKernelIdeal Cert.MergeKernelIdeal.Gen Idealize.ShloMosaic.TcCoe Idealize.SL.Sem

theorem lt_N (t : Fin cfg0.N) : t.val < 8 := lt_of_lt_of_eq t.isLt N_0

/-- The array's row of a point's row. -/
abbrev row (i : ℕ) (r : Fin 512) : Fin 4096 := Sums.at_ 8 512 i r (by decide)

theorem row_val (t : Fin cfg0.N) (r : Fin 512) : (row t.val r).val = t.val * 512 + r.val :=
  congrArg (· * 512 + r.val) (Nat.mod_eq_of_lt (lt_N t))

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

/-- The windows read. -/
theorem rd_x (A : S4096x1024.Idx → EReal) (t : Fin cfg0.N) (r : Fin 512) (q : Fin 1024) :
    ((cfg0.win 0).blk t).view.read (Elt Ideal) A (ix2 r q) = A (ix2 (row t.val r) q) := by
  refine congrArg A (funext fun a => ?_)
  match a with
  | ⟨0, _⟩ => exact Fin.ext (by blk_simp [idx t]; exact (row_val t r).symm)
  | ⟨1, _⟩ => exact Fin.ext (by blk_simp [idx t])

theorem rd_w (A : S1024x1024.Idx → EReal) (t : Fin cfg0.N) (k q : Fin 1024) :
    ((cfg0.win 1).blk t).view.read (Elt Ideal) A (ix2 k q) = A (ix2 k q) := by
  refine congrArg A (funext fun a => ?_)
  match a with
  | ⟨0, _⟩ => exact Fin.ext (by blk_simp [idx t])
  | ⟨1, _⟩ => exact Fin.ext (by blk_simp [idx t])

theorem rd_p (A : S4096x2048.Idx → EReal) (t : Fin cfg0.N) (r : Fin 512) (l : Fin 2048) :
    ((cfg0.win 2).blk t).view.read (Elt Ideal) A (ix2 r l) = A (ix2 (row t.val r) l) := by
  refine congrArg A (funext fun a => ?_)
  match a with
  | ⟨0, _⟩ => exact Fin.ext (by blk_simp [idx t]; exact (row_val t r).symm)
  | ⟨1, _⟩ => exact Fin.ext (by blk_simp [idx t])

theorem rd_a (A : S4096x1024.Idx → EReal) (t : Fin cfg0.N) (r : Fin 512) (q : Fin 1024) :
    ((cfg0.win 3).blk t).view.read (Elt Ideal) A (ix2 r q) = A (ix2 (row t.val r) q) := by
  refine congrArg A (funext fun a => ?_)
  match a with
  | ⟨0, _⟩ => exact Fin.ext (by blk_simp [idx t]; exact (row_val t r).symm)
  | ⟨1, _⟩ => exact Fin.ext (by blk_simp [idx t])

theorem rd_b (A : S4096x1024.Idx → EReal) (t : Fin cfg0.N) (r : Fin 512) (q : Fin 1024) :
    ((cfg0.win 4).blk t).view.read (Elt Ideal) A (ix2 r q) = A (ix2 (row t.val r) q) := by
  refine congrArg A (funext fun a => ?_)
  match a with
  | ⟨0, _⟩ => exact Fin.ext (by blk_simp [idx t]; exact (row_val t r).symm)
  | ⟨1, _⟩ => exact Fin.ext (by blk_simp [idx t])

theorem rd_h (A : S1x2048.Idx → EReal) (t : Fin cfg0.N) (l : Fin 2048) :
    ((cfg0.win 5).blk t).view.read (Elt Ideal) A (ix2 0 l) = A (ix2 0 l) := by
  refine congrArg A (funext fun a => ?_)
  match a with
  | ⟨0, _⟩ => exact Fin.ext (by blk_simp [idx t])
  | ⟨1, _⟩ => exact Fin.ext (by blk_simp [idx t])

/-- Blocks whose windows hold an array's rows make those rows' values. -/
theorem dm_blk {d : Vec Ideal S512x1024 .bf16} {v : Vec Ideal S1024x1024 .bf16} {x : S4096x1024.Idx → EReal} {w : S1024x1024.Idx → EReal}
    {r : Fin 512} {s : Fin 4096} {k : Fin 1024} (h0 : ∀ q, d (ix2 r q) = x (ix2 s q)) (h1 : ∀ q, v (ix2 k q) = w (ix2 k q)) :
    dm d v r k = Merge.dm x w s k :=
  Finset.sum_congr rfl fun q _ => congrArg₂ (· * ·) (h0 q) (h1 q)

theorem gt_blk {d : Vec Ideal S512x2048 .f32} {v : Vec Ideal S1x2048 .f32} {p : S4096x2048.Idx → EReal} {h : S1x2048.Idx → EReal}
    {r : Fin 512} {s : Fin 4096} {l : Fin 2048} (h0 : d (ix2 r l) = p (ix2 s l)) (h1 : v (ix2 0 l) = h (ix2 0 l)) : gt d v r l = Merge.gt p h s l :=
  congrArg Ideal.logistic (congrArg₂ (· + ·) h0 h1)

variable (m : (ℓ : Loc nD τ sig) → Buf (Elt Ideal) ℓ) (c : Dev nD)

theorem dm_at (t : Fin cfg0.N) (r : Fin 512) (k : Fin 1024) :
    dm (iblk m c 0 t) (iblk m c 1 t) r k = Merge.dm (V m c main_v0) (V m c main_v1) (row t.val r) k :=
  dm_blk (fun q => rd_x _ t r q) fun q => rd_w _ t k q

theorem gt_at (t : Fin cfg0.N) (r : Fin 512) (l : Fin 2048) :
    gt (iblk m c 2 t) (iblk m c 5 t) r l = Merge.gt (V m c main_arg2) (V m c main_arg5) (row t.val r) l :=
  gt_blk (rd_p _ t r l) (rd_h _ t l)

/-- The gates' gradient at a point. -/
theorem dp_at (t : Fin cfg0.N) (r : Fin 512) (l : Fin 2048) :
    k0_pay8 (iblk m c 0 t) (iblk m c 1 t) (iblk m c 2 t) (iblk m c 3 t) (iblk m c 4 t) (iblk m c 5 t) (ix2 r l)
      = dp (V m c main_v0) (V m c main_v1) (V m c main_arg2) (V m c main_arg3) (V m c main_arg4) (V m c main_arg5) (row t.val r) l := by
  refine (pay8_val _ _ _ _ _ _ r l).trans ?_
  rw [dm_at, gt_at]
  exact congrArg (· * _ * _) (congrArg (_ * ·) (ite_congr rfl (fun _ => rd_a _ t r (lane l)) fun _ => rd_b _ t r (lane l)))

/-- The arrays after a point: the branches' and the gates' gradients, -/
theorem outs (t : Fin cfg0.N) :
    (outsAt0 m c t.val t.isLt).1 = k0_pay10 (iblk m c 0 t) (iblk m c 1 t) (iblk m c 2 t) (iblk m c 5 t)
    ∧ (outsAt0 m c t.val t.isLt).2.1 = k0_pay11 (iblk m c 0 t) (iblk m c 1 t) (iblk m c 2 t) (iblk m c 5 t)
    ∧ (outsAt0 m c t.val t.isLt).2.2.1
      = k0_pay1 (k0_pay8 (iblk m c 0 t) (iblk m c 1 t) (iblk m c 2 t) (iblk m c 3 t) (iblk m c 4 t) (iblk m c 5 t)) := by
  by_cases h0 : t.val % 8 = 0
  · rw [outsAt0_A m c t h0]
    dsimp only
    rw [out_A_6, out_A_7, out_A_8]
    exact ⟨rfl, rfl, rfl⟩
  · rw [outsAt0_B m c t h0]
    dsimp only
    rw [out_B_6, out_B_7, out_B_8]
    exact ⟨rfl, rfl, rfl⟩

/-- One run of tokens' share of the bias's gradient, -/
def run (x : S4096x1024.Idx → EReal) (w : S1024x1024.Idx → EReal) (p : S4096x2048.Idx → EReal) (a b : S4096x1024.Idx → EReal) (h : S1x2048.Idx → EReal)
    (l : Fin 2048) (k : ℕ) : EReal := ∑ r : Fin 512, dp x w p a b h (row k r) l

theorem part (t : Fin cfg0.N) (l : Fin 2048) :
    k0_pay9 (iblk m c 0 t) (iblk m c 1 t) (iblk m c 2 t) (iblk m c 3 t) (iblk m c 4 t) (iblk m c 5 t) (ix2 0 l)
      = run (V m c main_v0) (V m c main_v1) (V m c main_arg2) (V m c main_arg3) (V m c main_arg4) (V m c main_arg5) l t.val :=
  (pay9_val _ _ _ _ _ _ l).trans (Finset.sum_congr rfl fun r _ => dp_at m c t r l)

/-- and the bias's so far. -/
theorem acc (n : ℕ) (hn : n < cfg0.N) (l : Fin 2048) : (outsAt0 m c n hn).2.2.2 (ix2 0 l) = ∑ k ∈ Finset.range (n % 8 + 1),
    run (V m c main_v0) (V m c main_v1) (V m c main_arg2) (V m c main_arg3) (V m c main_arg4) (V m c main_arg5) l k := by
  refine Sums.acc_runs 8 cfg0.N (by decide) (fun n hn => (outsAt0 m c n hn).2.2.2 (ix2 0 l))
    (fun _ k => run (V m c main_v0) (V m c main_v1) (V m c main_arg2) (V m c main_arg3) (V m c main_arg4) (V m c main_arg5) l k)
    (fun n hn h => ?_) (fun n hn h => ?_) n hn
  · have hm : n % 8 = n := Nat.mod_eq_of_lt (lt_N ⟨n, hn⟩)
    rw [hm, outsAt0_A m c ⟨n, hn⟩ h]
    dsimp only
    rw [out_A_9, pay3_val, pay2_val, Ideal.ofBits_zero, zero_add]
    exact part m c ⟨n, hn⟩ l
  · have hm : (n + 1) % 8 = n + 1 := Nat.mod_eq_of_lt (lt_N ⟨n + 1, hn⟩)
    rw [hm, outsAt0_B m c ⟨n + 1, hn⟩ h]
    dsimp only
    rw [out_B_9, pay3_val]
    exact congrArg (_ + ·) (part m c ⟨n + 1, hn⟩ l)

/-- All eight runs make the bias's gradient. -/
theorem runs (x : S4096x1024.Idx → EReal) (w : S1024x1024.Idx → EReal) (p : S4096x2048.Idx → EReal) (a b : S4096x1024.Idx → EReal) (h : S1x2048.Idx → EReal)
    (l : Fin 2048) : ∑ k ∈ Finset.range (7 + 1), run x w p a b h l k = dh x w p a b h (ix2 0 l) :=
  Sums.sum_runs 8 512 (by decide) fun s => dp x w p a b h s l

/-- The kernel's arrays end holding the four gradients. -/
theorem final_da : (dats m 0 c).arrAt 6 cfg0.N = da (V m c main_v0) (V m c main_v1) (V m c main_arg2) (V m c main_arg5) := by
  refine (dats m 0 c).arrAt_eq_of_covers 6 _ (by decide +kernel) fun t hf y => ?_
  have he : ((cfg0.win 6).blk t).view.emb y = ix2 (row t.val (y 0)) (y 1) := by
    funext a
    match a with
    | ⟨0, _⟩ => exact Fin.ext (by blk_simp [idx t]; exact (row_val t (y 0)).symm)
    | ⟨1, _⟩ => exact Fin.ext (by blk_simp [idx t]; rfl)
  blk_simp
  rw [after0_6, (outs m c t).1]
  refine Eq.trans ?_ (congrArg (da (V m c main_v0) (V m c main_v1) (V m c main_arg2) (V m c main_arg5)) he).symm
  refine (congrArg _ (eq_ix2 y)).trans ((pay10_val _ _ _ _ (y 0) (y 1)).trans ?_)
  exact congrArg₂ (· * ·) (dm_at m c t (y 0) (y 1)) (gt_at m c t (y 0) _)

theorem final_db : (dats m 0 c).arrAt 7 cfg0.N = db (V m c main_v0) (V m c main_v1) (V m c main_arg2) (V m c main_arg5) := by
  refine (dats m 0 c).arrAt_eq_of_covers 7 _ (by decide +kernel) fun t hf y => ?_
  have he : ((cfg0.win 7).blk t).view.emb y = ix2 (row t.val (y 0)) (y 1) := by
    funext a
    match a with
    | ⟨0, _⟩ => exact Fin.ext (by blk_simp [idx t]; exact (row_val t (y 0)).symm)
    | ⟨1, _⟩ => exact Fin.ext (by blk_simp [idx t]; rfl)
  blk_simp
  rw [after0_7, (outs m c t).2.1]
  refine Eq.trans ?_ (congrArg (db (V m c main_v0) (V m c main_v1) (V m c main_arg2) (V m c main_arg5)) he).symm
  refine (congrArg _ (eq_ix2 y)).trans ((pay11_val _ _ _ _ (y 0) (y 1)).trans ?_)
  exact congrArg₂ (· * ·) (dm_at m c t (y 0) (y 1)) (gt_at m c t (y 0) _)

theorem final_dpg : (dats m 0 c).arrAt 8 cfg0.N
    = dpg (V m c main_v0) (V m c main_v1) (V m c main_arg2) (V m c main_arg3) (V m c main_arg4) (V m c main_arg5) := by
  refine (dats m 0 c).arrAt_eq_of_covers 8 _ (by decide +kernel) fun t hf y => ?_
  have he : ((cfg0.win 8).blk t).view.emb y = ix2 (row t.val (y 0)) (y 1) := by
    funext a
    match a with
    | ⟨0, _⟩ => exact Fin.ext (by blk_simp [idx t]; exact (row_val t (y 0)).symm)
    | ⟨1, _⟩ => exact Fin.ext (by blk_simp [idx t]; rfl)
  blk_simp
  rw [after0_8, (outs m c t).2.2]
  refine Eq.trans ?_ (congrArg (dpg (V m c main_v0) (V m c main_v1) (V m c main_arg2) (V m c main_arg3) (V m c main_arg4) (V m c main_arg5)) he).symm
  exact (congrArg _ (eq_ix2 y)).trans ((pay1_val _ (y 0) (y 1)).trans (dp_at m c t (y 0) (y 1)))

theorem eq_first (y : S1x2048.Idx) : y = ix2 0 (y 1) := by
  funext a
  match a with
  | ⟨0, _⟩ => exact Subsingleton.elim (α := Fin 1) _ _
  | ⟨1, _⟩ => rfl

theorem final_dh : (dats m 0 c).arrAt 9 cfg0.N
    = dh (V m c main_v0) (V m c main_v1) (V m c main_arg2) (V m c main_arg3) (V m c main_arg4) (V m c main_arg5) := by
  refine (dats m 0 c).arrAt_eq_of_covers 9 _ (by decide +kernel) fun t hf y => ?_
  have h7 : t.val % 8 = 7 := (flush0_9 t).mp hf
  have he : ((cfg0.win 9).blk t).view.emb y = ix2 0 (y 1) := by
    funext a
    match a with
    | ⟨0, _⟩ => exact Fin.ext (by blk_simp [idx t]; rfl)
    | ⟨1, _⟩ => exact Fin.ext (by blk_simp [idx t]; rfl)
  blk_simp
  rw [after0_9]
  refine Eq.trans ?_ (congrArg (dh (V m c main_v0) (V m c main_v1) (V m c main_arg2) (V m c main_arg3) (V m c main_arg4) (V m c main_arg5)) he).symm
  refine (congrArg _ (eq_first y)).trans ((acc m c t.val t.isLt (y 1)).trans ?_)
  rw [h7]
  exact runs _ _ _ _ _ _ (y 1)

end Cert.Merge.Ker
-- ==== Proof.MergeClaims.lean ====
/- The claims on the gated merge's gradients, each from its program's run, and the reference's values. -/
module

public import proofs.«01_k».proof.Defs
public import proofs.«01_k».proof.Proof.MergeVal
public import proofs.«01_k».proof.Proof.Coe
public import proofs.«01_k».proof.Proof.Gen.MergeReferenceIdeal.Read
public import proofs.«01_k».proof.Proof.Gen.MergeKernel.Frame
public import proofs.«01_k».proof.Proof.Gen.MergeReferenceIdeal.Run
public import Idealize.ShloMosaic.Lib.Claim
public import Idealize.ShloMosaic.Lib.StableHlo.Run

@[expose] public section

set_option maxRecDepth 16384

noncomputable section

namespace Cert.Merge.Ref

open Idealize.ShloMosaic Cert.MergeReferenceIdeal Cert.MergeReferenceIdeal.Read Cert.Attn

variable (x0 : S4096x1024.Idx → EReal) (x1 : S1024x1024.Idx → EReal) (x2 : S4096x2048.Idx → EReal) (x3 x4 : S4096x1024.Idx → EReal)
  (x5 : S1x2048.Idx → EReal)

theorem v3_val (s : Fin 4096) (l : Fin 2048) : val_main_v3 (F := Ideal) x2 x5 (ix2 s l) = x2 (ix2 s l) + x5 (ix2 0 l) := by
  pointwise [val_main_v3, val_main_v2, val_main_v1, val_main_v0]

theorem gt_val (s : Fin 4096) (l : Fin 2048) : val_main_v9 (F := Ideal) x2 x5 (ix2 s l) = gt x2 x5 s l := by
  rw [val_main_v9_apply, val_main_v8_apply, val_main_cst_0_apply, val_main_v7_apply, val_main_v6_apply, val_main_cst_apply, val_main_v5_apply,
    val_main_v4_apply, v3_val]
  show Ideal.div (Ideal.ofBits .f32 0x3F800000#32) (Ideal.ofBits .f32 0x3F800000#32 + Ideal.exp (-(x2 (ix2 s l) + x5 (ix2 0 l)))) = _
  rw [lit_one]
  rfl

theorem dm_val (s : Fin 4096) (k : Fin 1024) : val_main_v19 (F := Ideal) x0 x1 (ix2 s k) = dm x0 x1 s k := by
  pointwise [val_main_v19]
  rfl

theorem da_val : val_main_v22 (F := Ideal) x0 x1 x2 x5 = da x0 x1 x2 x5 := by
  funext j
  rw [val_main_v22_apply, val_main_v13_apply]
  refine (mul_comm _ _).trans (congrArg₂ (· * ·) ((congrArg _ (eq_ix2 j)).trans (dm_val x0 x1 _ _)) ?_)
  exact (congrArg (val_main_v9 (F := Ideal) x2 x5) (eq_ix2 (idx_main_v13 j))).trans (gt_val x2 x5 _ _)

theorem db_val : val_main_v20 (F := Ideal) x0 x1 x2 x5 = db x0 x1 x2 x5 := by
  funext j
  rw [val_main_v20_apply, val_main_v14_apply]
  refine (mul_comm _ _).trans (congrArg₂ (· * ·) ((congrArg _ (eq_ix2 j)).trans (dm_val x0 x1 _ _)) ?_)
  exact (congrArg (val_main_v9 (F := Ideal) x2 x5) (eq_ix2 (idx_main_v14 j))).trans (gt_val x2 x5 _ _)

theorem dp_val (s : Fin 4096) (l : Fin 2048) : val_main_v25 (F := Ideal) x0 x1 x2 x3 x4 x5 (ix2 s l) = dp x0 x1 x2 x3 x4 x5 s l := by
  pointwise [val_main_v25, val_main_v24, val_main_v23, val_main_v21, val_main_v12, val_main_v11, val_main_v10, val_main_cst_1]
  refine (mul_assoc _ _ _).symm.trans (congrArg₂ (· * ·) (congrArg₂ (· * ·) ?_ (gt_val x2 x5 s l)) (congrArg (1 - ·) (gt_val x2 x5 s l)))
  by_cases hl : l.val < 1024
  · have e : (⟨l.val, hl⟩ : Fin 1024) = lane l := Fin.ext (Nat.mod_eq_of_lt hl).symm
    rw [dif_pos hl, if_pos hl, e, dm_val]
  · have e : (⟨l.val - 1024, by omega⟩ : Fin 1024) = lane l := Fin.ext (by show l.val - 1024 = l.val % 1024; omega)
    rw [dif_neg hl, if_neg hl, e, dm_val]

theorem dpg_val : val_main_v25 (F := Ideal) x0 x1 x2 x3 x4 x5 = dpg x0 x1 x2 x3 x4 x5 := by
  funext j
  exact (congrArg _ (eq_ix2 j)).trans (dp_val x0 x1 x2 x3 x4 x5 _ _)

theorem dh_val : val_main_v32 (F := Ideal) x0 x1 x2 x3 x4 x5 = dh x0 x1 x2 x3 x4 x5 := by
  funext j
  refine (congrArg _ (Ker.eq_first j)).trans ?_
  pointwise [val_main_v32, val_main_v28, val_main_cst_3, val_main_v27, val_main_v26, val_main_cst_2]
  exact (Fin.sum_univ_one _).trans (Finset.sum_congr rfl fun s _ => dp_val x0 x1 x2 x3 x4 x5 s _)

end Cert.Merge.Ref

namespace Cert.Merge

open Idealize.ShloMosaic Idealize.ShloMosaic.TcCoe Idealize.SL.Sem

/-- The reference keeps its arguments, and has no semaphore. -/
theorem frame_reference : Cert.quiescent_MergeReferenceIdeal := fun m g _ =>
  (θ_run Cert.MergeReferenceIdeal.defs _ _).mono
    (fun r h => ⟨fun c => (h c).2.2.2.2, sem_eq_zero_of_no_sems (by decide) r.2⟩)
    (Cert.MergeReferenceIdeal.Value.run (F := Ideal) m g)

section

open Cert.MergeKernelIdeal Cert.MergeKernelIdeal.Gen Idealize.ShloMosaic.StableHlo Cert.MergeReferenceIdeal.Read

variable (m : (ℓ : Loc nD τ sig) → Buf (Elt Ideal) ℓ) (c : Dev nD)

/-- What the host hands the launch: the arguments, whose narrowing changes no number. -/
theorem host : V m c main_v0 = truncf (F := Ideal) .bf16 (m ((c : Thread nD τ).loc main_arg0)) bitsLt_bf16_f32 ∧ V m c main_v1 = truncf (F := Ideal) .bf16 (m ((c : Thread nD τ).loc main_arg1)) bitsLt_bf16_f32 := by
  unfold V hostOps0
  refine ⟨?_, ?_⟩ <;> after_results_simp

/-- Kernel and reference agree. -/
theorem algebraic : Cert.algebraic_MergeKernelIdeal_MergeReferenceIdeal := fun m g m' g' _ e =>
  ⟨fun c => da (m ((c.tc : Thread _ _).loc main_arg0)) (m ((c.tc : Thread _ _).loc main_arg1)) (m ((c.tc : Thread _ _).loc main_arg2)) (m ((c.tc : Thread _ _).loc main_arg5)),
    fun c => db (m ((c.tc : Thread _ _).loc main_arg0)) (m ((c.tc : Thread _ _).loc main_arg1)) (m ((c.tc : Thread _ _).loc main_arg2)) (m ((c.tc : Thread _ _).loc main_arg5)),
    fun c => dpg (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)),
    fun c => dh (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)),
    (θ_run defs _ _).mono (fun r hr c => by
      obtain ⟨e0, e1, e2, e3, k⟩ := hr c
      obtain ⟨h0, h1⟩ := host m c
      have f0 := Ker.final_da m c
      have f1 := Ker.final_db m c
      have f2 := Ker.final_dpg m c
      have f3 := Ker.final_dh m c
      rw [h0, h1, V_main_arg2, V_main_arg5] at f0 f1
      rw [h0, h1, V_main_arg2, V_main_arg3, V_main_arg4, V_main_arg5] at f2 f3
      exact ⟨e0.trans f0, e1.trans f1, e2.trans f2, e3.trans f3, k⟩) (Cert.MergeKernelIdeal.Value.run_blocks m g),
    (θ_run Cert.MergeReferenceIdeal.defs _ _).mono (fun r hr c => by
      obtain ⟨h0, h1, h2, h3, h4, h5⟩ := e c
      obtain ⟨e0, e1, e2, e3, k⟩ := hr c
      have k0 := (e0.trans (val_main_v29_eq _ _ _ _)).trans (Ref.da_val _ _ _ _)
      have k1 := (e1.trans (val_main_v30_eq _ _ _ _)).trans (Ref.db_val _ _ _ _)
      have k2 := (e2.trans (val_main_v31_eq _ _ _ _ _ _)).trans (Ref.dpg_val _ _ _ _ _ _)
      have k3 := (e3.trans (val_main_v32_eq _ _ _ _ _ _)).trans (Ref.dh_val _ _ _ _ _ _)
      rw [h0, h1, h2, h5] at k0
      rw [h0, h1, h2, h5] at k1
      rw [h0, h1, h2, h3, h4, h5] at k2
      rw [h0, h1, h2, h3, h4, h5] at k3
      exact ⟨k0, k1, k2, k3, k⟩) (Cert.MergeReferenceIdeal.Value.run (F := Ideal) m' g')⟩

end

end Cert.Merge
-- ==== Proof.PrkvVal.lean ====
/- The receptance, key and value projection: what one grid point's body stores, and what the launch's array ends holding. -/
module

public import proofs.«01_k».proof.Proof.Gen.PrkvKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Prkv

open Idealize.ShloMosaic Cert.PrkvKernelIdeal Cert.PrkvKernelIdeal.Facts₀

/-- The projection: a token's row times a lane's weights. -/
def lin (h : S4096x1024.Idx → EReal) (w : S1024x3072.Idx → EReal) (j : S4096x3072.Idx) : EReal :=
  ∑ k : Fin 1024, h (ix2 (j 0) k) * w (ix2 k (j 1))

/-- The host's turn of the weights. -/
def turn (w : Vec Ideal S1024x3072 .f32) : Vec Ideal S3072x1024 .bf16 :=
  truncf (F := Ideal) .bf16 (transpose S3072x1024 [1, 0] w transposes_S1024x3072_S3072x1024_1_0) bitsLt_bf16_f32

theorem turn_val (w : Vec Ideal S1024x3072 .f32) (l : Fin 3072) (k : Fin 1024) : turn w (ix2 l k) = w (ix2 k l) := by
  pointwise [turn]

end Cert.Prkv

namespace Cert.Prkv.Ker

open Idealize.ShloMosaic Cert.PrkvKernelIdeal Cert.PrkvKernelIdeal.Gen Idealize.ShloMosaic.TcCoe Idealize.SL.Sem

theorem pay1_val (d : Vec Ideal S2048x1024 .bf16) (w : Vec Ideal S1536x1024 .bf16) (r : Fin 2048) (f : Fin 1536) :
    k0_pay1 d w (ix2 r f) = ∑ k : Fin 1024, d (ix2 r k) * w (ix2 f k) := by
  pointwise [k0_pay1]

/-- A point stores its rows' products. -/
theorem out_val (d : Vec Ideal S2048x1024 .bf16) (w : Vec Ideal S1536x1024 .bf16) : out0_2 d w = k0_pay1 d w := by
  unfold out0_2 r0_2
  simp (disch := decide) only [View.canon_cons_unit_lit']
  rw [View.ld_unit_zero (by decide), View.ld_unit_zero (by decide)]

theorem lt_N (t : Fin cfg0.N) : t.val < 4 := lt_of_lt_of_eq t.isLt N_0

/-- The array's row and lane of a point's row and lane. -/
def row (t : Fin cfg0.N) (r : Fin 2048) : Fin 4096 := ⟨t.val / 2 * 2048 + r.val, by have := lt_N t; omega⟩
def lane (t : Fin cfg0.N) (f : Fin 1536) : Fin 3072 := ⟨t.val % 2 * 1536 + f.val, by omega⟩

theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- The windows read. -/
theorem rd_h (A : S4096x1024.Idx → EReal) (t : Fin cfg0.N) (r : Fin 2048) (k : Fin 1024) :
    ((cfg0.win 0).blk t).view.read (Elt Ideal) A (ix2 r k) = A (ix2 (row t r) k) := by
  refine congrArg A (funext fun a => ?_)
  match a with
  | ⟨0, _⟩ => exact Fin.ext (by blk_simp [idx t]; rfl)
  | ⟨1, _⟩ => exact Fin.ext (by blk_simp [idx t])

theorem rd_w (A : S3072x1024.Idx → EReal) (t : Fin cfg0.N) (f : Fin 1536) (k : Fin 1024) :
    ((cfg0.win 1).blk t).view.read (Elt Ideal) A (ix2 f k) = A (ix2 (lane t f) k) := by
  refine congrArg A (funext fun a => ?_)
  match a with
  | ⟨0, _⟩ => exact Fin.ext (by blk_simp [idx t]; rfl)
  | ⟨1, _⟩ => exact Fin.ext (by blk_simp [idx t])

/-- A block whose windows hold an array's row and lane makes their product. -/
theorem blk_lin {d : Vec Ideal S2048x1024 .bf16} {w : Vec Ideal S1536x1024 .bf16} {h : S4096x1024.Idx → EReal} {v : Vec Ideal S1024x3072 .f32}
    {r : Fin 2048} {f : Fin 1536} {s : Fin 4096} {l : Fin 3072} (h0 : ∀ k : Fin 1024, d (ix2 r k) = h (ix2 s k))
    (h1 : ∀ k : Fin 1024, w (ix2 f k) = turn v (ix2 l k)) : ∑ k : Fin 1024, d (ix2 r k) * w (ix2 f k) = lin h v (ix2 s l) :=
  Finset.sum_congr rfl fun k _ => congrArg₂ (· * ·) (h0 k) ((h1 k).trans (turn_val v l k))

variable (m : (ℓ : Loc nD τ sig) → Buf (Elt Ideal) ℓ) (c : Dev nD) (h : S4096x1024.Idx → EReal) (v : Vec Ideal S1024x3072 .f32)

/-- The kernel's array ends holding the projection. -/
theorem final (h0 : V m c main_v0 = h) (h1 : V m c main_v2 = turn v) : (dats m 0 c).arrAt 2 cfg0.N = lin h v := by
  refine (dats m 0 c).arrAt_eq_of_covers 2 _ (by decide +kernel) fun t hf y => ?_
  have he : ((cfg0.win 2).blk t).view.emb y = ix2 (row t (y 0)) (lane t (y 1)) := by
    funext a
    match a with
    | ⟨0, _⟩ => exact Fin.ext (by blk_simp [idx t]; rfl)
    | ⟨1, _⟩ => exact Fin.ext (by blk_simp [idx t]; rfl)
  blk_simp
  rw [after0_2, out_val]
  refine Eq.trans ?_ (congrArg (lin h v) he).symm
  refine (congrArg _ (eq_ix2 y)).trans ((pay1_val _ _ (y 0) (y 1)).trans ?_)
  exact blk_lin (fun k => (rd_h _ t (y 0) k).trans (congrFun h0 _)) fun k => (rd_w _ t (y 1) k).trans (congrFun h1 _)

end Cert.Prkv.Ker
-- ==== Proof.PrkvClaims.lean ====
/- The claims on the receptance, key and value projection, each from its program's run, and the reference's values. -/
module

public import proofs.«01_k».proof.Defs
public import proofs.«01_k».proof.Proof.PrkvVal
public import proofs.«01_k».proof.Proof.Gen.PrkvReferenceIdeal.Read
public import proofs.«01_k».proof.Proof.Gen.PrkvKernel.Frame
public import proofs.«01_k».proof.Proof.Gen.PrkvReferenceIdeal.Run
public import Idealize.ShloMosaic.Lib.Claim
public import Idealize.ShloMosaic.Lib.StableHlo.Run

@[expose] public section

set_option maxRecDepth 16384

noncomputable section

namespace Cert.Prkv.Ref

open Idealize.ShloMosaic Cert.PrkvReferenceIdeal Cert.PrkvReferenceIdeal.Read

theorem sum_val (x0 : Vec Ideal S4096x1024 .f32) (x1 : Vec Ideal S1024x3072 .f32) (s : Fin 4096) (l : Fin 3072) :
    val_main_v0 (F := Ideal) x0 x1 (ix2 s l) = ∑ k : Fin 1024, x0 (ix2 s k) * x1 (ix2 k l) := by
  pointwise [val_main_v0]

theorem lin_val (x0 : Vec Ideal S4096x1024 .f32) (x1 : Vec Ideal S1024x3072 .f32) : val_main_v0 (F := Ideal) x0 x1 = lin x0 x1 := by
  funext j
  exact (congrArg _ (eq_ix2 j)).trans (sum_val x0 x1 (j 0) (j 1))

end Cert.Prkv.Ref

namespace Cert.Prkv

open Idealize.ShloMosaic Idealize.ShloMosaic.TcCoe Idealize.SL.Sem

/-- The reference keeps its arguments, and has no semaphore. -/
theorem frame_reference : Cert.quiescent_PrkvReferenceIdeal := fun m g _ =>
  (θ_run Cert.PrkvReferenceIdeal.defs _ _).mono
    (fun r h => ⟨fun c => (h c).2, sem_eq_zero_of_no_sems (by decide) r.2⟩)
    (Cert.PrkvReferenceIdeal.Value.run (F := Ideal) m g)

section

open Cert.PrkvKernelIdeal Cert.PrkvKernelIdeal.Gen Idealize.ShloMosaic.StableHlo Cert.PrkvReferenceIdeal.Read

variable (m : (ℓ : Loc nD τ sig) → Buf (Elt Ideal) ℓ) (c : Dev nD)

/-- What the host hands the launch: the input, whose narrowing changes no number, and the weights turned. -/
theorem host : V m c main_v0 = truncf (F := Ideal) .bf16 (m ((c : Thread nD τ).loc main_arg0)) bitsLt_bf16_f32 ∧ V m c main_v2 = turn (m ((c : Thread nD τ).loc main_arg1)) := by
  unfold V hostOps0
  refine ⟨?_, ?_⟩ <;> after_results_simp
  rfl

/-- Kernel and reference agree. -/
theorem algebraic : Cert.algebraic_PrkvKernelIdeal_PrkvReferenceIdeal := fun m g m' g' _ e =>
  ⟨fun c => lin (m ((c.tc : Thread _ _).loc main_arg0)) (m ((c.tc : Thread _ _).loc main_arg1)),
    (θ_run defs _ _).mono (fun r hr c => by
      obtain ⟨e0, k⟩ := hr c
      obtain ⟨h0, h1⟩ := host m c
      exact ⟨e0.trans (Ker.final m c _ _ h0 h1), k⟩) (Cert.PrkvKernelIdeal.Value.run_blocks m g),
    (θ_run Cert.PrkvReferenceIdeal.defs _ _).mono (fun r hr c => by
      obtain ⟨h0, h1⟩ := e c
      obtain ⟨e0, k⟩ := hr c
      have k0 := (e0.trans (val_main_v0_eq _ _)).trans (Ref.lin_val _ _)
      rw [h0, h1] at k0
      exact ⟨k0, k⟩) (Cert.PrkvReferenceIdeal.Value.run (F := Ideal) m' g')⟩

end

end Cert.Prkv
-- ==== Proof.DhrkvVal.lean ====
/- The receptance, key and value projection's input's cotangent: a product summed run by run of lanes into the kernel's accumulator. -/
module

public import proofs.«01_k».proof.Proof.Sums
public import proofs.«01_k».proof.Proof.Gen.DhrkvKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Dhrkv.Ker

open Idealize.ShloMosaic Cert.DhrkvKernelIdeal Cert.DhrkvKernelIdeal.Gen Idealize.ShloMosaic.TcCoe Idealize.SL.Sem

section

variable (c : Dev nD) (i : grid0.Coords) (arg3 : Memref sig .tc .vmem S2048x1024 .bf16) (harg3 : arg3.IsWhole)
  (arg4 : Memref sig .tc .vmem S1024x1024 .bf16) (harg4 : arg4.IsWhole) (arg5 : Memref sig .tc .vmem S2048x1024 .f32) (harg5 : arg5.IsWhole)
  (arg6 : Memref sig .tc .vmem S2048x1024 .f32) (harg6 : arg6.IsWhole) (x0 : Vec Ideal S2048x1024 .bf16) (x1 : Vec Ideal S1024x1024 .bf16)
  (xs : Vec Ideal S2048x1024 .f32)

/-- The accumulator after a first point, -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (fun _ => scover0_A_0 ..)]
  unfold kernelRun0_A
  dsimp only
  sl_unfold_words
  simp (disch := decide) only [View.canon_cons_unit_lit', View.readCov_cons_unit_lit']
  simp only [View.readAt_eq_ld, harg3.read_unread, harg4.read_unread]
  repeat rw [View.ld_unit_zero (by decide)]

/-- after a middle one -/
theorem sout_B (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0
  rw [View.read_writes_eq_canon _ _ _ (fun _ => scover0_B_0 ..)]
  unfold kernelRun0_B
  dsimp only
  sl_unfold_words
  simp (disch := decide) only [View.canon_cons_unit_lit', View.readCov_cons_unit_lit']
  simp only [View.readAt_eq_ld, harg3.read_unread, harg4.read_unread, harg6.read_unread]
  repeat rw [View.ld_unit_zero (by decide)]

/-- and after a last one, which also leaves its block. -/
theorem end_C (hc0 : ¬cond0_0 i) (hc1 : cond0_1 i) (hc2 : cond0_2 i) :
    sout0_C_0 c i arg3 harg3 arg4 harg4 arg5 harg5 arg6 harg6 hc0 hc1 hc2 x0 x1 xs = k0_pay3 x0 x1 xs
    ∧ out0_C_2 c i arg3 harg3 arg4 harg4 arg5 harg5 arg6 harg6 hc0 hc1 hc2 x0 x1 xs = k0_pay3 x0 x1 xs := by
  unfold sout0_C_0 out0_C_2
  rw [View.read_writes_eq_canon _ _ _ (fun _ => scover0_C_0 ..), View.read_writes_eq_canon _ _ _ (fun _ => cover0_C_2 ..)]
  unfold kernelRun0_C
  dsimp only
  sl_unfold_words
  simp (disch := decide) only [View.canon_cons_unit_lit', View.readCov_cons_unit_lit']
  simp only [View.readAt_eq_ld, harg3.read_unread, harg4.read_unread, harg6.read_unread]
  repeat rw [View.ld_unit_zero (by decide)]
  exact ⟨rfl, rfl⟩

end

theorem pay2_val (x0 : Vec Ideal S2048x1024 .bf16) (x1 : Vec Ideal S1024x1024 .bf16) (r : Fin 2048) (n : Fin 1024) :
    k0_pay2 x0 x1 (ix2 r n) = ∑ s : Fin 1024, x0 (ix2 r s) * x1 (ix2 s n) := by
  pointwise [k0_pay2, k0_pay1]

theorem pay3_val (x0 : Vec Ideal S2048x1024 .bf16) (x1 : Vec Ideal S1024x1024 .bf16) (a : Vec Ideal S2048x1024 .f32) (r : Fin 2048) (n : Fin 1024) :
    k0_pay3 x0 x1 a (ix2 r n) = a (ix2 r n) + ∑ s : Fin 1024, x0 (ix2 r s) * x1 (ix2 s n) := by
  pointwise [k0_pay3, k0_pay1]

end Cert.Dhrkv.Ker

namespace Cert.Dhrkv

open Idealize.ShloMosaic Cert.DhrkvKernelIdeal Cert.DhrkvKernelIdeal.Facts₀

/-- The input's cotangent: a token's cotangents times a column of the weights. -/
def back (d : S4096x3072.Idx → EReal) (w : S1024x3072.Idx → EReal) (j : S4096x1024.Idx) : EReal :=
  ∑ k : Fin (3 * 1024), d (ix2 (j 0) k) * w (ix2 (j 1) k)

/-- The host's turn of the weights. -/
def turn (w : Vec Ideal S1024x3072 .f32) : Vec Ideal S3072x1024 .bf16 :=
  truncf (F := Ideal) .bf16 (transpose S3072x1024 [1, 0] w transposes_S1024x3072_S3072x1024_1_0) bitsLt_bf16_f32

theorem turn_val (w : Vec Ideal S1024x3072 .f32) (l : Fin 3072) (k : Fin 1024) : turn w (ix2 l k) = w (ix2 k l) := by
  pointwise [turn]

end Cert.Dhrkv

namespace Cert.Dhrkv.Ker

open Idealize.ShloMosaic Cert.DhrkvKernelIdeal Cert.DhrkvKernelIdeal.Gen Idealize.ShloMosaic.TcCoe Idealize.SL.Sem

theorem lt_N (t : Fin cfg0.N) : t.val < 6 := lt_of_lt_of_eq t.isLt N_0

/-- The array's token and lane of a point's token and lane. -/
abbrev tok (i : ℕ) (r : Fin 2048) : Fin 4096 := Sums.at_ 2 2048 i r (by decide)
abbrev lane (k : ℕ) (s : Fin 1024) : Fin 3072 := Sums.at_ 3 1024 k s (by decide)

theorem tok_val (t : Fin cfg0.N) (r : Fin 2048) : (tok (t.val / 3) r).val = t.val / 3 * 2048 + r.val := by
  have := lt_N t
  exact congrArg (· * 2048 + r.val) (Nat.mod_eq_of_lt (by omega))

theorem lane_val (t : Fin cfg0.N) (s : Fin 1024) : (lane (t.val % 3) s).val = t.val % 3 * 1024 + s.val :=
  congrArg (· * 1024 + s.val) (Nat.mod_mod _ _)

theorem idx : ∀ t : Fin cfg0.N, win0_0.index t = ![t.val / 3, t.val % 3] ∧ win0_1.index t = ![t.val % 3, 0]
    ∧ win0_2.index t = ![t.val / 3, 0] :=
  (by decide +kernel : ∀ t : Fin grid0.N, _)

/-- The windows read. -/
theorem rd_d (A : S4096x3072.Idx → EReal) (t : Fin cfg0.N) (r : Fin 2048) (s : Fin 1024) :
    ((cfg0.win 0).blk t).view.read (Elt Ideal) A (ix2 r s) = A (ix2 (tok (t.val / 3) r) (lane (t.val % 3) s)) := by
  refine congrArg A (funext fun a => ?_)
  match a with
  | ⟨0, _⟩ => exact Fin.ext (by blk_simp [idx t]; exact (tok_val t r).symm)
  | ⟨1, _⟩ => exact Fin.ext (by blk_simp [idx t]; exact (lane_val t s).symm)

theorem rd_w (A : S3072x1024.Idx → EReal) (t : Fin cfg0.N) (s : Fin 1024) (q : Fin 1024) :
    ((cfg0.win 1).blk t).view.read (Elt Ideal) A (ix2 s q) = A (ix2 (lane (t.val % 3) s) q) := by
  refine congrArg A (funext fun a => ?_)
  match a with
  | ⟨0, _⟩ => exact Fin.ext (by blk_simp [idx t]; exact (lane_val t s).symm)
  | ⟨1, _⟩ => exact Fin.ext (by blk_simp [idx t])

/-- One run's products, summed, -/
def run (d : S4096x3072.Idx → EReal) (w : S1024x3072.Idx → EReal) (l : Fin 4096) (q : Fin 1024) (k : ℕ) : EReal :=
  ∑ s : Fin 1024, d (ix2 l (lane k s)) * w (ix2 q (lane k s))

/-- as a block whose windows hold the run's lanes gives them. -/
theorem blk_run {x : Vec Ideal S2048x1024 .bf16} {y : Vec Ideal S1024x1024 .bf16} {d : S4096x3072.Idx → EReal} {w : Vec Ideal S1024x3072 .f32}
    {r : Fin 2048} {l : Fin 4096} {q : Fin 1024} {k : ℕ} (h0 : ∀ s, x (ix2 r s) = d (ix2 l (lane k s)))
    (h1 : ∀ s, y (ix2 s q) = turn w (ix2 (lane k s) q)) : ∑ s : Fin 1024, x (ix2 r s) * y (ix2 s q) = run d w l q k := by
  unfold run
  simp only [h0, h1, turn_val]

/-- All the runs make the cotangent. -/
theorem runs_back (d : S4096x3072.Idx → EReal) (w : S1024x3072.Idx → EReal) (l : Fin 4096) (q : Fin 1024) :
    ∑ k ∈ Finset.range (2 + 1), run d w l q k = back d w (ix2 l q) :=
  Sums.sum_runs 3 1024 (by decide) fun k => d (ix2 l k) * w (ix2 q k)

variable (m : (ℓ : Loc nD τ sig) → Buf (Elt Ideal) ℓ) (c : Dev nD) (d : S4096x3072.Idx → EReal) (w : Vec Ideal S1024x3072 .f32)
  (h0 : V m c main_v0 = d) (h1 : V m c main_v2 = turn w)
include h0 h1

theorem first (t : Fin cfg0.N) (r : Fin 2048) (q : Fin 1024) :
    k0_pay2 (iblk m c 0 t) (iblk m c 1 t) (ix2 r q) = run d w (tok (t.val / 3) r) q (t.val % 3) :=
  (pay2_val _ _ r q).trans (blk_run (fun s => (rd_d _ t r s).trans (congrFun h0 _)) fun s => (rd_w _ t s q).trans (congrFun h1 _))

theorem next (t : Fin cfg0.N) (x : Vec Ideal S2048x1024 .f32) (r : Fin 2048) (q : Fin 1024) :
    k0_pay3 (iblk m c 0 t) (iblk m c 1 t) x (ix2 r q) = x (ix2 r q) + run d w (tok (t.val / 3) r) q (t.val % 3) :=
  (pay3_val _ _ x r q).trans (congrArg (x (ix2 r q) + ·)
    (blk_run (fun s => (rd_d _ t r s).trans (congrFun h0 _)) fun s => (rd_w _ t s q).trans (congrFun h1 _)))

/-- The accumulator after a point is the sum of the runs so far. -/
theorem acc (n : ℕ) (hn : n < cfg0.N) (r : Fin 2048) (q : Fin 1024) : (outsAt0 m c n hn).2 (ix2 r q)
    = ∑ k ∈ Finset.range (n % 3 + 1), run d w (tok (n / 3) r) q k := by
  refine Sums.acc_runs 3 cfg0.N (by decide) (fun n hn => (outsAt0 m c n hn).2 (ix2 r q))
    (fun i k => run d w (tok i r) q k) (fun n hn h => ?_) (fun n hn h => ?_) n hn
  · rw [outsAt0_A m c ⟨n, hn⟩ h (by dsimp only; omega) (by dsimp only; omega)]
    dsimp only
    rw [sout_A, first m c d w h0 h1]
  · by_cases h2 : (n + 1) % 3 = 2
    · rw [outsAt0_C m c ⟨n + 1, hn⟩ h (by dsimp only; omega) h2]
      dsimp only
      rw [(end_C ..).1, next m c d w h0 h1]
      rfl
    · rw [outsAt0_B m c ⟨n + 1, hn⟩ h (by dsimp only; omega) h2]
      dsimp only
      rw [sout_B, next m c d w h0 h1]
      rfl

omit h0 h1 in
/-- A last point leaves its accumulator. -/
theorem last (t : Fin cfg0.N) (h : t.val % 3 = 2) : (outsAt0 m c t.val t.isLt).1 = (outsAt0 m c t.val t.isLt).2 := by
  rw [outsAt0_C m c t (by omega) (by omega) h]
  dsimp only
  rw [(end_C ..).1, (end_C ..).2]

theorem last_at (t : Fin cfg0.N) (h : t.val % 3 = 2) (r : Fin 2048) (q : Fin 1024) :
    (outsAt0 m c t.val t.isLt).2 (ix2 r q) = back d w (ix2 (tok (t.val / 3) r) q) := by
  rw [acc m c d w h0 h1, h]
  exact runs_back d w _ q

/-- The kernel's array ends holding the cotangent. -/
theorem final : (dats m 0 c).arrAt 2 cfg0.N = back d w := by
  refine (dats m 0 c).arrAt_eq_of_covers 2 _ (by decide +kernel) fun t hf y => ?_
  have h3 : t.val % 3 = 2 := (flush0_2 t).mp hf
  have he : ((cfg0.win 2).blk t).view.emb y = ix2 (tok (t.val / 3) (y 0)) (y 1) := by
    funext a
    match a with
    | ⟨0, _⟩ => exact Fin.ext (by blk_simp [idx t]; exact (tok_val t _).symm)
    | ⟨1, _⟩ => exact Fin.ext (by blk_simp [idx t]; rfl)
  blk_simp
  rw [after0_2, last m c t h3]
  refine Eq.trans ?_ (congrArg (back d w) he).symm
  exact (congrArg _ (eq_ix2 y)).trans (last_at m c d w h0 h1 t h3 (y 0) (y 1))

end Cert.Dhrkv.Ker
-- ==== Proof.DhrkvClaims.lean ====
/- The claims on the receptance, key and value projection's input's cotangent, each from its program's run, and the reference's values. -/
module

public import proofs.«01_k».proof.Defs
public import proofs.«01_k».proof.Proof.DhrkvVal
public import proofs.«01_k».proof.Proof.Gen.DhrkvReferenceIdeal.Read
public import proofs.«01_k».proof.Proof.Gen.DhrkvKernel.Frame
public import proofs.«01_k».proof.Proof.Gen.DhrkvReferenceIdeal.Run
public import Idealize.ShloMosaic.Lib.Claim
public import Idealize.ShloMosaic.Lib.StableHlo.Run

@[expose] public section

set_option maxRecDepth 16384

noncomputable section

namespace Cert.Dhrkv.Ref

open Idealize.ShloMosaic Cert.DhrkvReferenceIdeal Cert.DhrkvReferenceIdeal.Read

theorem sum_val (x1 : Vec Ideal S1024x3072 .f32) (x2 : Vec Ideal S4096x3072 .f32) (s : Fin 4096) (q : Fin 1024) :
    val_main_v1 (F := Ideal) x1 x2 (ix2 s q) = ∑ k : Fin 3072, x2 (ix2 s k) * x1 (ix2 q k) := by
  pointwise [val_main_v1]

theorem back_val (x1 : Vec Ideal S1024x3072 .f32) (x2 : Vec Ideal S4096x3072 .f32) : val_main_v1 (F := Ideal) x1 x2 = back x2 x1 := by
  funext j
  exact (congrArg _ (eq_ix2 j)).trans (sum_val x1 x2 (j 0) (j 1))

end Cert.Dhrkv.Ref

namespace Cert.Dhrkv

open Idealize.ShloMosaic Idealize.ShloMosaic.TcCoe Idealize.SL.Sem

/-- The reference keeps its arguments, and has no semaphore. -/
theorem frame_reference : Cert.quiescent_DhrkvReferenceIdeal := fun m g _ =>
  (θ_run Cert.DhrkvReferenceIdeal.defs _ _).mono
    (fun r h => ⟨fun c => (h c).2, sem_eq_zero_of_no_sems (by decide) r.2⟩)
    (Cert.DhrkvReferenceIdeal.Value.run (F := Ideal) m g)

section

open Cert.DhrkvKernelIdeal Cert.DhrkvKernelIdeal.Gen Idealize.ShloMosaic.StableHlo Cert.DhrkvReferenceIdeal.Read

variable (m : (ℓ : Loc nD τ sig) → Buf (Elt Ideal) ℓ) (c : Dev nD)

/-- What the host hands the launch: the cotangents, whose narrowing changes no number, and the weights turned. -/
theorem host : V m c main_v0 = truncf (F := Ideal) .bf16 (m ((c : Thread nD τ).loc main_arg2)) bitsLt_bf16_f32 ∧ V m c main_v2 = turn (m ((c : Thread nD τ).loc main_arg1)) := by
  unfold V hostOps0
  refine ⟨?_, ?_⟩ <;> after_results_simp
  rfl

/-- Kernel and reference agree. -/
theorem algebraic : Cert.algebraic_DhrkvKernelIdeal_DhrkvReferenceIdeal := fun m g m' g' _ e =>
  ⟨fun c => back (m ((c.tc : Thread _ _).loc main_arg2)) (m ((c.tc : Thread _ _).loc main_arg1)),
    (θ_run defs _ _).mono (fun r hr c => by
      obtain ⟨e0, k⟩ := hr c
      obtain ⟨h0, h1⟩ := host m c
      exact ⟨e0.trans (Ker.final m c _ _ h0 h1), k⟩) (Cert.DhrkvKernelIdeal.Value.run_blocks m g),
    (θ_run Cert.DhrkvReferenceIdeal.defs _ _).mono (fun r hr c => by
      obtain ⟨h0, h1, h2⟩ := e c
      obtain ⟨e0, k⟩ := hr c
      have k0 := (e0.trans (val_main_v1_eq _ _)).trans (Ref.back_val _ _)
      rw [h2, h1] at k0
      exact ⟨k0, k⟩) (Cert.DhrkvReferenceIdeal.Value.run (F := Ideal) m' g')⟩

end

end Cert.Dhrkv
-- ==== Proof.DwrkvVal.lean ====
/- The receptance, key and value projection's weights' gradient: a product summed run by run of tokens into the kernel's accumulator. -/
module

public import proofs.«01_k».proof.Proof.Sums
public import proofs.«01_k».proof.Proof.Gen.DwrkvKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Dwrkv.Ker

open Idealize.ShloMosaic Cert.DwrkvKernelIdeal Cert.DwrkvKernelIdeal.Gen Idealize.ShloMosaic.TcCoe Idealize.SL.Sem

section

variable (c : Dev nD) (i : grid0.Coords) (arg3 : Memref sig .tc .vmem S1024x1536 .bf16) (harg3 : arg3.IsWhole)
  (arg4 : Memref sig .tc .vmem S1024x1024 .bf16) (harg4 : arg4.IsWhole) (arg5 : Memref sig .tc .vmem S1536x1024 .bf16) (harg5 : arg5.IsWhole)
  (arg6 : Memref sig .tc .vmem S1536x1024 .f32) (harg6 : arg6.IsWhole) (x0 : Vec Ideal S1024x1536 .bf16) (x1 : Vec Ideal S1024x1024 .bf16)
  (xs : Vec Ideal S1536x1024 .f32)

/-- The accumulator after a first point, -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (fun _ => scover0_A_0 ..)]
  unfold kernelRun0_A
  dsimp only
  sl_unfold_words
  simp (disch := decide) only [View.canon_cons_unit_lit', View.readCov_cons_unit_lit']
  simp only [View.readAt_eq_ld, harg3.read_unread, harg4.read_unread]
  repeat rw [View.ld_unit_zero (by decide)]

/-- after a middle one -/
theorem sout_B (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0
  rw [View.read_writes_eq_canon _ _ _ (fun _ => scover0_B_0 ..)]
  unfold kernelRun0_B
  dsimp only
  sl_unfold_words
  simp (disch := decide) only [View.canon_cons_unit_lit', View.readCov_cons_unit_lit']
  simp only [View.readAt_eq_ld, harg3.read_unread, harg4.read_unread, harg6.read_unread]
  repeat rw [View.ld_unit_zero (by decide)]

/-- and after a last one, which also leaves its block. -/
theorem end_C (hc0 : ¬cond0_0 i) (hc1 : cond0_1 i) (hc2 : cond0_2 i) :
    sout0_C_0 c i arg3 harg3 arg4 harg4 arg5 harg5 arg6 harg6 hc0 hc1 hc2 x0 x1 xs = k0_pay3 x0 x1 xs
    ∧ out0_C_2 c i arg3 harg3 arg4 harg4 arg5 harg5 arg6 harg6 hc0 hc1 hc2 x0 x1 xs = k0_pay4 (k0_pay3 x0 x1 xs) := by
  unfold sout0_C_0 out0_C_2
  rw [View.read_writes_eq_canon _ _ _ (fun _ => scover0_C_0 ..), View.read_writes_eq_canon _ _ _ (fun _ => cover0_C_2 ..)]
  unfold kernelRun0_C
  dsimp only
  sl_unfold_words
  simp (disch := decide) only [View.canon_cons_unit_lit', View.readCov_cons_unit_lit']
  simp only [View.readAt_eq_ld, harg3.read_unread, harg4.read_unread, harg6.read_unread]
  repeat rw [View.ld_unit_zero (by decide)]
  exact ⟨rfl, rfl⟩

end

theorem pay2_val (x0 : Vec Ideal S1024x1536 .bf16) (x1 : Vec Ideal S1024x1024 .bf16) (r : Fin 1536) (n : Fin 1024) :
    k0_pay2 x0 x1 (ix2 r n) = ∑ s : Fin 1024, x0 (ix2 s r) * x1 (ix2 s n) := by
  pointwise [k0_pay2, k0_pay1]

theorem pay3_val (x0 : Vec Ideal S1024x1536 .bf16) (x1 : Vec Ideal S1024x1024 .bf16) (a : Vec Ideal S1536x1024 .f32) (r : Fin 1536) (n : Fin 1024) :
    k0_pay3 x0 x1 a (ix2 r n) = a (ix2 r n) + ∑ s : Fin 1024, x0 (ix2 s r) * x1 (ix2 s n) := by
  pointwise [k0_pay3, k0_pay1]

theorem pay4_val (a : Vec Ideal S1536x1024 .f32) (r : Fin 1536) (n : Fin 1024) :
    (k0_pay4 a (ix2 r n) : EReal) = a (ix2 r n) := by
  pointwise [k0_pay4]

end Cert.Dwrkv.Ker

namespace Cert.Dwrkv

open Idealize.ShloMosaic Cert.DwrkvKernelIdeal

/-- The gradient: every token's cotangent times its input, summed. -/
def grad (a : S4096x3072.Idx → EReal) (b : S4096x1024.Idx → EReal) (j : S3072x1024.Idx) : EReal :=
  ∑ k : Fin (4 * 1024), a (ix2 k (j 0)) * b (ix2 k (j 1))

end Cert.Dwrkv

namespace Cert.Dwrkv.Ker

open Idealize.ShloMosaic Cert.DwrkvKernelIdeal Cert.DwrkvKernelIdeal.Gen Idealize.ShloMosaic.TcCoe Idealize.SL.Sem

theorem lt_N (t : Fin cfg0.N) : t.val < 8 := lt_of_lt_of_eq t.isLt N_0

/-- The array's token and lane of a point's token and lane. -/
abbrev tok (k : ℕ) (s : Fin 1024) : Fin 4096 := Sums.at_ 4 1024 k s (by decide)
abbrev lane (i : ℕ) (r : Fin 1536) : Fin 3072 := Sums.at_ 2 1536 i r (by decide)

theorem lane_val (t : Fin cfg0.N) (r : Fin 1536) : (lane (t.val / 4) r).val = t.val / 4 * 1536 + r.val := by
  have := lt_N t
  exact congrArg (· * 1536 + r.val) (Nat.mod_eq_of_lt (by omega))

theorem tok_val (t : Fin cfg0.N) (s : Fin 1024) : (tok (t.val % 4) s).val = t.val % 4 * 1024 + s.val :=
  congrArg (· * 1024 + s.val) (Nat.mod_mod _ _)

theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The windows read. -/
theorem rd_dp (A : S4096x3072.Idx → EReal) (t : Fin cfg0.N) (s : Fin 1024) (r : Fin 1536) :
    ((cfg0.win 0).blk t).view.read (Elt Ideal) A (ix2 s r) = A (ix2 (tok (t.val % 4) s) (lane (t.val / 4) r)) := by
  refine congrArg A (funext fun a => ?_)
  match a with
  | ⟨0, _⟩ => exact Fin.ext (by blk_simp [idx t]; exact (tok_val t s).symm)
  | ⟨1, _⟩ => exact Fin.ext (by blk_simp [idx t]; exact (lane_val t r).symm)

theorem rd_in (A : S4096x1024.Idx → EReal) (t : Fin cfg0.N) (s : Fin 1024) (q : Fin 1024) :
    ((cfg0.win 1).blk t).view.read (Elt Ideal) A (ix2 s q) = A (ix2 (tok (t.val % 4) s) q) := by
  refine congrArg A (funext fun a => ?_)
  match a with
  | ⟨0, _⟩ => exact Fin.ext (by blk_simp [idx t]; exact (tok_val t s).symm)
  | ⟨1, _⟩ => exact Fin.ext (by blk_simp [idx t])

/-- One run's products, summed, -/
def run (a : S4096x3072.Idx → EReal) (b : S4096x1024.Idx → EReal) (l : Fin 3072) (q : Fin 1024) (k : ℕ) : EReal :=
  ∑ s : Fin 1024, a (ix2 (tok k s) l) * b (ix2 (tok k s) q)

/-- as a block whose windows hold the run's rows and lanes gives them. -/
theorem blk_run {d : Vec Ideal S1024x1536 .bf16} {w : Vec Ideal S1024x1024 .bf16} {a : S4096x3072.Idx → EReal} {b : S4096x1024.Idx → EReal}
    {r : Fin 1536} {l : Fin 3072} {q : Fin 1024} {k : ℕ} (h0 : ∀ s, d (ix2 s r) = a (ix2 (tok k s) l))
    (h1 : ∀ s, w (ix2 s q) = b (ix2 (tok k s) q)) : ∑ s : Fin 1024, d (ix2 s r) * w (ix2 s q) = run a b l q k := by
  unfold run
  simp only [h0, h1]

/-- All four runs make the gradient. -/
theorem runs_grad (a : S4096x3072.Idx → EReal) (b : S4096x1024.Idx → EReal) (l : Fin 3072) (q : Fin 1024) :
    ∑ k ∈ Finset.range (3 + 1), run a b l q k = grad a b (ix2 l q) :=
  Sums.sum_runs 4 1024 (by decide) fun k => a (ix2 k l) * b (ix2 k q)

variable (m : (ℓ : Loc nD τ sig) → Buf (Elt Ideal) ℓ) (c : Dev nD)

theorem first (t : Fin cfg0.N) (r : Fin 1536) (q : Fin 1024) :
    k0_pay2 (iblk m c 0 t) (iblk m c 1 t) (ix2 r q) = run (V m c main_v0) (V m c main_v1) (lane (t.val / 4) r) q (t.val % 4) :=
  (pay2_val _ _ r q).trans (blk_run (fun s => rd_dp _ t s r) fun s => rd_in _ t s q)

theorem next (t : Fin cfg0.N) (x : Vec Ideal S1536x1024 .f32) (r : Fin 1536) (q : Fin 1024) :
    k0_pay3 (iblk m c 0 t) (iblk m c 1 t) x (ix2 r q) = x (ix2 r q) + run (V m c main_v0) (V m c main_v1) (lane (t.val / 4) r) q (t.val % 4) :=
  (pay3_val _ _ x r q).trans (congrArg (x (ix2 r q) + ·) (blk_run (fun s => rd_dp _ t s r) fun s => rd_in _ t s q))

/-- The accumulator after a point is the sum of the runs so far. -/
theorem acc (n : ℕ) (hn : n < cfg0.N) (r : Fin 1536) (q : Fin 1024) : (outsAt0 m c n hn).2 (ix2 r q)
    = ∑ k ∈ Finset.range (n % 4 + 1), run (V m c main_v0) (V m c main_v1) (lane (n / 4) r) q k := by
  refine Sums.acc_runs 4 cfg0.N (by decide) (fun n hn => (outsAt0 m c n hn).2 (ix2 r q))
    (fun i k => run (V m c main_v0) (V m c main_v1) (lane i r) q k) (fun n hn h => ?_) (fun n hn h => ?_) n hn
  · rw [outsAt0_A m c ⟨n, hn⟩ h (by dsimp only; omega) (by dsimp only; omega)]
    dsimp only
    rw [sout_A, first]
  · by_cases h2 : (n + 1) % 4 = 3
    · rw [outsAt0_C m c ⟨n + 1, hn⟩ h (by dsimp only; omega) h2]
      dsimp only
      rw [(end_C ..).1, next]
      rfl
    · rw [outsAt0_B m c ⟨n + 1, hn⟩ h (by dsimp only; omega) h2]
      dsimp only
      rw [sout_B, next]
      rfl

/-- A last point leaves its accumulator. -/
theorem last (t : Fin cfg0.N) (h : t.val % 4 = 3) : (outsAt0 m c t.val t.isLt).1 = k0_pay4 (outsAt0 m c t.val t.isLt).2 := by
  rw [outsAt0_C m c t (by omega) (by omega) h]
  dsimp only
  rw [(end_C ..).1, (end_C ..).2]

theorem last_at (t : Fin cfg0.N) (h : t.val % 4 = 3) (r : Fin 1536) (q : Fin 1024) :
    (k0_pay4 (outsAt0 m c t.val t.isLt).2 (ix2 r q) : EReal) = grad (V m c main_v0) (V m c main_v1) (ix2 (lane (t.val / 4) r) q) := by
  rw [pay4_val, acc, h]
  exact runs_grad _ _ _ q

/-- The kernel's array ends holding the gradient. -/
theorem final : (dats m 0 c).arrAt 2 cfg0.N = grad (V m c main_v0) (V m c main_v1) := by
  refine (dats m 0 c).arrAt_eq_of_covers 2 _ (by decide +kernel) fun t hf y => ?_
  have h3 : t.val % 4 = 3 := (flush0_2 t).mp hf
  have he : ((cfg0.win 2).blk t).view.emb y = ix2 (lane (t.val / 4) (y 0)) (y 1) := by
    funext a
    match a with
    | ⟨0, _⟩ => exact Fin.ext (by blk_simp [idx t]; exact (lane_val t _).symm)
    | ⟨1, _⟩ => exact Fin.ext (by blk_simp [idx t]; rfl)
  blk_simp
  rw [after0_2, last m c t h3]
  refine Eq.trans ?_ (congrArg (grad (V m c main_v0) (V m c main_v1)) he).symm
  exact (congrArg _ (eq_ix2 y)).trans (last_at m c t h3 (y 0) (y 1))

end Cert.Dwrkv.Ker
-- ==== Proof.DwrkvClaims.lean ====
/- The claims on the receptance, key and value projection's weights' gradient, each from its program's run, and the reference's values. -/
module

public import proofs.«01_k».proof.Defs
public import proofs.«01_k».proof.Proof.DwrkvVal
public import proofs.«01_k».proof.Proof.Gen.DwrkvReferenceIdeal.Read
public import proofs.«01_k».proof.Proof.Gen.DwrkvKernel.Frame
public import proofs.«01_k».proof.Proof.Gen.DwrkvReferenceIdeal.Run
public import Idealize.ShloMosaic.Lib.Claim
public import Idealize.ShloMosaic.Lib.StableHlo.Run

@[expose] public section

set_option maxRecDepth 16384

noncomputable section

namespace Cert.Dwrkv.Ref

open Idealize.ShloMosaic Cert.DwrkvReferenceIdeal Cert.DwrkvReferenceIdeal.Read

theorem sum_val (x0 : Vec Ideal S4096x1024 .f32) (x2 : Vec Ideal S4096x3072 .f32) (f : Fin 3072) (d : Fin 1024) :
    (val_main_v4 (F := Ideal) x0 x2 (ix2 f d) : EReal) = ∑ k : Fin 4096, x2 (ix2 k f) * x0 (ix2 k d) := by
  pointwise [val_main_v4, val_main_v3, val_main_v2, val_main_v1]

/-- The two turns of the reference undo each other. -/
theorem grad_val (x0 : Vec Ideal S4096x1024 .f32) (x2 : Vec Ideal S4096x3072 .f32) : val_main_v4 (F := Ideal) x0 x2 = grad x2 x0 := by
  funext j
  exact (congrArg _ (eq_ix2 j)).trans (sum_val x0 x2 (j 0) (j 1))

end Cert.Dwrkv.Ref

namespace Cert.Dwrkv

open Idealize.ShloMosaic Idealize.ShloMosaic.TcCoe Idealize.SL.Sem

/-- The reference keeps its arguments, and has no semaphore. -/
theorem frame_reference : Cert.quiescent_DwrkvReferenceIdeal := fun m g _ =>
  (θ_run Cert.DwrkvReferenceIdeal.defs _ _).mono
    (fun r h => ⟨fun c => (h c).2, sem_eq_zero_of_no_sems (by decide) r.2⟩)
    (Cert.DwrkvReferenceIdeal.Value.run (F := Ideal) m g)

section

open Cert.DwrkvKernelIdeal Cert.DwrkvKernelIdeal.Gen Idealize.ShloMosaic.StableHlo Cert.DwrkvReferenceIdeal.Read

variable (m : (ℓ : Loc nD τ sig) → Buf (Elt Ideal) ℓ) (c : Dev nD)

/-- What the host hands the launch: the arguments, whose narrowing changes no number. -/
theorem host : V m c main_v0 = truncf (F := Ideal) .bf16 (m ((c : Thread nD τ).loc main_arg2)) bitsLt_bf16_f32 ∧ V m c main_v1 = truncf (F := Ideal) .bf16 (m ((c : Thread nD τ).loc main_arg0)) bitsLt_bf16_f32 := by
  unfold V hostOps0
  refine ⟨?_, ?_⟩ <;> after_results_simp

/-- Kernel and reference agree. -/
theorem algebraic : Cert.algebraic_DwrkvKernelIdeal_DwrkvReferenceIdeal := fun m g m' g' _ e =>
  ⟨fun c => grad (m ((c.tc : Thread _ _).loc main_arg2)) (m ((c.tc : Thread _ _).loc main_arg0)),
    (θ_run defs _ _).mono (fun r hr c => by
      obtain ⟨e0, k⟩ := hr c
      obtain ⟨h0, h1⟩ := host m c
      refine ⟨e0.trans ((Ker.final m c).trans ?_), k⟩
      rw [h0, h1]
      rfl) (Cert.DwrkvKernelIdeal.Value.run_blocks m g),
    (θ_run Cert.DwrkvReferenceIdeal.defs _ _).mono (fun r hr c => by
      obtain ⟨h0, h1, h2⟩ := e c
      obtain ⟨e0, k⟩ := hr c
      have k0 := (e0.trans (val_main_v4_eq _ _)).trans (Ref.grad_val _ _)
      rw [h2, h0] at k0
      exact ⟨k0, k⟩) (Cert.DwrkvReferenceIdeal.Value.run (F := Ideal) m' g')⟩

end

end Cert.Dwrkv
-- ==== Proof.PgateVal.lean ====
/- The gate projection: what one grid point's body stores, and what the launch's array ends holding. -/
module

public import proofs.«01_k».proof.Proof.Gen.PgateKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Pgate

open Idealize.ShloMosaic Cert.PgateKernelIdeal Cert.PgateKernelIdeal.Facts₀

/-- The projection: a token's row times a lane's weights. -/
def lin (h : S4096x1024.Idx → EReal) (w : S1024x2048.Idx → EReal) (j : S4096x2048.Idx) : EReal :=
  ∑ k : Fin 1024, h (ix2 (j 0) k) * w (ix2 k (j 1))

/-- The host's turn of the weights. -/
def turn (w : Vec Ideal S1024x2048 .f32) : Vec Ideal S2048x1024 .bf16 :=
  truncf (F := Ideal) .bf16 (transpose S2048x1024 [1, 0] w transposes_S1024x2048_S2048x1024_1_0) bitsLt_bf16_f32

theorem turn_val (w : Vec Ideal S1024x2048 .f32) (l : Fin 2048) (k : Fin 1024) : turn w (ix2 l k) = w (ix2 k l) := by
  pointwise [turn]

end Cert.Pgate

namespace Cert.Pgate.Ker

open Idealize.ShloMosaic Cert.PgateKernelIdeal Cert.PgateKernelIdeal.Gen Idealize.ShloMosaic.TcCoe Idealize.SL.Sem

theorem pay1_val (d : Vec Ideal S1024x1024 .bf16) (w : Vec Ideal S2048x1024 .bf16) (r : Fin 1024) (f : Fin 2048) :
    k0_pay1 d w (ix2 r f) = ∑ k : Fin 1024, d (ix2 r k) * w (ix2 f k) := by
  pointwise [k0_pay1]

/-- A point stores its rows' products. -/
theorem out_val (d : Vec Ideal S1024x1024 .bf16) (w : Vec Ideal S2048x1024 .bf16) : out0_2 d w = k0_pay1 d w := by
  unfold out0_2 r0_2
  simp (disch := decide) only [View.canon_cons_unit_lit']
  rw [View.ld_unit_zero (by decide), View.ld_unit_zero (by decide)]

theorem lt_N (t : Fin cfg0.N) : t.val < 4 := lt_of_lt_of_eq t.isLt N_0

/-- The array's row and lane of a point's row and lane. -/
def row (t : Fin cfg0.N) (r : Fin 1024) : Fin 4096 := ⟨t.val / 1 * 1024 + r.val, by have := lt_N t; omega⟩
def lane (t : Fin cfg0.N) (f : Fin 2048) : Fin 2048 := ⟨t.val % 1 * 2048 + f.val, by omega⟩

theorem idx : ∀ t : Fin cfg0.N, win0_0.index t = ![t.val / 1, 0] ∧ win0_1.index t = ![t.val % 1, 0]
    ∧ win0_2.index t = ![t.val / 1, t.val % 1] :=
  (by decide +kernel : ∀ t : Fin grid0.N, _)

/-- The windows read. -/
theorem rd_h (A : S4096x1024.Idx → EReal) (t : Fin cfg0.N) (r : Fin 1024) (k : Fin 1024) :
    ((cfg0.win 0).blk t).view.read (Elt Ideal) A (ix2 r k) = A (ix2 (row t r) k) := by
  refine congrArg A (funext fun a => ?_)
  match a with
  | ⟨0, _⟩ => exact Fin.ext (by blk_simp [idx t]; rfl)
  | ⟨1, _⟩ => exact Fin.ext (by blk_simp [idx t])

theorem rd_w (A : S2048x1024.Idx → EReal) (t : Fin cfg0.N) (f : Fin 2048) (k : Fin 1024) :
    ((cfg0.win 1).blk t).view.read (Elt Ideal) A (ix2 f k) = A (ix2 (lane t f) k) := by
  refine congrArg A (funext fun a => ?_)
  match a with
  | ⟨0, _⟩ => exact Fin.ext (by blk_simp [idx t]; rfl)
  | ⟨1, _⟩ => exact Fin.ext (by blk_simp [idx t])

/-- A block whose windows hold an array's row and lane makes their product. -/
theorem blk_lin {d : Vec Ideal S1024x1024 .bf16} {w : Vec Ideal S2048x1024 .bf16} {h : S4096x1024.Idx → EReal} {v : Vec Ideal S1024x2048 .f32}
    {r : Fin 1024} {f : Fin 2048} {s : Fin 4096} {l : Fin 2048} (h0 : ∀ k : Fin 1024, d (ix2 r k) = h (ix2 s k))
    (h1 : ∀ k : Fin 1024, w (ix2 f k) = turn v (ix2 l k)) : ∑ k : Fin 1024, d (ix2 r k) * w (ix2 f k) = lin h v (ix2 s l) :=
  Finset.sum_congr rfl fun k _ => congrArg₂ (· * ·) (h0 k) ((h1 k).trans (turn_val v l k))

variable (m : (ℓ : Loc nD τ sig) → Buf (Elt Ideal) ℓ) (c : Dev nD) (h : S4096x1024.Idx → EReal) (v : Vec Ideal S1024x2048 .f32)

/-- The kernel's array ends holding the projection. -/
theorem final (h0 : V m c main_v0 = h) (h1 : V m c main_v2 = turn v) : (dats m 0 c).arrAt 2 cfg0.N = lin h v := by
  refine (dats m 0 c).arrAt_eq_of_covers 2 _ (by decide +kernel) fun t hf y => ?_
  have he : ((cfg0.win 2).blk t).view.emb y = ix2 (row t (y 0)) (lane t (y 1)) := by
    funext a
    match a with
    | ⟨0, _⟩ => exact Fin.ext (by blk_simp [idx t]; rfl)
    | ⟨1, _⟩ => exact Fin.ext (by blk_simp [idx t]; rfl)
  blk_simp
  rw [after0_2, out_val]
  refine Eq.trans ?_ (congrArg (lin h v) he).symm
  refine (congrArg _ (eq_ix2 y)).trans ((pay1_val _ _ (y 0) (y 1)).trans ?_)
  exact blk_lin (fun k => (rd_h _ t (y 0) k).trans (congrFun h0 _)) fun k => (rd_w _ t (y 1) k).trans (congrFun h1 _)

end Cert.Pgate.Ker
-- ==== Proof.PgateClaims.lean ====
/- The claims on the gate projection, each from its program's run, and the reference's values. -/
module

public import proofs.«01_k».proof.Defs
public import proofs.«01_k».proof.Proof.PgateVal
public import proofs.«01_k».proof.Proof.Gen.PgateReferenceIdeal.Read
public import proofs.«01_k».proof.Proof.Gen.PgateKernel.Frame
public import proofs.«01_k».proof.Proof.Gen.PgateReferenceIdeal.Run
public import Idealize.ShloMosaic.Lib.Claim
public import Idealize.ShloMosaic.Lib.StableHlo.Run

@[expose] public section

set_option maxRecDepth 16384

noncomputable section

namespace Cert.Pgate.Ref

open Idealize.ShloMosaic Cert.PgateReferenceIdeal Cert.PgateReferenceIdeal.Read

theorem sum_val (x0 : Vec Ideal S4096x1024 .f32) (x1 : Vec Ideal S1024x2048 .f32) (s : Fin 4096) (l : Fin 2048) :
    val_main_v0 (F := Ideal) x0 x1 (ix2 s l) = ∑ k : Fin 1024, x0 (ix2 s k) * x1 (ix2 k l) := by
  pointwise [val_main_v0]

theorem lin_val (x0 : Vec Ideal S4096x1024 .f32) (x1 : Vec Ideal S1024x2048 .f32) : val_main_v0 (F := Ideal) x0 x1 = lin x0 x1 := by
  funext j
  exact (congrArg _ (eq_ix2 j)).trans (sum_val x0 x1 (j 0) (j 1))

end Cert.Pgate.Ref

namespace Cert.Pgate

open Idealize.ShloMosaic Idealize.ShloMosaic.TcCoe Idealize.SL.Sem

/-- The reference keeps its arguments, and has no semaphore. -/
theorem frame_reference : Cert.quiescent_PgateReferenceIdeal := fun m g _ =>
  (θ_run Cert.PgateReferenceIdeal.defs _ _).mono
    (fun r h => ⟨fun c => (h c).2, sem_eq_zero_of_no_sems (by decide) r.2⟩)
    (Cert.PgateReferenceIdeal.Value.run (F := Ideal) m g)

section

open Cert.PgateKernelIdeal Cert.PgateKernelIdeal.Gen Idealize.ShloMosaic.StableHlo Cert.PgateReferenceIdeal.Read

variable (m : (ℓ : Loc nD τ sig) → Buf (Elt Ideal) ℓ) (c : Dev nD)

/-- What the host hands the launch: the input, whose narrowing changes no number, and the weights turned. -/
theorem host : V m c main_v0 = truncf (F := Ideal) .bf16 (m ((c : Thread nD τ).loc main_arg0)) bitsLt_bf16_f32 ∧ V m c main_v2 = turn (m ((c : Thread nD τ).loc main_arg1)) := by
  unfold V hostOps0
  refine ⟨?_, ?_⟩ <;> after_results_simp
  rfl

/-- Kernel and reference agree. -/
theorem algebraic : Cert.algebraic_PgateKernelIdeal_PgateReferenceIdeal := fun m g m' g' _ e =>
  ⟨fun c => lin (m ((c.tc : Thread _ _).loc main_arg0)) (m ((c.tc : Thread _ _).loc main_arg1)),
    (θ_run defs _ _).mono (fun r hr c => by
      obtain ⟨e0, k⟩ := hr c
      obtain ⟨h0, h1⟩ := host m c
      exact ⟨e0.trans (Ker.final m c _ _ h0 h1), k⟩) (Cert.PgateKernelIdeal.Value.run_blocks m g),
    (θ_run Cert.PgateReferenceIdeal.defs _ _).mono (fun r hr c => by
      obtain ⟨h0, h1⟩ := e c
      obtain ⟨e0, k⟩ := hr c
      have k0 := (e0.trans (val_main_v0_eq _ _)).trans (Ref.lin_val _ _)
      rw [h0, h1] at k0
      exact ⟨k0, k⟩) (Cert.PgateReferenceIdeal.Value.run (F := Ideal) m' g')⟩

end

end Cert.Pgate
-- ==== Proof.DhgateVal.lean ====
/- The gate projection's input's cotangent: a product summed run by run of lanes into the kernel's accumulator. -/
module

public import proofs.«01_k».proof.Proof.Sums
public import proofs.«01_k».proof.Proof.Gen.DhgateKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Dhgate.Ker

open Idealize.ShloMosaic Cert.DhgateKernelIdeal Cert.DhgateKernelIdeal.Gen Idealize.ShloMosaic.TcCoe Idealize.SL.Sem

section

variable (c : Dev nD) (i : grid0.Coords) (arg3 : Memref sig .tc .vmem S2048x1024 .bf16) (harg3 : arg3.IsWhole)
  (arg4 : Memref sig .tc .vmem S1024x1024 .bf16) (harg4 : arg4.IsWhole) (arg5 : Memref sig .tc .vmem S2048x1024 .f32) (harg5 : arg5.IsWhole)
  (arg6 : Memref sig .tc .vmem S2048x1024 .f32) (harg6 : arg6.IsWhole) (x0 : Vec Ideal S2048x1024 .bf16) (x1 : Vec Ideal S1024x1024 .bf16)
  (xs : Vec Ideal S2048x1024 .f32)

/-- The accumulator after a first point, -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (fun _ => scover0_A_0 ..)]
  unfold kernelRun0_A
  dsimp only
  sl_unfold_words
  simp (disch := decide) only [View.canon_cons_unit_lit', View.readCov_cons_unit_lit']
  simp only [View.readAt_eq_ld, harg3.read_unread, harg4.read_unread]
  repeat rw [View.ld_unit_zero (by decide)]

/-- and after a last one, which also leaves its block. -/
theorem end_B (hc0 : ¬cond0_0 i) (hc1 : cond0_1 i) (hc2 : cond0_2 i) :
    sout0_B_0 c i arg3 harg3 arg4 harg4 arg5 harg5 arg6 harg6 hc0 hc1 hc2 x0 x1 xs = k0_pay3 x0 x1 xs
    ∧ out0_B_2 c i arg3 harg3 arg4 harg4 arg5 harg5 arg6 harg6 hc0 hc1 hc2 x0 x1 xs = k0_pay3 x0 x1 xs := by
  unfold sout0_B_0 out0_B_2
  rw [View.read_writes_eq_canon _ _ _ (fun _ => scover0_B_0 ..), View.read_writes_eq_canon _ _ _ (fun _ => cover0_B_2 ..)]
  unfold kernelRun0_B
  dsimp only
  sl_unfold_words
  simp (disch := decide) only [View.canon_cons_unit_lit', View.readCov_cons_unit_lit']
  simp only [View.readAt_eq_ld, harg3.read_unread, harg4.read_unread, harg6.read_unread]
  repeat rw [View.ld_unit_zero (by decide)]
  exact ⟨rfl, rfl⟩

end

theorem pay2_val (x0 : Vec Ideal S2048x1024 .bf16) (x1 : Vec Ideal S1024x1024 .bf16) (r : Fin 2048) (n : Fin 1024) :
    k0_pay2 x0 x1 (ix2 r n) = ∑ s : Fin 1024, x0 (ix2 r s) * x1 (ix2 s n) := by
  pointwise [k0_pay2, k0_pay1]

theorem pay3_val (x0 : Vec Ideal S2048x1024 .bf16) (x1 : Vec Ideal S1024x1024 .bf16) (a : Vec Ideal S2048x1024 .f32) (r : Fin 2048) (n : Fin 1024) :
    k0_pay3 x0 x1 a (ix2 r n) = a (ix2 r n) + ∑ s : Fin 1024, x0 (ix2 r s) * x1 (ix2 s n) := by
  pointwise [k0_pay3, k0_pay1]

end Cert.Dhgate.Ker

namespace Cert.Dhgate

open Idealize.ShloMosaic Cert.DhgateKernelIdeal Cert.DhgateKernelIdeal.Facts₀

/-- The input's cotangent: a token's cotangents times a column of the weights. -/
def back (d : S4096x2048.Idx → EReal) (w : S1024x2048.Idx → EReal) (j : S4096x1024.Idx) : EReal :=
  ∑ k : Fin (2 * 1024), d (ix2 (j 0) k) * w (ix2 (j 1) k)

/-- The host's turn of the weights. -/
def turn (w : Vec Ideal S1024x2048 .f32) : Vec Ideal S2048x1024 .bf16 :=
  truncf (F := Ideal) .bf16 (transpose S2048x1024 [1, 0] w transposes_S1024x2048_S2048x1024_1_0) bitsLt_bf16_f32

theorem turn_val (w : Vec Ideal S1024x2048 .f32) (l : Fin 2048) (k : Fin 1024) : turn w (ix2 l k) = w (ix2 k l) := by
  pointwise [turn]

end Cert.Dhgate

namespace Cert.Dhgate.Ker

open Idealize.ShloMosaic Cert.DhgateKernelIdeal Cert.DhgateKernelIdeal.Gen Idealize.ShloMosaic.TcCoe Idealize.SL.Sem

theorem lt_N (t : Fin cfg0.N) : t.val < 4 := lt_of_lt_of_eq t.isLt N_0

/-- The array's token and lane of a point's token and lane. -/
abbrev tok (i : ℕ) (r : Fin 2048) : Fin 4096 := Sums.at_ 2 2048 i r (by decide)
abbrev lane (k : ℕ) (s : Fin 1024) : Fin 2048 := Sums.at_ 2 1024 k s (by decide)

theorem tok_val (t : Fin cfg0.N) (r : Fin 2048) : (tok (t.val / 2) r).val = t.val / 2 * 2048 + r.val := by
  have := lt_N t
  exact congrArg (· * 2048 + r.val) (Nat.mod_eq_of_lt (by omega))

theorem lane_val (t : Fin cfg0.N) (s : Fin 1024) : (lane (t.val % 2) s).val = t.val % 2 * 1024 + s.val :=
  congrArg (· * 1024 + s.val) (Nat.mod_mod _ _)

theorem idx : ∀ t : Fin cfg0.N, win0_0.index t = ![t.val / 2, t.val % 2] ∧ win0_1.index t = ![t.val % 2, 0]
    ∧ win0_2.index t = ![t.val / 2, 0] :=
  (by decide +kernel : ∀ t : Fin grid0.N, _)

/-- The windows read. -/
theorem rd_d (A : S4096x2048.Idx → EReal) (t : Fin cfg0.N) (r : Fin 2048) (s : Fin 1024) :
    ((cfg0.win 0).blk t).view.read (Elt Ideal) A (ix2 r s) = A (ix2 (tok (t.val / 2) r) (lane (t.val % 2) s)) := by
  refine congrArg A (funext fun a => ?_)
  match a with
  | ⟨0, _⟩ => exact Fin.ext (by blk_simp [idx t]; exact (tok_val t r).symm)
  | ⟨1, _⟩ => exact Fin.ext (by blk_simp [idx t]; exact (lane_val t s).symm)

theorem rd_w (A : S2048x1024.Idx → EReal) (t : Fin cfg0.N) (s : Fin 1024) (q : Fin 1024) :
    ((cfg0.win 1).blk t).view.read (Elt Ideal) A (ix2 s q) = A (ix2 (lane (t.val % 2) s) q) := by
  refine congrArg A (funext fun a => ?_)
  match a with
  | ⟨0, _⟩ => exact Fin.ext (by blk_simp [idx t]; exact (lane_val t s).symm)
  | ⟨1, _⟩ => exact Fin.ext (by blk_simp [idx t])

/-- One run's products, summed, -/
def run (d : S4096x2048.Idx → EReal) (w : S1024x2048.Idx → EReal) (l : Fin 4096) (q : Fin 1024) (k : ℕ) : EReal :=
  ∑ s : Fin 1024, d (ix2 l (lane k s)) * w (ix2 q (lane k s))

/-- as a block whose windows hold the run's lanes gives them. -/
theorem blk_run {x : Vec Ideal S2048x1024 .bf16} {y : Vec Ideal S1024x1024 .bf16} {d : S4096x2048.Idx → EReal} {w : Vec Ideal S1024x2048 .f32}
    {r : Fin 2048} {l : Fin 4096} {q : Fin 1024} {k : ℕ} (h0 : ∀ s, x (ix2 r s) = d (ix2 l (lane k s)))
    (h1 : ∀ s, y (ix2 s q) = turn w (ix2 (lane k s) q)) : ∑ s : Fin 1024, x (ix2 r s) * y (ix2 s q) = run d w l q k := by
  unfold run
  simp only [h0, h1, turn_val]

/-- All the runs make the cotangent. -/
theorem runs_back (d : S4096x2048.Idx → EReal) (w : S1024x2048.Idx → EReal) (l : Fin 4096) (q : Fin 1024) :
    ∑ k ∈ Finset.range (1 + 1), run d w l q k = back d w (ix2 l q) :=
  Sums.sum_runs 2 1024 (by decide) fun k => d (ix2 l k) * w (ix2 q k)

variable (m : (ℓ : Loc nD τ sig) → Buf (Elt Ideal) ℓ) (c : Dev nD) (d : S4096x2048.Idx → EReal) (w : Vec Ideal S1024x2048 .f32)
  (h0 : V m c main_v0 = d) (h1 : V m c main_v2 = turn w)
include h0 h1

theorem first (t : Fin cfg0.N) (r : Fin 2048) (q : Fin 1024) :
    k0_pay2 (iblk m c 0 t) (iblk m c 1 t) (ix2 r q) = run d w (tok (t.val / 2) r) q (t.val % 2) :=
  (pay2_val _ _ r q).trans (blk_run (fun s => (rd_d _ t r s).trans (congrFun h0 _)) fun s => (rd_w _ t s q).trans (congrFun h1 _))

theorem next (t : Fin cfg0.N) (x : Vec Ideal S2048x1024 .f32) (r : Fin 2048) (q : Fin 1024) :
    k0_pay3 (iblk m c 0 t) (iblk m c 1 t) x (ix2 r q) = x (ix2 r q) + run d w (tok (t.val / 2) r) q (t.val % 2) :=
  (pay3_val _ _ x r q).trans (congrArg (x (ix2 r q) + ·)
    (blk_run (fun s => (rd_d _ t r s).trans (congrFun h0 _)) fun s => (rd_w _ t s q).trans (congrFun h1 _)))

/-- The accumulator after a point is the sum of the runs so far. -/
theorem acc (n : ℕ) (hn : n < cfg0.N) (r : Fin 2048) (q : Fin 1024) : (outsAt0 m c n hn).2 (ix2 r q)
    = ∑ k ∈ Finset.range (n % 2 + 1), run d w (tok (n / 2) r) q k := by
  refine Sums.acc_runs 2 cfg0.N (by decide) (fun n hn => (outsAt0 m c n hn).2 (ix2 r q))
    (fun i k => run d w (tok i r) q k) (fun n hn h => ?_) (fun n hn h => ?_) n hn
  · rw [outsAt0_A m c ⟨n, hn⟩ h (by dsimp only; omega) (by dsimp only; omega)]
    dsimp only
    rw [sout_A, first m c d w h0 h1]
  · rw [outsAt0_B m c ⟨n + 1, hn⟩ h (by dsimp only; omega) (by dsimp only; omega)]
    dsimp only
    rw [(end_B ..).1, next m c d w h0 h1]
    rfl

omit h0 h1 in
/-- A last point leaves its accumulator. -/
theorem last (t : Fin cfg0.N) (h : t.val % 2 = 1) : (outsAt0 m c t.val t.isLt).1 = (outsAt0 m c t.val t.isLt).2 := by
  rw [outsAt0_B m c t (by omega) (by omega) h]
  dsimp only
  rw [(end_B ..).1, (end_B ..).2]

theorem last_at (t : Fin cfg0.N) (h : t.val % 2 = 1) (r : Fin 2048) (q : Fin 1024) :
    (outsAt0 m c t.val t.isLt).2 (ix2 r q) = back d w (ix2 (tok (t.val / 2) r) q) := by
  rw [acc m c d w h0 h1, h]
  exact runs_back d w _ q

/-- The kernel's array ends holding the cotangent. -/
theorem final : (dats m 0 c).arrAt 2 cfg0.N = back d w := by
  refine (dats m 0 c).arrAt_eq_of_covers 2 _ (by decide +kernel) fun t hf y => ?_
  have h3 : t.val % 2 = 1 := (flush0_2 t).mp hf
  have he : ((cfg0.win 2).blk t).view.emb y = ix2 (tok (t.val / 2) (y 0)) (y 1) := by
    funext a
    match a with
    | ⟨0, _⟩ => exact Fin.ext (by blk_simp [idx t]; exact (tok_val t _).symm)
    | ⟨1, _⟩ => exact Fin.ext (by blk_simp [idx t]; rfl)
  blk_simp
  rw [after0_2, last m c t h3]
  refine Eq.trans ?_ (congrArg (back d w) he).symm
  exact (congrArg _ (eq_ix2 y)).trans (last_at m c d w h0 h1 t h3 (y 0) (y 1))

end Cert.Dhgate.Ker
-- ==== Proof.DhgateClaims.lean ====
/- The claims on the gate projection's input's cotangent, each from its program's run, and the reference's values. -/
module

public import proofs.«01_k».proof.Defs
public import proofs.«01_k».proof.Proof.DhgateVal
public import proofs.«01_k».proof.Proof.Gen.DhgateReferenceIdeal.Read
public import proofs.«01_k».proof.Proof.Gen.DhgateKernel.Frame
public import proofs.«01_k».proof.Proof.Gen.DhgateReferenceIdeal.Run
public import Idealize.ShloMosaic.Lib.Claim
public import Idealize.ShloMosaic.Lib.StableHlo.Run

@[expose] public section

set_option maxRecDepth 16384

noncomputable section

namespace Cert.Dhgate.Ref

open Idealize.ShloMosaic Cert.DhgateReferenceIdeal Cert.DhgateReferenceIdeal.Read

theorem sum_val (x1 : Vec Ideal S1024x2048 .f32) (x2 : Vec Ideal S4096x2048 .f32) (s : Fin 4096) (q : Fin 1024) :
    val_main_v1 (F := Ideal) x1 x2 (ix2 s q) = ∑ k : Fin 2048, x2 (ix2 s k) * x1 (ix2 q k) := by
  pointwise [val_main_v1]

theorem back_val (x1 : Vec Ideal S1024x2048 .f32) (x2 : Vec Ideal S4096x2048 .f32) : val_main_v1 (F := Ideal) x1 x2 = back x2 x1 := by
  funext j
  exact (congrArg _ (eq_ix2 j)).trans (sum_val x1 x2 (j 0) (j 1))

end Cert.Dhgate.Ref

namespace Cert.Dhgate

open Idealize.ShloMosaic Idealize.ShloMosaic.TcCoe Idealize.SL.Sem

/-- The reference keeps its arguments, and has no semaphore. -/
theorem frame_reference : Cert.quiescent_DhgateReferenceIdeal := fun m g _ =>
  (θ_run Cert.DhgateReferenceIdeal.defs _ _).mono
    (fun r h => ⟨fun c => (h c).2, sem_eq_zero_of_no_sems (by decide) r.2⟩)
    (Cert.DhgateReferenceIdeal.Value.run (F := Ideal) m g)

section

open Cert.DhgateKernelIdeal Cert.DhgateKernelIdeal.Gen Idealize.ShloMosaic.StableHlo Cert.DhgateReferenceIdeal.Read

variable (m : (ℓ : Loc nD τ sig) → Buf (Elt Ideal) ℓ) (c : Dev nD)

/-- What the host hands the launch: the cotangents, whose narrowing changes no number, and the weights turned. -/
theorem host : V m c main_v0 = truncf (F := Ideal) .bf16 (m ((c : Thread nD τ).loc main_arg2)) bitsLt_bf16_f32 ∧ V m c main_v2 = turn (m ((c : Thread nD τ).loc main_arg1)) := by
  unfold V hostOps0
  refine ⟨?_, ?_⟩ <;> after_results_simp
  rfl

/-- Kernel and reference agree. -/
theorem algebraic : Cert.algebraic_DhgateKernelIdeal_DhgateReferenceIdeal := fun m g m' g' _ e =>
  ⟨fun c => back (m ((c.tc : Thread _ _).loc main_arg2)) (m ((c.tc : Thread _ _).loc main_arg1)),
    (θ_run defs _ _).mono (fun r hr c => by
      obtain ⟨e0, k⟩ := hr c
      obtain ⟨h0, h1⟩ := host m c
      exact ⟨e0.trans (Ker.final m c _ _ h0 h1), k⟩) (Cert.DhgateKernelIdeal.Value.run_blocks m g),
    (θ_run Cert.DhgateReferenceIdeal.defs _ _).mono (fun r hr c => by
      obtain ⟨h0, h1, h2⟩ := e c
      obtain ⟨e0, k⟩ := hr c
      have k0 := (e0.trans (val_main_v1_eq _ _)).trans (Ref.back_val _ _)
      rw [h2, h1] at k0
      exact ⟨k0, k⟩) (Cert.DhgateReferenceIdeal.Value.run (F := Ideal) m' g')⟩

end

end Cert.Dhgate
-- ==== Proof.DwgateVal.lean ====
/- The gate projection's weights' gradient: a product summed run by run of tokens into the kernel's accumulator. -/
module

public import proofs.«01_k».proof.Proof.Sums
public import proofs.«01_k».proof.Proof.Gen.DwgateKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Dwgate.Ker

open Idealize.ShloMosaic Cert.DwgateKernelIdeal Cert.DwgateKernelIdeal.Gen Idealize.ShloMosaic.TcCoe Idealize.SL.Sem

section

variable (c : Dev nD) (i : grid0.Coords) (arg3 : Memref sig .tc .vmem S1024x2048 .bf16) (harg3 : arg3.IsWhole)
  (arg4 : Memref sig .tc .vmem S1024x1024 .bf16) (harg4 : arg4.IsWhole) (arg5 : Memref sig .tc .vmem S2048x1024 .bf16) (harg5 : arg5.IsWhole)
  (arg6 : Memref sig .tc .vmem S2048x1024 .f32) (harg6 : arg6.IsWhole) (x0 : Vec Ideal S1024x2048 .bf16) (x1 : Vec Ideal S1024x1024 .bf16)
  (xs : Vec Ideal S2048x1024 .f32)

/-- The accumulator after a first point, -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (fun _ => scover0_A_0 ..)]
  unfold kernelRun0_A
  dsimp only
  sl_unfold_words
  simp (disch := decide) only [View.canon_cons_unit_lit', View.readCov_cons_unit_lit']
  simp only [View.readAt_eq_ld, harg3.read_unread, harg4.read_unread]
  repeat rw [View.ld_unit_zero (by decide)]

/-- after a middle one -/
theorem sout_B (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0
  rw [View.read_writes_eq_canon _ _ _ (fun _ => scover0_B_0 ..)]
  unfold kernelRun0_B
  dsimp only
  sl_unfold_words
  simp (disch := decide) only [View.canon_cons_unit_lit', View.readCov_cons_unit_lit']
  simp only [View.readAt_eq_ld, harg3.read_unread, harg4.read_unread, harg6.read_unread]
  repeat rw [View.ld_unit_zero (by decide)]

/-- and after a last one, which also leaves its block. -/
theorem end_C (hc0 : ¬cond0_0 i) (hc1 : cond0_1 i) (hc2 : cond0_2 i) :
    sout0_C_0 c i arg3 harg3 arg4 harg4 arg5 harg5 arg6 harg6 hc0 hc1 hc2 x0 x1 xs = k0_pay3 x0 x1 xs
    ∧ out0_C_2 c i arg3 harg3 arg4 harg4 arg5 harg5 arg6 harg6 hc0 hc1 hc2 x0 x1 xs = k0_pay4 (k0_pay3 x0 x1 xs) := by
  unfold sout0_C_0 out0_C_2
  rw [View.read_writes_eq_canon _ _ _ (fun _ => scover0_C_0 ..), View.read_writes_eq_canon _ _ _ (fun _ => cover0_C_2 ..)]
  unfold kernelRun0_C
  dsimp only
  sl_unfold_words
  simp (disch := decide) only [View.canon_cons_unit_lit', View.readCov_cons_unit_lit']
  simp only [View.readAt_eq_ld, harg3.read_unread, harg4.read_unread, harg6.read_unread]
  repeat rw [View.ld_unit_zero (by decide)]
  exact ⟨rfl, rfl⟩

end

theorem pay2_val (x0 : Vec Ideal S1024x2048 .bf16) (x1 : Vec Ideal S1024x1024 .bf16) (r : Fin 2048) (n : Fin 1024) :
    k0_pay2 x0 x1 (ix2 r n) = ∑ s : Fin 1024, x0 (ix2 s r) * x1 (ix2 s n) := by
  pointwise [k0_pay2, k0_pay1]

theorem pay3_val (x0 : Vec Ideal S1024x2048 .bf16) (x1 : Vec Ideal S1024x1024 .bf16) (a : Vec Ideal S2048x1024 .f32) (r : Fin 2048) (n : Fin 1024) :
    k0_pay3 x0 x1 a (ix2 r n) = a (ix2 r n) + ∑ s : Fin 1024, x0 (ix2 s r) * x1 (ix2 s n) := by
  pointwise [k0_pay3, k0_pay1]

theorem pay4_val (a : Vec Ideal S2048x1024 .f32) (r : Fin 2048) (n : Fin 1024) :
    (k0_pay4 a (ix2 r n) : EReal) = a (ix2 r n) := by
  pointwise [k0_pay4]

end Cert.Dwgate.Ker

namespace Cert.Dwgate

open Idealize.ShloMosaic Cert.DwgateKernelIdeal

/-- The gradient: every token's cotangent times its input, summed. -/
def grad (a : S4096x2048.Idx → EReal) (b : S4096x1024.Idx → EReal) (j : S2048x1024.Idx) : EReal :=
  ∑ k : Fin (4 * 1024), a (ix2 k (j 0)) * b (ix2 k (j 1))

end Cert.Dwgate

namespace Cert.Dwgate.Ker

open Idealize.ShloMosaic Cert.DwgateKernelIdeal Cert.DwgateKernelIdeal.Gen Idealize.ShloMosaic.TcCoe Idealize.SL.Sem

theorem lt_N (t : Fin cfg0.N) : t.val < 4 := lt_of_lt_of_eq t.isLt N_0

/-- The array's token and lane of a point's token and lane. -/
abbrev tok (k : ℕ) (s : Fin 1024) : Fin 4096 := Sums.at_ 4 1024 k s (by decide)
abbrev lane (i : ℕ) (r : Fin 2048) : Fin 2048 := Sums.at_ 1 2048 i r (by decide)

theorem lane_val (t : Fin cfg0.N) (r : Fin 2048) : (lane (t.val / 4) r).val = t.val / 4 * 2048 + r.val := by
  have := lt_N t
  exact congrArg (· * 2048 + r.val) (Nat.mod_eq_of_lt (by omega))

theorem tok_val (t : Fin cfg0.N) (s : Fin 1024) : (tok (t.val % 4) s).val = t.val % 4 * 1024 + s.val :=
  congrArg (· * 1024 + s.val) (Nat.mod_mod _ _)

theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The windows read. -/
theorem rd_dp (A : S4096x2048.Idx → EReal) (t : Fin cfg0.N) (s : Fin 1024) (r : Fin 2048) :
    ((cfg0.win 0).blk t).view.read (Elt Ideal) A (ix2 s r) = A (ix2 (tok (t.val % 4) s) (lane (t.val / 4) r)) := by
  refine congrArg A (funext fun a => ?_)
  match a with
  | ⟨0, _⟩ => exact Fin.ext (by blk_simp [idx t]; exact (tok_val t s).symm)
  | ⟨1, _⟩ => exact Fin.ext (by blk_simp [idx t]; exact (lane_val t r).symm)

theorem rd_in (A : S4096x1024.Idx → EReal) (t : Fin cfg0.N) (s : Fin 1024) (q : Fin 1024) :
    ((cfg0.win 1).blk t).view.read (Elt Ideal) A (ix2 s q) = A (ix2 (tok (t.val % 4) s) q) := by
  refine congrArg A (funext fun a => ?_)
  match a with
  | ⟨0, _⟩ => exact Fin.ext (by blk_simp [idx t]; exact (tok_val t s).symm)
  | ⟨1, _⟩ => exact Fin.ext (by blk_simp [idx t])

/-- One run's products, summed, -/
def run (a : S4096x2048.Idx → EReal) (b : S4096x1024.Idx → EReal) (l : Fin 2048) (q : Fin 1024) (k : ℕ) : EReal :=
  ∑ s : Fin 1024, a (ix2 (tok k s) l) * b (ix2 (tok k s) q)

/-- as a block whose windows hold the run's rows and lanes gives them. -/
theorem blk_run {d : Vec Ideal S1024x2048 .bf16} {w : Vec Ideal S1024x1024 .bf16} {a : S4096x2048.Idx → EReal} {b : S4096x1024.Idx → EReal}
    {r : Fin 2048} {l : Fin 2048} {q : Fin 1024} {k : ℕ} (h0 : ∀ s, d (ix2 s r) = a (ix2 (tok k s) l))
    (h1 : ∀ s, w (ix2 s q) = b (ix2 (tok k s) q)) : ∑ s : Fin 1024, d (ix2 s r) * w (ix2 s q) = run a b l q k := by
  unfold run
  simp only [h0, h1]

/-- All four runs make the gradient. -/
theorem runs_grad (a : S4096x2048.Idx → EReal) (b : S4096x1024.Idx → EReal) (l : Fin 2048) (q : Fin 1024) :
    ∑ k ∈ Finset.range (3 + 1), run a b l q k = grad a b (ix2 l q) :=
  Sums.sum_runs 4 1024 (by decide) fun k => a (ix2 k l) * b (ix2 k q)

variable (m : (ℓ : Loc nD τ sig) → Buf (Elt Ideal) ℓ) (c : Dev nD)

theorem first (t : Fin cfg0.N) (r : Fin 2048) (q : Fin 1024) :
    k0_pay2 (iblk m c 0 t) (iblk m c 1 t) (ix2 r q) = run (V m c main_v0) (V m c main_v1) (lane (t.val / 4) r) q (t.val % 4) :=
  (pay2_val _ _ r q).trans (blk_run (fun s => rd_dp _ t s r) fun s => rd_in _ t s q)

theorem next (t : Fin cfg0.N) (x : Vec Ideal S2048x1024 .f32) (r : Fin 2048) (q : Fin 1024) :
    k0_pay3 (iblk m c 0 t) (iblk m c 1 t) x (ix2 r q) = x (ix2 r q) + run (V m c main_v0) (V m c main_v1) (lane (t.val / 4) r) q (t.val % 4) :=
  (pay3_val _ _ x r q).trans (congrArg (x (ix2 r q) + ·) (blk_run (fun s => rd_dp _ t s r) fun s => rd_in _ t s q))

/-- The accumulator after a point is the sum of the runs so far. -/
theorem acc (n : ℕ) (hn : n < cfg0.N) (r : Fin 2048) (q : Fin 1024) : (outsAt0 m c n hn).2 (ix2 r q)
    = ∑ k ∈ Finset.range (n % 4 + 1), run (V m c main_v0) (V m c main_v1) (lane (n / 4) r) q k := by
  refine Sums.acc_runs 4 cfg0.N (by decide) (fun n hn => (outsAt0 m c n hn).2 (ix2 r q))
    (fun i k => run (V m c main_v0) (V m c main_v1) (lane i r) q k) (fun n hn h => ?_) (fun n hn h => ?_) n hn
  · have hN := lt_N ⟨n, hn⟩
    dsimp only at hN
    rw [outsAt0_A m c ⟨n, hn⟩ h (by dsimp only; omega) (by dsimp only; omega)]
    dsimp only
    rw [sout_A, first]
  · by_cases h2 : (n + 1) % 4 = 3
    · rw [outsAt0_C m c ⟨n + 1, hn⟩ h (by dsimp only; omega) h2]
      dsimp only
      rw [(end_C ..).1, next]
      rfl
    · rw [outsAt0_B m c ⟨n + 1, hn⟩ h (by dsimp only; omega) h2]
      dsimp only
      rw [sout_B, next]
      rfl

/-- A last point leaves its accumulator. -/
theorem last (t : Fin cfg0.N) (h : t.val % 4 = 3) : (outsAt0 m c t.val t.isLt).1 = k0_pay4 (outsAt0 m c t.val t.isLt).2 := by
  rw [outsAt0_C m c t (by omega) (by omega) h]
  dsimp only
  rw [(end_C ..).1, (end_C ..).2]

theorem last_at (t : Fin cfg0.N) (h : t.val % 4 = 3) (r : Fin 2048) (q : Fin 1024) :
    (k0_pay4 (outsAt0 m c t.val t.isLt).2 (ix2 r q) : EReal) = grad (V m c main_v0) (V m c main_v1) (ix2 (lane (t.val / 4) r) q) := by
  rw [pay4_val, acc, h]
  exact runs_grad _ _ _ q

/-- The kernel's array ends holding the gradient. -/
theorem final : (dats m 0 c).arrAt 2 cfg0.N = grad (V m c main_v0) (V m c main_v1) := by
  refine (dats m 0 c).arrAt_eq_of_covers 2 _ (by decide +kernel) fun t hf y => ?_
  have h3 : t.val % 4 = 3 := (flush0_2 t).mp hf
  have he : ((cfg0.win 2).blk t).view.emb y = ix2 (lane (t.val / 4) (y 0)) (y 1) := by
    funext a
    match a with
    | ⟨0, _⟩ => exact Fin.ext (by blk_simp [idx t]; exact (lane_val t _).symm)
    | ⟨1, _⟩ => exact Fin.ext (by blk_simp [idx t]; rfl)
  blk_simp
  rw [after0_2, last m c t h3]
  refine Eq.trans ?_ (congrArg (grad (V m c main_v0) (V m c main_v1)) he).symm
  exact (congrArg _ (eq_ix2 y)).trans (last_at m c t h3 (y 0) (y 1))

end Cert.Dwgate.Ker
-- ==== Proof.DwgateClaims.lean ====
/- The claims on the gate projection's weights' gradient, each from its program's run, and the reference's values. -/
module

public import proofs.«01_k».proof.Defs
public import proofs.«01_k».proof.Proof.DwgateVal
public import proofs.«01_k».proof.Proof.Gen.DwgateReferenceIdeal.Read
public import proofs.«01_k».proof.Proof.Gen.DwgateKernel.Frame
public import proofs.«01_k».proof.Proof.Gen.DwgateReferenceIdeal.Run
public import Idealize.ShloMosaic.Lib.Claim
public import Idealize.ShloMosaic.Lib.StableHlo.Run

@[expose] public section

set_option maxRecDepth 16384

noncomputable section

namespace Cert.Dwgate.Ref

open Idealize.ShloMosaic Cert.DwgateReferenceIdeal Cert.DwgateReferenceIdeal.Read

theorem sum_val (x0 : Vec Ideal S4096x1024 .f32) (x2 : Vec Ideal S4096x2048 .f32) (f : Fin 2048) (d : Fin 1024) :
    (val_main_v4 (F := Ideal) x0 x2 (ix2 f d) : EReal) = ∑ k : Fin 4096, x2 (ix2 k f) * x0 (ix2 k d) := by
  pointwise [val_main_v4, val_main_v3, val_main_v2, val_main_v1]

/-- The two turns of the reference undo each other. -/
theorem grad_val (x0 : Vec Ideal S4096x1024 .f32) (x2 : Vec Ideal S4096x2048 .f32) : val_main_v4 (F := Ideal) x0 x2 = grad x2 x0 := by
  funext j
  exact (congrArg _ (eq_ix2 j)).trans (sum_val x0 x2 (j 0) (j 1))

end Cert.Dwgate.Ref

namespace Cert.Dwgate

open Idealize.ShloMosaic Idealize.ShloMosaic.TcCoe Idealize.SL.Sem

/-- The reference keeps its arguments, and has no semaphore. -/
theorem frame_reference : Cert.quiescent_DwgateReferenceIdeal := fun m g _ =>
  (θ_run Cert.DwgateReferenceIdeal.defs _ _).mono
    (fun r h => ⟨fun c => (h c).2, sem_eq_zero_of_no_sems (by decide) r.2⟩)
    (Cert.DwgateReferenceIdeal.Value.run (F := Ideal) m g)

section

open Cert.DwgateKernelIdeal Cert.DwgateKernelIdeal.Gen Idealize.ShloMosaic.StableHlo Cert.DwgateReferenceIdeal.Read

variable (m : (ℓ : Loc nD τ sig) → Buf (Elt Ideal) ℓ) (c : Dev nD)

/-- What the host hands the launch: the arguments, whose narrowing changes no number. -/
theorem host : V m c main_v0 = truncf (F := Ideal) .bf16 (m ((c : Thread nD τ).loc main_arg2)) bitsLt_bf16_f32 ∧ V m c main_v1 = truncf (F := Ideal) .bf16 (m ((c : Thread nD τ).loc main_arg0)) bitsLt_bf16_f32 := by
  unfold V hostOps0
  refine ⟨?_, ?_⟩ <;> after_results_simp

/-- Kernel and reference agree. -/
theorem algebraic : Cert.algebraic_DwgateKernelIdeal_DwgateReferenceIdeal := fun m g m' g' _ e =>
  ⟨fun c => grad (m ((c.tc : Thread _ _).loc main_arg2)) (m ((c.tc : Thread _ _).loc main_arg0)),
    (θ_run defs _ _).mono (fun r hr c => by
      obtain ⟨e0, k⟩ := hr c
      obtain ⟨h0, h1⟩ := host m c
      refine ⟨e0.trans ((Ker.final m c).trans ?_), k⟩
      rw [h0, h1]
      rfl) (Cert.DwgateKernelIdeal.Value.run_blocks m g),
    (θ_run Cert.DwgateReferenceIdeal.defs _ _).mono (fun r hr c => by
      obtain ⟨h0, h1, h2⟩ := e c
      obtain ⟨e0, k⟩ := hr c
      have k0 := (e0.trans (val_main_v4_eq _ _)).trans (Ref.grad_val _ _)
      rw [h2, h0] at k0
      exact ⟨k0, k⟩) (Cert.DwgateReferenceIdeal.Value.run (F := Ideal) m' g')⟩

end

end Cert.Dwgate
-- ==== Proof.PqkvVal.lean ====
/- The attention projection: what one grid point's body stores, and what the launch's array ends holding. -/
module

public import proofs.«01_k».proof.Proof.Gen.PqkvKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Pqkv

open Idealize.ShloMosaic Cert.PqkvKernelIdeal Cert.PqkvKernelIdeal.Facts₀

/-- The projection: a token's row times a lane's weights. -/
def lin (h : S4096x1024.Idx → EReal) (w : S1024x2304.Idx → EReal) (j : S4096x2304.Idx) : EReal :=
  ∑ k : Fin 1024, h (ix2 (j 0) k) * w (ix2 k (j 1))

/-- The host's turn of the weights. -/
def turn (w : Vec Ideal S1024x2304 .f32) : Vec Ideal S2304x1024 .bf16 :=
  truncf (F := Ideal) .bf16 (transpose S2304x1024 [1, 0] w transposes_S1024x2304_S2304x1024_1_0) bitsLt_bf16_f32

theorem turn_val (w : Vec Ideal S1024x2304 .f32) (l : Fin 2304) (k : Fin 1024) : turn w (ix2 l k) = w (ix2 k l) := by
  pointwise [turn]

end Cert.Pqkv

namespace Cert.Pqkv.Ker

open Idealize.ShloMosaic Cert.PqkvKernelIdeal Cert.PqkvKernelIdeal.Gen Idealize.ShloMosaic.TcCoe Idealize.SL.Sem

theorem pay1_val (d : Vec Ideal S2048x1024 .bf16) (w : Vec Ideal S1152x1024 .bf16) (r : Fin 2048) (f : Fin 1152) :
    k0_pay1 d w (ix2 r f) = ∑ k : Fin 1024, d (ix2 r k) * w (ix2 f k) := by
  pointwise [k0_pay1]

/-- A point stores its rows' products. -/
theorem out_val (d : Vec Ideal S2048x1024 .bf16) (w : Vec Ideal S1152x1024 .bf16) : out0_2 d w = k0_pay1 d w := by
  unfold out0_2 r0_2
  simp (disch := decide) only [View.canon_cons_unit_lit']
  rw [View.ld_unit_zero (by decide), View.ld_unit_zero (by decide)]

theorem lt_N (t : Fin cfg0.N) : t.val < 4 := lt_of_lt_of_eq t.isLt N_0

/-- The array's row and lane of a point's row and lane. -/
def row (t : Fin cfg0.N) (r : Fin 2048) : Fin 4096 := ⟨t.val / 2 * 2048 + r.val, by have := lt_N t; omega⟩
def lane (t : Fin cfg0.N) (f : Fin 1152) : Fin 2304 := ⟨t.val % 2 * 1152 + f.val, by omega⟩

theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- The windows read. -/
theorem rd_h (A : S4096x1024.Idx → EReal) (t : Fin cfg0.N) (r : Fin 2048) (k : Fin 1024) :
    ((cfg0.win 0).blk t).view.read (Elt Ideal) A (ix2 r k) = A (ix2 (row t r) k) := by
  refine congrArg A (funext fun a => ?_)
  match a with
  | ⟨0, _⟩ => exact Fin.ext (by blk_simp [idx t]; rfl)
  | ⟨1, _⟩ => exact Fin.ext (by blk_simp [idx t])

theorem rd_w (A : S2304x1024.Idx → EReal) (t : Fin cfg0.N) (f : Fin 1152) (k : Fin 1024) :
    ((cfg0.win 1).blk t).view.read (Elt Ideal) A (ix2 f k) = A (ix2 (lane t f) k) := by
  refine congrArg A (funext fun a => ?_)
  match a with
  | ⟨0, _⟩ => exact Fin.ext (by blk_simp [idx t]; rfl)
  | ⟨1, _⟩ => exact Fin.ext (by blk_simp [idx t])

/-- A block whose windows hold an array's row and lane makes their product. -/
theorem blk_lin {d : Vec Ideal S2048x1024 .bf16} {w : Vec Ideal S1152x1024 .bf16} {h : S4096x1024.Idx → EReal} {v : Vec Ideal S1024x2304 .f32}
    {r : Fin 2048} {f : Fin 1152} {s : Fin 4096} {l : Fin 2304} (h0 : ∀ k : Fin 1024, d (ix2 r k) = h (ix2 s k))
    (h1 : ∀ k : Fin 1024, w (ix2 f k) = turn v (ix2 l k)) : ∑ k : Fin 1024, d (ix2 r k) * w (ix2 f k) = lin h v (ix2 s l) :=
  Finset.sum_congr rfl fun k _ => congrArg₂ (· * ·) (h0 k) ((h1 k).trans (turn_val v l k))

variable (m : (ℓ : Loc nD τ sig) → Buf (Elt Ideal) ℓ) (c : Dev nD) (h : S4096x1024.Idx → EReal) (v : Vec Ideal S1024x2304 .f32)

/-- The kernel's array ends holding the projection. -/
theorem final (h0 : V m c main_v0 = h) (h1 : V m c main_v2 = turn v) : (dats m 0 c).arrAt 2 cfg0.N = lin h v := by
  refine (dats m 0 c).arrAt_eq_of_covers 2 _ (by decide +kernel) fun t hf y => ?_
  have he : ((cfg0.win 2).blk t).view.emb y = ix2 (row t (y 0)) (lane t (y 1)) := by
    funext a
    match a with
    | ⟨0, _⟩ => exact Fin.ext (by blk_simp [idx t]; rfl)
    | ⟨1, _⟩ => exact Fin.ext (by blk_simp [idx t]; rfl)
  blk_simp
  rw [after0_2, out_val]
  refine Eq.trans ?_ (congrArg (lin h v) he).symm
  refine (congrArg _ (eq_ix2 y)).trans ((pay1_val _ _ (y 0) (y 1)).trans ?_)
  exact blk_lin (fun k => (rd_h _ t (y 0) k).trans (congrFun h0 _)) fun k => (rd_w _ t (y 1) k).trans (congrFun h1 _)

end Cert.Pqkv.Ker
-- ==== Proof.PqkvClaims.lean ====
/- The claims on the attention projection, each from its program's run, and the reference's values. -/
module

public import proofs.«01_k».proof.Defs
public import proofs.«01_k».proof.Proof.PqkvVal
public import proofs.«01_k».proof.Proof.Gen.PqkvReferenceIdeal.Read
public import proofs.«01_k».proof.Proof.Gen.PqkvKernel.Frame
public import proofs.«01_k».proof.Proof.Gen.PqkvReferenceIdeal.Run
public import Idealize.ShloMosaic.Lib.Claim
public import Idealize.ShloMosaic.Lib.StableHlo.Run

@[expose] public section

set_option maxRecDepth 16384

noncomputable section

namespace Cert.Pqkv.Ref

open Idealize.ShloMosaic Cert.PqkvReferenceIdeal Cert.PqkvReferenceIdeal.Read

theorem sum_val (x0 : Vec Ideal S4096x1024 .f32) (x1 : Vec Ideal S1024x2304 .f32) (s : Fin 4096) (l : Fin 2304) :
    val_main_v0 (F := Ideal) x0 x1 (ix2 s l) = ∑ k : Fin 1024, x0 (ix2 s k) * x1 (ix2 k l) := by
  pointwise [val_main_v0]

theorem lin_val (x0 : Vec Ideal S4096x1024 .f32) (x1 : Vec Ideal S1024x2304 .f32) : val_main_v0 (F := Ideal) x0 x1 = lin x0 x1 := by
  funext j
  exact (congrArg _ (eq_ix2 j)).trans (sum_val x0 x1 (j 0) (j 1))

end Cert.Pqkv.Ref

namespace Cert.Pqkv

open Idealize.ShloMosaic Idealize.ShloMosaic.TcCoe Idealize.SL.Sem

/-- The reference keeps its arguments, and has no semaphore. -/
theorem frame_reference : Cert.quiescent_PqkvReferenceIdeal := fun m g _ =>
  (θ_run Cert.PqkvReferenceIdeal.defs _ _).mono
    (fun r h => ⟨fun c => (h c).2, sem_eq_zero_of_no_sems (by decide) r.2⟩)
    (Cert.PqkvReferenceIdeal.Value.run (F := Ideal) m g)

section

open Cert.PqkvKernelIdeal Cert.PqkvKernelIdeal.Gen Idealize.ShloMosaic.StableHlo Cert.PqkvReferenceIdeal.Read

variable (m : (ℓ : Loc nD τ sig) → Buf (Elt Ideal) ℓ) (c : Dev nD)

/-- What the host hands the launch: the input, whose narrowing changes no number, and the weights turned. -/
theorem host : V m c main_v0 = truncf (F := Ideal) .bf16 (m ((c : Thread nD τ).loc main_arg0)) bitsLt_bf16_f32 ∧ V m c main_v2 = turn (m ((c : Thread nD τ).loc main_arg1)) := by
  unfold V hostOps0
  refine ⟨?_, ?_⟩ <;> after_results_simp
  rfl

/-- Kernel and reference agree. -/
theorem algebraic : Cert.algebraic_PqkvKernelIdeal_PqkvReferenceIdeal := fun m g m' g' _ e =>
  ⟨fun c => lin (m ((c.tc : Thread _ _).loc main_arg0)) (m ((c.tc : Thread _ _).loc main_arg1)),
    (θ_run defs _ _).mono (fun r hr c => by
      obtain ⟨e0, k⟩ := hr c
      obtain ⟨h0, h1⟩ := host m c
      exact ⟨e0.trans (Ker.final m c _ _ h0 h1), k⟩) (Cert.PqkvKernelIdeal.Value.run_blocks m g),
    (θ_run Cert.PqkvReferenceIdeal.defs _ _).mono (fun r hr c => by
      obtain ⟨h0, h1⟩ := e c
      obtain ⟨e0, k⟩ := hr c
      have k0 := (e0.trans (val_main_v0_eq _ _)).trans (Ref.lin_val _ _)
      rw [h0, h1] at k0
      exact ⟨k0, k⟩) (Cert.PqkvReferenceIdeal.Value.run (F := Ideal) m' g')⟩

end

end Cert.Pqkv
-- ==== Proof.DwqkvVal.lean ====
/- The attention projection's weights' gradient: a product summed run by run of tokens into the kernel's accumulator. -/
module

public import proofs.«01_k».proof.Proof.Sums
public import proofs.«01_k».proof.Proof.Gen.DwqkvKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Dwqkv.Ker

open Idealize.ShloMosaic Cert.DwqkvKernelIdeal Cert.DwqkvKernelIdeal.Gen Idealize.ShloMosaic.TcCoe Idealize.SL.Sem

section

variable (c : Dev nD) (i : grid0.Coords) (arg3 : Memref sig .tc .vmem S1024x1152 .bf16) (harg3 : arg3.IsWhole)
  (arg4 : Memref sig .tc .vmem S1024x1024 .bf16) (harg4 : arg4.IsWhole) (arg5 : Memref sig .tc .vmem S1152x1024 .bf16) (harg5 : arg5.IsWhole)
  (arg6 : Memref sig .tc .vmem S1152x1024 .f32) (harg6 : arg6.IsWhole) (x0 : Vec Ideal S1024x1152 .bf16) (x1 : Vec Ideal S1024x1024 .bf16)
  (xs : Vec Ideal S1152x1024 .f32)

/-- The accumulator after a first point, -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (fun _ => scover0_A_0 ..)]
  unfold kernelRun0_A
  dsimp only
  sl_unfold_words
  simp (disch := decide) only [View.canon_cons_unit_lit', View.readCov_cons_unit_lit']
  simp only [View.readAt_eq_ld, harg3.read_unread, harg4.read_unread]
  repeat rw [View.ld_unit_zero (by decide)]

/-- after a middle one -/
theorem sout_B (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0
  rw [View.read_writes_eq_canon _ _ _ (fun _ => scover0_B_0 ..)]
  unfold kernelRun0_B
  dsimp only
  sl_unfold_words
  simp (disch := decide) only [View.canon_cons_unit_lit', View.readCov_cons_unit_lit']
  simp only [View.readAt_eq_ld, harg3.read_unread, harg4.read_unread, harg6.read_unread]
  repeat rw [View.ld_unit_zero (by decide)]

/-- and after a last one, which also leaves its block. -/
theorem end_C (hc0 : ¬cond0_0 i) (hc1 : cond0_1 i) (hc2 : cond0_2 i) :
    sout0_C_0 c i arg3 harg3 arg4 harg4 arg5 harg5 arg6 harg6 hc0 hc1 hc2 x0 x1 xs = k0_pay3 x0 x1 xs
    ∧ out0_C_2 c i arg3 harg3 arg4 harg4 arg5 harg5 arg6 harg6 hc0 hc1 hc2 x0 x1 xs = k0_pay4 (k0_pay3 x0 x1 xs) := by
  unfold sout0_C_0 out0_C_2
  rw [View.read_writes_eq_canon _ _ _ (fun _ => scover0_C_0 ..), View.read_writes_eq_canon _ _ _ (fun _ => cover0_C_2 ..)]
  unfold kernelRun0_C
  dsimp only
  sl_unfold_words
  simp (disch := decide) only [View.canon_cons_unit_lit', View.readCov_cons_unit_lit']
  simp only [View.readAt_eq_ld, harg3.read_unread, harg4.read_unread, harg6.read_unread]
  repeat rw [View.ld_unit_zero (by decide)]
  exact ⟨rfl, rfl⟩

end

theorem pay2_val (x0 : Vec Ideal S1024x1152 .bf16) (x1 : Vec Ideal S1024x1024 .bf16) (r : Fin 1152) (n : Fin 1024) :
    k0_pay2 x0 x1 (ix2 r n) = ∑ s : Fin 1024, x0 (ix2 s r) * x1 (ix2 s n) := by
  pointwise [k0_pay2, k0_pay1]

theorem pay3_val (x0 : Vec Ideal S1024x1152 .bf16) (x1 : Vec Ideal S1024x1024 .bf16) (a : Vec Ideal S1152x1024 .f32) (r : Fin 1152) (n : Fin 1024) :
    k0_pay3 x0 x1 a (ix2 r n) = a (ix2 r n) + ∑ s : Fin 1024, x0 (ix2 s r) * x1 (ix2 s n) := by
  pointwise [k0_pay3, k0_pay1]

theorem pay4_val (a : Vec Ideal S1152x1024 .f32) (r : Fin 1152) (n : Fin 1024) :
    (k0_pay4 a (ix2 r n) : EReal) = a (ix2 r n) := by
  pointwise [k0_pay4]

end Cert.Dwqkv.Ker

namespace Cert.Dwqkv

open Idealize.ShloMosaic Cert.DwqkvKernelIdeal

/-- The gradient: every token's cotangent times its input, summed. -/
def grad (a : S4096x2304.Idx → EReal) (b : S4096x1024.Idx → EReal) (j : S2304x1024.Idx) : EReal :=
  ∑ k : Fin (4 * 1024), a (ix2 k (j 0)) * b (ix2 k (j 1))

end Cert.Dwqkv

namespace Cert.Dwqkv.Ker

open Idealize.ShloMosaic Cert.DwqkvKernelIdeal Cert.DwqkvKernelIdeal.Gen Idealize.ShloMosaic.TcCoe Idealize.SL.Sem

theorem lt_N (t : Fin cfg0.N) : t.val < 8 := lt_of_lt_of_eq t.isLt N_0

/-- The array's token and lane of a point's token and lane. -/
abbrev tok (k : ℕ) (s : Fin 1024) : Fin 4096 := Sums.at_ 4 1024 k s (by decide)
abbrev lane (i : ℕ) (r : Fin 1152) : Fin 2304 := Sums.at_ 2 1152 i r (by decide)

theorem lane_val (t : Fin cfg0.N) (r : Fin 1152) : (lane (t.val / 4) r).val = t.val / 4 * 1152 + r.val := by
  have := lt_N t
  exact congrArg (· * 1152 + r.val) (Nat.mod_eq_of_lt (by omega))

theorem tok_val (t : Fin cfg0.N) (s : Fin 1024) : (tok (t.val % 4) s).val = t.val % 4 * 1024 + s.val :=
  congrArg (· * 1024 + s.val) (Nat.mod_mod _ _)

theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The windows read. -/
theorem rd_dp (A : S4096x2304.Idx → EReal) (t : Fin cfg0.N) (s : Fin 1024) (r : Fin 1152) :
    ((cfg0.win 0).blk t).view.read (Elt Ideal) A (ix2 s r) = A (ix2 (tok (t.val % 4) s) (lane (t.val / 4) r)) := by
  refine congrArg A (funext fun a => ?_)
  match a with
  | ⟨0, _⟩ => exact Fin.ext (by blk_simp [idx t]; exact (tok_val t s).symm)
  | ⟨1, _⟩ => exact Fin.ext (by blk_simp [idx t]; exact (lane_val t r).symm)

theorem rd_in (A : S4096x1024.Idx → EReal) (t : Fin cfg0.N) (s : Fin 1024) (q : Fin 1024) :
    ((cfg0.win 1).blk t).view.read (Elt Ideal) A (ix2 s q) = A (ix2 (tok (t.val % 4) s) q) := by
  refine congrArg A (funext fun a => ?_)
  match a with
  | ⟨0, _⟩ => exact Fin.ext (by blk_simp [idx t]; exact (tok_val t s).symm)
  | ⟨1, _⟩ => exact Fin.ext (by blk_simp [idx t])

/-- One run's products, summed, -/
def run (a : S4096x2304.Idx → EReal) (b : S4096x1024.Idx → EReal) (l : Fin 2304) (q : Fin 1024) (k : ℕ) : EReal :=
  ∑ s : Fin 1024, a (ix2 (tok k s) l) * b (ix2 (tok k s) q)

/-- as a block whose windows hold the run's rows and lanes gives them. -/
theorem blk_run {d : Vec Ideal S1024x1152 .bf16} {w : Vec Ideal S1024x1024 .bf16} {a : S4096x2304.Idx → EReal} {b : S4096x1024.Idx → EReal}
    {r : Fin 1152} {l : Fin 2304} {q : Fin 1024} {k : ℕ} (h0 : ∀ s, d (ix2 s r) = a (ix2 (tok k s) l))
    (h1 : ∀ s, w (ix2 s q) = b (ix2 (tok k s) q)) : ∑ s : Fin 1024, d (ix2 s r) * w (ix2 s q) = run a b l q k := by
  unfold run
  simp only [h0, h1]

/-- All four runs make the gradient. -/
theorem runs_grad (a : S4096x2304.Idx → EReal) (b : S4096x1024.Idx → EReal) (l : Fin 2304) (q : Fin 1024) :
    ∑ k ∈ Finset.range (3 + 1), run a b l q k = grad a b (ix2 l q) :=
  Sums.sum_runs 4 1024 (by decide) fun k => a (ix2 k l) * b (ix2 k q)

variable (m : (ℓ : Loc nD τ sig) → Buf (Elt Ideal) ℓ) (c : Dev nD)

theorem first (t : Fin cfg0.N) (r : Fin 1152) (q : Fin 1024) :
    k0_pay2 (iblk m c 0 t) (iblk m c 1 t) (ix2 r q) = run (V m c main_v0) (V m c main_v1) (lane (t.val / 4) r) q (t.val % 4) :=
  (pay2_val _ _ r q).trans (blk_run (fun s => rd_dp _ t s r) fun s => rd_in _ t s q)

theorem next (t : Fin cfg0.N) (x : Vec Ideal S1152x1024 .f32) (r : Fin 1152) (q : Fin 1024) :
    k0_pay3 (iblk m c 0 t) (iblk m c 1 t) x (ix2 r q) = x (ix2 r q) + run (V m c main_v0) (V m c main_v1) (lane (t.val / 4) r) q (t.val % 4) :=
  (pay3_val _ _ x r q).trans (congrArg (x (ix2 r q) + ·) (blk_run (fun s => rd_dp _ t s r) fun s => rd_in _ t s q))

/-- The accumulator after a point is the sum of the runs so far. -/
theorem acc (n : ℕ) (hn : n < cfg0.N) (r : Fin 1152) (q : Fin 1024) : (outsAt0 m c n hn).2 (ix2 r q)
    = ∑ k ∈ Finset.range (n % 4 + 1), run (V m c main_v0) (V m c main_v1) (lane (n / 4) r) q k := by
  refine Sums.acc_runs 4 cfg0.N (by decide) (fun n hn => (outsAt0 m c n hn).2 (ix2 r q))
    (fun i k => run (V m c main_v0) (V m c main_v1) (lane i r) q k) (fun n hn h => ?_) (fun n hn h => ?_) n hn
  · rw [outsAt0_A m c ⟨n, hn⟩ h (by dsimp only; omega) (by dsimp only; omega)]
    dsimp only
    rw [sout_A, first]
  · by_cases h2 : (n + 1) % 4 = 3
    · rw [outsAt0_C m c ⟨n + 1, hn⟩ h (by dsimp only; omega) h2]
      dsimp only
      rw [(end_C ..).1, next]
      rfl
    · rw [outsAt0_B m c ⟨n + 1, hn⟩ h (by dsimp only; omega) h2]
      dsimp only
      rw [sout_B, next]
      rfl

/-- A last point leaves its accumulator. -/
theorem last (t : Fin cfg0.N) (h : t.val % 4 = 3) : (outsAt0 m c t.val t.isLt).1 = k0_pay4 (outsAt0 m c t.val t.isLt).2 := by
  rw [outsAt0_C m c t (by omega) (by omega) h]
  dsimp only
  rw [(end_C ..).1, (end_C ..).2]

theorem last_at (t : Fin cfg0.N) (h : t.val % 4 = 3) (r : Fin 1152) (q : Fin 1024) :
    (k0_pay4 (outsAt0 m c t.val t.isLt).2 (ix2 r q) : EReal) = grad (V m c main_v0) (V m c main_v1) (ix2 (lane (t.val / 4) r) q) := by
  rw [pay4_val, acc, h]
  exact runs_grad _ _ _ q

/-- The kernel's array ends holding the gradient. -/
theorem final : (dats m 0 c).arrAt 2 cfg0.N = grad (V m c main_v0) (V m c main_v1) := by
  refine (dats m 0 c).arrAt_eq_of_covers 2 _ (by decide +kernel) fun t hf y => ?_
  have h3 : t.val % 4 = 3 := (flush0_2 t).mp hf
  have he : ((cfg0.win 2).blk t).view.emb y = ix2 (lane (t.val / 4) (y 0)) (y 1) := by
    funext a
    match a with
    | ⟨0, _⟩ => exact Fin.ext (by blk_simp [idx t]; exact (lane_val t _).symm)
    | ⟨1, _⟩ => exact Fin.ext (by blk_simp [idx t]; rfl)
  blk_simp
  rw [after0_2, last m c t h3]
  refine Eq.trans ?_ (congrArg (grad (V m c main_v0) (V m c main_v1)) he).symm
  exact (congrArg _ (eq_ix2 y)).trans (last_at m c t h3 (y 0) (y 1))

end Cert.Dwqkv.Ker
-- ==== Proof.DwqkvClaims.lean ====
/- The claims on the attention projection's weights' gradient, each from its program's run, and the reference's values. -/
module

public import proofs.«01_k».proof.Defs
public import proofs.«01_k».proof.Proof.DwqkvVal
public import proofs.«01_k».proof.Proof.Gen.DwqkvReferenceIdeal.Read
public import proofs.«01_k».proof.Proof.Gen.DwqkvKernel.Frame
public import proofs.«01_k».proof.Proof.Gen.DwqkvReferenceIdeal.Run
public import Idealize.ShloMosaic.Lib.Claim
public import Idealize.ShloMosaic.Lib.StableHlo.Run

@[expose] public section

set_option maxRecDepth 16384

noncomputable section

namespace Cert.Dwqkv.Ref

open Idealize.ShloMosaic Cert.DwqkvReferenceIdeal Cert.DwqkvReferenceIdeal.Read

theorem sum_val (x0 : Vec Ideal S4096x1024 .f32) (x2 : Vec Ideal S4096x2304 .f32) (f : Fin 2304) (d : Fin 1024) :
    (val_main_v4 (F := Ideal) x0 x2 (ix2 f d) : EReal) = ∑ k : Fin 4096, x2 (ix2 k f) * x0 (ix2 k d) := by
  pointwise [val_main_v4, val_main_v3, val_main_v2, val_main_v1]

/-- The two turns of the reference undo each other. -/
theorem grad_val (x0 : Vec Ideal S4096x1024 .f32) (x2 : Vec Ideal S4096x2304 .f32) : val_main_v4 (F := Ideal) x0 x2 = grad x2 x0 := by
  funext j
  exact (congrArg _ (eq_ix2 j)).trans (sum_val x0 x2 (j 0) (j 1))

end Cert.Dwqkv.Ref

namespace Cert.Dwqkv

open Idealize.ShloMosaic Idealize.ShloMosaic.TcCoe Idealize.SL.Sem

/-- The reference keeps its arguments, and has no semaphore. -/
theorem frame_reference : Cert.quiescent_DwqkvReferenceIdeal := fun m g _ =>
  (θ_run Cert.DwqkvReferenceIdeal.defs _ _).mono
    (fun r h => ⟨fun c => (h c).2, sem_eq_zero_of_no_sems (by decide) r.2⟩)
    (Cert.DwqkvReferenceIdeal.Value.run (F := Ideal) m g)

section

open Cert.DwqkvKernelIdeal Cert.DwqkvKernelIdeal.Gen Idealize.ShloMosaic.StableHlo Cert.DwqkvReferenceIdeal.Read

variable (m : (ℓ : Loc nD τ sig) → Buf (Elt Ideal) ℓ) (c : Dev nD)

/-- What the host hands the launch: the arguments, whose narrowing changes no number. -/
theorem host : V m c main_v0 = truncf (F := Ideal) .bf16 (m ((c : Thread nD τ).loc main_arg2)) bitsLt_bf16_f32 ∧ V m c main_v1 = truncf (F := Ideal) .bf16 (m ((c : Thread nD τ).loc main_arg0)) bitsLt_bf16_f32 := by
  unfold V hostOps0
  refine ⟨?_, ?_⟩ <;> after_results_simp

/-- Kernel and reference agree. -/
theorem algebraic : Cert.algebraic_DwqkvKernelIdeal_DwqkvReferenceIdeal := fun m g m' g' _ e =>
  ⟨fun c => grad (m ((c.tc : Thread _ _).loc main_arg2)) (m ((c.tc : Thread _ _).loc main_arg0)),
    (θ_run defs _ _).mono (fun r hr c => by
      obtain ⟨e0, k⟩ := hr c
      obtain ⟨h0, h1⟩ := host m c
      refine ⟨e0.trans ((Ker.final m c).trans ?_), k⟩
      rw [h0, h1]
      rfl) (Cert.DwqkvKernelIdeal.Value.run_blocks m g),
    (θ_run Cert.DwqkvReferenceIdeal.defs _ _).mono (fun r hr c => by
      obtain ⟨h0, h1, h2⟩ := e c
      obtain ⟨e0, k⟩ := hr c
      have k0 := (e0.trans (val_main_v4_eq _ _)).trans (Ref.grad_val _ _)
      rw [h2, h0] at k0
      exact ⟨k0, k⟩) (Cert.DwqkvReferenceIdeal.Value.run (F := Ideal) m' g')⟩

end

end Cert.Dwqkv
-- ==== Proof.MixPay.lean ====
/- The input norm's gradients: what one grid point's body leaves. -/
module

public import proofs.«01_k».proof.Proof.DnPay
public import proofs.«01_k».proof.Proof.Sums
public import proofs.«01_k».proof.Proof.Gen.MixKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Mix.Ker

open Idealize.ShloMosaic Cert.MixKernelIdeal Cert.MixKernelIdeal.Gen Idealize.ShloMosaic.TcCoe Idealize.SL.Sem
open Cert.Dn (irms)

section

variable (c : Dev nD) (i : grid0.Coords) (arg3 : Memref sig .tc .vmem S512x2304 .bf16) (harg3 : arg3.IsWhole)
  (arg4 : Memref sig .tc .vmem S2304x1024 .bf16) (harg4 : arg4.IsWhole)
  (arg5 : Memref sig .tc .vmem S512x1024 .f32) (harg5 : arg5.IsWhole)
  (arg6 : Memref sig .tc .vmem S512x1024 .f32) (harg6 : arg6.IsWhole)
  (arg7 : Memref sig .tc .vmem S512x1024 .f32) (harg7 : arg7.IsWhole)
  (arg8 : Memref sig .tc .vmem S512x1024 .f32) (harg8 : arg8.IsWhole)
  (arg9 : Memref sig .tc .vmem S512x1024 .f32) (harg9 : arg9.IsWhole)
  (arg10 : Memref sig .tc .vmem S1x1024 .f32) (harg10 : arg10.IsWhole)
  (arg11 : Memref sig .tc .vmem S512x1024 .f32) (harg11 : arg11.IsWhole)
  (arg12 : Memref sig .tc .vmem S512x1024 .bf16) (harg12 : arg12.IsWhole)
  (arg13 : Memref sig .tc .vmem S1x1024 .f32) (harg13 : arg13.IsWhole)
  (x0 : Vec Ideal S512x2304 .bf16)
  (x1 : Vec Ideal S2304x1024 .bf16)
  (x2 : Vec Ideal S512x1024 .f32)
  (x3 : Vec Ideal S512x1024 .f32)
  (x4 : Vec Ideal S512x1024 .f32)
  (x5 : Vec Ideal S512x1024 .f32)
  (x6 : Vec Ideal S512x1024 .f32)
  (x7 : Vec Ideal S1x1024 .f32) (xo : Vec Ideal S1x1024 .f32)

/-- What a point leaves: the input's cotangent, -/
theorem out_A_8 (hc : cond0_0 i) :
    out0_A_8 c i arg3 harg3 arg4 harg4 arg5 harg5 arg6 harg6 arg7 harg7 arg8 harg8 arg9 harg9 arg10 harg10 arg11 harg11 arg12 harg12 arg13 harg13 hc x0 x1 x2 x3 x4 x5 x6 x7
      = k0_pay1 x6 (k0_pay6 x5) (k0_pay7 x5) (k0_pay8 x0 x1 x2 x3 x4 x7) (k0_pay9 x0 x1 x2 x3 x4 x5 x7) Cert.Dn.width := by
  unfold out0_A_8
  rw [View.read_writes_eq_canon _ _ _ (fun _ => cover0_A_8 ..)]
  unfold kernelRun0_A
  dsimp only
  sl_unfold_words
  simp (disch := decide) only [View.canon_cons_unit_lit', View.readCov_cons_unit_lit', View.readAt_eq_ld, harg3.read_unread, harg4.read_unread, harg5.read_unread, harg6.read_unread, harg7.read_unread, harg8.read_unread, harg9.read_unread, harg10.read_unread]
  repeat rw [View.ld_unit_zero (by decide)]
  rfl

theorem out_B_8 (hc : ¬cond0_0 i) :
    out0_B_8 c i arg3 harg3 arg4 harg4 arg5 harg5 arg6 harg6 arg7 harg7 arg8 harg8 arg9 harg9 arg10 harg10 arg11 harg11 arg12 harg12 arg13 harg13 hc x0 x1 x2 x3 x4 x5 x6 x7 xo
      = k0_pay1 x6 (k0_pay6 x5) (k0_pay7 x5) (k0_pay8 x0 x1 x2 x3 x4 x7) (k0_pay9 x0 x1 x2 x3 x4 x5 x7) Cert.Dn.width := by
  unfold out0_B_8
  rw [View.read_writes_eq_canon _ _ _ (fun _ => cover0_B_8 ..)]
  unfold kernelRun0_B
  dsimp only
  sl_unfold_words
  simp (disch := decide) only [View.canon_cons_unit_lit', View.readCov_cons_unit_lit', View.readAt_eq_ld, harg3.read_unread, harg4.read_unread, harg5.read_unread, harg6.read_unread, harg7.read_unread, harg8.read_unread, harg9.read_unread, harg10.read_unread, harg13.read_unread]
  repeat rw [View.ld_unit_zero (by decide)]
  rfl

/-- the same narrowed, -/
theorem out_A_9 (hc : cond0_0 i) :
    out0_A_9 c i arg3 harg3 arg4 harg4 arg5 harg5 arg6 harg6 arg7 harg7 arg8 harg8 arg9 harg9 arg10 harg10 arg11 harg11 arg12 harg12 arg13 harg13 hc x0 x1 x2 x3 x4 x5 x6 x7
      = k0_pay2 x6 (k0_pay6 x5) (k0_pay7 x5) (k0_pay8 x0 x1 x2 x3 x4 x7) (k0_pay9 x0 x1 x2 x3 x4 x5 x7) Cert.Dn.width := by
  unfold out0_A_9
  rw [View.read_writes_eq_canon _ _ _ (fun _ => cover0_A_9 ..)]
  unfold kernelRun0_A
  dsimp only
  sl_unfold_words
  simp (disch := decide) only [View.canon_cons_unit_lit', View.readCov_cons_unit_lit', View.readAt_eq_ld, harg3.read_unread, harg4.read_unread, harg5.read_unread, harg6.read_unread, harg7.read_unread, harg8.read_unread, harg9.read_unread, harg10.read_unread]
  repeat rw [View.ld_unit_zero (by decide)]
  rfl

theorem out_B_9 (hc : ¬cond0_0 i) :
    out0_B_9 c i arg3 harg3 arg4 harg4 arg5 harg5 arg6 harg6 arg7 harg7 arg8 harg8 arg9 harg9 arg10 harg10 arg11 harg11 arg12 harg12 arg13 harg13 hc x0 x1 x2 x3 x4 x5 x6 x7 xo
      = k0_pay2 x6 (k0_pay6 x5) (k0_pay7 x5) (k0_pay8 x0 x1 x2 x3 x4 x7) (k0_pay9 x0 x1 x2 x3 x4 x5 x7) Cert.Dn.width := by
  unfold out0_B_9
  rw [View.read_writes_eq_canon _ _ _ (fun _ => cover0_B_9 ..)]
  unfold kernelRun0_B
  dsimp only
  sl_unfold_words
  simp (disch := decide) only [View.canon_cons_unit_lit', View.readCov_cons_unit_lit', View.readAt_eq_ld, harg3.read_unread, harg4.read_unread, harg5.read_unread, harg6.read_unread, harg7.read_unread, harg8.read_unread, harg9.read_unread, harg10.read_unread, harg13.read_unread]
  repeat rw [View.ld_unit_zero (by decide)]
  rfl

/-- and the gain's so far. -/
theorem out_A_10 (hc : cond0_0 i) :
    out0_A_10 c i arg3 harg3 arg4 harg4 arg5 harg5 arg6 harg6 arg7 harg7 arg8 harg8 arg9 harg9 arg10 harg10 arg11 harg11 arg12 harg12 arg13 harg13 hc x0 x1 x2 x3 x4 x5 x6 x7
      = k0_pay4 (k0_pay5 x0 x1 x2 x3 x4) (k0_pay7 x5) (k0_pay3 (F := Ideal)) := by
  unfold out0_A_10
  rw [View.read_writes_eq_canon _ _ _ (fun _ => cover0_A_10 ..)]
  unfold kernelRun0_A
  dsimp only
  sl_unfold_words
  simp (disch := decide) only [View.canon_cons_unit_lit', View.readCov_cons_unit_lit', View.readAt_eq_ld, harg3.read_unread, harg4.read_unread, harg5.read_unread, harg6.read_unread, harg7.read_unread, harg8.read_unread, harg9.read_unread, harg10.read_unread]
  repeat rw [View.ld_unit_zero (by decide)]

theorem out_B_10 (hc : ¬cond0_0 i) :
    out0_B_10 c i arg3 harg3 arg4 harg4 arg5 harg5 arg6 harg6 arg7 harg7 arg8 harg8 arg9 harg9 arg10 harg10 arg11 harg11 arg12 harg12 arg13 harg13 hc x0 x1 x2 x3 x4 x5 x6 x7 xo
      = k0_pay4 (k0_pay5 x0 x1 x2 x3 x4) (k0_pay7 x5) xo := by
  unfold out0_B_10
  rw [View.read_writes_eq_canon _ _ _ (fun _ => cover0_B_10 ..)]
  unfold kernelRun0_B
  dsimp only
  sl_unfold_words
  simp (disch := decide) only [View.canon_cons_unit_lit', View.readCov_cons_unit_lit', View.readAt_eq_ld, harg3.read_unread, harg4.read_unread, harg5.read_unread, harg6.read_unread, harg7.read_unread, harg8.read_unread, harg9.read_unread, harg10.read_unread, harg13.read_unread]
  repeat rw [View.ld_unit_zero (by decide)]

end

variable (p : Vec Ideal S512x2304 .bf16) (w : Vec Ideal S2304x1024 .bf16) (a b e x r : Vec Ideal S512x1024 .f32) (g : Vec Ideal S1x1024 .f32)

/-- A point's cotangents before the norm. -/
def dh (s : Fin 512) (q : Fin 1024) : EReal := (∑ f : Fin 2304, p (ix2 s f) * w (ix2 f q)) + a (ix2 s q) + b (ix2 s q) + e (ix2 s q)

theorem pay5_val (s : Fin 512) (q : Fin 1024) : k0_pay5 p w a b e (ix2 s q) = dh p w a b e s q := by
  unfold dh
  pointwise [k0_pay5]

theorem pay6_val (s : Fin 512) : k0_pay6 x (ix2 s 0) = irms fun q => x (ix2 s q) := by
  unfold irms
  pointwise [k0_pay6]

theorem pay7_val (s : Fin 512) (q : Fin 1024) : k0_pay7 x (ix2 s q) = x (ix2 s q) * irms fun q => x (ix2 s q) := by
  pointwise [k0_pay7]
  rw [pay6_val]

theorem pay8_val (s : Fin 512) (q : Fin 1024) : k0_pay8 p w a b e g (ix2 s q) = dh p w a b e s q * g (ix2 0 q) := by
  pointwise [k0_pay8]
  rw [pay5_val]

theorem pay9_val (s : Fin 512) : k0_pay9 p w a b e x g (ix2 s 0)
    = ∑ k : Fin 1024, dh p w a b e s k * g (ix2 0 k) * (x (ix2 s k) * irms fun q => x (ix2 s q)) := by
  pointwise [k0_pay9]
  simp only [pay8_val, pay7_val]

theorem pay1_val (s : Fin 512) (q : Fin 1024) :
    k0_pay1 r (k0_pay6 x) (k0_pay7 x) (k0_pay8 p w a b e g) (k0_pay9 p w a b e x g) Cert.Dn.width (ix2 s q)
      = Cert.Dn.dx (fun q => x (ix2 s q)) (dh p w a b e s) (fun q => g (ix2 0 q)) (fun q => r (ix2 s q)) q := by
  unfold Cert.Dn.dx
  pointwise [k0_pay1]
  simp only [pay6_val, pay7_val, pay8_val, pay9_val]

theorem pay2_val (i : S512x1024.Idx) (y : Vec Ideal S512x1024 .f32) (u : FVec Ideal S512x1 .f32) (v z : FVec Ideal S512x1024 .f32)
    (t : FVec Ideal S512x1 .f32) (k : EReal) : (k0_pay2 (F := Ideal) y u v z t k i : EReal) = k0_pay1 (F := Ideal) y u v z t k i := rfl

theorem pay3_val (q : Fin 1024) : k0_pay3 (F := Ideal) (ix2 0 q) = Ideal.ofBits .f32 0x00000000#32 := by
  pointwise [k0_pay3]

theorem pay4_val (y : Vec Ideal S1x1024 .f32) (q : Fin 1024) : k0_pay4 (k0_pay5 p w a b e) (k0_pay7 x) y (ix2 0 q)
    = y (ix2 0 q) + ∑ s : Fin 512, dh p w a b e s q * (x (ix2 s q) * irms fun q => x (ix2 s q)) := by
  pointwise [k0_pay4]
  simp only [pay5_val, pay7_val]

end Cert.Mix.Ker
-- ==== Proof.MixVal.lean ====
/- The input norm's gradients: the kernel's arrays, from its blocks. -/
module

public import proofs.«01_k».proof.Proof.MixPay

@[expose] public section

set_option maxRecDepth 16384

noncomputable section

namespace Cert.Mix

open Idealize.ShloMosaic Cert.MixKernelIdeal Cert.MixKernelIdeal.Facts₀

open Cert.Dn (irms)

variable (x : S4096x1024.Idx → EReal) (g : S1x1024.Idx → EReal) (w : S1024x2304.Idx → EReal) (p : S4096x2304.Idx → EReal)
  (a b e r : S4096x1024.Idx → EReal)

/-- The cotangent before the norm: the attention projection's, and the three branches' beside it. -/
def dh (s : Fin 4096) (q : Fin 1024) : EReal := (∑ f : Fin 2304, p (ix2 s f) * w (ix2 q f)) + a (ix2 s q) + b (ix2 s q) + e (ix2 s q)

/-- The two results: the input's cotangent, on top of the residual's, -/
def dxs (j : S4096x1024.Idx) : EReal :=
  Cert.Dn.dx (fun q => x (ix2 (j 0) q)) (dh w p a b e (j 0)) (fun q => g (ix2 0 q)) (fun q => r (ix2 (j 0) q)) (j 1)

/-- and the gain's. -/
def dg (j : S1x1024.Idx) : EReal :=
  ∑ s : Fin (8 * 512), dh w p a b e s (j 1) * (x (ix2 s (j 1)) * irms fun q => x (ix2 s q))

/-- The host's turn of the weights. -/
def turn (w : Vec Ideal S1024x2304 .f32) : Vec Ideal S2304x1024 .bf16 :=
  truncf (F := Ideal) .bf16 (transpose S2304x1024 [1, 0] w transposes_S1024x2304_S2304x1024_1_0) bitsLt_bf16_f32

theorem turn_val (w : Vec Ideal S1024x2304 .f32) (l : Fin 2304) (k : Fin 1024) : turn w (ix2 l k) = w (ix2 k l) := by
  pointwise [turn]

end Cert.Mix

namespace Cert.Mix.Ker

open Idealize.ShloMosaic Cert.MixKernelIdeal Cert.MixKernelIdeal.Gen Idealize.ShloMosaic.TcCoe Idealize.SL.Sem
open Cert.Dn (irms)

theorem lt_N (t : Fin cfg0.N) : t.val < 8 := lt_of_lt_of_eq t.isLt N_0

/-- The array's row of a point's row. -/
abbrev row (i : ℕ) (s : Fin 512) : Fin 4096 := Sums.at_ 8 512 i s (by decide)

theorem row_val (t : Fin cfg0.N) (s : Fin 512) : (row t.val s).val = t.val * 512 + s.val :=
  congrArg (· * 512 + s.val) (Nat.mod_eq_of_lt (lt_N t))

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![t.val, 0] ∧ win0_9.index t = ![t.val, 0] ∧ win0_10.index t = ![0, 0] :=
  (by decide +kernel : ∀ t : Fin grid0.N, _)

/-- The windows read. -/
theorem rd_p (A : S4096x2304.Idx → EReal) (t : Fin cfg0.N) (s : Fin 512) (q : Fin 2304) :
    ((cfg0.win 0).blk t).view.read (Elt Ideal) A (ix2 s q) = A (ix2 (row t.val s) q) := by
  refine congrArg A (funext fun a => ?_)
  match a with
  | ⟨0, _⟩ => exact Fin.ext (by blk_simp [idx t]; exact (row_val t s).symm)
  | ⟨1, _⟩ => exact Fin.ext (by blk_simp [idx t])

theorem rd_w (A : S2304x1024.Idx → EReal) (t : Fin cfg0.N) (s : Fin 2304) (q : Fin 1024) :
    ((cfg0.win 1).blk t).view.read (Elt Ideal) A (ix2 s q) = A (ix2 s q) := by
  refine congrArg A (funext fun a => ?_)
  match a with
  | ⟨0, _⟩ => exact Fin.ext (by blk_simp [idx t])
  | ⟨1, _⟩ => exact Fin.ext (by blk_simp [idx t])

theorem rd_a (A : S4096x1024.Idx → EReal) (t : Fin cfg0.N) (s : Fin 512) (q : Fin 1024) :
    ((cfg0.win 2).blk t).view.read (Elt Ideal) A (ix2 s q) = A (ix2 (row t.val s) q) := by
  refine congrArg A (funext fun a => ?_)
  match a with
  | ⟨0, _⟩ => exact Fin.ext (by blk_simp [idx t]; exact (row_val t s).symm)
  | ⟨1, _⟩ => exact Fin.ext (by blk_simp [idx t])

theorem rd_b (A : S4096x1024.Idx → EReal) (t : Fin cfg0.N) (s : Fin 512) (q : Fin 1024) :
    ((cfg0.win 3).blk t).view.read (Elt Ideal) A (ix2 s q) = A (ix2 (row t.val s) q) := by
  refine congrArg A (funext fun a => ?_)
  match a with
  | ⟨0, _⟩ => exact Fin.ext (by blk_simp [idx t]; exact (row_val t s).symm)
  | ⟨1, _⟩ => exact Fin.ext (by blk_simp [idx t])

theorem rd_e (A : S4096x1024.Idx → EReal) (t : Fin cfg0.N) (s : Fin 512) (q : Fin 1024) :
    ((cfg0.win 4).blk t).view.read (Elt Ideal) A (ix2 s q) = A (ix2 (row t.val s) q) := by
  refine congrArg A (funext fun a => ?_)
  match a with
  | ⟨0, _⟩ => exact Fin.ext (by blk_simp [idx t]; exact (row_val t s).symm)
  | ⟨1, _⟩ => exact Fin.ext (by blk_simp [idx t])

theorem rd_x (A : S4096x1024.Idx → EReal) (t : Fin cfg0.N) (s : Fin 512) (q : Fin 1024) :
    ((cfg0.win 5).blk t).view.read (Elt Ideal) A (ix2 s q) = A (ix2 (row t.val s) q) := by
  refine congrArg A (funext fun a => ?_)
  match a with
  | ⟨0, _⟩ => exact Fin.ext (by blk_simp [idx t]; exact (row_val t s).symm)
  | ⟨1, _⟩ => exact Fin.ext (by blk_simp [idx t])

theorem rd_r (A : S4096x1024.Idx → EReal) (t : Fin cfg0.N) (s : Fin 512) (q : Fin 1024) :
    ((cfg0.win 6).blk t).view.read (Elt Ideal) A (ix2 s q) = A (ix2 (row t.val s) q) := by
  refine congrArg A (funext fun a => ?_)
  match a with
  | ⟨0, _⟩ => exact Fin.ext (by blk_simp [idx t]; exact (row_val t s).symm)
  | ⟨1, _⟩ => exact Fin.ext (by blk_simp [idx t])

theorem rd_g (A : S1x1024.Idx → EReal) (t : Fin cfg0.N) (q : Fin 1024) :
    ((cfg0.win 7).blk t).view.read (Elt Ideal) A (ix2 0 q) = A (ix2 0 q) := by
  refine congrArg A (funext fun a => ?_)
  match a with
  | ⟨0, _⟩ => exact Fin.ext (by blk_simp [idx t])
  | ⟨1, _⟩ => exact Fin.ext (by blk_simp [idx t])

/-- Blocks whose windows hold an array's rows make those rows' cotangents before the norm. -/
theorem dh_blk {d : Vec Ideal S512x2304 .bf16} {u : Vec Ideal S2304x1024 .bf16} {y z k : Vec Ideal S512x1024 .f32} {v : Vec Ideal S1024x2304 .f32}
    {p : S4096x2304.Idx → EReal} {a b e : S4096x1024.Idx → EReal} {s : Fin 512} {l : Fin 4096} {q : Fin 1024}
    (h0 : ∀ f, d (ix2 s f) = p (ix2 l f)) (h1 : ∀ f, u (ix2 f q) = turn v (ix2 f q)) (h2 : y (ix2 s q) = a (ix2 l q))
    (h3 : z (ix2 s q) = b (ix2 l q)) (h4 : k (ix2 s q) = e (ix2 l q)) : dh d u y z k s q = Mix.dh v p a b e l q := by
  unfold dh Mix.dh
  simp only [h0, h1, h2, h3, h4, turn_val]

/-- So a point's part of the gain's cotangent is its rows'. -/
theorem dg_blk {D : Fin 512 → Fin 1024 → EReal} {y : Vec Ideal S512x1024 .f32} {v : Vec Ideal S1024x2304 .f32} {x : S4096x1024.Idx → EReal}
    {p : S4096x2304.Idx → EReal} {a b e : S4096x1024.Idx → EReal} {i : ℕ} {q : Fin 1024}
    (h0 : ∀ s, D s q = Mix.dh v p a b e (row i s) q) (h1 : ∀ s k, y (ix2 s k) = x (ix2 (row i s) k)) :
    ∑ s : Fin 512, D s q * (y (ix2 s q) * irms fun k => y (ix2 s k))
      = ∑ s : Fin 512, Mix.dh v p a b e (row i s) q * (x (ix2 (row i s) q) * irms fun k => x (ix2 (row i s) k)) := by
  simp only [h0, h1]

variable (m : (ℓ : Loc nD τ sig) → Buf (Elt Ideal) ℓ) (c : Dev nD)

/-- What the launch reads. -/
structure Reads (x : S4096x1024.Idx → EReal) (g : S1x1024.Idx → EReal) (v : Vec Ideal S1024x2304 .f32) (p : S4096x2304.Idx → EReal)
    (a b e r : S4096x1024.Idx → EReal) : Prop where
  hp : V m c main_v0 = p
  hw : V m c main_v2 = turn v
  ha : V m c main_arg4 = a
  hb : V m c main_arg5 = b
  he : V m c main_arg6 = e
  hx : V m c main_arg0 = x
  hr : V m c main_arg7 = r
  hg : V m c main_arg1 = g

/-- The arrays after a point: the input's cotangent, twice, and the gain's so far. -/
theorem outs (t : Fin cfg0.N) :
    (outsAt0 m c t.val t.isLt).1 = k0_pay1 (iblk m c 6 t) (k0_pay6 (iblk m c 5 t)) (k0_pay7 (iblk m c 5 t))
      (k0_pay8 (iblk m c 0 t) (iblk m c 1 t) (iblk m c 2 t) (iblk m c 3 t) (iblk m c 4 t) (iblk m c 7 t))
      (k0_pay9 (iblk m c 0 t) (iblk m c 1 t) (iblk m c 2 t) (iblk m c 3 t) (iblk m c 4 t) (iblk m c 5 t) (iblk m c 7 t)) Cert.Dn.width
    ∧ (outsAt0 m c t.val t.isLt).2.1 = k0_pay2 (iblk m c 6 t) (k0_pay6 (iblk m c 5 t)) (k0_pay7 (iblk m c 5 t))
      (k0_pay8 (iblk m c 0 t) (iblk m c 1 t) (iblk m c 2 t) (iblk m c 3 t) (iblk m c 4 t) (iblk m c 7 t))
      (k0_pay9 (iblk m c 0 t) (iblk m c 1 t) (iblk m c 2 t) (iblk m c 3 t) (iblk m c 4 t) (iblk m c 5 t) (iblk m c 7 t)) Cert.Dn.width := by
  by_cases h0 : t.val % 8 = 0
  · rw [outsAt0_A m c t h0]
    dsimp only
    rw [out_A_8, out_A_9]
    exact ⟨rfl, rfl⟩
  · rw [outsAt0_B m c t h0]
    dsimp only
    rw [out_B_8, out_B_9]
    exact ⟨rfl, rfl⟩

/-- One run of tokens' share of the gain's cotangent, -/
def run (x : S4096x1024.Idx → EReal) (w : S1024x2304.Idx → EReal) (p : S4096x2304.Idx → EReal) (a b e : S4096x1024.Idx → EReal)
    (q : Fin 1024) (k : ℕ) : EReal :=
  ∑ s : Fin 512, Mix.dh w p a b e (row k s) q * (x (ix2 (row k s) q) * irms fun q => x (ix2 (row k s) q))

/-- and all eight make it. -/
theorem runs (x : S4096x1024.Idx → EReal) (w : S1024x2304.Idx → EReal) (p : S4096x2304.Idx → EReal) (a b e : S4096x1024.Idx → EReal)
    (q : Fin 1024) : ∑ k ∈ Finset.range (7 + 1), run x w p a b e q k = dg x w p a b e (ix2 0 q) :=
  Sums.sum_runs 8 512 (by decide) fun s => Mix.dh w p a b e s q * (x (ix2 s q) * irms fun q => x (ix2 s q))

variable (x : S4096x1024.Idx → EReal) (g : S1x1024.Idx → EReal) (v : Vec Ideal S1024x2304 .f32) (p : S4096x2304.Idx → EReal)
  (a b e r : S4096x1024.Idx → EReal) (H : Reads m c x g v p a b e r)
include H

theorem dh_at (t : Fin cfg0.N) (s : Fin 512) (q : Fin 1024) :
    dh (iblk m c 0 t) (iblk m c 1 t) (iblk m c 2 t) (iblk m c 3 t) (iblk m c 4 t) s q = Mix.dh v p a b e (row t.val s) q :=
  dh_blk (fun f => (rd_p _ t s f).trans (congrFun H.hp _)) (fun f => (rd_w _ t f q).trans (congrFun H.hw _))
    ((rd_a _ t s q).trans (congrFun H.ha _)) ((rd_b _ t s q).trans (congrFun H.hb _)) ((rd_e _ t s q).trans (congrFun H.he _))

theorem x_at (t : Fin cfg0.N) (s : Fin 512) (q : Fin 1024) : (iblk m c 5 t : Vec Ideal S512x1024 .f32) (ix2 s q) = x (ix2 (row t.val s) q) :=
  (rd_x _ t s q).trans (congrFun H.hx _)

/-- The input's cotangent at a point. -/
theorem dx_at (t : Fin cfg0.N) (s : Fin 512) (q : Fin 1024) :
    k0_pay1 (iblk m c 6 t) (k0_pay6 (iblk m c 5 t)) (k0_pay7 (iblk m c 5 t))
      (k0_pay8 (iblk m c 0 t) (iblk m c 1 t) (iblk m c 2 t) (iblk m c 3 t) (iblk m c 4 t) (iblk m c 7 t))
      (k0_pay9 (iblk m c 0 t) (iblk m c 1 t) (iblk m c 2 t) (iblk m c 3 t) (iblk m c 4 t) (iblk m c 5 t) (iblk m c 7 t)) Cert.Dn.width (ix2 s q)
      = dxs x g v p a b e r (ix2 (row t.val s) q) := by
  refine (pay1_val _ _ _ _ _ _ _ _ s q).trans ?_
  unfold dxs
  refine congr (congr (congr (congr (congrArg Cert.Dn.dx ?_) ?_) ?_) ?_) rfl
  · exact funext fun k => x_at m c x g v p a b e r H t s k
  · exact funext fun k => dh_at m c x g v p a b e r H t s k
  · exact funext fun k => (rd_g _ t k).trans (congrFun H.hg _)
  · exact funext fun k => (rd_r _ t s k).trans (congrFun H.hr _)

theorem part (t : Fin cfg0.N) (y : Vec Ideal S1x1024 .f32) (q : Fin 1024) :
    k0_pay4 (k0_pay5 (iblk m c 0 t) (iblk m c 1 t) (iblk m c 2 t) (iblk m c 3 t) (iblk m c 4 t)) (k0_pay7 (iblk m c 5 t)) y (ix2 0 q)
      = y (ix2 0 q) + run x v p a b e q t.val :=
  (pay4_val _ _ _ _ _ _ y q).trans (congrArg (y (ix2 0 q) + ·)
    (dg_blk (fun s => dh_at m c x g v p a b e r H t s q) fun s k => x_at m c x g v p a b e r H t s k))

theorem acc (n : ℕ) (hn : n < cfg0.N) (q : Fin 1024) : (outsAt0 m c n hn).2.2 (ix2 0 q)
    = ∑ k ∈ Finset.range (n % 8 + 1), run x v p a b e q k := by
  refine Sums.acc_runs 8 cfg0.N (by decide) (fun n hn => (outsAt0 m c n hn).2.2 (ix2 0 q)) (fun _ k => run x v p a b e q k)
    (fun n hn h => ?_) (fun n hn h => ?_) n hn
  · have hm : n % 8 = n := Nat.mod_eq_of_lt (lt_N ⟨n, hn⟩)
    rw [hm, outsAt0_A m c ⟨n, hn⟩ h]
    dsimp only
    rw [out_A_10, part m c x g v p a b e r H, pay3_val, Ideal.ofBits_zero, zero_add]
  · have hm : (n + 1) % 8 = n + 1 := Nat.mod_eq_of_lt (lt_N ⟨n + 1, hn⟩)
    rw [hm, outsAt0_B m c ⟨n + 1, hn⟩ h]
    dsimp only
    rw [out_B_10, part m c x g v p a b e r H]
    rfl

/-- The kernel's arrays end holding the gradients. -/
theorem final_dx : (dats m 0 c).arrAt 8 cfg0.N = dxs x g v p a b e r := by
  refine (dats m 0 c).arrAt_eq_of_covers 8 _ (by decide +kernel) fun t hf y => ?_
  have he : ((cfg0.win 8).blk t).view.emb y = ix2 (row t.val (y 0)) (y 1) := by
    funext a
    match a with
    | ⟨0, _⟩ => exact Fin.ext (by blk_simp [idx t]; exact (row_val t (y 0)).symm)
    | ⟨1, _⟩ => exact Fin.ext (by blk_simp [idx t]; rfl)
  blk_simp
  rw [after0_8, (outs m c t).1]
  refine Eq.trans ?_ (congrArg (dxs x g v p a b e r) he).symm
  exact (congrArg _ (eq_ix2 y)).trans (dx_at m c x g v p a b e r H t (y 0) (y 1))

theorem final_dxb : (dats m 0 c).arrAt 9 cfg0.N = dxs x g v p a b e r := by
  refine (dats m 0 c).arrAt_eq_of_covers 9 _ (by decide +kernel) fun t hf y => ?_
  have he : ((cfg0.win 9).blk t).view.emb y = ix2 (row t.val (y 0)) (y 1) := by
    funext a
    match a with
    | ⟨0, _⟩ => exact Fin.ext (by blk_simp [idx t]; exact (row_val t (y 0)).symm)
    | ⟨1, _⟩ => exact Fin.ext (by blk_simp [idx t]; rfl)
  blk_simp
  rw [after0_9, (outs m c t).2]
  refine Eq.trans ?_ (congrArg (dxs x g v p a b e r) he).symm
  exact (congrArg _ (eq_ix2 y)).trans ((pay2_val _ _ _ _ _ _ _).trans (dx_at m c x g v p a b e r H t (y 0) (y 1)))

omit H in
theorem eq_first (y : S1x1024.Idx) : y = ix2 0 (y 1) := by
  funext a
  match a with
  | ⟨0, _⟩ => exact Subsingleton.elim (α := Fin 1) _ _
  | ⟨1, _⟩ => rfl

theorem final_dg : (dats m 0 c).arrAt 10 cfg0.N = dg x v p a b e := by
  refine (dats m 0 c).arrAt_eq_of_covers 10 _ (by decide +kernel) fun t hf y => ?_
  have h7 : t.val % 8 = 7 := (flush0_10 t).mp hf
  have he : ((cfg0.win 10).blk t).view.emb y = ix2 0 (y 1) := by
    funext a
    match a with
    | ⟨0, _⟩ => exact Fin.ext (by blk_simp [idx t]; rfl)
    | ⟨1, _⟩ => exact Fin.ext (by blk_simp [idx t]; rfl)
  blk_simp
  rw [after0_10]
  refine Eq.trans ?_ (congrArg (dg x v p a b e) he).symm
  refine (congrArg _ (eq_first y)).trans ((acc m c x g v p a b e r H t.val t.isLt (y 1)).trans ?_)
  rw [h7]
  exact runs _ _ _ _ _ _ (y 1)

end Cert.Mix.Ker
-- ==== Proof.MixClaims.lean ====
/- The claims on the input norm's gradients, each from its program's run, and the reference's values. -/
module

public import proofs.«01_k».proof.Defs
public import proofs.«01_k».proof.Proof.MixVal
public import proofs.«01_k».proof.Proof.DnRef
public import proofs.«01_k».proof.Proof.Gen.MixReferenceIdeal.Read
public import proofs.«01_k».proof.Proof.Gen.MixKernel.Frame
public import proofs.«01_k».proof.Proof.Gen.MixReferenceIdeal.Run
public import Idealize.ShloMosaic.Lib.Claim
public import Idealize.ShloMosaic.Lib.StableHlo.Run

@[expose] public section

set_option maxRecDepth 16384

noncomputable section

namespace Cert.Mix.Ref

open Idealize.ShloMosaic Cert.MixReferenceIdeal Cert.MixReferenceIdeal.Read
open Cert.Dn (irms)
open Cert.Dn.Ref (msq back)

variable (x0 : Vec Ideal S4096x1024 .f32) (x1 : Vec Ideal S1x1024 .f32) (x2 : Vec Ideal S1024x2304 .f32) (x3 : Vec Ideal S4096x2304 .f32)
  (x4 x5 x6 x7 : Vec Ideal S4096x1024 .f32)

theorem v20_val (s : Fin 4096) (q : Fin 1024) : val_main_v20 (F := Ideal) x2 x3 (ix2 s q) = ∑ f : Fin 2304, x3 (ix2 s f) * x2 (ix2 q f) := by
  pointwise [val_main_v20]

theorem v21_val (s : Fin 4096) (q : Fin 1024) : val_main_v21 (F := Ideal) x2 x3 x4 x5 x6 (ix2 s q) = dh x2 x3 x4 x5 x6 s q := by
  pointwise [val_main_v21, val_main_v19, val_main_v18]
  rw [v20_val]
  unfold dh
  generalize (∑ f : Fin 2304, x3 (ix2 s f) * x2 (ix2 q f) : EReal) = z
  rw [add_comm _ z, ← add_assoc, ← add_assoc]

theorem v7_val (s : Fin 4096) : val_main_v7 (F := Ideal) x0 (ix2 s 0) = msq fun q => x0 (ix2 s q) := by
  unfold msq
  pointwise [val_main_v7, val_main_v6, val_main_v5, val_main_v4, val_main_v3, val_main_v2, val_main_v1, val_main_cst, val_main_cst_0, val_main_cst_1]

theorem v8_val (s : Fin 4096) : val_main_v8 (F := Ideal) x0 (ix2 s 0) = irms fun q => x0 (ix2 s q) := by
  pointwise [val_main_v8]
  rw [v7_val]
  rfl

theorem v13_val (s : Fin 4096) (q : Fin 1024) : val_main_v13 (F := Ideal) x0 (ix2 s q) = x0 (ix2 s q) * irms fun q => x0 (ix2 s q) := by
  pointwise [val_main_v13, val_main_v12]
  rw [v8_val]

theorem v26_val (s : Fin 4096) (q : Fin 1024) : val_main_v26 (F := Ideal) x1 x2 x3 x4 x5 x6 (ix2 s q) = dh x2 x3 x4 x5 x6 s q * x1 (ix2 0 q) := by
  pointwise [val_main_v26, val_main_v25, val_main_v14, val_main_v0]
  rw [v21_val]

theorem v38_val (s : Fin 4096) (q : Fin 1024) : val_main_v38 (F := Ideal) x0 x1 x2 x3 x4 x5 x6 (ix2 s q)
    = back (fun q => x0 (ix2 s q)) (dh x2 x3 x4 x5 x6 s) fun q => x1 (ix2 0 q) := by
  unfold back
  pointwise [val_main_v38, val_main_v37, val_main_v36, val_main_v35, val_main_v34, val_main_v30, val_main_v29, val_main_v28, val_main_v11, val_main_v10,
    val_main_v9, val_main_cst_2, val_main_cst_5, val_main_cst_6, val_main_cst_7]
  simp only [v26_val]
  refine (Fin.sum_univ_one _).trans ?_
  rw [v8_val, v7_val]

theorem v42_val (s : Fin 4096) (q : Fin 1024) : val_main_v42 (F := Ideal) x0 x1 x2 x3 x4 x5 x6 x7 (ix2 s q)
    = x7 (ix2 s q) + dh x2 x3 x4 x5 x6 s q * x1 (ix2 0 q) * (irms fun q => x0 (ix2 s q))
      + x0 (ix2 s q) * back (fun q => x0 (ix2 s q)) (dh x2 x3 x4 x5 x6 s) (fun q => x1 (ix2 0 q))
      + back (fun q => x0 (ix2 s q)) (dh x2 x3 x4 x5 x6 s) (fun q => x1 (ix2 0 q)) * x0 (ix2 s q) := by
  pointwise [val_main_v42, val_main_v41, val_main_v40, val_main_v39, val_main_v33, val_main_v32, val_main_v31]
  simp only [v8_val, v26_val, v38_val]

/-- The reference ends with the input's cotangent, -/
theorem dx_val : val_main_v42 (F := Ideal) x0 x1 x2 x3 x4 x5 x6 x7 = dxs x0 x1 x2 x3 x4 x5 x6 x7 := by
  refine funext fun j => (congrArg _ (eq_ix2 j)).trans ?_
  refine (v42_val x0 x1 x2 x3 x4 x5 x6 x7 (j 0) (j 1)).trans ?_
  exact Cert.Dn.Ref.row_val (fun q => x0 (ix2 (j 0) q)) (dh x2 x3 x4 x5 x6 (j 0)) (fun q => x1 (ix2 0 q)) (fun q => x7 (ix2 (j 0) q)) (j 1)

/-- narrowed too, -/
theorem dxb_val : val_main_v43 (F := Ideal) x0 x1 x2 x3 x4 x5 x6 x7 = dxs x0 x1 x2 x3 x4 x5 x6 x7 :=
  dx_val x0 x1 x2 x3 x4 x5 x6 x7

theorem v44_val (q : Fin 1024) : val_main_v44 (F := Ideal) x0 x2 x3 x4 x5 x6 (ix2 0 q)
    = ∑ s : Fin 4096, dh x2 x3 x4 x5 x6 s q * (x0 (ix2 s q) * irms fun q => x0 (ix2 s q)) := by
  pointwise [val_main_v44, val_main_v27, val_main_v24, val_main_v23, val_main_v22, val_main_cst_3, val_main_cst_4]
  refine (Fin.sum_univ_one _).trans (Finset.sum_congr rfl fun s _ => ?_)
  rw [v13_val, v21_val, mul_comm]

/-- and with the gain's. -/
theorem dg_val : val_main_v44 (F := Ideal) x0 x2 x3 x4 x5 x6 = dg x0 x2 x3 x4 x5 x6 :=
  funext fun j => (congrArg _ (Ker.eq_first j)).trans (v44_val x0 x2 x3 x4 x5 x6 (j 1))

end Cert.Mix.Ref

namespace Cert.Mix

open Idealize.ShloMosaic Idealize.ShloMosaic.TcCoe Idealize.SL.Sem

/-- The reference keeps its arguments, and has no semaphore. -/
theorem frame_reference : Cert.quiescent_MixReferenceIdeal := fun m g _ =>
  (θ_run Cert.MixReferenceIdeal.defs _ _).mono
    (fun r h => ⟨fun c => (h c).2.2.2, sem_eq_zero_of_no_sems (by decide) r.2⟩)
    (Cert.MixReferenceIdeal.Value.run (F := Ideal) m g)

section

open Cert.MixKernelIdeal Cert.MixKernelIdeal.Gen Idealize.ShloMosaic.StableHlo Cert.MixReferenceIdeal.Read

variable (m : (ℓ : Loc nD τ sig) → Buf (Elt Ideal) ℓ) (c : Dev nD)

/-- What the host hands the launch: the arguments, whose narrowing changes no number, with the weights turned. -/
theorem host : Ker.Reads m c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h : V m c main_v0 = truncf (F := Ideal) .bf16 (m ((c : Thread nD τ).loc main_arg3)) bitsLt_bf16_f32 ∧ V m c main_v2 = turn (m ((c : Thread nD τ).loc main_arg2)) := by
    unfold V hostOps0
    refine ⟨?_, ?_⟩ <;> after_results_simp
    rfl
  exact ⟨h.1, h.2, V_main_arg4 m c, V_main_arg5 m c, V_main_arg6 m c, V_main_arg0 m c, V_main_arg7 m c, V_main_arg1 m c⟩

/-- Kernel and reference agree. -/
theorem algebraic : Cert.algebraic_MixKernelIdeal_MixReferenceIdeal := fun m g m' g' _ e =>
  ⟨fun c => dxs (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6)) (m ((c.tc : Thread _ _).loc main_arg7)),
    fun c => dxs (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6)) (m ((c.tc : Thread _ _).loc main_arg7)),
    fun c => dg (m ((c.tc : Thread _ _).loc main_arg0)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6)),
    (θ_run defs _ _).mono (fun r hr c => by
      obtain ⟨e0, e1, e2, k⟩ := hr c
      have h := host m c
      exact ⟨e0.trans (Ker.final_dx m c _ _ _ _ _ _ _ _ h), e1.trans (Ker.final_dxb m c _ _ _ _ _ _ _ _ h),
        e2.trans (Ker.final_dg m c _ _ _ _ _ _ _ _ h), k⟩) (Cert.MixKernelIdeal.Value.run_blocks m g),
    (θ_run Cert.MixReferenceIdeal.defs _ _).mono (fun r hr c => by
      obtain ⟨h0, h1, h2, h3, h4, h5, h6, h7⟩ := e c
      obtain ⟨e0, e1, e2, k⟩ := hr c
      have k0 := (e0.trans (val_main_v42_eq _ _)).trans (Ref.dx_val _ _ _ _ _ _ _ _)
      have k1 := (e1.trans (val_main_v43_eq _ _)).trans (Ref.dxb_val _ _ _ _ _ _ _ _)
      have k2 := (e2.trans (val_main_v44_eq _ _ _ _ _ _)).trans (Ref.dg_val _ _ _ _ _ _)
      rw [h0, h1, h2, h3, h4, h5, h6, h7] at k0
      rw [h0, h1, h2, h3, h4, h5, h6, h7] at k1
      rw [h0, h2, h3, h4, h5, h6] at k2
      exact ⟨k0, k1, k2, k⟩) (Cert.MixReferenceIdeal.Value.run (F := Ideal) m' g')⟩

end

end Cert.Mix
-- ==== Proof.ProjaVal.lean ====
/- The recurrent branch's projection: a product summed run by run of lanes into the kernel's accumulator. -/
module

public import proofs.«01_k».proof.Proof.Sums
public import proofs.«01_k».proof.Proof.Gen.ProjaKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Proja.Ker

open Idealize.ShloMosaic Cert.ProjaKernelIdeal Cert.ProjaKernelIdeal.Gen Idealize.ShloMosaic.TcCoe Idealize.SL.Sem

section

variable (c : Dev nD) (i : grid0.Coords) (arg3 : Memref sig .tc .vmem S2048x512 .bf16) (harg3 : arg3.IsWhole)
  (arg4 : Memref sig .tc .vmem S512x1024 .bf16) (harg4 : arg4.IsWhole) (arg5 : Memref sig .tc .vmem S2048x1024 .f32) (harg5 : arg5.IsWhole)
  (arg6 : Memref sig .tc .vmem S2048x1024 .f32) (harg6 : arg6.IsWhole) (x0 : Vec Ideal S2048x512 .bf16) (x1 : Vec Ideal S512x1024 .bf16)
  (xs : Vec Ideal S2048x1024 .f32)

/-- The accumulator after a first point, -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (fun _ => scover0_A_0 ..)]
  unfold kernelRun0_A
  dsimp only
  sl_unfold_words
  simp (disch := decide) only [View.canon_cons_unit_lit', View.readCov_cons_unit_lit']
  simp only [View.readAt_eq_ld, harg3.read_unread, harg4.read_unread]
  repeat rw [View.ld_unit_zero (by decide)]

/-- and after a last one, which also leaves its block. -/
theorem end_B (hc0 : ¬cond0_0 i) (hc1 : cond0_1 i) (hc2 : cond0_2 i) :
    sout0_B_0 c i arg3 harg3 arg4 harg4 arg5 harg5 arg6 harg6 hc0 hc1 hc2 x0 x1 xs = k0_pay3 x0 x1 xs
    ∧ out0_B_2 c i arg3 harg3 arg4 harg4 arg5 harg5 arg6 harg6 hc0 hc1 hc2 x0 x1 xs = k0_pay3 x0 x1 xs := by
  unfold sout0_B_0 out0_B_2
  rw [View.read_writes_eq_canon _ _ _ (fun _ => scover0_B_0 ..), View.read_writes_eq_canon _ _ _ (fun _ => cover0_B_2 ..)]
  unfold kernelRun0_B
  dsimp only
  sl_unfold_words
  simp (disch := decide) only [View.canon_cons_unit_lit', View.readCov_cons_unit_lit']
  simp only [View.readAt_eq_ld, harg3.read_unread, harg4.read_unread, harg6.read_unread]
  repeat rw [View.ld_unit_zero (by decide)]
  exact ⟨rfl, rfl⟩

end

theorem pay2_val (x0 : Vec Ideal S2048x512 .bf16) (x1 : Vec Ideal S512x1024 .bf16) (r : Fin 2048) (n : Fin 1024) :
    k0_pay2 x0 x1 (ix2 r n) = ∑ s : Fin 512, x0 (ix2 r s) * x1 (ix2 s n) := by
  pointwise [k0_pay2, k0_pay1]

theorem pay3_val (x0 : Vec Ideal S2048x512 .bf16) (x1 : Vec Ideal S512x1024 .bf16) (a : Vec Ideal S2048x1024 .f32) (r : Fin 2048) (n : Fin 1024) :
    k0_pay3 x0 x1 a (ix2 r n) = a (ix2 r n) + ∑ s : Fin 512, x0 (ix2 r s) * x1 (ix2 s n) := by
  pointwise [k0_pay3, k0_pay1]

end Cert.Proja.Ker

namespace Cert.Proja

open Idealize.ShloMosaic Cert.ProjaKernelIdeal

/-- The projection: a token's row times a lane's weights. -/
def lin (d : S4096x1024.Idx → EReal) (w : S1024x1024.Idx → EReal) (j : S4096x1024.Idx) : EReal :=
  ∑ k : Fin (2 * 512), d (ix2 (j 0) k) * w (ix2 k (j 1))

end Cert.Proja

namespace Cert.Proja.Ker

open Idealize.ShloMosaic Cert.ProjaKernelIdeal Cert.ProjaKernelIdeal.Gen Idealize.ShloMosaic.TcCoe Idealize.SL.Sem

theorem lt_N (t : Fin cfg0.N) : t.val < 4 := lt_of_lt_of_eq t.isLt N_0

/-- The array's token and lane of a point's token and lane. -/
abbrev tok (i : ℕ) (r : Fin 2048) : Fin 4096 := Sums.at_ 2 2048 i r (by decide)
abbrev lane (k : ℕ) (s : Fin 512) : Fin 1024 := Sums.at_ 2 512 k s (by decide)

theorem tok_val (t : Fin cfg0.N) (r : Fin 2048) : (tok (t.val / 2) r).val = t.val / 2 * 2048 + r.val := by
  have := lt_N t
  exact congrArg (· * 2048 + r.val) (Nat.mod_eq_of_lt (by omega))

theorem lane_val (t : Fin cfg0.N) (s : Fin 512) : (lane (t.val % 2) s).val = t.val % 2 * 512 + s.val :=
  congrArg (· * 512 + s.val) (Nat.mod_mod _ _)

theorem idx : ∀ t : Fin cfg0.N, win0_0.index t = ![t.val / 2, t.val % 2] ∧ win0_1.index t = ![t.val % 2, 0]
    ∧ win0_2.index t = ![t.val / 2, 0] :=
  (by decide +kernel : ∀ t : Fin grid0.N, _)

/-- The windows read. -/
theorem rd_h (A : S4096x1024.Idx → EReal) (t : Fin cfg0.N) (r : Fin 2048) (s : Fin 512) :
    ((cfg0.win 0).blk t).view.read (Elt Ideal) A (ix2 r s) = A (ix2 (tok (t.val / 2) r) (lane (t.val % 2) s)) := by
  refine congrArg A (funext fun a => ?_)
  match a with
  | ⟨0, _⟩ => exact Fin.ext (by blk_simp [idx t]; exact (tok_val t r).symm)
  | ⟨1, _⟩ => exact Fin.ext (by blk_simp [idx t]; exact (lane_val t s).symm)

theorem rd_w (A : S1024x1024.Idx → EReal) (t : Fin cfg0.N) (s : Fin 512) (q : Fin 1024) :
    ((cfg0.win 1).blk t).view.read (Elt Ideal) A (ix2 s q) = A (ix2 (lane (t.val % 2) s) q) := by
  refine congrArg A (funext fun a => ?_)
  match a with
  | ⟨0, _⟩ => exact Fin.ext (by blk_simp [idx t]; exact (lane_val t s).symm)
  | ⟨1, _⟩ => exact Fin.ext (by blk_simp [idx t])

/-- One run's products, summed, -/
def run (d : S4096x1024.Idx → EReal) (w : S1024x1024.Idx → EReal) (l : Fin 4096) (q : Fin 1024) (k : ℕ) : EReal :=
  ∑ s : Fin 512, d (ix2 l (lane k s)) * w (ix2 (lane k s) q)

/-- as a block whose windows hold the run's lanes gives them. -/
theorem blk_run {x : Vec Ideal S2048x512 .bf16} {y : Vec Ideal S512x1024 .bf16} {d : S4096x1024.Idx → EReal} {w : S1024x1024.Idx → EReal}
    {r : Fin 2048} {l : Fin 4096} {q : Fin 1024} {k : ℕ} (h0 : ∀ s, x (ix2 r s) = d (ix2 l (lane k s)))
    (h1 : ∀ s, y (ix2 s q) = w (ix2 (lane k s) q)) : ∑ s : Fin 512, x (ix2 r s) * y (ix2 s q) = run d w l q k := by
  unfold run
  simp only [h0, h1]

/-- All the runs make the projection. -/
theorem runs_lin (d : S4096x1024.Idx → EReal) (w : S1024x1024.Idx → EReal) (l : Fin 4096) (q : Fin 1024) :
    ∑ k ∈ Finset.range (1 + 1), run d w l q k = lin d w (ix2 l q) :=
  Sums.sum_runs 2 512 (by decide) fun k => d (ix2 l k) * w (ix2 k q)

variable (m : (ℓ : Loc nD τ sig) → Buf (Elt Ideal) ℓ) (c : Dev nD) (d : S4096x1024.Idx → EReal) (w : S1024x1024.Idx → EReal)
  (h0 : V m c main_v0 = d) (h1 : V m c main_v1 = w)
include h0 h1

theorem first (t : Fin cfg0.N) (r : Fin 2048) (q : Fin 1024) :
    k0_pay2 (iblk m c 0 t) (iblk m c 1 t) (ix2 r q) = run d w (tok (t.val / 2) r) q (t.val % 2) :=
  (pay2_val _ _ r q).trans (blk_run (fun s => (rd_h _ t r s).trans (congrFun h0 _)) fun s => (rd_w _ t s q).trans (congrFun h1 _))

theorem next (t : Fin cfg0.N) (x : Vec Ideal S2048x1024 .f32) (r : Fin 2048) (q : Fin 1024) :
    k0_pay3 (iblk m c 0 t) (iblk m c 1 t) x (ix2 r q) = x (ix2 r q) + run d w (tok (t.val / 2) r) q (t.val % 2) :=
  (pay3_val _ _ x r q).trans (congrArg (x (ix2 r q) + ·)
    (blk_run (fun s => (rd_h _ t r s).trans (congrFun h0 _)) fun s => (rd_w _ t s q).trans (congrFun h1 _)))

/-- The accumulator after a point is the sum of the runs so far. -/
theorem acc (n : ℕ) (hn : n < cfg0.N) (r : Fin 2048) (q : Fin 1024) : (outsAt0 m c n hn).2 (ix2 r q)
    = ∑ k ∈ Finset.range (n % 2 + 1), run d w (tok (n / 2) r) q k := by
  refine Sums.acc_runs 2 cfg0.N (by decide) (fun n hn => (outsAt0 m c n hn).2 (ix2 r q))
    (fun i k => run d w (tok i r) q k) (fun n hn h => ?_) (fun n hn h => ?_) n hn
  · rw [outsAt0_A m c ⟨n, hn⟩ h (by dsimp only; omega) (by dsimp only; omega)]
    dsimp only
    rw [sout_A, first m c d w h0 h1]
  · rw [outsAt0_B m c ⟨n + 1, hn⟩ h (by dsimp only; omega) (by dsimp only; omega)]
    dsimp only
    rw [(end_B ..).1, next m c d w h0 h1]
    rfl

omit h0 h1 in
/-- A last point leaves its accumulator. -/
theorem last (t : Fin cfg0.N) (h : t.val % 2 = 1) : (outsAt0 m c t.val t.isLt).1 = (outsAt0 m c t.val t.isLt).2 := by
  rw [outsAt0_B m c t (by omega) (by omega) h]
  dsimp only
  rw [(end_B ..).1, (end_B ..).2]

theorem last_at (t : Fin cfg0.N) (h : t.val % 2 = 1) (r : Fin 2048) (q : Fin 1024) :
    (outsAt0 m c t.val t.isLt).2 (ix2 r q) = lin d w (ix2 (tok (t.val / 2) r) q) := by
  rw [acc m c d w h0 h1, h]
  exact runs_lin d w _ q

/-- The kernel's array ends holding the projection. -/
theorem final : (dats m 0 c).arrAt 2 cfg0.N = lin d w := by
  refine (dats m 0 c).arrAt_eq_of_covers 2 _ (by decide +kernel) fun t hf y => ?_
  have h3 : t.val % 2 = 1 := (flush0_2 t).mp hf
  have he : ((cfg0.win 2).blk t).view.emb y = ix2 (tok (t.val / 2) (y 0)) (y 1) := by
    funext a
    match a with
    | ⟨0, _⟩ => exact Fin.ext (by blk_simp [idx t]; exact (tok_val t _).symm)
    | ⟨1, _⟩ => exact Fin.ext (by blk_simp [idx t]; rfl)
  blk_simp
  rw [after0_2, last m c t h3]
  refine Eq.trans ?_ (congrArg (lin d w) he).symm
  exact (congrArg _ (eq_ix2 y)).trans (last_at m c d w h0 h1 t h3 (y 0) (y 1))

end Cert.Proja.Ker
-- ==== Proof.ProjaClaims.lean ====
/- The claims on the recurrent branch's projection, each from its program's run, and the reference's values. -/
module

public import proofs.«01_k».proof.Defs
public import proofs.«01_k».proof.Proof.ProjaVal
public import proofs.«01_k».proof.Proof.Gen.ProjaReferenceIdeal.Read
public import proofs.«01_k».proof.Proof.Gen.ProjaKernel.Frame
public import proofs.«01_k».proof.Proof.Gen.ProjaReferenceIdeal.Run
public import Idealize.ShloMosaic.Lib.Claim
public import Idealize.ShloMosaic.Lib.StableHlo.Run

@[expose] public section

set_option maxRecDepth 16384

noncomputable section

namespace Cert.Proja.Ref

open Idealize.ShloMosaic Cert.ProjaReferenceIdeal Cert.ProjaReferenceIdeal.Read

theorem sum_val (x0 : Vec Ideal S4096x1024 .f32) (x1 : Vec Ideal S1024x1024 .f32) (s : Fin 4096) (q : Fin 1024) :
    val_main_v0 (F := Ideal) x0 x1 (ix2 s q) = ∑ k : Fin 1024, x0 (ix2 s k) * x1 (ix2 k q) := by
  pointwise [val_main_v0]

theorem lin_val (x0 : Vec Ideal S4096x1024 .f32) (x1 : Vec Ideal S1024x1024 .f32) : val_main_v0 (F := Ideal) x0 x1 = lin x0 x1 := by
  funext j
  exact (congrArg _ (eq_ix2 j)).trans (sum_val x0 x1 (j 0) (j 1))

end Cert.Proja.Ref

namespace Cert.Proja

open Idealize.ShloMosaic Idealize.ShloMosaic.TcCoe Idealize.SL.Sem

/-- The reference keeps its arguments, and has no semaphore. -/
theorem frame_reference : Cert.quiescent_ProjaReferenceIdeal := fun m g _ =>
  (θ_run Cert.ProjaReferenceIdeal.defs _ _).mono
    (fun r h => ⟨fun c => (h c).2, sem_eq_zero_of_no_sems (by decide) r.2⟩)
    (Cert.ProjaReferenceIdeal.Value.run (F := Ideal) m g)

section

open Cert.ProjaKernelIdeal Cert.ProjaKernelIdeal.Gen Idealize.ShloMosaic.StableHlo Cert.ProjaReferenceIdeal.Read

variable (m : (ℓ : Loc nD τ sig) → Buf (Elt Ideal) ℓ) (c : Dev nD)

/-- What the host hands the launch: the arguments, whose narrowing changes no number. -/
theorem host : V m c main_v0 = truncf (F := Ideal) .bf16 (m ((c : Thread nD τ).loc main_arg0)) bitsLt_bf16_f32 ∧ V m c main_v1 = truncf (F := Ideal) .bf16 (m ((c : Thread nD τ).loc main_arg1)) bitsLt_bf16_f32 := by
  unfold V hostOps0
  refine ⟨?_, ?_⟩ <;> after_results_simp

/-- Kernel and reference agree. -/
theorem algebraic : Cert.algebraic_ProjaKernelIdeal_ProjaReferenceIdeal := fun m g m' g' _ e =>
  ⟨fun c => lin (m ((c.tc : Thread _ _).loc main_arg0)) (m ((c.tc : Thread _ _).loc main_arg1)),
    (θ_run defs _ _).mono (fun r hr c => by
      obtain ⟨e0, k⟩ := hr c
      obtain ⟨h0, h1⟩ := host m c
      exact ⟨e0.trans (Ker.final m c _ _ h0 h1), k⟩) (Cert.ProjaKernelIdeal.Value.run_blocks m g),
    (θ_run Cert.ProjaReferenceIdeal.defs _ _).mono (fun r hr c => by
      obtain ⟨h0, h1⟩ := e c
      obtain ⟨e0, k⟩ := hr c
      have k0 := (e0.trans (val_main_v0_eq _ _)).trans (Ref.lin_val _ _)
      rw [h0, h1] at k0
      exact ⟨k0, k⟩) (Cert.ProjaReferenceIdeal.Value.run (F := Ideal) m' g')⟩

end

end Cert.Proja
-- ==== Proof.DyaVal.lean ====
/- The recurrent branch's projection's input's cotangent: a product summed run by run of lanes into the kernel's accumulator. -/
module

public import proofs.«01_k».proof.Proof.Sums
public import proofs.«01_k».proof.Proof.Gen.DyaKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Dya.Ker

open Idealize.ShloMosaic Cert.DyaKernelIdeal Cert.DyaKernelIdeal.Gen Idealize.ShloMosaic.TcCoe Idealize.SL.Sem

section

variable (c : Dev nD) (i : grid0.Coords) (arg3 : Memref sig .tc .vmem S2048x512 .bf16) (harg3 : arg3.IsWhole)
  (arg4 : Memref sig .tc .vmem S1024x512 .bf16) (harg4 : arg4.IsWhole) (arg5 : Memref sig .tc .vmem S2048x1024 .f32) (harg5 : arg5.IsWhole)
  (arg6 : Memref sig .tc .vmem S2048x1024 .f32) (harg6 : arg6.IsWhole) (x0 : Vec Ideal S2048x512 .bf16) (x1 : Vec Ideal S1024x512 .bf16)
  (xs : Vec Ideal S2048x1024 .f32)

/-- The accumulator after a first point, -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (fun _ => scover0_A_0 ..)]
  unfold kernelRun0_A
  dsimp only
  sl_unfold_words
  simp (disch := decide) only [View.canon_cons_unit_lit', View.readCov_cons_unit_lit']
  simp only [View.readAt_eq_ld, harg3.read_unread, harg4.read_unread]
  repeat rw [View.ld_unit_zero (by decide)]

/-- and after a last one, which also leaves its block. -/
theorem end_B (hc0 : ¬cond0_0 i) (hc1 : cond0_1 i) (hc2 : cond0_2 i) :
    sout0_B_0 c i arg3 harg3 arg4 harg4 arg5 harg5 arg6 harg6 hc0 hc1 hc2 x0 x1 xs = k0_pay3 x0 x1 xs
    ∧ out0_B_2 c i arg3 harg3 arg4 harg4 arg5 harg5 arg6 harg6 hc0 hc1 hc2 x0 x1 xs = k0_pay3 x0 x1 xs := by
  unfold sout0_B_0 out0_B_2
  rw [View.read_writes_eq_canon _ _ _ (fun _ => scover0_B_0 ..), View.read_writes_eq_canon _ _ _ (fun _ => cover0_B_2 ..)]
  unfold kernelRun0_B
  dsimp only
  sl_unfold_words
  simp (disch := decide) only [View.canon_cons_unit_lit', View.readCov_cons_unit_lit']
  simp only [View.readAt_eq_ld, harg3.read_unread, harg4.read_unread, harg6.read_unread]
  repeat rw [View.ld_unit_zero (by decide)]
  exact ⟨rfl, rfl⟩

end

theorem pay2_val (x0 : Vec Ideal S2048x512 .bf16) (x1 : Vec Ideal S1024x512 .bf16) (r : Fin 2048) (n : Fin 1024) :
    k0_pay2 x0 x1 (ix2 r n) = ∑ s : Fin 512, x0 (ix2 r s) * x1 (ix2 n s) := by
  pointwise [k0_pay2, k0_pay1]

theorem pay3_val (x0 : Vec Ideal S2048x512 .bf16) (x1 : Vec Ideal S1024x512 .bf16) (a : Vec Ideal S2048x1024 .f32) (r : Fin 2048) (n : Fin 1024) :
    k0_pay3 x0 x1 a (ix2 r n) = a (ix2 r n) + ∑ s : Fin 512, x0 (ix2 r s) * x1 (ix2 n s) := by
  pointwise [k0_pay3, k0_pay1]

end Cert.Dya.Ker

namespace Cert.Dya

open Idealize.ShloMosaic Cert.DyaKernelIdeal

/-- The input's cotangent: a token's cotangents times a column of the weights. -/
def back (d : S4096x1024.Idx → EReal) (w : S1024x1024.Idx → EReal) (j : S4096x1024.Idx) : EReal :=
  ∑ k : Fin (2 * 512), d (ix2 (j 0) k) * w (ix2 (j 1) k)

end Cert.Dya

namespace Cert.Dya.Ker

open Idealize.ShloMosaic Cert.DyaKernelIdeal Cert.DyaKernelIdeal.Gen Idealize.ShloMosaic.TcCoe Idealize.SL.Sem

theorem lt_N (t : Fin cfg0.N) : t.val < 4 := lt_of_lt_of_eq t.isLt N_0

/-- The array's token and lane of a point's token and lane. -/
abbrev tok (i : ℕ) (r : Fin 2048) : Fin 4096 := Sums.at_ 2 2048 i r (by decide)
abbrev lane (k : ℕ) (s : Fin 512) : Fin 1024 := Sums.at_ 2 512 k s (by decide)

theorem tok_val (t : Fin cfg0.N) (r : Fin 2048) : (tok (t.val / 2) r).val = t.val / 2 * 2048 + r.val := by
  have := lt_N t
  exact congrArg (· * 2048 + r.val) (Nat.mod_eq_of_lt (by omega))

theorem lane_val (t : Fin cfg0.N) (s : Fin 512) : (lane (t.val % 2) s).val = t.val % 2 * 512 + s.val :=
  congrArg (· * 512 + s.val) (Nat.mod_mod _ _)

theorem idx : ∀ t : Fin cfg0.N, win0_0.index t = ![t.val / 2, t.val % 2] ∧ win0_1.index t = ![0, t.val % 2]
    ∧ win0_2.index t = ![t.val / 2, 0] :=
  (by decide +kernel : ∀ t : Fin grid0.N, _)

/-- The windows read. -/
theorem rd_d (A : S4096x1024.Idx → EReal) (t : Fin cfg0.N) (r : Fin 2048) (s : Fin 512) :
    ((cfg0.win 0).blk t).view.read (Elt Ideal) A (ix2 r s) = A (ix2 (tok (t.val / 2) r) (lane (t.val % 2) s)) := by
  refine congrArg A (funext fun a => ?_)
  match a with
  | ⟨0, _⟩ => exact Fin.ext (by blk_simp [idx t]; exact (tok_val t r).symm)
  | ⟨1, _⟩ => exact Fin.ext (by blk_simp [idx t]; exact (lane_val t s).symm)

theorem rd_w (A : S1024x1024.Idx → EReal) (t : Fin cfg0.N) (q : Fin 1024) (s : Fin 512) :
    ((cfg0.win 1).blk t).view.read (Elt Ideal) A (ix2 q s) = A (ix2 q (lane (t.val % 2) s)) := by
  refine congrArg A (funext fun a => ?_)
  match a with
  | ⟨0, _⟩ => exact Fin.ext (by blk_simp [idx t])
  | ⟨1, _⟩ => exact Fin.ext (by blk_simp [idx t]; exact (lane_val t s).symm)

/-- One run's products, summed, -/
def run (d : S4096x1024.Idx → EReal) (w : S1024x1024.Idx → EReal) (l : Fin 4096) (q : Fin 1024) (k : ℕ) : EReal :=
  ∑ s : Fin 512, d (ix2 l (lane k s)) * w (ix2 q (lane k s))

/-- as a block whose windows hold the run's lanes gives them. -/
theorem blk_run {x : Vec Ideal S2048x512 .bf16} {y : Vec Ideal S1024x512 .bf16} {d : S4096x1024.Idx → EReal} {w : S1024x1024.Idx → EReal}
    {r : Fin 2048} {l : Fin 4096} {q : Fin 1024} {k : ℕ} (h0 : ∀ s, x (ix2 r s) = d (ix2 l (lane k s)))
    (h1 : ∀ s, y (ix2 q s) = w (ix2 q (lane k s))) : ∑ s : Fin 512, x (ix2 r s) * y (ix2 q s) = run d w l q k := by
  unfold run
  simp only [h0, h1]

/-- All the runs make the cotangent. -/
theorem runs_back (d : S4096x1024.Idx → EReal) (w : S1024x1024.Idx → EReal) (l : Fin 4096) (q : Fin 1024) :
    ∑ k ∈ Finset.range (1 + 1), run d w l q k = back d w (ix2 l q) :=
  Sums.sum_runs 2 512 (by decide) fun k => d (ix2 l k) * w (ix2 q k)

variable (m : (ℓ : Loc nD τ sig) → Buf (Elt Ideal) ℓ) (c : Dev nD) (d : S4096x1024.Idx → EReal) (w : S1024x1024.Idx → EReal)
  (h0 : V m c main_v0 = d) (h1 : V m c main_v1 = w)
include h0 h1

theorem first (t : Fin cfg0.N) (r : Fin 2048) (q : Fin 1024) :
    k0_pay2 (iblk m c 0 t) (iblk m c 1 t) (ix2 r q) = run d w (tok (t.val / 2) r) q (t.val % 2) :=
  (pay2_val _ _ r q).trans (blk_run (fun s => (rd_d _ t r s).trans (congrFun h0 _)) fun s => (rd_w _ t q s).trans (congrFun h1 _))

theorem next (t : Fin cfg0.N) (x : Vec Ideal S2048x1024 .f32) (r : Fin 2048) (q : Fin 1024) :
    k0_pay3 (iblk m c 0 t) (iblk m c 1 t) x (ix2 r q) = x (ix2 r q) + run d w (tok (t.val / 2) r) q (t.val % 2) :=
  (pay3_val _ _ x r q).trans (congrArg (x (ix2 r q) + ·)
    (blk_run (fun s => (rd_d _ t r s).trans (congrFun h0 _)) fun s => (rd_w _ t q s).trans (congrFun h1 _)))

/-- The accumulator after a point is the sum of the runs so far. -/
theorem acc (n : ℕ) (hn : n < cfg0.N) (r : Fin 2048) (q : Fin 1024) : (outsAt0 m c n hn).2 (ix2 r q)
    = ∑ k ∈ Finset.range (n % 2 + 1), run d w (tok (n / 2) r) q k := by
  refine Sums.acc_runs 2 cfg0.N (by decide) (fun n hn => (outsAt0 m c n hn).2 (ix2 r q))
    (fun i k => run d w (tok i r) q k) (fun n hn h => ?_) (fun n hn h => ?_) n hn
  · rw [outsAt0_A m c ⟨n, hn⟩ h (by dsimp only; omega) (by dsimp only; omega)]
    dsimp only
    rw [sout_A, first m c d w h0 h1]
  · rw [outsAt0_B m c ⟨n + 1, hn⟩ h (by dsimp only; omega) (by dsimp only; omega)]
    dsimp only
    rw [(end_B ..).1, next m c d w h0 h1]
    rfl

omit h0 h1 in
/-- A last point leaves its accumulator. -/
theorem last (t : Fin cfg0.N) (h : t.val % 2 = 1) : (outsAt0 m c t.val t.isLt).1 = (outsAt0 m c t.val t.isLt).2 := by
  rw [outsAt0_B m c t (by omega) (by omega) h]
  dsimp only
  rw [(end_B ..).1, (end_B ..).2]

theorem last_at (t : Fin cfg0.N) (h : t.val % 2 = 1) (r : Fin 2048) (q : Fin 1024) :
    (outsAt0 m c t.val t.isLt).2 (ix2 r q) = back d w (ix2 (tok (t.val / 2) r) q) := by
  rw [acc m c d w h0 h1, h]
  exact runs_back d w _ q

/-- The kernel's array ends holding the cotangent. -/
theorem final : (dats m 0 c).arrAt 2 cfg0.N = back d w := by
  refine (dats m 0 c).arrAt_eq_of_covers 2 _ (by decide +kernel) fun t hf y => ?_
  have h3 : t.val % 2 = 1 := (flush0_2 t).mp hf
  have he : ((cfg0.win 2).blk t).view.emb y = ix2 (tok (t.val / 2) (y 0)) (y 1) := by
    funext a
    match a with
    | ⟨0, _⟩ => exact Fin.ext (by blk_simp [idx t]; exact (tok_val t _).symm)
    | ⟨1, _⟩ => exact Fin.ext (by blk_simp [idx t]; rfl)
  blk_simp
  rw [after0_2, last m c t h3]
  refine Eq.trans ?_ (congrArg (back d w) he).symm
  exact (congrArg _ (eq_ix2 y)).trans (last_at m c d w h0 h1 t h3 (y 0) (y 1))

end Cert.Dya.Ker
-- ==== Proof.DyaClaims.lean ====
/- The claims on the recurrent branch's projection's input's cotangent, each from its program's run, and the reference's values. -/
module

public import proofs.«01_k».proof.Defs
public import proofs.«01_k».proof.Proof.DyaVal
public import proofs.«01_k».proof.Proof.Gen.DyaReferenceIdeal.Read
public import proofs.«01_k».proof.Proof.Gen.DyaKernel.Frame
public import proofs.«01_k».proof.Proof.Gen.DyaReferenceIdeal.Run
public import Idealize.ShloMosaic.Lib.Claim
public import Idealize.ShloMosaic.Lib.StableHlo.Run

@[expose] public section

set_option maxRecDepth 16384

noncomputable section

namespace Cert.Dya.Ref

open Idealize.ShloMosaic Cert.DyaReferenceIdeal Cert.DyaReferenceIdeal.Read

theorem sum_val (x1 : Vec Ideal S1024x1024 .f32) (x2 : Vec Ideal S4096x1024 .f32) (s : Fin 4096) (q : Fin 1024) :
    val_main_v1 (F := Ideal) x1 x2 (ix2 s q) = ∑ k : Fin 1024, x2 (ix2 s k) * x1 (ix2 q k) := by
  pointwise [val_main_v1]

theorem back_val (x1 : Vec Ideal S1024x1024 .f32) (x2 : Vec Ideal S4096x1024 .f32) : val_main_v1 (F := Ideal) x1 x2 = back x2 x1 := by
  funext j
  exact (congrArg _ (eq_ix2 j)).trans (sum_val x1 x2 (j 0) (j 1))

end Cert.Dya.Ref

namespace Cert.Dya

open Idealize.ShloMosaic Idealize.ShloMosaic.TcCoe Idealize.SL.Sem

/-- The reference keeps its arguments, and has no semaphore. -/
theorem frame_reference : Cert.quiescent_DyaReferenceIdeal := fun m g _ =>
  (θ_run Cert.DyaReferenceIdeal.defs _ _).mono
    (fun r h => ⟨fun c => (h c).2, sem_eq_zero_of_no_sems (by decide) r.2⟩)
    (Cert.DyaReferenceIdeal.Value.run (F := Ideal) m g)

section

open Cert.DyaKernelIdeal Cert.DyaKernelIdeal.Gen Idealize.ShloMosaic.StableHlo Cert.DyaReferenceIdeal.Read

variable (m : (ℓ : Loc nD τ sig) → Buf (Elt Ideal) ℓ) (c : Dev nD)

/-- What the host hands the launch: the arguments, whose narrowing changes no number. -/
theorem host : V m c main_v0 = truncf (F := Ideal) .bf16 (m ((c : Thread nD τ).loc main_arg2)) bitsLt_bf16_f32 ∧ V m c main_v1 = truncf (F := Ideal) .bf16 (m ((c : Thread nD τ).loc main_arg1)) bitsLt_bf16_f32 := by
  unfold V hostOps0
  refine ⟨?_, ?_⟩ <;> after_results_simp

/-- Kernel and reference agree. -/
theorem algebraic : Cert.algebraic_DyaKernelIdeal_DyaReferenceIdeal := fun m g m' g' _ e =>
  ⟨fun c => back (m ((c.tc : Thread _ _).loc main_arg2)) (m ((c.tc : Thread _ _).loc main_arg1)),
    (θ_run defs _ _).mono (fun r hr c => by
      obtain ⟨e0, k⟩ := hr c
      obtain ⟨h0, h1⟩ := host m c
      exact ⟨e0.trans (Ker.final m c _ _ h0 h1), k⟩) (Cert.DyaKernelIdeal.Value.run_blocks m g),
    (θ_run Cert.DyaReferenceIdeal.defs _ _).mono (fun r hr c => by
      obtain ⟨h0, h1, h2⟩ := e c
      obtain ⟨e0, k⟩ := hr c
      have k0 := (e0.trans (val_main_v1_eq _ _)).trans (Ref.back_val _ _)
      rw [h2, h1] at k0
      exact ⟨k0, k⟩) (Cert.DyaReferenceIdeal.Value.run (F := Ideal) m' g')⟩

end

end Cert.Dya
-- ==== Proof.DwprVal.lean ====
/- The recurrent branch's projection's weights' gradient: a product summed run by run of tokens into the kernel's accumulator. -/
module

public import proofs.«01_k».proof.Proof.Sums
public import proofs.«01_k».proof.Proof.Gen.DwprKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Dwpr.Ker

open Idealize.ShloMosaic Cert.DwprKernelIdeal Cert.DwprKernelIdeal.Gen Idealize.ShloMosaic.TcCoe Idealize.SL.Sem

section

variable (c : Dev nD) (i : grid0.Coords) (arg3 : Memref sig .tc .vmem S1024x1024 .bf16) (harg3 : arg3.IsWhole)
  (arg4 : Memref sig .tc .vmem S1024x1024 .bf16) (harg4 : arg4.IsWhole) (arg5 : Memref sig .tc .vmem S1024x1024 .bf16) (harg5 : arg5.IsWhole)
  (arg6 : Memref sig .tc .vmem S1024x1024 .f32) (harg6 : arg6.IsWhole) (x0 : Vec Ideal S1024x1024 .bf16) (x1 : Vec Ideal S1024x1024 .bf16)
  (xs : Vec Ideal S1024x1024 .f32)

/-- The accumulator after a first point, -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (fun _ => scover0_A_0 ..)]
  unfold kernelRun0_A
  dsimp only
  sl_unfold_words
  simp (disch := decide) only [View.canon_cons_unit_lit', View.readCov_cons_unit_lit']
  simp only [View.readAt_eq_ld, harg3.read_unread, harg4.read_unread]
  repeat rw [View.ld_unit_zero (by decide)]

/-- after a middle one -/
theorem sout_B (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0
  rw [View.read_writes_eq_canon _ _ _ (fun _ => scover0_B_0 ..)]
  unfold kernelRun0_B
  dsimp only
  sl_unfold_words
  simp (disch := decide) only [View.canon_cons_unit_lit', View.readCov_cons_unit_lit']
  simp only [View.readAt_eq_ld, harg3.read_unread, harg4.read_unread, harg6.read_unread]
  repeat rw [View.ld_unit_zero (by decide)]

/-- and after a last one, which also leaves its block. -/
theorem end_C (hc0 : ¬cond0_0 i) (hc1 : cond0_1 i) (hc2 : cond0_2 i) :
    sout0_C_0 c i arg3 harg3 arg4 harg4 arg5 harg5 arg6 harg6 hc0 hc1 hc2 x0 x1 xs = k0_pay3 x0 x1 xs
    ∧ out0_C_2 c i arg3 harg3 arg4 harg4 arg5 harg5 arg6 harg6 hc0 hc1 hc2 x0 x1 xs = k0_pay4 (k0_pay3 x0 x1 xs) := by
  unfold sout0_C_0 out0_C_2
  rw [View.read_writes_eq_canon _ _ _ (fun _ => scover0_C_0 ..), View.read_writes_eq_canon _ _ _ (fun _ => cover0_C_2 ..)]
  unfold kernelRun0_C
  dsimp only
  sl_unfold_words
  simp (disch := decide) only [View.canon_cons_unit_lit', View.readCov_cons_unit_lit']
  simp only [View.readAt_eq_ld, harg3.read_unread, harg4.read_unread, harg6.read_unread]
  repeat rw [View.ld_unit_zero (by decide)]
  exact ⟨rfl, rfl⟩

end

theorem pay2_val (x0 : Vec Ideal S1024x1024 .bf16) (x1 : Vec Ideal S1024x1024 .bf16) (r : Fin 1024) (n : Fin 1024) :
    k0_pay2 x0 x1 (ix2 r n) = ∑ s : Fin 1024, x0 (ix2 s r) * x1 (ix2 s n) := by
  pointwise [k0_pay2, k0_pay1]

theorem pay3_val (x0 : Vec Ideal S1024x1024 .bf16) (x1 : Vec Ideal S1024x1024 .bf16) (a : Vec Ideal S1024x1024 .f32) (r : Fin 1024) (n : Fin 1024) :
    k0_pay3 x0 x1 a (ix2 r n) = a (ix2 r n) + ∑ s : Fin 1024, x0 (ix2 s r) * x1 (ix2 s n) := by
  pointwise [k0_pay3, k0_pay1]

theorem pay4_val (a : Vec Ideal S1024x1024 .f32) (r : Fin 1024) (n : Fin 1024) :
    (k0_pay4 a (ix2 r n) : EReal) = a (ix2 r n) := by
  pointwise [k0_pay4]

end Cert.Dwpr.Ker

namespace Cert.Dwpr

open Idealize.ShloMosaic Cert.DwprKernelIdeal

/-- The gradient: every token's input times its cotangent, summed. -/
def grad (a : S4096x1024.Idx → EReal) (b : S4096x1024.Idx → EReal) (j : S1024x1024.Idx) : EReal :=
  ∑ k : Fin (4 * 1024), a (ix2 k (j 0)) * b (ix2 k (j 1))

end Cert.Dwpr

namespace Cert.Dwpr.Ker

open Idealize.ShloMosaic Cert.DwprKernelIdeal Cert.DwprKernelIdeal.Gen Idealize.ShloMosaic.TcCoe Idealize.SL.Sem

theorem lt_N (t : Fin cfg0.N) : t.val < 4 := lt_of_lt_of_eq t.isLt N_0

/-- The array's token and lane of a point's token and lane. -/
abbrev tok (k : ℕ) (s : Fin 1024) : Fin 4096 := Sums.at_ 4 1024 k s (by decide)
abbrev lane (i : ℕ) (r : Fin 1024) : Fin 1024 := Sums.at_ 1 1024 i r (by decide)

theorem lane_val (t : Fin cfg0.N) (r : Fin 1024) : (lane (t.val / 4) r).val = t.val / 4 * 1024 + r.val := by
  have := lt_N t
  exact congrArg (· * 1024 + r.val) (Nat.mod_eq_of_lt (by omega))

theorem tok_val (t : Fin cfg0.N) (s : Fin 1024) : (tok (t.val % 4) s).val = t.val % 4 * 1024 + s.val :=
  congrArg (· * 1024 + s.val) (Nat.mod_mod _ _)

theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The windows read. -/
theorem rd_in (A : S4096x1024.Idx → EReal) (t : Fin cfg0.N) (s : Fin 1024) (r : Fin 1024) :
    ((cfg0.win 0).blk t).view.read (Elt Ideal) A (ix2 s r) = A (ix2 (tok (t.val % 4) s) (lane (t.val / 4) r)) := by
  refine congrArg A (funext fun a => ?_)
  match a with
  | ⟨0, _⟩ => exact Fin.ext (by blk_simp [idx t]; exact (tok_val t s).symm)
  | ⟨1, _⟩ => exact Fin.ext (by blk_simp [idx t]; exact (lane_val t r).symm)

theorem rd_ct (A : S4096x1024.Idx → EReal) (t : Fin cfg0.N) (s : Fin 1024) (q : Fin 1024) :
    ((cfg0.win 1).blk t).view.read (Elt Ideal) A (ix2 s q) = A (ix2 (tok (t.val % 4) s) q) := by
  refine congrArg A (funext fun a => ?_)
  match a with
  | ⟨0, _⟩ => exact Fin.ext (by blk_simp [idx t]; exact (tok_val t s).symm)
  | ⟨1, _⟩ => exact Fin.ext (by blk_simp [idx t])

/-- One run's products, summed, -/
def run (a : S4096x1024.Idx → EReal) (b : S4096x1024.Idx → EReal) (l : Fin 1024) (q : Fin 1024) (k : ℕ) : EReal :=
  ∑ s : Fin 1024, a (ix2 (tok k s) l) * b (ix2 (tok k s) q)

/-- as a block whose windows hold the run's rows and lanes gives them. -/
theorem blk_run {d : Vec Ideal S1024x1024 .bf16} {w : Vec Ideal S1024x1024 .bf16} {a : S4096x1024.Idx → EReal} {b : S4096x1024.Idx → EReal}
    {r : Fin 1024} {l : Fin 1024} {q : Fin 1024} {k : ℕ} (h0 : ∀ s, d (ix2 s r) = a (ix2 (tok k s) l))
    (h1 : ∀ s, w (ix2 s q) = b (ix2 (tok k s) q)) : ∑ s : Fin 1024, d (ix2 s r) * w (ix2 s q) = run a b l q k := by
  unfold run
  simp only [h0, h1]

/-- All four runs make the gradient. -/
theorem runs_grad (a : S4096x1024.Idx → EReal) (b : S4096x1024.Idx → EReal) (l : Fin 1024) (q : Fin 1024) :
    ∑ k ∈ Finset.range (3 + 1), run a b l q k = grad a b (ix2 l q) :=
  Sums.sum_runs 4 1024 (by decide) fun k => a (ix2 k l) * b (ix2 k q)

variable (m : (ℓ : Loc nD τ sig) → Buf (Elt Ideal) ℓ) (c : Dev nD)

theorem first (t : Fin cfg0.N) (r : Fin 1024) (q : Fin 1024) :
    k0_pay2 (iblk m c 0 t) (iblk m c 1 t) (ix2 r q) = run (V m c main_v0) (V m c main_v1) (lane (t.val / 4) r) q (t.val % 4) :=
  (pay2_val _ _ r q).trans (blk_run (fun s => rd_in _ t s r) fun s => rd_ct _ t s q)

theorem next (t : Fin cfg0.N) (x : Vec Ideal S1024x1024 .f32) (r : Fin 1024) (q : Fin 1024) :
    k0_pay3 (iblk m c 0 t) (iblk m c 1 t) x (ix2 r q) = x (ix2 r q) + run (V m c main_v0) (V m c main_v1) (lane (t.val / 4) r) q (t.val % 4) :=
  (pay3_val _ _ x r q).trans (congrArg (x (ix2 r q) + ·) (blk_run (fun s => rd_in _ t s r) fun s => rd_ct _ t s q))

/-- The accumulator after a point is the sum of the runs so far. -/
theorem acc (n : ℕ) (hn : n < cfg0.N) (r : Fin 1024) (q : Fin 1024) : (outsAt0 m c n hn).2 (ix2 r q)
    = ∑ k ∈ Finset.range (n % 4 + 1), run (V m c main_v0) (V m c main_v1) (lane (n / 4) r) q k := by
  refine Sums.acc_runs 4 cfg0.N (by decide) (fun n hn => (outsAt0 m c n hn).2 (ix2 r q))
    (fun i k => run (V m c main_v0) (V m c main_v1) (lane i r) q k) (fun n hn h => ?_) (fun n hn h => ?_) n hn
  · have hN := lt_N ⟨n, hn⟩
    dsimp only at hN
    rw [outsAt0_A m c ⟨n, hn⟩ h (by dsimp only; omega) (by dsimp only; omega)]
    dsimp only
    rw [sout_A, first]
  · by_cases h2 : (n + 1) % 4 = 3
    · rw [outsAt0_C m c ⟨n + 1, hn⟩ h (by dsimp only; omega) h2]
      dsimp only
      rw [(end_C ..).1, next]
      rfl
    · rw [outsAt0_B m c ⟨n + 1, hn⟩ h (by dsimp only; omega) h2]
      dsimp only
      rw [sout_B, next]
      rfl

/-- A last point leaves its accumulator. -/
theorem last (t : Fin cfg0.N) (h : t.val % 4 = 3) : (outsAt0 m c t.val t.isLt).1 = k0_pay4 (outsAt0 m c t.val t.isLt).2 := by
  rw [outsAt0_C m c t (by omega) (by omega) h]
  dsimp only
  rw [(end_C ..).1, (end_C ..).2]

theorem last_at (t : Fin cfg0.N) (h : t.val % 4 = 3) (r : Fin 1024) (q : Fin 1024) :
    (k0_pay4 (outsAt0 m c t.val t.isLt).2 (ix2 r q) : EReal) = grad (V m c main_v0) (V m c main_v1) (ix2 (lane (t.val / 4) r) q) := by
  rw [pay4_val, acc, h]
  exact runs_grad _ _ _ q

/-- The kernel's array ends holding the gradient. -/
theorem final : (dats m 0 c).arrAt 2 cfg0.N = grad (V m c main_v0) (V m c main_v1) := by
  refine (dats m 0 c).arrAt_eq_of_covers 2 _ (by decide +kernel) fun t hf y => ?_
  have h3 : t.val % 4 = 3 := (flush0_2 t).mp hf
  have he : ((cfg0.win 2).blk t).view.emb y = ix2 (lane (t.val / 4) (y 0)) (y 1) := by
    funext a
    match a with
    | ⟨0, _⟩ => exact Fin.ext (by blk_simp [idx t]; exact (lane_val t _).symm)
    | ⟨1, _⟩ => exact Fin.ext (by blk_simp [idx t]; rfl)
  blk_simp
  rw [after0_2, last m c t h3]
  refine Eq.trans ?_ (congrArg (grad (V m c main_v0) (V m c main_v1)) he).symm
  exact (congrArg _ (eq_ix2 y)).trans (last_at m c t h3 (y 0) (y 1))

end Cert.Dwpr.Ker
-- ==== Proof.DwprClaims.lean ====
/- The claims on the recurrent branch's projection's weights' gradient, each from its program's run, and the reference's values. -/
module

public import proofs.«01_k».proof.Defs
public import proofs.«01_k».proof.Proof.DwprVal
public import proofs.«01_k».proof.Proof.Gen.DwprReferenceIdeal.Read
public import proofs.«01_k».proof.Proof.Gen.DwprKernel.Frame
public import proofs.«01_k».proof.Proof.Gen.DwprReferenceIdeal.Run
public import Idealize.ShloMosaic.Lib.Claim
public import Idealize.ShloMosaic.Lib.StableHlo.Run

@[expose] public section

set_option maxRecDepth 16384

noncomputable section

namespace Cert.Dwpr.Ref

open Idealize.ShloMosaic Cert.DwprReferenceIdeal Cert.DwprReferenceIdeal.Read

theorem sum_val (x0 x2 : Vec Ideal S4096x1024 .f32) (f d : Fin 1024) :
    (val_main_v3 (F := Ideal) x0 x2 (ix2 f d) : EReal) = ∑ k : Fin 4096, x2 (ix2 k d) * x0 (ix2 k f) := by
  pointwise [val_main_v3, val_main_v2, val_main_v1]

/-- The reference's product is the kernel's, turned. -/
theorem grad_val (x0 x2 : Vec Ideal S4096x1024 .f32) : val_main_v3 (F := Ideal) x0 x2 = grad x0 x2 := by
  funext j
  refine (congrArg _ (eq_ix2 j)).trans ((sum_val x0 x2 (j 0) (j 1)).trans ?_)
  exact Finset.sum_congr rfl fun k _ => mul_comm _ _

end Cert.Dwpr.Ref

namespace Cert.Dwpr

open Idealize.ShloMosaic Idealize.ShloMosaic.TcCoe Idealize.SL.Sem

/-- The reference keeps its arguments, and has no semaphore. -/
theorem frame_reference : Cert.quiescent_DwprReferenceIdeal := fun m g _ =>
  (θ_run Cert.DwprReferenceIdeal.defs _ _).mono
    (fun r h => ⟨fun c => (h c).2, sem_eq_zero_of_no_sems (by decide) r.2⟩)
    (Cert.DwprReferenceIdeal.Value.run (F := Ideal) m g)

section

open Cert.DwprKernelIdeal Cert.DwprKernelIdeal.Gen Idealize.ShloMosaic.StableHlo Cert.DwprReferenceIdeal.Read

variable (m : (ℓ : Loc nD τ sig) → Buf (Elt Ideal) ℓ) (c : Dev nD)

/-- What the host hands the launch: the arguments, whose narrowing changes no number. -/
theorem host : V m c main_v0 = truncf (F := Ideal) .bf16 (m ((c : Thread nD τ).loc main_arg0)) bitsLt_bf16_f32 ∧ V m c main_v1 = truncf (F := Ideal) .bf16 (m ((c : Thread nD τ).loc main_arg2)) bitsLt_bf16_f32 := by
  unfold V hostOps0
  refine ⟨?_, ?_⟩ <;> after_results_simp

/-- Kernel and reference agree. -/
theorem algebraic : Cert.algebraic_DwprKernelIdeal_DwprReferenceIdeal := fun m g m' g' _ e =>
  ⟨fun c => grad (m ((c.tc : Thread _ _).loc main_arg0)) (m ((c.tc : Thread _ _).loc main_arg2)),
    (θ_run defs _ _).mono (fun r hr c => by
      obtain ⟨e0, k⟩ := hr c
      obtain ⟨h0, h1⟩ := host m c
      refine ⟨e0.trans ((Ker.final m c).trans ?_), k⟩
      rw [h0, h1]
      rfl) (Cert.DwprKernelIdeal.Value.run_blocks m g),
    (θ_run Cert.DwprReferenceIdeal.defs _ _).mono (fun r hr c => by
      obtain ⟨h0, h1, h2⟩ := e c
      obtain ⟨e0, k⟩ := hr c
      have k0 := (e0.trans (val_main_v3_eq _ _)).trans (Ref.grad_val _ _)
      rw [h0, h2] at k0
      exact ⟨k0, k⟩) (Cert.DwprReferenceIdeal.Value.run (F := Ideal) m' g')⟩

end

end Cert.Dwpr
-- ==== Proof.MixoutVal.lean ====
/- The mixing block's output: the residual it is added to, and the norm of their sum. -/
module

public import proofs.«01_k».proof.Proof.DnPay
public import proofs.«01_k».proof.Proof.Gen.MixoutKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Mixout

open Idealize.ShloMosaic Cert.MixoutKernelIdeal
open Cert.Dn (irms)

variable (a : S4096x1024.Idx → EReal) (w : S1024x1024.Idx → EReal) (x : S4096x1024.Idx → EReal) (g : S1x1024.Idx → EReal)

/-- The residual and a token's row times a lane's weights, -/
def res (s : Fin 4096) (q : Fin 1024) : EReal := x (ix2 s q) + ∑ k : Fin 1024, a (ix2 s k) * w (ix2 k q)

/-- as an array, -/
def sum (j : S4096x1024.Idx) : EReal := res a w x (j 0) (j 1)

/-- and its rows, normed. -/
def norm (j : S4096x1024.Idx) : EReal := res a w x (j 0) (j 1) * irms (res a w x (j 0)) * g (ix2 0 (j 1))

end Cert.Mixout

namespace Cert.Mixout.Ker

open Idealize.ShloMosaic Cert.MixoutKernelIdeal Cert.MixoutKernelIdeal.Gen Idealize.ShloMosaic.TcCoe Idealize.SL.Sem
open Cert.Dn (irms)

section

variable (a : Vec Ideal S512x1024 .bf16) (w : Vec Ideal S1024x1024 .bf16) (x : Vec Ideal S512x1024 .f32) (g : Vec Ideal S1x1024 .f32)

theorem pay1_val (r : Fin 512) (q : Fin 1024) : k0_pay1 a w x (ix2 r q) = x (ix2 r q) + ∑ k : Fin 1024, a (ix2 r k) * w (ix2 k q) := by
  pointwise [k0_pay1]

theorem pay2_val (r : Fin 512) (q : Fin 1024) :
    (k0_pay2 a w x g (ix2 r q) : EReal) = k0_pay1 a w x (ix2 r q) * irms (fun k => k0_pay1 a w x (ix2 r k)) * g (ix2 0 q) := by
  unfold irms
  pointwise [k0_pay2]

/-- A point stores its rows' sums, and their norms. -/
theorem out_sum : out0_4 a w x g = k0_pay1 a w x := by
  unfold out0_4 r0_0 r0_1
  simp (disch := decide) only [View.canon_cons_unit_lit']
  repeat rw [View.ld_unit_zero (by decide)]

theorem out_norm : out0_5 a w x g = k0_pay2 a w x g := by
  unfold out0_5 r0_0 r0_1 r0_2
  simp (disch := decide) only [View.canon_cons_unit_lit']
  repeat rw [View.ld_unit_zero (by decide)]

end

theorem lt_N (t : Fin cfg0.N) : t.val < 8 := lt_of_lt_of_eq t.isLt N_0

/-- The array's row of a point's row. -/
def row (t : Fin cfg0.N) (r : Fin 512) : Fin 4096 := ⟨t.val * 512 + r.val, by have := lt_N t; omega⟩

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The windows read. -/
theorem rd_a (A : S4096x1024.Idx → EReal) (t : Fin cfg0.N) (s : Fin 512) (q : Fin 1024) :
    ((cfg0.win 0).blk t).view.read (Elt Ideal) A (ix2 s q) = A (ix2 (row t s) q) := by
  refine congrArg A (funext fun a => ?_)
  match a with
  | ⟨0, _⟩ => exact Fin.ext (by blk_simp [idx t]; rfl)
  | ⟨1, _⟩ => exact Fin.ext (by blk_simp [idx t])

theorem rd_w (A : S1024x1024.Idx → EReal) (t : Fin cfg0.N) (s : Fin 1024) (q : Fin 1024) :
    ((cfg0.win 1).blk t).view.read (Elt Ideal) A (ix2 s q) = A (ix2 s q) := by
  refine congrArg A (funext fun a => ?_)
  match a with
  | ⟨0, _⟩ => exact Fin.ext (by blk_simp [idx t])
  | ⟨1, _⟩ => exact Fin.ext (by blk_simp [idx t])

theorem rd_x (A : S4096x1024.Idx → EReal) (t : Fin cfg0.N) (s : Fin 512) (q : Fin 1024) :
    ((cfg0.win 2).blk t).view.read (Elt Ideal) A (ix2 s q) = A (ix2 (row t s) q) := by
  refine congrArg A (funext fun a => ?_)
  match a with
  | ⟨0, _⟩ => exact Fin.ext (by blk_simp [idx t]; rfl)
  | ⟨1, _⟩ => exact Fin.ext (by blk_simp [idx t])

theorem rd_g (A : S1x1024.Idx → EReal) (t : Fin cfg0.N) (q : Fin 1024) :
    ((cfg0.win 3).blk t).view.read (Elt Ideal) A (ix2 0 q) = A (ix2 0 q) := by
  refine congrArg A (funext fun a => ?_)
  match a with
  | ⟨0, _⟩ => exact Fin.ext (by blk_simp [idx t])
  | ⟨1, _⟩ => exact Fin.ext (by blk_simp [idx t])

/-- A block whose windows hold an array's rows makes those rows' sums. -/
theorem blk_res {d : Vec Ideal S512x1024 .bf16} {u : Vec Ideal S1024x1024 .bf16} {e : EReal} {a x : S4096x1024.Idx → EReal}
    {w : S1024x1024.Idx → EReal} {r : Fin 512} {s : Fin 4096} {q : Fin 1024} (h0 : ∀ k, d (ix2 r k) = a (ix2 s k))
    (h1 : ∀ k, u (ix2 k q) = w (ix2 k q)) (h2 : e = x (ix2 s q)) : e + ∑ k : Fin 1024, d (ix2 r k) * u (ix2 k q) = res a w x s q := by
  unfold res
  simp only [h0, h1, h2]

variable (m : (ℓ : Loc nD τ sig) → Buf (Elt Ideal) ℓ) (c : Dev nD)

theorem sum_at (t : Fin cfg0.N) (r : Fin 512) (q : Fin 1024) : k0_pay1 (iblk m c 0 t) (iblk m c 1 t) (iblk m c 2 t) (ix2 r q)
    = res (V m c main_v0) (V m c main_v1) (V m c main_arg2) (row t r) q :=
  (pay1_val _ _ _ r q).trans (blk_res (fun k => rd_a _ t r k) (fun k => rd_w _ t k q) (rd_x _ t r q))

theorem norm_at (t : Fin cfg0.N) (r : Fin 512) (q : Fin 1024) :
    (k0_pay2 (iblk m c 0 t) (iblk m c 1 t) (iblk m c 2 t) (iblk m c 3 t) (ix2 r q) : EReal)
    = norm (V m c main_v0) (V m c main_v1) (V m c main_arg2) (V m c main_arg3) (ix2 (row t r) q) := by
  refine (pay2_val _ _ _ _ r q).trans ?_
  simp only [sum_at m c t]
  exact congrArg (_ * ·) (rd_g _ t q)

/-- The kernel's arrays end holding the sums and their norms. -/
theorem final_sum : (dats m 0 c).arrAt 4 cfg0.N = sum (V m c main_v0) (V m c main_v1) (V m c main_arg2) := by
  refine (dats m 0 c).arrAt_eq_of_covers 4 _ (by decide +kernel) fun t hf y => ?_
  have he : ((cfg0.win 4).blk t).view.emb y = ix2 (row t (y 0)) (y 1) := by
    funext a
    match a with
    | ⟨0, _⟩ => exact Fin.ext (by blk_simp [idx t]; rfl)
    | ⟨1, _⟩ => exact Fin.ext (by blk_simp [idx t]; rfl)
  blk_simp
  rw [after0_4, out_sum]
  refine Eq.trans ?_ (congrArg (sum (V m c main_v0) (V m c main_v1) (V m c main_arg2)) he).symm
  exact (congrArg _ (eq_ix2 y)).trans (sum_at m c t (y 0) (y 1))

theorem final_norm : (dats m 0 c).arrAt 5 cfg0.N = norm (V m c main_v0) (V m c main_v1) (V m c main_arg2) (V m c main_arg3) := by
  refine (dats m 0 c).arrAt_eq_of_covers 5 _ (by decide +kernel) fun t hf y => ?_
  have he : ((cfg0.win 5).blk t).view.emb y = ix2 (row t (y 0)) (y 1) := by
    funext a
    match a with
    | ⟨0, _⟩ => exact Fin.ext (by blk_simp [idx t]; rfl)
    | ⟨1, _⟩ => exact Fin.ext (by blk_simp [idx t]; rfl)
  blk_simp
  rw [after0_5, out_norm]
  refine Eq.trans ?_ (congrArg (norm (V m c main_v0) (V m c main_v1) (V m c main_arg2) (V m c main_arg3)) he).symm
  exact (congrArg _ (eq_ix2 y)).trans (norm_at m c t (y 0) (y 1))

end Cert.Mixout.Ker
-- ==== Proof.MixoutClaims.lean ====
/- The claims on the mixing block's output, each from its program's run, and the reference's values. -/
module

public import proofs.«01_k».proof.Defs
public import proofs.«01_k».proof.Proof.MixoutVal
public import proofs.«01_k».proof.Proof.Gen.MixoutReferenceIdeal.Read
public import proofs.«01_k».proof.Proof.Gen.MixoutKernel.Frame
public import proofs.«01_k».proof.Proof.Gen.MixoutReferenceIdeal.Run
public import Idealize.ShloMosaic.Lib.Claim
public import Idealize.ShloMosaic.Lib.StableHlo.Run

@[expose] public section

set_option maxRecDepth 16384

noncomputable section

namespace Cert.Mixout.Ref

open Idealize.ShloMosaic Cert.MixoutReferenceIdeal Cert.MixoutReferenceIdeal.Read
open Cert.Dn (irms)

variable (x0 : Vec Ideal S4096x1024 .f32) (x1 : Vec Ideal S1024x1024 .f32) (x2 : Vec Ideal S4096x1024 .f32) (x3 : Vec Ideal S1x1024 .f32)

theorem v1_val (s : Fin 4096) (q : Fin 1024) : val_main_v1 (F := Ideal) x0 x1 x2 (ix2 s q) = res x0 x1 x2 s q := by
  unfold res
  pointwise [val_main_v1, val_main_v0]

theorem v10_val (s : Fin 4096) : val_main_v10 (F := Ideal) x0 x1 x2 (ix2 s 0) = irms (res x0 x1 x2 s) := by
  unfold irms
  pointwise [val_main_v10, val_main_v9, val_main_v8, val_main_v7, val_main_v6, val_main_v5, val_main_v4, val_main_v3, val_main_cst, val_main_cst_0, val_main_cst_1]
  simp only [v1_val]

theorem v16_val (s : Fin 4096) (q : Fin 1024) : (val_main_v16 (F := Ideal) x0 x1 x2 x3 (ix2 s q) : EReal)
    = res x0 x1 x2 s q * irms (res x0 x1 x2 s) * x3 (ix2 0 q) := by
  pointwise [val_main_v16, val_main_v15, val_main_v14, val_main_v13, val_main_v12, val_main_v11, val_main_v2]
  rw [v1_val, v10_val]

/-- The reference ends with the sums, -/
theorem sum_val : val_main_v1 (F := Ideal) x0 x1 x2 = sum x0 x1 x2 :=
  funext fun j => (congrArg _ (eq_ix2 j)).trans (v1_val x0 x1 x2 (j 0) (j 1))

/-- and their norms. -/
theorem norm_val : val_main_v16 (F := Ideal) x0 x1 x2 x3 = norm x0 x1 x2 x3 :=
  funext fun j => (congrArg _ (eq_ix2 j)).trans (v16_val x0 x1 x2 x3 (j 0) (j 1))

end Cert.Mixout.Ref

namespace Cert.Mixout

open Idealize.ShloMosaic Idealize.ShloMosaic.TcCoe Idealize.SL.Sem

/-- The reference keeps its arguments, and has no semaphore. -/
theorem frame_reference : Cert.quiescent_MixoutReferenceIdeal := fun m g _ =>
  (θ_run Cert.MixoutReferenceIdeal.defs _ _).mono
    (fun r h => ⟨fun c => (h c).2.2, sem_eq_zero_of_no_sems (by decide) r.2⟩)
    (Cert.MixoutReferenceIdeal.Value.run (F := Ideal) m g)

section

open Cert.MixoutKernelIdeal Cert.MixoutKernelIdeal.Gen Idealize.ShloMosaic.StableHlo Cert.MixoutReferenceIdeal.Read

variable (m : (ℓ : Loc nD τ sig) → Buf (Elt Ideal) ℓ) (c : Dev nD)

/-- What the host hands the launch: the arguments, whose narrowing changes no number. -/
theorem host : V m c main_v0 = truncf (F := Ideal) .bf16 (m ((c : Thread nD τ).loc main_arg0)) bitsLt_bf16_f32 ∧ V m c main_v1 = truncf (F := Ideal) .bf16 (m ((c : Thread nD τ).loc main_arg1)) bitsLt_bf16_f32 := by
  unfold V hostOps0
  refine ⟨?_, ?_⟩ <;> after_results_simp

/-- Kernel and reference agree. -/
theorem algebraic : Cert.algebraic_MixoutKernelIdeal_MixoutReferenceIdeal := fun m g m' g' _ e =>
  ⟨fun c => sum (m ((c.tc : Thread _ _).loc main_arg0)) (m ((c.tc : Thread _ _).loc main_arg1)) (m ((c.tc : Thread _ _).loc main_arg2)),
    fun c => norm (m ((c.tc : Thread _ _).loc main_arg0)) (m ((c.tc : Thread _ _).loc main_arg1)) (m ((c.tc : Thread _ _).loc main_arg2)) (m ((c.tc : Thread _ _).loc main_arg3)),
    (θ_run defs _ _).mono (fun r hr c => by
      obtain ⟨e0, e1, k⟩ := hr c
      obtain ⟨h0, h1⟩ := host m c
      have f0 := Ker.final_sum m c
      have f1 := Ker.final_norm m c
      rw [h0, h1, V_main_arg2] at f0
      rw [h0, h1, V_main_arg2, V_main_arg3] at f1
      exact ⟨e0.trans f0, e1.trans f1, k⟩) (Cert.MixoutKernelIdeal.Value.run_blocks m g),
    (θ_run Cert.MixoutReferenceIdeal.defs _ _).mono (fun r hr c => by
      obtain ⟨h0, h1, h2, h3⟩ := e c
      obtain ⟨e0, e1, k⟩ := hr c
      have k0 := (e0.trans (val_main_v1_eq _ _ _)).trans (Ref.sum_val _ _ _)
      have k1 := (e1.trans (val_main_v16_eq _ _ _ _)).trans (Ref.norm_val _ _ _ _)
      rw [h0, h1, h2] at k0
      rw [h0, h1, h2, h3] at k1
      exact ⟨k0, k1, k⟩) (Cert.MixoutReferenceIdeal.Value.run (F := Ideal) m' g')⟩

end

end Cert.Mixout
-- ==== Proof.PloraVal.lean ====
/- The low-rank adapters' projection: a product summed run by run of lanes into the kernel's accumulator. -/
module

public import proofs.«01_k».proof.Proof.Sums
public import proofs.«01_k».proof.Proof.Gen.PloraKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Plora.Ker

open Idealize.ShloMosaic Cert.PloraKernelIdeal Cert.PloraKernelIdeal.Gen Idealize.ShloMosaic.TcCoe Idealize.SL.Sem

section

variable (c : Dev nD) (i : grid0.Coords) (arg3 : Memref sig .tc .vmem S2048x512 .bf16) (harg3 : arg3.IsWhole)
  (arg4 : Memref sig .tc .vmem S512x512 .bf16) (harg4 : arg4.IsWhole) (arg5 : Memref sig .tc .vmem S2048x512 .f32) (harg5 : arg5.IsWhole)
  (arg6 : Memref sig .tc .vmem S2048x512 .f32) (harg6 : arg6.IsWhole) (x0 : Vec Ideal S2048x512 .bf16) (x1 : Vec Ideal S512x512 .bf16)
  (xs : Vec Ideal S2048x512 .f32)

/-- The accumulator after a first point, -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (fun _ => scover0_A_0 ..)]
  unfold kernelRun0_A
  dsimp only
  sl_unfold_words
  simp (disch := decide) only [View.canon_cons_unit_lit', View.readCov_cons_unit_lit']
  simp only [View.readAt_eq_ld, harg3.read_unread, harg4.read_unread]
  repeat rw [View.ld_unit_zero (by decide)]

/-- and after a last one, which also leaves its block. -/
theorem end_B (hc0 : ¬cond0_0 i) (hc1 : cond0_1 i) (hc2 : cond0_2 i) :
    sout0_B_0 c i arg3 harg3 arg4 harg4 arg5 harg5 arg6 harg6 hc0 hc1 hc2 x0 x1 xs = k0_pay3 x0 x1 xs
    ∧ out0_B_2 c i arg3 harg3 arg4 harg4 arg5 harg5 arg6 harg6 hc0 hc1 hc2 x0 x1 xs = k0_pay3 x0 x1 xs := by
  unfold sout0_B_0 out0_B_2
  rw [View.read_writes_eq_canon _ _ _ (fun _ => scover0_B_0 ..), View.read_writes_eq_canon _ _ _ (fun _ => cover0_B_2 ..)]
  unfold kernelRun0_B
  dsimp only
  sl_unfold_words
  simp (disch := decide) only [View.canon_cons_unit_lit', View.readCov_cons_unit_lit']
  simp only [View.readAt_eq_ld, harg3.read_unread, harg4.read_unread, harg6.read_unread]
  repeat rw [View.ld_unit_zero (by decide)]
  exact ⟨rfl, rfl⟩

end

theorem pay2_val (x0 : Vec Ideal S2048x512 .bf16) (x1 : Vec Ideal S512x512 .bf16) (r : Fin 2048) (n : Fin 512) :
    k0_pay2 x0 x1 (ix2 r n) = ∑ s : Fin 512, x0 (ix2 r s) * x1 (ix2 n s) := by
  pointwise [k0_pay2, k0_pay1]

theorem pay3_val (x0 : Vec Ideal S2048x512 .bf16) (x1 : Vec Ideal S512x512 .bf16) (a : Vec Ideal S2048x512 .f32) (r : Fin 2048) (n : Fin 512) :
    k0_pay3 x0 x1 a (ix2 r n) = a (ix2 r n) + ∑ s : Fin 512, x0 (ix2 r s) * x1 (ix2 n s) := by
  pointwise [k0_pay3, k0_pay1]

end Cert.Plora.Ker

namespace Cert.Plora

open Idealize.ShloMosaic Cert.PloraKernelIdeal Cert.PloraKernelIdeal.Facts₀

/-- The projection: a token's row times a lane's weights. -/
def lin (d : S4096x1024.Idx → EReal) (w : Vec Ideal S1024x512 .f32) (j : S4096x512.Idx) : EReal :=
  ∑ k : Fin (2 * 512), d (ix2 (j 0) k) * w (ix2 k (j 1))

/-- The host's turn of the weights. -/
def turn (w : Vec Ideal S1024x512 .f32) : Vec Ideal S512x1024 .bf16 :=
  truncf (F := Ideal) .bf16 (transpose S512x1024 [1, 0] w transposes_S1024x512_S512x1024_1_0) bitsLt_bf16_f32

theorem turn_val (w : Vec Ideal S1024x512 .f32) (l : Fin 512) (k : Fin 1024) : turn w (ix2 l k) = w (ix2 k l) := by
  pointwise [turn]

end Cert.Plora

namespace Cert.Plora.Ker

open Idealize.ShloMosaic Cert.PloraKernelIdeal Cert.PloraKernelIdeal.Gen Idealize.ShloMosaic.TcCoe Idealize.SL.Sem

theorem lt_N (t : Fin cfg0.N) : t.val < 4 := lt_of_lt_of_eq t.isLt N_0

/-- The array's token and lane of a point's token and lane. -/
abbrev tok (i : ℕ) (r : Fin 2048) : Fin 4096 := Sums.at_ 2 2048 i r (by decide)
abbrev lane (k : ℕ) (s : Fin 512) : Fin 1024 := Sums.at_ 2 512 k s (by decide)

theorem tok_val (t : Fin cfg0.N) (r : Fin 2048) : (tok (t.val / 2) r).val = t.val / 2 * 2048 + r.val := by
  have := lt_N t
  exact congrArg (· * 2048 + r.val) (Nat.mod_eq_of_lt (by omega))

theorem lane_val (t : Fin cfg0.N) (s : Fin 512) : (lane (t.val % 2) s).val = t.val % 2 * 512 + s.val :=
  congrArg (· * 512 + s.val) (Nat.mod_mod _ _)

theorem idx : ∀ t : Fin cfg0.N, win0_0.index t = ![t.val / 2, t.val % 2] ∧ win0_1.index t = ![0, t.val % 2]
    ∧ win0_2.index t = ![t.val / 2, 0] :=
  (by decide +kernel : ∀ t : Fin grid0.N, _)

/-- The windows read. -/
theorem rd_h (A : S4096x1024.Idx → EReal) (t : Fin cfg0.N) (r : Fin 2048) (s : Fin 512) :
    ((cfg0.win 0).blk t).view.read (Elt Ideal) A (ix2 r s) = A (ix2 (tok (t.val / 2) r) (lane (t.val % 2) s)) := by
  refine congrArg A (funext fun a => ?_)
  match a with
  | ⟨0, _⟩ => exact Fin.ext (by blk_simp [idx t]; exact (tok_val t r).symm)
  | ⟨1, _⟩ => exact Fin.ext (by blk_simp [idx t]; exact (lane_val t s).symm)

theorem rd_w (A : S512x1024.Idx → EReal) (t : Fin cfg0.N) (q : Fin 512) (s : Fin 512) :
    ((cfg0.win 1).blk t).view.read (Elt Ideal) A (ix2 q s) = A (ix2 q (lane (t.val % 2) s)) := by
  refine congrArg A (funext fun a => ?_)
  match a with
  | ⟨0, _⟩ => exact Fin.ext (by blk_simp [idx t])
  | ⟨1, _⟩ => exact Fin.ext (by blk_simp [idx t]; exact (lane_val t s).symm)

/-- One run's products, summed, -/
def run (d : S4096x1024.Idx → EReal) (w : Vec Ideal S1024x512 .f32) (l : Fin 4096) (q : Fin 512) (k : ℕ) : EReal :=
  ∑ s : Fin 512, d (ix2 l (lane k s)) * w (ix2 (lane k s) q)

/-- as a block whose windows hold the run's lanes gives them. -/
theorem blk_run {x : Vec Ideal S2048x512 .bf16} {y : Vec Ideal S512x512 .bf16} {d : S4096x1024.Idx → EReal} {w : Vec Ideal S1024x512 .f32}
    {r : Fin 2048} {l : Fin 4096} {q : Fin 512} {k : ℕ} (h0 : ∀ s, x (ix2 r s) = d (ix2 l (lane k s)))
    (h1 : ∀ s, y (ix2 q s) = turn w (ix2 q (lane k s))) : ∑ s : Fin 512, x (ix2 r s) * y (ix2 q s) = run d w l q k := by
  unfold run
  simp only [h0, h1, turn_val]

/-- All the runs make the projection. -/
theorem runs_lin (d : S4096x1024.Idx → EReal) (w : Vec Ideal S1024x512 .f32) (l : Fin 4096) (q : Fin 512) :
    ∑ k ∈ Finset.range (1 + 1), run d w l q k = lin d w (ix2 l q) :=
  Sums.sum_runs 2 512 (by decide) fun k => d (ix2 l k) * w (ix2 k q)

variable (m : (ℓ : Loc nD τ sig) → Buf (Elt Ideal) ℓ) (c : Dev nD) (d : S4096x1024.Idx → EReal) (w : Vec Ideal S1024x512 .f32)
  (h0 : V m c main_v0 = d) (h1 : V m c main_v2 = turn w)
include h0 h1

theorem first (t : Fin cfg0.N) (r : Fin 2048) (q : Fin 512) :
    k0_pay2 (iblk m c 0 t) (iblk m c 1 t) (ix2 r q) = run d w (tok (t.val / 2) r) q (t.val % 2) :=
  (pay2_val _ _ r q).trans (blk_run (fun s => (rd_h _ t r s).trans (congrFun h0 _)) fun s => (rd_w _ t q s).trans (congrFun h1 _))

theorem next (t : Fin cfg0.N) (x : Vec Ideal S2048x512 .f32) (r : Fin 2048) (q : Fin 512) :
    k0_pay3 (iblk m c 0 t) (iblk m c 1 t) x (ix2 r q) = x (ix2 r q) + run d w (tok (t.val / 2) r) q (t.val % 2) :=
  (pay3_val _ _ x r q).trans (congrArg (x (ix2 r q) + ·)
    (blk_run (fun s => (rd_h _ t r s).trans (congrFun h0 _)) fun s => (rd_w _ t q s).trans (congrFun h1 _)))

/-- The accumulator after a point is the sum of the runs so far. -/
theorem acc (n : ℕ) (hn : n < cfg0.N) (r : Fin 2048) (q : Fin 512) : (outsAt0 m c n hn).2 (ix2 r q)
    = ∑ k ∈ Finset.range (n % 2 + 1), run d w (tok (n / 2) r) q k := by
  refine Sums.acc_runs 2 cfg0.N (by decide) (fun n hn => (outsAt0 m c n hn).2 (ix2 r q))
    (fun i k => run d w (tok i r) q k) (fun n hn h => ?_) (fun n hn h => ?_) n hn
  · rw [outsAt0_A m c ⟨n, hn⟩ h (by dsimp only; omega) (by dsimp only; omega)]
    dsimp only
    rw [sout_A, first m c d w h0 h1]
  · rw [outsAt0_B m c ⟨n + 1, hn⟩ h (by dsimp only; omega) (by dsimp only; omega)]
    dsimp only
    rw [(end_B ..).1, next m c d w h0 h1]
    rfl

omit h0 h1 in
/-- A last point leaves its accumulator. -/
theorem last (t : Fin cfg0.N) (h : t.val % 2 = 1) : (outsAt0 m c t.val t.isLt).1 = (outsAt0 m c t.val t.isLt).2 := by
  rw [outsAt0_B m c t (by omega) (by omega) h]
  dsimp only
  rw [(end_B ..).1, (end_B ..).2]

theorem last_at (t : Fin cfg0.N) (h : t.val % 2 = 1) (r : Fin 2048) (q : Fin 512) :
    (outsAt0 m c t.val t.isLt).2 (ix2 r q) = lin d w (ix2 (tok (t.val / 2) r) q) := by
  rw [acc m c d w h0 h1, h]
  exact runs_lin d w _ q

/-- The kernel's array ends holding the projection. -/
theorem final : (dats m 0 c).arrAt 2 cfg0.N = lin d w := by
  refine (dats m 0 c).arrAt_eq_of_covers 2 _ (by decide +kernel) fun t hf y => ?_
  have h3 : t.val % 2 = 1 := (flush0_2 t).mp hf
  have he : ((cfg0.win 2).blk t).view.emb y = ix2 (tok (t.val / 2) (y 0)) (y 1) := by
    funext a
    match a with
    | ⟨0, _⟩ => exact Fin.ext (by blk_simp [idx t]; exact (tok_val t _).symm)
    | ⟨1, _⟩ => exact Fin.ext (by blk_simp [idx t]; rfl)
  blk_simp
  rw [after0_2, last m c t h3]
  refine Eq.trans ?_ (congrArg (lin d w) he).symm
  exact (congrArg _ (eq_ix2 y)).trans (last_at m c d w h0 h1 t h3 (y 0) (y 1))

end Cert.Plora.Ker
-- ==== Proof.PloraClaims.lean ====
/- The claims on the low-rank adapters' projection, each from its program's run, and the reference's values. -/
module

public import proofs.«01_k».proof.Defs
public import proofs.«01_k».proof.Proof.PloraVal
public import proofs.«01_k».proof.Proof.Gen.PloraReferenceIdeal.Read
public import proofs.«01_k».proof.Proof.Gen.PloraKernel.Frame
public import proofs.«01_k».proof.Proof.Gen.PloraReferenceIdeal.Run
public import Idealize.ShloMosaic.Lib.Claim
public import Idealize.ShloMosaic.Lib.StableHlo.Run

@[expose] public section

set_option maxRecDepth 16384

noncomputable section

namespace Cert.Plora.Ref

open Idealize.ShloMosaic Cert.PloraReferenceIdeal Cert.PloraReferenceIdeal.Read

theorem sum_val (x0 : Vec Ideal S4096x1024 .f32) (x1 : Vec Ideal S1024x512 .f32) (s : Fin 4096) (q : Fin 512) :
    val_main_v0 (F := Ideal) x0 x1 (ix2 s q) = ∑ k : Fin 1024, x0 (ix2 s k) * x1 (ix2 k q) := by
  pointwise [val_main_v0]

theorem lin_val (x0 : Vec Ideal S4096x1024 .f32) (x1 : Vec Ideal S1024x512 .f32) : val_main_v0 (F := Ideal) x0 x1 = lin x0 x1 := by
  funext j
  exact (congrArg _ (eq_ix2 j)).trans (sum_val x0 x1 (j 0) (j 1))

end Cert.Plora.Ref

namespace Cert.Plora

open Idealize.ShloMosaic Idealize.ShloMosaic.TcCoe Idealize.SL.Sem

/-- The reference keeps its arguments, and has no semaphore. -/
theorem frame_reference : Cert.quiescent_PloraReferenceIdeal := fun m g _ =>
  (θ_run Cert.PloraReferenceIdeal.defs _ _).mono
    (fun r h => ⟨fun c => (h c).2, sem_eq_zero_of_no_sems (by decide) r.2⟩)
    (Cert.PloraReferenceIdeal.Value.run (F := Ideal) m g)

section

open Cert.PloraKernelIdeal Cert.PloraKernelIdeal.Gen Idealize.ShloMosaic.StableHlo Cert.PloraReferenceIdeal.Read

variable (m : (ℓ : Loc nD τ sig) → Buf (Elt Ideal) ℓ) (c : Dev nD)

/-- What the host hands the launch: an argument, whose narrowing changes no number, and the weights turned. -/
theorem host : V m c main_v0 = truncf (F := Ideal) .bf16 (m ((c : Thread nD τ).loc main_arg0)) bitsLt_bf16_f32 ∧ V m c main_v2 = turn (m ((c : Thread nD τ).loc main_arg1)) := by
  unfold V hostOps0
  refine ⟨?_, ?_⟩ <;> after_results_simp
  rfl

/-- Kernel and reference agree. -/
theorem algebraic : Cert.algebraic_PloraKernelIdeal_PloraReferenceIdeal := fun m g m' g' _ e =>
  ⟨fun c => lin (m ((c.tc : Thread _ _).loc main_arg0)) (m ((c.tc : Thread _ _).loc main_arg1)),
    (θ_run defs _ _).mono (fun r hr c => by
      obtain ⟨e0, k⟩ := hr c
      obtain ⟨h0, h1⟩ := host m c
      exact ⟨e0.trans (Ker.final m c _ _ h0 h1), k⟩) (Cert.PloraKernelIdeal.Value.run_blocks m g),
    (θ_run Cert.PloraReferenceIdeal.defs _ _).mono (fun r hr c => by
      obtain ⟨h0, h1⟩ := e c
      obtain ⟨e0, k⟩ := hr c
      have k0 := (e0.trans (val_main_v0_eq _ _)).trans (Ref.lin_val _ _)
      rw [h0, h1] at k0
      exact ⟨k0, k⟩) (Cert.PloraReferenceIdeal.Value.run (F := Ideal) m' g')⟩

end

end Cert.Plora
-- ==== Proof.DhloraVal.lean ====
/- The low-rank adapters' projection's input's cotangent: what one grid point's body stores, and what the launch's array ends holding. -/
module

public import proofs.«01_k».proof.Proof.Gen.DhloraKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Dhlora

open Idealize.ShloMosaic Cert.DhloraKernelIdeal Cert.DhloraKernelIdeal.Facts₀

/-- The input's cotangent: a token's cotangents times a lane's weights. -/
def back (d : S4096x512.Idx → EReal) (w : S1024x512.Idx → EReal) (j : S4096x1024.Idx) : EReal :=
  ∑ k : Fin 512, d (ix2 (j 0) k) * w (ix2 (j 1) k)

/-- The host's turn of the weights. -/
def turn (w : Vec Ideal S1024x512 .f32) : Vec Ideal S512x1024 .bf16 :=
  truncf (F := Ideal) .bf16 (transpose S512x1024 [1, 0] w transposes_S1024x512_S512x1024_1_0) bitsLt_bf16_f32

theorem turn_val (w : Vec Ideal S1024x512 .f32) (l : Fin 512) (k : Fin 1024) : turn w (ix2 l k) = w (ix2 k l) := by
  pointwise [turn]

end Cert.Dhlora

namespace Cert.Dhlora.Ker

open Idealize.ShloMosaic Cert.DhloraKernelIdeal Cert.DhloraKernelIdeal.Gen Idealize.ShloMosaic.TcCoe Idealize.SL.Sem

theorem pay1_val (d : Vec Ideal S2048x512 .bf16) (w : Vec Ideal S512x1024 .bf16) (r : Fin 2048) (f : Fin 1024) :
    k0_pay1 d w (ix2 r f) = ∑ k : Fin 512, d (ix2 r k) * w (ix2 k f) := by
  pointwise [k0_pay1]

/-- A point stores its rows' products. -/
theorem out_val (d : Vec Ideal S2048x512 .bf16) (w : Vec Ideal S512x1024 .bf16) : out0_2 d w = k0_pay1 d w := by
  unfold out0_2 r0_2
  simp (disch := decide) only [View.canon_cons_unit_lit']
  rw [View.ld_unit_zero (by decide), View.ld_unit_zero (by decide)]

theorem lt_N (t : Fin cfg0.N) : t.val < 2 := lt_of_lt_of_eq t.isLt N_0

/-- The array's row of a point's row. -/
def row (t : Fin cfg0.N) (r : Fin 2048) : Fin 4096 := ⟨t.val * 2048 + r.val, by have := lt_N t; omega⟩

theorem idx : ∀ t : Fin cfg0.N, win0_0.index t = ![t.val, 0] ∧ win0_1.index t = ![0, 0]
    ∧ win0_2.index t = ![t.val, 0] :=
  (by decide +kernel : ∀ t : Fin grid0.N, _)

/-- The windows read. -/
theorem rd_h (A : S4096x512.Idx → EReal) (t : Fin cfg0.N) (r : Fin 2048) (k : Fin 512) :
    ((cfg0.win 0).blk t).view.read (Elt Ideal) A (ix2 r k) = A (ix2 (row t r) k) := by
  refine congrArg A (funext fun a => ?_)
  match a with
  | ⟨0, _⟩ => exact Fin.ext (by blk_simp [idx t]; rfl)
  | ⟨1, _⟩ => exact Fin.ext (by blk_simp [idx t])

theorem rd_w (A : S512x1024.Idx → EReal) (t : Fin cfg0.N) (k : Fin 512) (f : Fin 1024) :
    ((cfg0.win 1).blk t).view.read (Elt Ideal) A (ix2 k f) = A (ix2 k f) := by
  refine congrArg A (funext fun a => ?_)
  match a with
  | ⟨0, _⟩ => exact Fin.ext (by blk_simp [idx t])
  | ⟨1, _⟩ => exact Fin.ext (by blk_simp [idx t])

/-- A block whose windows hold an array's row and lane makes their product. -/
theorem blk_back {d : Vec Ideal S2048x512 .bf16} {w : Vec Ideal S512x1024 .bf16} {h : S4096x512.Idx → EReal} {v : Vec Ideal S1024x512 .f32}
    {r : Fin 2048} {f : Fin 1024} {s : Fin 4096} {l : Fin 1024} (h0 : ∀ k : Fin 512, d (ix2 r k) = h (ix2 s k))
    (h1 : ∀ k : Fin 512, w (ix2 k f) = turn v (ix2 k l)) : ∑ k : Fin 512, d (ix2 r k) * w (ix2 k f) = back h v (ix2 s l) :=
  Finset.sum_congr rfl fun k _ => congrArg₂ (· * ·) (h0 k) ((h1 k).trans (turn_val v k l))

variable (m : (ℓ : Loc nD τ sig) → Buf (Elt Ideal) ℓ) (c : Dev nD) (h : S4096x512.Idx → EReal) (v : Vec Ideal S1024x512 .f32)

/-- The kernel's array ends holding the cotangents. -/
theorem final (h0 : V m c main_v0 = h) (h1 : V m c main_v2 = turn v) : (dats m 0 c).arrAt 2 cfg0.N = back h v := by
  refine (dats m 0 c).arrAt_eq_of_covers 2 _ (by decide +kernel) fun t hf y => ?_
  have he : ((cfg0.win 2).blk t).view.emb y = ix2 (row t (y 0)) (y 1) := by
    funext a
    match a with
    | ⟨0, _⟩ => exact Fin.ext (by blk_simp [idx t]; rfl)
    | ⟨1, _⟩ => exact Fin.ext (by blk_simp [idx t]; rfl)
  blk_simp
  rw [after0_2, out_val]
  refine Eq.trans ?_ (congrArg (back h v) he).symm
  refine (congrArg _ (eq_ix2 y)).trans ((pay1_val _ _ (y 0) (y 1)).trans ?_)
  exact blk_back (fun k => (rd_h _ t (y 0) k).trans (congrFun h0 _)) fun k => (rd_w _ t k (y 1)).trans (congrFun h1 _)

end Cert.Dhlora.Ker
-- ==== Proof.DhloraClaims.lean ====
/- The claims on the low-rank adapters' projection's input's cotangent, each from its program's run, and the reference's values. -/
module

public import proofs.«01_k».proof.Defs
public import proofs.«01_k».proof.Proof.DhloraVal
public import proofs.«01_k».proof.Proof.Gen.DhloraReferenceIdeal.Read
public import proofs.«01_k».proof.Proof.Gen.DhloraKernel.Frame
public import proofs.«01_k».proof.Proof.Gen.DhloraReferenceIdeal.Run
public import Idealize.ShloMosaic.Lib.Claim
public import Idealize.ShloMosaic.Lib.StableHlo.Run

@[expose] public section

set_option maxRecDepth 16384

noncomputable section

namespace Cert.Dhlora.Ref

open Idealize.ShloMosaic Cert.DhloraReferenceIdeal Cert.DhloraReferenceIdeal.Read

theorem sum_val (x1 : Vec Ideal S1024x512 .f32) (x2 : Vec Ideal S4096x512 .f32) (s : Fin 4096) (q : Fin 1024) :
    val_main_v1 (F := Ideal) x1 x2 (ix2 s q) = ∑ k : Fin 512, x2 (ix2 s k) * x1 (ix2 q k) := by
  pointwise [val_main_v1]

theorem back_val (x1 : Vec Ideal S1024x512 .f32) (x2 : Vec Ideal S4096x512 .f32) : val_main_v1 (F := Ideal) x1 x2 = back x2 x1 := by
  funext j
  exact (congrArg _ (eq_ix2 j)).trans (sum_val x1 x2 (j 0) (j 1))

end Cert.Dhlora.Ref

namespace Cert.Dhlora

open Idealize.ShloMosaic Idealize.ShloMosaic.TcCoe Idealize.SL.Sem

/-- The reference keeps its arguments, and has no semaphore. -/
theorem frame_reference : Cert.quiescent_DhloraReferenceIdeal := fun m g _ =>
  (θ_run Cert.DhloraReferenceIdeal.defs _ _).mono
    (fun r h => ⟨fun c => (h c).2, sem_eq_zero_of_no_sems (by decide) r.2⟩)
    (Cert.DhloraReferenceIdeal.Value.run (F := Ideal) m g)

section

open Cert.DhloraKernelIdeal Cert.DhloraKernelIdeal.Gen Idealize.ShloMosaic.StableHlo Cert.DhloraReferenceIdeal.Read

variable (m : (ℓ : Loc nD τ sig) → Buf (Elt Ideal) ℓ) (c : Dev nD)

/-- What the host hands the launch: an argument, whose narrowing changes no number, and the weights turned. -/
theorem host : V m c main_v0 = truncf (F := Ideal) .bf16 (m ((c : Thread nD τ).loc main_arg2)) bitsLt_bf16_f32 ∧ V m c main_v2 = turn (m ((c : Thread nD τ).loc main_arg1)) := by
  unfold V hostOps0
  refine ⟨?_, ?_⟩ <;> after_results_simp
  rfl

/-- Kernel and reference agree. -/
theorem algebraic : Cert.algebraic_DhloraKernelIdeal_DhloraReferenceIdeal := fun m g m' g' _ e =>
  ⟨fun c => back (m ((c.tc : Thread _ _).loc main_arg2)) (m ((c.tc : Thread _ _).loc main_arg1)),
    (θ_run defs _ _).mono (fun r hr c => by
      obtain ⟨e0, k⟩ := hr c
      obtain ⟨h0, h1⟩ := host m c
      exact ⟨e0.trans (Ker.final m c _ _ h0 h1), k⟩) (Cert.DhloraKernelIdeal.Value.run_blocks m g),
    (θ_run Cert.DhloraReferenceIdeal.defs _ _).mono (fun r hr c => by
      obtain ⟨h0, h1, h2⟩ := e c
      obtain ⟨e0, k⟩ := hr c
      have k0 := (e0.trans (val_main_v1_eq _ _)).trans (Ref.back_val _ _)
      rw [h2, h1] at k0
      exact ⟨k0, k⟩) (Cert.DhloraReferenceIdeal.Value.run (F := Ideal) m' g')⟩

end

end Cert.Dhlora
-- ==== Proof.DwloraVal.lean ====
/- The low-rank adapters' projection's weights' gradient: a product summed run by run of tokens into the kernel's accumulator. -/
module

public import proofs.«01_k».proof.Proof.Sums
public import proofs.«01_k».proof.Proof.Gen.DwloraKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Dwlora.Ker

open Idealize.ShloMosaic Cert.DwloraKernelIdeal Cert.DwloraKernelIdeal.Gen Idealize.ShloMosaic.TcCoe Idealize.SL.Sem

section

variable (c : Dev nD) (i : grid0.Coords) (arg3 : Memref sig .tc .vmem S1024x512 .bf16) (harg3 : arg3.IsWhole)
  (arg4 : Memref sig .tc .vmem S1024x1024 .bf16) (harg4 : arg4.IsWhole) (arg5 : Memref sig .tc .vmem S512x1024 .bf16) (harg5 : arg5.IsWhole)
  (arg6 : Memref sig .tc .vmem S512x1024 .f32) (harg6 : arg6.IsWhole) (x0 : Vec Ideal S1024x512 .bf16) (x1 : Vec Ideal S1024x1024 .bf16)
  (xs : Vec Ideal S512x1024 .f32)

/-- The accumulator after a first point, -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (fun _ => scover0_A_0 ..)]
  unfold kernelRun0_A
  dsimp only
  sl_unfold_words
  simp (disch := decide) only [View.canon_cons_unit_lit', View.readCov_cons_unit_lit']
  simp only [View.readAt_eq_ld, harg3.read_unread, harg4.read_unread]
  repeat rw [View.ld_unit_zero (by decide)]

/-- after a middle one -/
theorem sout_B (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0
  rw [View.read_writes_eq_canon _ _ _ (fun _ => scover0_B_0 ..)]
  unfold kernelRun0_B
  dsimp only
  sl_unfold_words
  simp (disch := decide) only [View.canon_cons_unit_lit', View.readCov_cons_unit_lit']
  simp only [View.readAt_eq_ld, harg3.read_unread, harg4.read_unread, harg6.read_unread]
  repeat rw [View.ld_unit_zero (by decide)]

/-- and after a last one, which also leaves its block. -/
theorem end_C (hc0 : ¬cond0_0 i) (hc1 : cond0_1 i) (hc2 : cond0_2 i) :
    sout0_C_0 c i arg3 harg3 arg4 harg4 arg5 harg5 arg6 harg6 hc0 hc1 hc2 x0 x1 xs = k0_pay3 x0 x1 xs
    ∧ out0_C_2 c i arg3 harg3 arg4 harg4 arg5 harg5 arg6 harg6 hc0 hc1 hc2 x0 x1 xs = k0_pay4 (k0_pay3 x0 x1 xs) := by
  unfold sout0_C_0 out0_C_2
  rw [View.read_writes_eq_canon _ _ _ (fun _ => scover0_C_0 ..), View.read_writes_eq_canon _ _ _ (fun _ => cover0_C_2 ..)]
  unfold kernelRun0_C
  dsimp only
  sl_unfold_words
  simp (disch := decide) only [View.canon_cons_unit_lit', View.readCov_cons_unit_lit']
  simp only [View.readAt_eq_ld, harg3.read_unread, harg4.read_unread, harg6.read_unread]
  repeat rw [View.ld_unit_zero (by decide)]
  exact ⟨rfl, rfl⟩

end

theorem pay2_val (x0 : Vec Ideal S1024x512 .bf16) (x1 : Vec Ideal S1024x1024 .bf16) (r : Fin 512) (n : Fin 1024) :
    k0_pay2 x0 x1 (ix2 r n) = ∑ s : Fin 1024, x0 (ix2 s r) * x1 (ix2 s n) := by
  pointwise [k0_pay2, k0_pay1]

theorem pay3_val (x0 : Vec Ideal S1024x512 .bf16) (x1 : Vec Ideal S1024x1024 .bf16) (a : Vec Ideal S512x1024 .f32) (r : Fin 512) (n : Fin 1024) :
    k0_pay3 x0 x1 a (ix2 r n) = a (ix2 r n) + ∑ s : Fin 1024, x0 (ix2 s r) * x1 (ix2 s n) := by
  pointwise [k0_pay3, k0_pay1]

theorem pay4_val (a : Vec Ideal S512x1024 .f32) (r : Fin 512) (n : Fin 1024) :
    (k0_pay4 a (ix2 r n) : EReal) = a (ix2 r n) := by
  pointwise [k0_pay4]

end Cert.Dwlora.Ker

namespace Cert.Dwlora

open Idealize.ShloMosaic Cert.DwloraKernelIdeal

/-- The gradient: every token's cotangent times its input, summed. -/
def grad (a : S4096x512.Idx → EReal) (b : S4096x1024.Idx → EReal) (j : S512x1024.Idx) : EReal :=
  ∑ k : Fin (4 * 1024), a (ix2 k (j 0)) * b (ix2 k (j 1))

end Cert.Dwlora

namespace Cert.Dwlora.Ker

open Idealize.ShloMosaic Cert.DwloraKernelIdeal Cert.DwloraKernelIdeal.Gen Idealize.ShloMosaic.TcCoe Idealize.SL.Sem

theorem lt_N (t : Fin cfg0.N) : t.val < 4 := lt_of_lt_of_eq t.isLt N_0

/-- The array's token and lane of a point's token and lane. -/
abbrev tok (k : ℕ) (s : Fin 1024) : Fin 4096 := Sums.at_ 4 1024 k s (by decide)
abbrev lane (i : ℕ) (r : Fin 512) : Fin 512 := Sums.at_ 1 512 i r (by decide)

theorem lane_val (t : Fin cfg0.N) (r : Fin 512) : (lane (t.val / 4) r).val = t.val / 4 * 512 + r.val := by
  have := lt_N t
  exact congrArg (· * 512 + r.val) (Nat.mod_eq_of_lt (by omega))

theorem tok_val (t : Fin cfg0.N) (s : Fin 1024) : (tok (t.val % 4) s).val = t.val % 4 * 1024 + s.val :=
  congrArg (· * 1024 + s.val) (Nat.mod_mod _ _)

theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The windows read. -/
theorem rd_dp (A : S4096x512.Idx → EReal) (t : Fin cfg0.N) (s : Fin 1024) (r : Fin 512) :
    ((cfg0.win 0).blk t).view.read (Elt Ideal) A (ix2 s r) = A (ix2 (tok (t.val % 4) s) (lane (t.val / 4) r)) := by
  refine congrArg A (funext fun a => ?_)
  match a with
  | ⟨0, _⟩ => exact Fin.ext (by blk_simp [idx t]; exact (tok_val t s).symm)
  | ⟨1, _⟩ => exact Fin.ext (by blk_simp [idx t]; exact (lane_val t r).symm)

theorem rd_in (A : S4096x1024.Idx → EReal) (t : Fin cfg0.N) (s : Fin 1024) (q : Fin 1024) :
    ((cfg0.win 1).blk t).view.read (Elt Ideal) A (ix2 s q) = A (ix2 (tok (t.val % 4) s) q) := by
  refine congrArg A (funext fun a => ?_)
  match a with
  | ⟨0, _⟩ => exact Fin.ext (by blk_simp [idx t]; exact (tok_val t s).symm)
  | ⟨1, _⟩ => exact Fin.ext (by blk_simp [idx t])

/-- One run's products, summed, -/
def run (a : S4096x512.Idx → EReal) (b : S4096x1024.Idx → EReal) (l : Fin 512) (q : Fin 1024) (k : ℕ) : EReal :=
  ∑ s : Fin 1024, a (ix2 (tok k s) l) * b (ix2 (tok k s) q)

/-- as a block whose windows hold the run's rows and lanes gives them. -/
theorem blk_run {d : Vec Ideal S1024x512 .bf16} {w : Vec Ideal S1024x1024 .bf16} {a : S4096x512.Idx → EReal} {b : S4096x1024.Idx → EReal}
    {r : Fin 512} {l : Fin 512} {q : Fin 1024} {k : ℕ} (h0 : ∀ s, d (ix2 s r) = a (ix2 (tok k s) l))
    (h1 : ∀ s, w (ix2 s q) = b (ix2 (tok k s) q)) : ∑ s : Fin 1024, d (ix2 s r) * w (ix2 s q) = run a b l q k := by
  unfold run
  simp only [h0, h1]

/-- All four runs make the gradient. -/
theorem runs_grad (a : S4096x512.Idx → EReal) (b : S4096x1024.Idx → EReal) (l : Fin 512) (q : Fin 1024) :
    ∑ k ∈ Finset.range (3 + 1), run a b l q k = grad a b (ix2 l q) :=
  Sums.sum_runs 4 1024 (by decide) fun k => a (ix2 k l) * b (ix2 k q)

variable (m : (ℓ : Loc nD τ sig) → Buf (Elt Ideal) ℓ) (c : Dev nD)

theorem first (t : Fin cfg0.N) (r : Fin 512) (q : Fin 1024) :
    k0_pay2 (iblk m c 0 t) (iblk m c 1 t) (ix2 r q) = run (V m c main_v0) (V m c main_v1) (lane (t.val / 4) r) q (t.val % 4) :=
  (pay2_val _ _ r q).trans (blk_run (fun s => rd_dp _ t s r) fun s => rd_in _ t s q)

theorem next (t : Fin cfg0.N) (x : Vec Ideal S512x1024 .f32) (r : Fin 512) (q : Fin 1024) :
    k0_pay3 (iblk m c 0 t) (iblk m c 1 t) x (ix2 r q) = x (ix2 r q) + run (V m c main_v0) (V m c main_v1) (lane (t.val / 4) r) q (t.val % 4) :=
  (pay3_val _ _ x r q).trans (congrArg (x (ix2 r q) + ·) (blk_run (fun s => rd_dp _ t s r) fun s => rd_in _ t s q))

/-- The accumulator after a point is the sum of the runs so far. -/
theorem acc (n : ℕ) (hn : n < cfg0.N) (r : Fin 512) (q : Fin 1024) : (outsAt0 m c n hn).2 (ix2 r q)
    = ∑ k ∈ Finset.range (n % 4 + 1), run (V m c main_v0) (V m c main_v1) (lane (n / 4) r) q k := by
  refine Sums.acc_runs 4 cfg0.N (by decide) (fun n hn => (outsAt0 m c n hn).2 (ix2 r q))
    (fun i k => run (V m c main_v0) (V m c main_v1) (lane i r) q k) (fun n hn h => ?_) (fun n hn h => ?_) n hn
  · have hN := lt_N ⟨n, hn⟩
    dsimp only at hN
    rw [outsAt0_A m c ⟨n, hn⟩ h (by dsimp only; omega) (by dsimp only; omega)]
    dsimp only
    rw [sout_A, first]
  · by_cases h2 : (n + 1) % 4 = 3
    · rw [outsAt0_C m c ⟨n + 1, hn⟩ h (by dsimp only; omega) h2]
      dsimp only
      rw [(end_C ..).1, next]
      rfl
    · rw [outsAt0_B m c ⟨n + 1, hn⟩ h (by dsimp only; omega) h2]
      dsimp only
      rw [sout_B, next]
      rfl

/-- A last point leaves its accumulator. -/
theorem last (t : Fin cfg0.N) (h : t.val % 4 = 3) : (outsAt0 m c t.val t.isLt).1 = k0_pay4 (outsAt0 m c t.val t.isLt).2 := by
  rw [outsAt0_C m c t (by omega) (by omega) h]
  dsimp only
  rw [(end_C ..).1, (end_C ..).2]

theorem last_at (t : Fin cfg0.N) (h : t.val % 4 = 3) (r : Fin 512) (q : Fin 1024) :
    (k0_pay4 (outsAt0 m c t.val t.isLt).2 (ix2 r q) : EReal) = grad (V m c main_v0) (V m c main_v1) (ix2 (lane (t.val / 4) r) q) := by
  rw [pay4_val, acc, h]
  exact runs_grad _ _ _ q

/-- The kernel's array ends holding the gradient. -/
theorem final : (dats m 0 c).arrAt 2 cfg0.N = grad (V m c main_v0) (V m c main_v1) := by
  refine (dats m 0 c).arrAt_eq_of_covers 2 _ (by decide +kernel) fun t hf y => ?_
  have h3 : t.val % 4 = 3 := (flush0_2 t).mp hf
  have he : ((cfg0.win 2).blk t).view.emb y = ix2 (lane (t.val / 4) (y 0)) (y 1) := by
    funext a
    match a with
    | ⟨0, _⟩ => exact Fin.ext (by blk_simp [idx t]; exact (lane_val t _).symm)
    | ⟨1, _⟩ => exact Fin.ext (by blk_simp [idx t]; rfl)
  blk_simp
  rw [after0_2, last m c t h3]
  refine Eq.trans ?_ (congrArg (grad (V m c main_v0) (V m c main_v1)) he).symm
  exact (congrArg _ (eq_ix2 y)).trans (last_at m c t h3 (y 0) (y 1))

end Cert.Dwlora.Ker
-- ==== Proof.DwloraClaims.lean ====
/- The claims on the low-rank adapters' projection's weights' gradient, each from its program's run, and the reference's values. -/
module

public import proofs.«01_k».proof.Defs
public import proofs.«01_k».proof.Proof.DwloraVal
public import proofs.«01_k».proof.Proof.Gen.DwloraReferenceIdeal.Read
public import proofs.«01_k».proof.Proof.Gen.DwloraKernel.Frame
public import proofs.«01_k».proof.Proof.Gen.DwloraReferenceIdeal.Run
public import Idealize.ShloMosaic.Lib.Claim
public import Idealize.ShloMosaic.Lib.StableHlo.Run

@[expose] public section

set_option maxRecDepth 16384

noncomputable section

namespace Cert.Dwlora.Ref

open Idealize.ShloMosaic Cert.DwloraReferenceIdeal Cert.DwloraReferenceIdeal.Read

theorem sum_val (x0 : Vec Ideal S4096x1024 .f32) (x2 : Vec Ideal S4096x512 .f32) (f : Fin 512) (d : Fin 1024) :
    (val_main_v4 (F := Ideal) x0 x2 (ix2 f d) : EReal) = ∑ k : Fin 4096, x2 (ix2 k f) * x0 (ix2 k d) := by
  pointwise [val_main_v4, val_main_v3, val_main_v2, val_main_v1]

/-- The two turns of the reference undo each other. -/
theorem grad_val (x0 : Vec Ideal S4096x1024 .f32) (x2 : Vec Ideal S4096x512 .f32) : val_main_v4 (F := Ideal) x0 x2 = grad x2 x0 := by
  funext j
  exact (congrArg _ (eq_ix2 j)).trans (sum_val x0 x2 (j 0) (j 1))

end Cert.Dwlora.Ref

namespace Cert.Dwlora

open Idealize.ShloMosaic Idealize.ShloMosaic.TcCoe Idealize.SL.Sem

/-- The reference keeps its arguments, and has no semaphore. -/
theorem frame_reference : Cert.quiescent_DwloraReferenceIdeal := fun m g _ =>
  (θ_run Cert.DwloraReferenceIdeal.defs _ _).mono
    (fun r h => ⟨fun c => (h c).2, sem_eq_zero_of_no_sems (by decide) r.2⟩)
    (Cert.DwloraReferenceIdeal.Value.run (F := Ideal) m g)

section

open Cert.DwloraKernelIdeal Cert.DwloraKernelIdeal.Gen Idealize.ShloMosaic.StableHlo Cert.DwloraReferenceIdeal.Read

variable (m : (ℓ : Loc nD τ sig) → Buf (Elt Ideal) ℓ) (c : Dev nD)

/-- What the host hands the launch: the arguments, whose narrowing changes no number. -/
theorem host : V m c main_v0 = truncf (F := Ideal) .bf16 (m ((c : Thread nD τ).loc main_arg2)) bitsLt_bf16_f32 ∧ V m c main_v1 = truncf (F := Ideal) .bf16 (m ((c : Thread nD τ).loc main_arg0)) bitsLt_bf16_f32 := by
  unfold V hostOps0
  refine ⟨?_, ?_⟩ <;> after_results_simp

/-- Kernel and reference agree. -/
theorem algebraic : Cert.algebraic_DwloraKernelIdeal_DwloraReferenceIdeal := fun m g m' g' _ e =>
  ⟨fun c => grad (m ((c.tc : Thread _ _).loc main_arg2)) (m ((c.tc : Thread _ _).loc main_arg0)),
    (θ_run defs _ _).mono (fun r hr c => by
      obtain ⟨e0, k⟩ := hr c
      obtain ⟨h0, h1⟩ := host m c
      refine ⟨e0.trans ((Ker.final m c).trans ?_), k⟩
      rw [h0, h1]
      rfl) (Cert.DwloraKernelIdeal.Value.run_blocks m g),
    (θ_run Cert.DwloraReferenceIdeal.defs _ _).mono (fun r hr c => by
      obtain ⟨h0, h1, h2⟩ := e c
      obtain ⟨e0, k⟩ := hr c
      have k0 := (e0.trans (val_main_v4_eq _ _)).trans (Ref.grad_val _ _)
      rw [h2, h0] at k0
      exact ⟨k0, k⟩) (Cert.DwloraReferenceIdeal.Value.run (F := Ideal) m' g')⟩

end

end Cert.Dwlora
-- ==== Proof.DwpaVal.lean ====
/- The attention branch's projection's weights' gradient: a product summed run by run of tokens into the kernel's accumulator. -/
module

public import proofs.«01_k».proof.Proof.Sums
public import proofs.«01_k».proof.Proof.Gen.DwpaKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Dwpa.Ker

open Idealize.ShloMosaic Cert.DwpaKernelIdeal Cert.DwpaKernelIdeal.Gen Idealize.ShloMosaic.TcCoe Idealize.SL.Sem

section

variable (c : Dev nD) (i : grid0.Coords) (arg3 : Memref sig .tc .vmem S1024x1024 .bf16) (harg3 : arg3.IsWhole)
  (arg4 : Memref sig .tc .vmem S1024x768 .bf16) (harg4 : arg4.IsWhole) (arg5 : Memref sig .tc .vmem S1024x768 .bf16) (harg5 : arg5.IsWhole)
  (arg6 : Memref sig .tc .vmem S1024x768 .f32) (harg6 : arg6.IsWhole) (x0 : Vec Ideal S1024x1024 .bf16) (x1 : Vec Ideal S1024x768 .bf16)
  (xs : Vec Ideal S1024x768 .f32)

/-- The accumulator after a first point, -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (fun _ => scover0_A_0 ..)]
  unfold kernelRun0_A
  dsimp only
  sl_unfold_words
  simp (disch := decide) only [View.canon_cons_unit_lit', View.readCov_cons_unit_lit']
  simp only [View.readAt_eq_ld, harg3.read_unread, harg4.read_unread]
  repeat rw [View.ld_unit_zero (by decide)]

/-- after a middle one -/
theorem sout_B (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0
  rw [View.read_writes_eq_canon _ _ _ (fun _ => scover0_B_0 ..)]
  unfold kernelRun0_B
  dsimp only
  sl_unfold_words
  simp (disch := decide) only [View.canon_cons_unit_lit', View.readCov_cons_unit_lit']
  simp only [View.readAt_eq_ld, harg3.read_unread, harg4.read_unread, harg6.read_unread]
  repeat rw [View.ld_unit_zero (by decide)]

/-- and after a last one, which also leaves its block. -/
theorem end_C (hc0 : ¬cond0_0 i) (hc1 : cond0_1 i) (hc2 : cond0_2 i) :
    sout0_C_0 c i arg3 harg3 arg4 harg4 arg5 harg5 arg6 harg6 hc0 hc1 hc2 x0 x1 xs = k0_pay3 x0 x1 xs
    ∧ out0_C_2 c i arg3 harg3 arg4 harg4 arg5 harg5 arg6 harg6 hc0 hc1 hc2 x0 x1 xs = k0_pay4 (k0_pay3 x0 x1 xs) := by
  unfold sout0_C_0 out0_C_2
  rw [View.read_writes_eq_canon _ _ _ (fun _ => scover0_C_0 ..), View.read_writes_eq_canon _ _ _ (fun _ => cover0_C_2 ..)]
  unfold kernelRun0_C
  dsimp only
  sl_unfold_words
  simp (disch := decide) only [View.canon_cons_unit_lit', View.readCov_cons_unit_lit']
  simp only [View.readAt_eq_ld, harg3.read_unread, harg4.read_unread, harg6.read_unread]
  repeat rw [View.ld_unit_zero (by decide)]
  exact ⟨rfl, rfl⟩

end

theorem pay2_val (x0 : Vec Ideal S1024x1024 .bf16) (x1 : Vec Ideal S1024x768 .bf16) (r : Fin 1024) (n : Fin 768) :
    k0_pay2 x0 x1 (ix2 r n) = ∑ s : Fin 1024, x0 (ix2 s r) * x1 (ix2 s n) := by
  pointwise [k0_pay2, k0_pay1]

theorem pay3_val (x0 : Vec Ideal S1024x1024 .bf16) (x1 : Vec Ideal S1024x768 .bf16) (a : Vec Ideal S1024x768 .f32) (r : Fin 1024) (n : Fin 768) :
    k0_pay3 x0 x1 a (ix2 r n) = a (ix2 r n) + ∑ s : Fin 1024, x0 (ix2 s r) * x1 (ix2 s n) := by
  pointwise [k0_pay3, k0_pay1]

theorem pay4_val (a : Vec Ideal S1024x768 .f32) (r : Fin 1024) (n : Fin 768) :
    (k0_pay4 a (ix2 r n) : EReal) = a (ix2 r n) := by
  pointwise [k0_pay4]

end Cert.Dwpa.Ker

namespace Cert.Dwpa

open Idealize.ShloMosaic Cert.DwpaKernelIdeal

/-- The gradient: every token's cotangent times its input, summed. -/
def grad (a : S4096x1024.Idx → EReal) (b : S4096x768.Idx → EReal) (j : S1024x768.Idx) : EReal :=
  ∑ k : Fin (4 * 1024), a (ix2 k (j 0)) * b (ix2 k (j 1))

end Cert.Dwpa

namespace Cert.Dwpa.Ker

open Idealize.ShloMosaic Cert.DwpaKernelIdeal Cert.DwpaKernelIdeal.Gen Idealize.ShloMosaic.TcCoe Idealize.SL.Sem

theorem lt_N (t : Fin cfg0.N) : t.val < 4 := lt_of_lt_of_eq t.isLt N_0

/-- The array's token and lane of a point's token and lane. -/
abbrev tok (k : ℕ) (s : Fin 1024) : Fin 4096 := Sums.at_ 4 1024 k s (by decide)
abbrev lane (i : ℕ) (r : Fin 1024) : Fin 1024 := Sums.at_ 1 1024 i r (by decide)

theorem lane_val (t : Fin cfg0.N) (r : Fin 1024) : (lane (t.val / 4) r).val = t.val / 4 * 1024 + r.val := by
  have := lt_N t
  exact congrArg (· * 1024 + r.val) (Nat.mod_eq_of_lt (by omega))

theorem tok_val (t : Fin cfg0.N) (s : Fin 1024) : (tok (t.val % 4) s).val = t.val % 4 * 1024 + s.val :=
  congrArg (· * 1024 + s.val) (Nat.mod_mod _ _)

theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The windows read. -/
theorem rd_dp (A : S4096x1024.Idx → EReal) (t : Fin cfg0.N) (s : Fin 1024) (r : Fin 1024) :
    ((cfg0.win 0).blk t).view.read (Elt Ideal) A (ix2 s r) = A (ix2 (tok (t.val % 4) s) (lane (t.val / 4) r)) := by
  refine congrArg A (funext fun a => ?_)
  match a with
  | ⟨0, _⟩ => exact Fin.ext (by blk_simp [idx t]; exact (tok_val t s).symm)
  | ⟨1, _⟩ => exact Fin.ext (by blk_simp [idx t]; exact (lane_val t r).symm)

theorem rd_in (A : S4096x768.Idx → EReal) (t : Fin cfg0.N) (s : Fin 1024) (q : Fin 768) :
    ((cfg0.win 1).blk t).view.read (Elt Ideal) A (ix2 s q) = A (ix2 (tok (t.val % 4) s) q) := by
  refine congrArg A (funext fun a => ?_)
  match a with
  | ⟨0, _⟩ => exact Fin.ext (by blk_simp [idx t]; exact (tok_val t s).symm)
  | ⟨1, _⟩ => exact Fin.ext (by blk_simp [idx t])

/-- One run's products, summed, -/
def run (a : S4096x1024.Idx → EReal) (b : S4096x768.Idx → EReal) (l : Fin 1024) (q : Fin 768) (k : ℕ) : EReal :=
  ∑ s : Fin 1024, a (ix2 (tok k s) l) * b (ix2 (tok k s) q)

/-- as a block whose windows hold the run's rows and lanes gives them. -/
theorem blk_run {d : Vec Ideal S1024x1024 .bf16} {w : Vec Ideal S1024x768 .bf16} {a : S4096x1024.Idx → EReal} {b : S4096x768.Idx → EReal}
    {r : Fin 1024} {l : Fin 1024} {q : Fin 768} {k : ℕ} (h0 : ∀ s, d (ix2 s r) = a (ix2 (tok k s) l))
    (h1 : ∀ s, w (ix2 s q) = b (ix2 (tok k s) q)) : ∑ s : Fin 1024, d (ix2 s r) * w (ix2 s q) = run a b l q k := by
  unfold run
  simp only [h0, h1]

/-- All four runs make the gradient. -/
theorem runs_grad (a : S4096x1024.Idx → EReal) (b : S4096x768.Idx → EReal) (l : Fin 1024) (q : Fin 768) :
    ∑ k ∈ Finset.range (3 + 1), run a b l q k = grad a b (ix2 l q) :=
  Sums.sum_runs 4 1024 (by decide) fun k => a (ix2 k l) * b (ix2 k q)

variable (m : (ℓ : Loc nD τ sig) → Buf (Elt Ideal) ℓ) (c : Dev nD)

theorem first (t : Fin cfg0.N) (r : Fin 1024) (q : Fin 768) :
    k0_pay2 (iblk m c 0 t) (iblk m c 1 t) (ix2 r q) = run (V m c main_v0) (V m c main_v1) (lane (t.val / 4) r) q (t.val % 4) :=
  (pay2_val _ _ r q).trans (blk_run (fun s => rd_dp _ t s r) fun s => rd_in _ t s q)

theorem next (t : Fin cfg0.N) (x : Vec Ideal S1024x768 .f32) (r : Fin 1024) (q : Fin 768) :
    k0_pay3 (iblk m c 0 t) (iblk m c 1 t) x (ix2 r q) = x (ix2 r q) + run (V m c main_v0) (V m c main_v1) (lane (t.val / 4) r) q (t.val % 4) :=
  (pay3_val _ _ x r q).trans (congrArg (x (ix2 r q) + ·) (blk_run (fun s => rd_dp _ t s r) fun s => rd_in _ t s q))

/-- The accumulator after a point is the sum of the runs so far. -/
theorem acc (n : ℕ) (hn : n < cfg0.N) (r : Fin 1024) (q : Fin 768) : (outsAt0 m c n hn).2 (ix2 r q)
    = ∑ k ∈ Finset.range (n % 4 + 1), run (V m c main_v0) (V m c main_v1) (lane (n / 4) r) q k := by
  refine Sums.acc_runs 4 cfg0.N (by decide) (fun n hn => (outsAt0 m c n hn).2 (ix2 r q))
    (fun i k => run (V m c main_v0) (V m c main_v1) (lane i r) q k) (fun n hn h => ?_) (fun n hn h => ?_) n hn
  · have hN := lt_N ⟨n, hn⟩
    dsimp only at hN
    rw [outsAt0_A m c ⟨n, hn⟩ h (by dsimp only; omega) (by dsimp only; omega)]
    dsimp only
    rw [sout_A, first]
  · by_cases h2 : (n + 1) % 4 = 3
    · rw [outsAt0_C m c ⟨n + 1, hn⟩ h (by dsimp only; omega) h2]
      dsimp only
      rw [(end_C ..).1, next]
      rfl
    · rw [outsAt0_B m c ⟨n + 1, hn⟩ h (by dsimp only; omega) h2]
      dsimp only
      rw [sout_B, next]
      rfl

/-- A last point leaves its accumulator. -/
theorem last (t : Fin cfg0.N) (h : t.val % 4 = 3) : (outsAt0 m c t.val t.isLt).1 = k0_pay4 (outsAt0 m c t.val t.isLt).2 := by
  rw [outsAt0_C m c t (by omega) (by omega) h]
  dsimp only
  rw [(end_C ..).1, (end_C ..).2]

theorem last_at (t : Fin cfg0.N) (h : t.val % 4 = 3) (r : Fin 1024) (q : Fin 768) :
    (k0_pay4 (outsAt0 m c t.val t.isLt).2 (ix2 r q) : EReal) = grad (V m c main_v0) (V m c main_v1) (ix2 (lane (t.val / 4) r) q) := by
  rw [pay4_val, acc, h]
  exact runs_grad _ _ _ q

/-- The kernel's array ends holding the gradient. -/
theorem final : (dats m 0 c).arrAt 2 cfg0.N = grad (V m c main_v0) (V m c main_v1) := by
  refine (dats m 0 c).arrAt_eq_of_covers 2 _ (by decide +kernel) fun t hf y => ?_
  have h3 : t.val % 4 = 3 := (flush0_2 t).mp hf
  have he : ((cfg0.win 2).blk t).view.emb y = ix2 (lane (t.val / 4) (y 0)) (y 1) := by
    funext a
    match a with
    | ⟨0, _⟩ => exact Fin.ext (by blk_simp [idx t]; exact (lane_val t _).symm)
    | ⟨1, _⟩ => exact Fin.ext (by blk_simp [idx t]; rfl)
  blk_simp
  rw [after0_2, last m c t h3]
  refine Eq.trans ?_ (congrArg (grad (V m c main_v0) (V m c main_v1)) he).symm
  exact (congrArg _ (eq_ix2 y)).trans (last_at m c t h3 (y 0) (y 1))

end Cert.Dwpa.Ker
-- ==== Proof.DwpaClaims.lean ====
/- The claims on the attention branch's projection's weights' gradient, each from its program's run, and the reference's values. -/
module

public import proofs.«01_k».proof.Defs
public import proofs.«01_k».proof.Proof.DwpaVal
public import proofs.«01_k».proof.Proof.Gen.DwpaReferenceIdeal.Read
public import proofs.«01_k».proof.Proof.Gen.DwpaKernel.Frame
public import proofs.«01_k».proof.Proof.Gen.DwpaReferenceIdeal.Run
public import Idealize.ShloMosaic.Lib.Claim
public import Idealize.ShloMosaic.Lib.StableHlo.Run

@[expose] public section

set_option maxRecDepth 16384

noncomputable section

namespace Cert.Dwpa.Ref

open Idealize.ShloMosaic Cert.DwpaReferenceIdeal Cert.DwpaReferenceIdeal.Read

theorem sum_val (x0 : Vec Ideal S4096x768 .f32) (x2 : Vec Ideal S4096x1024 .f32) (f : Fin 1024) (d : Fin 768) :
    (val_main_v4 (F := Ideal) x0 x2 (ix2 f d) : EReal) = ∑ k : Fin 4096, x2 (ix2 k f) * x0 (ix2 k d) := by
  pointwise [val_main_v4, val_main_v3, val_main_v2, val_main_v1]

/-- The two turns of the reference undo each other. -/
theorem grad_val (x0 : Vec Ideal S4096x768 .f32) (x2 : Vec Ideal S4096x1024 .f32) : val_main_v4 (F := Ideal) x0 x2 = grad x2 x0 := by
  funext j
  exact (congrArg _ (eq_ix2 j)).trans (sum_val x0 x2 (j 0) (j 1))

end Cert.Dwpa.Ref

namespace Cert.Dwpa

open Idealize.ShloMosaic Idealize.ShloMosaic.TcCoe Idealize.SL.Sem

/-- The reference keeps its arguments, and has no semaphore. -/
theorem frame_reference : Cert.quiescent_DwpaReferenceIdeal := fun m g _ =>
  (θ_run Cert.DwpaReferenceIdeal.defs _ _).mono
    (fun r h => ⟨fun c => (h c).2, sem_eq_zero_of_no_sems (by decide) r.2⟩)
    (Cert.DwpaReferenceIdeal.Value.run (F := Ideal) m g)

section

open Cert.DwpaKernelIdeal Cert.DwpaKernelIdeal.Gen Idealize.ShloMosaic.StableHlo Cert.DwpaReferenceIdeal.Read

variable (m : (ℓ : Loc nD τ sig) → Buf (Elt Ideal) ℓ) (c : Dev nD)

/-- What the host hands the launch: the arguments, whose narrowing changes no number. -/
theorem host : V m c main_v0 = truncf (F := Ideal) .bf16 (m ((c : Thread nD τ).loc main_arg2)) bitsLt_bf16_f32 ∧ V m c main_v1 = truncf (F := Ideal) .bf16 (m ((c : Thread nD τ).loc main_arg0)) bitsLt_bf16_f32 := by
  unfold V hostOps0
  refine ⟨?_, ?_⟩ <;> after_results_simp

/-- Kernel and reference agree. -/
theorem algebraic : Cert.algebraic_DwpaKernelIdeal_DwpaReferenceIdeal := fun m g m' g' _ e =>
  ⟨fun c => grad (m ((c.tc : Thread _ _).loc main_arg2)) (m ((c.tc : Thread _ _).loc main_arg0)),
    (θ_run defs _ _).mono (fun r hr c => by
      obtain ⟨e0, k⟩ := hr c
      obtain ⟨h0, h1⟩ := host m c
      refine ⟨e0.trans ((Ker.final m c).trans ?_), k⟩
      rw [h0, h1]
      rfl) (Cert.DwpaKernelIdeal.Value.run_blocks m g),
    (θ_run Cert.DwpaReferenceIdeal.defs _ _).mono (fun r hr c => by
      obtain ⟨h0, h1, h2⟩ := e c
      obtain ⟨e0, k⟩ := hr c
      have k0 := (e0.trans (val_main_v4_eq _ _)).trans (Ref.grad_val _ _)
      rw [h2, h0] at k0
      exact ⟨k0, k⟩) (Cert.DwpaReferenceIdeal.Value.run (F := Ideal) m' g')⟩

end

end Cert.Dwpa
-- ==== Proof.ProjbVal.lean ====
/- The attention branch's projection, and the branches merged by their gates. -/
module

public import proofs.«01_k».proof.Proof.Gen.ProjbKernelIdeal.Value
public import Idealize.ShloMosaic.Lib.Pointwise
public import Idealize.ShloMosaic.PureOps.Ideal.Laws
public import Idealize.ShloMosaic.Lib.Pipeline.ValueKit
public import Idealize.ShloMosaic.Lib.Tactic

@[expose] public section

set_option maxRecDepth 16384

noncomputable section

namespace Cert.Projb

open Idealize.ShloMosaic Cert.ProjbKernelIdeal Cert.ProjbKernelIdeal.Facts₀

variable (y : S4096x768.Idx → EReal) (w : Vec Ideal S768x1024 .f32) (p : S4096x2048.Idx → EReal) (x : S4096x1024.Idx → EReal)
  (b : S1x2048.Idx → EReal)

/-- The host's turn of the weights. -/
def turn : Vec Ideal S1024x768 .bf16 :=
  truncf (F := Ideal) .bf16 (transpose S1024x768 [1, 0] w transposes_S768x1024_S1024x768_1_0) bitsLt_bf16_f32

theorem turn_val (l : Fin 1024) (k : Fin 768) : turn w (ix2 l k) = w (ix2 k l) := by
  pointwise [turn]

/-- The projection: a token's row times a lane's weights, -/
def lin (j : S4096x1024.Idx) : EReal := ∑ k : Fin 768, y (ix2 (j 0) k) * w (ix2 k (j 1))

/-- a gate, -/
def gt (s : Fin 4096) (l : Fin 2048) : EReal := Ideal.logistic (p (ix2 s l) + b (ix2 0 l))

/-- the lanes of a lane's two gates, -/
def lo (q : Fin 1024) : Fin 2048 := ⟨q.val, by omega⟩
def hi (q : Fin 1024) : Fin 2048 := ⟨1024 + q.val, by omega⟩

/-- and the branches, each times its gate, summed. -/
def merge (j : S4096x1024.Idx) : EReal :=
  gt p b (j 0) (lo (j 1)) * x j + gt p b (j 0) (hi (j 1)) * lin y w j

end Cert.Projb

namespace Cert.Projb.Ker

open Idealize.ShloMosaic Cert.ProjbKernelIdeal Cert.ProjbKernelIdeal.Gen Idealize.ShloMosaic.TcCoe Idealize.SL.Sem

section

variable (y : Vec Ideal S512x768 .bf16) (w : Vec Ideal S1024x768 .bf16) (p : Vec Ideal S512x2048 .f32) (x : Vec Ideal S512x1024 .f32)
  (b : Vec Ideal S1x2048 .f32)

theorem pay1_val (r : Fin 512) (q : Fin 1024) : k0_pay1 y w (ix2 r q) = ∑ k : Fin 768, y (ix2 r k) * w (ix2 q k) := by
  pointwise [k0_pay1]

theorem pay2_val (r : Fin 512) (q : Fin 1024) : (k0_pay2 y w p x b (ix2 r q) : EReal)
    = Ideal.logistic (p (ix2 r (lo q)) + b (ix2 0 (lo q))) * x (ix2 r q)
      + Ideal.logistic (p (ix2 r (hi q)) + b (ix2 0 (hi q))) * k0_pay1 y w (ix2 r q) := by
  pointwise [k0_pay2, lo, hi]

/-- A point stores its rows' products, and their merge. -/
theorem out_lin : out0_5 y w p x b = k0_pay1 y w := by
  unfold out0_5 r0_0 r0_1 r0_3
  simp (disch := decide) only [View.canon_cons_unit_lit']
  repeat rw [View.ld_unit_zero (by decide)]

theorem out_merge : out0_6 y w p x b = k0_pay2 y w p x b := by
  unfold out0_6 r0_0 r0_1 r0_2 r0_3 r0_4
  simp (disch := decide) only [View.canon_cons_unit_lit']
  repeat rw [View.ld_unit_zero (by decide)]

end

theorem lt_N (t : Fin cfg0.N) : t.val < 8 := lt_of_lt_of_eq t.isLt N_0

/-- The array's row of a point's row. -/
def row (t : Fin cfg0.N) (r : Fin 512) : Fin 4096 := ⟨t.val * 512 + r.val, by have := lt_N t; omega⟩

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0] :=
  (by decide +kernel : ∀ t : Fin grid0.N, _)

/-- The windows read. -/
theorem rd_y (A : S4096x768.Idx → EReal) (t : Fin cfg0.N) (s : Fin 512) (q : Fin 768) :
    ((cfg0.win 0).blk t).view.read (Elt Ideal) A (ix2 s q) = A (ix2 (row t s) q) := by
  refine congrArg A (funext fun a => ?_)
  match a with
  | ⟨0, _⟩ => exact Fin.ext (by blk_simp [idx t]; rfl)
  | ⟨1, _⟩ => exact Fin.ext (by blk_simp [idx t])

theorem rd_w (A : S1024x768.Idx → EReal) (t : Fin cfg0.N) (s : Fin 1024) (q : Fin 768) :
    ((cfg0.win 1).blk t).view.read (Elt Ideal) A (ix2 s q) = A (ix2 s q) := by
  refine congrArg A (funext fun a => ?_)
  match a with
  | ⟨0, _⟩ => exact Fin.ext (by blk_simp [idx t])
  | ⟨1, _⟩ => exact Fin.ext (by blk_simp [idx t])

theorem rd_p (A : S4096x2048.Idx → EReal) (t : Fin cfg0.N) (s : Fin 512) (q : Fin 2048) :
    ((cfg0.win 2).blk t).view.read (Elt Ideal) A (ix2 s q) = A (ix2 (row t s) q) := by
  refine congrArg A (funext fun a => ?_)
  match a with
  | ⟨0, _⟩ => exact Fin.ext (by blk_simp [idx t]; rfl)
  | ⟨1, _⟩ => exact Fin.ext (by blk_simp [idx t])

theorem rd_x (A : S4096x1024.Idx → EReal) (t : Fin cfg0.N) (s : Fin 512) (q : Fin 1024) :
    ((cfg0.win 3).blk t).view.read (Elt Ideal) A (ix2 s q) = A (ix2 (row t s) q) := by
  refine congrArg A (funext fun a => ?_)
  match a with
  | ⟨0, _⟩ => exact Fin.ext (by blk_simp [idx t]; rfl)
  | ⟨1, _⟩ => exact Fin.ext (by blk_simp [idx t])

theorem rd_b (A : S1x2048.Idx → EReal) (t : Fin cfg0.N) (q : Fin 2048) :
    ((cfg0.win 4).blk t).view.read (Elt Ideal) A (ix2 0 q) = A (ix2 0 q) := by
  refine congrArg A (funext fun a => ?_)
  match a with
  | ⟨0, _⟩ => exact Fin.ext (by blk_simp [idx t])
  | ⟨1, _⟩ => exact Fin.ext (by blk_simp [idx t])

/-- A block whose windows hold an array's row and lane makes their product, -/
theorem blk_lin {d : Vec Ideal S512x768 .bf16} {u : Vec Ideal S1024x768 .bf16} {y : S4096x768.Idx → EReal} {w : Vec Ideal S768x1024 .f32}
    {r : Fin 512} {s : Fin 4096} {q : Fin 1024} (h0 : ∀ k : Fin 768, d (ix2 r k) = y (ix2 s k))
    (h1 : ∀ k : Fin 768, u (ix2 q k) = turn w (ix2 q k)) : ∑ k : Fin 768, d (ix2 r k) * u (ix2 q k) = lin y w (ix2 s q) :=
  Finset.sum_congr rfl fun k _ => congrArg₂ (· * ·) (h0 k) ((h1 k).trans (turn_val w q k))

/-- and its gates. -/
theorem blk_gt {d e : EReal} {p : S4096x2048.Idx → EReal} {b : S1x2048.Idx → EReal} {s : Fin 4096} {l : Fin 2048}
    (h0 : d = p (ix2 s l)) (h1 : e = b (ix2 0 l)) : Ideal.logistic (d + e) = gt p b s l :=
  congrArg Ideal.logistic (congrArg₂ (· + ·) h0 h1)

variable (m : (ℓ : Loc nD τ sig) → Buf (Elt Ideal) ℓ) (c : Dev nD) (y : S4096x768.Idx → EReal) (w : Vec Ideal S768x1024 .f32)
  (h0 : V m c main_v0 = y) (h1 : V m c main_v2 = turn w)
include h0 h1

theorem lin_at (t : Fin cfg0.N) (r : Fin 512) (q : Fin 1024) : k0_pay1 (iblk m c 0 t) (iblk m c 1 t) (ix2 r q) = lin y w (ix2 (row t r) q) :=
  (pay1_val _ _ r q).trans (blk_lin (fun k => (rd_y _ t r k).trans (congrFun h0 _)) fun k => (rd_w _ t q k).trans (congrFun h1 _))

theorem merge_at (t : Fin cfg0.N) (r : Fin 512) (q : Fin 1024) :
    (k0_pay2 (iblk m c 0 t) (iblk m c 1 t) (iblk m c 2 t) (iblk m c 3 t) (iblk m c 4 t) (ix2 r q) : EReal)
    = merge y w (V m c main_arg2) (V m c main_arg3) (V m c main_arg4) (ix2 (row t r) q) :=
  (pay2_val _ _ _ _ _ r q).trans (congrArg₂ (· + ·)
    (congrArg₂ (· * ·) (blk_gt (rd_p _ t r (lo q)) (rd_b _ t (lo q))) (rd_x _ t r q))
    (congrArg₂ (· * ·) (blk_gt (rd_p _ t r (hi q)) (rd_b _ t (hi q))) (lin_at m c y w h0 h1 t r q)))

/-- The kernel's arrays end holding the projection and the merge. -/
theorem final_lin : (dats m 0 c).arrAt 5 cfg0.N = lin y w := by
  refine (dats m 0 c).arrAt_eq_of_covers 5 _ (by decide +kernel) fun t hf z => ?_
  have he : ((cfg0.win 5).blk t).view.emb z = ix2 (row t (z 0)) (z 1) := by
    funext a
    match a with
    | ⟨0, _⟩ => exact Fin.ext (by blk_simp [idx t]; rfl)
    | ⟨1, _⟩ => exact Fin.ext (by blk_simp [idx t]; rfl)
  blk_simp
  rw [after0_5, out_lin]
  refine Eq.trans ?_ (congrArg (lin y w) he).symm
  exact (congrArg _ (eq_ix2 z)).trans (lin_at m c y w h0 h1 t (z 0) (z 1))

theorem final_merge : (dats m 0 c).arrAt 6 cfg0.N = merge y w (V m c main_arg2) (V m c main_arg3) (V m c main_arg4) := by
  refine (dats m 0 c).arrAt_eq_of_covers 6 _ (by decide +kernel) fun t hf z => ?_
  have he : ((cfg0.win 6).blk t).view.emb z = ix2 (row t (z 0)) (z 1) := by
    funext a
    match a with
    | ⟨0, _⟩ => exact Fin.ext (by blk_simp [idx t]; rfl)
    | ⟨1, _⟩ => exact Fin.ext (by blk_simp [idx t]; rfl)
  blk_simp
  rw [after0_6, out_merge]
  refine Eq.trans ?_ (congrArg (merge y w (V m c main_arg2) (V m c main_arg3) (V m c main_arg4)) he).symm
  exact (congrArg _ (eq_ix2 z)).trans (merge_at m c y w h0 h1 t (z 0) (z 1))

end Cert.Projb.Ker
-- ==== Proof.ProjbClaims.lean ====
/- The claims on the attention branch's projection and merge, each from its program's run, and the reference's values. -/
module

public import proofs.«01_k».proof.Defs
public import proofs.«01_k».proof.Proof.ProjbVal
public import proofs.«01_k».proof.Proof.Coe
public import proofs.«01_k».proof.Proof.Gen.ProjbReferenceIdeal.Read
public import proofs.«01_k».proof.Proof.Gen.ProjbKernel.Frame
public import proofs.«01_k».proof.Proof.Gen.ProjbReferenceIdeal.Run
public import Idealize.ShloMosaic.Lib.Claim
public import Idealize.ShloMosaic.Lib.StableHlo.Run

@[expose] public section

set_option maxRecDepth 16384

noncomputable section

namespace Cert.Projb.Ref

open Idealize.ShloMosaic Cert.ProjbReferenceIdeal Cert.ProjbReferenceIdeal.Read Cert.Attn

variable (x0 : Vec Ideal S4096x768 .f32) (x1 : Vec Ideal S768x1024 .f32) (x2 : Vec Ideal S4096x2048 .f32) (x3 : Vec Ideal S4096x1024 .f32)
  (x4 : Vec Ideal S1x2048 .f32)

theorem v0_val (s : Fin 4096) (q : Fin 1024) : val_main_v0 (F := Ideal) x0 x1 (ix2 s q) = lin x0 x1 (ix2 s q) := by
  unfold lin
  pointwise [val_main_v0]

theorem v4_val (s : Fin 4096) (l : Fin 2048) : val_main_v4 (F := Ideal) x2 x4 (ix2 s l) = x2 (ix2 s l) + x4 (ix2 0 l) := by
  pointwise [val_main_v4, val_main_v3, val_main_v2, val_main_v1]

theorem gt_val (s : Fin 4096) (l : Fin 2048) : val_main_v10 (F := Ideal) x2 x4 (ix2 s l) = gt x2 x4 s l := by
  rw [val_main_v10_apply, val_main_v9_apply, val_main_cst_0_apply, val_main_v8_apply, val_main_v7_apply, val_main_cst_apply, val_main_v6_apply,
    val_main_v5_apply, v4_val]
  show Ideal.div (Ideal.ofBits .f32 0x3F800000#32) (Ideal.ofBits .f32 0x3F800000#32 + Ideal.exp (-(x2 (ix2 s l) + x4 (ix2 0 l)))) = _
  rw [lit_one]
  rfl

/-- The reference ends with the projection, -/
theorem lin_val : val_main_v0 (F := Ideal) x0 x1 = lin x0 x1 :=
  funext fun j => (congrArg _ (eq_ix2 j)).trans ((v0_val x0 x1 (j 0) (j 1)).trans (congrArg _ (eq_ix2 j).symm))

/-- and the branches merged. -/
theorem merge_val : val_main_v16 (F := Ideal) x0 x1 x2 x3 x4 = merge x0 x1 x2 x3 x4 := by
  funext j
  rw [val_main_v16_apply, val_main_v15_apply, val_main_v13_apply, val_main_v14_apply, val_main_v11_apply, val_main_v12_apply, lin_val]
  exact congrArg₂ (· + ·)
    (congrArg (· * _) ((congrArg (val_main_v10 (F := Ideal) x2 x4) (eq_ix2 (idx_main_v11 j))).trans (gt_val x2 x4 _ _)))
    (congrArg (· * _) ((congrArg (val_main_v10 (F := Ideal) x2 x4) (eq_ix2 (idx_main_v12 j))).trans (gt_val x2 x4 _ _)))

end Cert.Projb.Ref

namespace Cert.Projb

open Idealize.ShloMosaic Idealize.ShloMosaic.TcCoe Idealize.SL.Sem

/-- The reference keeps its arguments, and has no semaphore. -/
theorem frame_reference : Cert.quiescent_ProjbReferenceIdeal := fun m g _ =>
  (θ_run Cert.ProjbReferenceIdeal.defs _ _).mono
    (fun r h => ⟨fun c => (h c).2.2, sem_eq_zero_of_no_sems (by decide) r.2⟩)
    (Cert.ProjbReferenceIdeal.Value.run (F := Ideal) m g)

section

open Cert.ProjbKernelIdeal Cert.ProjbKernelIdeal.Gen Idealize.ShloMosaic.StableHlo Cert.ProjbReferenceIdeal.Read

variable (m : (ℓ : Loc nD τ sig) → Buf (Elt Ideal) ℓ) (c : Dev nD)

/-- What the host hands the launch: an argument, whose narrowing changes no number, and the weights turned. -/
theorem host : V m c main_v0 = truncf (F := Ideal) .bf16 (m ((c : Thread nD τ).loc main_arg0)) bitsLt_bf16_f32 ∧ V m c main_v2 = turn (m ((c : Thread nD τ).loc main_arg1)) := by
  unfold V hostOps0
  refine ⟨?_, ?_⟩ <;> after_results_simp
  rfl

/-- Kernel and reference agree. -/
theorem algebraic : Cert.algebraic_ProjbKernelIdeal_ProjbReferenceIdeal := fun m g m' g' _ e =>
  ⟨fun c => lin (m ((c.tc : Thread _ _).loc main_arg0)) (m ((c.tc : Thread _ _).loc main_arg1)),
    fun c => merge (m ((c.tc : Thread _ _).loc main_arg0)) (m ((c.tc : Thread _ _).loc main_arg1)) (m ((c.tc : Thread _ _).loc main_arg2)) (m ((c.tc : Thread _ _).loc main_arg3)) (m ((c.tc : Thread _ _).loc main_arg4)),
    (θ_run defs _ _).mono (fun r hr c => by
      obtain ⟨e0, e1, k⟩ := hr c
      obtain ⟨h0, h1⟩ := host m c
      have f1 := Ker.final_merge m c _ _ h0 h1
      rw [V_main_arg2, V_main_arg3, V_main_arg4] at f1
      exact ⟨e0.trans (Ker.final_lin m c _ _ h0 h1), e1.trans f1, k⟩) (Cert.ProjbKernelIdeal.Value.run_blocks m g),
    (θ_run Cert.ProjbReferenceIdeal.defs _ _).mono (fun r hr c => by
      obtain ⟨h0, h1, h2, h3, h4⟩ := e c
      obtain ⟨e0, e1, k⟩ := hr c
      have k0 := (e0.trans (val_main_v0_eq _ _)).trans (Ref.lin_val _ _)
      have k1 := (e1.trans (val_main_v16_eq _ _ _ _ _)).trans (Ref.merge_val _ _ _ _ _)
      rw [h0, h1] at k0
      rw [h0, h1, h2, h3, h4] at k1
      exact ⟨k0, k1, k⟩) (Cert.ProjbReferenceIdeal.Value.run (F := Ideal) m' g')⟩

end

end Cert.Projb
-- ==== Proof.lean ====
module

public import proofs.«01_k».proof.Defs
public import proofs.«01_k».proof.Proof.Claims
public import proofs.«01_k».proof.Proof.DactClaims
public import proofs.«01_k».proof.Proof.DnClaims
public import proofs.«01_k».proof.Proof.DwiClaims
public import proofs.«01_k».proof.Proof.DwoClaims
public import proofs.«01_k».proof.Proof.UpClaims
public import proofs.«01_k».proof.Proof.DownClaims
public import proofs.«01_k».proof.Proof.MergeClaims
public import proofs.«01_k».proof.Proof.PrkvClaims
public import proofs.«01_k».proof.Proof.DhrkvClaims
public import proofs.«01_k».proof.Proof.DwrkvClaims
public import proofs.«01_k».proof.Proof.PgateClaims
public import proofs.«01_k».proof.Proof.DhgateClaims
public import proofs.«01_k».proof.Proof.DwgateClaims
public import proofs.«01_k».proof.Proof.PqkvClaims
public import proofs.«01_k».proof.Proof.DwqkvClaims
public import proofs.«01_k».proof.Proof.MixClaims
public import proofs.«01_k».proof.Proof.ProjaClaims
public import proofs.«01_k».proof.Proof.DyaClaims
public import proofs.«01_k».proof.Proof.DwprClaims
public import proofs.«01_k».proof.Proof.MixoutClaims
public import proofs.«01_k».proof.Proof.PloraClaims
public import proofs.«01_k».proof.Proof.DhloraClaims
public import proofs.«01_k».proof.Proof.DwloraClaims
public import proofs.«01_k».proof.Proof.DwpaClaims
public import proofs.«01_k».proof.Proof.ProjbClaims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.DactKernelIdeal.Value
public import proofs.«01_k».proof.Proof.Gen.DactReferenceIdeal.Run
public import proofs.«01_k».proof.Proof.Gen.DactReferenceIdeal.Read
public import proofs.«01_k».proof.Proof.Gen.DnKernelIdeal.Value
public import proofs.«01_k».proof.Proof.Gen.DnReferenceIdeal.Run
public import proofs.«01_k».proof.Proof.Gen.DnReferenceIdeal.Read
public import proofs.«01_k».proof.Proof.Gen.DwiKernelIdeal.Value
public import proofs.«01_k».proof.Proof.Gen.DwiReferenceIdeal.Run
public import proofs.«01_k».proof.Proof.Gen.DwiReferenceIdeal.Read
public import proofs.«01_k».proof.Proof.Gen.DwoKernelIdeal.Value
public import proofs.«01_k».proof.Proof.Gen.DwoReferenceIdeal.Run
public import proofs.«01_k».proof.Proof.Gen.DwoReferenceIdeal.Read
public import proofs.«01_k».proof.Proof.Gen.UpKernelIdeal.Value
public import proofs.«01_k».proof.Proof.Gen.UpReferenceIdeal.Run
public import proofs.«01_k».proof.Proof.Gen.UpReferenceIdeal.Read
public import proofs.«01_k».proof.Proof.Gen.DownKernelIdeal.Value
public import proofs.«01_k».proof.Proof.Gen.DownReferenceIdeal.Run
public import proofs.«01_k».proof.Proof.Gen.DownReferenceIdeal.Read
public import proofs.«01_k».proof.Proof.Gen.MergeKernelIdeal.Value
public import proofs.«01_k».proof.Proof.Gen.MergeReferenceIdeal.Run
public import proofs.«01_k».proof.Proof.Gen.MergeReferenceIdeal.Read
public import proofs.«01_k».proof.Proof.Gen.PrkvKernelIdeal.Value
public import proofs.«01_k».proof.Proof.Gen.PrkvReferenceIdeal.Run
public import proofs.«01_k».proof.Proof.Gen.PrkvReferenceIdeal.Read
public import proofs.«01_k».proof.Proof.Gen.DhrkvKernelIdeal.Value
public import proofs.«01_k».proof.Proof.Gen.DhrkvReferenceIdeal.Run
public import proofs.«01_k».proof.Proof.Gen.DhrkvReferenceIdeal.Read
public import proofs.«01_k».proof.Proof.Gen.DwrkvKernelIdeal.Value
public import proofs.«01_k».proof.Proof.Gen.DwrkvReferenceIdeal.Run
public import proofs.«01_k».proof.Proof.Gen.DwrkvReferenceIdeal.Read
public import proofs.«01_k».proof.Proof.Gen.PgateKernelIdeal.Value
public import proofs.«01_k».proof.Proof.Gen.PgateReferenceIdeal.Run
public import proofs.«01_k».proof.Proof.Gen.PgateReferenceIdeal.Read
public import proofs.«01_k».proof.Proof.Gen.DhgateKernelIdeal.Value
public import proofs.«01_k».proof.Proof.Gen.DhgateReferenceIdeal.Run
public import proofs.«01_k».proof.Proof.Gen.DhgateReferenceIdeal.Read
public import proofs.«01_k».proof.Proof.Gen.DwgateKernelIdeal.Value
public import proofs.«01_k».proof.Proof.Gen.DwgateReferenceIdeal.Run
public import proofs.«01_k».proof.Proof.Gen.DwgateReferenceIdeal.Read
public import proofs.«01_k».proof.Proof.Gen.PqkvKernelIdeal.Value
public import proofs.«01_k».proof.Proof.Gen.PqkvReferenceIdeal.Run
public import proofs.«01_k».proof.Proof.Gen.PqkvReferenceIdeal.Read
public import proofs.«01_k».proof.Proof.Gen.DwqkvKernelIdeal.Value
public import proofs.«01_k».proof.Proof.Gen.DwqkvReferenceIdeal.Run
public import proofs.«01_k».proof.Proof.Gen.DwqkvReferenceIdeal.Read
public import proofs.«01_k».proof.Proof.Gen.MixKernelIdeal.Value
public import proofs.«01_k».proof.Proof.Gen.MixReferenceIdeal.Run
public import proofs.«01_k».proof.Proof.Gen.MixReferenceIdeal.Read
public import proofs.«01_k».proof.Proof.Gen.ProjaKernelIdeal.Value
public import proofs.«01_k».proof.Proof.Gen.ProjaReferenceIdeal.Run
public import proofs.«01_k».proof.Proof.Gen.ProjaReferenceIdeal.Read
public import proofs.«01_k».proof.Proof.Gen.DyaKernelIdeal.Value
public import proofs.«01_k».proof.Proof.Gen.DyaReferenceIdeal.Run
public import proofs.«01_k».proof.Proof.Gen.DyaReferenceIdeal.Read
public import proofs.«01_k».proof.Proof.Gen.DwprKernelIdeal.Value
public import proofs.«01_k».proof.Proof.Gen.DwprReferenceIdeal.Run
public import proofs.«01_k».proof.Proof.Gen.DwprReferenceIdeal.Read
public import proofs.«01_k».proof.Proof.Gen.MixoutKernelIdeal.Value
public import proofs.«01_k».proof.Proof.Gen.MixoutReferenceIdeal.Run
public import proofs.«01_k».proof.Proof.Gen.MixoutReferenceIdeal.Read
public import proofs.«01_k».proof.Proof.Gen.PloraKernelIdeal.Value
public import proofs.«01_k».proof.Proof.Gen.PloraReferenceIdeal.Run
public import proofs.«01_k».proof.Proof.Gen.PloraReferenceIdeal.Read
public import proofs.«01_k».proof.Proof.Gen.DhloraKernelIdeal.Value
public import proofs.«01_k».proof.Proof.Gen.DhloraReferenceIdeal.Run
public import proofs.«01_k».proof.Proof.Gen.DhloraReferenceIdeal.Read
public import proofs.«01_k».proof.Proof.Gen.DwloraKernelIdeal.Value
public import proofs.«01_k».proof.Proof.Gen.DwloraReferenceIdeal.Run
public import proofs.«01_k».proof.Proof.Gen.DwloraReferenceIdeal.Read
public import proofs.«01_k».proof.Proof.Gen.DwpaKernelIdeal.Value
public import proofs.«01_k».proof.Proof.Gen.DwpaReferenceIdeal.Run
public import proofs.«01_k».proof.Proof.Gen.DwpaReferenceIdeal.Read
public import proofs.«01_k».proof.Proof.Gen.ProjbKernelIdeal.Value
public import proofs.«01_k».proof.Proof.Gen.ProjbReferenceIdeal.Run
public import proofs.«01_k».proof.Proof.Gen.ProjbReferenceIdeal.Read

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.DactKernel.Gen.facts, Cert.DactKernelIdeal.Gen.facts, Cert.DactReferenceIdeal.Gen.facts,
  Cert.DnKernel.Gen.facts, Cert.DnKernelIdeal.Gen.facts, Cert.DnReferenceIdeal.Gen.facts,
  Cert.DwiKernel.Gen.facts, Cert.DwiKernelIdeal.Gen.facts, Cert.DwiReferenceIdeal.Gen.facts,
  Cert.DwoKernel.Gen.facts, Cert.DwoKernelIdeal.Gen.facts, Cert.DwoReferenceIdeal.Gen.facts,
  Cert.UpKernel.Gen.facts, Cert.UpKernelIdeal.Gen.facts, Cert.UpReferenceIdeal.Gen.facts,
  Cert.DownKernel.Gen.facts, Cert.DownKernelIdeal.Gen.facts, Cert.DownReferenceIdeal.Gen.facts,
  Cert.MergeKernel.Gen.facts, Cert.MergeKernelIdeal.Gen.facts, Cert.MergeReferenceIdeal.Gen.facts,
  Cert.PrkvKernel.Gen.facts, Cert.PrkvKernelIdeal.Gen.facts, Cert.PrkvReferenceIdeal.Gen.facts,
  Cert.DhrkvKernel.Gen.facts, Cert.DhrkvKernelIdeal.Gen.facts, Cert.DhrkvReferenceIdeal.Gen.facts,
  Cert.DwrkvKernel.Gen.facts, Cert.DwrkvKernelIdeal.Gen.facts, Cert.DwrkvReferenceIdeal.Gen.facts,
  Cert.PgateKernel.Gen.facts, Cert.PgateKernelIdeal.Gen.facts, Cert.PgateReferenceIdeal.Gen.facts,
  Cert.DhgateKernel.Gen.facts, Cert.DhgateKernelIdeal.Gen.facts, Cert.DhgateReferenceIdeal.Gen.facts,
  Cert.DwgateKernel.Gen.facts, Cert.DwgateKernelIdeal.Gen.facts, Cert.DwgateReferenceIdeal.Gen.facts,
  Cert.PqkvKernel.Gen.facts, Cert.PqkvKernelIdeal.Gen.facts, Cert.PqkvReferenceIdeal.Gen.facts,
  Cert.DwqkvKernel.Gen.facts, Cert.DwqkvKernelIdeal.Gen.facts, Cert.DwqkvReferenceIdeal.Gen.facts,
  Cert.MixKernel.Gen.facts, Cert.MixKernelIdeal.Gen.facts, Cert.MixReferenceIdeal.Gen.facts,
  Cert.ProjaKernel.Gen.facts, Cert.ProjaKernelIdeal.Gen.facts, Cert.ProjaReferenceIdeal.Gen.facts,
  Cert.DyaKernel.Gen.facts, Cert.DyaKernelIdeal.Gen.facts, Cert.DyaReferenceIdeal.Gen.facts,
  Cert.DwprKernel.Gen.facts, Cert.DwprKernelIdeal.Gen.facts, Cert.DwprReferenceIdeal.Gen.facts,
  Cert.MixoutKernel.Gen.facts, Cert.MixoutKernelIdeal.Gen.facts, Cert.MixoutReferenceIdeal.Gen.facts,
  Cert.PloraKernel.Gen.facts, Cert.PloraKernelIdeal.Gen.facts, Cert.PloraReferenceIdeal.Gen.facts,
  Cert.DhloraKernel.Gen.facts, Cert.DhloraKernelIdeal.Gen.facts, Cert.DhloraReferenceIdeal.Gen.facts,
  Cert.DwloraKernel.Gen.facts, Cert.DwloraKernelIdeal.Gen.facts, Cert.DwloraReferenceIdeal.Gen.facts,
  Cert.DwpaKernel.Gen.facts, Cert.DwpaKernelIdeal.Gen.facts, Cert.DwpaReferenceIdeal.Gen.facts,
  Cert.ProjbKernel.Gen.facts, Cert.ProjbKernelIdeal.Gen.facts, Cert.ProjbReferenceIdeal.Gen.facts,
  Cert.Pre_finite.Gen.facts, Cert.Dact.preFacts,
  Cert.Attn.frame_kernel, Cert.Attn.frame_ideal, Cert.Attn.frame_ideal_finite, Cert.Attn.frame_reference, Cert.Attn.frame_reference_finite,
  Cert.Dact.frame_kernel, Cert.Dact.frame_ideal, Cert.Dact.frame_ideal_finite, Cert.Dact.frame_reference, Cert.Dact.frame_reference_finite,
  fun m g _ => Cert.DnKernel.Gen.frame m g, fun m g _ => Cert.DnKernelIdeal.Gen.frame m g, Cert.Dn.frame_reference,
  fun m g _ => Cert.DwiKernel.Gen.frame m g, fun m g _ => Cert.DwiKernelIdeal.Gen.frame m g, Cert.Dwi.frame_reference,
  fun m g _ => Cert.DwoKernel.Gen.frame m g, fun m g _ => Cert.DwoKernelIdeal.Gen.frame m g, Cert.Dwo.frame_reference,
  fun m g _ => Cert.UpKernel.Gen.frame m g, fun m g _ => Cert.UpKernelIdeal.Gen.frame m g, Cert.Up.frame_reference,
  fun m g _ => Cert.DownKernel.Gen.frame m g, fun m g _ => Cert.DownKernelIdeal.Gen.frame m g, Cert.Down.frame_reference,
  fun m g _ => Cert.MergeKernel.Gen.frame m g, fun m g _ => Cert.MergeKernelIdeal.Gen.frame m g, Cert.Merge.frame_reference,
  fun m g _ => Cert.PrkvKernel.Gen.frame m g, fun m g _ => Cert.PrkvKernelIdeal.Gen.frame m g, Cert.Prkv.frame_reference,
  fun m g _ => Cert.DhrkvKernel.Gen.frame m g, fun m g _ => Cert.DhrkvKernelIdeal.Gen.frame m g, Cert.Dhrkv.frame_reference,
  fun m g _ => Cert.DwrkvKernel.Gen.frame m g, fun m g _ => Cert.DwrkvKernelIdeal.Gen.frame m g, Cert.Dwrkv.frame_reference,
  fun m g _ => Cert.PgateKernel.Gen.frame m g, fun m g _ => Cert.PgateKernelIdeal.Gen.frame m g, Cert.Pgate.frame_reference,
  fun m g _ => Cert.DhgateKernel.Gen.frame m g, fun m g _ => Cert.DhgateKernelIdeal.Gen.frame m g, Cert.Dhgate.frame_reference,
  fun m g _ => Cert.DwgateKernel.Gen.frame m g, fun m g _ => Cert.DwgateKernelIdeal.Gen.frame m g, Cert.Dwgate.frame_reference,
  fun m g _ => Cert.PqkvKernel.Gen.frame m g, fun m g _ => Cert.PqkvKernelIdeal.Gen.frame m g, Cert.Pqkv.frame_reference,
  fun m g _ => Cert.DwqkvKernel.Gen.frame m g, fun m g _ => Cert.DwqkvKernelIdeal.Gen.frame m g, Cert.Dwqkv.frame_reference,
  fun m g _ => Cert.MixKernel.Gen.frame m g, fun m g _ => Cert.MixKernelIdeal.Gen.frame m g, Cert.Mix.frame_reference,
  fun m g _ => Cert.ProjaKernel.Gen.frame m g, fun m g _ => Cert.ProjaKernelIdeal.Gen.frame m g, Cert.Proja.frame_reference,
  fun m g _ => Cert.DyaKernel.Gen.frame m g, fun m g _ => Cert.DyaKernelIdeal.Gen.frame m g, Cert.Dya.frame_reference,
  fun m g _ => Cert.DwprKernel.Gen.frame m g, fun m g _ => Cert.DwprKernelIdeal.Gen.frame m g, Cert.Dwpr.frame_reference,
  fun m g _ => Cert.MixoutKernel.Gen.frame m g, fun m g _ => Cert.MixoutKernelIdeal.Gen.frame m g, Cert.Mixout.frame_reference,
  fun m g _ => Cert.PloraKernel.Gen.frame m g, fun m g _ => Cert.PloraKernelIdeal.Gen.frame m g, Cert.Plora.frame_reference,
  fun m g _ => Cert.DhloraKernel.Gen.frame m g, fun m g _ => Cert.DhloraKernelIdeal.Gen.frame m g, Cert.Dhlora.frame_reference,
  fun m g _ => Cert.DwloraKernel.Gen.frame m g, fun m g _ => Cert.DwloraKernelIdeal.Gen.frame m g, Cert.Dwlora.frame_reference,
  fun m g _ => Cert.DwpaKernel.Gen.frame m g, fun m g _ => Cert.DwpaKernelIdeal.Gen.frame m g, Cert.Dwpa.frame_reference,
  fun m g _ => Cert.ProjbKernel.Gen.frame m g, fun m g _ => Cert.ProjbKernelIdeal.Gen.frame m g, Cert.Projb.frame_reference,
  Cert.Attn.preserves, Cert.Attn.algebraic, Cert.Dact.preserves, Cert.Dact.algebraic, trivial, Cert.Dn.algebraic,
  trivial, Cert.Dwi.algebraic, trivial, Cert.Dwo.algebraic,
  trivial, Cert.Up.algebraic, trivial, Cert.Down.algebraic, trivial, Cert.Merge.algebraic,
  trivial, Cert.Prkv.algebraic, trivial, Cert.Dhrkv.algebraic, trivial, Cert.Dwrkv.algebraic,
  trivial, Cert.Pgate.algebraic, trivial, Cert.Dhgate.algebraic, trivial, Cert.Dwgate.algebraic,
  trivial, Cert.Pqkv.algebraic, trivial, Cert.Dwqkv.algebraic, trivial, Cert.Mix.algebraic,
  trivial, Cert.Proja.algebraic, trivial, Cert.Dya.algebraic,
  trivial, Cert.Dwpr.algebraic, trivial, Cert.Mixout.algebraic,
  trivial, Cert.Plora.algebraic, trivial, Cert.Dhlora.algebraic, trivial, Cert.Dwlora.algebraic, trivial, Cert.Dwpa.algebraic, trivial, Cert.Projb.algebraic⟩

end Cert.Proof

end
